-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 [hPre_device23 : Cert.Pre_device23.Facts] (m : (ℓ : Loc Cert.Kernel23.nD Cert.Kernel23.τ Cert.Kernel23.sig) → Buf (Elt Bits) ℓ) : Prop :=
  ∀ c : Dev Cert.Kernel23.nD,
    (Cert.Pre_device23.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2)) (m ((c.tc : Thread Cert.Kernel23.nD Cert.Kernel23.τ).loc Cert.Kernel23.main_arg3)) (m ((c.tc : Thread Cert.Kernel23.nD Cert.Kernel23.τ).loc Cert.Kernel23.main_arg4)) (m ((c.tc : Thread Cert.Kernel23.nD Cert.Kernel23.τ).loc Cert.Kernel23.main_arg5)) (m ((c.tc : Thread Cert.Kernel23.nD Cert.Kernel23.τ).loc Cert.Kernel23.main_arg6)) (m ((c.tc : Thread Cert.Kernel23.nD Cert.Kernel23.τ).loc Cert.Kernel23.main_arg7)) (m ((c.tc : Thread Cert.Kernel23.nD Cert.Kernel23.τ).loc Cert.Kernel23.main_arg8)) (m ((c.tc : Thread Cert.Kernel23.nD Cert.Kernel23.τ).loc Cert.Kernel23.main_arg9))) = (fun _ => 1#1)

def Pre_Kernel23Ideal [hPre_device23 : Cert.Pre_device23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_device23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8)) (m ((c.tc : Thread Cert.Kernel23Ideal.nD Cert.Kernel23Ideal.τ).loc Cert.Kernel23Ideal.main_arg9))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_device23 [hPre_device23 : Cert.Pre_device23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_device23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6)) (m ((c.tc : Thread Cert.Reference23Ideal.nD Cert.Reference23Ideal.τ).loc Cert.Reference23Ideal.main_arg7)) (m ((c.tc : Thread Cert.Reference23Ideal.nD Cert.Reference23Ideal.τ).loc Cert.Reference23Ideal.main_arg8)) (m ((c.tc : Thread Cert.Reference23Ideal.nD Cert.Reference23Ideal.τ).loc Cert.Reference23Ideal.main_arg9))) = (fun _ => 1#1)

def Pre_Kernel24 [hPre_device24 : Cert.Pre_device24.Facts] (m : (ℓ : Loc Cert.Kernel24.nD Cert.Kernel24.τ Cert.Kernel24.sig) → Buf (Elt Bits) ℓ) : Prop :=
  ∀ c : Dev Cert.Kernel24.nD,
    (Cert.Pre_device24.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2)) (m ((c.tc : Thread Cert.Kernel24.nD Cert.Kernel24.τ).loc Cert.Kernel24.main_arg3)) (m ((c.tc : Thread Cert.Kernel24.nD Cert.Kernel24.τ).loc Cert.Kernel24.main_arg4)) (m ((c.tc : Thread Cert.Kernel24.nD Cert.Kernel24.τ).loc Cert.Kernel24.main_arg5)) (m ((c.tc : Thread Cert.Kernel24.nD Cert.Kernel24.τ).loc Cert.Kernel24.main_arg6)) (m ((c.tc : Thread Cert.Kernel24.nD Cert.Kernel24.τ).loc Cert.Kernel24.main_arg7)) (m ((c.tc : Thread Cert.Kernel24.nD Cert.Kernel24.τ).loc Cert.Kernel24.main_arg8)) (m ((c.tc : Thread Cert.Kernel24.nD Cert.Kernel24.τ).loc Cert.Kernel24.main_arg9))) = (fun _ => 1#1)

def Pre_Kernel24Ideal [hPre_device24 : Cert.Pre_device24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_device24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_device24 [hPre_device24 : Cert.Pre_device24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_device24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))) = (fun _ => 1#1)

def Pre_Kernel25 [hPre_device25 : Cert.Pre_device25.Facts] (m : (ℓ : Loc Cert.Kernel25.nD Cert.Kernel25.τ Cert.Kernel25.sig) → Buf (Elt Bits) ℓ) : Prop :=
  ∀ c : Dev Cert.Kernel25.nD,
    (Cert.Pre_device25.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4)) (m ((c.tc : Thread Cert.Kernel25.nD Cert.Kernel25.τ).loc Cert.Kernel25.main_arg5)) (m ((c.tc : Thread Cert.Kernel25.nD Cert.Kernel25.τ).loc Cert.Kernel25.main_arg6)) (m ((c.tc : Thread Cert.Kernel25.nD Cert.Kernel25.τ).loc Cert.Kernel25.main_arg7)) (m ((c.tc : Thread Cert.Kernel25.nD Cert.Kernel25.τ).loc Cert.Kernel25.main_arg8)) (m ((c.tc : Thread Cert.Kernel25.nD Cert.Kernel25.τ).loc Cert.Kernel25.main_arg9))) = (fun _ => 1#1)

def Pre_Kernel25Ideal [hPre_device25 : Cert.Pre_device25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_device25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8)) (m ((c.tc : Thread Cert.Kernel25Ideal.nD Cert.Kernel25Ideal.τ).loc Cert.Kernel25Ideal.main_arg9))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_device25 [hPre_device25 : Cert.Pre_device25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_device25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8)) (m ((c.tc : Thread Cert.Reference25Ideal.nD Cert.Reference25Ideal.τ).loc Cert.Reference25Ideal.main_arg9))) = (fun _ => 1#1)

def Pre_Kernel26 [hPre_device26 : Cert.Pre_device26.Facts] (m : (ℓ : Loc Cert.Kernel26.nD Cert.Kernel26.τ Cert.Kernel26.sig) → Buf (Elt Bits) ℓ) : Prop :=
  ∀ c : Dev Cert.Kernel26.nD,
    (Cert.Pre_device26.fn (F := Bits) (m ((c.tc : Thread Cert.Kernel26.nD Cert.Kernel26.τ).loc Cert.Kernel26.main_arg0)) (m ((c.tc : Thread Cert.Kernel26.nD Cert.Kernel26.τ).loc Cert.Kernel26.main_arg1)) (m ((c.tc : Thread Cert.Kernel26.nD Cert.Kernel26.τ).loc Cert.Kernel26.main_arg2)) (m ((c.tc : Thread Cert.Kernel26.nD Cert.Kernel26.τ).loc Cert.Kernel26.main_arg3)) (m ((c.tc : Thread Cert.Kernel26.nD Cert.Kernel26.τ).loc Cert.Kernel26.main_arg4)) (m ((c.tc : Thread Cert.Kernel26.nD Cert.Kernel26.τ).loc Cert.Kernel26.main_arg5)) (m ((c.tc : Thread Cert.Kernel26.nD Cert.Kernel26.τ).loc Cert.Kernel26.main_arg6)) (m ((c.tc : Thread Cert.Kernel26.nD Cert.Kernel26.τ).loc Cert.Kernel26.main_arg7)) (m ((c.tc : Thread Cert.Kernel26.nD Cert.Kernel26.τ).loc Cert.Kernel26.main_arg8)) (m ((c.tc : Thread Cert.Kernel26.nD Cert.Kernel26.τ).loc Cert.Kernel26.main_arg9))) = (fun _ => 1#1)

def Pre_Kernel26Ideal [hPre_device26 : Cert.Pre_device26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_device26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5)) (m ((c.tc : Thread Cert.Kernel26Ideal.nD Cert.Kernel26Ideal.τ).loc Cert.Kernel26Ideal.main_arg6)) (m ((c.tc : Thread Cert.Kernel26Ideal.nD Cert.Kernel26Ideal.τ).loc Cert.Kernel26Ideal.main_arg7)) (m ((c.tc : Thread Cert.Kernel26Ideal.nD Cert.Kernel26Ideal.τ).loc Cert.Kernel26Ideal.main_arg8)) (m ((c.tc : Thread Cert.Kernel26Ideal.nD Cert.Kernel26Ideal.τ).loc Cert.Kernel26Ideal.main_arg9))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_device26 [hPre_device26 : Cert.Pre_device26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_device26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4)) (m ((c.tc : Thread Cert.Reference26Ideal.nD Cert.Reference26Ideal.τ).loc Cert.Reference26Ideal.main_arg5)) (m ((c.tc : Thread Cert.Reference26Ideal.nD Cert.Reference26Ideal.τ).loc Cert.Reference26Ideal.main_arg6)) (m ((c.tc : Thread Cert.Reference26Ideal.nD Cert.Reference26Ideal.τ).loc Cert.Reference26Ideal.main_arg7)) (m ((c.tc : Thread Cert.Reference26Ideal.nD Cert.Reference26Ideal.τ).loc Cert.Reference26Ideal.main_arg8)) (m ((c.tc : Thread Cert.Reference26Ideal.nD Cert.Reference26Ideal.τ).loc Cert.Reference26Ideal.main_arg9))) = (fun _ => 1#1)

def Pre_Kernel27 [hPre_device27 : Cert.Pre_device27.Facts] (m : (ℓ : Loc Cert.Kernel27.nD Cert.Kernel27.τ Cert.Kernel27.sig) → Buf (Elt Bits) ℓ) : Prop :=
  ∀ c : Dev Cert.Kernel27.nD,
    (Cert.Pre_device27.fn (F := Bits) (m ((c.tc : Thread Cert.Kernel27.nD Cert.Kernel27.τ).loc Cert.Kernel27.main_arg0)) (m ((c.tc : Thread Cert.Kernel27.nD Cert.Kernel27.τ).loc Cert.Kernel27.main_arg1)) (m ((c.tc : Thread Cert.Kernel27.nD Cert.Kernel27.τ).loc Cert.Kernel27.main_arg2)) (m ((c.tc : Thread Cert.Kernel27.nD Cert.Kernel27.τ).loc Cert.Kernel27.main_arg3)) (m ((c.tc : Thread Cert.Kernel27.nD Cert.Kernel27.τ).loc Cert.Kernel27.main_arg4)) (m ((c.tc : Thread Cert.Kernel27.nD Cert.Kernel27.τ).loc Cert.Kernel27.main_arg5)) (m ((c.tc : Thread Cert.Kernel27.nD Cert.Kernel27.τ).loc Cert.Kernel27.main_arg6)) (m ((c.tc : Thread Cert.Kernel27.nD Cert.Kernel27.τ).loc Cert.Kernel27.main_arg7)) (m ((c.tc : Thread Cert.Kernel27.nD Cert.Kernel27.τ).loc Cert.Kernel27.main_arg8)) (m ((c.tc : Thread Cert.Kernel27.nD Cert.Kernel27.τ).loc Cert.Kernel27.main_arg9))) = (fun _ => 1#1)

def Pre_Kernel27Ideal [hPre_device27 : Cert.Pre_device27.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_device27.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7)) (m ((c.tc : Thread Cert.Kernel27Ideal.nD Cert.Kernel27Ideal.τ).loc Cert.Kernel27Ideal.main_arg8)) (m ((c.tc : Thread Cert.Kernel27Ideal.nD Cert.Kernel27Ideal.τ).loc Cert.Kernel27Ideal.main_arg9))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_device27 [hPre_device27 : Cert.Pre_device27.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_device27.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7)) (m ((c.tc : Thread Cert.Reference27Ideal.nD Cert.Reference27Ideal.τ).loc Cert.Reference27Ideal.main_arg8)) (m ((c.tc : Thread Cert.Reference27Ideal.nD Cert.Reference27Ideal.τ).loc Cert.Reference27Ideal.main_arg9))) = (fun _ => 1#1)

def Pre_Kernel28 [hPre_device28 : Cert.Pre_device28.Facts] (m : (ℓ : Loc Cert.Kernel28.nD Cert.Kernel28.τ Cert.Kernel28.sig) → Buf (Elt Bits) ℓ) : Prop :=
  ∀ c : Dev Cert.Kernel28.nD,
    (Cert.Pre_device28.fn (F := Bits) (m ((c.tc : Thread Cert.Kernel28.nD Cert.Kernel28.τ).loc Cert.Kernel28.main_arg0)) (m ((c.tc : Thread Cert.Kernel28.nD Cert.Kernel28.τ).loc Cert.Kernel28.main_arg1)) (m ((c.tc : Thread Cert.Kernel28.nD Cert.Kernel28.τ).loc Cert.Kernel28.main_arg2)) (m ((c.tc : Thread Cert.Kernel28.nD Cert.Kernel28.τ).loc Cert.Kernel28.main_arg3)) (m ((c.tc : Thread Cert.Kernel28.nD Cert.Kernel28.τ).loc Cert.Kernel28.main_arg4)) (m ((c.tc : Thread Cert.Kernel28.nD Cert.Kernel28.τ).loc Cert.Kernel28.main_arg5)) (m ((c.tc : Thread Cert.Kernel28.nD Cert.Kernel28.τ).loc Cert.Kernel28.main_arg6)) (m ((c.tc : Thread Cert.Kernel28.nD Cert.Kernel28.τ).loc Cert.Kernel28.main_arg7)) (m ((c.tc : Thread Cert.Kernel28.nD Cert.Kernel28.τ).loc Cert.Kernel28.main_arg8)) (m ((c.tc : Thread Cert.Kernel28.nD Cert.Kernel28.τ).loc Cert.Kernel28.main_arg9))) = (fun _ => 1#1)

def Pre_Kernel28Ideal [hPre_device28 : Cert.Pre_device28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_device28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4)) (m ((c.tc : Thread Cert.Kernel28Ideal.nD Cert.Kernel28Ideal.τ).loc Cert.Kernel28Ideal.main_arg5)) (m ((c.tc : Thread Cert.Kernel28Ideal.nD Cert.Kernel28Ideal.τ).loc Cert.Kernel28Ideal.main_arg6)) (m ((c.tc : Thread Cert.Kernel28Ideal.nD Cert.Kernel28Ideal.τ).loc Cert.Kernel28Ideal.main_arg7)) (m ((c.tc : Thread Cert.Kernel28Ideal.nD Cert.Kernel28Ideal.τ).loc Cert.Kernel28Ideal.main_arg8)) (m ((c.tc : Thread Cert.Kernel28Ideal.nD Cert.Kernel28Ideal.τ).loc Cert.Kernel28Ideal.main_arg9))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_device28 [hPre_device28 : Cert.Pre_device28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_device28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4)) (m ((c.tc : Thread Cert.Reference28Ideal.nD Cert.Reference28Ideal.τ).loc Cert.Reference28Ideal.main_arg5)) (m ((c.tc : Thread Cert.Reference28Ideal.nD Cert.Reference28Ideal.τ).loc Cert.Reference28Ideal.main_arg6)) (m ((c.tc : Thread Cert.Reference28Ideal.nD Cert.Reference28Ideal.τ).loc Cert.Reference28Ideal.main_arg7)) (m ((c.tc : Thread Cert.Reference28Ideal.nD Cert.Reference28Ideal.τ).loc Cert.Reference28Ideal.main_arg8)) (m ((c.tc : Thread Cert.Reference28Ideal.nD Cert.Reference28Ideal.τ).loc Cert.Reference28Ideal.main_arg9))) = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] [hPre_device23 : Cert.Pre_device23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9))
      ∧ r.2.sem = fun _ => 0)

def quiescent_Kernel23Ideal [hKernel23Ideal : Cert.Kernel23Ideal.Facts] [hPre_device23 : Cert.Pre_device23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9))
      ∧ r.2.sem = fun _ => 0)

def quiescent_Reference23Ideal_pre_device23 [hReference23Ideal : Cert.Reference23Ideal.Facts] [hPre_device23 : Cert.Pre_device23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_device23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9))
      ∧ r.2.sem = fun _ => 0)

def quiescent_Kernel24 [hKernel24 : Cert.Kernel24.Facts] [hPre_device24 : Cert.Pre_device24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9))
      ∧ r.2.sem = fun _ => 0)

def quiescent_Kernel24Ideal [hKernel24Ideal : Cert.Kernel24Ideal.Facts] [hPre_device24 : Cert.Pre_device24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Reference24Ideal_pre_device24 [hReference24Ideal : Cert.Reference24Ideal.Facts] [hPre_device24 : Cert.Pre_device24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_device24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Kernel25 [hKernel25 : Cert.Kernel25.Facts] [hPre_device25 : Cert.Pre_device25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9))
      ∧ r.2.sem = fun _ => 0)

def quiescent_Kernel25Ideal [hKernel25Ideal : Cert.Kernel25Ideal.Facts] [hPre_device25 : Cert.Pre_device25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def quiescent_Reference25Ideal_pre_device25 [hReference25Ideal : Cert.Reference25Ideal.Facts] [hPre_device25 : Cert.Pre_device25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_device25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def quiescent_Kernel26 [hKernel26 : Cert.Kernel26.Facts] [hPre_device26 : Cert.Pre_device26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8)
      ∧ r.2.mem ((c.tc : Thread Cert.Kernel26.nD Cert.Kernel26.τ).loc Cert.Kernel26.main_arg9) = m ((c.tc : Thread Cert.Kernel26.nD Cert.Kernel26.τ).loc Cert.Kernel26.main_arg9))
      ∧ r.2.sem = fun _ => 0)

def quiescent_Kernel26Ideal [hKernel26Ideal : Cert.Kernel26Ideal.Facts] [hPre_device26 : Cert.Pre_device26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
      ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9))
      ∧ r.2.sem = fun _ => 0)

def quiescent_Reference26Ideal_pre_device26 [hReference26Ideal : Cert.Reference26Ideal.Facts] [hPre_device26 : Cert.Pre_device26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_device26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9))
      ∧ r.2.sem = fun _ => 0)

def quiescent_Kernel27 [hKernel27 : Cert.Kernel27.Facts] [hPre_device27 : Cert.Pre_device27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7)
      ∧ r.2.mem ((c.tc : Thread Cert.Kernel27.nD Cert.Kernel27.τ).loc Cert.Kernel27.main_arg8) = m ((c.tc : Thread Cert.Kernel27.nD Cert.Kernel27.τ).loc Cert.Kernel27.main_arg8)
      ∧ r.2.mem ((c.tc : Thread Cert.Kernel27.nD Cert.Kernel27.τ).loc Cert.Kernel27.main_arg9) = m ((c.tc : Thread Cert.Kernel27.nD Cert.Kernel27.τ).loc Cert.Kernel27.main_arg9))
      ∧ r.2.sem = fun _ => 0)

def quiescent_Kernel27Ideal [hKernel27Ideal : Cert.Kernel27Ideal.Facts] [hPre_device27 : Cert.Pre_device27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
      ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9))
      ∧ r.2.sem = fun _ => 0)

def quiescent_Reference27Ideal_pre_device27 [hReference27Ideal : Cert.Reference27Ideal.Facts] [hPre_device27 : Cert.Pre_device27.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_device27 m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9))
      ∧ r.2.sem = fun _ => 0)

def quiescent_Kernel28 [hKernel28 : Cert.Kernel28.Facts] [hPre_device28 : Cert.Pre_device28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9))
      ∧ r.2.sem = fun _ => 0)

def quiescent_Kernel28Ideal [hKernel28Ideal : Cert.Kernel28Ideal.Facts] [hPre_device28 : Cert.Pre_device28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9))
      ∧ r.2.sem = fun _ => 0)

def quiescent_Reference28Ideal_pre_device28 [hReference28Ideal : Cert.Reference28Ideal.Facts] [hPre_device28 : Cert.Pre_device28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_device28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v36) = v1 c
          ∧ r.2.mem ((c.tc : Thread Cert.Reference21Ideal.nD Cert.Reference21Ideal.τ).loc Cert.Reference21Ideal.main_v17) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v49) = v0 c
          ∧ r.2.mem ((c.tc : Thread Cert.Reference22Ideal.nD Cert.Reference22Ideal.τ).loc Cert.Reference22Ideal.main_v48) = v1 c
          ∧ r.2.mem ((c.tc : Thread Cert.Reference22Ideal.nD Cert.Reference22Ideal.τ).loc Cert.Reference22Ideal.main_v50) = v2 c
          ∧ r.2.mem ((c.tc : Thread Cert.Reference22Ideal.nD Cert.Reference22Ideal.τ).loc Cert.Reference22Ideal.main_v32) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] [hPre_device23 : Cert.Pre_device23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v42) = v0 c
          ∧ r.2.mem ((c.tc : Thread Cert.Reference23Ideal.nD Cert.Reference23Ideal.τ).loc Cert.Reference23Ideal.main_v47) = v1 c
          ∧ r.2.mem ((c.tc : Thread Cert.Reference23Ideal.nD Cert.Reference23Ideal.τ).loc Cert.Reference23Ideal.main_v52) = v2 c
          ∧ r.2.mem ((c.tc : Thread Cert.Reference23Ideal.nD Cert.Reference23Ideal.τ).loc Cert.Reference23Ideal.main_v57) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9))

def preserves_Kernel24_Kernel24Ideal : Prop :=
  True

def algebraic_Kernel24Ideal_Reference24Ideal [hKernel24Ideal : Cert.Kernel24Ideal.Facts] [hReference24Ideal : Cert.Reference24Ideal.Facts] [hPre_device24 : Cert.Pre_device24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v42) = v0 c
          ∧ r.2.mem ((c.tc : Thread Cert.Reference24Ideal.nD Cert.Reference24Ideal.τ).loc Cert.Reference24Ideal.main_v47) = v1 c
          ∧ r.2.mem ((c.tc : Thread Cert.Reference24Ideal.nD Cert.Reference24Ideal.τ).loc Cert.Reference24Ideal.main_v52) = v2 c
          ∧ r.2.mem ((c.tc : Thread Cert.Reference24Ideal.nD Cert.Reference24Ideal.τ).loc Cert.Reference24Ideal.main_v57) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9))

def preserves_Kernel25_Kernel25Ideal : Prop :=
  True

def algebraic_Kernel25Ideal_Reference25Ideal [hKernel25Ideal : Cert.Kernel25Ideal.Facts] [hReference25Ideal : Cert.Reference25Ideal.Facts] [hPre_device25 : Cert.Pre_device25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v42) = v0 c
          ∧ r.2.mem ((c.tc : Thread Cert.Reference25Ideal.nD Cert.Reference25Ideal.τ).loc Cert.Reference25Ideal.main_v47) = v1 c
          ∧ r.2.mem ((c.tc : Thread Cert.Reference25Ideal.nD Cert.Reference25Ideal.τ).loc Cert.Reference25Ideal.main_v52) = v2 c
          ∧ r.2.mem ((c.tc : Thread Cert.Reference25Ideal.nD Cert.Reference25Ideal.τ).loc Cert.Reference25Ideal.main_v57) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9))

def preserves_Kernel26_Kernel26Ideal : Prop :=
  True

def algebraic_Kernel26Ideal_Reference26Ideal [hKernel26Ideal : Cert.Kernel26Ideal.Facts] [hReference26Ideal : Cert.Reference26Ideal.Facts] [hPre_device26 : Cert.Pre_device26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)
      ∧ m' ((c.tc : Thread Cert.Reference26Ideal.nD Cert.Reference26Ideal.τ).loc Cert.Reference26Ideal.main_arg9) = m ((c.tc : Thread Cert.Kernel26Ideal.nD Cert.Kernel26Ideal.τ).loc Cert.Kernel26Ideal.main_arg9)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
          ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v42) = v0 c
          ∧ r.2.mem ((c.tc : Thread Cert.Reference26Ideal.nD Cert.Reference26Ideal.τ).loc Cert.Reference26Ideal.main_v47) = v1 c
          ∧ r.2.mem ((c.tc : Thread Cert.Reference26Ideal.nD Cert.Reference26Ideal.τ).loc Cert.Reference26Ideal.main_v52) = v2 c
          ∧ r.2.mem ((c.tc : Thread Cert.Reference26Ideal.nD Cert.Reference26Ideal.τ).loc Cert.Reference26Ideal.main_v57) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8)
          ∧ r.2.mem ((c.tc : Thread Cert.Reference26Ideal.nD Cert.Reference26Ideal.τ).loc Cert.Reference26Ideal.main_arg9) = m' ((c.tc : Thread Cert.Reference26Ideal.nD Cert.Reference26Ideal.τ).loc Cert.Reference26Ideal.main_arg9))

def preserves_Kernel27_Kernel27Ideal : Prop :=
  True

def algebraic_Kernel27Ideal_Reference27Ideal [hKernel27Ideal : Cert.Kernel27Ideal.Facts] [hReference27Ideal : Cert.Reference27Ideal.Facts] [hPre_device27 : Cert.Pre_device27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)
      ∧ m' ((c.tc : Thread Cert.Reference27Ideal.nD Cert.Reference27Ideal.τ).loc Cert.Reference27Ideal.main_arg8) = m ((c.tc : Thread Cert.Kernel27Ideal.nD Cert.Kernel27Ideal.τ).loc Cert.Kernel27Ideal.main_arg8)
      ∧ m' ((c.tc : Thread Cert.Reference27Ideal.nD Cert.Reference27Ideal.τ).loc Cert.Reference27Ideal.main_arg9) = m ((c.tc : Thread Cert.Kernel27Ideal.nD Cert.Kernel27Ideal.τ).loc Cert.Kernel27Ideal.main_arg9)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
          ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
          ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v41) = v0 c
          ∧ r.2.mem ((c.tc : Thread Cert.Reference27Ideal.nD Cert.Reference27Ideal.τ).loc Cert.Reference27Ideal.main_v46) = v1 c
          ∧ r.2.mem ((c.tc : Thread Cert.Reference27Ideal.nD Cert.Reference27Ideal.τ).loc Cert.Reference27Ideal.main_v51) = v2 c
          ∧ r.2.mem ((c.tc : Thread Cert.Reference27Ideal.nD Cert.Reference27Ideal.τ).loc Cert.Reference27Ideal.main_v56) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7)
          ∧ r.2.mem ((c.tc : Thread Cert.Reference27Ideal.nD Cert.Reference27Ideal.τ).loc Cert.Reference27Ideal.main_arg8) = m' ((c.tc : Thread Cert.Reference27Ideal.nD Cert.Reference27Ideal.τ).loc Cert.Reference27Ideal.main_arg8)
          ∧ r.2.mem ((c.tc : Thread Cert.Reference27Ideal.nD Cert.Reference27Ideal.τ).loc Cert.Reference27Ideal.main_arg9) = m' ((c.tc : Thread Cert.Reference27Ideal.nD Cert.Reference27Ideal.τ).loc Cert.Reference27Ideal.main_arg9))

def preserves_Kernel28_Kernel28Ideal : Prop :=
  True

def algebraic_Kernel28Ideal_Reference28Ideal [hKernel28Ideal : Cert.Kernel28Ideal.Facts] [hReference28Ideal : Cert.Reference28Ideal.Facts] [hPre_device28 : Cert.Pre_device28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v41) = v0 c
          ∧ r.2.mem ((c.tc : Thread Cert.Reference28Ideal.nD Cert.Reference28Ideal.τ).loc Cert.Reference28Ideal.main_v46) = v1 c
          ∧ r.2.mem ((c.tc : Thread Cert.Reference28Ideal.nD Cert.Reference28Ideal.τ).loc Cert.Reference28Ideal.main_v51) = v2 c
          ∧ r.2.mem ((c.tc : Thread Cert.Reference28Ideal.nD Cert.Reference28Ideal.τ).loc Cert.Reference28Ideal.main_v56) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v17) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v25) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_device23 : Cert.Pre_device23.Facts) (hPre_device24 : Cert.Pre_device24.Facts) (hPre_device25 : Cert.Pre_device25.Facts) (hPre_device26 : Cert.Pre_device26.Facts) (hPre_device27 : Cert.Pre_device27.Facts) (hPre_device28 : Cert.Pre_device28.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23) (hPre_device23 := hPre_device23)
    ∧ quiescent_Kernel23Ideal (hKernel23Ideal := hKernel23Ideal) (hPre_device23 := hPre_device23)
    ∧ quiescent_Reference23Ideal (hReference23Ideal := hReference23Ideal)
    ∧ quiescent_Reference23Ideal_pre_device23 (hReference23Ideal := hReference23Ideal) (hPre_device23 := hPre_device23)
    ∧ quiescent_Kernel24 (hKernel24 := hKernel24) (hPre_device24 := hPre_device24)
    ∧ quiescent_Kernel24Ideal (hKernel24Ideal := hKernel24Ideal) (hPre_device24 := hPre_device24)
    ∧ quiescent_Reference24Ideal (hReference24Ideal := hReference24Ideal)
    ∧ quiescent_Reference24Ideal_pre_device24 (hReference24Ideal := hReference24Ideal) (hPre_device24 := hPre_device24)
    ∧ quiescent_Kernel25 (hKernel25 := hKernel25) (hPre_device25 := hPre_device25)
    ∧ quiescent_Kernel25Ideal (hKernel25Ideal := hKernel25Ideal) (hPre_device25 := hPre_device25)
    ∧ quiescent_Reference25Ideal (hReference25Ideal := hReference25Ideal)
    ∧ quiescent_Reference25Ideal_pre_device25 (hReference25Ideal := hReference25Ideal) (hPre_device25 := hPre_device25)
    ∧ quiescent_Kernel26 (hKernel26 := hKernel26) (hPre_device26 := hPre_device26)
    ∧ quiescent_Kernel26Ideal (hKernel26Ideal := hKernel26Ideal) (hPre_device26 := hPre_device26)
    ∧ quiescent_Reference26Ideal (hReference26Ideal := hReference26Ideal)
    ∧ quiescent_Reference26Ideal_pre_device26 (hReference26Ideal := hReference26Ideal) (hPre_device26 := hPre_device26)
    ∧ quiescent_Kernel27 (hKernel27 := hKernel27) (hPre_device27 := hPre_device27)
    ∧ quiescent_Kernel27Ideal (hKernel27Ideal := hKernel27Ideal) (hPre_device27 := hPre_device27)
    ∧ quiescent_Reference27Ideal (hReference27Ideal := hReference27Ideal)
    ∧ quiescent_Reference27Ideal_pre_device27 (hReference27Ideal := hReference27Ideal) (hPre_device27 := hPre_device27)
    ∧ quiescent_Kernel28 (hKernel28 := hKernel28) (hPre_device28 := hPre_device28)
    ∧ quiescent_Kernel28Ideal (hKernel28Ideal := hKernel28Ideal) (hPre_device28 := hPre_device28)
    ∧ quiescent_Reference28Ideal (hReference28Ideal := hReference28Ideal)
    ∧ quiescent_Reference28Ideal_pre_device28 (hReference28Ideal := hReference28Ideal) (hPre_device28 := hPre_device28)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal) (hPre_device23 := hPre_device23)
    ∧ preserves_Kernel24_Kernel24Ideal
    ∧ algebraic_Kernel24Ideal_Reference24Ideal (hKernel24Ideal := hKernel24Ideal) (hReference24Ideal := hReference24Ideal) (hPre_device24 := hPre_device24)
    ∧ preserves_Kernel25_Kernel25Ideal
    ∧ algebraic_Kernel25Ideal_Reference25Ideal (hKernel25Ideal := hKernel25Ideal) (hReference25Ideal := hReference25Ideal) (hPre_device25 := hPre_device25)
    ∧ preserves_Kernel26_Kernel26Ideal
    ∧ algebraic_Kernel26Ideal_Reference26Ideal (hKernel26Ideal := hKernel26Ideal) (hReference26Ideal := hReference26Ideal) (hPre_device26 := hPre_device26)
    ∧ preserves_Kernel27_Kernel27Ideal
    ∧ algebraic_Kernel27Ideal_Reference27Ideal (hKernel27Ideal := hKernel27Ideal) (hReference27Ideal := hReference27Ideal) (hPre_device27 := hPre_device27)
    ∧ preserves_Kernel28_Kernel28Ideal
    ∧ algebraic_Kernel28Ideal_Reference28Ideal (hKernel28Ideal := hKernel28Ideal) (hReference28Ideal := hReference28Ideal) (hPre_device28 := hPre_device28)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_device23.lean ====
abbrev S8x256x2048 : Shape := ⟨3, ![8, 256, 2048]⟩
abbrev S1 : Shape := ⟨1, ![1]⟩
abbrev S2x256x2048 : Shape := ⟨3, ![2, 256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x256x2048 .bf16) (main_arg1 : FVec F S8x256x2048 .bf16) (main_arg2 : IVec S1 32) (main_arg3 : FVec F S2x256x2048 .f32) (main_arg4 : FVec F S2x256x2048 .f32) (main_arg5 : FVec F S2x256x2048 .f32) (main_arg6 : FVec F S2x256x2048 .f32) (main_arg7 : FVec F S2x256x2048 .f32) (main_arg8 : FVec F S2x256x2048 .f32) (main_arg9 : FVec F S2x256x2048 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_device24.lean ====
abbrev S8x1282x2048 : Shape := ⟨3, ![8, 1282, 2048]⟩
abbrev S1 : Shape := ⟨1, ![1]⟩
abbrev S2x1282x2048 : Shape := ⟨3, ![2, 1282, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1282x2048 .bf16) (main_arg1 : FVec F S8x1282x2048 .bf16) (main_arg2 : IVec S1 32) (main_arg3 : FVec F S2x1282x2048 .f32) (main_arg4 : FVec F S2x1282x2048 .f32) (main_arg5 : FVec F S2x1282x2048 .f32) (main_arg6 : FVec F S2x1282x2048 .f32) (main_arg7 : FVec F S2x1282x2048 .f32) (main_arg8 : FVec F S2x1282x2048 .f32) (main_arg9 : FVec F S2x1282x2048 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_device25.lean ====
abbrev S8x1024x256 : Shape := ⟨3, ![8, 1024, 256]⟩
abbrev S1 : Shape := ⟨1, ![1]⟩
abbrev S2x1024x256 : Shape := ⟨3, ![2, 1024, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x256 .bf16) (main_arg1 : FVec F S8x1024x256 .bf16) (main_arg2 : IVec S1 32) (main_arg3 : FVec F S2x1024x256 .f32) (main_arg4 : FVec F S2x1024x256 .f32) (main_arg5 : FVec F S2x1024x256 .f32) (main_arg6 : FVec F S2x1024x256 .f32) (main_arg7 : FVec F S2x1024x256 .f32) (main_arg8 : FVec F S2x1024x256 .f32) (main_arg9 : FVec F S2x1024x256 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_device26.lean ====
abbrev S8x704x2048 : Shape := ⟨3, ![8, 704, 2048]⟩
abbrev S1 : Shape := ⟨1, ![1]⟩
abbrev S2x704x2048 : Shape := ⟨3, ![2, 704, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x704x2048 .bf16) (main_arg1 : FVec F S8x704x2048 .bf16) (main_arg2 : IVec S1 32) (main_arg3 : FVec F S2x704x2048 .f32) (main_arg4 : FVec F S2x704x2048 .f32) (main_arg5 : FVec F S2x704x2048 .f32) (main_arg6 : FVec F S2x704x2048 .f32) (main_arg7 : FVec F S2x704x2048 .f32) (main_arg8 : FVec F S2x704x2048 .f32) (main_arg9 : FVec F S2x704x2048 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_device27.lean ====
abbrev S8x4x384 : Shape := ⟨3, ![8, 4, 384]⟩
abbrev S1 : Shape := ⟨1, ![1]⟩
abbrev S2x4x384 : Shape := ⟨3, ![2, 4, 384]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x4x384 .f32) (main_arg1 : FVec F S8x4x384 .f32) (main_arg2 : IVec S1 32) (main_arg3 : FVec F S2x4x384 .f32) (main_arg4 : FVec F S2x4x384 .f32) (main_arg5 : FVec F S2x4x384 .f32) (main_arg6 : FVec F S2x4x384 .f32) (main_arg7 : FVec F S2x4x384 .f32) (main_arg8 : FVec F S2x4x384 .f32) (main_arg9 : FVec F S2x4x384 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_device28.lean ====
abbrev S8x3x704 : Shape := ⟨3, ![8, 3, 704]⟩
abbrev S1 : Shape := ⟨1, ![1]⟩
abbrev S2x3x704 : Shape := ⟨3, ![2, 3, 704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x3x704 .f32) (main_arg1 : FVec F S8x3x704 .f32) (main_arg2 : IVec S1 32) (main_arg3 : FVec F S2x3x704 .f32) (main_arg4 : FVec F S2x3x704 .f32) (main_arg5 : FVec F S2x3x704 .f32) (main_arg6 : FVec F S2x3x704 .f32) (main_arg7 : FVec F S2x3x704 .f32) (main_arg8 : FVec F S2x3x704 .f32) (main_arg9 : FVec F S2x3x704 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S8x4096x128 : Shape := ⟨3, ![8, 4096, 128]⟩
abbrev S8x4096x64 : Shape := ⟨3, ![8, 4096, 64]⟩
abbrev S8x64x1x1 : Shape := ⟨4, ![8, 64, 1, 1]⟩
abbrev S64x8x128x128 : Shape := ⟨4, ![64, 8, 128, 128]⟩
abbrev S8x256x128 : Shape := ⟨3, ![8, 256, 128]⟩
abbrev S8x256x64 : Shape := ⟨3, ![8, 256, 64]⟩
abbrev S8x4x1x1 : Shape := ⟨4, ![8, 4, 1, 1]⟩
abbrev S4x8x128x128 : Shape := ⟨4, ![4, 8, 128, 128]⟩
abbrev S8x128x128 : Shape := ⟨3, ![8, 128, 128]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S1x64x64 : Shape := ⟨3, ![1, 64, 64]⟩
abbrev S64x64 : Shape := ⟨2, ![64, 64]⟩
abbrev S1x1x1x1 : Shape := ⟨4, ![1, 1, 1, 1]⟩
abbrev S1x1 : Shape := ⟨2, ![1, 1]⟩
abbrev S1x1x128x128 : Shape := ⟨4, ![1, 1, 128, 128]⟩
abbrev S1 : Shape := ⟨1, ![1]⟩
abbrev S1x1x1 : Shape := ⟨3, ![1, 1, 1]⟩

abbrev nBuf : Space → Nat
  | .hbm => 14
  | .vmem => 29
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x64, .f32⟩
  | .hbm, ⟨3, _⟩ => ⟨S8x4096x128, .f32⟩
  | .hbm, ⟨4, _⟩ => ⟨S8x4096x128, .f32⟩
  | .hbm, ⟨5, _⟩ => ⟨S8x64x1x1, .f32⟩
  | .hbm, ⟨6, _⟩ => ⟨S64x8x128x128, .f32⟩
  | .hbm, ⟨7, _⟩ => ⟨S8x4096x128, .f32⟩
  | .hbm, ⟨8, _⟩ => ⟨S8x4096x128, .f32⟩
  | .hbm, ⟨9, _⟩ => ⟨S8x4096x128, .f32⟩
  | .hbm, ⟨10, _⟩ => ⟨S8x4096x64, .f32⟩
  | .hbm, ⟨11, _⟩ => ⟨S8x4096x128, .f32⟩
  | .hbm, ⟨12, _⟩ => ⟨S8x4096x128, .f32⟩
  | .hbm, ⟨13, _⟩ => ⟨S8x64x1x1, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x256x64, .f32⟩
  | .local _ .vmem, ⟨5, _⟩ => ⟨S8x256x64, .f32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | .local _ .vmem, ⟨10, _⟩ => ⟨S8x4x1x1, .f32⟩
  | .local _ .vmem, ⟨11, _⟩ => ⟨S8x4x1x1, .f32⟩
  | .local _ .vmem, ⟨12, _⟩ => ⟨S4x8x128x128, .f32⟩
  | .local _ .vmem, ⟨13, _⟩ => ⟨S4x8x128x128, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | .local _ .vmem, ⟨17, _⟩ => ⟨S8x256x128, .f32⟩
  | .local _ .vmem, ⟨18, _⟩ => ⟨S8x256x128, .f32⟩
  | .local _ .vmem, ⟨19, _⟩ => ⟨S8x256x128, .f32⟩
  | .local _ .vmem, ⟨20, _⟩ => ⟨S8x256x64, .f32⟩
  | .local _ .vmem, ⟨21, _⟩ => ⟨S8x256x64, .f32⟩
  | .local _ .vmem, ⟨22, _⟩ => ⟨S8x256x128, .f32⟩
  | .local _ .vmem, ⟨23, _⟩ => ⟨S8x256x128, .f32⟩
  | .local _ .vmem, ⟨24, _⟩ => ⟨S8x256x128, .f32⟩
  | .local _ .vmem, ⟨25, _⟩ => ⟨S8x256x128, .f32⟩
  | .local _ .vmem, ⟨26, _⟩ => ⟨S8x4x1x1, .f32⟩
  | .local _ .vmem, ⟨27, _⟩ => ⟨S8x4x1x1, .f32⟩
  | .local _ .vmem, ⟨28, _⟩ => ⟨S8x128x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8x4096x128 : Shape := ⟨3, ![8, 4096, 128]⟩
abbrev S8x4096x64 : Shape := ⟨3, ![8, 4096, 64]⟩
abbrev S8x64x1x1 : Shape := ⟨4, ![8, 64, 1, 1]⟩
abbrev S64x8x128x128 : Shape := ⟨4, ![64, 8, 128, 128]⟩
abbrev S8x64x64x128 : Shape := ⟨4, ![8, 64, 64, 128]⟩
abbrev S64x8x64x128 : Shape := ⟨4, ![64, 8, 64, 128]⟩
abbrev S8x64x64x64 : Shape := ⟨4, ![8, 64, 64, 64]⟩
abbrev S64x8x64x64 : Shape := ⟨4, ![64, 8, 64, 64]⟩
abbrev S8x64 : Shape := ⟨2, ![8, 64]⟩
abbrev S64x8 : Shape := ⟨2, ![64, 8]⟩
abbrev S_ : Shape := ⟨0, ![]⟩
abbrev S8x128x128 : Shape := ⟨3, ![8, 128, 128]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S8x128x64 : Shape := ⟨3, ![8, 128, 64]⟩

abbrev nBuf : Space → Nat
  | .hbm => 176
  | .vmem => 0
  | .smem => 0
  | _ => 0

abbrev hbmTy0_0 (i : Nat) : BufTy := match i % 128 with
  | 0 => ⟨S8x4096x128, .f32⟩
  | 1 => ⟨S8x4096x128, .f32⟩
  | 2 => ⟨S8x4096x64, .f32⟩
  | 3 => ⟨S8x4096x128, .f32⟩
  | 4 => ⟨S8x4096x128, .f32⟩
  | 5 => ⟨S8x64x1x1, .f32⟩
  | 6 => ⟨S64x8x128x128, .f32⟩
  | 7 => ⟨S8x4096x128, .f32⟩
  | 8 => ⟨S8x64x64x128, .f32⟩
  | 9 => ⟨S64x8x64x128, .f32⟩
  | 10 => ⟨S8x64x64x128, .f32⟩
  | 11 => ⟨S64x8x64x128, .f32⟩
  | 12 => ⟨S8x64x64x64, .f32⟩
  | 13 => ⟨S64x8x64x64, .f32⟩
  | 14 => ⟨S8x64x64x128, .f32⟩
  | 15 => ⟨S64x8x64x128, .f32⟩
  | 16 => ⟨S8x64x64x128, .f32⟩
  | 17 => ⟨S64x8x64x128, .f32⟩
  | 18 => ⟨S8x64, .f32⟩
  | 19 => ⟨S64x8, .f32⟩
  | 20 => ⟨S_, .f32⟩
  | 21 => ⟨S8x128x128, .f32⟩
  | 22 => ⟨S8x64x64x128, .f32⟩
  | 23 => ⟨S64x8x64x128, .f32⟩
  | 24 => ⟨S_, .f32⟩
  | 25 => ⟨S64x8x64x128, .f32⟩
  | 26 => ⟨S_, .f32⟩
  | 27 => ⟨S64x8x64x128, .f32⟩
  | 28 => ⟨S_, .f32⟩
  | 29 => ⟨S64x8x64x64, .f32⟩
  | 30 => ⟨S_, .f32⟩
  | 31 => ⟨S64x8x64x128, .f32⟩
  | 32 => ⟨S_, .f32⟩
  | 33 => ⟨S64x8x64x128, .f32⟩
  | 34 => ⟨S_, .f32⟩
  | 35 => ⟨S64x8, .f32⟩
  | 36 => ⟨S_, .i32⟩
  | 37 => ⟨S64x8x128x128, .f32⟩
  | 38 => ⟨S64x8x64x128, .f32⟩
  | 39 => ⟨S64x8x64x128, .f32⟩
  | 40 => ⟨S64x8x64x64, .f32⟩
  | 41 => ⟨S64x8x64x128, .f32⟩
  | 42 => ⟨S64x8x64x128, .f32⟩
  | 43 => ⟨S64x8, .f32⟩
  | 44 => ⟨S64x8x64x128, .f32⟩
  | 45 => ⟨S_, .i32⟩
  | 46 => ⟨S8x128x128, .f32⟩
  | 47 => ⟨S64x8x64x128, .f32⟩
  | 48 => ⟨S64x8x64x128, .f32⟩
  | 49 => ⟨S64x8x64x64, .f32⟩
  | 50 => ⟨S64x8x64x128, .f32⟩
  | 51 => ⟨S64x8x64x128, .f32⟩
  | 52 => ⟨S64x8, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S1x8x128x128, .f32⟩
  | 63 => ⟨S8x128x128, .f32⟩
  | 64 => ⟨S_, .i32⟩
  | 65 => ⟨S_, .i32⟩
  | 66 => ⟨S_, .i32⟩
  | 67 => ⟨S1x8x64x128, .f32⟩
  | 68 => ⟨S8x64x128, .f32⟩
  | 69 => ⟨S_, .i32⟩
  | 70 => ⟨S_, .i32⟩
  | 71 => ⟨S_, .i32⟩
  | 72 => ⟨S1x8x64x128, .f32⟩
  | 73 => ⟨S8x64x128, .f32⟩
  | 74 => ⟨S_, .i32⟩
  | 75 => ⟨S_, .i32⟩
  | 76 => ⟨S_, .i32⟩
  | 77 => ⟨S1x8x64x64, .f32⟩
  | 78 => ⟨S8x64x64, .f32⟩
  | 79 => ⟨S_, .i32⟩
  | 80 => ⟨S_, .i32⟩
  | 81 => ⟨S_, .i32⟩
  | 82 => ⟨S1x8x64x128, .f32⟩
  | 83 => ⟨S8x64x128, .f32⟩
  | 84 => ⟨S_, .i32⟩
  | 85 => ⟨S_, .i32⟩
  | 86 => ⟨S_, .i32⟩
  | 87 => ⟨S1x8x64x128, .f32⟩
  | 88 => ⟨S8x64x128, .f32⟩
  | 89 => ⟨S_, .i32⟩
  | 90 => ⟨S1x8, .f32⟩
  | 91 => ⟨S8, .f32⟩
  | 92 => ⟨S_, .i32⟩
  | 93 => ⟨S_, .i32⟩
  | 94 => ⟨S_, .i32⟩
  | 95 => ⟨S1x8x64x128, .f32⟩
  | 96 => ⟨S8x64x128, .f32⟩
  | 97 => ⟨S8x64x128, .f32⟩
  | 98 => ⟨S8x64x128, .f32⟩
  | 99 => ⟨S8x64x128, .f32⟩
  | 100 => ⟨S8x64x128, .f32⟩
  | 101 => ⟨S8x64x128, .f32⟩
  | 102 => ⟨S8, .f32⟩
  | 103 => ⟨S8x1x1, .f32⟩
  | 104 => ⟨S8x128x128, .f32⟩
  | 105 => ⟨S8x128x128, .f32⟩
  | 106 => ⟨S8x128x128, .f32⟩
  | 107 => ⟨S8x128x128, .f32⟩
  | 108 => ⟨S8x128x64, .f32⟩
  | 109 => ⟨S8x64x128, .f32⟩
  | 110 => ⟨S8x128x64, .f32⟩
  | 111 => ⟨S8x64x128, .f32⟩
  | 112 => ⟨S8x128x128, .f32⟩
  | 113 => ⟨S_, .f32⟩
  | 114 => ⟨S8, .f32⟩
  | 115 => ⟨S8x1x1, .f32⟩
  | 116 => ⟨S8x128x128, .f32⟩
  | 117 => ⟨S8x128x128, .f32⟩
  | 118 => ⟨S_, .f32⟩
  | 119 => ⟨S8, .f32⟩
  | 120 => ⟨S8, .f32⟩
  | 121 => ⟨S8x128x64, .f32⟩
  | 122 => ⟨S8x64x128, .f32⟩
  | 123 => ⟨S8x64x128, .f32⟩
  | 124 => ⟨S8x64x64, .f32⟩
  | 125 => ⟨S8x128x128, .f32⟩
  | 126 => ⟨S8x128x128, .f32⟩
  | 127 => ⟨S8x128x128, .f32⟩
  | _ => ⟨S8x4096x128, .f32⟩

abbrev hbmTy0_1 (i : Nat) : BufTy := match i % 128 with
  | 0 => ⟨S8x64x128, .f32⟩
  | 1 => ⟨S8x64x128, .f32⟩
  | 2 => ⟨S8x128x128, .f32⟩
  | 3 => ⟨S8x128x128, .f32⟩
  | 4 => ⟨S8x128x128, .f32⟩
  | 5 => ⟨S8x64x128, .f32⟩
  | 6 => ⟨S1x8x64x128, .f32⟩
  | 7 => ⟨S_, .i32⟩
  | 8 => ⟨S_, .i32⟩
  | 9 => ⟨S_, .i32⟩
  | 10 => ⟨S64x8x64x128, .f32⟩
  | 11 => ⟨S1x8x64x128, .f32⟩
  | 12 => ⟨S_, .i32⟩
  | 13 => ⟨S_, .i32⟩
  | 14 => ⟨S_, .i32⟩
  | 15 => ⟨S64x8x64x128, .f32⟩
  | 16 => ⟨S1x8x64x64, .f32⟩
  | 17 => ⟨S_, .i32⟩
  | 18 => ⟨S_, .i32⟩
  | 19 => ⟨S_, .i32⟩
  | 20 => ⟨S64x8x64x64, .f32⟩
  | 21 => ⟨S1x8x64x128, .f32⟩
  | 22 => ⟨S_, .i32⟩
  | 23 => ⟨S_, .i32⟩
  | 24 => ⟨S_, .i32⟩
  | 25 => ⟨S64x8x64x128, .f32⟩
  | 26 => ⟨S1x8x64x128, .f32⟩
  | 27 => ⟨S_, .i32⟩
  | 28 => ⟨S_, .i32⟩
  | 29 => ⟨S_, .i32⟩
  | 30 => ⟨S64x8x64x128, .f32⟩
  | 31 => ⟨S1x8, .f32⟩
  | 32 => ⟨S_, .i32⟩
  | 33 => ⟨S64x8, .f32⟩
  | 34 => ⟨S_, .i32⟩
  | 35 => ⟨S_, .i32⟩
  | 36 => ⟨S8x64x64x128, .f32⟩
  | 37 => ⟨S8x4096x128, .f32⟩
  | 38 => ⟨S8x64x64x128, .f32⟩
  | 39 => ⟨S8x4096x128, .f32⟩
  | 40 => ⟨S8x64x64x64, .f32⟩
  | 41 => ⟨S8x4096x64, .f32⟩
  | 42 => ⟨S8x64x64x128, .f32⟩
  | 43 => ⟨S8x4096x128, .f32⟩
  | 44 => ⟨S8x64x64x128, .f32⟩
  | 45 => ⟨S8x4096x128, .f32⟩
  | 46 => ⟨S8x64, .f32⟩
  | 47 => ⟨S8x64x1x1, .f32⟩
  | _ => ⟨S8x4096x128, .f32⟩

abbrev hbmTy (i : Nat) : BufTy := match i / 128 with
  | 0 => hbmTy0_0 i
  | 1 => hbmTy0_1 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_c : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev main_v21_6 : Ref sig .tc := ⟨.hbm, 43, rfl⟩
abbrev main_v21_7 : Ref sig .tc := ⟨.hbm, 44, rfl⟩
abbrev main_v21_8 : Ref sig .tc := ⟨.hbm, 45, rfl⟩
abbrev main_v21_9 : Ref sig .tc := ⟨.hbm, 46, rfl⟩
abbrev main_v21_10 : Ref sig .tc := ⟨.hbm, 47, rfl⟩
abbrev main_v21_11 : Ref sig .tc := ⟨.hbm, 48, rfl⟩
abbrev main_v21_12 : Ref sig .tc := ⟨.hbm, 49, rfl⟩
abbrev main_v21_13 : Ref sig .tc := ⟨.hbm, 50, rfl⟩
abbrev main_v21_14 : Ref sig .tc := ⟨.hbm, 51, rfl⟩
abbrev main_v21_15 : Ref sig .tc := ⟨.hbm, 52, rfl⟩
abbrev main_while0c_c_21 : Ref sig .tc := ⟨.hbm, 53, rfl⟩
abbrev main_while0c_v34 : Ref sig .tc := ⟨.hbm, 54, rfl⟩
abbrev main_while0b_c_21 : Ref sig .tc := ⟨.hbm, 55, rfl⟩
abbrev main_while0b_v34 : Ref sig .tc := ⟨.hbm, 56, rfl⟩
abbrev main_while0b_c_22 : Ref sig .tc := ⟨.hbm, 57, rfl⟩
abbrev main_while0b_v35 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_v0 : Ref sig .tc := ⟨.hbm, 62, rfl⟩
abbrev main_while0b_v36 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_v0 : Ref sig .tc := ⟨.hbm, 67, rfl⟩
abbrev main_while0b_v37 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_v0 : Ref sig .tc := ⟨.hbm, 72, rfl⟩
abbrev main_while0b_v38 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_v0 : Ref sig .tc := ⟨.hbm, 77, rfl⟩
abbrev main_while0b_v39 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_v0 : Ref sig .tc := ⟨.hbm, 82, rfl⟩
abbrev main_while0b_v40 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_v0 : Ref sig .tc := ⟨.hbm, 87, rfl⟩
abbrev main_while0b_v41 : Ref sig .tc := ⟨.hbm, 88, rfl⟩
abbrev main_while0b_call6_c : Ref sig .tc := ⟨.hbm, 89, rfl⟩
abbrev main_while0b_call6_v0 : Ref sig .tc := ⟨.hbm, 90, rfl⟩
abbrev main_while0b_v42 : Ref sig .tc := ⟨.hbm, 91, rfl⟩
abbrev main_while0b_call7_c : Ref sig .tc := ⟨.hbm, 92, rfl⟩
abbrev main_while0b_call7_c_0 : Ref sig .tc := ⟨.hbm, 93, rfl⟩
abbrev main_while0b_call7_c_1 : Ref sig .tc := ⟨.hbm, 94, rfl⟩
abbrev main_while0b_call7_v0 : Ref sig .tc := ⟨.hbm, 95, rfl⟩
abbrev main_while0b_v43 : Ref sig .tc := ⟨.hbm, 96, rfl⟩
abbrev main_while0b_v44 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_cst_23 : Ref sig .tc := ⟨.hbm, 113, rfl⟩
abbrev main_while0b_v60 : Ref sig .tc := ⟨.hbm, 114, rfl⟩
abbrev main_while0b_v61 : Ref sig .tc := ⟨.hbm, 115, rfl⟩
abbrev main_while0b_v62 : Ref sig .tc := ⟨.hbm, 116, rfl⟩
abbrev main_while0b_v63 : Ref sig .tc := ⟨.hbm, 117, rfl⟩
abbrev main_while0b_cst_24 : Ref sig .tc := ⟨.hbm, 118, rfl⟩
abbrev main_while0b_v64 : Ref sig .tc := ⟨.hbm, 119, rfl⟩
abbrev main_while0b_v65 : Ref sig .tc := ⟨.hbm, 120, rfl⟩
abbrev main_while0b_v66 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_v77 : Ref sig .tc := ⟨.hbm, 132, rfl⟩
abbrev main_while0b_v78 : Ref sig .tc := ⟨.hbm, 133, rfl⟩
abbrev main_while0b_call8_v0 : Ref sig .tc := ⟨.hbm, 134, rfl⟩
abbrev main_while0b_call8_c : Ref sig .tc := ⟨.hbm, 135, rfl⟩
abbrev main_while0b_call8_c_0 : Ref sig .tc := ⟨.hbm, 136, rfl⟩
abbrev main_while0b_call8_c_1 : Ref sig .tc := ⟨.hbm, 137, rfl⟩
abbrev main_while0b_v79 : Ref sig .tc := ⟨.hbm, 138, rfl⟩
abbrev main_while0b_call9_v0 : Ref sig .tc := ⟨.hbm, 139, rfl⟩
abbrev main_while0b_call9_c : Ref sig .tc := ⟨.hbm, 140, rfl⟩
abbrev main_while0b_call9_c_0 : Ref sig .tc := ⟨.hbm, 141, rfl⟩
abbrev main_while0b_call9_c_1 : Ref sig .tc := ⟨.hbm, 142, rfl⟩
abbrev main_while0b_v80 : Ref sig .tc := ⟨.hbm, 143, rfl⟩
abbrev main_while0b_call10_v0 : Ref sig .tc := ⟨.hbm, 144, rfl⟩
abbrev main_while0b_call10_c : Ref sig .tc := ⟨.hbm, 145, rfl⟩
abbrev main_while0b_call10_c_0 : Ref sig .tc := ⟨.hbm, 146, rfl⟩
abbrev main_while0b_call10_c_1 : Ref sig .tc := ⟨.hbm, 147, rfl⟩
abbrev main_while0b_v81 : Ref sig .tc := ⟨.hbm, 148, rfl⟩
abbrev main_while0b_call11_v0 : Ref sig .tc := ⟨.hbm, 149, rfl⟩
abbrev main_while0b_call11_c : Ref sig .tc := ⟨.hbm, 150, rfl⟩
abbrev main_while0b_call11_c_0 : Ref sig .tc := ⟨.hbm, 151, rfl⟩
abbrev main_while0b_call11_c_1 : Ref sig .tc := ⟨.hbm, 152, rfl⟩
abbrev main_while0b_v82 : Ref sig .tc := ⟨.hbm, 153, rfl⟩
abbrev main_while0b_call12_v0 : Ref sig .tc := ⟨.hbm, 154, rfl⟩
abbrev main_while0b_call12_c : Ref sig .tc := ⟨.hbm, 155, rfl⟩
abbrev main_while0b_call12_c_0 : Ref sig .tc := ⟨.hbm, 156, rfl⟩
abbrev main_while0b_call12_c_1 : Ref sig .tc := ⟨.hbm, 157, rfl⟩
abbrev main_while0b_v83 : Ref sig .tc := ⟨.hbm, 158, rfl⟩
abbrev main_while0b_call13_v0 : Ref sig .tc := ⟨.hbm, 159, rfl⟩
abbrev main_while0b_call13_c : Ref sig .tc := ⟨.hbm, 160, rfl⟩
abbrev main_while0b_v84 : Ref sig .tc := ⟨.hbm, 161, rfl⟩
abbrev main_while0b_c_25 : Ref sig .tc := ⟨.hbm, 162, rfl⟩
abbrev main_while0b_v85 : Ref sig .tc := ⟨.hbm, 163, rfl⟩
abbrev main_v22 : Ref sig .tc := ⟨.hbm, 164, rfl⟩
abbrev main_v23 : Ref sig .tc := ⟨.hbm, 165, rfl⟩
abbrev main_v24 : Ref sig .tc := ⟨.hbm, 166, rfl⟩
abbrev main_v25 : Ref sig .tc := ⟨.hbm, 167, rfl⟩
abbrev main_v26 : Ref sig .tc := ⟨.hbm, 168, rfl⟩
abbrev main_v27 : Ref sig .tc := ⟨.hbm, 169, rfl⟩
abbrev main_v28 : Ref sig .tc := ⟨.hbm, 170, rfl⟩
abbrev main_v29 : Ref sig .tc := ⟨.hbm, 171, rfl⟩
abbrev main_v30 : Ref sig .tc := ⟨.hbm, 172, rfl⟩
abbrev main_v31 : Ref sig .tc := ⟨.hbm, 173, rfl⟩
abbrev main_v32 : Ref sig .tc := ⟨.hbm, 174, rfl⟩
abbrev main_v33 : Ref sig .tc := ⟨.hbm, 175, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x6144 : Shape := ⟨2, ![4096, 6144]⟩
abbrev S4096x2048 : Shape := ⟨2, ![4096, 2048]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== Reference2Ideal.lean ====
abbrev S4096x6144 : Shape := ⟨2, ![4096, 6144]⟩
abbrev S4096x2048 : Shape := ⟨2, ![4096, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .bf16⟩
  | .hbm, ⟨43, _⟩ => ⟨S4096x2048, .bf16⟩
  | .hbm, ⟨44, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel3.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x2048, .f32⟩
  | .hbm, ⟨3, _⟩ => ⟨S5632x2048, .f32⟩
  | .hbm, ⟨4, _⟩ => ⟨S_, .f32⟩
  | .hbm, ⟨5, _⟩ => ⟨S4096x5632, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .bf16⟩
  | .hbm, ⟨3, _⟩ => ⟨S5632x2048, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1024x1024, .f32⟩
  | .local _ .vmem, ⟨9, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sge arg2 c0_i32_1
  let c4_i32 : BitVec 32 := 4#32
  let v4 : BitVec 1 := Scalar.cmpi .slt arg2 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c4_i32_3 : BitVec 32 := 4#32
  let v8 : BitVec 1 := Scalar.cmpi .sge arg2 c4_i32_3
  let c8_i32 : BitVec 32 := 8#32
  let v9 : BitVec 1 := Scalar.cmpi .slt arg2 c8_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S4096x5632 : Shape := ⟨2, ![4096, 5632]⟩
abbrev S5632x2048 : Shape := ⟨2, ![5632, 2048]⟩
abbrev S_ : Shape := ⟨0, ![]⟩
abbrev S4096x2048 : Shape := ⟨2, ![4096, 2048]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .bf16⟩
  | .hbm, ⟨3, _⟩ => ⟨S5632x2048, .bf16⟩
  | .hbm, ⟨4, _⟩ => ⟨S4096x5632, .f32⟩
  | .hbm, ⟨5, _⟩ => ⟨S4096x5632, .f32⟩
  | .hbm, ⟨6, _⟩ => ⟨S5632x2048, .f32⟩
  | .hbm, ⟨7, _⟩ => ⟨S5632x2048, .f32⟩
  | .hbm, ⟨8, _⟩ => ⟨S_, .f32⟩
  | .hbm, ⟨9, _⟩ => ⟨S4096x2048, .f32⟩
  | .hbm, ⟨10, _⟩ => ⟨S2048x5632, .f32⟩
  | .hbm, ⟨11, _⟩ => ⟨S4096x5632, .f32⟩
  | .hbm, ⟨12, _⟩ => ⟨S2048x5632, .f32⟩
  | .hbm, ⟨13, _⟩ => ⟨S4096x5632, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S4096x128 : Shape := ⟨2, ![4096, 128]⟩
abbrev S4096x4096 : Shape := ⟨2, ![4096, 4096]⟩
abbrev S4096x6144 : Shape := ⟨2, ![4096, 6144]⟩
abbrev S128x2048 : Shape := ⟨2, ![128, 2048]⟩
abbrev S4096x2048 : Shape := ⟨2, ![4096, 2048]⟩
abbrev S6144x2048 : Shape := ⟨2, ![6144, 2048]⟩
abbrev S1024x128 : Shape := ⟨2, ![1024, 128]⟩
abbrev S128x1024 : Shape := ⟨2, ![128, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S4096x6144, .bf16⟩
  | .hbm, ⟨3, _⟩ => ⟨S128x2048, .bf16⟩
  | .hbm, ⟨4, _⟩ => ⟨S4096x2048, .bf16⟩
  | .hbm, ⟨5, _⟩ => ⟨S6144x2048, .bf16⟩
  | .hbm, ⟨6, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x2048, .bf16⟩
  | .local _ .vmem, ⟨9, _⟩ => ⟨S1024x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .f32⟩
  | .local _ .vmem, ⟨13, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sge arg2 c0_i32_1
  let c1_i32 : BitVec 32 := 1#32
  let v4 : BitVec 1 := Scalar.cmpi .slt arg2 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c1_i32_3 : BitVec 32 := 1#32
  let v8 : BitVec 1 := Scalar.cmpi .sge arg2 c1_i32_3
  let c3_i32 : BitVec 32 := 3#32
  let v9 : BitVec 1 := Scalar.cmpi .slt arg2 c3_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg2 : BitVec 32 := BitVec.ofNat 32 (i 2).val
  let c3_i32_5 : BitVec 32 := 3#32
  let v13 : BitVec 1 := Scalar.cmpi .sge arg2 c3_i32_5
  let c6_i32 : BitVec 32 := 6#32
  let v14 : BitVec 1 := Scalar.cmpi .slt arg2 c6_i32
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference6Ideal.lean ====
abbrev S4096x128 : Shape := ⟨2, ![4096, 128]⟩
abbrev S4096x4096 : Shape := ⟨2, ![4096, 4096]⟩
abbrev S4096x6144 : Shape := ⟨2, ![4096, 6144]⟩
abbrev S128x2048 : Shape := ⟨2, ![128, 2048]⟩
abbrev S4096x2048 : Shape := ⟨2, ![4096, 2048]⟩
abbrev S6144x2048 : Shape := ⟨2, ![6144, 2048]⟩
abbrev S_ : Shape := ⟨0, ![]⟩
abbrev S2048x128 : Shape := ⟨2, ![2048, 128]⟩
abbrev S2048x4096 : Shape := ⟨2, ![2048, 4096]⟩
abbrev S2048x6144 : Shape := ⟨2, ![2048, 6144]⟩

abbrev nBuf : Space → Nat
  | .hbm => 25
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x4096, .bf16⟩
  | .hbm, ⟨2, _⟩ => ⟨S4096x6144, .bf16⟩
  | .hbm, ⟨3, _⟩ => ⟨S128x2048, .bf16⟩
  | .hbm, ⟨4, _⟩ => ⟨S4096x2048, .bf16⟩
  | .hbm, ⟨5, _⟩ => ⟨S6144x2048, .bf16⟩
  | .hbm, ⟨6, _⟩ => ⟨S4096x128, .f32⟩
  | .hbm, ⟨7, _⟩ => ⟨S4096x4096, .f32⟩
  | .hbm, ⟨8, _⟩ => ⟨S4096x6144, .f32⟩
  | .hbm, ⟨9, _⟩ => ⟨S128x2048, .f32⟩
  | .hbm, ⟨10, _⟩ => ⟨S4096x2048, .f32⟩
  | .hbm, ⟨11, _⟩ => ⟨S6144x2048, .f32⟩
  | .hbm, ⟨12, _⟩ => ⟨S_, .f32⟩
  | .hbm, ⟨13, _⟩ => ⟨S4096x2048, .f32⟩
  | .hbm, ⟨14, _⟩ => ⟨S2048x128, .f32⟩
  | .hbm, ⟨15, _⟩ => ⟨S4096x128, .f32⟩
  | .hbm, ⟨16, _⟩ => ⟨S2048x4096, .f32⟩
  | .hbm, ⟨17, _⟩ => ⟨S4096x4096, .f32⟩
  | .hbm, ⟨18, _⟩ => ⟨S2048x6144, .f32⟩
  | .hbm, ⟨19, _⟩ => ⟨S4096x6144, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S4096x2048 : Shape := ⟨2, ![4096, 2048]⟩
abbrev S4096x6144 : Shape := ⟨2, ![4096, 6144]⟩
abbrev S6144x2048 : Shape := ⟨2, ![6144, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S_, .f32⟩
  | .hbm, ⟨5, _⟩ => ⟨S2048x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S6144x2048, .f32⟩
  | .hbm, ⟨10, _⟩ => ⟨S6144x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S4096x4096 : Shape := ⟨2, ![4096, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S4096x4096, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x2048, .f32⟩
  | .hbm, ⟨3, _⟩ => ⟨S6144x2048, .f32⟩
  | .hbm, ⟨4, _⟩ => ⟨S2048x6144, .f32⟩
  | .hbm, ⟨5, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x4096, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S128x2048 : Shape := ⟨2, ![128, 2048]⟩
abbrev S2048x128 : Shape := ⟨2, ![2048, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x2048, .f32⟩
  | .hbm, ⟨3, _⟩ => ⟨S128x2048, .f32⟩
  | .hbm, ⟨4, _⟩ => ⟨S2048x128, .f32⟩
  | .hbm, ⟨5, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x2048 : Shape := ⟨2, ![4096, 2048]⟩
abbrev S4096x128 : Shape := ⟨2, ![4096, 128]⟩
abbrev S128x2048 : Shape := ⟨2, ![128, 2048]⟩
abbrev S2048x128 : Shape := ⟨2, ![2048, 128]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S128x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x2048, .bf16⟩
  | .local _ .vmem, ⟨3, _⟩ => ⟨S2048x2048, .bf16⟩
  | .local _ .vmem, ⟨4, _⟩ => ⟨S128x2048, .bf16⟩
  | .local _ .vmem, ⟨5, _⟩ => ⟨S128x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S4096x2048, .f32⟩
  | .hbm, ⟨3, _⟩ => ⟨S4096x128, .f32⟩
  | .hbm, ⟨4, _⟩ => ⟨S_, .f32⟩
  | .hbm, ⟨5, _⟩ => ⟨S2048x128, .f32⟩
  | .hbm, ⟨6, _⟩ => ⟨S4096x128, .f32⟩
  | .hbm, ⟨7, _⟩ => ⟨S128x2048, .f32⟩
  | .hbm, ⟨8, _⟩ => ⟨S2048x128, .f32⟩
  | .hbm, ⟨9, _⟩ => ⟨S128x2048, .f32⟩
  | .hbm, ⟨10, _⟩ => ⟨S128x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S8x2288x128 : Shape := ⟨3, ![8, 2288, 128]⟩
abbrev S2288x128 : Shape := ⟨2, ![2288, 128]⟩
abbrev S8x208x128 : Shape := ⟨3, ![8, 208, 128]⟩
abbrev S208x128 : Shape := ⟨2, ![208, 128]⟩
abbrev S1x208x128 : Shape := ⟨3, ![1, 208, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2288x128, .f32⟩
  | .hbm, ⟨1, _⟩ => ⟨S2288x128, .f32⟩
  | .hbm, ⟨2, _⟩ => ⟨S2288x128, .f32⟩
  | .hbm, ⟨3, _⟩ => ⟨S2288x128, .f32⟩
  | .hbm, ⟨4, _⟩ => ⟨S2288x128, .f32⟩
  | .hbm, ⟨5, _⟩ => ⟨S2288x128, .f32⟩
  | .hbm, ⟨6, _⟩ => ⟨S2288x128, .f32⟩
  | .hbm, ⟨7, _⟩ => ⟨S2288x128, .f32⟩
  | .local _ .vmem, ⟨0, _⟩ => ⟨S8x208x128, .f32⟩
  | .local _ .vmem, ⟨1, _⟩ => ⟨S8x208x128, .f32⟩
  | .local _ .vmem, ⟨2, _⟩ => ⟨S208x128, .f32⟩
  | .local _ .vmem, ⟨3, _⟩ => ⟨S208x128, .f32⟩
  | .local _ .vmem, ⟨4, _⟩ => ⟨S208x128, .f32⟩
  | .local _ .vmem, ⟨5, _⟩ => ⟨S208x128, .f32⟩
  | .local _ .vmem, ⟨6, _⟩ => ⟨S208x128, .f32⟩
  | .local _ .vmem, ⟨7, _⟩ => ⟨S208x128, .f32⟩
  | .local _ .vmem, ⟨8, _⟩ => ⟨S208x128, .f32⟩
  | .local _ .vmem, ⟨9, _⟩ => ⟨S208x128, .f32⟩
  | .local _ .vmem, ⟨10, _⟩ => ⟨S208x128, .f32⟩
  | .local _ .vmem, ⟨11, _⟩ => ⟨S208x128, .f32⟩
  | .local _ .vmem, ⟨12, _⟩ => ⟨S208x128, .f32⟩
  | .local _ .vmem, ⟨13, _⟩ => ⟨S208x128, .f32⟩
  | .local _ .vmem, ⟨14, _⟩ => ⟨S208x128, .f32⟩
  | .local _ .vmem, ⟨15, _⟩ => ⟨S208x128, .f32⟩
  | _, _ => ⟨S8x2288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x2288x128 : Shape := ⟨3, ![8, 2288, 128]⟩
abbrev S2288x128 : Shape := ⟨2, ![2288, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2288x128, .f32⟩
  | .hbm, ⟨1, _⟩ => ⟨S2288x128, .f32⟩
  | .hbm, ⟨2, _⟩ => ⟨S2288x128, .f32⟩
  | .hbm, ⟨3, _⟩ => ⟨S2288x128, .f32⟩
  | .hbm, ⟨4, _⟩ => ⟨S_, .f32⟩
  | .hbm, ⟨5, _⟩ => ⟨S2288x128, .f32⟩
  | .hbm, ⟨6, _⟩ => ⟨S_, .f32⟩
  | .hbm, ⟨7, _⟩ => ⟨S2288x128, .f32⟩
  | .hbm, ⟨8, _⟩ => ⟨S2288x128, .f32⟩
  | .hbm, ⟨9, _⟩ => ⟨S_, .f32⟩
  | .hbm, ⟨10, _⟩ => ⟨S2288x128, .f32⟩
  | .hbm, ⟨11, _⟩ => ⟨S2288x128, .f32⟩
  | .hbm, ⟨12, _⟩ => ⟨S2288x128, .f32⟩
  | .hbm, ⟨13, _⟩ => ⟨S_, .f32⟩
  | .hbm, ⟨14, _⟩ => ⟨S2288x128, .f32⟩
  | .hbm, ⟨15, _⟩ => ⟨S2288x128, .f32⟩
  | .hbm, ⟨16, _⟩ => ⟨S2288x128, .f32⟩
  | .hbm, ⟨17, _⟩ => ⟨S_, .f32⟩
  | .hbm, ⟨18, _⟩ => ⟨S2288x128, .f32⟩
  | .hbm, ⟨19, _⟩ => ⟨S2288x128, .f32⟩
  | .hbm, ⟨20, _⟩ => ⟨S2288x128, .f32⟩
  | .hbm, ⟨21, _⟩ => ⟨S_, .f32⟩
  | .hbm, ⟨22, _⟩ => ⟨S2288x128, .f32⟩
  | .hbm, ⟨23, _⟩ => ⟨S2288x128, .f32⟩
  | .hbm, ⟨24, _⟩ => ⟨S_, .f32⟩
  | .hbm, ⟨25, _⟩ => ⟨S2288x128, .f32⟩
  | .hbm, ⟨26, _⟩ => ⟨S2288x128, .f32⟩
  | .hbm, ⟨27, _⟩ => ⟨S2288x128, .f32⟩
  | .hbm, ⟨28, _⟩ => ⟨S_, .f32⟩
  | .hbm, ⟨29, _⟩ => ⟨S2288x128, .f32⟩
  | .hbm, ⟨30, _⟩ => ⟨S2288x128, .f32⟩
  | .hbm, ⟨31, _⟩ => ⟨S2288x128, .f32⟩
  | .hbm, ⟨32, _⟩ => ⟨S_, .f32⟩
  | .hbm, ⟨33, _⟩ => ⟨S2288x128, .f32⟩
  | .hbm, ⟨34, _⟩ => ⟨S2288x128, .f32⟩
  | .hbm, ⟨35, _⟩ => ⟨S2288x128, .f32⟩
  | .hbm, ⟨36, _⟩ => ⟨S_, .f32⟩
  | .hbm, ⟨37, _⟩ => ⟨S2288x128, .f32⟩
  | .hbm, ⟨38, _⟩ => ⟨S2288x128, .f32⟩
  | _, _ => ⟨S8x2288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v41 : BitVec 1 := Scalar.cmpi .eq arg1 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg1 : BitVec 32 := BitVec.ofNat 32 (i 1).val
  let c0_i32_19 : BitVec 32 := 0#32
  let v44 : BitVec 1 := Scalar.cmpi .sgt arg1 c0_i32_19
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference21Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel22.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S1x1, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v50 : BitVec 1 := Scalar.cmpi .eq arg1 c0_i32
  let v51 : BitVec 32 := Scalar.extui v50
  let c0_i32_17 : BitVec 32 := 0#32
  let v52 : BitVec 1 := Scalar.cmpi .ne v51 c0_i32_17
  v52

def k0_cond2 (i : grid0.Coords) : BitVec 1 :=
  let arg1 : BitVec 32 := BitVec.ofNat 32 (i 1).val
  let c0_i32_18 : BitVec 32 := 0#32
  let v53 : BitVec 1 := Scalar.cmpi .sgt arg1 c0_i32_18
  let v54 : BitVec 32 := Scalar.extui v53
  let c0_i32_19 : BitVec 32 := 0#32
  let v55 : BitVec 1 := Scalar.cmpi .ne v54 c0_i32_19
  v55

def k0_cond3 (i : grid0.Coords) : BitVec 1 :=
  let arg1 : BitVec 32 := BitVec.ofNat 32 (i 1).val
  let c0_i32_24 : BitVec 32 := 0#32
  let v59 : BitVec 1 := Scalar.cmpi .eq arg1 c0_i32_24
  let v60 : BitVec 32 := Scalar.extui v59
  let c0_i32_25 : BitVec 32 := 0#32
  let v61 : BitVec 1 := Scalar.cmpi .ne v60 c0_i32_25
  v61

def k0_cond4 (i : grid0.Coords) : BitVec 1 :=
  let arg1 : BitVec 32 := BitVec.ofNat 32 (i 1).val
  let c0_i32_26 : BitVec 32 := 0#32
  let v62 : BitVec 1 := Scalar.cmpi .sgt arg1 c0_i32_26
  let v63 : BitVec 32 := Scalar.extui v62
  let c0_i32_27 : BitVec 32 := 0#32
  let v64 : BitVec 1 := Scalar.cmpi .ne v63 c0_i32_27
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference22Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x1, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel23.lean ====
abbrev S8x256x2048 : Shape := ⟨3, ![8, 256, 2048]⟩
abbrev S1 : Shape := ⟨1, ![1]⟩
abbrev S2x256x2048 : Shape := ⟨3, ![2, 256, 2048]⟩
abbrev S1x256x2048 : Shape := ⟨3, ![1, 256, 2048]⟩
abbrev S256x2048 : Shape := ⟨2, ![256, 2048]⟩

abbrev nBuf : Space → Nat
  | .hbm => 13
  | .vmem => 15
  | .smem => 1
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x256x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x256x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Kernel23Ideal.lean ====
abbrev S8x256x2048 : Shape := ⟨3, ![8, 256, 2048]⟩
abbrev S1 : Shape := ⟨1, ![1]⟩
abbrev S2x256x2048 : Shape := ⟨3, ![2, 256, 2048]⟩
abbrev S1x256x2048 : Shape := ⟨3, ![1, 256, 2048]⟩
abbrev S256x2048 : Shape := ⟨2, ![256, 2048]⟩

abbrev nBuf : Space → Nat
  | .hbm => 13
  | .vmem => 15
  | .smem => 1
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x256x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x256x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference23Ideal.lean ====
abbrev S8x256x2048 : Shape := ⟨3, ![8, 256, 2048]⟩
abbrev S1 : Shape := ⟨1, ![1]⟩
abbrev S2x256x2048 : Shape := ⟨3, ![2, 256, 2048]⟩
abbrev S8 : Shape := ⟨1, ![8]⟩
abbrev S_ : Shape := ⟨0, ![]⟩
abbrev S8x1x1 : Shape := ⟨3, ![8, 1, 1]⟩
abbrev S256x2048 : Shape := ⟨2, ![256, 2048]⟩
abbrev S1x256x2048 : Shape := ⟨3, ![1, 256, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S1, .i32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8x1x1, .i1⟩
  | .hbm, ⟨15, _⟩ => ⟨S8x256x2048, .i1⟩
  | .hbm, ⟨16, _⟩ => ⟨S8x256x2048, .bf16⟩
  | .hbm, ⟨17, _⟩ => ⟨S8x256x2048, .f32⟩
  | .hbm, ⟨18, _⟩ => ⟨S_, .f32⟩
  | .hbm, ⟨19, _⟩ => ⟨S256x2048, .f32⟩
  | .hbm, ⟨20, _⟩ => ⟨S1x256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S1x256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .f32⟩
  | .hbm, ⟨55, _⟩ => ⟨S256x2048, .f32⟩
  | .hbm, ⟨56, _⟩ => ⟨S_, .f32⟩
  | .hbm, ⟨57, _⟩ => ⟨S256x2048, .f32⟩
  | .hbm, ⟨58, _⟩ => ⟨S256x2048, .f32⟩
  | .hbm, ⟨59, _⟩ => ⟨S1x256x2048, .f32⟩
  | .hbm, ⟨60, _⟩ => ⟨S256x2048, .f32⟩
  | .hbm, ⟨61, _⟩ => ⟨S1x256x2048, .f32⟩
  | .hbm, ⟨62, _⟩ => ⟨S1x256x2048, .f32⟩
  | .hbm, ⟨63, _⟩ => ⟨S2x256x2048, .f32⟩
  | .hbm, ⟨64, _⟩ => ⟨S1x256x2048, .f32⟩
  | .hbm, ⟨65, _⟩ => ⟨S256x2048, .f32⟩
  | .hbm, ⟨66, _⟩ => ⟨S1x256x2048, .f32⟩
  | .hbm, ⟨67, _⟩ => ⟨S1x256x2048, .f32⟩
  | .hbm, ⟨68, _⟩ => ⟨S2x256x2048, .f32⟩
  | .hbm, ⟨69, _⟩ => ⟨S1x256x2048, .f32⟩
  | .hbm, ⟨70, _⟩ => ⟨S256x2048, .f32⟩
  | .hbm, ⟨71, _⟩ => ⟨S1x256x2048, .f32⟩
  | .hbm, ⟨72, _⟩ => ⟨S1x256x2048, .f32⟩
  | .hbm, ⟨73, _⟩ => ⟨S2x256x2048, .f32⟩
  | .hbm, ⟨74, _⟩ => ⟨S1x256x2048, .f32⟩
  | .hbm, ⟨75, _⟩ => ⟨S256x2048, .f32⟩
  | .hbm, ⟨76, _⟩ => ⟨S1x256x2048, .f32⟩
  | .hbm, ⟨77, _⟩ => ⟨S1x256x2048, .f32⟩
  | .hbm, ⟨78, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel24.lean ====
abbrev S8x1282x2048 : Shape := ⟨3, ![8, 1282, 2048]⟩
abbrev S1 : Shape := ⟨1, ![1]⟩
abbrev S2x1282x2048 : Shape := ⟨3, ![2, 1282, 2048]⟩
abbrev S1x1282x256 : Shape := ⟨3, ![1, 1282, 256]⟩
abbrev S1282x256 : Shape := ⟨2, ![1282, 256]⟩

abbrev nBuf : Space → Nat
  | .hbm => 13
  | .vmem => 30
  | .smem => 1
  | _ => 0

abbrev bufTy : (tb : Table) → Fin (tcTables nBuf tb) → BufTy
  | .hbm, ⟨0, _⟩ => ⟨S8x1282x2048, .bf16⟩
  | .hbm, ⟨1, _⟩ => ⟨S8x1282x2048, .bf16⟩
  | .hbm, ⟨2, _⟩ => ⟨S2x1282x2048, .f32⟩
  | .hbm, ⟨3, _⟩ => ⟨S2x1282x2048, .f32⟩
  | .hbm, ⟨4, _⟩ => ⟨S2x1282x2048, .f32⟩
  | .hbm, ⟨5, _⟩ => ⟨S2x1282x2048, .f32⟩
  | .hbm, ⟨6, _⟩ => ⟨S2x1282x2048, .f32⟩
  | .hbm, ⟨7, _⟩ => ⟨S2x1282x2048, .f32⟩
  | .hbm, ⟨8, _⟩ => ⟨S2x1282x2048, .f32⟩
  | .hbm, ⟨9, _⟩ => ⟨S2x1282x2048, .f32⟩
  | .hbm, ⟨10, _⟩ => ⟨S2x1282x2048, .f32⟩
  | .hbm, ⟨11, _⟩ => ⟨S2x1282x2048, .f32⟩
  | .hbm, ⟨12, _⟩ => ⟨S2x1282x2048, .f32⟩
  | .local _ .vmem, ⟨0, _⟩ => ⟨S1x1282x256, .bf16⟩
  | .local _ .vmem, ⟨1, _⟩ => ⟨S1x1282x256, .bf16⟩
  | .local _ .vmem, ⟨2, _⟩ => ⟨S1x1282x256, .bf16⟩
  | .local _ .vmem, ⟨3, _⟩ => ⟨S1x1282x256, .bf16⟩
  | .local _ .vmem, ⟨4, _⟩ => ⟨S1x1282x256, .bf16⟩
  | .local _ .vmem, ⟨5, _⟩ => ⟨S1x1282x256, .bf16⟩
  | .local _ .vmem, ⟨6, _⟩ => ⟨S1x1282x256, .bf16⟩
  | .local _ .vmem, ⟨7, _⟩ => ⟨S1x1282x256, .bf16⟩
  | .local _ .vmem, ⟨8, _⟩ => ⟨S1x1282x256, .bf16⟩
  | .local _ .vmem, ⟨9, _⟩ => ⟨S1x1282x256, .bf16⟩
  | .local _ .vmem, ⟨10, _⟩ => ⟨S1x1282x256, .bf16⟩
  | .local _ .vmem, ⟨11, _⟩ => ⟨S1x1282x256, .bf16⟩
  | .local _ .vmem, ⟨12, _⟩ => ⟨S1x1282x256, .bf16⟩
  | .local _ .vmem, ⟨13, _⟩ => ⟨S1x1282x256, .bf16⟩
  | .local _ .vmem, ⟨14, _⟩ => ⟨S1x1282x256, .bf16⟩
  | .local _ .vmem, ⟨15, _⟩ => ⟨S1x1282x256, .bf16⟩
  | .local _ .vmem, ⟨16, _⟩ => ⟨S1x1282x256, .f32⟩
  | .local _ .vmem, ⟨17, _⟩ => ⟨S1x1282x256, .f32⟩
  | .local _ .vmem, ⟨18, _⟩ => ⟨S1x1282x256, .f32⟩
  | .local _ .vmem, ⟨19, _⟩ => ⟨S1x1282x256, .f32⟩
  | .local _ .vmem, ⟨20, _⟩ => ⟨S1x1282x256, .f32⟩
  | .local _ .vmem, ⟨21, _⟩ => ⟨S1x1282x256, .f32⟩
  | .local _ .vmem, ⟨22, _⟩ => ⟨S1x1282x256, .f32⟩
  | .local _ .vmem, ⟨23, _⟩ => ⟨S1x1282x256, .f32⟩
  | .local _ .vmem, ⟨24, _⟩ => ⟨S1x1282x256, .f32⟩
  | .local _ .vmem, ⟨25, _⟩ => ⟨S1x1282x256, .f32⟩
  | .local _ .vmem, ⟨26, _⟩ => ⟨S1x1282x256, .f32⟩
  | .local _ .vmem, ⟨27, _⟩ => ⟨S1x1282x256, .f32⟩
  | .local _ .vmem, ⟨28, _⟩ => ⟨S1x1282x256, .f32⟩
  | .local _ .vmem, ⟨29, _⟩ => ⟨S1x1282x256, .f32⟩
  | .local _ .smem, ⟨0, _⟩ => ⟨S1, .i32⟩
  | _, _ => ⟨S8x1282x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, c0_i32_0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, c0_i32.toNat, arg0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, c0_i32.toNat, arg0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, c0_i32.toNat, arg0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, c0_i32.toNat, arg0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x1282x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1282x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1282x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1282x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1282x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1282x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1282x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1282x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1282x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1282x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1282x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1282x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1282x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1282x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1282x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel24Ideal.lean ====
abbrev S8x1282x2048 : Shape := ⟨3, ![8, 1282, 2048]⟩
abbrev S1 : Shape := ⟨1, ![1]⟩
abbrev S2x1282x2048 : Shape := ⟨3, ![2, 1282, 2048]⟩
abbrev S1x1282x256 : Shape := ⟨3, ![1, 1282, 256]⟩
abbrev S1282x256 : Shape := ⟨2, ![1282, 256]⟩

abbrev nBuf : Space → Nat
  | .hbm => 13
  | .vmem => 30
  | .smem => 1
  | _ => 0

abbrev bufTy : (tb : Table) → Fin (tcTables nBuf tb) → BufTy
  | .hbm, ⟨0, _⟩ => ⟨S8x1282x2048, .bf16⟩
  | .hbm, ⟨1, _⟩ => ⟨S8x1282x2048, .bf16⟩
  | .hbm, ⟨2, _⟩ => ⟨S2x1282x2048, .f32⟩
  | .hbm, ⟨3, _⟩ => ⟨S2x1282x2048, .f32⟩
  | .hbm, ⟨4, _⟩ => ⟨S2x1282x2048, .f32⟩
  | .hbm, ⟨5, _⟩ => ⟨S2x1282x2048, .f32⟩
  | .hbm, ⟨6, _⟩ => ⟨S2x1282x2048, .f32⟩
  | .hbm, ⟨7, _⟩ => ⟨S2x1282x2048, .f32⟩
  | .hbm, ⟨8, _⟩ => ⟨S2x1282x2048, .f32⟩
  | .hbm, ⟨9, _⟩ => ⟨S2x1282x2048, .f32⟩
  | .hbm, ⟨10, _⟩ => ⟨S2x1282x2048, .f32⟩
  | .hbm, ⟨11, _⟩ => ⟨S2x1282x2048, .f32⟩
  | .hbm, ⟨12, _⟩ => ⟨S2x1282x2048, .f32⟩
  | .local _ .vmem, ⟨0, _⟩ => ⟨S1x1282x256, .bf16⟩
  | .local _ .vmem, ⟨1, _⟩ => ⟨S1x1282x256, .bf16⟩
  | .local _ .vmem, ⟨2, _⟩ => ⟨S1x1282x256, .bf16⟩
  | .local _ .vmem, ⟨3, _⟩ => ⟨S1x1282x256, .bf16⟩
  | .local _ .vmem, ⟨4, _⟩ => ⟨S1x1282x256, .bf16⟩
  | .local _ .vmem, ⟨5, _⟩ => ⟨S1x1282x256, .bf16⟩
  | .local _ .vmem, ⟨6, _⟩ => ⟨S1x1282x256, .bf16⟩
  | .local _ .vmem, ⟨7, _⟩ => ⟨S1x1282x256, .bf16⟩
  | .local _ .vmem, ⟨8, _⟩ => ⟨S1x1282x256, .bf16⟩
  | .local _ .vmem, ⟨9, _⟩ => ⟨S1x1282x256, .bf16⟩
  | .local _ .vmem, ⟨10, _⟩ => ⟨S1x1282x256, .bf16⟩
  | .local _ .vmem, ⟨11, _⟩ => ⟨S1x1282x256, .bf16⟩
  | .local _ .vmem, ⟨12, _⟩ => ⟨S1x1282x256, .bf16⟩
  | .local _ .vmem, ⟨13, _⟩ => ⟨S1x1282x256, .bf16⟩
  | .local _ .vmem, ⟨14, _⟩ => ⟨S1x1282x256, .bf16⟩
  | .local _ .vmem, ⟨15, _⟩ => ⟨S1x1282x256, .bf16⟩
  | .local _ .vmem, ⟨16, _⟩ => ⟨S1x1282x256, .f32⟩
  | .local _ .vmem, ⟨17, _⟩ => ⟨S1x1282x256, .f32⟩
  | .local _ .vmem, ⟨18, _⟩ => ⟨S1x1282x256, .f32⟩
  | .local _ .vmem, ⟨19, _⟩ => ⟨S1x1282x256, .f32⟩
  | .local _ .vmem, ⟨20, _⟩ => ⟨S1x1282x256, .f32⟩
  | .local _ .vmem, ⟨21, _⟩ => ⟨S1x1282x256, .f32⟩
  | .local _ .vmem, ⟨22, _⟩ => ⟨S1x1282x256, .f32⟩
  | .local _ .vmem, ⟨23, _⟩ => ⟨S1x1282x256, .f32⟩
  | .local _ .vmem, ⟨24, _⟩ => ⟨S1x1282x256, .f32⟩
  | .local _ .vmem, ⟨25, _⟩ => ⟨S1x1282x256, .f32⟩
  | .local _ .vmem, ⟨26, _⟩ => ⟨S1x1282x256, .f32⟩
  | .local _ .vmem, ⟨27, _⟩ => ⟨S1x1282x256, .f32⟩
  | .local _ .vmem, ⟨28, _⟩ => ⟨S1x1282x256, .f32⟩
  | .local _ .vmem, ⟨29, _⟩ => ⟨S1x1282x256, .f32⟩
  | .local _ .smem, ⟨0, _⟩ => ⟨S1, .i32⟩
  | _, _ => ⟨S8x1282x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, c0_i32_0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, c0_i32.toNat, arg0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, c0_i32.toNat, arg0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, c0_i32.toNat, arg0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, c0_i32.toNat, arg0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x1282x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1282x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1282x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1282x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1282x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1282x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1282x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1282x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1282x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1282x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1282x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1282x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1282x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1282x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1282x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference24Ideal.lean ====
abbrev S8x1282x2048 : Shape := ⟨3, ![8, 1282, 2048]⟩
abbrev S1 : Shape := ⟨1, ![1]⟩
abbrev S2x1282x2048 : Shape := ⟨3, ![2, 1282, 2048]⟩
abbrev S8 : Shape := ⟨1, ![8]⟩
abbrev S_ : Shape := ⟨0, ![]⟩
abbrev S8x1x1 : Shape := ⟨3, ![8, 1, 1]⟩
abbrev S1282x2048 : Shape := ⟨2, ![1282, 2048]⟩
abbrev S1x1282x2048 : Shape := ⟨3, ![1, 1282, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8x1282x2048, .bf16⟩
  | .hbm, ⟨1, _⟩ => ⟨S8x1282x2048, .bf16⟩
  | .hbm, ⟨2, _⟩ => ⟨S1, .i32⟩
  | .hbm, ⟨3, _⟩ => ⟨S2x1282x2048, .f32⟩
  | .hbm, ⟨4, _⟩ => ⟨S2x1282x2048, .f32⟩
  | .hbm, ⟨5, _⟩ => ⟨S2x1282x2048, .f32⟩
  | .hbm, ⟨6, _⟩ => ⟨S2x1282x2048, .f32⟩
  | .hbm, ⟨7, _⟩ => ⟨S2x1282x2048, .f32⟩
  | .hbm, ⟨8, _⟩ => ⟨S2x1282x2048, .f32⟩
  | .hbm, ⟨9, _⟩ => ⟨S2x1282x2048, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8x1x1, .i1⟩
  | .hbm, ⟨15, _⟩ => ⟨S8x1282x2048, .i1⟩
  | .hbm, ⟨16, _⟩ => ⟨S8x1282x2048, .bf16⟩
  | .hbm, ⟨17, _⟩ => ⟨S8x1282x2048, .f32⟩
  | .hbm, ⟨18, _⟩ => ⟨S_, .f32⟩
  | .hbm, ⟨19, _⟩ => ⟨S1282x2048, .f32⟩
  | .hbm, ⟨20, _⟩ => ⟨S1x1282x2048, .f32⟩
  | .hbm, ⟨21, _⟩ => ⟨S1282x2048, .f32⟩
  | .hbm, ⟨22, _⟩ => ⟨S_, .f32⟩
  | .hbm, ⟨23, _⟩ => ⟨S1282x2048, .f32⟩
  | .hbm, ⟨24, _⟩ => ⟨S1282x2048, .f32⟩
  | .hbm, ⟨25, _⟩ => ⟨S_, .f32⟩
  | .hbm, ⟨26, _⟩ => ⟨S1282x2048, .f32⟩
  | .hbm, ⟨27, _⟩ => ⟨S1282x2048, .f32⟩
  | .hbm, ⟨28, _⟩ => ⟨S1282x2048, .f32⟩
  | .hbm, ⟨29, _⟩ => ⟨S1x1282x2048, .f32⟩
  | .hbm, ⟨30, _⟩ => ⟨S1282x2048, .f32⟩
  | .hbm, ⟨31, _⟩ => ⟨S_, .f32⟩
  | .hbm, ⟨32, _⟩ => ⟨S1282x2048, .f32⟩
  | .hbm, ⟨33, _⟩ => ⟨S1282x2048, .f32⟩
  | .hbm, ⟨34, _⟩ => ⟨S1282x2048, .f32⟩
  | .hbm, ⟨35, _⟩ => ⟨S_, .f32⟩
  | .hbm, ⟨36, _⟩ => ⟨S1282x2048, .f32⟩
  | .hbm, ⟨37, _⟩ => ⟨S1282x2048, .f32⟩
  | .hbm, ⟨38, _⟩ => ⟨S1282x2048, .f32⟩
  | .hbm, ⟨39, _⟩ => ⟨S_, .f32⟩
  | .hbm, ⟨40, _⟩ => ⟨S1282x2048, .f32⟩
  | .hbm, ⟨41, _⟩ => ⟨S1282x2048, .f32⟩
  | .hbm, ⟨42, _⟩ => ⟨S_, .f32⟩
  | .hbm, ⟨43, _⟩ => ⟨S1282x2048, .f32⟩
  | .hbm, ⟨44, _⟩ => ⟨S1282x2048, .f32⟩
  | .hbm, ⟨45, _⟩ => ⟨S1282x2048, .f32⟩
  | .hbm, ⟨46, _⟩ => ⟨S_, .f32⟩
  | .hbm, ⟨47, _⟩ => ⟨S1282x2048, .f32⟩
  | .hbm, ⟨48, _⟩ => ⟨S1282x2048, .f32⟩
  | .hbm, ⟨49, _⟩ => ⟨S1282x2048, .f32⟩
  | .hbm, ⟨50, _⟩ => ⟨S1x1282x2048, .f32⟩
  | .hbm, ⟨51, _⟩ => ⟨S1282x2048, .f32⟩
  | .hbm, ⟨52, _⟩ => ⟨S_, .f32⟩
  | .hbm, ⟨53, _⟩ => ⟨S1282x2048, .f32⟩
  | .hbm, ⟨54, _⟩ => ⟨S1282x2048, .f32⟩
  | .hbm, ⟨55, _⟩ => ⟨S1282x2048, .f32⟩
  | .hbm, ⟨56, _⟩ => ⟨S_, .f32⟩
  | .hbm, ⟨57, _⟩ => ⟨S1282x2048, .f32⟩
  | .hbm, ⟨58, _⟩ => ⟨S1282x2048, .f32⟩
  | .hbm, ⟨59, _⟩ => ⟨S1x1282x2048, .f32⟩
  | .hbm, ⟨60, _⟩ => ⟨S1282x2048, .f32⟩
  | .hbm, ⟨61, _⟩ => ⟨S1x1282x2048, .f32⟩
  | .hbm, ⟨62, _⟩ => ⟨S1x1282x2048, .f32⟩
  | .hbm, ⟨63, _⟩ => ⟨S2x1282x2048, .f32⟩
  | .hbm, ⟨64, _⟩ => ⟨S1x1282x2048, .f32⟩
  | .hbm, ⟨65, _⟩ => ⟨S1282x2048, .f32⟩
  | .hbm, ⟨66, _⟩ => ⟨S1x1282x2048, .f32⟩
  | .hbm, ⟨67, _⟩ => ⟨S1x1282x2048, .f32⟩
  | .hbm, ⟨68, _⟩ => ⟨S2x1282x2048, .f32⟩
  | .hbm, ⟨69, _⟩ => ⟨S1x1282x2048, .f32⟩
  | .hbm, ⟨70, _⟩ => ⟨S1282x2048, .f32⟩
  | .hbm, ⟨71, _⟩ => ⟨S1x1282x2048, .f32⟩
  | .hbm, ⟨72, _⟩ => ⟨S1x1282x2048, .f32⟩
  | .hbm, ⟨73, _⟩ => ⟨S2x1282x2048, .f32⟩
  | .hbm, ⟨74, _⟩ => ⟨S1x1282x2048, .f32⟩
  | .hbm, ⟨75, _⟩ => ⟨S1282x2048, .f32⟩
  | .hbm, ⟨76, _⟩ => ⟨S1x1282x2048, .f32⟩
  | .hbm, ⟨77, _⟩ => ⟨S1x1282x2048, .f32⟩
  | .hbm, ⟨78, _⟩ => ⟨S2x1282x2048, .f32⟩
  | _, _ => ⟨S8x1282x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel25.lean ====
abbrev S8x1024x256 : Shape := ⟨3, ![8, 1024, 256]⟩
abbrev S1 : Shape := ⟨1, ![1]⟩
abbrev S2x1024x256 : Shape := ⟨3, ![2, 1024, 256]⟩
abbrev S1x256x256 : Shape := ⟨3, ![1, 256, 256]⟩
abbrev S256x256 : Shape := ⟨2, ![256, 256]⟩

abbrev nBuf : Space → Nat
  | .hbm => 13
  | .vmem => 30
  | .smem => 1
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .smem, ⟨0, _⟩ => ⟨S1, .i32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel25Ideal.lean ====
abbrev S8x1024x256 : Shape := ⟨3, ![8, 1024, 256]⟩
abbrev S1 : Shape := ⟨1, ![1]⟩
abbrev S2x1024x256 : Shape := ⟨3, ![2, 1024, 256]⟩
abbrev S1x256x256 : Shape := ⟨3, ![1, 256, 256]⟩
abbrev S256x256 : Shape := ⟨2, ![256, 256]⟩

abbrev nBuf : Space → Nat
  | .hbm => 13
  | .vmem => 30
  | .smem => 1
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .smem, ⟨0, _⟩ => ⟨S1, .i32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference25Ideal.lean ====
abbrev S8x1024x256 : Shape := ⟨3, ![8, 1024, 256]⟩
abbrev S1 : Shape := ⟨1, ![1]⟩
abbrev S2x1024x256 : Shape := ⟨3, ![2, 1024, 256]⟩
abbrev S8 : Shape := ⟨1, ![8]⟩
abbrev S_ : Shape := ⟨0, ![]⟩
abbrev S8x1x1 : Shape := ⟨3, ![8, 1, 1]⟩
abbrev S1024x256 : Shape := ⟨2, ![1024, 256]⟩
abbrev S1x1024x256 : Shape := ⟨3, ![1, 1024, 256]⟩

abbrev nBuf : Space → Nat
  | .hbm => 79
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S1, .i32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8x1x1, .i1⟩
  | .hbm, ⟨15, _⟩ => ⟨S8x1024x256, .i1⟩
  | .hbm, ⟨16, _⟩ => ⟨S8x1024x256, .bf16⟩
  | .hbm, ⟨17, _⟩ => ⟨S8x1024x256, .f32⟩
  | .hbm, ⟨18, _⟩ => ⟨S_, .f32⟩
  | .hbm, ⟨19, _⟩ => ⟨S1024x256, .f32⟩
  | .hbm, ⟨20, _⟩ => ⟨S1x1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S1x1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S1x1024x256, .f32⟩
  | .hbm, ⟨51, _⟩ => ⟨S1024x256, .f32⟩
  | .hbm, ⟨52, _⟩ => ⟨S_, .f32⟩
  | .hbm, ⟨53, _⟩ => ⟨S1024x256, .f32⟩
  | .hbm, ⟨54, _⟩ => ⟨S1024x256, .f32⟩
  | .hbm, ⟨55, _⟩ => ⟨S1024x256, .f32⟩
  | .hbm, ⟨56, _⟩ => ⟨S_, .f32⟩
  | .hbm, ⟨57, _⟩ => ⟨S1024x256, .f32⟩
  | .hbm, ⟨58, _⟩ => ⟨S1024x256, .f32⟩
  | .hbm, ⟨59, _⟩ => ⟨S1x1024x256, .f32⟩
  | .hbm, ⟨60, _⟩ => ⟨S1024x256, .f32⟩
  | .hbm, ⟨61, _⟩ => ⟨S1x1024x256, .f32⟩
  | .hbm, ⟨62, _⟩ => ⟨S1x1024x256, .f32⟩
  | .hbm, ⟨63, _⟩ => ⟨S2x1024x256, .f32⟩
  | .hbm, ⟨64, _⟩ => ⟨S1x1024x256, .f32⟩
  | .hbm, ⟨65, _⟩ => ⟨S1024x256, .f32⟩
  | .hbm, ⟨66, _⟩ => ⟨S1x1024x256, .f32⟩
  | .hbm, ⟨67, _⟩ => ⟨S1x1024x256, .f32⟩
  | .hbm, ⟨68, _⟩ => ⟨S2x1024x256, .f32⟩
  | .hbm, ⟨69, _⟩ => ⟨S1x1024x256, .f32⟩
  | .hbm, ⟨70, _⟩ => ⟨S1024x256, .f32⟩
  | .hbm, ⟨71, _⟩ => ⟨S1x1024x256, .f32⟩
  | .hbm, ⟨72, _⟩ => ⟨S1x1024x256, .f32⟩
  | .hbm, ⟨73, _⟩ => ⟨S2x1024x256, .f32⟩
  | .hbm, ⟨74, _⟩ => ⟨S1x1024x256, .f32⟩
  | .hbm, ⟨75, _⟩ => ⟨S1024x256, .f32⟩
  | .hbm, ⟨76, _⟩ => ⟨S1x1024x256, .f32⟩
  | .hbm, ⟨77, _⟩ => ⟨S1x1024x256, .f32⟩
  | .hbm, ⟨78, _⟩ => ⟨S2x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel26.lean ====
abbrev S8x704x2048 : Shape := ⟨3, ![8, 704, 2048]⟩
abbrev S1 : Shape := ⟨1, ![1]⟩
abbrev S2x704x2048 : Shape := ⟨3, ![2, 704, 2048]⟩
abbrev S1x176x2048 : Shape := ⟨3, ![1, 176, 2048]⟩
abbrev S176x2048 : Shape := ⟨2, ![176, 2048]⟩

abbrev nBuf : Space → Nat
  | .hbm => 13
  | .vmem => 30
  | .smem => 1
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S1x176x2048, .bf16⟩
  | .local _ .vmem, ⟨3, _⟩ => ⟨S1x176x2048, .bf16⟩
  | .local _ .vmem, ⟨4, _⟩ => ⟨S1x176x2048, .bf16⟩
  | .local _ .vmem, ⟨5, _⟩ => ⟨S1x176x2048, .bf16⟩
  | .local _ .vmem, ⟨6, _⟩ => ⟨S1x176x2048, .bf16⟩
  | .local _ .vmem, ⟨7, _⟩ => ⟨S1x176x2048, .bf16⟩
  | .local _ .vmem, ⟨8, _⟩ => ⟨S1x176x2048, .bf16⟩
  | .local _ .vmem, ⟨9, _⟩ => ⟨S1x176x2048, .bf16⟩
  | .local _ .vmem, ⟨10, _⟩ => ⟨S1x176x2048, .bf16⟩
  | .local _ .vmem, ⟨11, _⟩ => ⟨S1x176x2048, .bf16⟩
  | .local _ .vmem, ⟨12, _⟩ => ⟨S1x176x2048, .bf16⟩
  | .local _ .vmem, ⟨13, _⟩ => ⟨S1x176x2048, .bf16⟩
  | .local _ .vmem, ⟨14, _⟩ => ⟨S1x176x2048, .bf16⟩
  | .local _ .vmem, ⟨15, _⟩ => ⟨S1x176x2048, .bf16⟩
  | .local _ .vmem, ⟨16, _⟩ => ⟨S1x176x2048, .f32⟩
  | .local _ .vmem, ⟨17, _⟩ => ⟨S1x176x2048, .f32⟩
  | .local _ .vmem, ⟨18, _⟩ => ⟨S1x176x2048, .f32⟩
  | .local _ .vmem, ⟨19, _⟩ => ⟨S1x176x2048, .f32⟩
  | .local _ .vmem, ⟨20, _⟩ => ⟨S1x176x2048, .f32⟩
  | .local _ .vmem, ⟨21, _⟩ => ⟨S1x176x2048, .f32⟩
  | .local _ .vmem, ⟨22, _⟩ => ⟨S1x176x2048, .f32⟩
  | .local _ .vmem, ⟨23, _⟩ => ⟨S1x176x2048, .f32⟩
  | .local _ .vmem, ⟨24, _⟩ => ⟨S1x176x2048, .f32⟩
  | .local _ .vmem, ⟨25, _⟩ => ⟨S1x176x2048, .f32⟩
  | .local _ .vmem, ⟨26, _⟩ => ⟨S1x176x2048, .f32⟩
  | .local _ .vmem, ⟨27, _⟩ => ⟨S1x176x2048, .f32⟩
  | .local _ .vmem, ⟨28, _⟩ => ⟨S1x176x2048, .f32⟩
  | .local _ .vmem, ⟨29, _⟩ => ⟨S1x176x2048, .f32⟩
  | .local _ .smem, ⟨0, _⟩ => ⟨S1, .i32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x176x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x176x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x176x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel26Ideal.lean ====
abbrev S8x704x2048 : Shape := ⟨3, ![8, 704, 2048]⟩
abbrev S1 : Shape := ⟨1, ![1]⟩
abbrev S2x704x2048 : Shape := ⟨3, ![2, 704, 2048]⟩
abbrev S1x176x2048 : Shape := ⟨3, ![1, 176, 2048]⟩
abbrev S176x2048 : Shape := ⟨2, ![176, 2048]⟩

abbrev nBuf : Space → Nat
  | .hbm => 13
  | .vmem => 30
  | .smem => 1
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S1x176x2048, .bf16⟩
  | .local _ .vmem, ⟨3, _⟩ => ⟨S1x176x2048, .bf16⟩
  | .local _ .vmem, ⟨4, _⟩ => ⟨S1x176x2048, .bf16⟩
  | .local _ .vmem, ⟨5, _⟩ => ⟨S1x176x2048, .bf16⟩
  | .local _ .vmem, ⟨6, _⟩ => ⟨S1x176x2048, .bf16⟩
  | .local _ .vmem, ⟨7, _⟩ => ⟨S1x176x2048, .bf16⟩
  | .local _ .vmem, ⟨8, _⟩ => ⟨S1x176x2048, .bf16⟩
  | .local _ .vmem, ⟨9, _⟩ => ⟨S1x176x2048, .bf16⟩
  | .local _ .vmem, ⟨10, _⟩ => ⟨S1x176x2048, .bf16⟩
  | .local _ .vmem, ⟨11, _⟩ => ⟨S1x176x2048, .bf16⟩
  | .local _ .vmem, ⟨12, _⟩ => ⟨S1x176x2048, .bf16⟩
  | .local _ .vmem, ⟨13, _⟩ => ⟨S1x176x2048, .bf16⟩
  | .local _ .vmem, ⟨14, _⟩ => ⟨S1x176x2048, .bf16⟩
  | .local _ .vmem, ⟨15, _⟩ => ⟨S1x176x2048, .bf16⟩
  | .local _ .vmem, ⟨16, _⟩ => ⟨S1x176x2048, .f32⟩
  | .local _ .vmem, ⟨17, _⟩ => ⟨S1x176x2048, .f32⟩
  | .local _ .vmem, ⟨18, _⟩ => ⟨S1x176x2048, .f32⟩
  | .local _ .vmem, ⟨19, _⟩ => ⟨S1x176x2048, .f32⟩
  | .local _ .vmem, ⟨20, _⟩ => ⟨S1x176x2048, .f32⟩
  | .local _ .vmem, ⟨21, _⟩ => ⟨S1x176x2048, .f32⟩
  | .local _ .vmem, ⟨22, _⟩ => ⟨S1x176x2048, .f32⟩
  | .local _ .vmem, ⟨23, _⟩ => ⟨S1x176x2048, .f32⟩
  | .local _ .vmem, ⟨24, _⟩ => ⟨S1x176x2048, .f32⟩
  | .local _ .vmem, ⟨25, _⟩ => ⟨S1x176x2048, .f32⟩
  | .local _ .vmem, ⟨26, _⟩ => ⟨S1x176x2048, .f32⟩
  | .local _ .vmem, ⟨27, _⟩ => ⟨S1x176x2048, .f32⟩
  | .local _ .vmem, ⟨28, _⟩ => ⟨S1x176x2048, .f32⟩
  | .local _ .vmem, ⟨29, _⟩ => ⟨S1x176x2048, .f32⟩
  | .local _ .smem, ⟨0, _⟩ => ⟨S1, .i32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x176x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x176x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x176x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference26Ideal.lean ====
abbrev S8x704x2048 : Shape := ⟨3, ![8, 704, 2048]⟩
abbrev S1 : Shape := ⟨1, ![1]⟩
abbrev S2x704x2048 : Shape := ⟨3, ![2, 704, 2048]⟩
abbrev S8 : Shape := ⟨1, ![8]⟩
abbrev S_ : Shape := ⟨0, ![]⟩
abbrev S8x1x1 : Shape := ⟨3, ![8, 1, 1]⟩
abbrev S704x2048 : Shape := ⟨2, ![704, 2048]⟩
abbrev S1x704x2048 : Shape := ⟨3, ![1, 704, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S1, .i32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8x1x1, .i1⟩
  | .hbm, ⟨15, _⟩ => ⟨S8x704x2048, .i1⟩
  | .hbm, ⟨16, _⟩ => ⟨S8x704x2048, .bf16⟩
  | .hbm, ⟨17, _⟩ => ⟨S8x704x2048, .f32⟩
  | .hbm, ⟨18, _⟩ => ⟨S_, .f32⟩
  | .hbm, ⟨19, _⟩ => ⟨S704x2048, .f32⟩
  | .hbm, ⟨20, _⟩ => ⟨S1x704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S1x704x2048, .f32⟩
  | .hbm, ⟨30, _⟩ => ⟨S704x2048, .f32⟩
  | .hbm, ⟨31, _⟩ => ⟨S_, .f32⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S_, .f32⟩
  | .hbm, ⟨43, _⟩ => ⟨S704x2048, .f32⟩
  | .hbm, ⟨44, _⟩ => ⟨S704x2048, .f32⟩
  | .hbm, ⟨45, _⟩ => ⟨S704x2048, .f32⟩
  | .hbm, ⟨46, _⟩ => ⟨S_, .f32⟩
  | .hbm, ⟨47, _⟩ => ⟨S704x2048, .f32⟩
  | .hbm, ⟨48, _⟩ => ⟨S704x2048, .f32⟩
  | .hbm, ⟨49, _⟩ => ⟨S704x2048, .f32⟩
  | .hbm, ⟨50, _⟩ => ⟨S1x704x2048, .f32⟩
  | .hbm, ⟨51, _⟩ => ⟨S704x2048, .f32⟩
  | .hbm, ⟨52, _⟩ => ⟨S_, .f32⟩
  | .hbm, ⟨53, _⟩ => ⟨S704x2048, .f32⟩
  | .hbm, ⟨54, _⟩ => ⟨S704x2048, .f32⟩
  | .hbm, ⟨55, _⟩ => ⟨S704x2048, .f32⟩
  | .hbm, ⟨56, _⟩ => ⟨S_, .f32⟩
  | .hbm, ⟨57, _⟩ => ⟨S704x2048, .f32⟩
  | .hbm, ⟨58, _⟩ => ⟨S704x2048, .f32⟩
  | .hbm, ⟨59, _⟩ => ⟨S1x704x2048, .f32⟩
  | .hbm, ⟨60, _⟩ => ⟨S704x2048, .f32⟩
  | .hbm, ⟨61, _⟩ => ⟨S1x704x2048, .f32⟩
  | .hbm, ⟨62, _⟩ => ⟨S1x704x2048, .f32⟩
  | .hbm, ⟨63, _⟩ => ⟨S2x704x2048, .f32⟩
  | .hbm, ⟨64, _⟩ => ⟨S1x704x2048, .f32⟩
  | .hbm, ⟨65, _⟩ => ⟨S704x2048, .f32⟩
  | .hbm, ⟨66, _⟩ => ⟨S1x704x2048, .f32⟩
  | .hbm, ⟨67, _⟩ => ⟨S1x704x2048, .f32⟩
  | .hbm, ⟨68, _⟩ => ⟨S2x704x2048, .f32⟩
  | .hbm, ⟨69, _⟩ => ⟨S1x704x2048, .f32⟩
  | .hbm, ⟨70, _⟩ => ⟨S704x2048, .f32⟩
  | .hbm, ⟨71, _⟩ => ⟨S1x704x2048, .f32⟩
  | .hbm, ⟨72, _⟩ => ⟨S1x704x2048, .f32⟩
  | .hbm, ⟨73, _⟩ => ⟨S2x704x2048, .f32⟩
  | .hbm, ⟨74, _⟩ => ⟨S1x704x2048, .f32⟩
  | .hbm, ⟨75, _⟩ => ⟨S704x2048, .f32⟩
  | .hbm, ⟨76, _⟩ => ⟨S1x704x2048, .f32⟩
  | .hbm, ⟨77, _⟩ => ⟨S1x704x2048, .f32⟩
  | .hbm, ⟨78, _⟩ => ⟨S2x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel27.lean ====
abbrev S8x4x384 : Shape := ⟨3, ![8, 4, 384]⟩
abbrev S1 : Shape := ⟨1, ![1]⟩
abbrev S2x4x384 : Shape := ⟨3, ![2, 4, 384]⟩
abbrev S1x4x128 : Shape := ⟨3, ![1, 4, 128]⟩
abbrev S4x128 : Shape := ⟨2, ![4, 128]⟩

abbrev nBuf : Space → Nat
  | .hbm => 13
  | .vmem => 30
  | .smem => 1
  | _ => 0

abbrev bufTy : (tb : Table) → Fin (tcTables nBuf tb) → BufTy
  | .hbm, ⟨0, _⟩ => ⟨S8x4x384, .f32⟩
  | .hbm, ⟨1, _⟩ => ⟨S8x4x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S2x4x384, .f32⟩
  | .hbm, ⟨12, _⟩ => ⟨S2x4x384, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | .local _ .vmem, ⟨8, _⟩ => ⟨S1x4x128, .f32⟩
  | .local _ .vmem, ⟨9, _⟩ => ⟨S1x4x128, .f32⟩
  | .local _ .vmem, ⟨10, _⟩ => ⟨S1x4x128, .f32⟩
  | .local _ .vmem, ⟨11, _⟩ => ⟨S1x4x128, .f32⟩
  | .local _ .vmem, ⟨12, _⟩ => ⟨S1x4x128, .f32⟩
  | .local _ .vmem, ⟨13, _⟩ => ⟨S1x4x128, .f32⟩
  | .local _ .vmem, ⟨14, _⟩ => ⟨S1x4x128, .f32⟩
  | .local _ .vmem, ⟨15, _⟩ => ⟨S1x4x128, .f32⟩
  | .local _ .vmem, ⟨16, _⟩ => ⟨S1x4x128, .f32⟩
  | .local _ .vmem, ⟨17, _⟩ => ⟨S1x4x128, .f32⟩
  | .local _ .vmem, ⟨18, _⟩ => ⟨S1x4x128, .f32⟩
  | .local _ .vmem, ⟨19, _⟩ => ⟨S1x4x128, .f32⟩
  | .local _ .vmem, ⟨20, _⟩ => ⟨S1x4x128, .f32⟩
  | .local _ .vmem, ⟨21, _⟩ => ⟨S1x4x128, .f32⟩
  | .local _ .vmem, ⟨22, _⟩ => ⟨S1x4x128, .f32⟩
  | .local _ .vmem, ⟨23, _⟩ => ⟨S1x4x128, .f32⟩
  | .local _ .vmem, ⟨24, _⟩ => ⟨S1x4x128, .f32⟩
  | .local _ .vmem, ⟨25, _⟩ => ⟨S1x4x128, .f32⟩
  | .local _ .vmem, ⟨26, _⟩ => ⟨S1x4x128, .f32⟩
  | .local _ .vmem, ⟨27, _⟩ => ⟨S1x4x128, .f32⟩
  | .local _ .vmem, ⟨28, _⟩ => ⟨S1x4x128, .f32⟩
  | .local _ .vmem, ⟨29, _⟩ => ⟨S1x4x128, .f32⟩
  | .local _ .smem, ⟨0, _⟩ => ⟨S1, .i32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, c0_i32_0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, c0_i32.toNat, arg0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, c0_i32.toNat, arg0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, c0_i32.toNat, arg0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, c0_i32.toNat, arg0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel27Ideal.lean ====
abbrev S8x4x384 : Shape := ⟨3, ![8, 4, 384]⟩
abbrev S1 : Shape := ⟨1, ![1]⟩
abbrev S2x4x384 : Shape := ⟨3, ![2, 4, 384]⟩
abbrev S1x4x128 : Shape := ⟨3, ![1, 4, 128]⟩
abbrev S4x128 : Shape := ⟨2, ![4, 128]⟩

abbrev nBuf : Space → Nat
  | .hbm => 13
  | .vmem => 30
  | .smem => 1
  | _ => 0

abbrev bufTy : (tb : Table) → Fin (tcTables nBuf tb) → BufTy
  | .hbm, ⟨0, _⟩ => ⟨S8x4x384, .f32⟩
  | .hbm, ⟨1, _⟩ => ⟨S8x4x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S2x4x384, .f32⟩
  | .hbm, ⟨12, _⟩ => ⟨S2x4x384, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | .local _ .vmem, ⟨8, _⟩ => ⟨S1x4x128, .f32⟩
  | .local _ .vmem, ⟨9, _⟩ => ⟨S1x4x128, .f32⟩
  | .local _ .vmem, ⟨10, _⟩ => ⟨S1x4x128, .f32⟩
  | .local _ .vmem, ⟨11, _⟩ => ⟨S1x4x128, .f32⟩
  | .local _ .vmem, ⟨12, _⟩ => ⟨S1x4x128, .f32⟩
  | .local _ .vmem, ⟨13, _⟩ => ⟨S1x4x128, .f32⟩
  | .local _ .vmem, ⟨14, _⟩ => ⟨S1x4x128, .f32⟩
  | .local _ .vmem, ⟨15, _⟩ => ⟨S1x4x128, .f32⟩
  | .local _ .vmem, ⟨16, _⟩ => ⟨S1x4x128, .f32⟩
  | .local _ .vmem, ⟨17, _⟩ => ⟨S1x4x128, .f32⟩
  | .local _ .vmem, ⟨18, _⟩ => ⟨S1x4x128, .f32⟩
  | .local _ .vmem, ⟨19, _⟩ => ⟨S1x4x128, .f32⟩
  | .local _ .vmem, ⟨20, _⟩ => ⟨S1x4x128, .f32⟩
  | .local _ .vmem, ⟨21, _⟩ => ⟨S1x4x128, .f32⟩
  | .local _ .vmem, ⟨22, _⟩ => ⟨S1x4x128, .f32⟩
  | .local _ .vmem, ⟨23, _⟩ => ⟨S1x4x128, .f32⟩
  | .local _ .vmem, ⟨24, _⟩ => ⟨S1x4x128, .f32⟩
  | .local _ .vmem, ⟨25, _⟩ => ⟨S1x4x128, .f32⟩
  | .local _ .vmem, ⟨26, _⟩ => ⟨S1x4x128, .f32⟩
  | .local _ .vmem, ⟨27, _⟩ => ⟨S1x4x128, .f32⟩
  | .local _ .vmem, ⟨28, _⟩ => ⟨S1x4x128, .f32⟩
  | .local _ .vmem, ⟨29, _⟩ => ⟨S1x4x128, .f32⟩
  | .local _ .smem, ⟨0, _⟩ => ⟨S1, .i32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, c0_i32_0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, c0_i32.toNat, arg0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, c0_i32.toNat, arg0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, c0_i32.toNat, arg0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, c0_i32.toNat, arg0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference27Ideal.lean ====
abbrev S8x4x384 : Shape := ⟨3, ![8, 4, 384]⟩
abbrev S1 : Shape := ⟨1, ![1]⟩
abbrev S2x4x384 : Shape := ⟨3, ![2, 4, 384]⟩
abbrev S8 : Shape := ⟨1, ![8]⟩
abbrev S_ : Shape := ⟨0, ![]⟩
abbrev S8x1x1 : Shape := ⟨3, ![8, 1, 1]⟩
abbrev S4x384 : Shape := ⟨2, ![4, 384]⟩
abbrev S1x4x384 : Shape := ⟨3, ![1, 4, 384]⟩

abbrev nBuf : Space → Nat
  | .hbm => 78
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S8x4x384, .f32⟩
  | .hbm, ⟨2, _⟩ => ⟨S1, .i32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .hbm, ⟨9, _⟩ => ⟨S2x4x384, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8x1x1, .i1⟩
  | .hbm, ⟨15, _⟩ => ⟨S8x4x384, .i1⟩
  | .hbm, ⟨16, _⟩ => ⟨S8x4x384, .f32⟩
  | .hbm, ⟨17, _⟩ => ⟨S_, .f32⟩
  | .hbm, ⟨18, _⟩ => ⟨S4x384, .f32⟩
  | .hbm, ⟨19, _⟩ => ⟨S1x4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S1x4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | .hbm, ⟨37, _⟩ => ⟨S4x384, .f32⟩
  | .hbm, ⟨38, _⟩ => ⟨S_, .f32⟩
  | .hbm, ⟨39, _⟩ => ⟨S4x384, .f32⟩
  | .hbm, ⟨40, _⟩ => ⟨S4x384, .f32⟩
  | .hbm, ⟨41, _⟩ => ⟨S_, .f32⟩
  | .hbm, ⟨42, _⟩ => ⟨S4x384, .f32⟩
  | .hbm, ⟨43, _⟩ => ⟨S4x384, .f32⟩
  | .hbm, ⟨44, _⟩ => ⟨S4x384, .f32⟩
  | .hbm, ⟨45, _⟩ => ⟨S_, .f32⟩
  | .hbm, ⟨46, _⟩ => ⟨S4x384, .f32⟩
  | .hbm, ⟨47, _⟩ => ⟨S4x384, .f32⟩
  | .hbm, ⟨48, _⟩ => ⟨S4x384, .f32⟩
  | .hbm, ⟨49, _⟩ => ⟨S1x4x384, .f32⟩
  | .hbm, ⟨50, _⟩ => ⟨S4x384, .f32⟩
  | .hbm, ⟨51, _⟩ => ⟨S_, .f32⟩
  | .hbm, ⟨52, _⟩ => ⟨S4x384, .f32⟩
  | .hbm, ⟨53, _⟩ => ⟨S4x384, .f32⟩
  | .hbm, ⟨54, _⟩ => ⟨S4x384, .f32⟩
  | .hbm, ⟨55, _⟩ => ⟨S_, .f32⟩
  | .hbm, ⟨56, _⟩ => ⟨S4x384, .f32⟩
  | .hbm, ⟨57, _⟩ => ⟨S4x384, .f32⟩
  | .hbm, ⟨58, _⟩ => ⟨S1x4x384, .f32⟩
  | .hbm, ⟨59, _⟩ => ⟨S4x384, .f32⟩
  | .hbm, ⟨60, _⟩ => ⟨S1x4x384, .f32⟩
  | .hbm, ⟨61, _⟩ => ⟨S1x4x384, .f32⟩
  | .hbm, ⟨62, _⟩ => ⟨S2x4x384, .f32⟩
  | .hbm, ⟨63, _⟩ => ⟨S1x4x384, .f32⟩
  | .hbm, ⟨64, _⟩ => ⟨S4x384, .f32⟩
  | .hbm, ⟨65, _⟩ => ⟨S1x4x384, .f32⟩
  | .hbm, ⟨66, _⟩ => ⟨S1x4x384, .f32⟩
  | .hbm, ⟨67, _⟩ => ⟨S2x4x384, .f32⟩
  | .hbm, ⟨68, _⟩ => ⟨S1x4x384, .f32⟩
  | .hbm, ⟨69, _⟩ => ⟨S4x384, .f32⟩
  | .hbm, ⟨70, _⟩ => ⟨S1x4x384, .f32⟩
  | .hbm, ⟨71, _⟩ => ⟨S1x4x384, .f32⟩
  | .hbm, ⟨72, _⟩ => ⟨S2x4x384, .f32⟩
  | .hbm, ⟨73, _⟩ => ⟨S1x4x384, .f32⟩
  | .hbm, ⟨74, _⟩ => ⟨S4x384, .f32⟩
  | .hbm, ⟨75, _⟩ => ⟨S1x4x384, .f32⟩
  | .hbm, ⟨76, _⟩ => ⟨S1x4x384, .f32⟩
  | .hbm, ⟨77, _⟩ => ⟨S2x4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel28.lean ====
abbrev S8x3x704 : Shape := ⟨3, ![8, 3, 704]⟩
abbrev S1 : Shape := ⟨1, ![1]⟩
abbrev S2x3x704 : Shape := ⟨3, ![2, 3, 704]⟩
abbrev S1x3x704 : Shape := ⟨3, ![1, 3, 704]⟩
abbrev S3x704 : Shape := ⟨2, ![3, 704]⟩

abbrev nBuf : Space → Nat
  | .hbm => 13
  | .vmem => 15
  | .smem => 1
  | _ => 0

abbrev bufTy : (tb : Table) → Fin (tcTables nBuf tb) → BufTy
  | .hbm, ⟨0, _⟩ => ⟨S8x3x704, .f32⟩
  | .hbm, ⟨1, _⟩ => ⟨S8x3x704, .f32⟩
  | .hbm, ⟨2, _⟩ => ⟨S2x3x704, .f32⟩
  | .hbm, ⟨3, _⟩ => ⟨S2x3x704, .f32⟩
  | .hbm, ⟨4, _⟩ => ⟨S2x3x704, .f32⟩
  | .hbm, ⟨5, _⟩ => ⟨S2x3x704, .f32⟩
  | .hbm, ⟨6, _⟩ => ⟨S2x3x704, .f32⟩
  | .hbm, ⟨7, _⟩ => ⟨S2x3x704, .f32⟩
  | .hbm, ⟨8, _⟩ => ⟨S2x3x704, .f32⟩
  | .hbm, ⟨9, _⟩ => ⟨S2x3x704, .f32⟩
  | .hbm, ⟨10, _⟩ => ⟨S2x3x704, .f32⟩
  | .hbm, ⟨11, _⟩ => ⟨S2x3x704, .f32⟩
  | .hbm, ⟨12, _⟩ => ⟨S2x3x704, .f32⟩
  | .local _ .vmem, ⟨0, _⟩ => ⟨S1x3x704, .f32⟩
  | .local _ .vmem, ⟨1, _⟩ => ⟨S1x3x704, .f32⟩
  | .local _ .vmem, ⟨2, _⟩ => ⟨S1x3x704, .f32⟩
  | .local _ .vmem, ⟨3, _⟩ => ⟨S1x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .smem, ⟨0, _⟩ => ⟨S1, .i32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x3x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x3x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x3x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x3x704 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x3x704 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x3x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x3x704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference28Ideal.lean ====
abbrev S8x3x704 : Shape := ⟨3, ![8, 3, 704]⟩
abbrev S1 : Shape := ⟨1, ![1]⟩
abbrev S2x3x704 : Shape := ⟨3, ![2, 3, 704]⟩
abbrev S8 : Shape := ⟨1, ![8]⟩
abbrev S_ : Shape := ⟨0, ![]⟩
abbrev S8x1x1 : Shape := ⟨3, ![8, 1, 1]⟩
abbrev S3x704 : Shape := ⟨2, ![3, 704]⟩
abbrev S1x3x704 : Shape := ⟨3, ![1, 3, 704]⟩

abbrev nBuf : Space → Nat
  | .hbm => 78
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S8x3x704, .f32⟩
  | .hbm, ⟨2, _⟩ => ⟨S1, .i32⟩
  | .hbm, ⟨3, _⟩ => ⟨S2x3x704, .f32⟩
  | .hbm, ⟨4, _⟩ => ⟨S2x3x704, .f32⟩
  | .hbm, ⟨5, _⟩ => ⟨S2x3x704, .f32⟩
  | .hbm, ⟨6, _⟩ => ⟨S2x3x704, .f32⟩
  | .hbm, ⟨7, _⟩ => ⟨S2x3x704, .f32⟩
  | .hbm, ⟨8, _⟩ => ⟨S2x3x704, .f32⟩
  | .hbm, ⟨9, _⟩ => ⟨S2x3x704, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8x1x1, .i1⟩
  | .hbm, ⟨15, _⟩ => ⟨S8x3x704, .i1⟩
  | .hbm, ⟨16, _⟩ => ⟨S8x3x704, .f32⟩
  | .hbm, ⟨17, _⟩ => ⟨S_, .f32⟩
  | .hbm, ⟨18, _⟩ => ⟨S3x704, .f32⟩
  | .hbm, ⟨19, _⟩ => ⟨S1x3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S1x3x704, .f32⟩
  | .hbm, ⟨29, _⟩ => ⟨S3x704, .f32⟩
  | .hbm, ⟨30, _⟩ => ⟨S_, .f32⟩
  | .hbm, ⟨31, _⟩ => ⟨S3x704, .f32⟩
  | .hbm, ⟨32, _⟩ => ⟨S3x704, .f32⟩
  | .hbm, ⟨33, _⟩ => ⟨S3x704, .f32⟩
  | .hbm, ⟨34, _⟩ => ⟨S_, .f32⟩
  | .hbm, ⟨35, _⟩ => ⟨S3x704, .f32⟩
  | .hbm, ⟨36, _⟩ => ⟨S3x704, .f32⟩
  | .hbm, ⟨37, _⟩ => ⟨S3x704, .f32⟩
  | .hbm, ⟨38, _⟩ => ⟨S_, .f32⟩
  | .hbm, ⟨39, _⟩ => ⟨S3x704, .f32⟩
  | .hbm, ⟨40, _⟩ => ⟨S3x704, .f32⟩
  | .hbm, ⟨41, _⟩ => ⟨S_, .f32⟩
  | .hbm, ⟨42, _⟩ => ⟨S3x704, .f32⟩
  | .hbm, ⟨43, _⟩ => ⟨S3x704, .f32⟩
  | .hbm, ⟨44, _⟩ => ⟨S3x704, .f32⟩
  | .hbm, ⟨45, _⟩ => ⟨S_, .f32⟩
  | .hbm, ⟨46, _⟩ => ⟨S3x704, .f32⟩
  | .hbm, ⟨47, _⟩ => ⟨S3x704, .f32⟩
  | .hbm, ⟨48, _⟩ => ⟨S3x704, .f32⟩
  | .hbm, ⟨49, _⟩ => ⟨S1x3x704, .f32⟩
  | .hbm, ⟨50, _⟩ => ⟨S3x704, .f32⟩
  | .hbm, ⟨51, _⟩ => ⟨S_, .f32⟩
  | .hbm, ⟨52, _⟩ => ⟨S3x704, .f32⟩
  | .hbm, ⟨53, _⟩ => ⟨S3x704, .f32⟩
  | .hbm, ⟨54, _⟩ => ⟨S3x704, .f32⟩
  | .hbm, ⟨55, _⟩ => ⟨S_, .f32⟩
  | .hbm, ⟨56, _⟩ => ⟨S3x704, .f32⟩
  | .hbm, ⟨57, _⟩ => ⟨S3x704, .f32⟩
  | .hbm, ⟨58, _⟩ => ⟨S1x3x704, .f32⟩
  | .hbm, ⟨59, _⟩ => ⟨S3x704, .f32⟩
  | .hbm, ⟨60, _⟩ => ⟨S1x3x704, .f32⟩
  | .hbm, ⟨61, _⟩ => ⟨S1x3x704, .f32⟩
  | .hbm, ⟨62, _⟩ => ⟨S2x3x704, .f32⟩
  | .hbm, ⟨63, _⟩ => ⟨S1x3x704, .f32⟩
  | .hbm, ⟨64, _⟩ => ⟨S3x704, .f32⟩
  | .hbm, ⟨65, _⟩ => ⟨S1x3x704, .f32⟩
  | .hbm, ⟨66, _⟩ => ⟨S1x3x704, .f32⟩
  | .hbm, ⟨67, _⟩ => ⟨S2x3x704, .f32⟩
  | .hbm, ⟨68, _⟩ => ⟨S1x3x704, .f32⟩
  | .hbm, ⟨69, _⟩ => ⟨S3x704, .f32⟩
  | .hbm, ⟨70, _⟩ => ⟨S1x3x704, .f32⟩
  | .hbm, ⟨71, _⟩ => ⟨S1x3x704, .f32⟩
  | .hbm, ⟨72, _⟩ => ⟨S2x3x704, .f32⟩
  | .hbm, ⟨73, _⟩ => ⟨S1x3x704, .f32⟩
  | .hbm, ⟨74, _⟩ => ⟨S3x704, .f32⟩
  | .hbm, ⟨75, _⟩ => ⟨S1x3x704, .f32⟩
  | .hbm, ⟨76, _⟩ => ⟨S1x3x704, .f32⟩
  | .hbm, ⟨77, _⟩ => ⟨S2x3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel29.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference29Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel30.lean ====
abbrev S4096x6144 : Shape := ⟨2, ![4096, 6144]⟩
abbrev S4096x2048 : Shape := ⟨2, ![4096, 2048]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference30Ideal.lean ====
abbrev S4096x6144 : Shape := ⟨2, ![4096, 6144]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel31.lean ====
abbrev S4096x5632 : Shape := ⟨2, ![4096, 5632]⟩
abbrev S8x5632 : Shape := ⟨2, ![8, 5632]⟩
abbrev S1x5632 : Shape := ⟨2, ![1, 5632]⟩
abbrev S8x512 : Shape := ⟨2, ![8, 512]⟩
abbrev S256x512 : Shape := ⟨2, ![256, 512]⟩
abbrev S1x512 : Shape := ⟨2, ![1, 512]⟩
abbrev S264x512 : Shape := ⟨2, ![264, 512]⟩

abbrev nBuf : Space → Nat
  | .hbm => 5
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S8x5632, .f32⟩
  | .hbm, ⟨3, _⟩ => ⟨S1x5632, .f32⟩
  | .hbm, ⟨4, _⟩ => ⟨S4096x5632, .bf16⟩
  | .local _ .vmem, ⟨0, _⟩ => ⟨S8x512, .f32⟩
  | .local _ .vmem, ⟨1, _⟩ => ⟨S8x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference31Ideal.lean ====
abbrev S4096x5632 : Shape := ⟨2, ![4096, 5632]⟩
abbrev S8x5632 : Shape := ⟨2, ![8, 5632]⟩
abbrev S1x5632 : Shape := ⟨2, ![1, 5632]⟩
abbrev S_ : Shape := ⟨0, ![]⟩
abbrev S4098x5632 : Shape := ⟨2, ![4098, 5632]⟩
abbrev S5632 : Shape := ⟨1, ![5632]⟩

abbrev nBuf : Space → Nat
  | .hbm => 40
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S8x5632, .f32⟩
  | .hbm, ⟨3, _⟩ => ⟨S1x5632, .f32⟩
  | .hbm, ⟨4, _⟩ => ⟨S_, .i32⟩
  | .hbm, ⟨5, _⟩ => ⟨S_, .f32⟩
  | .hbm, ⟨6, _⟩ => ⟨S4098x5632, .f32⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S_, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Kit.lean ====
module

public import Idealize.ShloMosaic.Lib.Quiescent
public import Idealize.ShloMosaic.Lib.Pipeline.Value
public import Idealize.ShloMosaic.Lib.IdealHost
public import Idealize.ShloMosaic.Lib.Pointwise
public import Idealize.ShloMosaic.Lib.Tactic
public import proofs.«01_k».proof.Defs

/-!
# What the modules build on

The statement's definitions and the parts of the library that every module uses.
-/

@[expose] public section
namespace Cert.Kit

open Idealize.ShloMosaic

/-- An index of a block as an index of its matrix: the block `P` of `s0` rows and `Q` of `s1` columns. -/
theorem at_blk {a b : ℕ} (z y : (⟨2, ![a, b]⟩ : Shape).Idx) (o : Fin 2 → ℕ) (s0 s1 : ℕ) {r q P Q : ℕ}
    (z0 : (z 0).val = o 0 * s0 + 1 * r) (z1 : (z 1).val = o 1 * s1 + 1 * q) (e : o 0 = P ∧ o 1 = Q)
    (y0 : P * s0 + r = (y 0).val) (y1 : Q * s1 + q = (y 1).val) : z = y := by
  rw [e.1] at z0; rw [e.2] at z1
  funext d
  match d with
  | ⟨0, _⟩ => exact Fin.ext (show (z 0).val = (y 0).val by omega)
  | ⟨1, _⟩ => exact Fin.ext (show (z 1).val = (y 1).val by omega)

/-- The same for an array of three axes. -/
theorem at_blk3 {a b c : ℕ} (z y : (⟨3, ![a, b, c]⟩ : Shape).Idx) (o : Fin 3 → ℕ) (s0 s1 s2 : ℕ) {r q w P Q W : ℕ}
    (z0 : (z 0).val = o 0 * s0 + 1 * r) (z1 : (z 1).val = o 1 * s1 + 1 * q) (z2 : (z 2).val = o 2 * s2 + 1 * w)
    (e : o 0 = P ∧ o 1 = Q ∧ o 2 = W)
    (y0 : P * s0 + r = (y 0).val) (y1 : Q * s1 + q = (y 1).val) (y2 : W * s2 + w = (y 2).val) : z = y := by
  rw [e.1] at z0; rw [e.2.1] at z1; rw [e.2.2] at z2
  funext d
  match d with
  | ⟨0, _⟩ => exact Fin.ext (show (z 0).val = (y 0).val by omega)
  | ⟨1, _⟩ => exact Fin.ext (show (z 1).val = (y 1).val by omega)
  | ⟨2, _⟩ => exact Fin.ext (show (z 2).val = (y 2).val by omega)

/-- A block of a whole buffer covers the block's indices. -/
theorem in_whole {sig : RefSig} {κ} {b : Ref sig κ} {r : Rect b.ty.shape} {i : b.ty.shape.Idx} (h : i ∈ r.set) :
    i ∈ ((View.whole b).slice r).set := by rwa [View.set_slice_whole]

/-- An index lies in a block of its matrix if each coordinate does. -/
theorem in_blk {a b : ℕ} {f sz : Fin 2 → ℕ} {h} (i : (⟨2, ![a, b]⟩ : Shape).Idx) (o : Fin 2 → ℕ) (s0 s1 : ℕ) {P Q : ℕ}
    (f0 : f 0 = o 0 * s0) (f1 : f 1 = o 1 * s1) (z0 : sz 0 = s0) (z1 : sz 1 = s1) (e : o 0 = P ∧ o 1 = Q)
    (h0 : P * s0 ≤ (i 0).val ∧ (i 0).val < P * s0 + s0) (h1 : Q * s1 ≤ (i 1).val ∧ (i 1).val < Q * s1 + s1) :
    i ∈ (Rect.unit (s := ⟨2, ![a, b]⟩) f sz h).set := by
  rw [e.1] at f0; rw [e.2] at f1
  rw [Rect.mem_set_unit]
  intro d
  match d with
  | ⟨0, _⟩ => show f 0 ≤ (i 0).val ∧ (i 0).val < f 0 + sz 0; omega
  | ⟨1, _⟩ => show f 1 ≤ (i 1).val ∧ (i 1).val < f 1 + sz 1; omega

/-- The same for an array of three axes. -/
theorem in_blk3 {a b c : ℕ} {f sz : Fin 3 → ℕ} {h} (i : (⟨3, ![a, b, c]⟩ : Shape).Idx) (o : Fin 3 → ℕ) (s0 s1 s2 : ℕ)
    {P Q W : ℕ} (f0 : f 0 = o 0 * s0) (f1 : f 1 = o 1 * s1) (f2 : f 2 = o 2 * s2) (z0 : sz 0 = s0) (z1 : sz 1 = s1) (z2 : sz 2 = s2)
    (e : o 0 = P ∧ o 1 = Q ∧ o 2 = W) (h0 : P * s0 ≤ (i 0).val ∧ (i 0).val < P * s0 + s0)
    (h1 : Q * s1 ≤ (i 1).val ∧ (i 1).val < Q * s1 + s1) (h2 : W * s2 ≤ (i 2).val ∧ (i 2).val < W * s2 + s2) :
    i ∈ (Rect.unit (s := ⟨3, ![a, b, c]⟩) f sz h).set := by
  rw [e.1] at f0; rw [e.2.1] at f1; rw [e.2.2] at f2
  rw [Rect.mem_set_unit]
  intro d
  match d with
  | ⟨0, _⟩ => show f 0 ≤ (i 0).val ∧ (i 0).val < f 0 + sz 0; omega
  | ⟨1, _⟩ => show f 1 ≤ (i 1).val ∧ (i 1).val < f 1 + sz 1; omega
  | ⟨2, _⟩ => show f 2 ≤ (i 2).val ∧ (i 2).val < f 2 + sz 2; omega

/-- One coordinate of an index of a block. -/
theorem at_off {v o s r P : ℕ} (e : o = P) (h : v = o * s + 1 * r) : v = P * s + r := by rw [h, e, Nat.one_mul]

end Cert.Kit

/-- The offset `(0, 0)`. -/
theorem Cert.hz : (![0, 0] : Fin 2 → Nat) = fun _ => 0 := funext fun a => by fin_cases a <;> rfl

end
-- ==== Proof.ScanBlock.lean ====
module

public import proofs.«01_k».proof.Proof.Gen.KernelIdeal.Value

/-!
# What one grid point of the backward scan stores, written once

One grid point takes four chunks of 64 rows of every head, the last chunk first, and carries the gradient of the
recurrence's state. The printed body repeats the same operations 32 times (8 heads, 4 chunks). Here those operations are
written once, over the loads of one head and one chunk (`Loads`), and the pieces which the two cases of the body store
are shown to be these operations at the 32 pairs.
-/

@[expose] public section
set_option maxRecDepth 16384
noncomputable section
namespace Cert.KernelIdeal.Own
open Cert.KernelIdeal Cert.KernelIdeal.Gen Idealize.ShloMosaic Idealize.ShloMosaic.TcCoe Idealize.SL.Sem
open Idealize.ShloMosaic.Pipeline (Dat)
variable {F : FTy → Type} [FloatOps F]

/-! ## The operations of one head and one chunk -/

abbrev z64 : FVec F S64x128 .f32 := constant S64x128 .f32 0x00000000#32
abbrev z128 : FVec F S128x128 .f32 := constant S128x128 .f32 0x00000000#32
abbrev low {S : Shape} (x : FVec F S .f32) : FVec F S .bf16 := truncf .bf16 x bitsLt_bf16_f32
abbrev row64 (x : Vec F S1x64x128 .f32) : FVec F S64x128 .f32 := shapeCast S64x128 x shapeCasts_S1x64x128_S64x128
abbrev cot (x : Vec F S1x64x128 .f32) : FVec F S64x128 .f32 := shapeCast S64x128 (row64 x) shapeCasts_S64x128_S64x128
abbrev sq64 (x : Vec F S1x64x64 .f32) : FVec F S64x64 .f32 := shapeCast S64x64 x shapeCasts_S1x64x64_S64x64
abbrev st128 (x : Vec F S1x1x128x128 .f32) : FVec F S128x128 .f32 := shapeCast S128x128 x shapeCasts_S1x1x128x128_S128x128
abbrev gate1 (x : Vec F S1x1x1x1 .f32) : FVec F S1x1 .f32 := exp (shapeCast S1x1 x shapeCasts_S1x1x1x1_S1x1)

/-- The gradient of the chunk's new values. -/
def vDv (k : Vec F S1x64x128 .f32) (a : Vec F S1x64x64 .f32) (o : Vec F S1x64x128 .f32) (d : FVec F S128x128 .f32) : FVec F S64x128 .f32 :=
  addf (matmul dot_S64x128_S128x128_S64x128_1_0_0_1_n_n none (low (row64 k)) (low d) z64)
    (matmul dot_S64x64_S64x128_S64x128_0_0_1_1_n_n none (low (sq64 a)) (low (cot o)) z64)

/-- Its negative, as the body takes it. -/
def vNeg (x : FVec F S64x128 .f32) : FVec F S64x128 .f32 := subf (broadcast S64x128 (Scalar.ofBits .f32 0x00000000#32)) x

/-- The chunk's new values, made again. -/
def vNew (u w : Vec F S1x64x128 .f32) (s : Vec F S1x1x128x128 .f32) : FVec F S64x128 .f32 :=
  subf (row64 u) (matmul dot_S64x128_S128x128_S64x128_1_0_0_1_n_n none (low (row64 w)) (low (st128 s)) z64)

/-- The gradient of `w`. -/
def vDw (n : FVec F S64x128 .f32) (s : Vec F S1x1x128x128 .f32) : FVec F S64x128 .f32 :=
  matmul dot_S64x128_S128x128_S64x128_1_1_0_0_n_n none (low n) (low (st128 s)) z64

/-- The gradient of the chunk's attention block. -/
def vDa (o : Vec F S1x64x128 .f32) (v : FVec F S64x128 .f32) : FVec F S64x64 .f32 :=
  matmul dot_S64x128_S64x128_S64x64_1_1_0_0_n_n none (low (cot o)) (low v) (constant S64x64 .f32 0x00000000#32)

/-- The gradient of the decayed queries. -/
def vDq (o : Vec F S1x64x128 .f32) (s : Vec F S1x1x128x128 .f32) : FVec F S64x128 .f32 :=
  matmul dot_S64x128_S128x128_S64x128_1_1_0_0_n_n none (low (cot o)) (low (st128 s)) z64

/-- The gradient of the decayed keys. -/
def vDk (v : FVec F S64x128 .f32) (d : FVec F S128x128 .f32) : FVec F S64x128 .f32 :=
  matmul dot_S64x128_S128x128_S64x128_1_1_0_0_n_n none (low v) (low d) z64

/-- The gradient of the chunk's last gate. -/
def vDg (s : Vec F S1x1x128x128 .f32) (d : FVec F S128x128 .f32) (g : Vec F S1x1x1x1 .f32) : FVec F S1x1 .f32 :=
  mulf (broadcast S1x1 (extractAt ![0, 0, 0] (shapeCast S1x1x1 (multiReduction .add [1, 2] S1
    (shapeCast S1x128x128 (mulf (st128 s) d) shapeCasts_S128x128_S1x128x128) 0x00000000#32 reduces_S1x128x128_S1 (.inl rfl) rfl)
    shapeCasts_S1_S1x1x1) inpos_S1x1x1_p0_0_0)) (gate1 g)

/-- The gradient of the state that entered the chunk. -/
def vDs (g : Vec F S1x1x1x1 .f32) (q o w : Vec F S1x64x128 .f32) (n : FVec F S64x128 .f32) (d : FVec F S128x128 .f32) : FVec F S128x128 .f32 :=
  addf (addf (mulf d (broadcastTo S128x128 (gate1 g) broadcasts_S1x1_S128x128))
    (matmul dot_S64x128_S64x128_S128x128_0_0_1_1_n_n none (low (row64 q)) (low (cot o)) z128))
    (matmul dot_S64x128_S64x128_S128x128_0_0_1_1_n_n none (low (row64 w)) (low n) z128)

/-! ## The loads of a grid point -/

/-- What a grid point loads, of every head and chunk, and the state's gradient that it meets. -/
structure Loads (F : FTy → Type) where
  u : Fin 8 → Fin 4 → Vec F S1x64x128 .f32
  w : Fin 8 → Fin 4 → Vec F S1x64x128 .f32
  a : Fin 8 → Fin 4 → Vec F S1x64x64 .f32
  q : Fin 8 → Fin 4 → Vec F S1x64x128 .f32
  k : Fin 8 → Fin 4 → Vec F S1x64x128 .f32
  g : Fin 8 → Fin 4 → Vec F S1x1x1x1 .f32
  s : Fin 8 → Fin 4 → Vec F S1x1x128x128 .f32
  o : Fin 8 → Fin 4 → Vec F S1x64x128 .f32
  d : Fin 8 → Vec F S1x128x128 .f32

namespace Loads
variable (L : Loads F)

/-- The new values' gradient of head `h` and chunk `c`, from the state's gradient `d`. -/
def dvAt (h : Fin 8) (c : Fin 4) (d : FVec F S128x128 .f32) : FVec F S64x128 .f32 := vDv (L.k h c) (L.a h c) (L.o h c) d
/-- The state's gradient one chunk further back. -/
def dsAt (h : Fin 8) (c : Fin 4) (d : FVec F S128x128 .f32) : FVec F S128x128 .f32 :=
  vDs (L.g h c) (L.q h c) (L.o h c) (L.w h c) (vNeg (L.dvAt h c d)) d
/-- The state's gradient that chunk 3, 2, 1, 0 meets, and what is left after chunk 0. -/
def d3 (h : Fin 8) : FVec F S128x128 .f32 := shapeCast S128x128 (shapeCast S128x128 (L.d h) shapeCasts_S1x128x128_S128x128) shapeCasts_S128x128_S128x128
def d2 (h : Fin 8) : FVec F S128x128 .f32 := L.dsAt h 3 (L.d3 h)
def d1 (h : Fin 8) : FVec F S128x128 .f32 := L.dsAt h 2 (L.d2 h)
def d0 (h : Fin 8) : FVec F S128x128 .f32 := L.dsAt h 1 (L.d1 h)
def dEnd (h : Fin 8) : FVec F S128x128 .f32 := L.dsAt h 0 (L.d0 h)
/-- The state's gradient that chunk `c` meets. -/
def dAt (h : Fin 8) (c : Fin 4) : FVec F S128x128 .f32 := ![L.d0 h, L.d1 h, L.d2 h, L.d3 h] c

/-- What is stored of head `h` and chunk `c` in each result. -/
def du (h : Fin 8) (c : Fin 4) : FVec F S64x128 .f32 := L.dvAt h c (L.dAt h c)
def dw (h : Fin 8) (c : Fin 4) : FVec F S64x128 .f32 := vDw (vNeg (L.du h c)) (L.s h c)
def da (h : Fin 8) (c : Fin 4) : FVec F S64x64 .f32 := vDa (L.o h c) (vNew (L.u h c) (L.w h c) (L.s h c))
def dq (h : Fin 8) (c : Fin 4) : FVec F S64x128 .f32 := vDq (L.o h c) (L.s h c)
def dk (h : Fin 8) (c : Fin 4) : FVec F S64x128 .f32 := vDk (vNew (L.u h c) (L.w h c) (L.s h c)) (L.dAt h c)
def dg (h : Fin 8) (c : Fin 4) : FVec F S1x1 .f32 := vDg (L.s h c) (L.dAt h c) (L.g h c)
end Loads

/-! ## The pieces -/

theorem inb128 (h : Fin 8) (c : Fin 4) : ∀ a : Fin 3, (![h.val, 64 * c.val, 0] : Fin 3 → ℕ) a + S1x64x128.size a ≤ S8x256x128.size a := by
  revert h c; decide +kernel
theorem inb64 (h : Fin 8) (c : Fin 4) : ∀ a : Fin 3, (![h.val, 64 * c.val, 0] : Fin 3 → ℕ) a + S1x64x64.size a ≤ S8x256x64.size a := by
  revert h c; decide +kernel
theorem inb1 (h : Fin 8) (c : Fin 4) : ∀ a : Fin 4, (![h.val, c.val, 0, 0] : Fin 4 → ℕ) a + S1x1x1x1.size a ≤ S8x4x1x1.size a := by
  revert h c; decide +kernel
theorem inbS (h : Fin 8) (c : Fin 4) : ∀ a : Fin 4, (![c.val, h.val, 0, 0] : Fin 4 → ℕ) a + S1x1x128x128.size a ≤ S4x8x128x128.size a := by
  revert h c; decide +kernel
theorem inbD (h : Fin 8) : ∀ a : Fin 3, (![h.val, 0, 0] : Fin 3 → ℕ) a + S1x128x128.size a ≤ S8x128x128.size a := by
  revert h; decide +kernel

abbrev rc128 (h : Fin 8) (c : Fin 4) : Rect S8x256x128 := Rect.unit ![h.val, 64 * c.val, 0] S1x64x128.size (inb128 h c)
abbrev rc64 (h : Fin 8) (c : Fin 4) : Rect S8x256x64 := Rect.unit ![h.val, 64 * c.val, 0] S1x64x64.size (inb64 h c)
abbrev rc1 (h : Fin 8) (c : Fin 4) : Rect S8x4x1x1 := Rect.unit ![h.val, c.val, 0, 0] S1x1x1x1.size (inb1 h c)
abbrev rcS (h : Fin 8) (c : Fin 4) : Rect S4x8x128x128 := Rect.unit ![c.val, h.val, 0, 0] S1x1x128x128.size (inbS h c)
abbrev rcD (h : Fin 8) : Rect S8x128x128 := Rect.unit ![h.val, 0, 0] S1x128x128.size (inbD h)

/-- The 32 pairs of a head and a chunk, the last stored first. -/
def pairs : List (Fin 8 × Fin 4) := [(7, 0), (6, 0), (5, 0), (4, 0), (3, 0), (2, 0), (1, 0), (0, 0), (7, 1), (6, 1), (5, 1), (4, 1), (3, 1), (2, 1), (1, 1), (0, 1), (7, 2), (6, 2), (5, 2), (4, 2), (3, 2), (2, 2), (1, 2), (0, 2), (7, 3), (6, 3), (5, 3), (4, 3), (3, 3), (2, 3), (1, 3), (0, 3)]

def pc128 (f : Fin 8 → Fin 4 → FVec F S64x128 .f32) (p : Fin 8 × Fin 4) : View.Piece (Elt F) S8x256x128 .f32 :=
  ⟨rc128 p.1 p.2, shapeCast S1x64x128 (f p.1 p.2) shapeCasts_S64x128_S1x64x128⟩
def pc64 (f : Fin 8 → Fin 4 → FVec F S64x64 .f32) (p : Fin 8 × Fin 4) : View.Piece (Elt F) S8x256x64 .f32 :=
  ⟨rc64 p.1 p.2, shapeCast S1x64x64 (f p.1 p.2) shapeCasts_S64x64_S1x64x64⟩
def pc1 (f : Fin 8 → Fin 4 → FVec F S1x1 .f32) (p : Fin 8 × Fin 4) : View.Piece (Elt F) S8x4x1x1 .f32 :=
  ⟨rc1 p.1 p.2, shapeCast S1x1x1x1 (f p.1 p.2) shapeCasts_S1x1_S1x1x1x1⟩
def pcD (f : Fin 8 → FVec F S128x128 .f32) (h : Fin 8) : View.Piece (Elt F) S8x128x128 .f32 :=
  ⟨rcD h, shapeCast S1x128x128 (f h) shapeCasts_S128x128_S1x128x128⟩

end Cert.KernelIdeal.Own
-- ==== Proof.ScanPieces.lean ====
module

public import proofs.«01_k».proof.Proof.ScanBlock

/-!
# The pieces that a grid point of the backward scan stores are the operations of `ScanBlock`

Case A is the first grid point, which meets a state's gradient that it has just set to zero; case B is every later one,
which meets what the point before left.
-/

@[expose] public section
set_option maxRecDepth 65536
set_option maxHeartbeats 4000000
noncomputable section
namespace Cert.KernelIdeal.Own
open Cert.KernelIdeal Cert.KernelIdeal.Gen Idealize.ShloMosaic Idealize.ShloMosaic.TcCoe Idealize.SL.Sem
open Idealize.ShloMosaic.Pipeline (Dat)
variable {F : FTy → Type} [FloatOps F]

/-- The loads of a grid point from its blocks, with the state's gradient `d` that it meets. -/
def lds (arg1 : Memref sig .tc .vmem S8x256x128 .f32) (harg1 : arg1.IsWhole) (arg2 : Memref sig .tc .vmem S8x256x128 .f32) (harg2 : arg2.IsWhole) (arg3 : Memref sig .tc .vmem S8x256x64 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x4x1x1 .f32) (harg6 : arg6.IsWhole) (arg7 : Memref sig .tc .vmem S4x8x128x128 .f32) (harg7 : arg7.IsWhole) (arg8 : Memref sig .tc .vmem S8x256x128 .f32) (harg8 : arg8.IsWhole) (x0 x1 : Vec F S8x256x128 .f32) (x2 : Vec F S8x256x64 .f32) (x3 x4 : Vec F S8x256x128 .f32) (x5 : Vec F S8x4x1x1 .f32) (x6 : Vec F S4x8x128x128 .f32) (x7 : Vec F S8x256x128 .f32) (d : Fin 8 → Vec F S1x128x128 .f32) : Loads F where
  u := fun h c => View.readAt (Elt F) arg1.view (rc128 h c).toLoadRect (harg1.unread x0)
  w := fun h c => View.readAt (Elt F) arg2.view (rc128 h c).toLoadRect (harg2.unread x1)
  a := fun h c => View.readAt (Elt F) arg3.view (rc64 h c).toLoadRect (harg3.unread x2)
  q := fun h c => View.readAt (Elt F) arg4.view (rc128 h c).toLoadRect (harg4.unread x3)
  k := fun h c => View.readAt (Elt F) arg5.view (rc128 h c).toLoadRect (harg5.unread x4)
  g := fun h c => View.readAt (Elt F) arg6.view (rc1 h c).toLoadRect (harg6.unread x5)
  s := fun h c => View.readAt (Elt F) arg7.view (rcS h c).toLoadRect (harg7.unread x6)
  o := fun h c => View.readAt (Elt F) arg8.view (rc128 h c).toLoadRect (harg8.unread x7)
  d := d

section

variable (c : Dev nD) (i : grid0.Coords) (arg1 : Memref sig .tc .vmem S8x256x128 .f32) (harg1 : arg1.IsWhole) (arg2 : Memref sig .tc .vmem S8x256x128 .f32) (harg2 : arg2.IsWhole) (arg3 : Memref sig .tc .vmem S8x256x64 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x4x1x1 .f32) (harg6 : arg6.IsWhole) (arg7 : Memref sig .tc .vmem S4x8x128x128 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x64 .f32) (harg11 : arg11.IsWhole) (arg12 : Memref sig .tc .vmem S8x256x128 .f32) (harg12 : arg12.IsWhole) (arg13 : Memref sig .tc .vmem S8x256x128 .f32) (harg13 : arg13.IsWhole) (arg14 : Memref sig .tc .vmem S8x4x1x1 .f32) (harg14 : arg14.IsWhole) (arg15 : Memref sig .tc .vmem S8x128x128 .f32) (harg15 : arg15.IsWhole) (hc0 : cond0_0 i) (x0 : Vec F S8x256x128 .f32) (x1 : Vec F S8x256x128 .f32) (x2 : Vec F S8x256x64 .f32) (x3 : Vec F S8x256x128 .f32) (x4 : Vec F S8x256x128 .f32) (x5 : Vec F S8x4x1x1 .f32) (x6 : Vec F S4x8x128x128 .f32) (x7 : Vec F S8x256x128 .f32)

theorem pieces_A_du :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 = pairs.map (pc128 (lds arg1 harg1 arg2 harg2 arg3 harg3 arg4 harg4 arg5 harg5 arg6 harg6 arg7 harg7 arg8 harg8 x0 x1 x2 x3 x4 x5 x6 x7 (fun h => arg15.view.readCov kernelRun0_A.sl.HS0_1 (rcD h).toLoadRect)).du) := by
  unfold kernelRun0_A
  dsimp only
  sl_kernel_rfl

theorem pieces_A_dw :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 = pairs.map (pc128 (lds arg1 harg1 arg2 harg2 arg3 harg3 arg4 harg4 arg5 harg5 arg6 harg6 arg7 harg7 arg8 harg8 x0 x1 x2 x3 x4 x5 x6 x7 (fun h => arg15.view.readCov kernelRun0_A.sl.HS0_1 (rcD h).toLoadRect)).dw) := by
  unfold kernelRun0_A
  dsimp only
  sl_kernel_rfl

theorem pieces_A_da :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 = pairs.map (pc64 (lds arg1 harg1 arg2 harg2 arg3 harg3 arg4 harg4 arg5 harg5 arg6 harg6 arg7 harg7 arg8 harg8 x0 x1 x2 x3 x4 x5 x6 x7 (fun h => arg15.view.readCov kernelRun0_A.sl.HS0_1 (rcD h).toLoadRect)).da) := by
  unfold kernelRun0_A
  dsimp only
  sl_kernel_rfl

theorem pieces_A_dq :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 = pairs.map (pc128 (lds arg1 harg1 arg2 harg2 arg3 harg3 arg4 harg4 arg5 harg5 arg6 harg6 arg7 harg7 arg8 harg8 x0 x1 x2 x3 x4 x5 x6 x7 (fun h => arg15.view.readCov kernelRun0_A.sl.HS0_1 (rcD h).toLoadRect)).dq) := by
  unfold kernelRun0_A
  dsimp only
  sl_kernel_rfl

theorem pieces_A_dk :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 = pairs.map (pc128 (lds arg1 harg1 arg2 harg2 arg3 harg3 arg4 harg4 arg5 harg5 arg6 harg6 arg7 harg7 arg8 harg8 x0 x1 x2 x3 x4 x5 x6 x7 (fun h => arg15.view.readCov kernelRun0_A.sl.HS0_1 (rcD h).toLoadRect)).dk) := by
  unfold kernelRun0_A
  dsimp only
  sl_kernel_rfl

theorem pieces_A_dg :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 = pairs.map (pc1 (lds arg1 harg1 arg2 harg2 arg3 harg3 arg4 harg4 arg5 harg5 arg6 harg6 arg7 harg7 arg8 harg8 x0 x1 x2 x3 x4 x5 x6 x7 (fun h => arg15.view.readCov kernelRun0_A.sl.HS0_1 (rcD h).toLoadRect)).dg) := by
  unfold kernelRun0_A
  dsimp only
  sl_kernel_rfl

theorem pieces_A_d :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1 = [7, 6, 5, 4, 3, 2, 1, 0].map (pcD (lds arg1 harg1 arg2 harg2 arg3 harg3 arg4 harg4 arg5 harg5 arg6 harg6 arg7 harg7 arg8 harg8 x0 x1 x2 x3 x4 x5 x6 x7 (fun h => arg15.view.readCov kernelRun0_A.sl.HS0_1 (rcD h).toLoadRect)).dEnd) ++ kernelRun0_A.sl.HS0_1 := by
  unfold kernelRun0_A
  dsimp only
  sl_kernel_rfl

end

section

variable (c : Dev nD) (i : grid0.Coords) (arg1 : Memref sig .tc .vmem S8x256x128 .f32) (harg1 : arg1.IsWhole) (arg2 : Memref sig .tc .vmem S8x256x128 .f32) (harg2 : arg2.IsWhole) (arg3 : Memref sig .tc .vmem S8x256x64 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x4x1x1 .f32) (harg6 : arg6.IsWhole) (arg7 : Memref sig .tc .vmem S4x8x128x128 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x64 .f32) (harg11 : arg11.IsWhole) (arg12 : Memref sig .tc .vmem S8x256x128 .f32) (harg12 : arg12.IsWhole) (arg13 : Memref sig .tc .vmem S8x256x128 .f32) (harg13 : arg13.IsWhole) (arg14 : Memref sig .tc .vmem S8x4x1x1 .f32) (harg14 : arg14.IsWhole) (arg15 : Memref sig .tc .vmem S8x128x128 .f32) (harg15 : arg15.IsWhole) (hc0 : ¬ cond0_0 i) (x0 : Vec F S8x256x128 .f32) (x1 : Vec F S8x256x128 .f32) (x2 : Vec F S8x256x64 .f32) (x3 : Vec F S8x256x128 .f32) (x4 : Vec F S8x256x128 .f32) (x5 : Vec F S8x4x1x1 .f32) (x6 : Vec F S4x8x128x128 .f32) (x7 : Vec F S8x256x128 .f32) (xs0 : Vec F S8x128x128 .f32)

theorem pieces_B_du :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1 = pairs.map (pc128 (lds arg1 harg1 arg2 harg2 arg3 harg3 arg4 harg4 arg5 harg5 arg6 harg6 arg7 harg7 arg8 harg8 x0 x1 x2 x3 x4 x5 x6 x7 (fun h => View.readAt (Elt F) arg15.view (rcD h).toLoadRect (harg15.unread xs0))).du) := by
  unfold kernelRun0_B
  dsimp only
  sl_kernel_rfl

theorem pieces_B_dw :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1 = pairs.map (pc128 (lds arg1 harg1 arg2 harg2 arg3 harg3 arg4 harg4 arg5 harg5 arg6 harg6 arg7 harg7 arg8 harg8 x0 x1 x2 x3 x4 x5 x6 x7 (fun h => View.readAt (Elt F) arg15.view (rcD h).toLoadRect (harg15.unread xs0))).dw) := by
  unfold kernelRun0_B
  dsimp only
  sl_kernel_rfl

theorem pieces_B_da :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1 = pairs.map (pc64 (lds arg1 harg1 arg2 harg2 arg3 harg3 arg4 harg4 arg5 harg5 arg6 harg6 arg7 harg7 arg8 harg8 x0 x1 x2 x3 x4 x5 x6 x7 (fun h => View.readAt (Elt F) arg15.view (rcD h).toLoadRect (harg15.unread xs0))).da) := by
  unfold kernelRun0_B
  dsimp only
  sl_kernel_rfl

theorem pieces_B_dq :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1 = pairs.map (pc128 (lds arg1 harg1 arg2 harg2 arg3 harg3 arg4 harg4 arg5 harg5 arg6 harg6 arg7 harg7 arg8 harg8 x0 x1 x2 x3 x4 x5 x6 x7 (fun h => View.readAt (Elt F) arg15.view (rcD h).toLoadRect (harg15.unread xs0))).dq) := by
  unfold kernelRun0_B
  dsimp only
  sl_kernel_rfl

theorem pieces_B_dk :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1 = pairs.map (pc128 (lds arg1 harg1 arg2 harg2 arg3 harg3 arg4 harg4 arg5 harg5 arg6 harg6 arg7 harg7 arg8 harg8 x0 x1 x2 x3 x4 x5 x6 x7 (fun h => View.readAt (Elt F) arg15.view (rcD h).toLoadRect (harg15.unread xs0))).dk) := by
  unfold kernelRun0_B
  dsimp only
  sl_kernel_rfl

theorem pieces_B_dg :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1 = pairs.map (pc1 (lds arg1 harg1 arg2 harg2 arg3 harg3 arg4 harg4 arg5 harg5 arg6 harg6 arg7 harg7 arg8 harg8 x0 x1 x2 x3 x4 x5 x6 x7 (fun h => View.readAt (Elt F) arg15.view (rcD h).toLoadRect (harg15.unread xs0))).dg) := by
  unfold kernelRun0_B
  dsimp only
  sl_kernel_rfl

theorem pieces_B_d :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1 = [7, 6, 5, 4, 3, 2, 1, 0].map (pcD (lds arg1 harg1 arg2 harg2 arg3 harg3 arg4 harg4 arg5 harg5 arg6 harg6 arg7 harg7 arg8 harg8 x0 x1 x2 x3 x4 x5 x6 x7 (fun h => View.readAt (Elt F) arg15.view (rcD h).toLoadRect (harg15.unread xs0))).dEnd) := by
  unfold kernelRun0_B
  dsimp only
  sl_kernel_rfl

end

end Cert.KernelIdeal.Own
-- ==== Proof.ScanMath.lean ====
module

public import proofs.«01_k».proof.Proof.ScanBlock
public import Idealize.ShloMosaic.Lib.IdealHost
public import Idealize.ShloMosaic.Lib.Pointwise

/-!
# The gradient of the delta rule's recurrence, over the extended reals

The recurrence goes over 64 chunks of 64 rows. `SArgs` holds the arrays that its gradient takes, `sD j` is the gradient of
the state that enters chunk `63 - j + 1`, that is, after `j` chunks counted from the end, and `rDu`, `rDw`, `rDa`, `rDq`,
`rDk`, `rDg` are the six results entry by entry. The second half reads one grid point's operations as these.
-/

@[expose] public section
set_option maxRecDepth 16384
noncomputable section
namespace Cert.KernelIdeal.Own
open Cert.KernelIdeal Cert.KernelIdeal.Gen Idealize.ShloMosaic Idealize.ShloMosaic.TcCoe Idealize.SL.Sem
open Idealize.ShloMosaic.Pipeline (Dat)

/-! ## The six results -/

/-- The arrays: `u`, `w`, the attention blocks, the decayed queries and keys, the chunk's last gate, the states, and the
    gradient of the output. -/
structure SArgs where
  u : Vec Ideal S8x4096x128 .f32
  w : Vec Ideal S8x4096x128 .f32
  a : Vec Ideal S8x4096x64 .f32
  q : Vec Ideal S8x4096x128 .f32
  k : Vec Ideal S8x4096x128 .f32
  g : Vec Ideal S8x64x1x1 .f32
  s : Vec Ideal S64x8x128x128 .f32
  o : Vec Ideal S8x4096x128 .f32

/-- Row `i` of chunk `n`. -/
def rw64 (n i : Fin 64) : Fin 4096 := ⟨64 * n.val + i.val, by omega⟩
/-- Chunk `j`, counted from the end. -/
def back (j : ℕ) : Fin 64 := ⟨63 - j, by omega⟩

namespace SArgs
variable (X : SArgs)

/-- The gradient of chunk `n`'s new values, where `D` is the gradient of the state that leaves the chunk. -/
def dv (D : Vec Ideal S8x128x128 .f32) (n : Fin 64) (h : Fin 8) (i : Fin 64) (v : Fin 128) : EReal :=
  (∑ k, X.k (ix3 h (rw64 n i) k) * D (ix3 h k v)) + ∑ t, X.a (ix3 h (rw64 n t) i) * X.o (ix3 h (rw64 n t) v)
/-- Chunk `n`'s new values. -/
def vn (n : Fin 64) (h : Fin 8) (i : Fin 64) (v : Fin 128) : EReal :=
  X.u (ix3 h (rw64 n i) v) - ∑ k, X.w (ix3 h (rw64 n i) k) * X.s (ix4 n h k v)
/-- The gradient of the state that enters chunk `n`. -/
def ds (D : Vec Ideal S8x128x128 .f32) (n : Fin 64) : Vec Ideal S8x128x128 .f32 := fun y =>
  D (ix3 (y 0) (y 1) (y 2)) * Ideal.exp (X.g (ix4 (y 0) n 0 0))
    + (∑ i, X.q (ix3 (y 0) (rw64 n i) (y 1)) * X.o (ix3 (y 0) (rw64 n i) (y 2)))
    + ∑ i, X.w (ix3 (y 0) (rw64 n i) (y 1)) * (0 - X.dv D n (y 0) i (y 2))
/-- The gradient of the state after `j` chunks, counted from the end. -/
def D : ℕ → Vec Ideal S8x128x128 .f32
  | 0 => fun _ => (0 : EReal)
  | j + 1 => X.ds (D j) (back j)

theorem D_succ (j : ℕ) : X.D (j + 1) = X.ds (X.D j) (back j) := rfl

def dw (D : Vec Ideal S8x128x128 .f32) (n : Fin 64) (h : Fin 8) (i : Fin 64) (k : Fin 128) : EReal :=
  ∑ v, (0 - X.dv D n h i v) * X.s (ix4 n h k v)
def da (n : Fin 64) (h : Fin 8) (i j : Fin 64) : EReal := ∑ v, X.o (ix3 h (rw64 n i) v) * X.vn n h j v
def dq (n : Fin 64) (h : Fin 8) (i : Fin 64) (k : Fin 128) : EReal := ∑ v, X.o (ix3 h (rw64 n i) v) * X.s (ix4 n h k v)
def dk (D : Vec Ideal S8x128x128 .f32) (n : Fin 64) (h : Fin 8) (i : Fin 64) (k : Fin 128) : EReal :=
  ∑ v, X.vn n h i v * D (ix3 h k v)
def dg (D : Vec Ideal S8x128x128 .f32) (n : Fin 64) (h : Fin 8) : EReal :=
  (∑ k, ∑ v, X.s (ix4 n h k v) * D (ix3 h k v)) * Ideal.exp (X.g (ix4 h n 0 0))

/-- The chunk of a row, and the row in its chunk. -/
abbrev cn (r : Fin 4096) : Fin 64 := ⟨r.val / 64, by omega⟩
abbrev ci (r : Fin 4096) : Fin 64 := ⟨r.val % 64, by omega⟩

def rDu : Vec Ideal S8x4096x128 .f32 := fun y => X.dv (X.D (63 - (cn (y 1)).val)) (cn (y 1)) (y 0) (ci (y 1)) (y 2)
def rDw : Vec Ideal S8x4096x128 .f32 := fun y => X.dw (X.D (63 - (cn (y 1)).val)) (cn (y 1)) (y 0) (ci (y 1)) (y 2)
def rDa : Vec Ideal S8x4096x64 .f32 := fun y => X.da (cn (y 1)) (y 0) (ci (y 1)) (y 2)
def rDq : Vec Ideal S8x4096x128 .f32 := fun y => X.dq (cn (y 1)) (y 0) (ci (y 1)) (y 2)
def rDk : Vec Ideal S8x4096x128 .f32 := fun y => X.dk (X.D (63 - (cn (y 1)).val)) (cn (y 1)) (y 0) (ci (y 1)) (y 2)
def rDg : Vec Ideal S8x64x1x1 .f32 := fun y => X.dg (X.D (63 - (y 1).val)) (y 1) (y 0)
end SArgs

/-! ## The operations at an entry -/

theorem vDv_at (k : Vec Ideal S1x64x128 .f32) (a : Vec Ideal S1x64x64 .f32) (o : Vec Ideal S1x64x128 .f32) (d : FVec Ideal S128x128 .f32) (i : Fin 64) (v : Fin 128) :
    vDv k a o d (ix2 i v) = (∑ x, k (ix3 0 i x) * d (ix2 x v) + ∑ x, a (ix3 0 x i) * o (ix3 0 x v) : EReal) := by
  unfold vDv; pointwise
theorem vNew_at (u w : Vec Ideal S1x64x128 .f32) (s : Vec Ideal S1x1x128x128 .f32) (i : Fin 64) (v : Fin 128) :
    vNew u w s (ix2 i v) = (u (ix3 0 i v) - ∑ x, w (ix3 0 i x) * s (ix4 0 0 x v) : EReal) := by
  unfold vNew; pointwise
theorem vNeg_at (x : FVec Ideal S64x128 .f32) (i : Fin 64) (v : Fin 128) : vNeg x (ix2 i v) = (0 - x (ix2 i v) : EReal) := by
  unfold vNeg; pointwise
theorem vDw_at (n : FVec Ideal S64x128 .f32) (s : Vec Ideal S1x1x128x128 .f32) (i : Fin 64) (k : Fin 128) :
    vDw n s (ix2 i k) = (∑ v, n (ix2 i v) * s (ix4 0 0 k v) : EReal) := by
  unfold vDw; pointwise
theorem vDa_at (o : Vec Ideal S1x64x128 .f32) (n : FVec Ideal S64x128 .f32) (i j : Fin 64) :
    vDa o n (ix2 i j) = (∑ v, o (ix3 0 i v) * n (ix2 j v) : EReal) := by
  unfold vDa; pointwise
theorem vDq_at (o : Vec Ideal S1x64x128 .f32) (s : Vec Ideal S1x1x128x128 .f32) (i : Fin 64) (k : Fin 128) :
    vDq o s (ix2 i k) = (∑ v, o (ix3 0 i v) * s (ix4 0 0 k v) : EReal) := by
  unfold vDq; pointwise
theorem vDk_at (n : FVec Ideal S64x128 .f32) (d : FVec Ideal S128x128 .f32) (i : Fin 64) (k : Fin 128) :
    vDk n d (ix2 i k) = (∑ v, n (ix2 i v) * d (ix2 k v) : EReal) := by
  unfold vDk; pointwise
theorem vDg_at (s : Vec Ideal S1x1x128x128 .f32) (d : FVec Ideal S128x128 .f32) (g : Vec Ideal S1x1x1x1 .f32) (i : S1x1.Idx) :
    vDg s d g i = ((∑ x, ∑ y, s (ix4 0 0 x y) * d (ix2 x y)) * Ideal.exp (g (ix4 0 0 0 0)) : EReal) := by
  unfold vDg; pointwise
theorem vDs_at (g : Vec Ideal S1x1x1x1 .f32) (q o w : Vec Ideal S1x64x128 .f32) (n : FVec Ideal S64x128 .f32) (d : FVec Ideal S128x128 .f32) (k v : Fin 128) :
    vDs g q o w n d (ix2 k v) = (d (ix2 k v) * Ideal.exp (g (ix4 0 0 0 0)) + ∑ x, q (ix3 0 x k) * o (ix3 0 x v) +
      ∑ x, w (ix3 0 x k) * n (ix2 x v) : EReal) := by
  unfold vDs; pointwise

/-! ## A grid point's loads -/

/-- Chunk `c` of grid point `t`: the points go from the end to the front. -/
def ch (t : Fin 16) (c : Fin 4) : Fin 64 := ⟨4 * (15 - t.val) + c.val, by omega⟩

/-- The loads are those of point `t`, and the state's gradient that it meets is `D`. -/
structure Good (X : SArgs) (t : Fin 16) (L : Loads Ideal) : Prop where
  u : ∀ h c i v, L.u h c (ix3 0 i v) = X.u (ix3 h (rw64 (ch t c) i) v)
  w : ∀ h c i v, L.w h c (ix3 0 i v) = X.w (ix3 h (rw64 (ch t c) i) v)
  a : ∀ h c i v, L.a h c (ix3 0 i v) = X.a (ix3 h (rw64 (ch t c) i) v)
  q : ∀ h c i v, L.q h c (ix3 0 i v) = X.q (ix3 h (rw64 (ch t c) i) v)
  k : ∀ h c i v, L.k h c (ix3 0 i v) = X.k (ix3 h (rw64 (ch t c) i) v)
  g : ∀ h c, L.g h c (ix4 0 0 0 0) = X.g (ix4 h (ch t c) 0 0)
  s : ∀ h c k v, L.s h c (ix4 0 0 k v) = X.s (ix4 (ch t c) h k v)
  o : ∀ h c i v, L.o h c (ix3 0 i v) = X.o (ix3 h (rw64 (ch t c) i) v)
  d : ∀ h k v, L.d h (ix3 0 k v) = X.D (4 * t.val) (ix3 h k v)

section
variable {X : SArgs} {t : Fin 16} {L : Loads Ideal} (G : Good X t L)
include G

theorem dvAt_eq (h : Fin 8) (c : Fin 4) (d : FVec Ideal S128x128 .f32) (D : Vec Ideal S8x128x128 .f32)
    (hd : ∀ k v, d (ix2 k v) = D (ix3 h k v)) (i : Fin 64) (v : Fin 128) :
    L.dvAt h c d (ix2 i v) = X.dv D (ch t c) h i v := by
  unfold Loads.dvAt SArgs.dv
  rw [vDv_at]
  simp only [G.k, G.a, G.o, hd]

theorem dsAt_eq (h : Fin 8) (c : Fin 4) (d : FVec Ideal S128x128 .f32) (D : Vec Ideal S8x128x128 .f32)
    (hd : ∀ k v, d (ix2 k v) = D (ix3 h k v)) (k v : Fin 128) :
    L.dsAt h c d (ix2 k v) = X.ds D (ch t c) (ix3 h k v) := by
  unfold Loads.dsAt SArgs.ds
  rw [vDs_at]
  simp only [G.q, G.w, G.g, G.o, hd, vNeg_at, dvAt_eq G h c d D hd]
  rfl

theorem d3_eq (h : Fin 8) (k v : Fin 128) : L.d3 h (ix2 k v) = X.D (4 * t.val) (ix3 h k v) := by
  unfold Loads.d3
  pointwise
  exact G.d h k v
theorem d2_eq (h : Fin 8) (k v : Fin 128) : L.d2 h (ix2 k v) = X.D (4 * t.val + 1) (ix3 h k v) := by
  unfold Loads.d2
  rw [dsAt_eq G h 3 _ _ (d3_eq G h), show ch t 3 = back (4 * t.val) from Fin.ext (by show 4 * (15 - t.val) + 3 = 63 - 4 * t.val; omega)]
  exact (congrFun (X.D_succ _) _).symm
theorem d1_eq (h : Fin 8) (k v : Fin 128) : L.d1 h (ix2 k v) = X.D (4 * t.val + 2) (ix3 h k v) := by
  unfold Loads.d1
  rw [dsAt_eq G h 2 _ _ (d2_eq G h), show ch t 2 = back (4 * t.val + 1) from Fin.ext (by show 4 * (15 - t.val) + 2 = 63 - (4 * t.val + 1); omega)]
  exact (congrFun (X.D_succ _) _).symm
theorem d0_eq (h : Fin 8) (k v : Fin 128) : L.d0 h (ix2 k v) = X.D (4 * t.val + 3) (ix3 h k v) := by
  unfold Loads.d0
  rw [dsAt_eq G h 1 _ _ (d1_eq G h), show ch t 1 = back (4 * t.val + 2) from Fin.ext (by show 4 * (15 - t.val) + 1 = 63 - (4 * t.val + 2); omega)]
  exact (congrFun (X.D_succ _) _).symm
/-- What point `t` leaves in the carried scratch. -/
theorem dEnd_eq (h : Fin 8) (k v : Fin 128) : L.dEnd h (ix2 k v) = X.D (4 * (t.val + 1)) (ix3 h k v) := by
  unfold Loads.dEnd
  rw [dsAt_eq G h 0 _ _ (d0_eq G h), show 4 * (t.val + 1) = 4 * t.val + 3 + 1 by omega, show ch t 0 = back (4 * t.val + 3) from Fin.ext (by show 4 * (15 - t.val) + 0 = 63 - (4 * t.val + 3); omega)]
  exact (congrFun (X.D_succ _) _).symm
theorem dAt_eq (h : Fin 8) (c : Fin 4) (k v : Fin 128) : L.dAt h c (ix2 k v) = X.D (63 - (ch t c).val) (ix3 h k v) := by
  have e : 63 - (ch t c).val = 4 * t.val + (3 - c.val) := by show 63 - (4 * (15 - t.val) + c.val) = _; omega
  rw [e]
  match c with
  | 0 => exact d0_eq G h k v
  | 1 => exact d1_eq G h k v
  | 2 => exact d2_eq G h k v
  | 3 => exact d3_eq G h k v

theorem du_eq (h : Fin 8) (c : Fin 4) (i : Fin 64) (v : Fin 128) : L.du h c (ix2 i v) = X.dv (X.D (63 - (ch t c).val)) (ch t c) h i v :=
  dvAt_eq G h c _ _ (dAt_eq G h c) i v
theorem dw_eq (h : Fin 8) (c : Fin 4) (i : Fin 64) (v : Fin 128) : L.dw h c (ix2 i v) = X.dw (X.D (63 - (ch t c).val)) (ch t c) h i v := by
  unfold Loads.dw SArgs.dw
  rw [vDw_at]
  simp only [vNeg_at, du_eq G, G.s]
theorem vn_eq (h : Fin 8) (c : Fin 4) (i : Fin 64) (v : Fin 128) : vNew (L.u h c) (L.w h c) (L.s h c) (ix2 i v) = X.vn (ch t c) h i v := by
  unfold SArgs.vn
  rw [vNew_at]
  simp only [G.u, G.w, G.s]
theorem da_eq (h : Fin 8) (c : Fin 4) (i j : Fin 64) : L.da h c (ix2 i j) = X.da (ch t c) h i j := by
  unfold Loads.da SArgs.da
  rw [vDa_at]
  simp only [vn_eq G, G.o]
theorem dq_eq (h : Fin 8) (c : Fin 4) (i : Fin 64) (v : Fin 128) : L.dq h c (ix2 i v) = X.dq (ch t c) h i v := by
  unfold Loads.dq SArgs.dq
  rw [vDq_at]
  simp only [G.s, G.o]
theorem dk_eq (h : Fin 8) (c : Fin 4) (i : Fin 64) (v : Fin 128) : L.dk h c (ix2 i v) = X.dk (X.D (63 - (ch t c).val)) (ch t c) h i v := by
  unfold Loads.dk SArgs.dk
  rw [vDk_at]
  simp only [vn_eq G, dAt_eq G]
theorem dg_eq (h : Fin 8) (c : Fin 4) (i : S1x1.Idx) : L.dg h c i = X.dg (X.D (63 - (ch t c).val)) (ch t c) h := by
  unfold Loads.dg SArgs.dg
  rw [vDg_at]
  simp only [G.s, G.g, dAt_eq G]
end

end Cert.KernelIdeal.Own
-- ==== Proof.ScanOuts.lean ====
module

public import proofs.«01_k».proof.Proof.ScanPieces
public import proofs.«01_k».proof.Proof.ScanMath

/-!
# The blocks that a grid point of the backward scan leaves

If a point's loads are rows of the arrays and it meets the right gradient of the state (`Good`), then the blocks it leaves
are blocks of `SArgs.rDu`, …, `SArgs.rDg`, and the state's gradient it leaves is the one after four more chunks.
-/

@[expose] public section
set_option maxRecDepth 16384
set_option maxHeartbeats 1000000
noncomputable section
namespace Cert.KernelIdeal.Own
open Cert.KernelIdeal Cert.KernelIdeal.Gen Idealize.ShloMosaic Idealize.ShloMosaic.TcCoe Idealize.SL.Sem
open Idealize.ShloMosaic.Pipeline (Dat)

/-! ## Rows and chunks -/

/-- Row `r` of point `t`'s block. -/
def rowOf (t : Fin 16) (r : Fin 256) : Fin 4096 := ⟨256 * (15 - t.val) + r.val, by omega⟩
/-- Chunk `r` of point `t`'s block. -/
def chOf (t : Fin 16) (r : Fin 4) : Fin 64 := ⟨4 * (15 - t.val) + r.val, by omega⟩

theorem cn_rw (n i : Fin 64) : SArgs.cn (rw64 n i) = n := Fin.ext (by show (64 * n.val + i.val) / 64 = n.val; omega)
theorem ci_rw (n i : Fin 64) : SArgs.ci (rw64 n i) = i := Fin.ext (by show (64 * n.val + i.val) % 64 = i.val; omega)

theorem rDu_at (X : SArgs) (n : Fin 64) (h : Fin 8) (i : Fin 64) (v : Fin 128) : X.rDu (ix3 h (rw64 n i) v) = X.dv (X.D (63 - n.val)) n h i v := by
  have e := cn_rw n i
  have e' := ci_rw n i
  unfold SArgs.rDu
  show X.dv (X.D (63 - (SArgs.cn (rw64 n i)).val)) (SArgs.cn (rw64 n i)) h (SArgs.ci (rw64 n i)) v = _
  rw [e, e']
theorem rDw_at (X : SArgs) (n : Fin 64) (h : Fin 8) (i : Fin 64) (v : Fin 128) : X.rDw (ix3 h (rw64 n i) v) = X.dw (X.D (63 - n.val)) n h i v := by
  have e := cn_rw n i
  have e' := ci_rw n i
  unfold SArgs.rDw
  show X.dw (X.D (63 - (SArgs.cn (rw64 n i)).val)) (SArgs.cn (rw64 n i)) h (SArgs.ci (rw64 n i)) v = _
  rw [e, e']
theorem rDa_at (X : SArgs) (n : Fin 64) (h : Fin 8) (i : Fin 64) (v : Fin 64) : X.rDa (ix3 h (rw64 n i) v) = X.da n h i v := by
  have e := cn_rw n i
  have e' := ci_rw n i
  unfold SArgs.rDa
  show X.da (SArgs.cn (rw64 n i)) h (SArgs.ci (rw64 n i)) v = _
  rw [e, e']
theorem rDq_at (X : SArgs) (n : Fin 64) (h : Fin 8) (i : Fin 64) (v : Fin 128) : X.rDq (ix3 h (rw64 n i) v) = X.dq n h i v := by
  have e := cn_rw n i
  have e' := ci_rw n i
  unfold SArgs.rDq
  show X.dq (SArgs.cn (rw64 n i)) h (SArgs.ci (rw64 n i)) v = _
  rw [e, e']
theorem rDk_at (X : SArgs) (n : Fin 64) (h : Fin 8) (i : Fin 64) (v : Fin 128) : X.rDk (ix3 h (rw64 n i) v) = X.dk (X.D (63 - n.val)) n h i v := by
  have e := cn_rw n i
  have e' := ci_rw n i
  unfold SArgs.rDk
  show X.dk (X.D (63 - (SArgs.cn (rw64 n i)).val)) (SArgs.cn (rw64 n i)) h (SArgs.ci (rw64 n i)) v = _
  rw [e, e']

/-! ## Stored pieces, read back -/

theorem canon128 (R : Vec Ideal S8x4096x128 .f32) (t : Fin 16) (f : Fin 8 → Fin 4 → FVec Ideal S64x128 .f32)
    (hf : ∀ h c i v, f h c (ix2 i v) = R (ix3 h (rw64 (ch t c) i) v)) (y : S8x256x128.Idx)
    (hy : ∃ p ∈ pairs.map (pc128 f), y ∈ p.1.set) :
    View.canon (pairs.map (pc128 f)) y = R (ix3 (y 0) (rowOf t (y 1)) (y 2)) := by
  refine View.canon_apply_of_pieces (fun y : S8x256x128.Idx => R (ix3 (y 0) (rowOf t (y 1)) (y 2))) _ (fun p hp x => ?_) y hy
  obtain ⟨⟨h, c⟩, _, rfl⟩ := List.mem_map.mp hp
  change S1x64x128.Idx at x
  rw [show x = ix3 (0 : Fin 1) (x 1) (x 2) from funext fun a => Fin.ext (by
    match a with
    | ⟨0, _⟩ => exact Nat.lt_one_iff.mp (x 0).isLt
    | ⟨1, _⟩ => rfl
    | ⟨2, _⟩ => rfl)]
  generalize x 1 = i
  generalize x 2 = v
  refine Eq.trans (b := f h c (ix2 i v)) ?_ ((hf h c i v).trans (congrArg R (funext fun a => Fin.ext ?_)))
  · show shapeCast S1x64x128 (f h c) _ (ix3 0 i v) = _
    pointwise
  · match a with
    | ⟨0, _⟩ => show h.val = h.val + 1 * 0; omega
    | ⟨1, _⟩ => show 64 * (4 * (15 - t.val) + c.val) + i.val = 256 * (15 - t.val) + (64 * c.val + 1 * i.val); omega
    | ⟨2, _⟩ => show v.val = 0 + 1 * v.val; omega

theorem canon64 (R : Vec Ideal S8x4096x64 .f32) (t : Fin 16) (f : Fin 8 → Fin 4 → FVec Ideal S64x64 .f32)
    (hf : ∀ h c i v, f h c (ix2 i v) = R (ix3 h (rw64 (ch t c) i) v)) (y : S8x256x64.Idx)
    (hy : ∃ p ∈ pairs.map (pc64 f), y ∈ p.1.set) :
    View.canon (pairs.map (pc64 f)) y = R (ix3 (y 0) (rowOf t (y 1)) (y 2)) := by
  refine View.canon_apply_of_pieces (fun y : S8x256x64.Idx => R (ix3 (y 0) (rowOf t (y 1)) (y 2))) _ (fun p hp x => ?_) y hy
  obtain ⟨⟨h, c⟩, _, rfl⟩ := List.mem_map.mp hp
  change S1x64x64.Idx at x
  rw [show x = ix3 (0 : Fin 1) (x 1) (x 2) from funext fun a => Fin.ext (by
    match a with
    | ⟨0, _⟩ => exact Nat.lt_one_iff.mp (x 0).isLt
    | ⟨1, _⟩ => rfl
    | ⟨2, _⟩ => rfl)]
  generalize x 1 = i
  generalize x 2 = v
  refine Eq.trans (b := f h c (ix2 i v)) ?_ ((hf h c i v).trans (congrArg R (funext fun a => Fin.ext ?_)))
  · show shapeCast S1x64x64 (f h c) _ (ix3 0 i v) = _
    pointwise
  · match a with
    | ⟨0, _⟩ => show h.val = h.val + 1 * 0; omega
    | ⟨1, _⟩ => show 64 * (4 * (15 - t.val) + c.val) + i.val = 256 * (15 - t.val) + (64 * c.val + 1 * i.val); omega
    | ⟨2, _⟩ => show v.val = 0 + 1 * v.val; omega

theorem canon1 (R : Vec Ideal S8x64x1x1 .f32) (t : Fin 16) (f : Fin 8 → Fin 4 → FVec Ideal S1x1 .f32)
    (hf : ∀ h c i, f h c i = R (ix4 h (ch t c) 0 0)) (y : S8x4x1x1.Idx)
    (hy : ∃ p ∈ pairs.map (pc1 f), y ∈ p.1.set) :
    View.canon (pairs.map (pc1 f)) y = R (ix4 (y 0) (chOf t (y 1)) 0 0) := by
  refine View.canon_apply_of_pieces (fun y : S8x4x1x1.Idx => R (ix4 (y 0) (chOf t (y 1)) 0 0)) _ (fun p hp x => ?_) y hy
  obtain ⟨⟨h, c⟩, _, rfl⟩ := List.mem_map.mp hp
  change S1x1x1x1.Idx at x
  have h0 : (x 0).val = 0 := Nat.lt_one_iff.mp (x 0).isLt
  have h1 : (x 1).val = 0 := Nat.lt_one_iff.mp (x 1).isLt
  refine (hf h c _).trans (congrArg R (funext fun a => Fin.ext ?_))
  match a with
  | ⟨0, _⟩ => show h.val = h.val + 1 * (x 0).val; omega
  | ⟨1, _⟩ => show 4 * (15 - t.val) + c.val = 4 * (15 - t.val) + (c.val + 1 * (x 1).val); omega
  | ⟨2, _⟩ => rfl
  | ⟨3, _⟩ => rfl

theorem canonD (R : Vec Ideal S8x128x128 .f32) (f : Fin 8 → FVec Ideal S128x128 .f32)
    (hf : ∀ h k v, f h (ix2 k v) = R (ix3 h k v)) (h : Fin 8) (k v : Fin 128) (L : List (View.Piece (Elt Ideal) S8x128x128 .f32)) :
    View.canon ([7, 6, 5, 4, 3, 2, 1, 0].map (pcD f) ++ L) (ix3 h k v) = R (ix3 h k v) := by
  have key : ∀ hs : List (Fin 8), h ∈ hs → View.canon (hs.map (pcD f) ++ L) (ix3 h k v) = R (ix3 h k v) := by
    intro hs
    induction hs with
    | nil => intro hm; exact absurd hm List.not_mem_nil
    | cons b hs ih =>
      intro hm
      rw [List.map_cons, List.cons_append]
      by_cases e : h = b
      · subst e
        have hx : (ix3 h k v : S8x128x128.Idx) = (rcD h).emb (ix3 (0 : Fin 1) k v) := funext fun a => Fin.ext (by
          match a with
          | ⟨0, _⟩ => show h.val = h.val + 1 * 0; omega
          | ⟨1, _⟩ => show k.val = 0 + 1 * k.val; omega
          | ⟨2, _⟩ => show v.val = 0 + 1 * v.val; omega)
        refine ((congrArg _ hx).trans (View.canon_cons_emb (rcD h) _ _ (ix3 (0 : Fin 1) k v))).trans ?_
        refine Eq.trans ?_ (hf h k v)
        show shapeCast S1x128x128 (f h) _ (ix3 0 k v) = _
        pointwise
      · refine (View.canon_cons_of_not_mem _ _ ?_).trans (ih ((List.mem_cons.mp hm).resolve_left e))
        intro hmem
        obtain ⟨x, hx⟩ := (rcD b).exists_idx_of_mem hmem
        have h0 : ((rcD b).idx x 0).val = h.val := by rw [hx]; rfl
        have h1 : b.val + 1 * (x 0).val = h.val := h0
        have h2 : (x 0).val = 0 := Nat.lt_one_iff.mp (x 0).isLt
        exact e (Fin.ext (by omega))
  exact key _ (by fin_cases h <;> decide)

/-! ## The blocks that a point writes -/

section

variable (c : Dev nD) (i : grid0.Coords) (arg1 : Memref sig .tc .vmem S8x256x128 .f32) (harg1 : arg1.IsWhole) (arg2 : Memref sig .tc .vmem S8x256x128 .f32) (harg2 : arg2.IsWhole) (arg3 : Memref sig .tc .vmem S8x256x64 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x4x1x1 .f32) (harg6 : arg6.IsWhole) (arg7 : Memref sig .tc .vmem S4x8x128x128 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x64 .f32) (harg11 : arg11.IsWhole) (arg12 : Memref sig .tc .vmem S8x256x128 .f32) (harg12 : arg12.IsWhole) (arg13 : Memref sig .tc .vmem S8x256x128 .f32) (harg13 : arg13.IsWhole) (arg14 : Memref sig .tc .vmem S8x4x1x1 .f32) (harg14 : arg14.IsWhole) (arg15 : Memref sig .tc .vmem S8x128x128 .f32) (harg15 : arg15.IsWhole) (hc0 : cond0_0 i) (x0 : Vec Ideal S8x256x128 .f32) (x1 : Vec Ideal S8x256x128 .f32) (x2 : Vec Ideal S8x256x64 .f32) (x3 : Vec Ideal S8x256x128 .f32) (x4 : Vec Ideal S8x256x128 .f32) (x5 : Vec Ideal S8x4x1x1 .f32) (x6 : Vec Ideal S4x8x128x128 .f32) (x7 : Vec Ideal S8x256x128 .f32) (X : SArgs) (t : Fin 16) (G : Good X t (lds arg1 harg1 arg2 harg2 arg3 harg3 arg4 harg4 arg5 harg5 arg6 harg6 arg7 harg7 arg8 harg8 x0 x1 x2 x3 x4 x5 x6 x7 (fun h => arg15.view.readCov kernelRun0_A.sl.HS0_1 (rcD h).toLoadRect)))
include G

theorem out_A_8 (y) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = X.rDu (ix3 (y 0) (rowOf t (y 1)) (y 2)) := by
  unfold out0_A_8
  have hc := cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
  rw [View.read_writes_eq_canon]
  swap
  · exact fun _ => cover0_A_8 ..
  rw [pieces_A_du] at hc ⊢
  exact canon128 X.rDu t _ (fun hh cc ii vv => (du_eq G hh cc ii vv).trans (rDu_at X _ hh ii vv).symm) y hc

theorem out_A_9 (y) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = X.rDw (ix3 (y 0) (rowOf t (y 1)) (y 2)) := by
  unfold out0_A_9
  have hc := cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
  rw [View.read_writes_eq_canon]
  swap
  · exact fun _ => cover0_A_9 ..
  rw [pieces_A_dw] at hc ⊢
  exact canon128 X.rDw t _ (fun hh cc ii vv => (dw_eq G hh cc ii vv).trans (rDw_at X _ hh ii vv).symm) y hc

theorem out_A_10 (y) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = X.rDa (ix3 (y 0) (rowOf t (y 1)) (y 2)) := by
  unfold out0_A_10
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
  rw [View.read_writes_eq_canon]
  swap
  · exact fun _ => cover0_A_10 ..
  rw [pieces_A_da] at hc ⊢
  exact canon64 X.rDa t _ (fun hh cc ii vv => (da_eq G hh cc ii vv).trans (rDa_at X _ hh ii vv).symm) y hc

theorem out_A_11 (y) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = X.rDq (ix3 (y 0) (rowOf t (y 1)) (y 2)) := by
  unfold out0_A_11
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
  rw [View.read_writes_eq_canon]
  swap
  · exact fun _ => cover0_A_11 ..
  rw [pieces_A_dq] at hc ⊢
  exact canon128 X.rDq t _ (fun hh cc ii vv => (dq_eq G hh cc ii vv).trans (rDq_at X _ hh ii vv).symm) y hc

theorem out_A_12 (y) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = X.rDk (ix3 (y 0) (rowOf t (y 1)) (y 2)) := by
  unfold out0_A_12
  have hc := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
  rw [View.read_writes_eq_canon]
  swap
  · exact fun _ => cover0_A_12 ..
  rw [pieces_A_dk] at hc ⊢
  exact canon128 X.rDk t _ (fun hh cc ii vv => (dk_eq G hh cc ii vv).trans (rDk_at X _ hh ii vv).symm) y hc

theorem out_A_13 (y) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = X.rDg (ix4 (y 0) (chOf t (y 1)) 0 0) := by
  unfold out0_A_13
  have hc := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
  rw [View.read_writes_eq_canon]
  swap
  · exact fun _ => cover0_A_13 ..
  rw [pieces_A_dg] at hc ⊢
  exact canon1 X.rDg t _ (fun hh cc ii => dg_eq G hh cc ii) y hc

theorem sout_A (hh : Fin 8) (k v : Fin 128) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 hh k v) = X.D (4 * (t.val + 1)) (ix3 hh k v) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  rw [pieces_A_d c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7]
  exact (canonD (X.D (4 * (t.val + 1))) _ (fun hh k v => dEnd_eq G hh k v) hh k v _)

end

section

variable (c : Dev nD) (i : grid0.Coords) (arg1 : Memref sig .tc .vmem S8x256x128 .f32) (harg1 : arg1.IsWhole) (arg2 : Memref sig .tc .vmem S8x256x128 .f32) (harg2 : arg2.IsWhole) (arg3 : Memref sig .tc .vmem S8x256x64 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x4x1x1 .f32) (harg6 : arg6.IsWhole) (arg7 : Memref sig .tc .vmem S4x8x128x128 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x64 .f32) (harg11 : arg11.IsWhole) (arg12 : Memref sig .tc .vmem S8x256x128 .f32) (harg12 : arg12.IsWhole) (arg13 : Memref sig .tc .vmem S8x256x128 .f32) (harg13 : arg13.IsWhole) (arg14 : Memref sig .tc .vmem S8x4x1x1 .f32) (harg14 : arg14.IsWhole) (arg15 : Memref sig .tc .vmem S8x128x128 .f32) (harg15 : arg15.IsWhole) (hc0 : ¬ cond0_0 i) (x0 : Vec Ideal S8x256x128 .f32) (x1 : Vec Ideal S8x256x128 .f32) (x2 : Vec Ideal S8x256x64 .f32) (x3 : Vec Ideal S8x256x128 .f32) (x4 : Vec Ideal S8x256x128 .f32) (x5 : Vec Ideal S8x4x1x1 .f32) (x6 : Vec Ideal S4x8x128x128 .f32) (x7 : Vec Ideal S8x256x128 .f32) (xs0 : Vec Ideal S8x128x128 .f32) (X : SArgs) (t : Fin 16) (G : Good X t (lds arg1 harg1 arg2 harg2 arg3 harg3 arg4 harg4 arg5 harg5 arg6 harg6 arg7 harg7 arg8 harg8 x0 x1 x2 x3 x4 x5 x6 x7 (fun h => View.readAt (Elt Ideal) arg15.view (rcD h).toLoadRect (harg15.unread xs0))))
include G

theorem out_B_8 (y) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = X.rDu (ix3 (y 0) (rowOf t (y 1)) (y 2)) := by
  unfold out0_B_8
  have hc := cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
  rw [View.read_writes_eq_canon]
  swap
  · exact fun _ => cover0_B_8 ..
  rw [pieces_B_du] at hc ⊢
  exact canon128 X.rDu t _ (fun hh cc ii vv => (du_eq G hh cc ii vv).trans (rDu_at X _ hh ii vv).symm) y hc

theorem out_B_9 (y) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = X.rDw (ix3 (y 0) (rowOf t (y 1)) (y 2)) := by
  unfold out0_B_9
  have hc := cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
  rw [View.read_writes_eq_canon]
  swap
  · exact fun _ => cover0_B_9 ..
  rw [pieces_B_dw] at hc ⊢
  exact canon128 X.rDw t _ (fun hh cc ii vv => (dw_eq G hh cc ii vv).trans (rDw_at X _ hh ii vv).symm) y hc

theorem out_B_10 (y) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = X.rDa (ix3 (y 0) (rowOf t (y 1)) (y 2)) := by
  unfold out0_B_10
  have hc := cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
  rw [View.read_writes_eq_canon]
  swap
  · exact fun _ => cover0_B_10 ..
  rw [pieces_B_da] at hc ⊢
  exact canon64 X.rDa t _ (fun hh cc ii vv => (da_eq G hh cc ii vv).trans (rDa_at X _ hh ii vv).symm) y hc

theorem out_B_11 (y) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = X.rDq (ix3 (y 0) (rowOf t (y 1)) (y 2)) := by
  unfold out0_B_11
  have hc := cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
  rw [View.read_writes_eq_canon]
  swap
  · exact fun _ => cover0_B_11 ..
  rw [pieces_B_dq] at hc ⊢
  exact canon128 X.rDq t _ (fun hh cc ii vv => (dq_eq G hh cc ii vv).trans (rDq_at X _ hh ii vv).symm) y hc

theorem out_B_12 (y) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = X.rDk (ix3 (y 0) (rowOf t (y 1)) (y 2)) := by
  unfold out0_B_12
  have hc := cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
  rw [View.read_writes_eq_canon]
  swap
  · exact fun _ => cover0_B_12 ..
  rw [pieces_B_dk] at hc ⊢
  exact canon128 X.rDk t _ (fun hh cc ii vv => (dk_eq G hh cc ii vv).trans (rDk_at X _ hh ii vv).symm) y hc

theorem out_B_13 (y) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = X.rDg (ix4 (y 0) (chOf t (y 1)) 0 0) := by
  unfold out0_B_13
  have hc := cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
  rw [View.read_writes_eq_canon]
  swap
  · exact fun _ => cover0_B_13 ..
  rw [pieces_B_dg] at hc ⊢
  exact canon1 X.rDg t _ (fun hh cc ii => dg_eq G hh cc ii) y hc

theorem sout_B (hh : Fin 8) (k v : Fin 128) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix3 hh k v) = X.D (4 * (t.val + 1)) (ix3 hh k v) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  rw [pieces_B_d c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0]
  exact (congrArg (fun l => View.canon l (ix3 hh k v)) (List.append_nil _).symm).trans (canonD (X.D (4 * (t.val + 1))) _ (fun hh k v => dEnd_eq G hh k v) hh k v _)

end

end Cert.KernelIdeal.Own
-- ==== Proof.ScanArr.lean ====
module

public import proofs.«01_k».proof.Proof.Kit
public import proofs.«01_k».proof.Proof.ScanOuts

/-!
# What the arrays of the backward scan hold after its grid

The blocks that a point fetches are rows of the arrays (`good_lds`), so by induction over the points the carried state's
gradient is `SArgs.D` after four more chunks (`scratch_eq`), and every block that a point writes back is a block of
`SArgs.rDu`, …, `SArgs.rDg`. These blocks cover the arrays (`out8_eq`, …, `out13_eq`).
-/

@[expose] public section
set_option maxRecDepth 16384
set_option maxHeartbeats 1000000
noncomputable section
namespace Cert.KernelIdeal.Own
open Cert.KernelIdeal Cert.KernelIdeal.Gen Idealize.ShloMosaic Idealize.ShloMosaic.TcCoe Idealize.SL.Sem
open Idealize.ShloMosaic.Pipeline (Dat)

/-! ## The blocks fetched -/

variable (m : (ℓ : Loc nD τ sig) → Buf (Elt Ideal) ℓ) (c : Dev nD)

/-- Point `t`'s blocks are the `15 - t`-th. -/
theorem idx_facts : ∀ t : Fin cfg0.N,
    (win0_0.index t 0 = 0 ∧ win0_0.index t 1 = 15 - t.val ∧ win0_0.index t 2 = 0)
    ∧ (win0_1.index t 0 = 0 ∧ win0_1.index t 1 = 15 - t.val ∧ win0_1.index t 2 = 0)
    ∧ (win0_2.index t 0 = 0 ∧ win0_2.index t 1 = 15 - t.val ∧ win0_2.index t 2 = 0)
    ∧ (win0_3.index t 0 = 0 ∧ win0_3.index t 1 = 15 - t.val ∧ win0_3.index t 2 = 0)
    ∧ (win0_4.index t 0 = 0 ∧ win0_4.index t 1 = 15 - t.val ∧ win0_4.index t 2 = 0)
    ∧ (win0_5.index t 0 = 0 ∧ win0_5.index t 1 = 15 - t.val ∧ win0_5.index t 2 = 0 ∧ win0_5.index t 3 = 0)
    ∧ (win0_6.index t 0 = 15 - t.val ∧ win0_6.index t 1 = 0 ∧ win0_6.index t 2 = 0 ∧ win0_6.index t 3 = 0)
    ∧ (win0_7.index t 0 = 0 ∧ win0_7.index t 1 = 15 - t.val ∧ win0_7.index t 2 = 0)
    ∧ (win0_8.index t 0 = 0 ∧ win0_8.index t 1 = 15 - t.val ∧ win0_8.index t 2 = 0)
    ∧ (win0_9.index t 0 = 0 ∧ win0_9.index t 1 = 15 - t.val ∧ win0_9.index t 2 = 0)
    ∧ (win0_10.index t 0 = 0 ∧ win0_10.index t 1 = 15 - t.val ∧ win0_10.index t 2 = 0)
    ∧ (win0_11.index t 0 = 0 ∧ win0_11.index t 1 = 15 - t.val ∧ win0_11.index t 2 = 0)
    ∧ (win0_12.index t 0 = 0 ∧ win0_12.index t 1 = 15 - t.val ∧ win0_12.index t 2 = 0)
    ∧ (win0_13.index t 0 = 0 ∧ win0_13.index t 1 = 15 - t.val ∧ win0_13.index t 2 = 0 ∧ win0_13.index t 3 = 0) :=
  (by decide +kernel : ∀ t : Fin grid0.N, _)

/-- A point of the grid as a number below 16. -/
def pt (t : Fin cfg0.N) : Fin 16 := ⟨t.val, t.isLt⟩

theorem blk0 (t : Fin cfg0.N) (x : S8x256x128.Idx) (y : S8x4096x128.Idx)
    (h0 : (y 0).val = (x 0).val) (h1 : (y 1).val = 256 * (15 - t.val) + (x 1).val) (h2 : (y 2).val = (x 2).val) :
    iblk m c 0 t x = m ((c : Thread nD τ).loc main_arg0) y := by
  exact congrArg (m _) (Kit.at_blk3 _ y (win0_0.index t) 8 256 128 rfl rfl rfl ((idx_facts t).1) (by omega) (by omega) (by omega))

theorem blk1 (t : Fin cfg0.N) (x : S8x256x128.Idx) (y : S8x4096x128.Idx)
    (h0 : (y 0).val = (x 0).val) (h1 : (y 1).val = 256 * (15 - t.val) + (x 1).val) (h2 : (y 2).val = (x 2).val) :
    iblk m c 1 t x = m ((c : Thread nD τ).loc main_arg1) y := by
  exact congrArg (m _) (Kit.at_blk3 _ y (win0_1.index t) 8 256 128 rfl rfl rfl ((idx_facts t).2.1) (by omega) (by omega) (by omega))

theorem blk2 (t : Fin cfg0.N) (x : S8x256x64.Idx) (y : S8x4096x64.Idx)
    (h0 : (y 0).val = (x 0).val) (h1 : (y 1).val = 256 * (15 - t.val) + (x 1).val) (h2 : (y 2).val = (x 2).val) :
    iblk m c 2 t x = m ((c : Thread nD τ).loc main_arg2) y := by
  exact congrArg (m _) (Kit.at_blk3 _ y (win0_2.index t) 8 256 64 rfl rfl rfl ((idx_facts t).2.2.1) (by omega) (by omega) (by omega))

theorem blk3 (t : Fin cfg0.N) (x : S8x256x128.Idx) (y : S8x4096x128.Idx)
    (h0 : (y 0).val = (x 0).val) (h1 : (y 1).val = 256 * (15 - t.val) + (x 1).val) (h2 : (y 2).val = (x 2).val) :
    iblk m c 3 t x = m ((c : Thread nD τ).loc main_arg3) y := by
  exact congrArg (m _) (Kit.at_blk3 _ y (win0_3.index t) 8 256 128 rfl rfl rfl ((idx_facts t).2.2.2.1) (by omega) (by omega) (by omega))

theorem blk4 (t : Fin cfg0.N) (x : S8x256x128.Idx) (y : S8x4096x128.Idx)
    (h0 : (y 0).val = (x 0).val) (h1 : (y 1).val = 256 * (15 - t.val) + (x 1).val) (h2 : (y 2).val = (x 2).val) :
    iblk m c 4 t x = m ((c : Thread nD τ).loc main_arg4) y := by
  exact congrArg (m _) (Kit.at_blk3 _ y (win0_4.index t) 8 256 128 rfl rfl rfl ((idx_facts t).2.2.2.2.1) (by omega) (by omega) (by omega))

theorem blk5 (t : Fin cfg0.N) (x : S8x4x1x1.Idx) (y : S8x64x1x1.Idx)
    (h0 : (y 0).val = (x 0).val) (h1 : (y 1).val = 4 * (15 - t.val) + (x 1).val) (h2 : (y 2).val = (x 2).val) (h3 : (y 3).val = (x 3).val) :
    iblk m c 5 t x = m ((c : Thread nD τ).loc main_arg5) y := by
  have hi := (idx_facts t).2.2.2.2.2.1
  show m ((c : Thread nD τ).loc main_arg5) ((win0_5.rect t).idx x) = _
  refine congrArg _ (funext fun a => Fin.ext ?_)
  match a with
  | ⟨0, _⟩ => show win0_5.index t 0 * 8 + 1 * (x 0).val = (y 0).val; rw [hi.1]; omega
  | ⟨1, _⟩ => show win0_5.index t 1 * 4 + 1 * (x 1).val = (y 1).val; rw [hi.2.1]; omega
  | ⟨2, _⟩ => show win0_5.index t 2 * 1 + 1 * (x 2).val = (y 2).val; rw [hi.2.2.1]; omega
  | ⟨3, _⟩ => show win0_5.index t 3 * 1 + 1 * (x 3).val = (y 3).val; rw [hi.2.2.2]; omega

theorem blk6 (t : Fin cfg0.N) (x : S4x8x128x128.Idx) (y : S64x8x128x128.Idx)
    (h0 : (y 0).val = 4 * (15 - t.val) + (x 0).val) (h1 : (y 1).val = (x 1).val) (h2 : (y 2).val = (x 2).val) (h3 : (y 3).val = (x 3).val) :
    iblk m c 6 t x = m ((c : Thread nD τ).loc main_arg6) y := by
  have hi := (idx_facts t).2.2.2.2.2.2.1
  show m ((c : Thread nD τ).loc main_arg6) ((win0_6.rect t).idx x) = _
  refine congrArg _ (funext fun a => Fin.ext ?_)
  match a with
  | ⟨0, _⟩ => show win0_6.index t 0 * 4 + 1 * (x 0).val = (y 0).val; rw [hi.1]; omega
  | ⟨1, _⟩ => show win0_6.index t 1 * 8 + 1 * (x 1).val = (y 1).val; rw [hi.2.1]; omega
  | ⟨2, _⟩ => show win0_6.index t 2 * 128 + 1 * (x 2).val = (y 2).val; rw [hi.2.2.1]; omega
  | ⟨3, _⟩ => show win0_6.index t 3 * 128 + 1 * (x 3).val = (y 3).val; rw [hi.2.2.2]; omega

theorem blk7 (t : Fin cfg0.N) (x : S8x256x128.Idx) (y : S8x4096x128.Idx)
    (h0 : (y 0).val = (x 0).val) (h1 : (y 1).val = 256 * (15 - t.val) + (x 1).val) (h2 : (y 2).val = (x 2).val) :
    iblk m c 7 t x = m ((c : Thread nD τ).loc main_arg7) y := by
  exact congrArg (m _) (Kit.at_blk3 _ y (win0_7.index t) 8 256 128 rfl rfl rfl ((idx_facts t).2.2.2.2.2.2.2.1) (by omega) (by omega) (by omega))

/-- The arrays as the memory holds them. -/
def args : SArgs where
  u := m ((c : Thread nD τ).loc main_arg0)
  w := m ((c : Thread nD τ).loc main_arg1)
  a := m ((c : Thread nD τ).loc main_arg2)
  q := m ((c : Thread nD τ).loc main_arg3)
  k := m ((c : Thread nD τ).loc main_arg4)
  g := m ((c : Thread nD τ).loc main_arg5)
  s := m ((c : Thread nD τ).loc main_arg6)
  o := m ((c : Thread nD τ).loc main_arg7)

/-- A point's loads are rows of the arrays, if the state's gradient that it meets is the right one. -/
theorem good_lds (t : Fin cfg0.N) (arg1 : Memref sig .tc .vmem S8x256x128 .f32) (harg1 : arg1.IsWhole) (arg2 : Memref sig .tc .vmem S8x256x128 .f32) (harg2 : arg2.IsWhole) (arg3 : Memref sig .tc .vmem S8x256x64 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x4x1x1 .f32) (harg6 : arg6.IsWhole) (arg7 : Memref sig .tc .vmem S4x8x128x128 .f32) (harg7 : arg7.IsWhole) (arg8 : Memref sig .tc .vmem S8x256x128 .f32) (harg8 : arg8.IsWhole)
    (D : Fin 8 → Vec Ideal S1x128x128 .f32) (hD : ∀ h k v, D h (ix3 0 k v) = (args m c).D (4 * t.val) (ix3 h k v)) :
    Good (args m c) (pt t) (lds arg1 harg1 arg2 harg2 arg3 harg3 arg4 harg4 arg5 harg5 arg6 harg6 arg7 harg7 arg8 harg8 (iblk m c 0 t) (iblk m c 1 t) (iblk m c 2 t) (iblk m c 3 t) (iblk m c 4 t) (iblk m c 5 t) (iblk m c 6 t) (iblk m c 7 t) D) where
  u h cc i v := (congrFun (View.readAt_eq_ld arg1.view _ _) _).trans ((congrArg (fun z => View.ld z _ _) (harg1.read_unread _)).trans (blk0 m c t _ _ (by show h.val = h.val + 1 * 0; omega) (by show 64 * (4 * (15 - t.val) + cc.val) + i.val = 256 * (15 - t.val) + (64 * cc.val + 1 * i.val); omega) (by show v.val = 0 + 1 * v.val; omega)))
  w h cc i v := (congrFun (View.readAt_eq_ld arg2.view _ _) _).trans ((congrArg (fun z => View.ld z _ _) (harg2.read_unread _)).trans (blk1 m c t _ _ (by show h.val = h.val + 1 * 0; omega) (by show 64 * (4 * (15 - t.val) + cc.val) + i.val = 256 * (15 - t.val) + (64 * cc.val + 1 * i.val); omega) (by show v.val = 0 + 1 * v.val; omega)))
  a h cc i v := (congrFun (View.readAt_eq_ld arg3.view _ _) _).trans ((congrArg (fun z => View.ld z _ _) (harg3.read_unread _)).trans (blk2 m c t _ _ (by show h.val = h.val + 1 * 0; omega) (by show 64 * (4 * (15 - t.val) + cc.val) + i.val = 256 * (15 - t.val) + (64 * cc.val + 1 * i.val); omega) (by show v.val = 0 + 1 * v.val; omega)))
  q h cc i v := (congrFun (View.readAt_eq_ld arg4.view _ _) _).trans ((congrArg (fun z => View.ld z _ _) (harg4.read_unread _)).trans (blk3 m c t _ _ (by show h.val = h.val + 1 * 0; omega) (by show 64 * (4 * (15 - t.val) + cc.val) + i.val = 256 * (15 - t.val) + (64 * cc.val + 1 * i.val); omega) (by show v.val = 0 + 1 * v.val; omega)))
  k h cc i v := (congrFun (View.readAt_eq_ld arg5.view _ _) _).trans ((congrArg (fun z => View.ld z _ _) (harg5.read_unread _)).trans (blk4 m c t _ _ (by show h.val = h.val + 1 * 0; omega) (by show 64 * (4 * (15 - t.val) + cc.val) + i.val = 256 * (15 - t.val) + (64 * cc.val + 1 * i.val); omega) (by show v.val = 0 + 1 * v.val; omega)))
  g h cc := (congrFun (View.readAt_eq_ld arg6.view _ _) _).trans ((congrArg (fun z => View.ld z _ _) (harg6.read_unread _)).trans (blk5 m c t _ _ (by show h.val = h.val + 1 * 0; omega) (by show 4 * (15 - t.val) + cc.val = 4 * (15 - t.val) + (cc.val + 1 * 0); omega) (by show 0 = 0 + 1 * 0; omega) (by show 0 = 0 + 1 * 0; omega)))
  s h cc k v := (congrFun (View.readAt_eq_ld arg7.view _ _) _).trans ((congrArg (fun z => View.ld z _ _) (harg7.read_unread _)).trans (blk6 m c t _ _ (by show 4 * (15 - t.val) + cc.val = 4 * (15 - t.val) + (cc.val + 1 * 0); omega) (by show h.val = h.val + 1 * 0; omega) (by show k.val = 0 + 1 * k.val; omega) (by show v.val = 0 + 1 * v.val; omega)))
  o h cc i v := (congrFun (View.readAt_eq_ld arg8.view _ _) _).trans ((congrArg (fun z => View.ld z _ _) (harg8.read_unread _)).trans (blk7 m c t _ _ (by show h.val = h.val + 1 * 0; omega) (by show 64 * (4 * (15 - t.val) + cc.val) + i.val = 256 * (15 - t.val) + (64 * cc.val + 1 * i.val); omega) (by show v.val = 0 + 1 * v.val; omega)))
  d := hD

/-! ## The carried gradient, point by point -/

/-- The first point meets the gradient that it has set to zero. -/
theorem good_A (t : Fin cfg0.N) (h0 : t.val % 16 = 0) :
    Good (args m c) (pt t) (lds (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) (fun h => scM0_0.view.readCov kernelRun0_A.sl.HS0_1 (rcD h).toLoadRect)) := by
  refine good_lds m c t _ _ _ _ _ _ _ _ _ _ _ _ _ _ _ _ _ fun h k v => ?_
  have ht : t.val < 16 := t.isLt
  rw [show 4 * t.val = 0 by omega, View.readCov_eq_canon']
  unfold kernelRun0_A.sl.HS0_1
  refine (congrFun (View.canon_unit_zero (S := S8x128x128) (funext fun a => by fin_cases a <;> rfl) _ _) _).trans ?_
  show k0_pay3 (F := Ideal) _ = (0 : EReal)
  unfold k0_pay3
  pointwise

/-- A later point meets what the point before left. -/
theorem good_B (t : Fin cfg0.N) (h0 : ¬ t.val % 16 = 0) (xs0 : Vec Ideal S8x128x128 .f32)
    (hx : ∀ h k v, xs0 (ix3 h k v) = (args m c).D (4 * (t.val - 1 + 1)) (ix3 h k v)) :
    Good (args m c) (pt t) (lds (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) (fun h => View.readAt (Elt Ideal) scM0_0.view (rcD h).toLoadRect (Memref.IsWhole.unread (Memref.isWhole_whole _) xs0))) := by
  refine good_lds m c t _ _ _ _ _ _ _ _ _ _ _ _ _ _ _ _ _ fun h k v => ?_
  have ht : t.val - 1 + 1 = t.val := by omega
  rw [← ht, ← hx]
  refine (congrFun (View.readAt_eq_ld scM0_0.view _ _) _).trans ((congrArg (fun z => View.ld z _ _) (Memref.IsWhole.read_unread (Memref.isWhole_whole _) _)).trans ?_)
  refine congrArg xs0 (funext fun a => Fin.ext ?_)
  match a with
  | ⟨0, _⟩ => show h.val + 1 * 0 = h.val; omega
  | ⟨1, _⟩ => show 0 + 1 * k.val = k.val; omega
  | ⟨2, _⟩ => show 0 + 1 * v.val = v.val; omega

/-- After point `n` the carried gradient is the recurrence's after four more chunks. -/
theorem scratch_eq : ∀ (n : ℕ) (hn : n < cfg0.N) (h : Fin 8) (k v : Fin 128),
    (outsAt0 m c n hn).2.2.2.2.2.2 (ix3 h k v) = (args m c).D (4 * (n + 1)) (ix3 h k v)
  | 0, hn, h, k, v => by
    have e := outsAt0_A m c ⟨0, hn⟩ rfl
    rw [show outsAt0 m c 0 hn = _ from e]
    exact sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (args m c) _ (good_A m c ⟨0, hn⟩ rfl) h k v
  | n + 1, hn, h, k, v => by
    have hN : n + 1 < 16 := hn
    have h0 : ¬ (n + 1) % 16 = 0 := by omega
    have e := outsAt0_B m c ⟨n + 1, hn⟩ h0
    rw [show outsAt0 m c (n + 1) hn = _ from e]
    exact sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 m c n (Nat.lt_of_succ_lt hn)).2.2.2.2.2.2 (args m c) _
      (good_B m c ⟨n + 1, hn⟩ h0 _ fun h k v => scratch_eq n (Nat.lt_of_succ_lt hn) h k v) h k v

/-- The block of result 0 that point `t` writes. -/
theorem left8 (t : Fin cfg0.N) (y : S8x256x128.Idx) :
    (outsAt0 m c t.val t.isLt).1 y = (args m c).rDu (ix3 (y 0) (rowOf (pt t) (y 1)) (y 2)) := by
  by_cases h0 : t.val % 16 = 0
  · rw [outsAt0_A m c t h0]
    dsimp only; apply out_A_8; exact good_A m c t h0
  · rw [outsAt0_B m c t h0]
    dsimp only; apply out_B_8; exact good_B m c t h0 _ fun h k v => scratch_eq m c (t.val - 1) (Nat.lt_of_le_of_lt (Nat.sub_le _ _) t.isLt) h k v

/-- Every entry of result 0 lies in a block that is written back. -/
theorem cover8 (i : S8x4096x128.Idx) : ∃ t : Fin cfg0.N, (cfg0.win 8).flush t = true ∧ i ∈ ((cfg0.win 8).blk t).view.set := by
  have h0 : (i 0).val < 8 := (i 0).isLt
  have h1 : (i 1).val < 4096 := (i 1).isLt
  have h2 : (i 2).val < 128 := (i 2).isLt
  obtain ⟨t, ht⟩ : ∃ t : Fin cfg0.N, t.val = 15 - (i 1).val / 256 :=
    ⟨⟨_, (by omega : 15 - (i 1).val / 256 < 16)⟩, rfl⟩
  refine ⟨t, flush0_8 t, Kit.in_whole (b := main_v0_0) <|
    Kit.in_blk3 i (win0_8.index t) 8 256 128 rfl rfl rfl rfl rfl rfl ((idx_facts t).2.2.2.2.2.2.2.2.1) (by omega) (by omega) (by omega)⟩

/-- Result 0 after the run. -/
theorem out8_eq : (dats m 0 c).arrAt 8 cfg0.N = (args m c).rDu := by
  refine (dats m 0 c).arrAt_eq_of_cover 8 _ (fun t _ => ?_) cover8
  rw [Value.flushed8]
  funext x
  change S8x256x128.Idx at x
  refine (left8 m c t x).trans ?_
  exact congrArg _ (Kit.at_blk3 _ _ (win0_8.index t) 8 256 128 rfl rfl rfl ((idx_facts t).2.2.2.2.2.2.2.2.1)
    (by show _ = (x 0).val; omega) (by show _ = 256 * (15 - t.val) + (x 1).val; omega) (by show _ = (x 2).val; omega)).symm

/-- The block of result 1 that point `t` writes. -/
theorem left9 (t : Fin cfg0.N) (y : S8x256x128.Idx) :
    (outsAt0 m c t.val t.isLt).2.1 y = (args m c).rDw (ix3 (y 0) (rowOf (pt t) (y 1)) (y 2)) := by
  by_cases h0 : t.val % 16 = 0
  · rw [outsAt0_A m c t h0]
    dsimp only; apply out_A_9; exact good_A m c t h0
  · rw [outsAt0_B m c t h0]
    dsimp only; apply out_B_9; exact good_B m c t h0 _ fun h k v => scratch_eq m c (t.val - 1) (Nat.lt_of_le_of_lt (Nat.sub_le _ _) t.isLt) h k v

/-- Every entry of result 1 lies in a block that is written back. -/
theorem cover9 (i : S8x4096x128.Idx) : ∃ t : Fin cfg0.N, (cfg0.win 9).flush t = true ∧ i ∈ ((cfg0.win 9).blk t).view.set := by
  have h0 : (i 0).val < 8 := (i 0).isLt
  have h1 : (i 1).val < 4096 := (i 1).isLt
  have h2 : (i 2).val < 128 := (i 2).isLt
  obtain ⟨t, ht⟩ : ∃ t : Fin cfg0.N, t.val = 15 - (i 1).val / 256 :=
    ⟨⟨_, (by omega : 15 - (i 1).val / 256 < 16)⟩, rfl⟩
  refine ⟨t, flush0_9 t, Kit.in_whole (b := main_v0_1) <|
    Kit.in_blk3 i (win0_9.index t) 8 256 128 rfl rfl rfl rfl rfl rfl ((idx_facts t).2.2.2.2.2.2.2.2.2.1) (by omega) (by omega) (by omega)⟩

/-- Result 1 after the run. -/
theorem out9_eq : (dats m 0 c).arrAt 9 cfg0.N = (args m c).rDw := by
  refine (dats m 0 c).arrAt_eq_of_cover 9 _ (fun t _ => ?_) cover9
  rw [Value.flushed9]
  funext x
  change S8x256x128.Idx at x
  refine (left9 m c t x).trans ?_
  exact congrArg _ (Kit.at_blk3 _ _ (win0_9.index t) 8 256 128 rfl rfl rfl ((idx_facts t).2.2.2.2.2.2.2.2.2.1)
    (by show _ = (x 0).val; omega) (by show _ = 256 * (15 - t.val) + (x 1).val; omega) (by show _ = (x 2).val; omega)).symm

/-- The block of result 2 that point `t` writes. -/
theorem left10 (t : Fin cfg0.N) (y : S8x256x64.Idx) :
    (outsAt0 m c t.val t.isLt).2.2.1 y = (args m c).rDa (ix3 (y 0) (rowOf (pt t) (y 1)) (y 2)) := by
  by_cases h0 : t.val % 16 = 0
  · rw [outsAt0_A m c t h0]
    dsimp only; apply out_A_10; exact good_A m c t h0
  · rw [outsAt0_B m c t h0]
    dsimp only; apply out_B_10; exact good_B m c t h0 _ fun h k v => scratch_eq m c (t.val - 1) (Nat.lt_of_le_of_lt (Nat.sub_le _ _) t.isLt) h k v

/-- Every entry of result 2 lies in a block that is written back. -/
theorem cover10 (i : S8x4096x64.Idx) : ∃ t : Fin cfg0.N, (cfg0.win 10).flush t = true ∧ i ∈ ((cfg0.win 10).blk t).view.set := by
  have h0 : (i 0).val < 8 := (i 0).isLt
  have h1 : (i 1).val < 4096 := (i 1).isLt
  have h2 : (i 2).val < 64 := (i 2).isLt
  obtain ⟨t, ht⟩ : ∃ t : Fin cfg0.N, t.val = 15 - (i 1).val / 256 :=
    ⟨⟨_, (by omega : 15 - (i 1).val / 256 < 16)⟩, rfl⟩
  refine ⟨t, flush0_10 t, Kit.in_whole (b := main_v0_2) <|
    Kit.in_blk3 i (win0_10.index t) 8 256 64 rfl rfl rfl rfl rfl rfl ((idx_facts t).2.2.2.2.2.2.2.2.2.2.1) (by omega) (by omega) (by omega)⟩

/-- Result 2 after the run. -/
theorem out10_eq : (dats m 0 c).arrAt 10 cfg0.N = (args m c).rDa := by
  refine (dats m 0 c).arrAt_eq_of_cover 10 _ (fun t _ => ?_) cover10
  rw [Value.flushed10]
  funext x
  change S8x256x64.Idx at x
  refine (left10 m c t x).trans ?_
  exact congrArg _ (Kit.at_blk3 _ _ (win0_10.index t) 8 256 64 rfl rfl rfl ((idx_facts t).2.2.2.2.2.2.2.2.2.2.1)
    (by show _ = (x 0).val; omega) (by show _ = 256 * (15 - t.val) + (x 1).val; omega) (by show _ = (x 2).val; omega)).symm

/-- The block of result 3 that point `t` writes. -/
theorem left11 (t : Fin cfg0.N) (y : S8x256x128.Idx) :
    (outsAt0 m c t.val t.isLt).2.2.2.1 y = (args m c).rDq (ix3 (y 0) (rowOf (pt t) (y 1)) (y 2)) := by
  by_cases h0 : t.val % 16 = 0
  · rw [outsAt0_A m c t h0]
    dsimp only; apply out_A_11; exact good_A m c t h0
  · rw [outsAt0_B m c t h0]
    dsimp only; apply out_B_11; exact good_B m c t h0 _ fun h k v => scratch_eq m c (t.val - 1) (Nat.lt_of_le_of_lt (Nat.sub_le _ _) t.isLt) h k v

/-- Every entry of result 3 lies in a block that is written back. -/
theorem cover11 (i : S8x4096x128.Idx) : ∃ t : Fin cfg0.N, (cfg0.win 11).flush t = true ∧ i ∈ ((cfg0.win 11).blk t).view.set := by
  have h0 : (i 0).val < 8 := (i 0).isLt
  have h1 : (i 1).val < 4096 := (i 1).isLt
  have h2 : (i 2).val < 128 := (i 2).isLt
  obtain ⟨t, ht⟩ : ∃ t : Fin cfg0.N, t.val = 15 - (i 1).val / 256 :=
    ⟨⟨_, (by omega : 15 - (i 1).val / 256 < 16)⟩, rfl⟩
  refine ⟨t, flush0_11 t, Kit.in_whole (b := main_v0_3) <|
    Kit.in_blk3 i (win0_11.index t) 8 256 128 rfl rfl rfl rfl rfl rfl ((idx_facts t).2.2.2.2.2.2.2.2.2.2.2.1) (by omega) (by omega) (by omega)⟩

/-- Result 3 after the run. -/
theorem out11_eq : (dats m 0 c).arrAt 11 cfg0.N = (args m c).rDq := by
  refine (dats m 0 c).arrAt_eq_of_cover 11 _ (fun t _ => ?_) cover11
  rw [Value.flushed11]
  funext x
  change S8x256x128.Idx at x
  refine (left11 m c t x).trans ?_
  exact congrArg _ (Kit.at_blk3 _ _ (win0_11.index t) 8 256 128 rfl rfl rfl ((idx_facts t).2.2.2.2.2.2.2.2.2.2.2.1)
    (by show _ = (x 0).val; omega) (by show _ = 256 * (15 - t.val) + (x 1).val; omega) (by show _ = (x 2).val; omega)).symm

/-- The block of result 4 that point `t` writes. -/
theorem left12 (t : Fin cfg0.N) (y : S8x256x128.Idx) :
    (outsAt0 m c t.val t.isLt).2.2.2.2.1 y = (args m c).rDk (ix3 (y 0) (rowOf (pt t) (y 1)) (y 2)) := by
  by_cases h0 : t.val % 16 = 0
  · rw [outsAt0_A m c t h0]
    dsimp only; apply out_A_12; exact good_A m c t h0
  · rw [outsAt0_B m c t h0]
    dsimp only; apply out_B_12; exact good_B m c t h0 _ fun h k v => scratch_eq m c (t.val - 1) (Nat.lt_of_le_of_lt (Nat.sub_le _ _) t.isLt) h k v

/-- Every entry of result 4 lies in a block that is written back. -/
theorem cover12 (i : S8x4096x128.Idx) : ∃ t : Fin cfg0.N, (cfg0.win 12).flush t = true ∧ i ∈ ((cfg0.win 12).blk t).view.set := by
  have h0 : (i 0).val < 8 := (i 0).isLt
  have h1 : (i 1).val < 4096 := (i 1).isLt
  have h2 : (i 2).val < 128 := (i 2).isLt
  obtain ⟨t, ht⟩ : ∃ t : Fin cfg0.N, t.val = 15 - (i 1).val / 256 :=
    ⟨⟨_, (by omega : 15 - (i 1).val / 256 < 16)⟩, rfl⟩
  refine ⟨t, flush0_12 t, Kit.in_whole (b := main_v0_4) <|
    Kit.in_blk3 i (win0_12.index t) 8 256 128 rfl rfl rfl rfl rfl rfl ((idx_facts t).2.2.2.2.2.2.2.2.2.2.2.2.1) (by omega) (by omega) (by omega)⟩

/-- Result 4 after the run. -/
theorem out12_eq : (dats m 0 c).arrAt 12 cfg0.N = (args m c).rDk := by
  refine (dats m 0 c).arrAt_eq_of_cover 12 _ (fun t _ => ?_) cover12
  rw [Value.flushed12]
  funext x
  change S8x256x128.Idx at x
  refine (left12 m c t x).trans ?_
  exact congrArg _ (Kit.at_blk3 _ _ (win0_12.index t) 8 256 128 rfl rfl rfl ((idx_facts t).2.2.2.2.2.2.2.2.2.2.2.2.1)
    (by show _ = (x 0).val; omega) (by show _ = 256 * (15 - t.val) + (x 1).val; omega) (by show _ = (x 2).val; omega)).symm

/-- The block of result 5 that point `t` writes. -/
theorem left13 (t : Fin cfg0.N) (y : S8x4x1x1.Idx) :
    (outsAt0 m c t.val t.isLt).2.2.2.2.2.1 y = (args m c).rDg (ix4 (y 0) (chOf (pt t) (y 1)) 0 0) := by
  by_cases h0 : t.val % 16 = 0
  · rw [outsAt0_A m c t h0]
    dsimp only; apply out_A_13; exact good_A m c t h0
  · rw [outsAt0_B m c t h0]
    dsimp only; apply out_B_13; exact good_B m c t h0 _ fun h k v => scratch_eq m c (t.val - 1) (Nat.lt_of_le_of_lt (Nat.sub_le _ _) t.isLt) h k v

/-- Every entry of result 5 lies in a block that is written back. -/
theorem cover13 (i : S8x64x1x1.Idx) : ∃ t : Fin cfg0.N, (cfg0.win 13).flush t = true ∧ i ∈ ((cfg0.win 13).blk t).view.set := by
  have h0 : (i 0).val < 8 := (i 0).isLt
  have h1 : (i 1).val < 64 := (i 1).isLt
  have h2 : (i 2).val < 1 := (i 2).isLt
  have h3 : (i 3).val < 1 := (i 3).isLt
  obtain ⟨t, ht⟩ : ∃ t : Fin cfg0.N, t.val = 15 - (i 1).val / 4 :=
    ⟨⟨_, (by omega : 15 - (i 1).val / 4 < 16)⟩, rfl⟩
  refine ⟨t, flush0_13 t, ?_⟩
  have hi := (idx_facts t).2.2.2.2.2.2.2.2.2.2.2.2.2
  show i ∈ ((View.whole main_v0_5).slice (win0_13.rect t)).set
  rw [View.set_slice_whole, Rect.mem_set_unit]
  intro a
  match a with
  | ⟨0, _⟩ => show win0_13.index t 0 * 8 ≤ (i 0).val ∧ (i 0).val < win0_13.index t 0 * 8 + 8; rw [hi.1]; omega
  | ⟨1, _⟩ => show win0_13.index t 1 * 4 ≤ (i 1).val ∧ (i 1).val < win0_13.index t 1 * 4 + 4; rw [hi.2.1]; omega
  | ⟨2, _⟩ => show win0_13.index t 2 * 1 ≤ (i 2).val ∧ (i 2).val < win0_13.index t 2 * 1 + 1; rw [hi.2.2.1]; omega
  | ⟨3, _⟩ => show win0_13.index t 3 * 1 ≤ (i 3).val ∧ (i 3).val < win0_13.index t 3 * 1 + 1; rw [hi.2.2.2]; omega

/-- Result 5 after the run. -/
theorem out13_eq : (dats m 0 c).arrAt 13 cfg0.N = (args m c).rDg := by
  refine (dats m 0 c).arrAt_eq_of_cover 13 _ (fun t _ => ?_) cover13
  rw [Value.flushed13]
  funext x
  change S8x4x1x1.Idx at x
  refine (left13 m c t x).trans ?_
  show _ = (args m c).rDg ((win0_13.rect t).idx x)
  have hi := (idx_facts t).2.2.2.2.2.2.2.2.2.2.2.2.2
  have h2 : (x 2).val < 1 := (x 2).isLt
  have h3 : (x 3).val < 1 := (x 3).isLt
  refine congrArg _ (funext fun a => Fin.ext ?_)
  match a with
  | ⟨0, _⟩ => show (x 0).val = win0_13.index t 0 * 8 + 1 * (x 0).val; rw [hi.1]; omega
  | ⟨1, _⟩ => show 4 * (15 - t.val) + (x 1).val = win0_13.index t 1 * 4 + 1 * (x 1).val; rw [hi.2.1]; omega
  | ⟨2, _⟩ => show 0 = win0_13.index t 2 * 1 + 1 * (x 2).val; rw [hi.2.2.1]; omega
  | ⟨3, _⟩ => show 0 = win0_13.index t 3 * 1 + 1 * (x 3).val; rw [hi.2.2.2]; omega

end Cert.KernelIdeal.Own
-- ==== Proof.ScanRef.lean ====
module

public import proofs.«01_k».proof.Proof.ScanMath
public import proofs.«01_k».proof.Proof.Gen.ReferenceIdeal.Run
public import Idealize.ShloMosaic.Lib.DynamicIndex

/-!
# What the reference of the backward scan computes

The reference is one loop of 64 trips over the chunks, from the last one to the first. `Inv X j V` says what the loop's
buffers hold after `j` trips: the arguments cut into chunks, the state's gradient `X.D j`, and the results of the last `j`
chunks. It holds at the loop's entry (`inv_entry`) and every trip keeps it (`inv_step`).
-/

@[expose] public section
set_option maxRecDepth 16384
set_option maxHeartbeats 1000000
noncomputable section
namespace Cert.ReferenceIdeal.Own
open Cert.KernelIdeal.Own (SArgs rw64 back)
open Cert.ReferenceIdeal Cert.ReferenceIdeal.Gen Cert.ReferenceIdeal.Value Idealize.ShloMosaic Idealize.ShloMosaic.TcCoe Idealize.SL.Sem
open Idealize.ShloMosaic.StableHlo

/-! ## One chunk of a stacked array -/

theorem ds4 {p q r : ℕ} (x : (⟨4, ![64, p, q, r]⟩ : Shape).Idx → EReal) (st : Fin 4 → Int)
    (h : (⟨4, ![64, p, q, r]⟩ : Shape).Slices (fun _ => 0) ⟨4, ![1, p, q, r]⟩) (n : Fin 64)
    (hs : ∀ a, st a = ((![n.val, 0, 0, 0] : Fin 4 → ℕ) a : Int)) (b : Fin p) (c : Fin q) (d : Fin r) :
    Host.dynamicSlice (⟨4, ![1, p, q, r]⟩ : Shape) x st h (ix4 0 b c d) = x (ix4 n b c d) := by
  have hn : n.val + 1 ≤ 64 := n.isLt
  rw [Host.dynamicSlice_eq_extractStridedSlice _ x st (![n.val, 0, 0, 0] : Fin 4 → ℕ) h ⟨rfl, fun a => by
    match a with
    | ⟨0, _⟩ => exact hn
    | ⟨1, _⟩ => show 0 + p ≤ p; omega
    | ⟨2, _⟩ => show 0 + q ≤ q; omega
    | ⟨3, _⟩ => show 0 + r ≤ r; omega⟩ hs]
  refine congrArg x (funext fun a => Fin.ext ?_)
  match a with
  | ⟨0, _⟩ => show n.val + 0 = n.val; omega
  | ⟨1, _⟩ => show 0 + b.val = b.val; omega
  | ⟨2, _⟩ => show 0 + c.val = c.val; omega
  | ⟨3, _⟩ => show 0 + d.val = d.val; omega

theorem ds2 {p : ℕ} (x : (⟨2, ![64, p]⟩ : Shape).Idx → EReal) (st : Fin 2 → Int)
    (h : (⟨2, ![64, p]⟩ : Shape).Slices (fun _ => 0) ⟨2, ![1, p]⟩) (n : Fin 64)
    (hs : ∀ a, st a = ((![n.val, 0] : Fin 2 → ℕ) a : Int)) (b : Fin p) :
    Host.dynamicSlice (⟨2, ![1, p]⟩ : Shape) x st h (ix2 0 b) = x (ix2 n b) := by
  have hn : n.val + 1 ≤ 64 := n.isLt
  rw [Host.dynamicSlice_eq_extractStridedSlice _ x st (![n.val, 0] : Fin 2 → ℕ) h ⟨rfl, fun a => by
    match a with
    | ⟨0, _⟩ => exact hn
    | ⟨1, _⟩ => show 0 + p ≤ p; omega⟩ hs]
  refine congrArg x (funext fun a => Fin.ext ?_)
  match a with
  | ⟨0, _⟩ => show n.val + 0 = n.val; omega
  | ⟨1, _⟩ => show 0 + b.val = b.val; omega

theorem dus4 {p q r : ℕ} (x : (⟨4, ![64, p, q, r]⟩ : Shape).Idx → EReal) (u : (⟨4, ![1, p, q, r]⟩ : Shape).Idx → EReal)
    (st : Fin 4 → Int) (h : (⟨4, ![64, p, q, r]⟩ : Shape).Slices (fun _ => 0) ⟨4, ![1, p, q, r]⟩) (n : Fin 64)
    (hs : ∀ a, st a = ((![n.val, 0, 0, 0] : Fin 4 → ℕ) a : Int)) (a : Fin 64) (b : Fin p) (c : Fin q) (d : Fin r) :
    Host.dynamicUpdateSlice x u st h (ix4 a b c d) = if a = n then u (ix4 0 b c d) else x (ix4 a b c d) := by
  have hn : n.val + 1 ≤ 64 := n.isLt
  have hk : (⟨4, ![64, p, q, r]⟩ : Shape).Slices (![n.val, 0, 0, 0] : Fin 4 → ℕ) ⟨4, ![1, p, q, r]⟩ := ⟨rfl, fun a => by
    match a with
    | ⟨0, _⟩ => exact hn
    | ⟨1, _⟩ => show 0 + p ≤ p; omega
    | ⟨2, _⟩ => show 0 + q ≤ q; omega
    | ⟨3, _⟩ => show 0 + r ≤ r; omega⟩
  rw [Host.dynamicUpdateSlice_eq_updateSlice x u st h (![n.val, 0, 0, 0] : Fin 4 → ℕ) (fun a => by have := hk.2 a; rw [hs a]; omega) hk]
  unfold updateSlice
  by_cases e : a = n
  · subst e
    rw [dif_pos (fun k => by
      match k with
      | ⟨0, _⟩ => show a.val ≤ a.val ∧ a.val < a.val + 1; omega
      | ⟨1, _⟩ => show 0 ≤ b.val ∧ b.val < 0 + p; omega
      | ⟨2, _⟩ => show 0 ≤ c.val ∧ c.val < 0 + q; omega
      | ⟨3, _⟩ => show 0 ≤ d.val ∧ d.val < 0 + r; omega), if_pos rfl]
    refine congrArg u (funext fun k => Fin.ext ?_)
    match k with
    | ⟨0, _⟩ => show a.val - a.val = 0; omega
    | ⟨1, _⟩ => rfl
    | ⟨2, _⟩ => rfl
    | ⟨3, _⟩ => rfl
  · rw [dif_neg (fun hk => by
      have h0 : n.val ≤ a.val ∧ a.val < n.val + 1 := hk ⟨0, Nat.succ_pos _⟩
      exact e (Fin.ext (by omega))), if_neg e]

theorem dus2 {p : ℕ} (x : (⟨2, ![64, p]⟩ : Shape).Idx → EReal) (u : (⟨2, ![1, p]⟩ : Shape).Idx → EReal)
    (st : Fin 2 → Int) (h : (⟨2, ![64, p]⟩ : Shape).Slices (fun _ => 0) ⟨2, ![1, p]⟩) (n : Fin 64)
    (hs : ∀ a, st a = ((![n.val, 0] : Fin 2 → ℕ) a : Int)) (a : Fin 64) (b : Fin p) :
    Host.dynamicUpdateSlice x u st h (ix2 a b) = if a = n then u (ix2 0 b) else x (ix2 a b) := by
  have hn : n.val + 1 ≤ 64 := n.isLt
  have hk : (⟨2, ![64, p]⟩ : Shape).Slices (![n.val, 0] : Fin 2 → ℕ) ⟨2, ![1, p]⟩ := ⟨rfl, fun a => by
    match a with
    | ⟨0, _⟩ => exact hn
    | ⟨1, _⟩ => show 0 + p ≤ p; omega⟩
  rw [Host.dynamicUpdateSlice_eq_updateSlice x u st h (![n.val, 0] : Fin 2 → ℕ) (fun a => by have := hk.2 a; rw [hs a]; omega) hk]
  unfold updateSlice
  by_cases e : a = n
  · subst e
    rw [dif_pos (fun k => by
      match k with
      | ⟨0, _⟩ => show a.val ≤ a.val ∧ a.val < a.val + 1; omega
      | ⟨1, _⟩ => show 0 ≤ b.val ∧ b.val < 0 + p; omega), if_pos rfl]
    refine congrArg u (funext fun k => Fin.ext ?_)
    match k with
    | ⟨0, _⟩ => show a.val - a.val = 0; omega
    | ⟨1, _⟩ => rfl
  · rw [dif_neg (fun hk => by
      have h0 : n.val ≤ a.val ∧ a.val < n.val + 1 := hk ⟨0, Nat.succ_pos _⟩
      exact e (Fin.ext (by omega))), if_neg e]

theorem cast_s (x : S1x8x128x128.Idx → EReal) (b : Fin 8) (c : Fin 128) (d : Fin 128) :
    shapeCast S8x128x128 x shapeCasts_S1x8x128x128_S8x128x128 (ix3 b c d) = x (ix4 0 b c d) := by
  pointwise

theorem cast_r (x : S1x8x64x128.Idx → EReal) (b : Fin 8) (c : Fin 64) (d : Fin 128) :
    shapeCast S8x64x128 x shapeCasts_S1x8x64x128_S8x64x128 (ix3 b c d) = x (ix4 0 b c d) := by
  pointwise

theorem cast_a (x : S1x8x64x64.Idx → EReal) (b : Fin 8) (c : Fin 64) (d : Fin 64) :
    shapeCast S8x64x64 x shapeCasts_S1x8x64x64_S8x64x64 (ix3 b c d) = x (ix4 0 b c d) := by
  pointwise

theorem cast_g (x : S1x8.Idx → EReal) (b : Fin 8) : shapeCast S8 x shapeCasts_S1x8_S8 (ix1 b) = x (ix2 0 b) := by
  pointwise

/-! ## The invariant -/

structure Inv (X : SArgs) (j : ℕ) (V : Valuation τ sig (Elt Ideal)) : Prop where
  ctr : V (Proc.devRef .tc main_v21_8) = fun _ => BitVec.ofNat 32 j
  s : ∀ n h k v, V (Proc.devRef .tc main_v21_0) (ix4 n h k v) = X.s (ix4 n h k v)
  u : ∀ n h i v, V (Proc.devRef .tc main_v21_1) (ix4 n h i v) = X.u (ix3 h (rw64 n i) v)
  w : ∀ n h i v, V (Proc.devRef .tc main_v21_2) (ix4 n h i v) = X.w (ix3 h (rw64 n i) v)
  a : ∀ n h i v, V (Proc.devRef .tc main_v21_3) (ix4 n h i v) = X.a (ix3 h (rw64 n i) v)
  q : ∀ n h i v, V (Proc.devRef .tc main_v21_4) (ix4 n h i v) = X.q (ix3 h (rw64 n i) v)
  k : ∀ n h i v, V (Proc.devRef .tc main_v21_5) (ix4 n h i v) = X.k (ix3 h (rw64 n i) v)
  g : ∀ n h, V (Proc.devRef .tc main_v21_6) (ix2 n h) = X.g (ix4 h n 0 0)
  o : ∀ n h i v, V (Proc.devRef .tc main_v21_7) (ix4 n h i v) = X.o (ix3 h (rw64 n i) v)
  d : ∀ h k v, V (Proc.devRef .tc main_v21_9) (ix3 h k v) = X.D j (ix3 h k v)
  du : ∀ n h i v, 64 ≤ n.val + j → V (Proc.devRef .tc main_v21_10) (ix4 n h i v) = X.dv (X.D (63 - n.val)) n h i v
  dw : ∀ n h i v, 64 ≤ n.val + j → V (Proc.devRef .tc main_v21_11) (ix4 n h i v) = X.dw (X.D (63 - n.val)) n h i v
  da : ∀ n h i v, 64 ≤ n.val + j → V (Proc.devRef .tc main_v21_12) (ix4 n h i v) = X.da n h i v
  dq : ∀ n h i v, 64 ≤ n.val + j → V (Proc.devRef .tc main_v21_13) (ix4 n h i v) = X.dq n h i v
  dk : ∀ n h i v, 64 ≤ n.val + j → V (Proc.devRef .tc main_v21_14) (ix4 n h i v) = X.dk (X.D (63 - n.val)) n h i v
  dg : ∀ n h, 64 ≤ n.val + j → V (Proc.devRef .tc main_v21_15) (ix2 n h) = X.dg (X.D (63 - n.val)) n h

theorem word_at : ∀ j : Fin 64, ((64#32 - BitVec.ofNat 32 j.val) - 1#32).toInt = ((63 - j.val : ℕ) : Int) := by decide

section
variable {X : SArgs} {j : ℕ} {V : Valuation τ sig (Elt Ideal)} (I : Inv X j V) (hj : j < 64)
include I hj

/-- The trip's chunk, as the slices' start. -/
theorem start4 (a : Fin 4) : (((![res_main_while0b_v35 V, constantI S_ 32 0#32, constantI S_ 32 0#32, constantI S_ 32 0#32] : Fin 4 → (⟨S_, .i32⟩ : BufTy).Contents (Elt Ideal))) a (Shape.Idx.first h_S_)).toInt
    = ((![(back j).val, 0, 0, 0] : Fin 4 → ℕ) a : Int) := by
  match a with
  | ⟨0, _⟩ =>
    show (res_main_while0b_v35 V (Shape.Idx.first h_S_)).toInt = ((63 - j : ℕ) : Int)
    unfold res_main_while0b_v35
    rw [I.ctr]
    exact word_at ⟨j, hj⟩
  | ⟨1, _⟩ => rfl
  | ⟨2, _⟩ => rfl
  | ⟨3, _⟩ => rfl

theorem start2 (a : Fin 2) : (((![res_main_while0b_v35 V, constantI S_ 32 0#32] : Fin 2 → (⟨S_, .i32⟩ : BufTy).Contents (Elt Ideal))) a (Shape.Idx.first h_S_)).toInt
    = ((![(back j).val, 0] : Fin 2 → ℕ) a : Int) := by
  match a with
  | ⟨0, _⟩ => exact start4 I hj ⟨0, by decide⟩
  | ⟨1, _⟩ => rfl

theorem v36_at (h : Fin 8) (k : Fin 128) (v : Fin 128) : res_main_while0b_v36 V (ix3 h k v) = X.s (ix4 (back j) h k v) := by
  unfold res_main_while0b_v36
  exact (cast_s _ h k v).trans ((ds4 _ _ sliceFits_S64x8x128x128_S1x8x128x128 (back j) (start4 I hj) h k v).trans (I.s _ _ _ _))

theorem v38_at (h : Fin 8) (k : Fin 64) (v : Fin 128) : res_main_while0b_v38 V (ix3 h k v) = X.w (ix3 h (rw64 (back j) k) v) := by
  unfold res_main_while0b_v38
  exact (cast_r _ h k v).trans ((ds4 _ _ sliceFits_S64x8x64x128_S1x8x64x128 (back j) (start4 I hj) h k v).trans (I.w _ _ _ _))

theorem v39_at (h : Fin 8) (k : Fin 64) (v : Fin 64) : res_main_while0b_v39 V (ix3 h k v) = X.a (ix3 h (rw64 (back j) k) v) := by
  unfold res_main_while0b_v39
  exact (cast_a _ h k v).trans ((ds4 _ _ sliceFits_S64x8x64x64_S1x8x64x64 (back j) (start4 I hj) h k v).trans (I.a _ _ _ _))

theorem v40_at (h : Fin 8) (k : Fin 64) (v : Fin 128) : res_main_while0b_v40 V (ix3 h k v) = X.q (ix3 h (rw64 (back j) k) v) := by
  unfold res_main_while0b_v40
  exact (cast_r _ h k v).trans ((ds4 _ _ sliceFits_S64x8x64x128_S1x8x64x128 (back j) (start4 I hj) h k v).trans (I.q _ _ _ _))

theorem v41_at (h : Fin 8) (k : Fin 64) (v : Fin 128) : res_main_while0b_v41 V (ix3 h k v) = X.k (ix3 h (rw64 (back j) k) v) := by
  unfold res_main_while0b_v41
  exact (cast_r _ h k v).trans ((ds4 _ _ sliceFits_S64x8x64x128_S1x8x64x128 (back j) (start4 I hj) h k v).trans (I.k _ _ _ _))

theorem v43_at (h : Fin 8) (k : Fin 64) (v : Fin 128) : res_main_while0b_v43 V (ix3 h k v) = X.o (ix3 h (rw64 (back j) k) v) := by
  unfold res_main_while0b_v43
  exact (cast_r _ h k v).trans ((ds4 _ _ sliceFits_S64x8x64x128_S1x8x64x128 (back j) (start4 I hj) h k v).trans (I.o _ _ _ _))

theorem v45_at (h : Fin 8) (i : Fin 64) (v : Fin 128) : res_main_while0b_v45 V (ix3 h i v) = X.vn (back j) h i v := by
  have e : ∀ h i v, shapeCast S8x64x128 (Host.dynamicSlice S1x8x64x128 (V (Proc.devRef .tc main_v21_1)) _ sliceFits_S64x8x64x128_S1x8x64x128) shapeCasts_S1x8x64x128_S8x64x128 (ix3 h i v) = X.u (ix3 h (rw64 (back j) i) v) := fun h i v =>
    (cast_r _ h i v).trans ((ds4 _ _ sliceFits_S64x8x64x128_S1x8x64x128 (back j) (start4 I hj) h i v).trans (I.u _ _ _ _))
  unfold res_main_while0b_v45 SArgs.vn
  refine congrArg₂ (fun a b : EReal => a - b) (e h i v) ?_
  pointwise
  simp only [v38_at I hj, v36_at I hj]

theorem v49_at (h : Fin 8) : res_main_while0b_v49 V (ix1 h) = Ideal.exp (X.g (ix4 h (back j) 0 0)) := by
  unfold res_main_while0b_v49
  refine congrArg Ideal.exp ?_
  exact (cast_g _ h).trans ((ds2 _ _ sliceFits_S64x8_S1x8 (back j) (start2 I hj) h).trans (I.g _ _))

theorem v50_at (h : Fin 8) : res_main_while0b_v50 V (ix3 h 0 0) = Ideal.exp (X.g (ix4 h (back j) 0 0)) := by
  unfold res_main_while0b_v50
  refine Eq.trans ?_ (v49_at I hj h)
  pointwise

theorem v68_at (h : Fin 8) (i : Fin 64) (v : Fin 128) : res_main_while0b_v68 V (ix3 h i v) = X.dv (X.D j) (back j) h i v := by
  unfold res_main_while0b_v68 SArgs.dv
  pointwise
  simp only [v41_at I hj, v39_at I hj, v43_at I hj, I.d]
  exact congrArg₂ (fun a b : EReal => a + b) (Finset.sum_congr rfl fun _ _ => mul_comm _ _) (Finset.sum_congr rfl fun _ _ => mul_comm _ _)

theorem v74_at (h : Fin 8) (i : Fin 64) (v : Fin 128) : res_main_while0b_v74 V (ix3 h i v) = (0 - X.dv (X.D j) (back j) h i v : EReal) := by
  unfold res_main_while0b_v74
  pointwise
  rw [v68_at I hj, sub_eq_add_neg, zero_add]

theorem back_of {n : Fin 64} (hn : 64 ≤ n.val + (j + 1)) : n = back j ∨ 64 ≤ n.val + j := by
  rcases Nat.lt_or_ge (n.val + j) 64 with h | h
  · exact Or.inl (Fin.ext (by show n.val = 63 - j; omega))
  · exact Or.inr h

omit I in
theorem back_j : 63 - (back j).val = j := by show 63 - (63 - j) = j; omega

theorem d_step (h : Fin 8) (k v : Fin 128) : step_main_v21_9 V (ix3 h k v) = X.D (j + 1) (ix3 h k v) := by
  rw [X.D_succ]
  unfold step_main_v21_9 SArgs.ds
  show addf (F := Ideal) (addf _ _) _ _ = _
  pointwise
  simp only [v43_at I hj, v40_at I hj, v74_at I hj, v38_at I hj, I.d, v50_at I hj]
  exact congrArg₂ (fun a b : EReal => a + b) (congrArg₂ (fun a b : EReal => a + b) rfl (Finset.sum_congr rfl fun _ _ => mul_comm _ _)) (Finset.sum_congr rfl fun _ _ => mul_comm _ _)

theorem du_step (n : Fin 64) (h : Fin 8) (i : Fin 64) (v : Fin 128) (hn : 64 ≤ n.val + (j + 1)) :
    step_main_v21_10 V (ix4 n h i v) = X.dv (X.D (63 - n.val)) n h i v := by
  unfold step_main_v21_10
  refine (dus4 _ _ _ updateFits_S64x8x64x128_S1x8x64x128 (back j) (start4 I hj) n h i v).trans ?_
  by_cases hb : n = back j
  · subst hb
    rw [if_pos rfl, back_j hj]
    refine Eq.trans ?_ (v68_at I hj h i v)
    pointwise
  · rw [if_neg hb]
    exact I.du n h i v ((back_of I hj hn).resolve_left hb)

theorem dw_step (n : Fin 64) (h : Fin 8) (i : Fin 64) (v : Fin 128) (hn : 64 ≤ n.val + (j + 1)) :
    step_main_v21_11 V (ix4 n h i v) = X.dw (X.D (63 - n.val)) n h i v := by
  unfold step_main_v21_11
  refine (dus4 _ _ _ updateFits_S64x8x64x128_S1x8x64x128 (back j) (start4 I hj) n h i v).trans ?_
  by_cases hb : n = back j
  · subst hb
    rw [if_pos rfl, back_j hj]
    unfold SArgs.dw
    pointwise
    simp only [v74_at I hj, v36_at I hj]
  · rw [if_neg hb]
    exact I.dw n h i v ((back_of I hj hn).resolve_left hb)

theorem da_step (n : Fin 64) (h : Fin 8) (i : Fin 64) (v : Fin 64) (hn : 64 ≤ n.val + (j + 1)) :
    step_main_v21_12 V (ix4 n h i v) = X.da n h i v := by
  unfold step_main_v21_12
  refine (dus4 _ _ _ updateFits_S64x8x64x64_S1x8x64x64 (back j) (start4 I hj) n h i v).trans ?_
  by_cases hb : n = back j
  · subst hb
    rw [if_pos rfl]
    unfold SArgs.da
    pointwise
    simp only [v43_at I hj, v45_at I hj]
  · rw [if_neg hb]
    exact I.da n h i v ((back_of I hj hn).resolve_left hb)

theorem dq_step (n : Fin 64) (h : Fin 8) (i : Fin 64) (v : Fin 128) (hn : 64 ≤ n.val + (j + 1)) :
    step_main_v21_13 V (ix4 n h i v) = X.dq n h i v := by
  unfold step_main_v21_13
  refine (dus4 _ _ _ updateFits_S64x8x64x128_S1x8x64x128 (back j) (start4 I hj) n h i v).trans ?_
  by_cases hb : n = back j
  · subst hb
    rw [if_pos rfl]
    unfold SArgs.dq
    pointwise
    simp only [v43_at I hj, v36_at I hj]
  · rw [if_neg hb]
    exact I.dq n h i v ((back_of I hj hn).resolve_left hb)

theorem dk_step (n : Fin 64) (h : Fin 8) (i : Fin 64) (v : Fin 128) (hn : 64 ≤ n.val + (j + 1)) :
    step_main_v21_14 V (ix4 n h i v) = X.dk (X.D (63 - n.val)) n h i v := by
  unfold step_main_v21_14
  refine (dus4 _ _ _ updateFits_S64x8x64x128_S1x8x64x128 (back j) (start4 I hj) n h i v).trans ?_
  by_cases hb : n = back j
  · subst hb
    rw [if_pos rfl, back_j hj]
    unfold SArgs.dk
    pointwise
    simp only [I.d, v45_at I hj]
    exact Finset.sum_congr rfl fun _ _ => mul_comm _ _
  · rw [if_neg hb]
    exact I.dk n h i v ((back_of I hj hn).resolve_left hb)

theorem dg_step (n : Fin 64) (h : Fin 8) (hn : 64 ≤ n.val + (j + 1)) :
    step_main_v21_15 V (ix2 n h) = X.dg (X.D (63 - n.val)) n h := by
  unfold step_main_v21_15
  refine (dus2 _ _ _ updateFits_S64x8_S1x8 (back j) (start2 I hj) n h).trans ?_
  by_cases hb : n = back j
  · subst hb
    rw [if_pos rfl, back_j hj]
    unfold SArgs.dg
    pointwise
    simp only [v36_at I hj, I.d, v49_at I hj, Fin.sum_univ_one]
  · rw [if_neg hb]
    exact I.dg n h ((back_of I hj hn).resolve_left hb)

/-- Every trip keeps the invariant. -/
theorem inv_step : Inv X (j + 1) (STEP V) where
  ctr := by
    rw [STEP_main_v21_8]
    unfold step_main_v21_8
    rw [I.ctr]
    funext y
    show BitVec.ofNat 32 j + 1#32 = BitVec.ofNat 32 (j + 1)
    rw [BitVec.ofNat_add]
  s n h k v := by rw [STEP_main_v21_0]; exact I.s n h k v
  u n h i v := by rw [STEP_main_v21_1]; exact I.u n h i v
  w n h i v := by rw [STEP_main_v21_2]; exact I.w n h i v
  a n h i v := by rw [STEP_main_v21_3]; exact I.a n h i v
  q n h i v := by rw [STEP_main_v21_4]; exact I.q n h i v
  k n h i v := by rw [STEP_main_v21_5]; exact I.k n h i v
  g n h := by rw [STEP_main_v21_6]; exact I.g n h
  o n h i v := by rw [STEP_main_v21_7]; exact I.o n h i v
  d h k v := by rw [STEP_main_v21_9]; exact d_step I hj h k v
  du n h i v hn := by rw [STEP_main_v21_10]; exact du_step I hj n h i v hn
  dw n h i v hn := by rw [STEP_main_v21_11]; exact dw_step I hj n h i v hn
  da n h i v hn := by rw [STEP_main_v21_12]; exact da_step I hj n h i v hn
  dq n h i v hn := by rw [STEP_main_v21_13]; exact dq_step I hj n h i v hn
  dk n h i v hn := by rw [STEP_main_v21_14]; exact dk_step I hj n h i v hn
  dg n h hn := by rw [STEP_main_v21_15]; exact dg_step I hj n h hn
end

theorem inv_iter {X : SArgs} {V : Valuation τ sig (Elt Ideal)} (I : Inv X 0 V) : ∀ j, j ≤ 64 → Inv X j (STEP^[j] V)
  | 0, _ => I
  | j + 1, h => by
    rw [Function.iterate_succ_apply']
    exact inv_step (inv_iter I j (by omega)) (by omega)

/-! ## The entry -/

variable (m : (ℓ : Loc nD τ sig) → Buf (Elt Ideal) ℓ) (c : Dev nD)

/-- The arrays as the memory holds them. -/
def args : SArgs where
  u := m ((c : Thread nD τ).loc main_arg0)
  w := m ((c : Thread nD τ).loc main_arg1)
  a := m ((c : Thread nD τ).loc main_arg2)
  q := m ((c : Thread nD τ).loc main_arg3)
  k := m ((c : Thread nD τ).loc main_arg4)
  g := m ((c : Thread nD τ).loc main_arg5)
  s := m ((c : Thread nD τ).loc main_arg6)
  o := m ((c : Thread nD τ).loc main_arg7)

theorem entry_u : entryContents preI m c (Proc.devRef .tc main_v21_1) = transpose S64x8x64x128 [1, 0, 2, 3] (shapeCast S8x64x64x128 (m ((c : Thread nD τ).loc main_arg0)) shapeCasts_S8x4096x128_S8x64x64x128) transposes_S8x64x64x128_S64x8x64x128_1_0_2_3 := by
  simp only [entryContents, afterL_cons, afterL_nil]
  after_reads_simp
  rfl

theorem entry_w : entryContents preI m c (Proc.devRef .tc main_v21_2) = transpose S64x8x64x128 [1, 0, 2, 3] (shapeCast S8x64x64x128 (m ((c : Thread nD τ).loc main_arg1)) shapeCasts_S8x4096x128_S8x64x64x128) transposes_S8x64x64x128_S64x8x64x128_1_0_2_3 := by
  simp only [entryContents, afterL_cons, afterL_nil]
  after_reads_simp
  rfl

theorem entry_a : entryContents preI m c (Proc.devRef .tc main_v21_3) = transpose S64x8x64x64 [1, 0, 2, 3] (shapeCast S8x64x64x64 (m ((c : Thread nD τ).loc main_arg2)) shapeCasts_S8x4096x64_S8x64x64x64) transposes_S8x64x64x64_S64x8x64x64_1_0_2_3 := by
  simp only [entryContents, afterL_cons, afterL_nil]
  after_reads_simp
  rfl

theorem entry_q : entryContents preI m c (Proc.devRef .tc main_v21_4) = transpose S64x8x64x128 [1, 0, 2, 3] (shapeCast S8x64x64x128 (m ((c : Thread nD τ).loc main_arg3)) shapeCasts_S8x4096x128_S8x64x64x128) transposes_S8x64x64x128_S64x8x64x128_1_0_2_3 := by
  simp only [entryContents, afterL_cons, afterL_nil]
  after_reads_simp
  rfl

theorem entry_k : entryContents preI m c (Proc.devRef .tc main_v21_5) = transpose S64x8x64x128 [1, 0, 2, 3] (shapeCast S8x64x64x128 (m ((c : Thread nD τ).loc main_arg4)) shapeCasts_S8x4096x128_S8x64x64x128) transposes_S8x64x64x128_S64x8x64x128_1_0_2_3 := by
  simp only [entryContents, afterL_cons, afterL_nil]
  after_reads_simp
  rfl

theorem entry_o : entryContents preI m c (Proc.devRef .tc main_v21_7) = transpose S64x8x64x128 [1, 0, 2, 3] (shapeCast S8x64x64x128 (m ((c : Thread nD τ).loc main_arg7)) shapeCasts_S8x4096x128_S8x64x64x128) transposes_S8x64x64x128_S64x8x64x128_1_0_2_3 := by
  simp only [entryContents, afterL_cons, afterL_nil]
  after_reads_simp
  rfl

theorem entry_g : entryContents preI m c (Proc.devRef .tc main_v21_6) = transpose S64x8 [1, 0] (shapeCast S8x64 (m ((c : Thread nD τ).loc main_arg5)) shapeCasts_S8x64x1x1_S8x64) transposes_S8x64_S64x8_1_0 := by
  simp only [entryContents, afterL_cons, afterL_nil]
  after_reads_simp
  rfl

theorem entry_s : entryContents preI m c (Proc.devRef .tc main_v21_0) = m ((c : Thread nD τ).loc main_arg6) := by
  simp only [entryContents, afterL_cons, afterL_nil]
  after_reads_simp
  rfl

theorem entry_d : entryContents preI m c (Proc.devRef .tc main_v21_9) = broadcastInDim S8x128x128 ![] bcast_S_S8x128x128 (constant (F := Ideal) S_ .f32 0x00000000#32) := by
  simp only [entryContents, afterL_cons, afterL_nil]
  after_reads_simp
  rfl

theorem cut_at (x : Vec Ideal S8x4096x128 .f32) (n : Fin 64) (h : Fin 8) (i : Fin 64) (v : Fin 128) :
    transpose S64x8x64x128 [1, 0, 2, 3] (shapeCast S8x64x64x128 x shapeCasts_S8x4096x128_S8x64x64x128) transposes_S8x64x64x128_S64x8x64x128_1_0_2_3 (ix4 n h i v)
      = x (ix3 h (rw64 n i) v) := by
  pointwise
  exact congrArg (fun r => x (ix3 h r v)) (Fin.ext (by show n.val * 64 + i.val = 64 * n.val + i.val; omega))

theorem cut64_at (x : Vec Ideal S8x4096x64 .f32) (n : Fin 64) (h : Fin 8) (i : Fin 64) (v : Fin 64) :
    transpose S64x8x64x64 [1, 0, 2, 3] (shapeCast S8x64x64x64 x shapeCasts_S8x4096x64_S8x64x64x64) transposes_S8x64x64x64_S64x8x64x64_1_0_2_3 (ix4 n h i v)
      = x (ix3 h (rw64 n i) v) := by
  pointwise
  exact congrArg (fun r => x (ix3 h r v)) (Fin.ext (by show n.val * 64 + i.val = 64 * n.val + i.val; omega))

theorem inv_entry : Inv (args m c) 0 (entryContents preI m c) where
  ctr := ctr_entry m c
  s n h k v := by rw [entry_s]; rfl
  u n h i v := by rw [entry_u]; exact cut_at _ n h i v
  w n h i v := by rw [entry_w]; exact cut_at _ n h i v
  a n h i v := by rw [entry_a]; exact cut64_at _ n h i v
  q n h i v := by rw [entry_q]; exact cut_at _ n h i v
  k n h i v := by rw [entry_k]; exact cut_at _ n h i v
  g n h := by rw [entry_g]; unfold args; pointwise
  o n h i v := by rw [entry_o]; exact cut_at _ n h i v
  d h k v := by
    rw [entry_d]
    show _ = (0 : EReal)
    pointwise
  du n h i v hn := absurd n.isLt (by omega)
  dw n h i v hn := absurd n.isLt (by omega)
  da n h i v hn := absurd n.isLt (by omega)
  dq n h i v hn := absurd n.isLt (by omega)
  dk n h i v hn := absurd n.isLt (by omega)
  dg n h hn := absurd n.isLt (by omega)

/-- What the loop's buffers hold after its 64 trips. -/
theorem inv_end : Inv (args m c) 64 (STEP^[64] (entryContents preI m c)) := inv_iter (inv_entry m c) 64 (le_refl _)

/-! ## The six results -/

theorem out23_eq : out_main_v23 (STEP^[64] (entryContents preI m c)) = (args m c).rDu := by
  have I := inv_end m c
  generalize STEP^[64] (entryContents preI m c) = V at I
  funext y
  rw [show y = ix3 (y 0) (y 1) (y 2) from funext fun a => by match a with | ⟨0, _⟩ => rfl | ⟨1, _⟩ => rfl | ⟨2, _⟩ => rfl]
  generalize y 0 = h
  generalize y 1 = r
  generalize y 2 = v
  unfold out_main_v23 SArgs.rDu
  refine Eq.trans ?_ (I.du (SArgs.cn r) h (SArgs.ci r) v (by omega))
  pointwise [SArgs.cn, SArgs.ci]

theorem out25_eq : out_main_v25 (STEP^[64] (entryContents preI m c)) = (args m c).rDw := by
  have I := inv_end m c
  generalize STEP^[64] (entryContents preI m c) = V at I
  funext y
  rw [show y = ix3 (y 0) (y 1) (y 2) from funext fun a => by match a with | ⟨0, _⟩ => rfl | ⟨1, _⟩ => rfl | ⟨2, _⟩ => rfl]
  generalize y 0 = h
  generalize y 1 = r
  generalize y 2 = v
  unfold out_main_v25 SArgs.rDw
  refine Eq.trans ?_ (I.dw (SArgs.cn r) h (SArgs.ci r) v (by omega))
  pointwise [SArgs.cn, SArgs.ci]

theorem out27_eq : out_main_v27 (STEP^[64] (entryContents preI m c)) = (args m c).rDa := by
  have I := inv_end m c
  generalize STEP^[64] (entryContents preI m c) = V at I
  funext y
  rw [show y = ix3 (y 0) (y 1) (y 2) from funext fun a => by match a with | ⟨0, _⟩ => rfl | ⟨1, _⟩ => rfl | ⟨2, _⟩ => rfl]
  generalize y 0 = h
  generalize y 1 = r
  generalize y 2 = v
  unfold out_main_v27 SArgs.rDa
  refine Eq.trans ?_ (I.da (SArgs.cn r) h (SArgs.ci r) v (by omega))
  pointwise [SArgs.cn, SArgs.ci]

theorem out29_eq : out_main_v29 (STEP^[64] (entryContents preI m c)) = (args m c).rDq := by
  have I := inv_end m c
  generalize STEP^[64] (entryContents preI m c) = V at I
  funext y
  rw [show y = ix3 (y 0) (y 1) (y 2) from funext fun a => by match a with | ⟨0, _⟩ => rfl | ⟨1, _⟩ => rfl | ⟨2, _⟩ => rfl]
  generalize y 0 = h
  generalize y 1 = r
  generalize y 2 = v
  unfold out_main_v29 SArgs.rDq
  refine Eq.trans ?_ (I.dq (SArgs.cn r) h (SArgs.ci r) v (by omega))
  pointwise [SArgs.cn, SArgs.ci]

theorem out31_eq : out_main_v31 (STEP^[64] (entryContents preI m c)) = (args m c).rDk := by
  have I := inv_end m c
  generalize STEP^[64] (entryContents preI m c) = V at I
  funext y
  rw [show y = ix3 (y 0) (y 1) (y 2) from funext fun a => by match a with | ⟨0, _⟩ => rfl | ⟨1, _⟩ => rfl | ⟨2, _⟩ => rfl]
  generalize y 0 = h
  generalize y 1 = r
  generalize y 2 = v
  unfold out_main_v31 SArgs.rDk
  refine Eq.trans ?_ (I.dk (SArgs.cn r) h (SArgs.ci r) v (by omega))
  pointwise [SArgs.cn, SArgs.ci]

theorem out33_eq : out_main_v33 (STEP^[64] (entryContents preI m c)) = (args m c).rDg := by
  have I := inv_end m c
  generalize STEP^[64] (entryContents preI m c) = V at I
  funext y
  refine Eq.trans ?_ (I.dg (y 1) (y 0) (by omega))
  unfold out_main_v33
  pointwise

end Cert.ReferenceIdeal.Own
-- ==== Proof.Scan.lean ====
module

public import proofs.«01_k».proof.Proof.Kit
public import proofs.«01_k».proof.Proof.ScanArr
public import proofs.«01_k».proof.Proof.ScanRef

/-!
# The backward scan and its reference compute the same six gradients

Both sides are the recurrence `SArgs.D` over the chunks, from the last to the first: the kernel's arrays by `ScanArr`,
the reference's loop by `ScanRef`.
-/

@[expose] public section
set_option maxRecDepth 16384
noncomputable section
namespace Cert.KernelIdeal.Own
open Cert.KernelIdeal Cert.KernelIdeal.Gen Idealize.ShloMosaic Idealize.ShloMosaic.TcCoe Idealize.SL.Sem
open Idealize.ShloMosaic.Pipeline (Dat)

/-- The reference's frame: it terminates and leaves its arguments as they were. -/
theorem frame_reference : @Cert.quiescent_ReferenceIdeal Cert.ReferenceIdeal.Gen.facts := fun m ρ _ =>
  (θ_run Cert.ReferenceIdeal.defs _ _).mono (fun r h => ⟨fun c => (h c).2.2.2.2.2.2,
      sem_eq_zero_of_no_sems (by decide) r.2⟩)
    (Cert.ReferenceIdeal.Value.run m ρ)

/-- The kernel and the reference compute the same six gradients over the extended reals. -/
theorem algebraic : @Cert.algebraic_KernelIdeal_ReferenceIdeal Cert.KernelIdeal.Gen.facts Cert.ReferenceIdeal.Gen.facts := by
  intro m g m' g' _ hargs
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N,
    Value.run_blocks m g, ?_⟩
  refine (θ_run Cert.ReferenceIdeal.defs _ _).mono (fun r h c => ?_) (Cert.ReferenceIdeal.Value.run m' g')
  obtain ⟨a0, a1, a2, a3, a4, a5, a6, a7⟩ := hargs c
  obtain ⟨h0, h1, h2, h3, h4, h5, k⟩ := h c
  have e : Cert.ReferenceIdeal.Own.args m' c = args m c := by
    unfold Cert.ReferenceIdeal.Own.args args
    congr 1
  refine ⟨h0.trans ?_, h1.trans ?_, h2.trans ?_, h3.trans ?_, h4.trans ?_, h5.trans ?_, k⟩
  · exact (Cert.ReferenceIdeal.Own.out23_eq m' c).trans ((congrArg SArgs.rDu e).trans (out8_eq m c).symm)
  · exact (Cert.ReferenceIdeal.Own.out25_eq m' c).trans ((congrArg SArgs.rDw e).trans (out9_eq m c).symm)
  · exact (Cert.ReferenceIdeal.Own.out27_eq m' c).trans ((congrArg SArgs.rDa e).trans (out10_eq m c).symm)
  · exact (Cert.ReferenceIdeal.Own.out29_eq m' c).trans ((congrArg SArgs.rDq e).trans (out11_eq m c).symm)
  · exact (Cert.ReferenceIdeal.Own.out31_eq m' c).trans ((congrArg SArgs.rDk e).trans (out12_eq m c).symm)
  · exact (Cert.ReferenceIdeal.Own.out33_eq m' c).trans ((congrArg SArgs.rDg e).trans (out13_eq m c).symm)

end Cert.KernelIdeal.Own
-- ==== Proof.Merge.lean ====
module

public import proofs.«01_k».proof.Proof.Kit
public import proofs.«01_k».proof.Proof.Gen.Kernel2Ideal.Value
public import proofs.«01_k».proof.Proof.Gen.Reference2Ideal.Read

@[expose] public section

noncomputable section

namespace Cert.Kernel2Ideal.Own

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Where each window's block lies at grid point `t`: at row block `t`, and in the column block that holds its part. -/
theorem idx_facts : ∀ t : Fin cfg0.N,
    (win0_0.index t 0 = t.val ∧ win0_0.index t 1 = 1) ∧ (win0_1.index t 0 = t.val ∧ win0_1.index t 1 = 2)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) :=
  (by decide +kernel : ∀ t : Fin grid0.N, _)

/-- Input window 0's block at `t`, index by index, is argument 0. -/
theorem blk0 (c : Dev nD) (t : Fin cfg0.N) (x : S256x2048.Idx) (y : S4096x6144.Idx)
    (h0 : (y 0).val = t.val * 256 + (x 0).val) (h1 : (y 1).val = 2048 + (x 1).val) :
    iblk m c 0 t x = m ((c : Thread nD τ).loc main_arg0) y := by
  exact congrArg (m _) (Kit.at_blk _ y (win0_0.index t) 256 2048 rfl rfl ((idx_facts t).1) (by omega) (by omega))

/-- Input window 1's block at `t`, index by index, is argument 0. -/
theorem blk1 (c : Dev nD) (t : Fin cfg0.N) (x : S256x2048.Idx) (y : S4096x6144.Idx)
    (h0 : (y 0).val = t.val * 256 + (x 0).val) (h1 : (y 1).val = 4096 + (x 1).val) :
    iblk m c 1 t x = m ((c : Thread nD τ).loc main_arg0) y := by
  exact congrArg (m _) (Kit.at_blk _ y (win0_1.index t) 256 2048 rfl rfl ((idx_facts t).2.1) (by omega) (by omega))

/-- Input window 2's block at `t`, index by index, is argument 1. -/
theorem blk2 (c : Dev nD) (t : Fin cfg0.N) (x : S256x2048.Idx) (y : S4096x2048.Idx)
    (h0 : (y 0).val = t.val * 256 + (x 0).val) (h1 : (y 1).val = 0 + (x 1).val) :
    iblk m c 2 t x = m ((c : Thread nD τ).loc main_arg1) y := by
  exact congrArg (m _) (Kit.at_blk _ y (win0_2.index t) 256 2048 rfl rfl ((idx_facts t).2.2.1) (by omega) (by omega))

/-- Input window 3's block at `t`, index by index, is argument 2. -/
theorem blk3 (c : Dev nD) (t : Fin cfg0.N) (x : S256x2048.Idx) (y : S4096x2048.Idx)
    (h0 : (y 0).val = t.val * 256 + (x 0).val) (h1 : (y 1).val = 0 + (x 1).val) :
    iblk m c 3 t x = m ((c : Thread nD τ).loc main_arg2) y := by
  exact congrArg (m _) (Kit.at_blk _ y (win0_3.index t) 256 2048 rfl rfl ((idx_facts t).2.2.2.1) (by omega) (by omega))

/-- Input window 4's block at `t`, index by index, is argument 3. -/
theorem blk4 (c : Dev nD) (t : Fin cfg0.N) (x : S256x2048.Idx) (y : S4096x2048.Idx)
    (h0 : (y 0).val = t.val * 256 + (x 0).val) (h1 : (y 1).val = 0 + (x 1).val) :
    iblk m c 4 t x = m ((c : Thread nD τ).loc main_arg3) y := by
  exact congrArg (m _) (Kit.at_blk _ y (win0_4.index t) 256 2048 rfl rfl ((idx_facts t).2.2.2.2.1) (by omega) (by omega))

/-- Output window 5: where block `t` puts its index `x` in the array. -/
theorem emb5 (t : Fin cfg0.N) (x : S256x2048.Idx) :
    (((win0_5.rect t).idx x) 0).val = t.val * 256 + (x 0).val ∧ (((win0_5.rect t).idx x) 1).val = (x 1).val :=
  ⟨Kit.at_off (idx_facts t).2.2.2.2.2.1.1 rfl, (Kit.at_off (idx_facts t).2.2.2.2.2.1.2 rfl).trans (by omega)⟩

/-- Every index of output array 5 lies in the block of the point of its row block. -/
theorem cover5 (i : S4096x2048.Idx) : ∃ t : Fin cfg0.N, (cfg0.win 5).flush t = true ∧ i ∈ ((cfg0.win 5).blk t).view.set := by
  have h0 : (i 0).val < 4096 := (i 0).isLt
  have h1 : (i 1).val < 2048 := (i 1).isLt
  have hN : cfg0.N = 16 := N_0
  obtain ⟨t, ht⟩ : ∃ t : Fin cfg0.N, t.val = (i 0).val / 256 := ⟨⟨(i 0).val / 256, by omega⟩, rfl⟩
  refine ⟨t, flush0_5 t, Kit.in_whole (b := main_v0_0) <|
    Kit.in_blk i (win0_5.index t) 256 2048 rfl rfl rfl rfl ((idx_facts t).2.2.2.2.2.1) (by omega) (by omega)⟩

/-- Output window 6: where block `t` puts its index `x` in the array. -/
theorem emb6 (t : Fin cfg0.N) (x : S256x2048.Idx) :
    (((win0_6.rect t).idx x) 0).val = t.val * 256 + (x 0).val ∧ (((win0_6.rect t).idx x) 1).val = (x 1).val :=
  ⟨Kit.at_off (idx_facts t).2.2.2.2.2.2.1.1 rfl, (Kit.at_off (idx_facts t).2.2.2.2.2.2.1.2 rfl).trans (by omega)⟩

/-- Every index of output array 6 lies in the block of the point of its row block. -/
theorem cover6 (i : S4096x2048.Idx) : ∃ t : Fin cfg0.N, (cfg0.win 6).flush t = true ∧ i ∈ ((cfg0.win 6).blk t).view.set := by
  have h0 : (i 0).val < 4096 := (i 0).isLt
  have h1 : (i 1).val < 2048 := (i 1).isLt
  have hN : cfg0.N = 16 := N_0
  obtain ⟨t, ht⟩ : ∃ t : Fin cfg0.N, t.val = (i 0).val / 256 := ⟨⟨(i 0).val / 256, by omega⟩, rfl⟩
  refine ⟨t, flush0_6 t, Kit.in_whole (b := main_v0_1) <|
    Kit.in_blk i (win0_6.index t) 256 2048 rfl rfl rfl rfl ((idx_facts t).2.2.2.2.2.2.1) (by omega) (by omega)⟩

/-- Output window 7: where block `t` puts its index `x` in the array. -/
theorem emb7 (t : Fin cfg0.N) (x : S256x2048.Idx) :
    (((win0_7.rect t).idx x) 0).val = t.val * 256 + (x 0).val ∧ (((win0_7.rect t).idx x) 1).val = (x 1).val :=
  ⟨Kit.at_off (idx_facts t).2.2.2.2.2.2.2.1.1 rfl, (Kit.at_off (idx_facts t).2.2.2.2.2.2.2.1.2 rfl).trans (by omega)⟩

/-- Every index of output array 7 lies in the block of the point of its row block. -/
theorem cover7 (i : S4096x2048.Idx) : ∃ t : Fin cfg0.N, (cfg0.win 7).flush t = true ∧ i ∈ ((cfg0.win 7).blk t).view.set := by
  have h0 : (i 0).val < 4096 := (i 0).isLt
  have h1 : (i 1).val < 2048 := (i 1).isLt
  have hN : cfg0.N = 16 := N_0
  obtain ⟨t, ht⟩ : ∃ t : Fin cfg0.N, t.val = (i 0).val / 256 := ⟨⟨(i 0).val / 256, by omega⟩, rfl⟩
  refine ⟨t, flush0_7 t, Kit.in_whole (b := main_v0_2) <|
    Kit.in_blk i (win0_7.index t) 256 2048 rfl rfl rfl rfl ((idx_facts t).2.2.2.2.2.2.2.1) (by omega) (by omega)⟩

/-- Output window 8: where block `t` puts its index `x` in the array. -/
theorem emb8 (t : Fin cfg0.N) (x : S256x2048.Idx) :
    (((win0_8.rect t).idx x) 0).val = t.val * 256 + (x 0).val ∧ (((win0_8.rect t).idx x) 1).val = (x 1).val :=
  ⟨Kit.at_off (idx_facts t).2.2.2.2.2.2.2.2.1 rfl, (Kit.at_off (idx_facts t).2.2.2.2.2.2.2.2.2 rfl).trans (by omega)⟩

/-- Every index of output array 8 lies in the block of the point of its row block. -/
theorem cover8 (i : S4096x2048.Idx) : ∃ t : Fin cfg0.N, (cfg0.win 8).flush t = true ∧ i ∈ ((cfg0.win 8).blk t).view.set := by
  have h0 : (i 0).val < 4096 := (i 0).isLt
  have h1 : (i 1).val < 2048 := (i 1).isLt
  have hN : cfg0.N = 16 := N_0
  obtain ⟨t, ht⟩ : ∃ t : Fin cfg0.N, t.val = (i 0).val / 256 := ⟨⟨(i 0).val / 256, by omega⟩, rfl⟩
  refine ⟨t, flush0_8 t, Kit.in_whole (b := main_v0_3) <|
    Kit.in_blk i (win0_8.index t) 256 2048 rfl rfl rfl rfl ((idx_facts t).2.2.2.2.2.2.2.2) (by omega) (by omega)⟩

/-- The derivative of a logistic gate, at one element, read over the extended reals. -/
theorem gate_scalar (d a g : Ideal .f32) :
    (FloatOps.truncf .bf16 bitsLt_bf16_f32 (FloatOps.mulf (FloatOps.mulf d a)
      (FloatOps.mulf (FloatOps.logistic g) (FloatOps.subf (Scalar.ofBits .f32 0x3F800000#32) (FloatOps.logistic g)))) : Ideal .bf16)
      = (show EReal from d) * (show EReal from a) * (Ideal.logistic g * (1 - Ideal.logistic g)) := by
  show (show EReal from d) * (show EReal from a) * (Ideal.logistic g * (Ideal.ofBits .f32 0x3F800000#32 - Ideal.logistic g)) = _
  rw [Ideal.ofBits_one_f32]

/-- The column `o` further right, in the gates' array. -/
def colAt (o : ℕ) (ho : o ≤ 4096) (i : S4096x2048.Idx) : S4096x6144.Idx :=
  ix2 ⟨(i 0).val, (i 0).isLt⟩ ⟨o + (i 1).val, by have : (i 1).val < 2048 := (i 1).isLt; omega⟩

/-- A load of a whole buffer is the buffer. -/
theorem ld_whole (X : Vec F S256x2048 .f32) (x : S256x2048.Idx) : View.ld X r0_0 x = X x := congrFun (View.ld_unit_zero (S := S256x2048) hz _ _) x

theorem idx_same' {a b : ℕ} (z x : (⟨2, ![a, b]⟩ : Shape).Idx) (h0 : (z 0).val = (x 0).val) (h1 : (z 1).val = (x 1).val) : z = x :=
  funext fun d => Fin.ext (match d with | ⟨0, _⟩ => h0 | ⟨1, _⟩ => h1)

theorem idx_same (x z : S256x2048.Idx) (h0 : (z 0).val = (x 0).val) (h1 : (z 1).val = (x 1).val) : z = x := idx_same' z x h0 h1

theorem E5_at (P0 P1 P2 : Vec F S256x2048 .f32) (x : S256x2048.Idx) :
    Value.E5 P0 P1 P2 x = FloatOps.truncf .bf16 bitsLt_bf16_f32 (FloatOps.mulf (FloatOps.mulf (P0 x) (P1 x))
      (FloatOps.mulf (FloatOps.logistic (P2 x)) (FloatOps.subf (Scalar.ofBits .f32 0x3F800000#32) (FloatOps.logistic (P2 x))))) := by
  unfold Value.E5
  rw [idx_same x (Value.ix5_0 x) rfl rfl, idx_same x (Value.ix5_1 x) rfl rfl, idx_same x (Value.ix5_2 x) rfl rfl, idx_same x (Value.ix5_3 x) rfl rfl]

theorem E6_at (P0 P1 P2 : Vec F S256x2048 .f32) (x : S256x2048.Idx) :
    Value.E6 P0 P1 P2 x = FloatOps.truncf .bf16 bitsLt_bf16_f32 (FloatOps.mulf (FloatOps.mulf (P0 x) (P1 x))
      (FloatOps.mulf (FloatOps.logistic (P2 x)) (FloatOps.subf (Scalar.ofBits .f32 0x3F800000#32) (FloatOps.logistic (P2 x))))) := by
  unfold Value.E6
  rw [idx_same x (Value.ix6_0 x) rfl rfl, idx_same x (Value.ix6_1 x) rfl rfl, idx_same x (Value.ix6_2 x) rfl rfl, idx_same x (Value.ix6_3 x) rfl rfl]

/-- The host's logistic function, as it is written out. -/
def sig (x : EReal) : EReal := Ideal.div (Ideal.ofBits .f32 0x3F800000#32) (Ideal.ofBits .f32 0x3F800000#32 + Ideal.exp (-x))

theorem sig_eq (x : EReal) : sig x = Ideal.logistic x := by
  unfold sig; rw [Ideal.ofBits_one_f32]; rfl

open Cert.Reference2Ideal.Read in
/-- The reference's four results at an index. -/
theorem refs (x0 : Vec Ideal S4096x6144 .f32) (x1 x2 x3 : Vec Ideal S4096x2048 .f32) (i : S4096x2048.Idx) :
    (val_main_v31 (F := Ideal) x0 x1 x3 i = x3 i * x1 i * (Ideal.logistic (x0 (colAt 2048 (by omega) i))
        * (1 - Ideal.logistic (x0 (colAt 2048 (by omega) i)))))
    ∧ (val_main_v32 (F := Ideal) x0 x2 x3 i = x3 i * x2 i * (Ideal.logistic (x0 (colAt 4096 (by omega) i))
        * (1 - Ideal.logistic (x0 (colAt 4096 (by omega) i)))))
    ∧ (val_main_v33 (F := Ideal) x0 x3 i = Ideal.logistic (x0 (colAt 2048 (by omega) i)) * x3 i)
    ∧ (val_main_v34 (F := Ideal) x0 x3 i = Ideal.logistic (x0 (colAt 4096 (by omega) i)) * x3 i) := by
  have h1 : (i 1).val < 2048 := (i 1).isLt
  have e0 : idx_main_v0 i = colAt 2048 (by omega) i := idx_same' _ _ rfl rfl
  have e1 : idx_main_v1 i = colAt 4096 (by omega) i := idx_same' _ _ rfl rfl
  have d0 : ((i 0).val * 2048 + (i 1).val) / 2048 = (i 0).val := by omega
  have d1 : ((i 0).val * 2048 + (i 1).val) % 2048 = (i 1).val := by omega
  have f0 : idx_main_v23 i = i := idx_same' _ _ d0 d1
  have f1 : idx_main_v24 i = i := idx_same' _ _ d0 d1
  refine ⟨?_, ?_, ?_, ?_⟩ <;> simp only [val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_v11_apply, val_main_v12_apply, val_main_v13_apply, val_main_cst_2_apply, val_main_v14_apply, val_main_v15_apply, val_main_cst_3_apply, val_main_v16_apply, val_main_v17_apply, val_main_cst_4_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply]
  · rw [e0, f0]
    show x3 i * x1 i * (sig (x0 (colAt 2048 (by omega) i)) * (Ideal.ofBits .f32 0x3F800000#32 - sig (x0 (colAt 2048 (by omega) i)))) = _
    rw [sig_eq, Ideal.ofBits_one_f32]
  · rw [e1, f1]
    show x3 i * x2 i * (sig (x0 (colAt 4096 (by omega) i)) * (Ideal.ofBits .f32 0x3F800000#32 - sig (x0 (colAt 4096 (by omega) i)))) = _
    rw [sig_eq, Ideal.ofBits_one_f32]
  · rw [e0, f0]; exact congrArg (· * x3 i) (sig_eq _)
  · rw [e1, f1]; exact congrArg (· * x3 i) (sig_eq _)

theorem E7_at (P0 P1 : Vec F S256x2048 .f32) (x : S256x2048.Idx) :
    Value.E7 P0 P1 x = FloatOps.truncf .bf16 bitsLt_bf16_f32 (FloatOps.mulf (FloatOps.logistic (P0 x)) (P1 x)) := by
  unfold Value.E7
  rw [idx_same x (Value.ix7_0 x) rfl rfl, idx_same x (Value.ix7_1 x) rfl rfl]

theorem E8_at (P0 P1 : Vec F S256x2048 .f32) (x : S256x2048.Idx) :
    Value.E8 P0 P1 x = FloatOps.truncf .bf16 bitsLt_bf16_f32 (FloatOps.mulf (FloatOps.logistic (P0 x)) (P1 x)) := by
  unfold Value.E8
  rw [idx_same x (Value.ix8_0 x) rfl rfl, idx_same x (Value.ix8_1 x) rfl rfl]

variable (mI : (ℓ : Loc nD τ Cert.Kernel2Ideal.sig) → Buf (Elt Ideal) ℓ)

/-- Output array 0 after the run is the reference's result 0. -/
theorem out5_eq (c : Dev nD) :
    (dats mI 0 c).arrAt 5 cfg0.N = Cert.Reference2Ideal.Read.val_main_v31 (F := Ideal) (mI ((c : Thread nD τ).loc main_arg0)) (mI ((c : Thread nD τ).loc main_arg1)) (mI ((c : Thread nD τ).loc main_arg3)) := by
  refine (dats mI 0 c).arrAt_eq_of_cover 5 _ (fun t _ => ?_) cover5
  rw [Value.flushed5]
  funext x
  show View.canon _ x = Cert.Reference2Ideal.Read.val_main_v31 (F := Ideal) (mI ((c : Thread nD τ).loc main_arg0)) (mI ((c : Thread nD τ).loc main_arg1)) (mI ((c : Thread nD τ).loc main_arg3)) ((win0_5.rect t).idx x)
  refine (Value.canon5_eq (View.ld (iblk mI c 4 t) r0_0) (View.ld (iblk mI c 2 t) r0_0) (View.ld (iblk mI c 0 t) r0_0) x).trans ?_
  rw [E5_at]
  have he := emb5 t x
  generalize (win0_5.rect t).idx x = i at he
  have hi0 : (i 0).val < 4096 := (i 0).isLt
  have hi1 : (i 1).val < 2048 := (i 1).isLt
  have b2 := (ld_whole (iblk mI c 2 t) x).trans (blk2 mI c t x i he.1 (by omega))
  have b4 := (ld_whole (iblk mI c 4 t) x).trans (blk4 mI c t x i he.1 (by omega))
  have b0 := (ld_whole (iblk mI c 0 t) x).trans (blk0 mI c t x (colAt 2048 (by omega) i) he.1 (by show 2048 + (i 1).val = _; omega))
  rw [b0, b2, b4]
  refine Eq.trans ?_ (refs _ _ (mI ((c : Thread nD τ).loc main_arg2)) _ i).1.symm
  exact gate_scalar _ _ _

/-- Output array 1 after the run is the reference's result 1. -/
theorem out6_eq (c : Dev nD) :
    (dats mI 0 c).arrAt 6 cfg0.N = Cert.Reference2Ideal.Read.val_main_v32 (F := Ideal) (mI ((c : Thread nD τ).loc main_arg0)) (mI ((c : Thread nD τ).loc main_arg2)) (mI ((c : Thread nD τ).loc main_arg3)) := by
  refine (dats mI 0 c).arrAt_eq_of_cover 6 _ (fun t _ => ?_) cover6
  rw [Value.flushed6]
  funext x
  show View.canon _ x = Cert.Reference2Ideal.Read.val_main_v32 (F := Ideal) (mI ((c : Thread nD τ).loc main_arg0)) (mI ((c : Thread nD τ).loc main_arg2)) (mI ((c : Thread nD τ).loc main_arg3)) ((win0_6.rect t).idx x)
  refine (Value.canon6_eq (View.ld (iblk mI c 4 t) r0_0) (View.ld (iblk mI c 3 t) r0_0) (View.ld (iblk mI c 1 t) r0_0) x).trans ?_
  rw [E6_at]
  have he := emb6 t x
  generalize (win0_6.rect t).idx x = i at he
  have hi0 : (i 0).val < 4096 := (i 0).isLt
  have hi1 : (i 1).val < 2048 := (i 1).isLt
  have b3 := (ld_whole (iblk mI c 3 t) x).trans (blk3 mI c t x i he.1 (by omega))
  have b4 := (ld_whole (iblk mI c 4 t) x).trans (blk4 mI c t x i he.1 (by omega))
  have b1 := (ld_whole (iblk mI c 1 t) x).trans (blk1 mI c t x (colAt 4096 (by omega) i) he.1 (by show 4096 + (i 1).val = _; omega))
  rw [b1, b3, b4]
  refine Eq.trans ?_ (refs _ (mI ((c : Thread nD τ).loc main_arg1)) _ _ i).2.1.symm
  exact gate_scalar _ _ _

/-- Output array 2 after the run is the reference's result 2. -/
theorem out7_eq (c : Dev nD) :
    (dats mI 0 c).arrAt 7 cfg0.N = Cert.Reference2Ideal.Read.val_main_v33 (F := Ideal) (mI ((c : Thread nD τ).loc main_arg0)) (mI ((c : Thread nD τ).loc main_arg3)) := by
  refine (dats mI 0 c).arrAt_eq_of_cover 7 _ (fun t _ => ?_) cover7
  rw [Value.flushed7]
  funext x
  show View.canon _ x = Cert.Reference2Ideal.Read.val_main_v33 (F := Ideal) (mI ((c : Thread nD τ).loc main_arg0)) (mI ((c : Thread nD τ).loc main_arg3)) ((win0_7.rect t).idx x)
  refine (Value.canon7_eq (View.ld (iblk mI c 0 t) r0_0) (View.ld (iblk mI c 4 t) r0_0) x).trans ?_
  rw [E7_at]
  have he := emb7 t x
  generalize (win0_7.rect t).idx x = i at he
  have hi0 : (i 0).val < 4096 := (i 0).isLt
  have hi1 : (i 1).val < 2048 := (i 1).isLt
  have b4 := (ld_whole (iblk mI c 4 t) x).trans (blk4 mI c t x i he.1 (by omega))
  have b0 := (ld_whole (iblk mI c 0 t) x).trans (blk0 mI c t x (colAt 2048 (by omega) i) he.1 (by show 2048 + (i 1).val = _; omega))
  rw [b0, b4]
  refine Eq.trans ?_ (refs _ (mI ((c : Thread nD τ).loc main_arg1)) (mI ((c : Thread nD τ).loc main_arg2)) _ i).2.2.1.symm
  rfl

/-- Output array 3 after the run is the reference's result 3. -/
theorem out8_eq (c : Dev nD) :
    (dats mI 0 c).arrAt 8 cfg0.N = Cert.Reference2Ideal.Read.val_main_v34 (F := Ideal) (mI ((c : Thread nD τ).loc main_arg0)) (mI ((c : Thread nD τ).loc main_arg3)) := by
  refine (dats mI 0 c).arrAt_eq_of_cover 8 _ (fun t _ => ?_) cover8
  rw [Value.flushed8]
  funext x
  show View.canon _ x = Cert.Reference2Ideal.Read.val_main_v34 (F := Ideal) (mI ((c : Thread nD τ).loc main_arg0)) (mI ((c : Thread nD τ).loc main_arg3)) ((win0_8.rect t).idx x)
  refine (Value.canon8_eq (View.ld (iblk mI c 1 t) r0_0) (View.ld (iblk mI c 4 t) r0_0) x).trans ?_
  rw [E8_at]
  have he := emb8 t x
  generalize (win0_8.rect t).idx x = i at he
  have hi0 : (i 0).val < 4096 := (i 0).isLt
  have hi1 : (i 1).val < 2048 := (i 1).isLt
  have b4 := (ld_whole (iblk mI c 4 t) x).trans (blk4 mI c t x i he.1 (by omega))
  have b1 := (ld_whole (iblk mI c 1 t) x).trans (blk1 mI c t x (colAt 4096 (by omega) i) he.1 (by show 4096 + (i 1).val = _; omega))
  rw [b1, b4]
  refine Eq.trans ?_ (refs _ (mI ((c : Thread nD τ).loc main_arg1)) (mI ((c : Thread nD τ).loc main_arg2)) _ i).2.2.2.symm
  rfl

/-- The reference's frame: it terminates and leaves its arguments as they were. -/
theorem frame_reference : @Cert.quiescent_Reference2Ideal Cert.Reference2Ideal.Gen.facts := fun m ρ _ =>
  (θ_run Cert.Reference2Ideal.defs _ _).mono (fun r h => ⟨fun c => (h c).2.2.2.2,
      sem_eq_zero_of_no_sems (by decide) r.2⟩)
    (Cert.Reference2Ideal.Value.run m ρ)

/-- The kernel and the reference compute the same four gradients over the extended reals. -/
theorem algebraic : @Cert.algebraic_Kernel2Ideal_Reference2Ideal Cert.Kernel2Ideal.Gen.facts Cert.Reference2Ideal.Gen.facts := by
  intro m g m' g' _ hargs
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g, ?_⟩
  refine (θ_run Cert.Reference2Ideal.defs _ _).mono (fun r h c => ?_) (Cert.Reference2Ideal.Value.run m' g')
  obtain ⟨a0, a1, a2, a3⟩ := hargs c
  obtain ⟨h0, h1, h2, h3, k0, k1, k2, k3⟩ := h c
  refine ⟨h0.trans ?_, h1.trans ?_, h2.trans ?_, h3.trans ?_, k0, k1, k2, k3⟩
  · rw [a0, a1, a3]; exact (Cert.Reference2Ideal.Read.val_main_v31_eq _ _ _).trans (out5_eq m c).symm
  · rw [a0, a2, a3]; exact (Cert.Reference2Ideal.Read.val_main_v32_eq _ _ _).trans (out6_eq m c).symm
  · rw [a0, a3]; exact (Cert.Reference2Ideal.Read.val_main_v33_eq _ _).trans (out7_eq m c).symm
  · rw [a0, a3]; exact (Cert.Reference2Ideal.Read.val_main_v34_eq _ _).trans (out8_eq m c).symm

end Cert.Kernel2Ideal.Own
-- ==== Proof.ProdSum.lean ====
module

public import Idealize.ShloMosaic.Lib.Pointwise
public import Idealize.ShloMosaic.Lib.IdealHost

/-!
# Sums that a blocked product builds up

A blocked product adds, at each step of its innermost grid axis, the part of the sum that lies in that step's block. The
theorem `acc_run` says what its accumulator holds after any grid point, and `rd` reads a matrix at two natural numbers,
so that the blocks of one sum need no casts between index types.
-/

@[expose] public section

noncomputable section

namespace Cert.ProdSum

open Idealize.ShloMosaic Finset

/-- The entry of a matrix at two natural numbers; zero outside the matrix. -/
def rd {a b : ℕ} (A : (⟨2, ![a, b]⟩ : Shape).Idx → EReal) (i k : ℕ) : EReal :=
  if h : i < a ∧ k < b then A (ix2 ⟨i, h.1⟩ ⟨k, h.2⟩) else 0

/-- An entry of a matrix, by the values of its two coordinates. -/
theorem rd_of {a b : ℕ} (A : (⟨2, ![a, b]⟩ : Shape).Idx → EReal) (y : (⟨2, ![a, b]⟩ : Shape).Idx) (i k : ℕ)
    (h0 : (y 0).val = i) (h1 : (y 1).val = k) : A y = rd A i k := by
  subst h0; subst h1
  have e : (y 0).val < a ∧ (y 1).val < b := ⟨(y 0).isLt, (y 1).isLt⟩
  unfold rd
  rw [dif_pos e]
  refine congrArg A (funext fun d => ?_)
  match d with
  | ⟨0, _⟩ => rfl
  | ⟨1, _⟩ => rfl

/-- An entry of a block of a matrix: block `P` of `s0` rows and `Q` of `s1` columns. -/
theorem rd_blk {a b : ℕ} (A : (⟨2, ![a, b]⟩ : Shape).Idx → EReal) (y : (⟨2, ![a, b]⟩ : Shape).Idx) (o : Fin 2 → ℕ) (s0 s1 : ℕ)
    {r q P Q i k : ℕ} (h0 : (y 0).val = o 0 * s0 + 1 * r) (h1 : (y 1).val = o 1 * s1 + 1 * q) (e : o 0 = P ∧ o 1 = Q)
    (ei : P * s0 + r = i) (ek : Q * s1 + q = k) : A y = rd A i k :=
  rd_of A y i k (by rw [h0, e.1]; omega) (by rw [h1, e.2]; omega)

/-- What an accumulator holds after grid point `n`, if its innermost axis has `K` steps: it starts from `z` at the first
    step of a run, and step `k` adds the terms `lim k, …, lim (k+1) - 1` of the run's sum. -/
theorem acc_run {α : Type} {N K : ℕ} (acc : ∀ n, n < N → α → EReal) (z : ℕ → α → EReal) (f : ℕ → α → ℕ → EReal)
    (lim w : ℕ → ℕ) (h0 : lim 0 = 0) (hl : ∀ k, k < K → lim (k + 1) = lim k + w k)
    (hK : ∀ n, n % K < K) (hd : ∀ n, ¬(n + 1) % K = 0 → (n + 1) / K = n / K ∧ (n + 1) % K = n % K + 1)
    (hA : ∀ n (h : n < N) x, n % K = 0 → acc n h x = z (n / K) x + ∑ q ∈ range (w 0), f (n / K) x q)
    (hB : ∀ n (h : n + 1 < N) x, ¬(n + 1) % K = 0 →
      acc (n + 1) h x = acc n (Nat.lt_of_succ_lt h) x
        + ∑ q ∈ range (w ((n + 1) % K)), f ((n + 1) / K) x (lim ((n + 1) % K) + q)) :
    ∀ n (h : n < N) x, acc n h x = z (n / K) x + ∑ q ∈ range (lim (n % K + 1)), f (n / K) x q := by
  have first : ∀ n (h : n < N) x, n % K = 0 → acc n h x = z (n / K) x + ∑ q ∈ range (lim (n % K + 1)), f (n / K) x q := by
    intro n h x e
    rw [hA n h x e, e, hl 0 (by have := hK n; omega), h0, Nat.zero_add]
  intro n
  induction n with
  | zero => intro h x; exact first 0 h x (Nat.zero_mod K)
  | succ n ih =>
    intro h x
    by_cases e : (n + 1) % K = 0
    · exact first (n + 1) h x e
    · obtain ⟨e1, e2⟩ := hd n e
      rw [hB n h x e, ih (Nat.lt_of_succ_lt h) x, hl ((n + 1) % K) (hK (n + 1)), Finset.sum_range_add, e1, e2, add_assoc]

/-- A sum over the numbers below `n`, as a sum over `Fin n`. -/
theorem sum_fin (n : ℕ) (f : ℕ → EReal) (g : Fin n → EReal) (h : ∀ q : Fin n, g q = f q.val) :
    ∑ q, g q = ∑ q ∈ range n, f q := by
  rw [Finset.sum_range]
  exact Finset.sum_congr rfl fun q _ => h q

end Cert.ProdSum

end
-- ==== Proof.ProdA.lean ====
module

public import proofs.«01_k».proof.Proof.Kit
public import proofs.«01_k».proof.Proof.Gen.Kernel3Ideal.Value
public import proofs.«01_k».proof.Proof.Gen.Reference3Ideal.Read
public import proofs.«01_k».proof.Proof.ProdSum

/-!
# The product of program 3

The product of a row of activations with a gathered weight, `nt`: d_act, and with the same shapes ffn_gate and ffn_up.
The kernel cuts the result into 4 by 11 blocks of 1024 by 512, and the sum into 1 step. The reference is one product.
-/

@[expose] public section

noncomputable section

namespace Cert.Kernel3Ideal.Own

open Cert.Kernel3Ideal Cert.Kernel3Ideal.Gen Idealize.ShloMosaic Idealize.ShloMosaic.TcCoe Idealize.SL.Sem Cert.ProdSum

/-- Where window 0's block lies at a grid point. -/
theorem idx0 : ∀ t : Fin cfg0.N, win0_0.index t 0 = (t.val) / 11 ∧ win0_0.index t 1 = 0 :=
  (by decide +kernel : ∀ t : Fin grid0.N, _)

/-- Where window 1's block lies at a grid point. -/
theorem idx1 : ∀ t : Fin cfg0.N, win0_1.index t 0 = (t.val) % 11 ∧ win0_1.index t 1 = 0 :=
  (by decide +kernel : ∀ t : Fin grid0.N, _)

/-- Where window 2's block lies at a grid point. -/
theorem idx2 : ∀ t : Fin cfg0.N, win0_2.index t 0 = (t.val) / 11 ∧ win0_2.index t 1 = (t.val) % 11 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 2048]⟩ : Shape).Idx → EReal := m ((c : Thread nD τ).loc main_arg0)

/-- Window 0's block at a grid point. -/
def bk0 : FVec Ideal S1024x2048 .bf16 := iblk m c 0 t

theorem blk0 (x : S1024x2048.Idx) :
    bk0 m c t x = rd (arg0 m c) ((t.val) / 11 * 1024 + (x 0).val) (0 * 2048 + (x 1).val) :=
  rd_blk (arg0 m c) ((win0_0.rect t).idx x) (win0_0.index t) 1024 2048 rfl rfl (idx0 t) (by omega) (by omega)

/-- Argument 1 as a matrix. -/
abbrev arg1 : (⟨2, ![5632, 2048]⟩ : Shape).Idx → EReal := m ((c : Thread nD τ).loc main_arg1)

/-- Window 1's block at a grid point. -/
def bk1 : FVec Ideal S512x2048 .bf16 := iblk m c 1 t

theorem blk1 (x : S512x2048.Idx) :
    bk1 m c t x = rd (arg1 m c) ((t.val) % 11 * 512 + (x 0).val) (0 * 2048 + (x 1).val) :=
  rd_blk (arg1 m c) ((win0_1.rect t).idx x) (win0_1.index t) 512 2048 rfl rfl (idx1 t) (by omega) (by omega)

/-! ## The result -/

/-- Term `q` of the sum at row `i` and column `j`. -/
def term (i j q : ℕ) : EReal := rd (arg0 m c) (i) q * rd (arg1 m c) (j) q

/-- What the sum starts from. -/
def base (m : (ℓ : Loc nD τ sig) → Buf (Elt Ideal) ℓ) (c : Dev nD) (i j : ℕ) : EReal := 0

/-- The result of the kernel. -/
def result : S4096x5632.Idx → EReal := fun y => base m c (y 0).val (y 1).val + ∑ q ∈ Finset.range 2048, term m c (y 0).val (y 1).val q

/-- The part of the sum that a grid point adds. -/
theorem dot0 (x : S1024x512.Idx) :
    ∑ q : Fin 2048, ((bk0 m c t (ix2 (x 0) q)) * (bk1 m c t (ix2 (x 1) q)) : EReal)
      = ∑ q ∈ Finset.range 2048, term m c ((t.val) / 11 * 1024 + (x 0).val) ((t.val) % 11 * 512 + (x 1).val) (0 + q) := by
  refine sum_fin 2048 (fun q => term m c ((t.val) / 11 * 1024 + (x 0).val) ((t.val) % 11 * 512 + (x 1).val) (0 + q)) _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

/-- What a grid point leaves, entry by entry. -/
theorem left (x0 : Vec Ideal S1024x2048 .bf16) (x1 : Vec Ideal S512x2048 .bf16) (y : S1024x512.Idx) :
    (out0_2 (F := Ideal) x0 x1 : S1024x512.Idx → EReal) y = ∑ q : Fin 2048, ((x0 (ix2 (y 0) q)) * (x1 (ix2 (y 1) q)) : EReal) := by
  unfold out0_2
  rw [View.canon_unit_zero hz]
  unfold k0_pay1
  simp only [View.ld_unit_zero (S := S1024x2048) hz, View.ld_unit_zero (S := S512x2048) hz, shapeCast_self]
  pointwise

/-- Every entry of the result is written by some grid point. -/
theorem cover (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  obtain ⟨t, ht⟩ : ∃ t : Fin cfg0.N, t.val = ((i 0).val / 1024 * 11 + (i 1).val / 512) :=
    ⟨⟨_, (by omega : ((i 0).val / 1024 * 11 + (i 1).val / 512) < 44)⟩, rfl⟩
  refine ⟨t, flush0_2 t, Kit.in_whole (b := main_v0) <|
    Kit.in_blk i (win0_2.index t) 1024 512 rfl rfl rfl rfl (idx2 t) (by omega) (by omega)⟩

/-- The kernel's array after the run. -/
theorem out_eq : (dats m 0 c).arrAt 2 cfg0.N = result m c := by
  refine (dats m 0 c).arrAt_eq_of_cover 2 _ (fun t _ => ?_) cover
  rw [Value.flushed2]
  funext x
  change S1024x512.Idx at x
  have hi := idx2 t
  refine (left (iblk m c 0 t) (iblk m c 1 t) x).trans ?_
  show _ = result m c ((win0_2.rect t).idx x)
  have e0 : (((win0_2.rect t).idx x) 0).val = (t.val) / 11 * 1024 + (x 0).val := Kit.at_off hi.1 rfl
  have e1 : (((win0_2.rect t).idx x) 1).val = (t.val) % 11 * 512 + (x 1).val := Kit.at_off hi.2 rfl
  unfold result base
  rw [e0, e1]
  rw [zero_add]
  refine (dot0 m c t x).trans (Finset.sum_congr rfl fun q _ => ?_)
  rw [Nat.zero_add]

open Cert.Reference3Ideal.Read in
/-- The reference's result, entry by entry. -/
theorem ref_at (x0 : FVec Ideal S4096x2048 .bf16) (x1 : FVec Ideal S5632x2048 .bf16) (y : S4096x5632.Idx) :
    ((val_main_v4 (F := Ideal) x0 x1 : FVec Ideal S4096x5632 .f32) y : EReal) = (∑ q : Fin 2048, (x0 (ix2 (y 0) q) * x1 (ix2 (y 1) q) : EReal)) := by
  unfold val_main_v4 val_main_v1 val_main_v0
  pointwise

/-- The kernel's result in the reference's words. -/
theorem result_eq (y : S4096x5632.Idx) :
    result m c y = (∑ q : Fin 2048, ((arg0 m c) (ix2 (y 0) q) * (arg1 m c) (ix2 (y 1) q) : EReal)) := by
  unfold result base
  rw [zero_add]
  refine (sum_fin 2048 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference3Ideal Cert.Reference3Ideal.Gen.facts := fun m ρ _ =>
  (θ_run Cert.Reference3Ideal.defs _ _).mono (fun r h => ⟨fun c => (h c).2,
      sem_eq_zero_of_no_sems (by decide) r.2⟩)
    (Cert.Reference3Ideal.Value.run m ρ)

/-- The kernel and the reference compute the same product over the extended reals. -/
theorem algebraic : @Cert.algebraic_Kernel3Ideal_Reference3Ideal Cert.Kernel3Ideal.Gen.facts Cert.Reference3Ideal.Gen.facts := by
  intro m g m' g' _ hargs
  refine ⟨fun c => (dats m 0 c).arrAt 2 cfg0.N, Value.run_blocks m g, ?_⟩
  refine (θ_run Cert.Reference3Ideal.defs _ _).mono (fun r h c => ?_) (Cert.Reference3Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference3Ideal.Read.val_main_v4_eq ..).trans ?_
  funext y
  exact (ref_at _ _ y).trans (result_eq m c y).symm

end Cert.Kernel3Ideal.Own
-- ==== Proof.ProdB.lean ====
module

public import proofs.«01_k».proof.Proof.Kit
public import proofs.«01_k».proof.Proof.Gen.Kernel4Ideal.Frame
public import proofs.«01_k».proof.Proof.Gen.Reference4Ideal.Read
public import proofs.«01_k».proof.Proof.ProdSum

/-!
# The product of program 4

A weight gradient, `tn` with a bf16 result: dw_down, and with the same shapes dw_gate and dw_up.
The kernel cuts the result into 11 by 1 blocks of 512 by 2048, and the sum into 2 steps. The reference is one product.
-/

@[expose] public section

noncomputable section

namespace Cert.Kernel4Ideal.Own

open Cert.Kernel4Ideal Cert.Kernel4Ideal.Gen Idealize.ShloMosaic Idealize.ShloMosaic.TcCoe Idealize.SL.Sem Cert.ProdSum

/-- Where window 0's block lies at a grid point. -/
theorem idx0 : ∀ t : Fin cfg0.N, win0_0.index t 0 = t.val % 2 ∧ win0_0.index t 1 = (t.val / 2) :=
  (by decide +kernel : ∀ t : Fin grid0.N, _)

/-- Where window 1's block lies at a grid point. -/
theorem idx1 : ∀ t : Fin cfg0.N, win0_1.index t 0 = t.val % 2 ∧ win0_1.index t 1 = 0 :=
  (by decide +kernel : ∀ t : Fin grid0.N, _)

/-- Where window 2's block lies at a grid point. -/
theorem idx2 : ∀ t : Fin cfg0.N, win0_2.index t 0 = (t.val / 2) ∧ win0_2.index t 1 = 0 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 5632]⟩ : Shape).Idx → EReal := m ((c : Thread nD τ).loc main_arg0)

/-- Window 0's block at a grid point. -/
def bk0 : FVec Ideal S2048x512 .bf16 := iblk m c 0 t

theorem blk0 (x : S2048x512.Idx) :
    bk0 m c t x = rd (arg0 m c) (t.val % 2 * 2048 + (x 0).val) ((t.val / 2) * 512 + (x 1).val) :=
  rd_blk (arg0 m c) ((win0_0.rect t).idx x) (win0_0.index t) 2048 512 rfl rfl (idx0 t) (by omega) (by omega)

/-- Argument 1 as a matrix. -/
abbrev arg1 : (⟨2, ![4096, 2048]⟩ : Shape).Idx → EReal := m ((c : Thread nD τ).loc main_arg1)

/-- Window 1's block at a grid point. -/
def bk1 : FVec Ideal S2048x2048 .bf16 := iblk m c 1 t

theorem blk1 (x : S2048x2048.Idx) :
    bk1 m c t x = rd (arg1 m c) (t.val % 2 * 2048 + (x 0).val) (0 * 2048 + (x 1).val) :=
  rd_blk (arg1 m c) ((win0_1.rect t).idx x) (win0_1.index t) 2048 2048 rfl rfl (idx1 t) (by omega) (by omega)

/-! ## The result -/

/-- Term `q` of the sum at row `i` and column `j`. -/
def term (i j q : ℕ) : EReal := rd (arg0 m c) q (i) * rd (arg1 m c) q (j)

/-- What the sum starts from. -/
def base (m : (ℓ : Loc nD τ sig) → Buf (Elt Ideal) ℓ) (c : Dev nD) (i j : ℕ) : EReal := 0

/-- The result of the kernel. -/
def result : S5632x2048.Idx → EReal := fun y => base m c (y 0).val (y 1).val + ∑ q ∈ Finset.range 4096, term m c (y 0).val (y 1).val q

/-- The part of the sum that a grid point adds. -/
def part (x : S512x2048.Idx) : EReal := ∑ q ∈ Finset.range 2048, term m c ((t.val / 2) * 512 + (x 0).val) (0 * 2048 + (x 1).val) ((t.val % 2) * 2048 + q)

/-- It is the product of the two blocks. -/
theorem dot0 (x : S512x2048.Idx) :
    ∑ q : Fin 2048, ((bk0 m c t (ix2 q (x 0))) * (bk1 m c t (ix2 q (x 1))) : EReal)
      = part m c t x := by
  refine sum_fin 2048 _ _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

section

variable (i : grid0.Coords) (arg3 : Memref sig .tc .vmem S2048x512 .bf16) (arg4 : Memref sig .tc .vmem S2048x2048 .bf16) (arg5 : Memref sig .tc .vmem S512x2048 .bf16) (arg6 : Memref sig .tc .vmem S512x2048 .f32) (harg3 : arg3.IsWhole) (harg4 : arg4.IsWhole) (harg5 : arg5.IsWhole) (harg6 : arg6.IsWhole)

/-- What the accumulator holds after a grid point of case A, entry by entry. -/
theorem case_A (hc0 : cond0_0 i) (hc1 : ¬cond0_1 i) (x0 : Vec Ideal S2048x512 .bf16) (x1 : Vec Ideal S2048x2048 .bf16) (y : S512x2048.Idx) :
    (sout0_A_0 (F := Ideal) c i arg3 harg3 arg4 harg4 arg5 harg5 arg6 harg6 hc0 hc1 x0 x1 : S512x2048.Idx → EReal) y = ∑ q : Fin 2048, ((x0 (ix2 q (y 0))) * (x1 (ix2 q (y 1))) : EReal) := by
  unfold sout0_A_0
  rw [View.read_writes_eq_canon]
  swap
  · exact fun _ => scover0_A_0 ..
  unfold kernelRun0_A
  dsimp only
  sl_unfold_words
  first | rw [View.canon_cons_unit_zero (S := S512x2048) hz] | rw [View.canon_unit_zero hz]
  try simp only [View.readCov_unit_zero (S := S512x2048) _ hz]
  try unfold k0_pay3
  try unfold k0_pay2
  try unfold k0_pay1
  simp (discharger := assumption) only [View.readAt_eq_ld, Memref.IsWhole.read_unread, View.ld_unit_zero (S := S2048x512) hz, View.ld_unit_zero (S := S2048x2048) hz, View.ld_unit_zero (S := S512x2048) hz, shapeCast_self]
  pointwise

/-- What a grid point of case B leaves, entry by entry. -/
theorem case_B (hc0 : ¬cond0_0 i) (hc1 : cond0_1 i) (x0 : Vec Ideal S2048x512 .bf16) (x1 : Vec Ideal S2048x2048 .bf16) (xs0 : Vec Ideal S512x2048 .f32) :
    (∀ y : S512x2048.Idx, (sout0_B_0 (F := Ideal) c i arg3 harg3 arg4 harg4 arg5 harg5 arg6 harg6 hc0 hc1 x0 x1 xs0 : S512x2048.Idx → EReal) y = (xs0 y : EReal) + ∑ q : Fin 2048, ((x0 (ix2 q (y 0))) * (x1 (ix2 q (y 1))) : EReal))
    ∧ (∀ y : S512x2048.Idx, (out0_B_2 (F := Ideal) c i arg3 harg3 arg4 harg4 arg5 harg5 arg6 harg6 hc0 hc1 x0 x1 xs0 : S512x2048.Idx → EReal) y = (xs0 y : EReal) + ∑ q : Fin 2048, ((x0 (ix2 q (y 0))) * (x1 (ix2 q (y 1))) : EReal)) := by
  unfold sout0_B_0 out0_B_2
  refine ⟨fun y => ?_, fun y => ?_⟩
  all_goals
    rw [View.read_writes_eq_canon]
    swap
    · intro _
      first | exact scover0_B_0 .. | exact cover0_B_2 ..
    unfold kernelRun0_B
    dsimp only
    sl_unfold_words
    first | rw [View.canon_cons_unit_zero (S := S512x2048) hz] | rw [View.canon_unit_zero hz]
    try simp only [View.readCov_unit_zero (S := S512x2048) _ hz]
    try unfold k0_pay3
    try unfold k0_pay2
    try unfold k0_pay1
    simp (discharger := assumption) only [View.readAt_eq_ld, Memref.IsWhole.read_unread, View.ld_unit_zero (S := S2048x512) hz, View.ld_unit_zero (S := S2048x2048) hz, View.ld_unit_zero (S := S512x2048) hz, shapeCast_self]
    pointwise

end

/-- The accumulator after grid point `n`. -/
def acc (n : ℕ) (h : n < cfg0.N) : S512x2048.Idx → EReal := (outsAt0 m c n h).2

/-- The first term of the sum that step `k` adds, and how many it adds. -/
def lim : ℕ → ℕ := fun k => 2048 * k
def wid : ℕ → ℕ := fun _ => 2048

theorem step_A (x : S512x2048.Idx) (h0 : t.val % 2 = 0) (h1 : ¬t.val % 2 = 1) :
    acc m c t.val t.isLt x = base m c ((t.val / 2) * 512 + (x 0).val) (0 * 2048 + (x 1).val) + part m c t x := by
  unfold acc
  rw [outsAt0_A m c t h0 h1]
  dsimp only
  refine (case_A (y := x) ..).trans ?_
  refine Eq.trans (dot0 m c t x) ?_
  unfold base
  exact (zero_add _).symm

theorem step_B (x : S512x2048.Idx) (h0 : ¬t.val % 2 = 0) (h1 : t.val % 2 = 1) :
    acc m c t.val t.isLt x = acc m c (t.val - 1) (Nat.lt_of_le_of_lt (Nat.sub_le _ _) t.isLt) x + part m c t x := by
  unfold acc
  rw [outsAt0_B m c t h0 h1]
  dsimp only
  refine ((case_B ..).1 x).trans ?_
  exact congrArg₂ (· + ·) rfl (dot0 m c t x)

/-- The accumulator after grid point `n`, entry by entry: the part of the sum up to that point's step. -/
theorem acc_eq : ∀ (n : ℕ) (h : n < cfg0.N) (x : S512x2048.Idx),
    acc m c n h x = base m c ((n / 2) * 512 + (x 0).val) (0 * 2048 + (x 1).val) + ∑ q ∈ Finset.range (lim (n % 2 + 1)), term m c ((n / 2) * 512 + (x 0).val) (0 * 2048 + (x 1).val) q := by
  refine acc_run (K := 2) (acc m c) (fun r x => base m c ((r) * 512 + (x 0).val) (0 * 2048 + (x 1).val))
    (fun r x q => term m c ((r) * 512 + (x 0).val) (0 * 2048 + (x 1).val) q) lim wid rfl ?hl ?hK ?hd ?hA ?hB
  case hl =>
    intro k hk
    unfold lim wid; omega
  case hK => intro n; omega
  case hd => intro n hn; omega
  case hA =>
    intro n h x hn
    refine (step_A m c ⟨n, h⟩ x (by show n % 2 = 0; omega) (by show ¬n % 2 = 1; omega)).trans ?_
    dsimp only [part]
    rw [hn]
    simp only [Nat.zero_mul, Nat.zero_add, wid]
  case hB =>
    intro n h x hn
    refine (step_B m c ⟨n + 1, h⟩ x (by show ¬(n + 1) % 2 = 0; omega) (by show (n + 1) % 2 = 1; omega)).trans ?_
    dsimp only [lim, wid, part]
    refine congrArg₂ (· + ·) rfl (Finset.sum_congr rfl fun q _ => ?_)
    rw [Nat.mul_comm 2048]

/-- Every entry of the result is written by some grid point. -/
theorem cover (i : S5632x2048.Idx) : ∃ t : Fin cfg0.N, (cfg0.win 2).flush t = true ∧ i ∈ ((cfg0.win 2).blk t).view.set := by
  have h0 : (i 0).val < 5632 := (i 0).isLt
  have h1 : (i 1).val < 2048 := (i 1).isLt
  obtain ⟨t, ht⟩ : ∃ t : Fin cfg0.N, t.val = ((i 0).val / 512 * 1 + (i 1).val / 2048) * 2 + 1 :=
    ⟨⟨_, (by omega : ((i 0).val / 512 * 1 + (i 1).val / 2048) * 2 + 1 < 22)⟩, rfl⟩
  refine ⟨t, (flush0_2 t).mpr (by omega), Kit.in_whole (b := main_v0) <|
    Kit.in_blk i (win0_2.index t) 512 2048 rfl rfl rfl rfl (idx2 t) (by omega) (by omega)⟩

/-- The kernel's array after the run. -/
theorem out_eq : (dats m 0 c).arrAt 2 cfg0.N = result m c := by
  refine (dats m 0 c).arrAt_eq_of_cover 2 _ (fun t hf => ?_) cover
  have hf := (flush0_2 t).mp hf
  have h0 : ¬t.val % 2 = 0 := by omega
  have h1 : t.val % 2 = 1 := by omega
  have e : (dats m 0 c).flushed 2 t = (cfg0.win 2).cut (grid0.coords t) (outsAt0 m c t.val t.isLt).1 := by
    show (cfg0.win 2).cut (grid0.coords t) ((dats m 0 c).after 2 t) = _
    rw [after0_2]
  have ex : ((outsAt0 m c t.val t.isLt).1 : S512x2048.Idx → EReal) = acc m c t.val t.isLt := by
    funext x
    unfold acc
    rw [outsAt0_B m c t h0 h1]
    dsimp only
    exact ((case_B ..).2 x).trans ((case_B ..).1 x).symm
  rw [e]
  funext x
  change S512x2048.Idx at x
  refine (congrFun ex x).trans ?_
  rw [acc_eq m c t.val t.isLt x]
  show _ = result m c ((win0_2.rect t).idx x)
  have hi := idx2 t
  have e0 : (((win0_2.rect t).idx x) 0).val = (t.val / 2) * 512 + (x 0).val := Kit.at_off hi.1 rfl
  have e1 : (((win0_2.rect t).idx x) 1).val = 0 * 2048 + (x 1).val := Kit.at_off hi.2 rfl
  unfold result
  rw [e0, e1, hf]
  rfl

open Cert.Reference4Ideal.Read in
/-- The reference's result, entry by entry. -/
theorem ref_at (x0 : FVec Ideal S4096x5632 .bf16) (x1 : FVec Ideal S4096x2048 .bf16) (y : S5632x2048.Idx) :
    ((val_main_v6 (F := Ideal) x0 x1 : FVec Ideal S5632x2048 .bf16) y : EReal) = (∑ q : Fin 4096, (x0 (ix2 q (y 0)) * x1 (ix2 q (y 1)) : EReal)) := by
  unfold val_main_v6 val_main_v5 val_main_v4 val_main_v0 val_main_v1
  pointwise
  exact Finset.sum_congr rfl fun q _ => mul_comm _ _

/-- The kernel's result in the reference's words. -/
theorem result_eq (y : S5632x2048.Idx) :
    result m c y = (∑ q : Fin 4096, ((arg0 m c) (ix2 q (y 0)) * (arg1 m c) (ix2 q (y 1)) : EReal)) := by
  unfold result base
  rw [zero_add]
  refine (sum_fin 4096 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference4Ideal Cert.Reference4Ideal.Gen.facts := fun m ρ _ =>
  (θ_run Cert.Reference4Ideal.defs _ _).mono (fun r h => ⟨fun c => (h c).2,
      sem_eq_zero_of_no_sems (by decide) r.2⟩)
    (Cert.Reference4Ideal.Value.run m ρ)

/-- The kernel and the reference compute the same product over the extended reals. -/
theorem algebraic : @Cert.algebraic_Kernel4Ideal_Reference4Ideal Cert.Kernel4Ideal.Gen.facts Cert.Reference4Ideal.Gen.facts := by
  intro m g m' g' _ hargs
  refine ⟨fun c => (dats m 0 c).arrAt 2 cfg0.N, (θ_run defs _ _).mono (fun _ k c => ⟨(k.1 c).1 2, k.2 c⟩)
    (θ_run_and (run_main m g) (unchanged m g)), ?_⟩
  refine (θ_run Cert.Reference4Ideal.defs _ _).mono (fun r h c => ?_) (Cert.Reference4Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference4Ideal.Read.val_main_v6_eq ..).trans ?_
  funext y
  exact (ref_at _ _ y).trans (result_eq m c y).symm

end Cert.Kernel4Ideal.Own
-- ==== Proof.ProdC.lean ====
module

public import proofs.«01_k».proof.Proof.Kit
public import proofs.«01_k».proof.Proof.Gen.Kernel5Ideal.Value
public import proofs.«01_k».proof.Proof.Gen.Reference5Ideal.Read
public import proofs.«01_k».proof.Proof.ProdSum

/-!
# The product of program 5

The gradient of the normed input of the FFN through its gate and its up product (the call `dh2`).
The kernel cuts the result into 4 by 2 blocks of 1024 by 1024, and the sum into 8 steps. The reference is one product per term.
-/

@[expose] public section

noncomputable section

namespace Cert.Kernel5Ideal.Own

open Cert.Kernel5Ideal Cert.Kernel5Ideal.Gen Idealize.ShloMosaic Idealize.ShloMosaic.TcCoe Idealize.SL.Sem Cert.ProdSum

/-- Where window 0's block lies at a grid point. -/
theorem idx0 : ∀ t : Fin cfg0.N, 0 ≤ t.val % 8 → t.val % 8 < 4 → win0_0.index t 0 = (t.val / 8) / 2 ∧ win0_0.index t 1 = (t.val % 8 - 0) :=
  (by decide +kernel : ∀ t : Fin grid0.N, _)

/-- Where window 1's block lies at a grid point. -/
theorem idx1 : ∀ t : Fin cfg0.N, 0 ≤ t.val % 8 → t.val % 8 < 4 → win0_1.index t 0 = (t.val % 8 - 0) ∧ win0_1.index t 1 = (t.val / 8) % 2 :=
  (by decide +kernel : ∀ t : Fin grid0.N, _)

/-- Where window 2's block lies at a grid point. -/
theorem idx2 : ∀ t : Fin cfg0.N, 4 ≤ t.val % 8 → t.val % 8 < 8 → win0_2.index t 0 = (t.val / 8) / 2 ∧ win0_2.index t 1 = (t.val % 8 - 4) :=
  (by decide +kernel : ∀ t : Fin grid0.N, _)

/-- Where window 3's block lies at a grid point. -/
theorem idx3 : ∀ t : Fin cfg0.N, 4 ≤ t.val % 8 → t.val % 8 < 8 → win0_3.index t 0 = (t.val % 8 - 4) ∧ win0_3.index t 1 = (t.val / 8) % 2 :=
  (by decide +kernel : ∀ t : Fin grid0.N, _)

/-- Where window 4's block lies at a grid point. -/
theorem idx4 : ∀ t : Fin cfg0.N, win0_4.index t 0 = (t.val / 8) / 2 ∧ win0_4.index t 1 = (t.val / 8) % 2 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 5632]⟩ : Shape).Idx → EReal := m ((c : Thread nD τ).loc main_arg0)

/-- Window 0's block at a grid point. -/
def bk0 : FVec Ideal S1024x1408 .bf16 := iblk m c 0 t

theorem blk0 (x : S1024x1408.Idx) (hlo : 0 ≤ t.val % 8) (hhi : t.val % 8 < 4) :
    bk0 m c t x = rd (arg0 m c) ((t.val / 8) / 2 * 1024 + (x 0).val) ((t.val % 8 - 0) * 1408 + (x 1).val) :=
  rd_blk (arg0 m c) ((win0_0.rect t).idx x) (win0_0.index t) 1024 1408 rfl rfl (idx0 t hlo hhi) (by omega) (by omega)

/-- Argument 2 as a matrix. -/
abbrev arg2 : (⟨2, ![5632, 2048]⟩ : Shape).Idx → EReal := m ((c : Thread nD τ).loc main_arg2)

/-- Window 1's block at a grid point. -/
def bk1 : FVec Ideal S1408x1024 .bf16 := iblk m c 1 t

theorem blk1 (x : S1408x1024.Idx) (hlo : 0 ≤ t.val % 8) (hhi : t.val % 8 < 4) :
    bk1 m c t x = rd (arg2 m c) ((t.val % 8 - 0) * 1408 + (x 0).val) ((t.val / 8) % 2 * 1024 + (x 1).val) :=
  rd_blk (arg2 m c) ((win0_1.rect t).idx x) (win0_1.index t) 1408 1024 rfl rfl (idx1 t hlo hhi) (by omega) (by omega)

/-- Argument 1 as a matrix. -/
abbrev arg1 : (⟨2, ![4096, 5632]⟩ : Shape).Idx → EReal := m ((c : Thread nD τ).loc main_arg1)

/-- Window 2's block at a grid point. -/
def bk2 : FVec Ideal S1024x1408 .bf16 := iblk m c 2 t

theorem blk2 (x : S1024x1408.Idx) (hlo : 4 ≤ t.val % 8) (hhi : t.val % 8 < 8) :
    bk2 m c t x = rd (arg1 m c) ((t.val / 8) / 2 * 1024 + (x 0).val) ((t.val % 8 - 4) * 1408 + (x 1).val) :=
  rd_blk (arg1 m c) ((win0_2.rect t).idx x) (win0_2.index t) 1024 1408 rfl rfl (idx2 t hlo hhi) (by omega) (by omega)

/-- Argument 3 as a matrix. -/
abbrev arg3 : (⟨2, ![5632, 2048]⟩ : Shape).Idx → EReal := m ((c : Thread nD τ).loc main_arg3)

/-- Window 3's block at a grid point. -/
def bk3 : FVec Ideal S1408x1024 .bf16 := iblk m c 3 t

theorem blk3 (x : S1408x1024.Idx) (hlo : 4 ≤ t.val % 8) (hhi : t.val % 8 < 8) :
    bk3 m c t x = rd (arg3 m c) ((t.val % 8 - 4) * 1408 + (x 0).val) ((t.val / 8) % 2 * 1024 + (x 1).val) :=
  rd_blk (arg3 m c) ((win0_3.rect t).idx x) (win0_3.index t) 1408 1024 rfl rfl (idx3 t hlo hhi) (by omega) (by omega)

/-! ## The result -/

/-- Term `q` of the sum at row `i` and column `j`. -/
def term (i j q : ℕ) : EReal := if q < 5632 then rd (arg0 m c) (i) q * rd (arg2 m c) q (j) else rd (arg1 m c) (i) (q - 5632) * rd (arg3 m c) (q - 5632) (j)

/-- What the sum starts from. -/
def base (m : (ℓ : Loc nD τ sig) → Buf (Elt Ideal) ℓ) (c : Dev nD) (i j : ℕ) : EReal := 0

/-- The result of the kernel. -/
def result : S4096x2048.Idx → EReal := fun y => base m c (y 0).val (y 1).val + ∑ q ∈ Finset.range 11264, term m c (y 0).val (y 1).val q

/-- The part of the sum that a grid point adds. -/
def part (x : S1024x1024.Idx) : EReal := ∑ q ∈ Finset.range 1408, term m c ((t.val / 8) / 2 * 1024 + (x 0).val) ((t.val / 8) % 2 * 1024 + (x 1).val) ((0 + (t.val % 8 - 0) * 1408) + q)

/-- It is the product of the two blocks. -/
theorem dot0 (x : S1024x1024.Idx) (hlo : 0 ≤ t.val % 8) (hhi : t.val % 8 < 4) :
    ∑ q : Fin 1408, ((bk0 m c t (ix2 (x 0) q)) * (bk1 m c t (ix2 q (x 1))) : EReal)
      = part m c t x := by
  refine sum_fin 1408 _ _ fun q => ?_
  rw [blk0 m c t _ hlo hhi, blk1 m c t _ hlo hhi]
  dsimp only
  unfold term
  have hq : q.val < 1408 := q.isLt
  rw [if_pos (show (0 + (t.val % 8 - 0) * 1408) + q.val < 5632 by omega)]
  refine congrArg₂ (· * ·) ?_ ?_ <;> refine congrArg₂ _ ?_ ?_
  all_goals first
    | (show _ + q.val = _; omega)
    | rfl

/-- The part of the sum that a grid point adds (term 1). -/
theorem dot1 (x : S1024x1024.Idx) (hlo : 4 ≤ t.val % 8) (hhi : t.val % 8 < 8) :
    ∑ q : Fin 1408, ((bk2 m c t (ix2 (x 0) q)) * (bk3 m c t (ix2 q (x 1))) : EReal)
      = ∑ q ∈ Finset.range 1408, term m c ((t.val / 8) / 2 * 1024 + (x 0).val) ((t.val / 8) % 2 * 1024 + (x 1).val) ((5632 + (t.val % 8 - 4) * 1408) + q) := by
  refine sum_fin 1408 (fun q => term m c ((t.val / 8) / 2 * 1024 + (x 0).val) ((t.val / 8) % 2 * 1024 + (x 1).val) ((5632 + (t.val % 8 - 4) * 1408) + q)) _ fun q => ?_
  rw [blk2 m c t _ hlo hhi, blk3 m c t _ hlo hhi]
  dsimp only
  unfold term
  have hq : q.val < 1408 := q.isLt
  rw [if_neg (show ¬(5632 + (t.val % 8 - 4) * 1408) + q.val < 5632 by omega)]
  refine congrArg₂ (· * ·) ?_ ?_ <;> refine congrArg₂ _ ?_ ?_
  all_goals first
    | (show _ + q.val = _; omega)
    | rfl

section

variable (i : grid0.Coords) (arg3 : Memref sig .tc .vmem S1024x1408 .bf16) (arg4 : Memref sig .tc .vmem S1408x1024 .bf16) (arg5 : Memref sig .tc .vmem S1024x1408 .bf16) (arg6 : Memref sig .tc .vmem S1408x1024 .bf16) (arg7 : Memref sig .tc .vmem S1024x1024 .f32) (harg3 : arg3.IsWhole) (harg4 : arg4.IsWhole) (harg5 : arg5.IsWhole) (harg6 : arg6.IsWhole) (harg7 : arg7.IsWhole)

/-- What the accumulator holds after a grid point of case A, entry by entry. -/
theorem case_A (hc0 : cond0_0 i) (hc1 : cond0_1 i) (hc2 : ¬cond0_2 i) (x0 : Vec Ideal S1024x1408 .bf16) (x1 : Vec Ideal S1408x1024 .bf16) (x2 : Vec Ideal S1024x1408 .bf16) (x3 : Vec Ideal S1408x1024 .bf16) (y : S1024x1024.Idx) :
    (out0_A_4 (F := Ideal) c i arg3 harg3 arg4 harg4 arg5 harg5 arg6 harg6 arg7 harg7 hc0 hc1 hc2 x0 x1 x2 x3 : S1024x1024.Idx → EReal) y = ∑ q : Fin 1408, ((x0 (ix2 (y 0) q)) * (x1 (ix2 q (y 1))) : EReal) := by
  unfold out0_A_4
  rw [View.read_writes_eq_canon]
  swap
  · exact fun _ => cover0_A_4 ..
  unfold kernelRun0_A
  dsimp only
  sl_unfold_words
  first | rw [View.canon_cons_unit_zero (S := S1024x1024) hz] | rw [View.canon_unit_zero hz]
  try simp only [View.readCov_unit_zero (S := S1024x1024) _ hz]
  try unfold k0_pay3
  try unfold k0_pay2
  try unfold k0_pay1
  simp (discharger := assumption) only [View.readAt_eq_ld, Memref.IsWhole.read_unread, View.ld_unit_zero (S := S1024x1408) hz, View.ld_unit_zero (S := S1408x1024) hz, View.ld_unit_zero (S := S1024x1024) hz, shapeCast_self]
  pointwise

/-- What the accumulator holds after a grid point of case B, entry by entry. -/
theorem case_B (hc0 : ¬cond0_0 i) (hc1 : cond0_1 i) (hc2 : ¬cond0_2 i) (x0 : Vec Ideal S1024x1408 .bf16) (x1 : Vec Ideal S1408x1024 .bf16) (x2 : Vec Ideal S1024x1408 .bf16) (x3 : Vec Ideal S1408x1024 .bf16) (xo4 : Vec Ideal S1024x1024 .f32) (y : S1024x1024.Idx) :
    (out0_B_4 (F := Ideal) c i arg3 harg3 arg4 harg4 arg5 harg5 arg6 harg6 arg7 harg7 hc0 hc1 hc2 x0 x1 x2 x3 xo4 : S1024x1024.Idx → EReal) y = (xo4 y : EReal) + ∑ q : Fin 1408, ((x0 (ix2 (y 0) q)) * (x1 (ix2 q (y 1))) : EReal) := by
  unfold out0_B_4
  rw [View.read_writes_eq_canon]
  swap
  · exact fun _ => cover0_B_4 ..
  unfold kernelRun0_B
  dsimp only
  sl_unfold_words
  first | rw [View.canon_cons_unit_zero (S := S1024x1024) hz] | rw [View.canon_unit_zero hz]
  try simp only [View.readCov_unit_zero (S := S1024x1024) _ hz]
  try unfold k0_pay3
  try unfold k0_pay2
  try unfold k0_pay1
  simp (discharger := assumption) only [View.readAt_eq_ld, Memref.IsWhole.read_unread, View.ld_unit_zero (S := S1024x1408) hz, View.ld_unit_zero (S := S1408x1024) hz, View.ld_unit_zero (S := S1024x1024) hz, shapeCast_self]
  pointwise

/-- What the accumulator holds after a grid point of case C, entry by entry. -/
theorem case_C (hc0 : ¬cond0_0 i) (hc1 : ¬cond0_1 i) (hc2 : cond0_2 i) (x0 : Vec Ideal S1024x1408 .bf16) (x1 : Vec Ideal S1408x1024 .bf16) (x2 : Vec Ideal S1024x1408 .bf16) (x3 : Vec Ideal S1408x1024 .bf16) (xo4 : Vec Ideal S1024x1024 .f32) (y : S1024x1024.Idx) :
    (out0_C_4 (F := Ideal) c i arg3 harg3 arg4 harg4 arg5 harg5 arg6 harg6 arg7 harg7 hc0 hc1 hc2 x0 x1 x2 x3 xo4 : S1024x1024.Idx → EReal) y = (xo4 y : EReal) + ∑ q : Fin 1408, ((x2 (ix2 (y 0) q)) * (x3 (ix2 q (y 1))) : EReal) := by
  unfold out0_C_4
  rw [View.read_writes_eq_canon]
  swap
  · exact fun _ => cover0_C_4 ..
  unfold kernelRun0_C
  dsimp only
  sl_unfold_words
  first | rw [View.canon_cons_unit_zero (S := S1024x1024) hz] | rw [View.canon_unit_zero hz]
  try simp only [View.readCov_unit_zero (S := S1024x1024) _ hz]
  try unfold k0_pay3
  try unfold k0_pay2
  try unfold k0_pay1
  simp (discharger := assumption) only [View.readAt_eq_ld, Memref.IsWhole.read_unread, View.ld_unit_zero (S := S1024x1408) hz, View.ld_unit_zero (S := S1408x1024) hz, View.ld_unit_zero (S := S1024x1024) hz, shapeCast_self]
  pointwise

end

/-- The accumulator after grid point `n`. -/
def acc (n : ℕ) (h : n < cfg0.N) : S1024x1024.Idx → EReal := (outsAt0 m c n h)

/-- The first term of the sum that step `k` adds, and how many it adds. -/
def lim : ℕ → ℕ := fun k => match k with | 0 => 0 | 1 => 1408 | 2 => 2816 | 3 => 4224 | 4 => 5632 | 5 => 7040 | 6 => 8448 | 7 => 9856 | _ => 11264
def wid : ℕ → ℕ := fun k => match k with | 0 => 1408 | 1 => 1408 | 2 => 1408 | 3 => 1408 | 4 => 1408 | 5 => 1408 | 6 => 1408 | _ => 1408

theorem step_A (x : S1024x1024.Idx) (h0 : t.val % 8 = 0) (h1 : t.val % 8 ≤ 3) (h2 : ¬4 ≤ t.val % 8) :
    acc m c t.val t.isLt x = base m c ((t.val / 8) / 2 * 1024 + (x 0).val) ((t.val / 8) % 2 * 1024 + (x 1).val) + part m c t x := by
  unfold acc
  rw [outsAt0_A m c t h0 h1 h2]
  refine (case_A (y := x) ..).trans ?_
  refine Eq.trans (dot0 m c t x (by omega) (by omega)) ?_
  unfold base
  exact (zero_add _).symm

theorem step_B (x : S1024x1024.Idx) (h0 : ¬t.val % 8 = 0) (h1 : t.val % 8 ≤ 3) (h2 : ¬4 ≤ t.val % 8) :
    acc m c t.val t.isLt x = acc m c (t.val - 1) (Nat.lt_of_le_of_lt (Nat.sub_le _ _) t.isLt) x + part m c t x := by
  unfold acc
  rw [outsAt0_B m c t h0 h1 h2]
  refine (case_B (y := x) ..).trans ?_
  exact congrArg₂ (· + ·) rfl (dot0 m c t x (by omega) (by omega))

theorem step_C (x : S1024x1024.Idx) (h0 : ¬t.val % 8 = 0) (h1 : ¬t.val % 8 ≤ 3) (h2 : 4 ≤ t.val % 8) :
    acc m c t.val t.isLt x = acc m c (t.val - 1) (Nat.lt_of_le_of_lt (Nat.sub_le _ _) t.isLt) x + ∑ q ∈ Finset.range 1408, term m c ((t.val / 8) / 2 * 1024 + (x 0).val) ((t.val / 8) % 2 * 1024 + (x 1).val) ((5632 + (t.val % 8 - 4) * 1408) + q) := by
  unfold acc
  rw [outsAt0_C m c t h0 h1 h2]
  refine (case_C (y := x) ..).trans ?_
  exact congrArg₂ (· + ·) rfl (dot1 m c t x (by omega) (by omega))

/-- The accumulator after grid point `n`, entry by entry: the part of the sum up to that point's step. -/
theorem acc_eq : ∀ (n : ℕ) (h : n < cfg0.N) (x : S1024x1024.Idx),
    acc m c n h x = base m c ((n / 8) / 2 * 1024 + (x 0).val) ((n / 8) % 2 * 1024 + (x 1).val) + ∑ q ∈ Finset.range (lim (n % 8 + 1)), term m c ((n / 8) / 2 * 1024 + (x 0).val) ((n / 8) % 2 * 1024 + (x 1).val) q := by
  refine acc_run (K := 8) (acc m c) (fun r x => base m c ((r) / 2 * 1024 + (x 0).val) ((r) % 2 * 1024 + (x 1).val))
    (fun r x q => term m c ((r) / 2 * 1024 + (x 0).val) ((r) % 2 * 1024 + (x 1).val) q) lim wid rfl ?hl ?hK ?hd ?hA ?hB
  case hl =>
    intro k hk
    interval_cases k <;> rfl
  case hK => intro n; omega
  case hd => intro n hn; omega
  case hA =>
    intro n h x hn
    refine (step_A m c ⟨n, h⟩ x (by show n % 8 = 0; omega) (by show n % 8 ≤ 3; omega) (by show ¬4 ≤ n % 8; omega)).trans ?_
    dsimp only [part]
    rw [hn]
    simp only [Nat.zero_sub, Nat.zero_mul, Nat.zero_add, wid]
  case hB =>
    intro n h x hn
    have hk : (n + 1) % 8 < 8 := Nat.mod_lt _ (by decide)
    have hs : (n + 1) % 8 = 1 ∨ (n + 1) % 8 = 2 ∨ (n + 1) % 8 = 3 ∨ (n + 1) % 8 = 4 ∨ (n + 1) % 8 = 5 ∨ (n + 1) % 8 = 6 ∨ (n + 1) % 8 = 7 := by omega
    rcases hs with hs | hs | hs | hs | hs | hs | hs
    iterate 3
      · refine (step_B m c ⟨n + 1, h⟩ x (by show ¬(n + 1) % 8 = 0; omega) (by show (n + 1) % 8 ≤ 3; omega) (by show ¬4 ≤ (n + 1) % 8; omega)).trans ?_
        dsimp only [part]
        rw [hs]
        rfl
    all_goals
      refine (step_C m c ⟨n + 1, h⟩ x (by show ¬(n + 1) % 8 = 0; omega) (by show ¬(n + 1) % 8 ≤ 3; omega) (by show 4 ≤ (n + 1) % 8; omega)).trans ?_
      dsimp only
      rw [hs]
      rfl

/-- Every entry of the result is written by some grid point. -/
theorem cover (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  obtain ⟨t, ht⟩ : ∃ t : Fin cfg0.N, t.val = ((i 0).val / 1024 * 2 + (i 1).val / 1024) * 8 + 7 :=
    ⟨⟨_, (by omega : ((i 0).val / 1024 * 2 + (i 1).val / 1024) * 8 + 7 < 64)⟩, rfl⟩
  refine ⟨t, (flush0_4 t).mpr (by omega), Kit.in_whole (b := main_v0) <|
    Kit.in_blk i (win0_4.index t) 1024 1024 rfl rfl rfl rfl (idx4 t) (by omega) (by omega)⟩

/-- The kernel's array after the run. -/
theorem out_eq : (dats m 0 c).arrAt 4 cfg0.N = result m c := by
  refine (dats m 0 c).arrAt_eq_of_cover 4 _ (fun t hf => ?_) cover
  have hf := (flush0_4 t).mp hf
  rw [Value.flushed4]
  funext x
  change S1024x1024.Idx at x
  show acc m c t.val t.isLt x = _
  rw [acc_eq m c t.val t.isLt x]
  show _ = result m c ((win0_4.rect t).idx x)
  have hi := idx4 t
  have e0 : (((win0_4.rect t).idx x) 0).val = (t.val / 8) / 2 * 1024 + (x 0).val := Kit.at_off hi.1 rfl
  have e1 : (((win0_4.rect t).idx x) 1).val = (t.val / 8) % 2 * 1024 + (x 1).val := Kit.at_off hi.2 rfl
  unfold result
  rw [e0, e1, hf]
  rfl

open Cert.Reference5Ideal.Read in
/-- The reference's result, entry by entry. -/
theorem ref_at (x0 : FVec Ideal S4096x5632 .bf16) (x1 : FVec Ideal S4096x5632 .bf16) (x2 : FVec Ideal S5632x2048 .bf16) (x3 : FVec Ideal S5632x2048 .bf16) (y : S4096x2048.Idx) :
    ((val_main_v11 (F := Ideal) x0 x1 x2 x3 : FVec Ideal S4096x2048 .f32) y : EReal) = (∑ q : Fin 5632, (x0 (ix2 (y 0) q) * x2 (ix2 q (y 1)) : EReal)) + (∑ q : Fin 5632, (x1 (ix2 (y 0) q) * x3 (ix2 q (y 1)) : EReal)) := by
  unfold val_main_v11 val_main_v10 val_main_v5 val_main_v2 val_main_v0 val_main_v9 val_main_v7 val_main_v3 val_main_v1
  pointwise
  exact add_comm _ _

/-- The kernel's result in the reference's words. -/
theorem result_eq (y : S4096x2048.Idx) :
    result m c y = (∑ q : Fin 5632, ((arg0 m c) (ix2 (y 0) q) * (arg2 m c) (ix2 q (y 1)) : EReal)) + (∑ q : Fin 5632, ((arg1 m c) (ix2 (y 0) q) * (arg3 m c) (ix2 q (y 1)) : EReal)) := by
  unfold result base
  rw [zero_add]
  rw [show (11264 : ℕ) = 5632 + 5632 from rfl, Finset.sum_range_add]
  refine congrArg₂ (· + ·) ?_ ?_
  · refine (sum_fin 5632 _ _ fun q => ?_).symm
    have hq : q.val < 5632 := q.isLt
    dsimp only
    unfold term
    rw [if_pos (show q.val < 5632 by omega)]
    exact congrArg₂ (· * ·) (rd_of _ _ _ _ rfl rfl) (rd_of _ _ _ _ rfl rfl)
  · refine (sum_fin 5632 _ _ fun q => ?_).symm
    have hq : q.val < 5632 := q.isLt
    dsimp only
    unfold term
    rw [if_neg (show ¬(5632 + q.val) < 5632 by omega)]
    rw [show (5632 + q.val) - 5632 = q.val by omega]
    exact congrArg₂ (· * ·) (rd_of _ _ _ _ rfl rfl) (rd_of _ _ _ _ rfl rfl)

/-- The reference's frame: it terminates and leaves its arguments as they were. -/
theorem frame_reference : @Cert.quiescent_Reference5Ideal Cert.Reference5Ideal.Gen.facts := fun m ρ _ =>
  (θ_run Cert.Reference5Ideal.defs _ _).mono (fun r h => ⟨fun c => (h c).2,
      sem_eq_zero_of_no_sems (by decide) r.2⟩)
    (Cert.Reference5Ideal.Value.run m ρ)

/-- The kernel and the reference compute the same product over the extended reals. -/
theorem algebraic : @Cert.algebraic_Kernel5Ideal_Reference5Ideal Cert.Kernel5Ideal.Gen.facts Cert.Reference5Ideal.Gen.facts := by
  intro m g m' g' _ hargs
  refine ⟨fun c => (dats m 0 c).arrAt 4 cfg0.N, Value.run_blocks m g, ?_⟩
  refine (θ_run Cert.Reference5Ideal.defs _ _).mono (fun r h c => ?_) (Cert.Reference5Ideal.Value.run m' g')
  obtain ⟨a0, a1, a2, a3⟩ := hargs c
  obtain ⟨h0, k0, k1, k2, k3⟩ := h c
  refine ⟨h0.trans ?_, k0, k1, k2, k3⟩
  refine Eq.trans ?_ (out_eq m c).symm
  rw [a0, a1, a2, a3]
  refine (Cert.Reference5Ideal.Read.val_main_v11_eq ..).trans ?_
  funext y
  exact (ref_at _ _ _ _ y).trans (result_eq m c y).symm

end Cert.Kernel5Ideal.Own
-- ==== Proof.ProdD.lean ====
module

public import proofs.«01_k».proof.Proof.Kit
public import proofs.«01_k».proof.Proof.Gen.Kernel6Ideal.Value
public import proofs.«01_k».proof.Proof.Gen.Reference6Ideal.Read
public import proofs.«01_k».proof.Proof.ProdSum

/-!
# The product of program 6

The gradient of the normed input of the mixer through the three parts of its input product (the call `dh`).
The kernel cuts the result into 4 by 2 blocks of 1024 by 1024, and the sum into 6 steps. The reference is one product per term.
-/

@[expose] public section

noncomputable section

namespace Cert.Kernel6Ideal.Own

open Cert.Kernel6Ideal Cert.Kernel6Ideal.Gen Idealize.ShloMosaic Idealize.ShloMosaic.TcCoe Idealize.SL.Sem Cert.ProdSum

/-- Where window 0's block lies at a grid point. -/
theorem idx0 : ∀ t : Fin cfg0.N, 0 ≤ t.val % 6 → t.val % 6 < 1 → win0_0.index t 0 = (t.val / 6) / 2 ∧ win0_0.index t 1 = (t.val % 6 - 0) :=
  (by decide +kernel : ∀ t : Fin grid0.N, _)

/-- Where window 1's block lies at a grid point. -/
theorem idx1 : ∀ t : Fin cfg0.N, 0 ≤ t.val % 6 → t.val % 6 < 1 → win0_1.index t 0 = (t.val % 6 - 0) ∧ win0_1.index t 1 = (t.val / 6) % 2 :=
  (by decide +kernel : ∀ t : Fin grid0.N, _)

/-- Where window 2's block lies at a grid point. -/
theorem idx2 : ∀ t : Fin cfg0.N, 1 ≤ t.val % 6 → t.val % 6 < 3 → win0_2.index t 0 = (t.val / 6) / 2 ∧ win0_2.index t 1 = (t.val % 6 - 1) :=
  (by decide +kernel : ∀ t : Fin grid0.N, _)

/-- Where window 3's block lies at a grid point. -/
theorem idx3 : ∀ t : Fin cfg0.N, 1 ≤ t.val % 6 → t.val % 6 < 3 → win0_3.index t 0 = (t.val % 6 - 1) ∧ win0_3.index t 1 = (t.val / 6) % 2 :=
  (by decide +kernel : ∀ t : Fin grid0.N, _)

/-- Where window 4's block lies at a grid point. -/
theorem idx4 : ∀ t : Fin cfg0.N, 3 ≤ t.val % 6 → t.val % 6 < 6 → win0_4.index t 0 = (t.val / 6) / 2 ∧ win0_4.index t 1 = (t.val % 6 - 3) :=
  (by decide +kernel : ∀ t : Fin grid0.N, _)

/-- Where window 5's block lies at a grid point. -/
theorem idx5 : ∀ t : Fin cfg0.N, 3 ≤ t.val % 6 → t.val % 6 < 6 → win0_5.index t 0 = (t.val % 6 - 3) ∧ win0_5.index t 1 = (t.val / 6) % 2 :=
  (by decide +kernel : ∀ t : Fin grid0.N, _)

/-- Where window 6's block lies at a grid point. -/
theorem idx6 : ∀ t : Fin cfg0.N, win0_6.index t 0 = (t.val / 6) / 2 ∧ win0_6.index t 1 = (t.val / 6) % 2 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 128]⟩ : Shape).Idx → EReal := m ((c : Thread nD τ).loc main_arg0)

/-- Window 0's block at a grid point. -/
def bk0 : FVec Ideal S1024x128 .bf16 := iblk m c 0 t

theorem blk0 (x : S1024x128.Idx) (hlo : 0 ≤ t.val % 6) (hhi : t.val % 6 < 1) :
    bk0 m c t x = rd (arg0 m c) ((t.val / 6) / 2 * 1024 + (x 0).val) ((t.val % 6 - 0) * 128 + (x 1).val) :=
  rd_blk (arg0 m c) ((win0_0.rect t).idx x) (win0_0.index t) 1024 128 rfl rfl (idx0 t hlo hhi) (by omega) (by omega)

/-- Argument 3 as a matrix. -/
abbrev arg3 : (⟨2, ![128, 2048]⟩ : Shape).Idx → EReal := m ((c : Thread nD τ).loc main_arg3)

/-- Window 1's block at a grid point. -/
def bk1 : FVec Ideal S128x1024 .bf16 := iblk m c 1 t

theorem blk1 (x : S128x1024.Idx) (hlo : 0 ≤ t.val % 6) (hhi : t.val % 6 < 1) :
    bk1 m c t x = rd (arg3 m c) ((t.val % 6 - 0) * 128 + (x 0).val) ((t.val / 6) % 2 * 1024 + (x 1).val) :=
  rd_blk (arg3 m c) ((win0_1.rect t).idx x) (win0_1.index t) 128 1024 rfl rfl (idx1 t hlo hhi) (by omega) (by omega)

/-- Argument 1 as a matrix. -/
abbrev arg1 : (⟨2, ![4096, 4096]⟩ : Shape).Idx → EReal := m ((c : Thread nD τ).loc main_arg1)

/-- Window 2's block at a grid point. -/
def bk2 : FVec Ideal S1024x2048 .bf16 := iblk m c 2 t

theorem blk2 (x : S1024x2048.Idx) (hlo : 1 ≤ t.val % 6) (hhi : t.val % 6 < 3) :
    bk2 m c t x = rd (arg1 m c) ((t.val / 6) / 2 * 1024 + (x 0).val) ((t.val % 6 - 1) * 2048 + (x 1).val) :=
  rd_blk (arg1 m c) ((win0_2.rect t).idx x) (win0_2.index t) 1024 2048 rfl rfl (idx2 t hlo hhi) (by omega) (by omega)

/-- Argument 4 as a matrix. -/
abbrev arg4 : (⟨2, ![4096, 2048]⟩ : Shape).Idx → EReal := m ((c : Thread nD τ).loc main_arg4)

/-- Window 3's block at a grid point. -/
def bk3 : FVec Ideal S2048x1024 .bf16 := iblk m c 3 t

theorem blk3 (x : S2048x1024.Idx) (hlo : 1 ≤ t.val % 6) (hhi : t.val % 6 < 3) :
    bk3 m c t x = rd (arg4 m c) ((t.val % 6 - 1) * 2048 + (x 0).val) ((t.val / 6) % 2 * 1024 + (x 1).val) :=
  rd_blk (arg4 m c) ((win0_3.rect t).idx x) (win0_3.index t) 2048 1024 rfl rfl (idx3 t hlo hhi) (by omega) (by omega)

/-- Argument 2 as a matrix. -/
abbrev arg2 : (⟨2, ![4096, 6144]⟩ : Shape).Idx → EReal := m ((c : Thread nD τ).loc main_arg2)

/-- Window 4's block at a grid point. -/
def bk4 : FVec Ideal S1024x2048 .bf16 := iblk m c 4 t

theorem blk4 (x : S1024x2048.Idx) (hlo : 3 ≤ t.val % 6) (hhi : t.val % 6 < 6) :
    bk4 m c t x = rd (arg2 m c) ((t.val / 6) / 2 * 1024 + (x 0).val) ((t.val % 6 - 3) * 2048 + (x 1).val) :=
  rd_blk (arg2 m c) ((win0_4.rect t).idx x) (win0_4.index t) 1024 2048 rfl rfl (idx4 t hlo hhi) (by omega) (by omega)

/-- Argument 5 as a matrix. -/
abbrev arg5 : (⟨2, ![6144, 2048]⟩ : Shape).Idx → EReal := m ((c : Thread nD τ).loc main_arg5)

/-- Window 5's block at a grid point. -/
def bk5 : FVec Ideal S2048x1024 .bf16 := iblk m c 5 t

theorem blk5 (x : S2048x1024.Idx) (hlo : 3 ≤ t.val % 6) (hhi : t.val % 6 < 6) :
    bk5 m c t x = rd (arg5 m c) ((t.val % 6 - 3) * 2048 + (x 0).val) ((t.val / 6) % 2 * 1024 + (x 1).val) :=
  rd_blk (arg5 m c) ((win0_5.rect t).idx x) (win0_5.index t) 2048 1024 rfl rfl (idx5 t hlo hhi) (by omega) (by omega)

/-! ## The result -/

/-- Term `q` of the sum at row `i` and column `j`. -/
def term (i j q : ℕ) : EReal := if q < 128 then rd (arg0 m c) (i) q * rd (arg3 m c) q (j) else if q < 4224 then rd (arg1 m c) (i) (q - 128) * rd (arg4 m c) (q - 128) (j) else rd (arg2 m c) (i) (q - 4224) * rd (arg5 m c) (q - 4224) (j)

/-- What the sum starts from. -/
def base (m : (ℓ : Loc nD τ sig) → Buf (Elt Ideal) ℓ) (c : Dev nD) (i j : ℕ) : EReal := 0

/-- The result of the kernel. -/
def result : S4096x2048.Idx → EReal := fun y => base m c (y 0).val (y 1).val + ∑ q ∈ Finset.range 10368, term m c (y 0).val (y 1).val q

/-- The part of the sum that a grid point adds (term 0). -/
theorem dot0 (x : S1024x1024.Idx) (hlo : 0 ≤ t.val % 6) (hhi : t.val % 6 < 1) :
    ∑ q : Fin 128, ((bk0 m c t (ix2 (x 0) q)) * (bk1 m c t (ix2 q (x 1))) : EReal)
      = ∑ q ∈ Finset.range 128, term m c ((t.val / 6) / 2 * 1024 + (x 0).val) ((t.val / 6) % 2 * 1024 + (x 1).val) ((0 + (t.val % 6 - 0) * 128) + q) := by
  refine sum_fin 128 (fun q => term m c ((t.val / 6) / 2 * 1024 + (x 0).val) ((t.val / 6) % 2 * 1024 + (x 1).val) ((0 + (t.val % 6 - 0) * 128) + q)) _ fun q => ?_
  rw [blk0 m c t _ hlo hhi, blk1 m c t _ hlo hhi]
  dsimp only
  unfold term
  have hq : q.val < 128 := q.isLt
  rw [if_pos (show (0 + (t.val % 6 - 0) * 128) + q.val < 128 by omega)]
  refine congrArg₂ (· * ·) ?_ ?_ <;> refine congrArg₂ _ ?_ ?_
  all_goals first
    | (show _ + q.val = _; omega)
    | rfl

/-- The part of the sum that a grid point adds (term 1). -/
theorem dot1 (x : S1024x1024.Idx) (hlo : 1 ≤ t.val % 6) (hhi : t.val % 6 < 3) :
    ∑ q : Fin 2048, ((bk2 m c t (ix2 (x 0) q)) * (bk3 m c t (ix2 q (x 1))) : EReal)
      = ∑ q ∈ Finset.range 2048, term m c ((t.val / 6) / 2 * 1024 + (x 0).val) ((t.val / 6) % 2 * 1024 + (x 1).val) ((128 + (t.val % 6 - 1) * 2048) + q) := by
  refine sum_fin 2048 (fun q => term m c ((t.val / 6) / 2 * 1024 + (x 0).val) ((t.val / 6) % 2 * 1024 + (x 1).val) ((128 + (t.val % 6 - 1) * 2048) + q)) _ fun q => ?_
  rw [blk2 m c t _ hlo hhi, blk3 m c t _ hlo hhi]
  dsimp only
  unfold term
  have hq : q.val < 2048 := q.isLt
  rw [if_neg (show ¬(128 + (t.val % 6 - 1) * 2048) + q.val < 128 by omega)]
  rw [if_pos (show (128 + (t.val % 6 - 1) * 2048) + q.val < 4224 by omega)]
  refine congrArg₂ (· * ·) ?_ ?_ <;> refine congrArg₂ _ ?_ ?_
  all_goals first
    | (show _ + q.val = _; omega)
    | rfl

/-- The part of the sum that a grid point adds (term 2). -/
theorem dot2 (x : S1024x1024.Idx) (hlo : 3 ≤ t.val % 6) (hhi : t.val % 6 < 6) :
    ∑ q : Fin 2048, ((bk4 m c t (ix2 (x 0) q)) * (bk5 m c t (ix2 q (x 1))) : EReal)
      = ∑ q ∈ Finset.range 2048, term m c ((t.val / 6) / 2 * 1024 + (x 0).val) ((t.val / 6) % 2 * 1024 + (x 1).val) ((4224 + (t.val % 6 - 3) * 2048) + q) := by
  refine sum_fin 2048 (fun q => term m c ((t.val / 6) / 2 * 1024 + (x 0).val) ((t.val / 6) % 2 * 1024 + (x 1).val) ((4224 + (t.val % 6 - 3) * 2048) + q)) _ fun q => ?_
  rw [blk4 m c t _ hlo hhi, blk5 m c t _ hlo hhi]
  dsimp only
  unfold term
  have hq : q.val < 2048 := q.isLt
  rw [if_neg (show ¬(4224 + (t.val % 6 - 3) * 2048) + q.val < 128 by omega)]
  rw [if_neg (show ¬(4224 + (t.val % 6 - 3) * 2048) + q.val < 4224 by omega)]
  refine congrArg₂ (· * ·) ?_ ?_ <;> refine congrArg₂ _ ?_ ?_
  all_goals first
    | (show _ + q.val = _; omega)
    | rfl

section

variable (i : grid0.Coords) (arg3 : Memref sig .tc .vmem S1024x128 .bf16) (arg4 : Memref sig .tc .vmem S128x1024 .bf16) (arg5 : Memref sig .tc .vmem S1024x2048 .bf16) (arg6 : Memref sig .tc .vmem S2048x1024 .bf16) (arg7 : Memref sig .tc .vmem S1024x2048 .bf16) (arg8 : Memref sig .tc .vmem S2048x1024 .bf16) (arg9 : Memref sig .tc .vmem S1024x1024 .f32) (harg3 : arg3.IsWhole) (harg4 : arg4.IsWhole) (harg5 : arg5.IsWhole) (harg6 : arg6.IsWhole) (harg7 : arg7.IsWhole) (harg8 : arg8.IsWhole) (harg9 : arg9.IsWhole)

/-- What the accumulator holds after a grid point of case A, entry by entry. -/
theorem case_A (hc0 : cond0_0 i) (hc1 : cond0_1 i) (hc2 : ¬cond0_2 i) (hc3 : ¬cond0_3 i) (x0 : Vec Ideal S1024x128 .bf16) (x1 : Vec Ideal S128x1024 .bf16) (x2 : Vec Ideal S1024x2048 .bf16) (x3 : Vec Ideal S2048x1024 .bf16) (x4 : Vec Ideal S1024x2048 .bf16) (x5 : Vec Ideal S2048x1024 .bf16) (y : S1024x1024.Idx) :
    (out0_A_6 (F := Ideal) c i arg3 harg3 arg4 harg4 arg5 harg5 arg6 harg6 arg7 harg7 arg8 harg8 arg9 harg9 hc0 hc1 hc2 hc3 x0 x1 x2 x3 x4 x5 : S1024x1024.Idx → EReal) y = ∑ q : Fin 128, ((x0 (ix2 (y 0) q)) * (x1 (ix2 q (y 1))) : EReal) := by
  unfold out0_A_6
  rw [View.read_writes_eq_canon]
  swap
  · exact fun _ => cover0_A_6 ..
  unfold kernelRun0_A
  dsimp only
  sl_unfold_words
  first | rw [View.canon_cons_unit_zero (S := S1024x1024) hz] | rw [View.canon_unit_zero hz]
  try simp only [View.readCov_unit_zero (S := S1024x1024) _ hz]
  try unfold k0_pay4
  try unfold k0_pay3
  try unfold k0_pay2
  try unfold k0_pay1
  simp (discharger := assumption) only [View.readAt_eq_ld, Memref.IsWhole.read_unread, View.ld_unit_zero (S := S1024x128) hz, View.ld_unit_zero (S := S128x1024) hz, View.ld_unit_zero (S := S1024x2048) hz, View.ld_unit_zero (S := S2048x1024) hz, View.ld_unit_zero (S := S1024x1024) hz, shapeCast_self]
  pointwise

/-- What the accumulator holds after a grid point of case B, entry by entry. -/
theorem case_B (hc0 : ¬cond0_0 i) (hc1 : ¬cond0_1 i) (hc2 : cond0_2 i) (hc3 : ¬cond0_3 i) (x0 : Vec Ideal S1024x128 .bf16) (x1 : Vec Ideal S128x1024 .bf16) (x2 : Vec Ideal S1024x2048 .bf16) (x3 : Vec Ideal S2048x1024 .bf16) (x4 : Vec Ideal S1024x2048 .bf16) (x5 : Vec Ideal S2048x1024 .bf16) (xo6 : Vec Ideal S1024x1024 .f32) (y : S1024x1024.Idx) :
    (out0_B_6 (F := Ideal) c i arg3 harg3 arg4 harg4 arg5 harg5 arg6 harg6 arg7 harg7 arg8 harg8 arg9 harg9 hc0 hc1 hc2 hc3 x0 x1 x2 x3 x4 x5 xo6 : S1024x1024.Idx → EReal) y = (xo6 y : EReal) + ∑ q : Fin 2048, ((x2 (ix2 (y 0) q)) * (x3 (ix2 q (y 1))) : EReal) := by
  unfold out0_B_6
  rw [View.read_writes_eq_canon]
  swap
  · exact fun _ => cover0_B_6 ..
  unfold kernelRun0_B
  dsimp only
  sl_unfold_words
  first | rw [View.canon_cons_unit_zero (S := S1024x1024) hz] | rw [View.canon_unit_zero hz]
  try simp only [View.readCov_unit_zero (S := S1024x1024) _ hz]
  try unfold k0_pay4
  try unfold k0_pay3
  try unfold k0_pay2
  try unfold k0_pay1
  simp (discharger := assumption) only [View.readAt_eq_ld, Memref.IsWhole.read_unread, View.ld_unit_zero (S := S1024x128) hz, View.ld_unit_zero (S := S128x1024) hz, View.ld_unit_zero (S := S1024x2048) hz, View.ld_unit_zero (S := S2048x1024) hz, View.ld_unit_zero (S := S1024x1024) hz, shapeCast_self]
  pointwise

/-- What the accumulator holds after a grid point of case C, entry by entry. -/
theorem case_C (hc0 : ¬cond0_0 i) (hc1 : ¬cond0_1 i) (hc2 : ¬cond0_2 i) (hc3 : cond0_3 i) (x0 : Vec Ideal S1024x128 .bf16) (x1 : Vec Ideal S128x1024 .bf16) (x2 : Vec Ideal S1024x2048 .bf16) (x3 : Vec Ideal S2048x1024 .bf16) (x4 : Vec Ideal S1024x2048 .bf16) (x5 : Vec Ideal S2048x1024 .bf16) (xo6 : Vec Ideal S1024x1024 .f32) (y : S1024x1024.Idx) :
    (out0_C_6 (F := Ideal) c i arg3 harg3 arg4 harg4 arg5 harg5 arg6 harg6 arg7 harg7 arg8 harg8 arg9 harg9 hc0 hc1 hc2 hc3 x0 x1 x2 x3 x4 x5 xo6 : S1024x1024.Idx → EReal) y = (xo6 y : EReal) + ∑ q : Fin 2048, ((x4 (ix2 (y 0) q)) * (x5 (ix2 q (y 1))) : EReal) := by
  unfold out0_C_6
  rw [View.read_writes_eq_canon]
  swap
  · exact fun _ => cover0_C_6 ..
  unfold kernelRun0_C
  dsimp only
  sl_unfold_words
  first | rw [View.canon_cons_unit_zero (S := S1024x1024) hz] | rw [View.canon_unit_zero hz]
  try simp only [View.readCov_unit_zero (S := S1024x1024) _ hz]
  try unfold k0_pay4
  try unfold k0_pay3
  try unfold k0_pay2
  try unfold k0_pay1
  simp (discharger := assumption) only [View.readAt_eq_ld, Memref.IsWhole.read_unread, View.ld_unit_zero (S := S1024x128) hz, View.ld_unit_zero (S := S128x1024) hz, View.ld_unit_zero (S := S1024x2048) hz, View.ld_unit_zero (S := S2048x1024) hz, View.ld_unit_zero (S := S1024x1024) hz, shapeCast_self]
  pointwise

end

/-- The accumulator after grid point `n`. -/
def acc (n : ℕ) (h : n < cfg0.N) : S1024x1024.Idx → EReal := (outsAt0 m c n h)

/-- The first term of the sum that step `k` adds, and how many it adds. -/
def lim : ℕ → ℕ := fun k => match k with | 0 => 0 | 1 => 128 | 2 => 2176 | 3 => 4224 | 4 => 6272 | 5 => 8320 | _ => 10368
def wid : ℕ → ℕ := fun k => match k with | 0 => 128 | 1 => 2048 | 2 => 2048 | 3 => 2048 | 4 => 2048 | _ => 2048

theorem step_A (x : S1024x1024.Idx) (h0 : t.val % 6 = 0) (h1 : t.val % 6 = 0) (h2 : ¬(1 ≤ t.val % 6 ∧ t.val % 6 ≤ 2)) (h3 : ¬3 ≤ t.val % 6) :
    acc m c t.val t.isLt x = base m c ((t.val / 6) / 2 * 1024 + (x 0).val) ((t.val / 6) % 2 * 1024 + (x 1).val) + ∑ q ∈ Finset.range 128, term m c ((t.val / 6) / 2 * 1024 + (x 0).val) ((t.val / 6) % 2 * 1024 + (x 1).val) ((0 + (t.val % 6 - 0) * 128) + q) := by
  unfold acc
  rw [outsAt0_A m c t h0 h1 h2 h3]
  refine (case_A (y := x) ..).trans ?_
  refine Eq.trans (dot0 m c t x (by omega) (by omega)) ?_
  unfold base
  exact (zero_add _).symm

theorem step_B (x : S1024x1024.Idx) (h0 : ¬t.val % 6 = 0) (h1 : ¬t.val % 6 = 0) (h2 : (1 ≤ t.val % 6 ∧ t.val % 6 ≤ 2)) (h3 : ¬3 ≤ t.val % 6) :
    acc m c t.val t.isLt x = acc m c (t.val - 1) (Nat.lt_of_le_of_lt (Nat.sub_le _ _) t.isLt) x + ∑ q ∈ Finset.range 2048, term m c ((t.val / 6) / 2 * 1024 + (x 0).val) ((t.val / 6) % 2 * 1024 + (x 1).val) ((128 + (t.val % 6 - 1) * 2048) + q) := by
  unfold acc
  rw [outsAt0_B m c t h0 h1 h2 h3]
  refine (case_B (y := x) ..).trans ?_
  exact congrArg₂ (· + ·) rfl (dot1 m c t x (by omega) (by omega))

theorem step_C (x : S1024x1024.Idx) (h0 : ¬t.val % 6 = 0) (h1 : ¬t.val % 6 = 0) (h2 : ¬(1 ≤ t.val % 6 ∧ t.val % 6 ≤ 2)) (h3 : 3 ≤ t.val % 6) :
    acc m c t.val t.isLt x = acc m c (t.val - 1) (Nat.lt_of_le_of_lt (Nat.sub_le _ _) t.isLt) x + ∑ q ∈ Finset.range 2048, term m c ((t.val / 6) / 2 * 1024 + (x 0).val) ((t.val / 6) % 2 * 1024 + (x 1).val) ((4224 + (t.val % 6 - 3) * 2048) + q) := by
  unfold acc
  rw [outsAt0_C m c t h0 h1 h2 h3]
  refine (case_C (y := x) ..).trans ?_
  exact congrArg₂ (· + ·) rfl (dot2 m c t x (by omega) (by omega))

/-- The accumulator after grid point `n`, entry by entry: the part of the sum up to that point's step. -/
theorem acc_eq : ∀ (n : ℕ) (h : n < cfg0.N) (x : S1024x1024.Idx),
    acc m c n h x = base m c ((n / 6) / 2 * 1024 + (x 0).val) ((n / 6) % 2 * 1024 + (x 1).val) + ∑ q ∈ Finset.range (lim (n % 6 + 1)), term m c ((n / 6) / 2 * 1024 + (x 0).val) ((n / 6) % 2 * 1024 + (x 1).val) q := by
  refine acc_run (K := 6) (acc m c) (fun r x => base m c ((r) / 2 * 1024 + (x 0).val) ((r) % 2 * 1024 + (x 1).val))
    (fun r x q => term m c ((r) / 2 * 1024 + (x 0).val) ((r) % 2 * 1024 + (x 1).val) q) lim wid rfl ?hl ?hK ?hd ?hA ?hB
  case hl =>
    intro k hk
    interval_cases k <;> rfl
  case hK => intro n; omega
  case hd => intro n hn; omega
  case hA =>
    intro n h x hn
    refine (step_A m c ⟨n, h⟩ x (by show n % 6 = 0; omega) (by show n % 6 = 0; omega) (by show ¬(1 ≤ n % 6 ∧ n % 6 ≤ 2); omega) (by show ¬3 ≤ n % 6; omega)).trans ?_
    dsimp only
    rw [hn]
    simp only [Nat.zero_sub, Nat.zero_mul, Nat.zero_add, wid]
  case hB =>
    intro n h x hn
    have hk : (n + 1) % 6 < 6 := Nat.mod_lt _ (by decide)
    have hs : (n + 1) % 6 = 1 ∨ (n + 1) % 6 = 2 ∨ (n + 1) % 6 = 3 ∨ (n + 1) % 6 = 4 ∨ (n + 1) % 6 = 5 := by omega
    rcases hs with hs | hs | hs | hs | hs
    · refine (step_B m c ⟨n + 1, h⟩ x (by show ¬(n + 1) % 6 = 0; omega) (by show ¬(n + 1) % 6 = 0; omega) (by show (1 ≤ (n + 1) % 6 ∧ (n + 1) % 6 ≤ 2); omega) (by show ¬3 ≤ (n + 1) % 6; omega)).trans ?_
      dsimp only
      rw [hs]
      rfl
    · refine (step_B m c ⟨n + 1, h⟩ x (by show ¬(n + 1) % 6 = 0; omega) (by show ¬(n + 1) % 6 = 0; omega) (by show (1 ≤ (n + 1) % 6 ∧ (n + 1) % 6 ≤ 2); omega) (by show ¬3 ≤ (n + 1) % 6; omega)).trans ?_
      dsimp only
      rw [hs]
      rfl
    · refine (step_C m c ⟨n + 1, h⟩ x (by show ¬(n + 1) % 6 = 0; omega) (by show ¬(n + 1) % 6 = 0; omega) (by show ¬(1 ≤ (n + 1) % 6 ∧ (n + 1) % 6 ≤ 2); omega) (by show 3 ≤ (n + 1) % 6; omega)).trans ?_
      dsimp only
      rw [hs]
      rfl
    · refine (step_C m c ⟨n + 1, h⟩ x (by show ¬(n + 1) % 6 = 0; omega) (by show ¬(n + 1) % 6 = 0; omega) (by show ¬(1 ≤ (n + 1) % 6 ∧ (n + 1) % 6 ≤ 2); omega) (by show 3 ≤ (n + 1) % 6; omega)).trans ?_
      dsimp only
      rw [hs]
      rfl
    · refine (step_C m c ⟨n + 1, h⟩ x (by show ¬(n + 1) % 6 = 0; omega) (by show ¬(n + 1) % 6 = 0; omega) (by show ¬(1 ≤ (n + 1) % 6 ∧ (n + 1) % 6 ≤ 2); omega) (by show 3 ≤ (n + 1) % 6; omega)).trans ?_
      dsimp only
      rw [hs]
      rfl

/-- Every entry of the result is written by some grid point. -/
theorem cover (i : S4096x2048.Idx) : ∃ t : Fin cfg0.N, (cfg0.win 6).flush t = true ∧ i ∈ ((cfg0.win 6).blk t).view.set := by
  have h0 : (i 0).val < 4096 := (i 0).isLt
  have h1 : (i 1).val < 2048 := (i 1).isLt
  obtain ⟨t, ht⟩ : ∃ t : Fin cfg0.N, t.val = ((i 0).val / 1024 * 2 + (i 1).val / 1024) * 6 + 5 :=
    ⟨⟨_, (by omega : ((i 0).val / 1024 * 2 + (i 1).val / 1024) * 6 + 5 < 48)⟩, rfl⟩
  refine ⟨t, (flush0_6 t).mpr (by omega), Kit.in_whole (b := main_v0) <|
    Kit.in_blk i (win0_6.index t) 1024 1024 rfl rfl rfl rfl (idx6 t) (by omega) (by omega)⟩

/-- The kernel's array after the run. -/
theorem out_eq : (dats m 0 c).arrAt 6 cfg0.N = result m c := by
  refine (dats m 0 c).arrAt_eq_of_cover 6 _ (fun t hf => ?_) cover
  have hf := (flush0_6 t).mp hf
  rw [Value.flushed6]
  funext x
  change S1024x1024.Idx at x
  show acc m c t.val t.isLt x = _
  rw [acc_eq m c t.val t.isLt x]
  show _ = result m c ((win0_6.rect t).idx x)
  have hi := idx6 t
  have e0 : (((win0_6.rect t).idx x) 0).val = (t.val / 6) / 2 * 1024 + (x 0).val := Kit.at_off hi.1 rfl
  have e1 : (((win0_6.rect t).idx x) 1).val = (t.val / 6) % 2 * 1024 + (x 1).val := Kit.at_off hi.2 rfl
  unfold result
  rw [e0, e1, hf]
  rfl

open Cert.Reference6Ideal.Read in
/-- The reference's result, entry by entry. -/
theorem ref_at (x0 : FVec Ideal S4096x128 .bf16) (x1 : FVec Ideal S4096x4096 .bf16) (x2 : FVec Ideal S4096x6144 .bf16) (x3 : FVec Ideal S128x2048 .bf16) (x4 : FVec Ideal S4096x2048 .bf16) (x5 : FVec Ideal S6144x2048 .bf16) (y : S4096x2048.Idx) :
    ((val_main_v17 (F := Ideal) x0 x1 x2 x3 x4 x5 : FVec Ideal S4096x2048 .f32) y : EReal) = (∑ q : Fin 128, (x0 (ix2 (y 0) q) * x3 (ix2 q (y 1)) : EReal)) + (∑ q : Fin 4096, (x1 (ix2 (y 0) q) * x4 (ix2 q (y 1)) : EReal)) + (∑ q : Fin 6144, (x2 (ix2 (y 0) q) * x5 (ix2 q (y 1)) : EReal)) := by
  unfold val_main_v17 val_main_v16 val_main_v7 val_main_v3 val_main_v0 val_main_v15 val_main_v14 val_main_v9 val_main_v4 val_main_v1 val_main_v13 val_main_v11 val_main_v5 val_main_v2
  pointwise
  rw [add_comm, add_comm (∑ q : Fin 6144, _), ← add_assoc]

/-- The kernel's result in the reference's words. -/
theorem result_eq (y : S4096x2048.Idx) :
    result m c y = (∑ q : Fin 128, ((arg0 m c) (ix2 (y 0) q) * (arg3 m c) (ix2 q (y 1)) : EReal)) + (∑ q : Fin 4096, ((arg1 m c) (ix2 (y 0) q) * (arg4 m c) (ix2 q (y 1)) : EReal)) + (∑ q : Fin 6144, ((arg2 m c) (ix2 (y 0) q) * (arg5 m c) (ix2 q (y 1)) : EReal)) := by
  unfold result base
  rw [zero_add]
  rw [show (10368 : ℕ) = 128 + 4096 + 6144 from rfl, Finset.sum_range_add, Finset.sum_range_add]
  refine congrArg₂ (· + ·) (congrArg₂ (· + ·) ?_ ?_) ?_
  · refine (sum_fin 128 _ _ fun q => ?_).symm
    have hq : q.val < 128 := q.isLt
    dsimp only
    unfold term
    rw [if_pos (show q.val < 128 by omega)]
    exact congrArg₂ (· * ·) (rd_of _ _ _ _ rfl rfl) (rd_of _ _ _ _ rfl rfl)
  · refine (sum_fin 4096 _ _ fun q => ?_).symm
    have hq : q.val < 4096 := q.isLt
    dsimp only
    unfold term
    rw [if_neg (show ¬(128 + q.val) < 128 by omega)]
    rw [if_pos (show (128 + q.val) < 4224 by omega)]
    rw [show (128 + q.val) - 128 = q.val by omega]
    exact congrArg₂ (· * ·) (rd_of _ _ _ _ rfl rfl) (rd_of _ _ _ _ rfl rfl)
  · refine (sum_fin 6144 _ _ fun q => ?_).symm
    have hq : q.val < 6144 := q.isLt
    dsimp only
    unfold term
    rw [if_neg (show ¬(4224 + q.val) < 128 by omega)]
    rw [if_neg (show ¬(4224 + q.val) < 4224 by omega)]
    rw [show (4224 + q.val) - 4224 = q.val by omega]
    exact congrArg₂ (· * ·) (rd_of _ _ _ _ rfl rfl) (rd_of _ _ _ _ rfl rfl)

/-- The reference's frame: it terminates and leaves its arguments as they were. -/
theorem frame_reference : @Cert.quiescent_Reference6Ideal Cert.Reference6Ideal.Gen.facts := fun m ρ _ =>
  (θ_run Cert.Reference6Ideal.defs _ _).mono (fun r h => ⟨fun c => (h c).2,
      sem_eq_zero_of_no_sems (by decide) r.2⟩)
    (Cert.Reference6Ideal.Value.run m ρ)

/-- The kernel and the reference compute the same product over the extended reals. -/
theorem algebraic : @Cert.algebraic_Kernel6Ideal_Reference6Ideal Cert.Kernel6Ideal.Gen.facts Cert.Reference6Ideal.Gen.facts := by
  intro m g m' g' _ hargs
  refine ⟨fun c => (dats m 0 c).arrAt 6 cfg0.N, Value.run_blocks m g, ?_⟩
  refine (θ_run Cert.Reference6Ideal.defs _ _).mono (fun r h c => ?_) (Cert.Reference6Ideal.Value.run m' g')
  obtain ⟨a0, a1, a2, a3, a4, a5⟩ := hargs c
  obtain ⟨h0, k0, k1, k2, k3, k4, k5⟩ := h c
  refine ⟨h0.trans ?_, k0, k1, k2, k3, k4, k5⟩
  refine Eq.trans ?_ (out_eq m c).symm
  rw [a0, a1, a2, a3, a4, a5]
  refine (Cert.Reference6Ideal.Read.val_main_v17_eq ..).trans ?_
  funext y
  exact (ref_at _ _ _ _ _ _ y).trans (result_eq m c y).symm

end Cert.Kernel6Ideal.Own
-- ==== Proof.ProdE.lean ====
module

public import proofs.«01_k».proof.Proof.Kit
public import proofs.«01_k».proof.Proof.Gen.Kernel7Ideal.Frame
public import proofs.«01_k».proof.Proof.Gen.Reference7Ideal.Read
public import proofs.«01_k».proof.Proof.ProdSum

/-!
# The product of program 7

The gradient of the last part of the mixer's input weight (the call `dw_B`).
The kernel cuts the result into 6 by 1 blocks of 1024 by 2048, and the sum into 2 steps. The reference is one product.
-/

@[expose] public section

noncomputable section

namespace Cert.Kernel7Ideal.Own

open Cert.Kernel7Ideal Cert.Kernel7Ideal.Gen Idealize.ShloMosaic Idealize.ShloMosaic.TcCoe Idealize.SL.Sem Cert.ProdSum

/-- Where window 0's block lies at a grid point. -/
theorem idx0 : ∀ t : Fin cfg0.N, win0_0.index t 0 = t.val % 2 ∧ win0_0.index t 1 = (t.val / 2) :=
  (by decide +kernel : ∀ t : Fin grid0.N, _)

/-- Where window 1's block lies at a grid point. -/
theorem idx1 : ∀ t : Fin cfg0.N, win0_1.index t 0 = t.val % 2 ∧ win0_1.index t 1 = 0 :=
  (by decide +kernel : ∀ t : Fin grid0.N, _)

/-- Where window 2's block lies at a grid point. -/
theorem idx2 : ∀ t : Fin cfg0.N, win0_2.index t 0 = (t.val / 2) ∧ win0_2.index t 1 = 0 :=
  (by decide +kernel : ∀ t : Fin grid0.N, _)

/-! ## The blocks of the arguments -/

variable (m : (ℓ : Loc nD τ sig) → Buf (Elt Ideal) ℓ) (c : Dev nD) (t : Fin cfg0.N)

/-- Argument 1 as a matrix. -/
abbrev arg1 : (⟨2, ![4096, 6144]⟩ : Shape).Idx → EReal := m ((c : Thread nD τ).loc main_arg1)

/-- Window 0's block at a grid point. -/
def bk0 : FVec Ideal S2048x1024 .bf16 := iblk m c 0 t

theorem blk0 (x : S2048x1024.Idx) :
    bk0 m c t x = rd (arg1 m c) (t.val % 2 * 2048 + (x 0).val) ((t.val / 2) * 1024 + (x 1).val) :=
  rd_blk (arg1 m c) ((win0_0.rect t).idx x) (win0_0.index t) 2048 1024 rfl rfl (idx0 t) (by omega) (by omega)

/-- Argument 0 as a matrix. -/
abbrev arg0 : (⟨2, ![4096, 2048]⟩ : Shape).Idx → EReal := m ((c : Thread nD τ).loc main_arg0)

/-- Window 1's block at a grid point. -/
def bk1 : FVec Ideal S2048x2048 .bf16 := iblk m c 1 t

theorem blk1 (x : S2048x2048.Idx) :
    bk1 m c t x = rd (arg0 m c) (t.val % 2 * 2048 + (x 0).val) (0 * 2048 + (x 1).val) :=
  rd_blk (arg0 m c) ((win0_1.rect t).idx x) (win0_1.index t) 2048 2048 rfl rfl (idx1 t) (by omega) (by omega)

/-! ## The result -/

/-- Term `q` of the sum at row `i` and column `j`. -/
def term (i j q : ℕ) : EReal := rd (arg1 m c) q (i) * rd (arg0 m c) q (j)

/-- What the sum starts from. -/
def base (m : (ℓ : Loc nD τ sig) → Buf (Elt Ideal) ℓ) (c : Dev nD) (i j : ℕ) : EReal := 0

/-- The result of the kernel. -/
def result : S6144x2048.Idx → EReal := fun y => base m c (y 0).val (y 1).val + ∑ q ∈ Finset.range 4096, term m c (y 0).val (y 1).val q

/-- The part of the sum that a grid point adds. -/
def part (x : S1024x2048.Idx) : EReal := ∑ q ∈ Finset.range 2048, term m c ((t.val / 2) * 1024 + (x 0).val) (0 * 2048 + (x 1).val) ((t.val % 2) * 2048 + q)

/-- It is the product of the two blocks. -/
theorem dot0 (x : S1024x2048.Idx) :
    ∑ q : Fin 2048, ((bk0 m c t (ix2 q (x 0))) * (bk1 m c t (ix2 q (x 1))) : EReal)
      = part m c t x := by
  refine sum_fin 2048 _ _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

section

variable (i : grid0.Coords) (arg3 : Memref sig .tc .vmem S2048x1024 .bf16) (arg4 : Memref sig .tc .vmem S2048x2048 .bf16) (arg5 : Memref sig .tc .vmem S1024x2048 .bf16) (arg6 : Memref sig .tc .vmem S1024x2048 .f32) (harg3 : arg3.IsWhole) (harg4 : arg4.IsWhole) (harg5 : arg5.IsWhole) (harg6 : arg6.IsWhole)

/-- What the accumulator holds after a grid point of case A, entry by entry. -/
theorem case_A (hc0 : cond0_0 i) (hc1 : ¬cond0_1 i) (x0 : Vec Ideal S2048x1024 .bf16) (x1 : Vec Ideal S2048x2048 .bf16) (y : S1024x2048.Idx) :
    (sout0_A_0 (F := Ideal) c i arg3 harg3 arg4 harg4 arg5 harg5 arg6 harg6 hc0 hc1 x0 x1 : S1024x2048.Idx → EReal) y = ∑ q : Fin 2048, ((x0 (ix2 q (y 0))) * (x1 (ix2 q (y 1))) : EReal) := by
  unfold sout0_A_0
  rw [View.read_writes_eq_canon]
  swap
  · exact fun _ => scover0_A_0 ..
  unfold kernelRun0_A
  dsimp only
  sl_unfold_words
  first | rw [View.canon_cons_unit_zero (S := S1024x2048) hz] | rw [View.canon_unit_zero hz]
  try simp only [View.readCov_unit_zero (S := S1024x2048) _ hz]
  try unfold k0_pay3
  try unfold k0_pay2
  try unfold k0_pay1
  simp (discharger := assumption) only [View.readAt_eq_ld, Memref.IsWhole.read_unread, View.ld_unit_zero (S := S2048x1024) hz, View.ld_unit_zero (S := S2048x2048) hz, View.ld_unit_zero (S := S1024x2048) hz, shapeCast_self]
  pointwise

/-- What a grid point of case B leaves, entry by entry. -/
theorem case_B (hc0 : ¬cond0_0 i) (hc1 : cond0_1 i) (x0 : Vec Ideal S2048x1024 .bf16) (x1 : Vec Ideal S2048x2048 .bf16) (xs0 : Vec Ideal S1024x2048 .f32) :
    (∀ y : S1024x2048.Idx, (sout0_B_0 (F := Ideal) c i arg3 harg3 arg4 harg4 arg5 harg5 arg6 harg6 hc0 hc1 x0 x1 xs0 : S1024x2048.Idx → EReal) y = (xs0 y : EReal) + ∑ q : Fin 2048, ((x0 (ix2 q (y 0))) * (x1 (ix2 q (y 1))) : EReal))
    ∧ (∀ y : S1024x2048.Idx, (out0_B_2 (F := Ideal) c i arg3 harg3 arg4 harg4 arg5 harg5 arg6 harg6 hc0 hc1 x0 x1 xs0 : S1024x2048.Idx → EReal) y = (xs0 y : EReal) + ∑ q : Fin 2048, ((x0 (ix2 q (y 0))) * (x1 (ix2 q (y 1))) : EReal)) := by
  unfold sout0_B_0 out0_B_2
  refine ⟨fun y => ?_, fun y => ?_⟩
  all_goals
    rw [View.read_writes_eq_canon]
    swap
    · intro _
      first | exact scover0_B_0 .. | exact cover0_B_2 ..
    unfold kernelRun0_B
    dsimp only
    sl_unfold_words
    first | rw [View.canon_cons_unit_zero (S := S1024x2048) hz] | rw [View.canon_unit_zero hz]
    try simp only [View.readCov_unit_zero (S := S1024x2048) _ hz]
    try unfold k0_pay3
    try unfold k0_pay2
    try unfold k0_pay1
    simp (discharger := assumption) only [View.readAt_eq_ld, Memref.IsWhole.read_unread, View.ld_unit_zero (S := S2048x1024) hz, View.ld_unit_zero (S := S2048x2048) hz, View.ld_unit_zero (S := S1024x2048) hz, shapeCast_self]
    pointwise

end

/-- The accumulator after grid point `n`. -/
def acc (n : ℕ) (h : n < cfg0.N) : S1024x2048.Idx → EReal := (outsAt0 m c n h).2

/-- The first term of the sum that step `k` adds, and how many it adds. -/
def lim : ℕ → ℕ := fun k => 2048 * k
def wid : ℕ → ℕ := fun _ => 2048

theorem step_A (x : S1024x2048.Idx) (h0 : t.val % 2 = 0) (h1 : ¬t.val % 2 = 1) :
    acc m c t.val t.isLt x = base m c ((t.val / 2) * 1024 + (x 0).val) (0 * 2048 + (x 1).val) + part m c t x := by
  unfold acc
  rw [outsAt0_A m c t h0 h1]
  dsimp only
  refine (case_A (y := x) ..).trans ?_
  refine Eq.trans (dot0 m c t x) ?_
  unfold base
  exact (zero_add _).symm

theorem step_B (x : S1024x2048.Idx) (h0 : ¬t.val % 2 = 0) (h1 : t.val % 2 = 1) :
    acc m c t.val t.isLt x = acc m c (t.val - 1) (Nat.lt_of_le_of_lt (Nat.sub_le _ _) t.isLt) x + part m c t x := by
  unfold acc
  rw [outsAt0_B m c t h0 h1]
  dsimp only
  refine ((case_B ..).1 x).trans ?_
  exact congrArg₂ (· + ·) rfl (dot0 m c t x)

/-- The accumulator after grid point `n`, entry by entry: the part of the sum up to that point's step. -/
theorem acc_eq : ∀ (n : ℕ) (h : n < cfg0.N) (x : S1024x2048.Idx),
    acc m c n h x = base m c ((n / 2) * 1024 + (x 0).val) (0 * 2048 + (x 1).val) + ∑ q ∈ Finset.range (lim (n % 2 + 1)), term m c ((n / 2) * 1024 + (x 0).val) (0 * 2048 + (x 1).val) q := by
  refine acc_run (K := 2) (acc m c) (fun r x => base m c ((r) * 1024 + (x 0).val) (0 * 2048 + (x 1).val))
    (fun r x q => term m c ((r) * 1024 + (x 0).val) (0 * 2048 + (x 1).val) q) lim wid rfl ?hl ?hK ?hd ?hA ?hB
  case hl =>
    intro k hk
    unfold lim wid; omega
  case hK => intro n; omega
  case hd => intro n hn; omega
  case hA =>
    intro n h x hn
    refine (step_A m c ⟨n, h⟩ x (by show n % 2 = 0; omega) (by show ¬n % 2 = 1; omega)).trans ?_
    dsimp only [part]
    rw [hn]
    simp only [Nat.zero_mul, Nat.zero_add, wid]
  case hB =>
    intro n h x hn
    refine (step_B m c ⟨n + 1, h⟩ x (by show ¬(n + 1) % 2 = 0; omega) (by show (n + 1) % 2 = 1; omega)).trans ?_
    dsimp only [lim, wid, part]
    refine congrArg₂ (· + ·) rfl (Finset.sum_congr rfl fun q _ => ?_)
    rw [Nat.mul_comm 2048]

/-- Every entry of the result is written by some grid point. -/
theorem cover (i : S6144x2048.Idx) : ∃ t : Fin cfg0.N, (cfg0.win 2).flush t = true ∧ i ∈ ((cfg0.win 2).blk t).view.set := by
  have h0 : (i 0).val < 6144 := (i 0).isLt
  have h1 : (i 1).val < 2048 := (i 1).isLt
  obtain ⟨t, ht⟩ : ∃ t : Fin cfg0.N, t.val = ((i 0).val / 1024 * 1 + (i 1).val / 2048) * 2 + 1 :=
    ⟨⟨_, (by omega : ((i 0).val / 1024 * 1 + (i 1).val / 2048) * 2 + 1 < 12)⟩, rfl⟩
  refine ⟨t, (flush0_2 t).mpr (by omega), Kit.in_whole (b := main_v0) <|
    Kit.in_blk i (win0_2.index t) 1024 2048 rfl rfl rfl rfl (idx2 t) (by omega) (by omega)⟩

/-- The kernel's array after the run. -/
theorem out_eq : (dats m 0 c).arrAt 2 cfg0.N = result m c := by
  refine (dats m 0 c).arrAt_eq_of_cover 2 _ (fun t hf => ?_) cover
  have hf := (flush0_2 t).mp hf
  have h0 : ¬t.val % 2 = 0 := by omega
  have h1 : t.val % 2 = 1 := by omega
  have e : (dats m 0 c).flushed 2 t = (cfg0.win 2).cut (grid0.coords t) (outsAt0 m c t.val t.isLt).1 := by
    show (cfg0.win 2).cut (grid0.coords t) ((dats m 0 c).after 2 t) = _
    rw [after0_2]
  have ex : ((outsAt0 m c t.val t.isLt).1 : S1024x2048.Idx → EReal) = acc m c t.val t.isLt := by
    funext x
    unfold acc
    rw [outsAt0_B m c t h0 h1]
    dsimp only
    exact ((case_B ..).2 x).trans ((case_B ..).1 x).symm
  rw [e]
  funext x
  change S1024x2048.Idx at x
  refine (congrFun ex x).trans ?_
  rw [acc_eq m c t.val t.isLt x]
  show _ = result m c ((win0_2.rect t).idx x)
  have hi := idx2 t
  have e0 : (((win0_2.rect t).idx x) 0).val = (t.val / 2) * 1024 + (x 0).val := Kit.at_off hi.1 rfl
  have e1 : (((win0_2.rect t).idx x) 1).val = 0 * 2048 + (x 1).val := Kit.at_off hi.2 rfl
  unfold result
  rw [e0, e1, hf]
  rfl

open Cert.Reference7Ideal.Read in
/-- The reference's result, entry by entry. -/
theorem ref_at (x0 : FVec Ideal S4096x2048 .bf16) (x1 : FVec Ideal S4096x6144 .bf16) (y : S6144x2048.Idx) :
    ((val_main_v7 (F := Ideal) x0 x1 : FVec Ideal S6144x2048 .bf16) y : EReal) = (∑ q : Fin 4096, (x1 (ix2 q (y 0)) * x0 (ix2 q (y 1)) : EReal)) := by
  unfold val_main_v7 val_main_v6 val_main_v5 val_main_v4 val_main_v0 val_main_v1
  pointwise

/-- The kernel's result in the reference's words. -/
theorem result_eq (y : S6144x2048.Idx) :
    result m c y = (∑ q : Fin 4096, ((arg1 m c) (ix2 q (y 0)) * (arg0 m c) (ix2 q (y 1)) : EReal)) := by
  unfold result base
  rw [zero_add]
  refine (sum_fin 4096 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference7Ideal Cert.Reference7Ideal.Gen.facts := fun m ρ _ =>
  (θ_run Cert.Reference7Ideal.defs _ _).mono (fun r h => ⟨fun c => (h c).2,
      sem_eq_zero_of_no_sems (by decide) r.2⟩)
    (Cert.Reference7Ideal.Value.run m ρ)

/-- The kernel and the reference compute the same product over the extended reals. -/
theorem algebraic : @Cert.algebraic_Kernel7Ideal_Reference7Ideal Cert.Kernel7Ideal.Gen.facts Cert.Reference7Ideal.Gen.facts := by
  intro m g m' g' _ hargs
  refine ⟨fun c => (dats m 0 c).arrAt 2 cfg0.N, (θ_run defs _ _).mono (fun _ k c => ⟨(k.1 c).1 2, k.2 c⟩)
    (θ_run_and (run_main m g) (unchanged m g)), ?_⟩
  refine (θ_run Cert.Reference7Ideal.defs _ _).mono (fun r h c => ?_) (Cert.Reference7Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference7Ideal.Read.val_main_v7_eq ..).trans ?_
  funext y
  exact (ref_at _ _ y).trans (result_eq m c y).symm

end Cert.Kernel7Ideal.Own
-- ==== Proof.ProdF.lean ====
module

public import proofs.«01_k».proof.Proof.Kit
public import proofs.«01_k».proof.Proof.Gen.Kernel8Ideal.Frame
public import proofs.«01_k».proof.Proof.Gen.Reference8Ideal.Read
public import proofs.«01_k».proof.Proof.ProdSum

/-!
# The product of program 8

The gradient of the first part of the mixer's input weight (the call `dw_A`).
The kernel cuts the result into 4 by 1 blocks of 1024 by 2048, and the sum into 2 steps. The reference is one product.
-/

@[expose] public section

noncomputable section

namespace Cert.Kernel8Ideal.Own

open Cert.Kernel8Ideal Cert.Kernel8Ideal.Gen Idealize.ShloMosaic Idealize.ShloMosaic.TcCoe Idealize.SL.Sem Cert.ProdSum

/-- Where window 0's block lies at a grid point. -/
theorem idx0 : ∀ t : Fin cfg0.N, win0_0.index t 0 = t.val % 2 ∧ win0_0.index t 1 = (t.val / 2) :=
  (by decide +kernel : ∀ t : Fin grid0.N, _)

/-- Where window 1's block lies at a grid point. -/
theorem idx1 : ∀ t : Fin cfg0.N, win0_1.index t 0 = t.val % 2 ∧ win0_1.index t 1 = 0 :=
  (by decide +kernel : ∀ t : Fin grid0.N, _)

/-- Where window 2's block lies at a grid point. -/
theorem idx2 : ∀ t : Fin cfg0.N, win0_2.index t 0 = (t.val / 2) ∧ win0_2.index t 1 = 0 :=
  (by decide +kernel : ∀ t : Fin grid0.N, _)

/-! ## The blocks of the arguments -/

variable (m : (ℓ : Loc nD τ sig) → Buf (Elt Ideal) ℓ) (c : Dev nD) (t : Fin cfg0.N)

/-- Argument 1 as a matrix. -/
abbrev arg1 : (⟨2, ![4096, 4096]⟩ : Shape).Idx → EReal := m ((c : Thread nD τ).loc main_arg1)

/-- Window 0's block at a grid point. -/
def bk0 : FVec Ideal S2048x1024 .bf16 := iblk m c 0 t

theorem blk0 (x : S2048x1024.Idx) :
    bk0 m c t x = rd (arg1 m c) (t.val % 2 * 2048 + (x 0).val) ((t.val / 2) * 1024 + (x 1).val) :=
  rd_blk (arg1 m c) ((win0_0.rect t).idx x) (win0_0.index t) 2048 1024 rfl rfl (idx0 t) (by omega) (by omega)

/-- Argument 0 as a matrix. -/
abbrev arg0 : (⟨2, ![4096, 2048]⟩ : Shape).Idx → EReal := m ((c : Thread nD τ).loc main_arg0)

/-- Window 1's block at a grid point. -/
def bk1 : FVec Ideal S2048x2048 .bf16 := iblk m c 1 t

theorem blk1 (x : S2048x2048.Idx) :
    bk1 m c t x = rd (arg0 m c) (t.val % 2 * 2048 + (x 0).val) (0 * 2048 + (x 1).val) :=
  rd_blk (arg0 m c) ((win0_1.rect t).idx x) (win0_1.index t) 2048 2048 rfl rfl (idx1 t) (by omega) (by omega)

/-! ## The result -/

/-- Term `q` of the sum at row `i` and column `j`. -/
def term (i j q : ℕ) : EReal := rd (arg1 m c) q (i) * rd (arg0 m c) q (j)

/-- What the sum starts from. -/
def base (m : (ℓ : Loc nD τ sig) → Buf (Elt Ideal) ℓ) (c : Dev nD) (i j : ℕ) : EReal := 0

/-- The result of the kernel. -/
def result : S4096x2048.Idx → EReal := fun y => base m c (y 0).val (y 1).val + ∑ q ∈ Finset.range 4096, term m c (y 0).val (y 1).val q

/-- The part of the sum that a grid point adds. -/
def part (x : S1024x2048.Idx) : EReal := ∑ q ∈ Finset.range 2048, term m c ((t.val / 2) * 1024 + (x 0).val) (0 * 2048 + (x 1).val) ((t.val % 2) * 2048 + q)

/-- It is the product of the two blocks. -/
theorem dot0 (x : S1024x2048.Idx) :
    ∑ q : Fin 2048, ((bk0 m c t (ix2 q (x 0))) * (bk1 m c t (ix2 q (x 1))) : EReal)
      = part m c t x := by
  refine sum_fin 2048 _ _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

section

variable (i : grid0.Coords) (arg3 : Memref sig .tc .vmem S2048x1024 .bf16) (arg4 : Memref sig .tc .vmem S2048x2048 .bf16) (arg5 : Memref sig .tc .vmem S1024x2048 .bf16) (arg6 : Memref sig .tc .vmem S1024x2048 .f32) (harg3 : arg3.IsWhole) (harg4 : arg4.IsWhole) (harg5 : arg5.IsWhole) (harg6 : arg6.IsWhole)

/-- What the accumulator holds after a grid point of case A, entry by entry. -/
theorem case_A (hc0 : cond0_0 i) (hc1 : ¬cond0_1 i) (x0 : Vec Ideal S2048x1024 .bf16) (x1 : Vec Ideal S2048x2048 .bf16) (y : S1024x2048.Idx) :
    (sout0_A_0 (F := Ideal) c i arg3 harg3 arg4 harg4 arg5 harg5 arg6 harg6 hc0 hc1 x0 x1 : S1024x2048.Idx → EReal) y = ∑ q : Fin 2048, ((x0 (ix2 q (y 0))) * (x1 (ix2 q (y 1))) : EReal) := by
  unfold sout0_A_0
  rw [View.read_writes_eq_canon]
  swap
  · exact fun _ => scover0_A_0 ..
  unfold kernelRun0_A
  dsimp only
  sl_unfold_words
  first | rw [View.canon_cons_unit_zero (S := S1024x2048) hz] | rw [View.canon_unit_zero hz]
  try simp only [View.readCov_unit_zero (S := S1024x2048) _ hz]
  try unfold k0_pay3
  try unfold k0_pay2
  try unfold k0_pay1
  simp (discharger := assumption) only [View.readAt_eq_ld, Memref.IsWhole.read_unread, View.ld_unit_zero (S := S2048x1024) hz, View.ld_unit_zero (S := S2048x2048) hz, View.ld_unit_zero (S := S1024x2048) hz, shapeCast_self]
  pointwise

/-- What a grid point of case B leaves, entry by entry. -/
theorem case_B (hc0 : ¬cond0_0 i) (hc1 : cond0_1 i) (x0 : Vec Ideal S2048x1024 .bf16) (x1 : Vec Ideal S2048x2048 .bf16) (xs0 : Vec Ideal S1024x2048 .f32) :
    (∀ y : S1024x2048.Idx, (sout0_B_0 (F := Ideal) c i arg3 harg3 arg4 harg4 arg5 harg5 arg6 harg6 hc0 hc1 x0 x1 xs0 : S1024x2048.Idx → EReal) y = (xs0 y : EReal) + ∑ q : Fin 2048, ((x0 (ix2 q (y 0))) * (x1 (ix2 q (y 1))) : EReal))
    ∧ (∀ y : S1024x2048.Idx, (out0_B_2 (F := Ideal) c i arg3 harg3 arg4 harg4 arg5 harg5 arg6 harg6 hc0 hc1 x0 x1 xs0 : S1024x2048.Idx → EReal) y = (xs0 y : EReal) + ∑ q : Fin 2048, ((x0 (ix2 q (y 0))) * (x1 (ix2 q (y 1))) : EReal)) := by
  unfold sout0_B_0 out0_B_2
  refine ⟨fun y => ?_, fun y => ?_⟩
  all_goals
    rw [View.read_writes_eq_canon]
    swap
    · intro _
      first | exact scover0_B_0 .. | exact cover0_B_2 ..
    unfold kernelRun0_B
    dsimp only
    sl_unfold_words
    first | rw [View.canon_cons_unit_zero (S := S1024x2048) hz] | rw [View.canon_unit_zero hz]
    try simp only [View.readCov_unit_zero (S := S1024x2048) _ hz]
    try unfold k0_pay3
    try unfold k0_pay2
    try unfold k0_pay1
    simp (discharger := assumption) only [View.readAt_eq_ld, Memref.IsWhole.read_unread, View.ld_unit_zero (S := S2048x1024) hz, View.ld_unit_zero (S := S2048x2048) hz, View.ld_unit_zero (S := S1024x2048) hz, shapeCast_self]
    pointwise

end

/-- The accumulator after grid point `n`. -/
def acc (n : ℕ) (h : n < cfg0.N) : S1024x2048.Idx → EReal := (outsAt0 m c n h).2

/-- The first term of the sum that step `k` adds, and how many it adds. -/
def lim : ℕ → ℕ := fun k => 2048 * k
def wid : ℕ → ℕ := fun _ => 2048

theorem step_A (x : S1024x2048.Idx) (h0 : t.val % 2 = 0) (h1 : ¬t.val % 2 = 1) :
    acc m c t.val t.isLt x = base m c ((t.val / 2) * 1024 + (x 0).val) (0 * 2048 + (x 1).val) + part m c t x := by
  unfold acc
  rw [outsAt0_A m c t h0 h1]
  dsimp only
  refine (case_A (y := x) ..).trans ?_
  refine Eq.trans (dot0 m c t x) ?_
  unfold base
  exact (zero_add _).symm

theorem step_B (x : S1024x2048.Idx) (h0 : ¬t.val % 2 = 0) (h1 : t.val % 2 = 1) :
    acc m c t.val t.isLt x = acc m c (t.val - 1) (Nat.lt_of_le_of_lt (Nat.sub_le _ _) t.isLt) x + part m c t x := by
  unfold acc
  rw [outsAt0_B m c t h0 h1]
  dsimp only
  refine ((case_B ..).1 x).trans ?_
  exact congrArg₂ (· + ·) rfl (dot0 m c t x)

/-- The accumulator after grid point `n`, entry by entry: the part of the sum up to that point's step. -/
theorem acc_eq : ∀ (n : ℕ) (h : n < cfg0.N) (x : S1024x2048.Idx),
    acc m c n h x = base m c ((n / 2) * 1024 + (x 0).val) (0 * 2048 + (x 1).val) + ∑ q ∈ Finset.range (lim (n % 2 + 1)), term m c ((n / 2) * 1024 + (x 0).val) (0 * 2048 + (x 1).val) q := by
  refine acc_run (K := 2) (acc m c) (fun r x => base m c ((r) * 1024 + (x 0).val) (0 * 2048 + (x 1).val))
    (fun r x q => term m c ((r) * 1024 + (x 0).val) (0 * 2048 + (x 1).val) q) lim wid rfl ?hl ?hK ?hd ?hA ?hB
  case hl =>
    intro k hk
    unfold lim wid; omega
  case hK => intro n; omega
  case hd => intro n hn; omega
  case hA =>
    intro n h x hn
    refine (step_A m c ⟨n, h⟩ x (by show n % 2 = 0; omega) (by show ¬n % 2 = 1; omega)).trans ?_
    dsimp only [part]
    rw [hn]
    simp only [Nat.zero_mul, Nat.zero_add, wid]
  case hB =>
    intro n h x hn
    refine (step_B m c ⟨n + 1, h⟩ x (by show ¬(n + 1) % 2 = 0; omega) (by show (n + 1) % 2 = 1; omega)).trans ?_
    dsimp only [lim, wid, part]
    refine congrArg₂ (· + ·) rfl (Finset.sum_congr rfl fun q _ => ?_)
    rw [Nat.mul_comm 2048]

/-- Every entry of the result is written by some grid point. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, ht⟩ : ∃ t : Fin cfg0.N, t.val = ((i 0).val / 1024 * 1 + (i 1).val / 2048) * 2 + 1 :=
    ⟨⟨_, (by omega : ((i 0).val / 1024 * 1 + (i 1).val / 2048) * 2 + 1 < 8)⟩, rfl⟩
  refine ⟨t, (flush0_2 t).mpr (by omega), Kit.in_whole (b := main_v0) <|
    Kit.in_blk i (win0_2.index t) 1024 2048 rfl rfl rfl rfl (idx2 t) (by omega) (by omega)⟩

/-- The kernel's array after the run. -/
theorem out_eq : (dats m 0 c).arrAt 2 cfg0.N = result m c := by
  refine (dats m 0 c).arrAt_eq_of_cover 2 _ (fun t hf => ?_) cover
  have hf := (flush0_2 t).mp hf
  have h0 : ¬t.val % 2 = 0 := by omega
  have h1 : t.val % 2 = 1 := by omega
  have e : (dats m 0 c).flushed 2 t = (cfg0.win 2).cut (grid0.coords t) (outsAt0 m c t.val t.isLt).1 := by
    show (cfg0.win 2).cut (grid0.coords t) ((dats m 0 c).after 2 t) = _
    rw [after0_2]
  have ex : ((outsAt0 m c t.val t.isLt).1 : S1024x2048.Idx → EReal) = acc m c t.val t.isLt := by
    funext x
    unfold acc
    rw [outsAt0_B m c t h0 h1]
    dsimp only
    exact ((case_B ..).2 x).trans ((case_B ..).1 x).symm
  rw [e]
  funext x
  change S1024x2048.Idx at x
  refine (congrFun ex x).trans ?_
  rw [acc_eq m c t.val t.isLt x]
  show _ = result m c ((win0_2.rect t).idx x)
  have hi := idx2 t
  have e0 : (((win0_2.rect t).idx x) 0).val = (t.val / 2) * 1024 + (x 0).val := Kit.at_off hi.1 rfl
  have e1 : (((win0_2.rect t).idx x) 1).val = 0 * 2048 + (x 1).val := Kit.at_off hi.2 rfl
  unfold result
  rw [e0, e1, hf]
  rfl

open Cert.Reference8Ideal.Read in
/-- The reference's result, entry by entry. -/
theorem ref_at (x0 : FVec Ideal S4096x2048 .bf16) (x1 : FVec Ideal S4096x4096 .bf16) (y : S4096x2048.Idx) :
    ((val_main_v7 (F := Ideal) x0 x1 : FVec Ideal S4096x2048 .bf16) y : EReal) = (∑ q : Fin 4096, (x1 (ix2 q (y 0)) * x0 (ix2 q (y 1)) : EReal)) := by
  unfold val_main_v7 val_main_v6 val_main_v5 val_main_v4 val_main_v0 val_main_v1
  pointwise

/-- The kernel's result in the reference's words. -/
theorem result_eq (y : S4096x2048.Idx) :
    result m c y = (∑ q : Fin 4096, ((arg1 m c) (ix2 q (y 0)) * (arg0 m c) (ix2 q (y 1)) : EReal)) := by
  unfold result base
  rw [zero_add]
  refine (sum_fin 4096 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference8Ideal Cert.Reference8Ideal.Gen.facts := fun m ρ _ =>
  (θ_run Cert.Reference8Ideal.defs _ _).mono (fun r h => ⟨fun c => (h c).2,
      sem_eq_zero_of_no_sems (by decide) r.2⟩)
    (Cert.Reference8Ideal.Value.run m ρ)

/-- The kernel and the reference compute the same product over the extended reals. -/
theorem algebraic : @Cert.algebraic_Kernel8Ideal_Reference8Ideal Cert.Kernel8Ideal.Gen.facts Cert.Reference8Ideal.Gen.facts := by
  intro m g m' g' _ hargs
  refine ⟨fun c => (dats m 0 c).arrAt 2 cfg0.N, (θ_run defs _ _).mono (fun _ k c => ⟨(k.1 c).1 2, k.2 c⟩)
    (θ_run_and (run_main m g) (unchanged m g)), ?_⟩
  refine (θ_run Cert.Reference8Ideal.defs _ _).mono (fun r h c => ?_) (Cert.Reference8Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference8Ideal.Read.val_main_v7_eq ..).trans ?_
  funext y
  exact (ref_at _ _ y).trans (result_eq m c y).symm

end Cert.Kernel8Ideal.Own
-- ==== Proof.ProdG.lean ====
module

public import proofs.«01_k».proof.Proof.Kit
public import proofs.«01_k».proof.Proof.Gen.Kernel9Ideal.Value
public import proofs.«01_k».proof.Proof.Gen.Reference9Ideal.Read
public import proofs.«01_k».proof.Proof.ProdSum

/-!
# The product of program 9

The product of the last part of the mixer's input weight, forward (the call `projB`).
The kernel cuts the result into 4 by 6 blocks of 1024 by 1024, and the sum into 1 step. The reference is one product.
-/

@[expose] public section

noncomputable section

namespace Cert.Kernel9Ideal.Own

open Cert.Kernel9Ideal Cert.Kernel9Ideal.Gen Idealize.ShloMosaic Idealize.ShloMosaic.TcCoe Idealize.SL.Sem Cert.ProdSum

/-- Where window 0's block lies at a grid point. -/
theorem idx0 : ∀ t : Fin cfg0.N, win0_0.index t 0 = (t.val) / 6 ∧ win0_0.index t 1 = 0 :=
  (by decide +kernel : ∀ t : Fin grid0.N, _)

/-- Where window 1's block lies at a grid point. -/
theorem idx1 : ∀ t : Fin cfg0.N, win0_1.index t 0 = (t.val) % 6 ∧ win0_1.index t 1 = 0 :=
  (by decide +kernel : ∀ t : Fin grid0.N, _)

/-- Where window 2's block lies at a grid point. -/
theorem idx2 : ∀ t : Fin cfg0.N, win0_2.index t 0 = (t.val) / 6 ∧ win0_2.index t 1 = (t.val) % 6 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 2048]⟩ : Shape).Idx → EReal := m ((c : Thread nD τ).loc main_arg0)

/-- Window 0's block at a grid point. -/
def bk0 : FVec Ideal S1024x2048 .bf16 := iblk m c 0 t

theorem blk0 (x : S1024x2048.Idx) :
    bk0 m c t x = rd (arg0 m c) ((t.val) / 6 * 1024 + (x 0).val) (0 * 2048 + (x 1).val) :=
  rd_blk (arg0 m c) ((win0_0.rect t).idx x) (win0_0.index t) 1024 2048 rfl rfl (idx0 t) (by omega) (by omega)

/-- Argument 1 as a matrix. -/
abbrev arg1 : (⟨2, ![6144, 2048]⟩ : Shape).Idx → EReal := m ((c : Thread nD τ).loc main_arg1)

/-- Window 1's block at a grid point. -/
def bk1 : FVec Ideal S1024x2048 .bf16 := iblk m c 1 t

theorem blk1 (x : S1024x2048.Idx) :
    bk1 m c t x = rd (arg1 m c) ((t.val) % 6 * 1024 + (x 0).val) (0 * 2048 + (x 1).val) :=
  rd_blk (arg1 m c) ((win0_1.rect t).idx x) (win0_1.index t) 1024 2048 rfl rfl (idx1 t) (by omega) (by omega)

/-! ## The result -/

/-- Term `q` of the sum at row `i` and column `j`. -/
def term (i j q : ℕ) : EReal := rd (arg0 m c) (i) q * rd (arg1 m c) (j) q

/-- What the sum starts from. -/
def base (m : (ℓ : Loc nD τ sig) → Buf (Elt Ideal) ℓ) (c : Dev nD) (i j : ℕ) : EReal := 0

/-- The result of the kernel. -/
def result : S4096x6144.Idx → EReal := fun y => base m c (y 0).val (y 1).val + ∑ q ∈ Finset.range 2048, term m c (y 0).val (y 1).val q

/-- The part of the sum that a grid point adds. -/
theorem dot0 (x : S1024x1024.Idx) :
    ∑ q : Fin 2048, ((bk0 m c t (ix2 (x 0) q)) * (bk1 m c t (ix2 (x 1) q)) : EReal)
      = ∑ q ∈ Finset.range 2048, term m c ((t.val) / 6 * 1024 + (x 0).val) ((t.val) % 6 * 1024 + (x 1).val) (0 + q) := by
  refine sum_fin 2048 (fun q => term m c ((t.val) / 6 * 1024 + (x 0).val) ((t.val) % 6 * 1024 + (x 1).val) (0 + q)) _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

/-- What a grid point leaves, entry by entry. -/
theorem left (x0 : Vec Ideal S1024x2048 .bf16) (x1 : Vec Ideal S1024x2048 .bf16) (y : S1024x1024.Idx) :
    (out0_2 (F := Ideal) x0 x1 : S1024x1024.Idx → EReal) y = ∑ q : Fin 2048, ((x0 (ix2 (y 0) q)) * (x1 (ix2 (y 1) q)) : EReal) := by
  unfold out0_2
  rw [View.canon_unit_zero hz]
  unfold k0_pay1
  simp only [View.ld_unit_zero (S := S1024x2048) hz, shapeCast_self]
  pointwise

/-- Every entry of the result is written by some grid point. -/
theorem cover (i : S4096x6144.Idx) : ∃ t : Fin cfg0.N, (cfg0.win 2).flush t = true ∧ i ∈ ((cfg0.win 2).blk t).view.set := by
  have h0 : (i 0).val < 4096 := (i 0).isLt
  have h1 : (i 1).val < 6144 := (i 1).isLt
  obtain ⟨t, ht⟩ : ∃ t : Fin cfg0.N, t.val = ((i 0).val / 1024 * 6 + (i 1).val / 1024) :=
    ⟨⟨_, (by omega : ((i 0).val / 1024 * 6 + (i 1).val / 1024) < 24)⟩, rfl⟩
  refine ⟨t, flush0_2 t, Kit.in_whole (b := main_v0) <|
    Kit.in_blk i (win0_2.index t) 1024 1024 rfl rfl rfl rfl (idx2 t) (by omega) (by omega)⟩

/-- The kernel's array after the run. -/
theorem out_eq : (dats m 0 c).arrAt 2 cfg0.N = result m c := by
  refine (dats m 0 c).arrAt_eq_of_cover 2 _ (fun t _ => ?_) cover
  rw [Value.flushed2]
  funext x
  change S1024x1024.Idx at x
  have hi := idx2 t
  refine (left (iblk m c 0 t) (iblk m c 1 t) x).trans ?_
  show _ = result m c ((win0_2.rect t).idx x)
  have e0 : (((win0_2.rect t).idx x) 0).val = (t.val) / 6 * 1024 + (x 0).val := Kit.at_off hi.1 rfl
  have e1 : (((win0_2.rect t).idx x) 1).val = (t.val) % 6 * 1024 + (x 1).val := Kit.at_off hi.2 rfl
  unfold result base
  rw [e0, e1]
  rw [zero_add]
  refine (dot0 m c t x).trans (Finset.sum_congr rfl fun q _ => ?_)
  rw [Nat.zero_add]

open Cert.Reference9Ideal.Read in
/-- The reference's result, entry by entry. -/
theorem ref_at (x0 : FVec Ideal S4096x2048 .bf16) (x1 : FVec Ideal S6144x2048 .bf16) (y : S4096x6144.Idx) :
    ((val_main_v3 (F := Ideal) x0 x1 : FVec Ideal S4096x6144 .f32) y : EReal) = (∑ q : Fin 2048, (x0 (ix2 (y 0) q) * x1 (ix2 (y 1) q) : EReal)) := by
  unfold val_main_v3 val_main_v2 val_main_v1 val_main_v0
  pointwise

/-- The kernel's result in the reference's words. -/
theorem result_eq (y : S4096x6144.Idx) :
    result m c y = (∑ q : Fin 2048, ((arg0 m c) (ix2 (y 0) q) * (arg1 m c) (ix2 (y 1) q) : EReal)) := by
  unfold result base
  rw [zero_add]
  refine (sum_fin 2048 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference9Ideal Cert.Reference9Ideal.Gen.facts := fun m ρ _ =>
  (θ_run Cert.Reference9Ideal.defs _ _).mono (fun r h => ⟨fun c => (h c).2,
      sem_eq_zero_of_no_sems (by decide) r.2⟩)
    (Cert.Reference9Ideal.Value.run m ρ)

/-- The kernel and the reference compute the same product over the extended reals. -/
theorem algebraic : @Cert.algebraic_Kernel9Ideal_Reference9Ideal Cert.Kernel9Ideal.Gen.facts Cert.Reference9Ideal.Gen.facts := by
  intro m g m' g' _ hargs
  refine ⟨fun c => (dats m 0 c).arrAt 2 cfg0.N, Value.run_blocks m g, ?_⟩
  refine (θ_run Cert.Reference9Ideal.defs _ _).mono (fun r h c => ?_) (Cert.Reference9Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference9Ideal.Read.val_main_v3_eq ..).trans ?_
  funext y
  exact (ref_at _ _ y).trans (result_eq m c y).symm

end Cert.Kernel9Ideal.Own
-- ==== Proof.ProdH.lean ====
module

public import proofs.«01_k».proof.Proof.Kit
public import proofs.«01_k».proof.Proof.Gen.Kernel10Ideal.Value
public import proofs.«01_k».proof.Proof.Gen.Reference10Ideal.Read
public import proofs.«01_k».proof.Proof.ProdSum

/-!
# The product of program 10

The product of the first part of the mixer's input weight, forward (the call `projA`).
The kernel cuts the result into 4 by 4 blocks of 1024 by 1024, and the sum into 1 step. The reference is one product.
-/

@[expose] public section

noncomputable section

namespace Cert.Kernel10Ideal.Own

open Cert.Kernel10Ideal Cert.Kernel10Ideal.Gen Idealize.ShloMosaic Idealize.ShloMosaic.TcCoe Idealize.SL.Sem Cert.ProdSum

/-- Where window 0's block lies at a grid point. -/
theorem idx0 : ∀ t : Fin cfg0.N, win0_0.index t 0 = (t.val) / 4 ∧ win0_0.index t 1 = 0 :=
  (by decide +kernel : ∀ t : Fin grid0.N, _)

/-- Where window 1's block lies at a grid point. -/
theorem idx1 : ∀ t : Fin cfg0.N, win0_1.index t 0 = (t.val) % 4 ∧ win0_1.index t 1 = 0 :=
  (by decide +kernel : ∀ t : Fin grid0.N, _)

/-- Where window 2's block lies at a grid point. -/
theorem idx2 : ∀ t : Fin cfg0.N, win0_2.index t 0 = (t.val) / 4 ∧ win0_2.index t 1 = (t.val) % 4 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 2048]⟩ : Shape).Idx → EReal := m ((c : Thread nD τ).loc main_arg0)

/-- Window 0's block at a grid point. -/
def bk0 : FVec Ideal S1024x2048 .bf16 := iblk m c 0 t

theorem blk0 (x : S1024x2048.Idx) :
    bk0 m c t x = rd (arg0 m c) ((t.val) / 4 * 1024 + (x 0).val) (0 * 2048 + (x 1).val) :=
  rd_blk (arg0 m c) ((win0_0.rect t).idx x) (win0_0.index t) 1024 2048 rfl rfl (idx0 t) (by omega) (by omega)

/-- Argument 1 as a matrix. -/
abbrev arg1 : (⟨2, ![4096, 2048]⟩ : Shape).Idx → EReal := m ((c : Thread nD τ).loc main_arg1)

/-- Window 1's block at a grid point. -/
def bk1 : FVec Ideal S1024x2048 .bf16 := iblk m c 1 t

theorem blk1 (x : S1024x2048.Idx) :
    bk1 m c t x = rd (arg1 m c) ((t.val) % 4 * 1024 + (x 0).val) (0 * 2048 + (x 1).val) :=
  rd_blk (arg1 m c) ((win0_1.rect t).idx x) (win0_1.index t) 1024 2048 rfl rfl (idx1 t) (by omega) (by omega)

/-! ## The result -/

/-- Term `q` of the sum at row `i` and column `j`. -/
def term (i j q : ℕ) : EReal := rd (arg0 m c) (i) q * rd (arg1 m c) (j) q

/-- What the sum starts from. -/
def base (m : (ℓ : Loc nD τ sig) → Buf (Elt Ideal) ℓ) (c : Dev nD) (i j : ℕ) : EReal := 0

/-- The result of the kernel. -/
def result : S4096x4096.Idx → EReal := fun y => base m c (y 0).val (y 1).val + ∑ q ∈ Finset.range 2048, term m c (y 0).val (y 1).val q

/-- The part of the sum that a grid point adds. -/
theorem dot0 (x : S1024x1024.Idx) :
    ∑ q : Fin 2048, ((bk0 m c t (ix2 (x 0) q)) * (bk1 m c t (ix2 (x 1) q)) : EReal)
      = ∑ q ∈ Finset.range 2048, term m c ((t.val) / 4 * 1024 + (x 0).val) ((t.val) % 4 * 1024 + (x 1).val) (0 + q) := by
  refine sum_fin 2048 (fun q => term m c ((t.val) / 4 * 1024 + (x 0).val) ((t.val) % 4 * 1024 + (x 1).val) (0 + q)) _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

/-- What a grid point leaves, entry by entry. -/
theorem left (x0 : Vec Ideal S1024x2048 .bf16) (x1 : Vec Ideal S1024x2048 .bf16) (y : S1024x1024.Idx) :
    (out0_2 (F := Ideal) x0 x1 : S1024x1024.Idx → EReal) y = ∑ q : Fin 2048, ((x0 (ix2 (y 0) q)) * (x1 (ix2 (y 1) q)) : EReal) := by
  unfold out0_2
  rw [View.canon_unit_zero hz]
  unfold k0_pay1
  simp only [View.ld_unit_zero (S := S1024x2048) hz, shapeCast_self]
  pointwise

/-- Every entry of the result is written by some grid point. -/
theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  obtain ⟨t, ht⟩ : ∃ t : Fin cfg0.N, t.val = ((i 0).val / 1024 * 4 + (i 1).val / 1024) :=
    ⟨⟨_, (by omega : ((i 0).val / 1024 * 4 + (i 1).val / 1024) < 16)⟩, rfl⟩
  refine ⟨t, flush0_2 t, Kit.in_whole (b := main_v0) <|
    Kit.in_blk i (win0_2.index t) 1024 1024 rfl rfl rfl rfl (idx2 t) (by omega) (by omega)⟩

/-- The kernel's array after the run. -/
theorem out_eq : (dats m 0 c).arrAt 2 cfg0.N = result m c := by
  refine (dats m 0 c).arrAt_eq_of_cover 2 _ (fun t _ => ?_) cover
  rw [Value.flushed2]
  funext x
  change S1024x1024.Idx at x
  have hi := idx2 t
  refine (left (iblk m c 0 t) (iblk m c 1 t) x).trans ?_
  show _ = result m c ((win0_2.rect t).idx x)
  have e0 : (((win0_2.rect t).idx x) 0).val = (t.val) / 4 * 1024 + (x 0).val := Kit.at_off hi.1 rfl
  have e1 : (((win0_2.rect t).idx x) 1).val = (t.val) % 4 * 1024 + (x 1).val := Kit.at_off hi.2 rfl
  unfold result base
  rw [e0, e1]
  rw [zero_add]
  refine (dot0 m c t x).trans (Finset.sum_congr rfl fun q _ => ?_)
  rw [Nat.zero_add]

open Cert.Reference10Ideal.Read in
/-- The reference's result, entry by entry. -/
theorem ref_at (x0 : FVec Ideal S4096x2048 .bf16) (x1 : FVec Ideal S4096x2048 .bf16) (y : S4096x4096.Idx) :
    ((val_main_v3 (F := Ideal) x0 x1 : FVec Ideal S4096x4096 .f32) y : EReal) = (∑ q : Fin 2048, (x0 (ix2 (y 0) q) * x1 (ix2 (y 1) q) : EReal)) := by
  unfold val_main_v3 val_main_v2 val_main_v1 val_main_v0
  pointwise

/-- The kernel's result in the reference's words. -/
theorem result_eq (y : S4096x4096.Idx) :
    result m c y = (∑ q : Fin 2048, ((arg0 m c) (ix2 (y 0) q) * (arg1 m c) (ix2 (y 1) q) : EReal)) := by
  unfold result base
  rw [zero_add]
  refine (sum_fin 2048 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference10Ideal Cert.Reference10Ideal.Gen.facts := fun m ρ _ =>
  (θ_run Cert.Reference10Ideal.defs _ _).mono (fun r h => ⟨fun c => (h c).2,
      sem_eq_zero_of_no_sems (by decide) r.2⟩)
    (Cert.Reference10Ideal.Value.run m ρ)

/-- The kernel and the reference compute the same product over the extended reals. -/
theorem algebraic : @Cert.algebraic_Kernel10Ideal_Reference10Ideal Cert.Kernel10Ideal.Gen.facts Cert.Reference10Ideal.Gen.facts := by
  intro m g m' g' _ hargs
  refine ⟨fun c => (dats m 0 c).arrAt 2 cfg0.N, Value.run_blocks m g, ?_⟩
  refine (θ_run Cert.Reference10Ideal.defs _ _).mono (fun r h c => ?_) (Cert.Reference10Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference10Ideal.Read.val_main_v3_eq ..).trans ?_
  funext y
  exact (ref_at _ _ y).trans (result_eq m c y).symm

end Cert.Kernel10Ideal.Own
-- ==== Proof.ProdI.lean ====
module

public import proofs.«01_k».proof.Proof.Kit
public import proofs.«01_k».proof.Proof.Gen.Kernel11Ideal.Value
public import proofs.«01_k».proof.Proof.Gen.Reference11Ideal.Read
public import proofs.«01_k».proof.Proof.ProdSum

/-!
# The product of program 11

The last product of the FFN and its residual, forward (the call `ffn_down`).
The kernel cuts the result into 4 by 2 blocks of 1024 by 1024, and the sum into 4 steps. The reference is one product.
-/

@[expose] public section

noncomputable section

namespace Cert.Kernel11Ideal.Own

open Cert.Kernel11Ideal Cert.Kernel11Ideal.Gen Idealize.ShloMosaic Idealize.ShloMosaic.TcCoe Idealize.SL.Sem Cert.ProdSum

/-- Where window 0's block lies at a grid point. -/
theorem idx0 : ∀ t : Fin cfg0.N, win0_0.index t 0 = (t.val / 4) / 2 ∧ win0_0.index t 1 = t.val % 4 :=
  (by decide +kernel : ∀ t : Fin grid0.N, _)

/-- Where window 1's block lies at a grid point. -/
theorem idx1 : ∀ t : Fin cfg0.N, win0_1.index t 0 = t.val % 4 ∧ win0_1.index t 1 = (t.val / 4) % 2 :=
  (by decide +kernel : ∀ t : Fin grid0.N, _)

/-- Where window 2's block lies at a grid point. -/
theorem idx2 : ∀ t : Fin cfg0.N, win0_2.index t 0 = (t.val / 4) / 2 ∧ win0_2.index t 1 = (t.val / 4) % 2 :=
  (by decide +kernel : ∀ t : Fin grid0.N, _)

/-- Where window 3's block lies at a grid point. -/
theorem idx3 : ∀ t : Fin cfg0.N, win0_3.index t 0 = (t.val / 4) / 2 ∧ win0_3.index t 1 = (t.val / 4) % 2 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 5632]⟩ : Shape).Idx → EReal := m ((c : Thread nD τ).loc main_arg0)

/-- Window 0's block at a grid point. -/
def bk0 : FVec Ideal S1024x1408 .bf16 := iblk m c 0 t

theorem blk0 (x : S1024x1408.Idx) :
    bk0 m c t x = rd (arg0 m c) ((t.val / 4) / 2 * 1024 + (x 0).val) (t.val % 4 * 1408 + (x 1).val) :=
  rd_blk (arg0 m c) ((win0_0.rect t).idx x) (win0_0.index t) 1024 1408 rfl rfl (idx0 t) (by omega) (by omega)

/-- Argument 1 as a matrix. -/
abbrev arg1 : (⟨2, ![5632, 2048]⟩ : Shape).Idx → EReal := m ((c : Thread nD τ).loc main_arg1)

/-- Window 1's block at a grid point. -/
def bk1 : FVec Ideal S1408x1024 .bf16 := iblk m c 1 t

theorem blk1 (x : S1408x1024.Idx) :
    bk1 m c t x = rd (arg1 m c) (t.val % 4 * 1408 + (x 0).val) ((t.val / 4) % 2 * 1024 + (x 1).val) :=
  rd_blk (arg1 m c) ((win0_1.rect t).idx x) (win0_1.index t) 1408 1024 rfl rfl (idx1 t) (by omega) (by omega)

/-- Argument 2 as a matrix. -/
abbrev arg2 : (⟨2, ![4096, 2048]⟩ : Shape).Idx → EReal := m ((c : Thread nD τ).loc main_arg2)

/-- Window 2's block at a grid point. -/
def bk2 : FVec Ideal S1024x1024 .f32 := iblk m c 2 t

theorem blk2 (x : S1024x1024.Idx) :
    bk2 m c t x = rd (arg2 m c) ((t.val / 4) / 2 * 1024 + (x 0).val) ((t.val / 4) % 2 * 1024 + (x 1).val) :=
  rd_blk (arg2 m c) ((win0_2.rect t).idx x) (win0_2.index t) 1024 1024 rfl rfl (idx2 t) (by omega) (by omega)

/-! ## The result -/

/-- Term `q` of the sum at row `i` and column `j`. -/
def term (i j q : ℕ) : EReal := rd (arg0 m c) (i) q * rd (arg1 m c) q (j)

/-- What the sum starts from. -/
def base (m : (ℓ : Loc nD τ sig) → Buf (Elt Ideal) ℓ) (c : Dev nD) (i j : ℕ) : EReal := rd (arg2 m c) i j

/-- The result of the kernel. -/
def result : S4096x2048.Idx → EReal := fun y => base m c (y 0).val (y 1).val + ∑ q ∈ Finset.range 5632, term m c (y 0).val (y 1).val q

/-- The part of the sum that a grid point adds. -/
def part (x : S1024x1024.Idx) : EReal := ∑ q ∈ Finset.range 1408, term m c ((t.val / 4) / 2 * 1024 + (x 0).val) ((t.val / 4) % 2 * 1024 + (x 1).val) ((t.val % 4) * 1408 + q)

/-- It is the product of the two blocks. -/
theorem dot0 (x : S1024x1024.Idx) :
    ∑ q : Fin 1408, ((bk0 m c t (ix2 (x 0) q)) * (bk1 m c t (ix2 q (x 1))) : EReal)
      = part m c t x := by
  refine sum_fin 1408 _ _ fun q => ?_
  rw [blk0 m c t _, blk1 m c t _]
  dsimp only
  unfold term
  have hq : q.val < 1408 := q.isLt
  refine congrArg₂ (· * ·) ?_ ?_ <;> refine congrArg₂ _ ?_ ?_
  all_goals first
    | rfl
    | (simp only [ix2]; omega)
    | (show _ + q.val = _; omega)

section

variable (i : grid0.Coords) (arg3 : Memref sig .tc .vmem S1024x1408 .bf16) (arg4 : Memref sig .tc .vmem S1408x1024 .bf16) (arg5 arg6 : Memref sig .tc .vmem S1024x1024 .f32) (harg3 : arg3.IsWhole) (harg4 : arg4.IsWhole) (harg5 : arg5.IsWhole) (harg6 : arg6.IsWhole)

/-- What the accumulator holds after a grid point of case A, entry by entry. -/
theorem case_A (hc0 : cond0_0 i) (x0 : Vec Ideal S1024x1408 .bf16) (x1 : Vec Ideal S1408x1024 .bf16) (x2 : Vec Ideal S1024x1024 .f32) (y : S1024x1024.Idx) :
    (out0_A_3 (F := Ideal) c i arg3 harg3 arg4 harg4 arg5 harg5 arg6 harg6 hc0 x0 x1 x2 : S1024x1024.Idx → EReal) y = (x2 y : EReal) + ∑ q : Fin 1408, ((x0 (ix2 (y 0) q)) * (x1 (ix2 q (y 1))) : EReal) := by
  unfold out0_A_3
  rw [View.read_writes_eq_canon]
  swap
  · exact fun _ => cover0_A_3 ..
  unfold kernelRun0_A
  dsimp only
  sl_unfold_words
  first | rw [View.canon_cons_unit_zero (S := S1024x1024) hz] | rw [View.canon_unit_zero hz]
  try simp only [View.readCov_unit_zero (S := S1024x1024) _ hz]
  try unfold k0_pay1
  simp (discharger := assumption) only [View.readAt_eq_ld, Memref.IsWhole.read_unread, View.ld_unit_zero (S := S1024x1408) hz, View.ld_unit_zero (S := S1408x1024) hz, View.ld_unit_zero (S := S1024x1024) hz, shapeCast_self]
  pointwise

/-- What the accumulator holds after a grid point of case B, entry by entry. -/
theorem case_B (hc0 : ¬cond0_0 i) (x0 : Vec Ideal S1024x1408 .bf16) (x1 : Vec Ideal S1408x1024 .bf16) (x2 xo3 : Vec Ideal S1024x1024 .f32) (y : S1024x1024.Idx) :
    (out0_B_3 (F := Ideal) c i arg3 harg3 arg4 harg4 arg5 harg5 arg6 harg6 hc0 x0 x1 x2 xo3 : S1024x1024.Idx → EReal) y = (xo3 y : EReal) + ∑ q : Fin 1408, ((x0 (ix2 (y 0) q)) * (x1 (ix2 q (y 1))) : EReal) := by
  unfold out0_B_3
  rw [View.read_writes_eq_canon]
  swap
  · exact fun _ => cover0_B_3 ..
  unfold kernelRun0_B
  dsimp only
  sl_unfold_words
  first | rw [View.canon_cons_unit_zero (S := S1024x1024) hz] | rw [View.canon_unit_zero hz]
  try simp only [View.readCov_unit_zero (S := S1024x1024) _ hz]
  try unfold k0_pay1
  simp (discharger := assumption) only [View.readAt_eq_ld, Memref.IsWhole.read_unread, View.ld_unit_zero (S := S1024x1408) hz, View.ld_unit_zero (S := S1408x1024) hz, View.ld_unit_zero (S := S1024x1024) hz, shapeCast_self]
  pointwise

end

/-- The accumulator after grid point `n`. -/
def acc (n : ℕ) (h : n < cfg0.N) : S1024x1024.Idx → EReal := (outsAt0 m c n h)

/-- The first term of the sum that step `k` adds, and how many it adds. -/
def lim : ℕ → ℕ := fun k => 1408 * k
def wid : ℕ → ℕ := fun _ => 1408

theorem step_A (x : S1024x1024.Idx) (h0 : t.val % 4 = 0) :
    acc m c t.val t.isLt x = base m c ((t.val / 4) / 2 * 1024 + (x 0).val) ((t.val / 4) % 2 * 1024 + (x 1).val) + part m c t x := by
  unfold acc
  rw [outsAt0_A m c t h0]
  refine (case_A (y := x) ..).trans ?_
  refine congrArg₂ (· + ·) (blk2 m c t x) ?_
  exact dot0 m c t x

theorem step_B (x : S1024x1024.Idx) (h0 : ¬t.val % 4 = 0) :
    acc m c t.val t.isLt x = acc m c (t.val - 1) (Nat.lt_of_le_of_lt (Nat.sub_le _ _) t.isLt) x + part m c t x := by
  unfold acc
  rw [outsAt0_B m c t h0]
  refine (case_B (y := x) ..).trans ?_
  exact congrArg₂ (· + ·) rfl (dot0 m c t x)

/-- The accumulator after grid point `n`, entry by entry: the part of the sum up to that point's step. -/
theorem acc_eq : ∀ (n : ℕ) (h : n < cfg0.N) (x : S1024x1024.Idx),
    acc m c n h x = base m c ((n / 4) / 2 * 1024 + (x 0).val) ((n / 4) % 2 * 1024 + (x 1).val) + ∑ q ∈ Finset.range (lim (n % 4 + 1)), term m c ((n / 4) / 2 * 1024 + (x 0).val) ((n / 4) % 2 * 1024 + (x 1).val) q := by
  refine acc_run (K := 4) (acc m c) (fun r x => base m c ((r) / 2 * 1024 + (x 0).val) ((r) % 2 * 1024 + (x 1).val))
    (fun r x q => term m c ((r) / 2 * 1024 + (x 0).val) ((r) % 2 * 1024 + (x 1).val) q) lim wid rfl ?hl ?hK ?hd ?hA ?hB
  case hl =>
    intro k hk
    unfold lim wid; omega
  case hK => intro n; omega
  case hd => intro n hn; omega
  case hA =>
    intro n h x hn
    refine (step_A m c ⟨n, h⟩ x (by show n % 4 = 0; omega)).trans ?_
    dsimp only [part]
    rw [hn]
    simp only [Nat.zero_mul, Nat.zero_add, wid]
  case hB =>
    intro n h x hn
    refine (step_B m c ⟨n + 1, h⟩ x (by show ¬(n + 1) % 4 = 0; omega)).trans ?_
    dsimp only [lim, wid, part]
    refine congrArg₂ (· + ·) rfl (Finset.sum_congr rfl fun q _ => ?_)
    rw [Nat.mul_comm 1408]

/-- Every entry of the result is written by some grid point. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  obtain ⟨t, ht⟩ : ∃ t : Fin cfg0.N, t.val = ((i 0).val / 1024 * 2 + (i 1).val / 1024) * 4 + 3 :=
    ⟨⟨_, (by omega : ((i 0).val / 1024 * 2 + (i 1).val / 1024) * 4 + 3 < 32)⟩, rfl⟩
  refine ⟨t, (flush0_3 t).mpr (by omega), Kit.in_whole (b := main_v0) <|
    Kit.in_blk i (win0_3.index t) 1024 1024 rfl rfl rfl rfl (idx3 t) (by omega) (by omega)⟩

/-- The kernel's array after the run. -/
theorem out_eq : (dats m 0 c).arrAt 3 cfg0.N = result m c := by
  refine (dats m 0 c).arrAt_eq_of_cover 3 _ (fun t hf => ?_) cover
  have hf := (flush0_3 t).mp hf
  rw [Value.flushed3]
  funext x
  change S1024x1024.Idx at x
  show acc m c t.val t.isLt x = _
  rw [acc_eq m c t.val t.isLt x]
  show _ = result m c ((win0_3.rect t).idx x)
  have hi := idx3 t
  have e0 : (((win0_3.rect t).idx x) 0).val = (t.val / 4) / 2 * 1024 + (x 0).val := Kit.at_off hi.1 rfl
  have e1 : (((win0_3.rect t).idx x) 1).val = (t.val / 4) % 2 * 1024 + (x 1).val := Kit.at_off hi.2 rfl
  unfold result
  rw [e0, e1, hf]
  rfl

open Cert.Reference11Ideal.Read in
/-- The reference's result, entry by entry. -/
theorem ref_at (x0 : FVec Ideal S4096x5632 .bf16) (x1 : FVec Ideal S5632x2048 .bf16) (x2 : FVec Ideal S4096x2048 .f32) (y : S4096x2048.Idx) :
    ((val_main_v3 (F := Ideal) x0 x1 x2 : FVec Ideal S4096x2048 .f32) y : EReal) = (x2 y : EReal) + (∑ q : Fin 5632, (x0 (ix2 (y 0) q) * x1 (ix2 q (y 1)) : EReal)) := by
  unfold val_main_v3 val_main_v2 val_main_v1 val_main_v0
  pointwise

/-- The kernel's result in the reference's words. -/
theorem result_eq (y : S4096x2048.Idx) :
    result m c y = ((arg2 m c) y : EReal) + (∑ q : Fin 5632, ((arg0 m c) (ix2 (y 0) q) * (arg1 m c) (ix2 q (y 1)) : EReal)) := by
  unfold result base
  refine congrArg₂ (· + ·) (rd_of _ y _ _ rfl rfl).symm ?_
  refine (sum_fin 5632 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference11Ideal Cert.Reference11Ideal.Gen.facts := fun m ρ _ =>
  (θ_run Cert.Reference11Ideal.defs _ _).mono (fun r h => ⟨fun c => (h c).2,
      sem_eq_zero_of_no_sems (by decide) r.2⟩)
    (Cert.Reference11Ideal.Value.run m ρ)

/-- The kernel and the reference compute the same product over the extended reals. -/
theorem algebraic : @Cert.algebraic_Kernel11Ideal_Reference11Ideal Cert.Kernel11Ideal.Gen.facts Cert.Reference11Ideal.Gen.facts := by
  intro m g m' g' _ hargs
  refine ⟨fun c => (dats m 0 c).arrAt 3 cfg0.N, Value.run_blocks m g, ?_⟩
  refine (θ_run Cert.Reference11Ideal.defs _ _).mono (fun r h c => ?_) (Cert.Reference11Ideal.Value.run m' g')
  obtain ⟨a0, a1, a2⟩ := hargs c
  obtain ⟨h0, k0, k1, k2⟩ := h c
  refine ⟨h0.trans ?_, k0, k1, k2⟩
  refine Eq.trans ?_ (out_eq m c).symm
  rw [a0, a1, a2]
  refine (Cert.Reference11Ideal.Read.val_main_v3_eq ..).trans ?_
  funext y
  exact (ref_at _ _ _ y).trans (result_eq m c y).symm

end Cert.Kernel11Ideal.Own
-- ==== Proof.ProdJ.lean ====
module

public import proofs.«01_k».proof.Proof.Kit
public import proofs.«01_k».proof.Proof.Gen.Kernel12Ideal.Value
public import proofs.«01_k».proof.Proof.Gen.Reference12Ideal.Read
public import proofs.«01_k».proof.Proof.ProdSum

/-!
# The product of program 12

The mixer's output product and its residual, forward (the call `out_proj`).
The kernel cuts the result into 4 by 2 blocks of 1024 by 1024, and the sum into 1 step. The reference is one product.
-/

@[expose] public section

noncomputable section

namespace Cert.Kernel12Ideal.Own

open Cert.Kernel12Ideal Cert.Kernel12Ideal.Gen Idealize.ShloMosaic Idealize.ShloMosaic.TcCoe Idealize.SL.Sem Cert.ProdSum

/-- Where window 0's block lies at a grid point. -/
theorem idx0 : ∀ t : Fin cfg0.N, win0_0.index t 0 = (t.val) / 2 ∧ win0_0.index t 1 = 0 :=
  (by decide +kernel : ∀ t : Fin grid0.N, _)

/-- Where window 1's block lies at a grid point. -/
theorem idx1 : ∀ t : Fin cfg0.N, win0_1.index t 0 = 0 ∧ win0_1.index t 1 = (t.val) % 2 :=
  (by decide +kernel : ∀ t : Fin grid0.N, _)

/-- Where window 2's block lies at a grid point. -/
theorem idx2 : ∀ t : Fin cfg0.N, win0_2.index t 0 = (t.val) / 2 ∧ win0_2.index t 1 = (t.val) % 2 :=
  (by decide +kernel : ∀ t : Fin grid0.N, _)

/-- Where window 3's block lies at a grid point. -/
theorem idx3 : ∀ t : Fin cfg0.N, win0_3.index t 0 = (t.val) / 2 ∧ win0_3.index t 1 = (t.val) % 2 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 2048]⟩ : Shape).Idx → EReal := m ((c : Thread nD τ).loc main_arg0)

/-- Window 0's block at a grid point. -/
def bk0 : FVec Ideal S1024x2048 .bf16 := iblk m c 0 t

theorem blk0 (x : S1024x2048.Idx) :
    bk0 m c t x = rd (arg0 m c) ((t.val) / 2 * 1024 + (x 0).val) (0 * 2048 + (x 1).val) :=
  rd_blk (arg0 m c) ((win0_0.rect t).idx x) (win0_0.index t) 1024 2048 rfl rfl (idx0 t) (by omega) (by omega)

/-- Argument 1 as a matrix. -/
abbrev arg1 : (⟨2, ![2048, 2048]⟩ : Shape).Idx → EReal := m ((c : Thread nD τ).loc main_arg1)

/-- Window 1's block at a grid point. -/
def bk1 : FVec Ideal S2048x1024 .bf16 := iblk m c 1 t

theorem blk1 (x : S2048x1024.Idx) :
    bk1 m c t x = rd (arg1 m c) (0 * 2048 + (x 0).val) ((t.val) % 2 * 1024 + (x 1).val) :=
  rd_blk (arg1 m c) ((win0_1.rect t).idx x) (win0_1.index t) 2048 1024 rfl rfl (idx1 t) (by omega) (by omega)

/-- Argument 2 as a matrix. -/
abbrev arg2 : (⟨2, ![4096, 2048]⟩ : Shape).Idx → EReal := m ((c : Thread nD τ).loc main_arg2)

/-- Window 2's block at a grid point. -/
def bk2 : FVec Ideal S1024x1024 .f32 := iblk m c 2 t

theorem blk2 (x : S1024x1024.Idx) :
    bk2 m c t x = rd (arg2 m c) ((t.val) / 2 * 1024 + (x 0).val) ((t.val) % 2 * 1024 + (x 1).val) :=
  rd_blk (arg2 m c) ((win0_2.rect t).idx x) (win0_2.index t) 1024 1024 rfl rfl (idx2 t) (by omega) (by omega)

/-! ## The result -/

/-- Term `q` of the sum at row `i` and column `j`. -/
def term (i j q : ℕ) : EReal := rd (arg0 m c) (i) q * rd (arg1 m c) q (j)

/-- What the sum starts from. -/
def base (m : (ℓ : Loc nD τ sig) → Buf (Elt Ideal) ℓ) (c : Dev nD) (i j : ℕ) : EReal := rd (arg2 m c) i j

/-- The result of the kernel. -/
def result : S4096x2048.Idx → EReal := fun y => base m c (y 0).val (y 1).val + ∑ q ∈ Finset.range 2048, term m c (y 0).val (y 1).val q

/-- The part of the sum that a grid point adds. -/
theorem dot0 (x : S1024x1024.Idx) :
    ∑ q : Fin 2048, ((bk0 m c t (ix2 (x 0) q)) * (bk1 m c t (ix2 q (x 1))) : EReal)
      = ∑ q ∈ Finset.range 2048, term m c ((t.val) / 2 * 1024 + (x 0).val) ((t.val) % 2 * 1024 + (x 1).val) (0 + q) := by
  refine sum_fin 2048 (fun q => term m c ((t.val) / 2 * 1024 + (x 0).val) ((t.val) % 2 * 1024 + (x 1).val) (0 + q)) _ fun q => ?_
  rw [blk0 m c t _, blk1 m c t _]
  dsimp only
  unfold term
  have hq : q.val < 2048 := q.isLt
  refine congrArg₂ (· * ·) ?_ ?_ <;> refine congrArg₂ _ ?_ ?_
  all_goals first
    | rfl
    | (simp only [ix2]; omega)
    | (show _ + q.val = _; omega)

/-- What a grid point leaves, entry by entry. -/
theorem left (x0 : Vec Ideal S1024x2048 .bf16) (x1 : Vec Ideal S2048x1024 .bf16) (x2 : Vec Ideal S1024x1024 .f32) (y : S1024x1024.Idx) :
    (out0_3 (F := Ideal) x0 x1 x2 : S1024x1024.Idx → EReal) y = ((x2 y : EReal)) + ∑ q : Fin 2048, ((x0 (ix2 (y 0) q)) * (x1 (ix2 q (y 1))) : EReal) := by
  unfold out0_3
  rw [View.canon_unit_zero hz]
  unfold k0_pay1
  simp only [View.ld_unit_zero (S := S1024x2048) hz, View.ld_unit_zero (S := S2048x1024) hz, View.ld_unit_zero (S := S1024x1024) hz, shapeCast_self]
  pointwise
  exact add_comm _ _

/-- Every entry of the result is written by some grid point. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  obtain ⟨t, ht⟩ : ∃ t : Fin cfg0.N, t.val = ((i 0).val / 1024 * 2 + (i 1).val / 1024) :=
    ⟨⟨_, (by omega : ((i 0).val / 1024 * 2 + (i 1).val / 1024) < 8)⟩, rfl⟩
  refine ⟨t, flush0_3 t, Kit.in_whole (b := main_v0) <|
    Kit.in_blk i (win0_3.index t) 1024 1024 rfl rfl rfl rfl (idx3 t) (by omega) (by omega)⟩

/-- The kernel's array after the run. -/
theorem out_eq : (dats m 0 c).arrAt 3 cfg0.N = result m c := by
  refine (dats m 0 c).arrAt_eq_of_cover 3 _ (fun t _ => ?_) cover
  rw [Value.flushed3]
  funext x
  change S1024x1024.Idx at x
  have hi := idx3 t
  refine (left (iblk m c 0 t) (iblk m c 1 t) (iblk m c 2 t) x).trans ?_
  show _ = result m c ((win0_3.rect t).idx x)
  have e0 : (((win0_3.rect t).idx x) 0).val = (t.val) / 2 * 1024 + (x 0).val := Kit.at_off hi.1 rfl
  have e1 : (((win0_3.rect t).idx x) 1).val = (t.val) % 2 * 1024 + (x 1).val := Kit.at_off hi.2 rfl
  unfold result base
  rw [e0, e1]
  refine congrArg₂ (· + ·) (blk2 m c t x) ?_
  refine (dot0 m c t x).trans (Finset.sum_congr rfl fun q _ => ?_)
  rw [Nat.zero_add]

open Cert.Reference12Ideal.Read in
/-- The reference's result, entry by entry. -/
theorem ref_at (x0 : FVec Ideal S4096x2048 .bf16) (x1 : FVec Ideal S2048x2048 .bf16) (x2 : FVec Ideal S4096x2048 .f32) (y : S4096x2048.Idx) :
    ((val_main_v3 (F := Ideal) x0 x1 x2 : FVec Ideal S4096x2048 .f32) y : EReal) = (x2 y : EReal) + (∑ q : Fin 2048, (x0 (ix2 (y 0) q) * x1 (ix2 q (y 1)) : EReal)) := by
  unfold val_main_v3 val_main_v2 val_main_v1 val_main_v0
  pointwise

/-- The kernel's result in the reference's words. -/
theorem result_eq (y : S4096x2048.Idx) :
    result m c y = ((arg2 m c) y : EReal) + (∑ q : Fin 2048, ((arg0 m c) (ix2 (y 0) q) * (arg1 m c) (ix2 q (y 1)) : EReal)) := by
  unfold result base
  refine congrArg₂ (· + ·) (rd_of _ y _ _ rfl rfl).symm ?_
  refine (sum_fin 2048 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference12Ideal Cert.Reference12Ideal.Gen.facts := fun m ρ _ =>
  (θ_run Cert.Reference12Ideal.defs _ _).mono (fun r h => ⟨fun c => (h c).2,
      sem_eq_zero_of_no_sems (by decide) r.2⟩)
    (Cert.Reference12Ideal.Value.run m ρ)

/-- The kernel and the reference compute the same product over the extended reals. -/
theorem algebraic : @Cert.algebraic_Kernel12Ideal_Reference12Ideal Cert.Kernel12Ideal.Gen.facts Cert.Reference12Ideal.Gen.facts := by
  intro m g m' g' _ hargs
  refine ⟨fun c => (dats m 0 c).arrAt 3 cfg0.N, Value.run_blocks m g, ?_⟩
  refine (θ_run Cert.Reference12Ideal.defs _ _).mono (fun r h c => ?_) (Cert.Reference12Ideal.Value.run m' g')
  obtain ⟨a0, a1, a2⟩ := hargs c
  obtain ⟨h0, k0, k1, k2⟩ := h c
  refine ⟨h0.trans ?_, k0, k1, k2⟩
  refine Eq.trans ?_ (out_eq m c).symm
  rw [a0, a1, a2]
  refine (Cert.Reference12Ideal.Read.val_main_v3_eq ..).trans ?_
  funext y
  exact (ref_at _ _ _ y).trans (result_eq m c y).symm

end Cert.Kernel12Ideal.Own
-- ==== Proof.ProdK.lean ====
module

public import proofs.«01_k».proof.Proof.Kit
public import proofs.«01_k».proof.Proof.Gen.Kernel13Ideal.Value
public import proofs.«01_k».proof.Proof.Gen.Reference13Ideal.Read
public import proofs.«01_k».proof.Proof.ProdSum

/-!
# The product of program 13

The gradient of the merged branches through the output product (the call `d_merged`).
The kernel cuts the result into 4 by 2 blocks of 1024 by 1024, and the sum into 1 step. The reference is one product.
-/

@[expose] public section

noncomputable section

namespace Cert.Kernel13Ideal.Own

open Cert.Kernel13Ideal Cert.Kernel13Ideal.Gen Idealize.ShloMosaic Idealize.ShloMosaic.TcCoe Idealize.SL.Sem Cert.ProdSum

/-- Where window 0's block lies at a grid point. -/
theorem idx0 : ∀ t : Fin cfg0.N, win0_0.index t 0 = (t.val) / 2 ∧ win0_0.index t 1 = 0 :=
  (by decide +kernel : ∀ t : Fin grid0.N, _)

/-- Where window 1's block lies at a grid point. -/
theorem idx1 : ∀ t : Fin cfg0.N, win0_1.index t 0 = (t.val) % 2 ∧ win0_1.index t 1 = 0 :=
  (by decide +kernel : ∀ t : Fin grid0.N, _)

/-- Where window 2's block lies at a grid point. -/
theorem idx2 : ∀ t : Fin cfg0.N, win0_2.index t 0 = (t.val) / 2 ∧ win0_2.index t 1 = (t.val) % 2 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 2048]⟩ : Shape).Idx → EReal := m ((c : Thread nD τ).loc main_arg0)

/-- Window 0's block at a grid point. -/
def bk0 : FVec Ideal S1024x2048 .bf16 := iblk m c 0 t

theorem blk0 (x : S1024x2048.Idx) :
    bk0 m c t x = rd (arg0 m c) ((t.val) / 2 * 1024 + (x 0).val) (0 * 2048 + (x 1).val) :=
  rd_blk (arg0 m c) ((win0_0.rect t).idx x) (win0_0.index t) 1024 2048 rfl rfl (idx0 t) (by omega) (by omega)

/-- Argument 1 as a matrix. -/
abbrev arg1 : (⟨2, ![2048, 2048]⟩ : Shape).Idx → EReal := m ((c : Thread nD τ).loc main_arg1)

/-- Window 1's block at a grid point. -/
def bk1 : FVec Ideal S1024x2048 .bf16 := iblk m c 1 t

theorem blk1 (x : S1024x2048.Idx) :
    bk1 m c t x = rd (arg1 m c) ((t.val) % 2 * 1024 + (x 0).val) (0 * 2048 + (x 1).val) :=
  rd_blk (arg1 m c) ((win0_1.rect t).idx x) (win0_1.index t) 1024 2048 rfl rfl (idx1 t) (by omega) (by omega)

/-! ## The result -/

/-- Term `q` of the sum at row `i` and column `j`. -/
def term (i j q : ℕ) : EReal := rd (arg0 m c) (i) q * rd (arg1 m c) (j) q

/-- What the sum starts from. -/
def base (m : (ℓ : Loc nD τ sig) → Buf (Elt Ideal) ℓ) (c : Dev nD) (i j : ℕ) : EReal := 0

/-- The result of the kernel. -/
def result : S4096x2048.Idx → EReal := fun y => base m c (y 0).val (y 1).val + ∑ q ∈ Finset.range 2048, term m c (y 0).val (y 1).val q

/-- The part of the sum that a grid point adds. -/
theorem dot0 (x : S1024x1024.Idx) :
    ∑ q : Fin 2048, ((bk0 m c t (ix2 (x 0) q)) * (bk1 m c t (ix2 (x 1) q)) : EReal)
      = ∑ q ∈ Finset.range 2048, term m c ((t.val) / 2 * 1024 + (x 0).val) ((t.val) % 2 * 1024 + (x 1).val) (0 + q) := by
  refine sum_fin 2048 (fun q => term m c ((t.val) / 2 * 1024 + (x 0).val) ((t.val) % 2 * 1024 + (x 1).val) (0 + q)) _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

/-- What a grid point leaves, entry by entry. -/
theorem left (x0 : Vec Ideal S1024x2048 .bf16) (x1 : Vec Ideal S1024x2048 .bf16) (y : S1024x1024.Idx) :
    (out0_2 (F := Ideal) x0 x1 : S1024x1024.Idx → EReal) y = ∑ q : Fin 2048, ((x0 (ix2 (y 0) q)) * (x1 (ix2 (y 1) q)) : EReal) := by
  unfold out0_2
  rw [View.canon_unit_zero hz]
  unfold k0_pay1
  simp only [View.ld_unit_zero (S := S1024x2048) hz, shapeCast_self]
  pointwise

/-- Every entry of the result is written by some grid point. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, ht⟩ : ∃ t : Fin cfg0.N, t.val = ((i 0).val / 1024 * 2 + (i 1).val / 1024) :=
    ⟨⟨_, (by omega : ((i 0).val / 1024 * 2 + (i 1).val / 1024) < 8)⟩, rfl⟩
  refine ⟨t, flush0_2 t, Kit.in_whole (b := main_v0) <|
    Kit.in_blk i (win0_2.index t) 1024 1024 rfl rfl rfl rfl (idx2 t) (by omega) (by omega)⟩

/-- The kernel's array after the run. -/
theorem out_eq : (dats m 0 c).arrAt 2 cfg0.N = result m c := by
  refine (dats m 0 c).arrAt_eq_of_cover 2 _ (fun t _ => ?_) cover
  rw [Value.flushed2]
  funext x
  change S1024x1024.Idx at x
  have hi := idx2 t
  refine (left (iblk m c 0 t) (iblk m c 1 t) x).trans ?_
  show _ = result m c ((win0_2.rect t).idx x)
  have e0 : (((win0_2.rect t).idx x) 0).val = (t.val) / 2 * 1024 + (x 0).val := Kit.at_off hi.1 rfl
  have e1 : (((win0_2.rect t).idx x) 1).val = (t.val) % 2 * 1024 + (x 1).val := Kit.at_off hi.2 rfl
  unfold result base
  rw [e0, e1]
  rw [zero_add]
  refine (dot0 m c t x).trans (Finset.sum_congr rfl fun q _ => ?_)
  rw [Nat.zero_add]

open Cert.Reference13Ideal.Read in
/-- The reference's result, entry by entry. -/
theorem ref_at (x0 : FVec Ideal S4096x2048 .bf16) (x1 : FVec Ideal S2048x2048 .bf16) (y : S4096x2048.Idx) :
    ((val_main_v4 (F := Ideal) x0 x1 : FVec Ideal S4096x2048 .f32) y : EReal) = (∑ q : Fin 2048, (x0 (ix2 (y 0) q) * x1 (ix2 (y 1) q) : EReal)) := by
  unfold val_main_v4 val_main_v1 val_main_v0
  pointwise

/-- The kernel's result in the reference's words. -/
theorem result_eq (y : S4096x2048.Idx) :
    result m c y = (∑ q : Fin 2048, ((arg0 m c) (ix2 (y 0) q) * (arg1 m c) (ix2 (y 1) q) : EReal)) := by
  unfold result base
  rw [zero_add]
  refine (sum_fin 2048 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference13Ideal Cert.Reference13Ideal.Gen.facts := fun m ρ _ =>
  (θ_run Cert.Reference13Ideal.defs _ _).mono (fun r h => ⟨fun c => (h c).2,
      sem_eq_zero_of_no_sems (by decide) r.2⟩)
    (Cert.Reference13Ideal.Value.run m ρ)

/-- The kernel and the reference compute the same product over the extended reals. -/
theorem algebraic : @Cert.algebraic_Kernel13Ideal_Reference13Ideal Cert.Kernel13Ideal.Gen.facts Cert.Reference13Ideal.Gen.facts := by
  intro m g m' g' _ hargs
  refine ⟨fun c => (dats m 0 c).arrAt 2 cfg0.N, Value.run_blocks m g, ?_⟩
  refine (θ_run Cert.Reference13Ideal.defs _ _).mono (fun r h c => ?_) (Cert.Reference13Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference13Ideal.Read.val_main_v4_eq ..).trans ?_
  funext y
  exact (ref_at _ _ y).trans (result_eq m c y).symm

end Cert.Kernel13Ideal.Own
-- ==== Proof.ProdL.lean ====
module

public import proofs.«01_k».proof.Proof.Kit
public import proofs.«01_k».proof.Proof.Gen.Kernel14Ideal.Frame
public import proofs.«01_k».proof.Proof.Gen.Reference14Ideal.Read
public import proofs.«01_k».proof.Proof.ProdSum

/-!
# The product of program 14

The gradient of the output weight (the call `dw_out`).
The kernel cuts the result into 2 by 1 blocks of 1024 by 2048, and the sum into 2 steps. The reference is one product.
-/

@[expose] public section

noncomputable section

namespace Cert.Kernel14Ideal.Own

open Cert.Kernel14Ideal Cert.Kernel14Ideal.Gen Idealize.ShloMosaic Idealize.ShloMosaic.TcCoe Idealize.SL.Sem Cert.ProdSum

/-- Where window 0's block lies at a grid point. -/
theorem idx0 : ∀ t : Fin cfg0.N, win0_0.index t 0 = t.val % 2 ∧ win0_0.index t 1 = (t.val / 2) :=
  (by decide +kernel : ∀ t : Fin grid0.N, _)

/-- Where window 1's block lies at a grid point. -/
theorem idx1 : ∀ t : Fin cfg0.N, win0_1.index t 0 = t.val % 2 ∧ win0_1.index t 1 = 0 :=
  (by decide +kernel : ∀ t : Fin grid0.N, _)

/-- Where window 2's block lies at a grid point. -/
theorem idx2 : ∀ t : Fin cfg0.N, win0_2.index t 0 = (t.val / 2) ∧ win0_2.index t 1 = 0 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 2048]⟩ : Shape).Idx → EReal := m ((c : Thread nD τ).loc main_arg0)

/-- Window 0's block at a grid point. -/
def bk0 : FVec Ideal S2048x1024 .bf16 := iblk m c 0 t

theorem blk0 (x : S2048x1024.Idx) :
    bk0 m c t x = rd (arg0 m c) (t.val % 2 * 2048 + (x 0).val) ((t.val / 2) * 1024 + (x 1).val) :=
  rd_blk (arg0 m c) ((win0_0.rect t).idx x) (win0_0.index t) 2048 1024 rfl rfl (idx0 t) (by omega) (by omega)

/-- Argument 1 as a matrix. -/
abbrev arg1 : (⟨2, ![4096, 2048]⟩ : Shape).Idx → EReal := m ((c : Thread nD τ).loc main_arg1)

/-- Window 1's block at a grid point. -/
def bk1 : FVec Ideal S2048x2048 .bf16 := iblk m c 1 t

theorem blk1 (x : S2048x2048.Idx) :
    bk1 m c t x = rd (arg1 m c) (t.val % 2 * 2048 + (x 0).val) (0 * 2048 + (x 1).val) :=
  rd_blk (arg1 m c) ((win0_1.rect t).idx x) (win0_1.index t) 2048 2048 rfl rfl (idx1 t) (by omega) (by omega)

/-! ## The result -/

/-- Term `q` of the sum at row `i` and column `j`. -/
def term (i j q : ℕ) : EReal := rd (arg0 m c) q (i) * rd (arg1 m c) q (j)

/-- What the sum starts from. -/
def base (m : (ℓ : Loc nD τ sig) → Buf (Elt Ideal) ℓ) (c : Dev nD) (i j : ℕ) : EReal := 0

/-- The result of the kernel. -/
def result : S2048x2048.Idx → EReal := fun y => base m c (y 0).val (y 1).val + ∑ q ∈ Finset.range 4096, term m c (y 0).val (y 1).val q

/-- The part of the sum that a grid point adds. -/
def part (x : S1024x2048.Idx) : EReal := ∑ q ∈ Finset.range 2048, term m c ((t.val / 2) * 1024 + (x 0).val) (0 * 2048 + (x 1).val) ((t.val % 2) * 2048 + q)

/-- It is the product of the two blocks. -/
theorem dot0 (x : S1024x2048.Idx) :
    ∑ q : Fin 2048, ((bk0 m c t (ix2 q (x 0))) * (bk1 m c t (ix2 q (x 1))) : EReal)
      = part m c t x := by
  refine sum_fin 2048 _ _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

section

variable (i : grid0.Coords) (arg3 : Memref sig .tc .vmem S2048x1024 .bf16) (arg4 : Memref sig .tc .vmem S2048x2048 .bf16) (arg5 : Memref sig .tc .vmem S1024x2048 .bf16) (arg6 : Memref sig .tc .vmem S1024x2048 .f32) (harg3 : arg3.IsWhole) (harg4 : arg4.IsWhole) (harg5 : arg5.IsWhole) (harg6 : arg6.IsWhole)

/-- What the accumulator holds after a grid point of case A, entry by entry. -/
theorem case_A (hc0 : cond0_0 i) (hc1 : ¬cond0_1 i) (x0 : Vec Ideal S2048x1024 .bf16) (x1 : Vec Ideal S2048x2048 .bf16) (y : S1024x2048.Idx) :
    (sout0_A_0 (F := Ideal) c i arg3 harg3 arg4 harg4 arg5 harg5 arg6 harg6 hc0 hc1 x0 x1 : S1024x2048.Idx → EReal) y = ∑ q : Fin 2048, ((x0 (ix2 q (y 0))) * (x1 (ix2 q (y 1))) : EReal) := by
  unfold sout0_A_0
  rw [View.read_writes_eq_canon]
  swap
  · exact fun _ => scover0_A_0 ..
  unfold kernelRun0_A
  dsimp only
  sl_unfold_words
  first | rw [View.canon_cons_unit_zero (S := S1024x2048) hz] | rw [View.canon_unit_zero hz]
  try simp only [View.readCov_unit_zero (S := S1024x2048) _ hz]
  try unfold k0_pay3
  try unfold k0_pay2
  try unfold k0_pay1
  simp (discharger := assumption) only [View.readAt_eq_ld, Memref.IsWhole.read_unread, View.ld_unit_zero (S := S2048x1024) hz, View.ld_unit_zero (S := S2048x2048) hz, View.ld_unit_zero (S := S1024x2048) hz, shapeCast_self]
  pointwise

/-- What a grid point of case B leaves, entry by entry. -/
theorem case_B (hc0 : ¬cond0_0 i) (hc1 : cond0_1 i) (x0 : Vec Ideal S2048x1024 .bf16) (x1 : Vec Ideal S2048x2048 .bf16) (xs0 : Vec Ideal S1024x2048 .f32) :
    (∀ y : S1024x2048.Idx, (sout0_B_0 (F := Ideal) c i arg3 harg3 arg4 harg4 arg5 harg5 arg6 harg6 hc0 hc1 x0 x1 xs0 : S1024x2048.Idx → EReal) y = (xs0 y : EReal) + ∑ q : Fin 2048, ((x0 (ix2 q (y 0))) * (x1 (ix2 q (y 1))) : EReal))
    ∧ (∀ y : S1024x2048.Idx, (out0_B_2 (F := Ideal) c i arg3 harg3 arg4 harg4 arg5 harg5 arg6 harg6 hc0 hc1 x0 x1 xs0 : S1024x2048.Idx → EReal) y = (xs0 y : EReal) + ∑ q : Fin 2048, ((x0 (ix2 q (y 0))) * (x1 (ix2 q (y 1))) : EReal)) := by
  unfold sout0_B_0 out0_B_2
  refine ⟨fun y => ?_, fun y => ?_⟩
  all_goals
    rw [View.read_writes_eq_canon]
    swap
    · intro _
      first | exact scover0_B_0 .. | exact cover0_B_2 ..
    unfold kernelRun0_B
    dsimp only
    sl_unfold_words
    first | rw [View.canon_cons_unit_zero (S := S1024x2048) hz] | rw [View.canon_unit_zero hz]
    try simp only [View.readCov_unit_zero (S := S1024x2048) _ hz]
    try unfold k0_pay3
    try unfold k0_pay2
    try unfold k0_pay1
    simp (discharger := assumption) only [View.readAt_eq_ld, Memref.IsWhole.read_unread, View.ld_unit_zero (S := S2048x1024) hz, View.ld_unit_zero (S := S2048x2048) hz, View.ld_unit_zero (S := S1024x2048) hz, shapeCast_self]
    pointwise

end

/-- The accumulator after grid point `n`. -/
def acc (n : ℕ) (h : n < cfg0.N) : S1024x2048.Idx → EReal := (outsAt0 m c n h).2

/-- The first term of the sum that step `k` adds, and how many it adds. -/
def lim : ℕ → ℕ := fun k => 2048 * k
def wid : ℕ → ℕ := fun _ => 2048

theorem step_A (x : S1024x2048.Idx) (h0 : t.val % 2 = 0) (h1 : ¬t.val % 2 = 1) :
    acc m c t.val t.isLt x = base m c ((t.val / 2) * 1024 + (x 0).val) (0 * 2048 + (x 1).val) + part m c t x := by
  unfold acc
  rw [outsAt0_A m c t h0 h1]
  dsimp only
  refine (case_A (y := x) ..).trans ?_
  refine Eq.trans (dot0 m c t x) ?_
  unfold base
  exact (zero_add _).symm

theorem step_B (x : S1024x2048.Idx) (h0 : ¬t.val % 2 = 0) (h1 : t.val % 2 = 1) :
    acc m c t.val t.isLt x = acc m c (t.val - 1) (Nat.lt_of_le_of_lt (Nat.sub_le _ _) t.isLt) x + part m c t x := by
  unfold acc
  rw [outsAt0_B m c t h0 h1]
  dsimp only
  refine ((case_B ..).1 x).trans ?_
  exact congrArg₂ (· + ·) rfl (dot0 m c t x)

/-- The accumulator after grid point `n`, entry by entry: the part of the sum up to that point's step. -/
theorem acc_eq : ∀ (n : ℕ) (h : n < cfg0.N) (x : S1024x2048.Idx),
    acc m c n h x = base m c ((n / 2) * 1024 + (x 0).val) (0 * 2048 + (x 1).val) + ∑ q ∈ Finset.range (lim (n % 2 + 1)), term m c ((n / 2) * 1024 + (x 0).val) (0 * 2048 + (x 1).val) q := by
  refine acc_run (K := 2) (acc m c) (fun r x => base m c ((r) * 1024 + (x 0).val) (0 * 2048 + (x 1).val))
    (fun r x q => term m c ((r) * 1024 + (x 0).val) (0 * 2048 + (x 1).val) q) lim wid rfl ?hl ?hK ?hd ?hA ?hB
  case hl =>
    intro k hk
    unfold lim wid; omega
  case hK => intro n; omega
  case hd => intro n hn; omega
  case hA =>
    intro n h x hn
    refine (step_A m c ⟨n, h⟩ x (by show n % 2 = 0; omega) (by show ¬n % 2 = 1; omega)).trans ?_
    dsimp only [part]
    rw [hn]
    simp only [Nat.zero_mul, Nat.zero_add, wid]
  case hB =>
    intro n h x hn
    refine (step_B m c ⟨n + 1, h⟩ x (by show ¬(n + 1) % 2 = 0; omega) (by show (n + 1) % 2 = 1; omega)).trans ?_
    dsimp only [lim, wid, part]
    refine congrArg₂ (· + ·) rfl (Finset.sum_congr rfl fun q _ => ?_)
    rw [Nat.mul_comm 2048]

/-- Every entry of the result is written by some grid point. -/
theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht⟩ : ∃ t : Fin cfg0.N, t.val = ((i 0).val / 1024 * 1 + (i 1).val / 2048) * 2 + 1 :=
    ⟨⟨_, (by omega : ((i 0).val / 1024 * 1 + (i 1).val / 2048) * 2 + 1 < 4)⟩, rfl⟩
  refine ⟨t, (flush0_2 t).mpr (by omega), Kit.in_whole (b := main_v0) <|
    Kit.in_blk i (win0_2.index t) 1024 2048 rfl rfl rfl rfl (idx2 t) (by omega) (by omega)⟩

/-- The kernel's array after the run. -/
theorem out_eq : (dats m 0 c).arrAt 2 cfg0.N = result m c := by
  refine (dats m 0 c).arrAt_eq_of_cover 2 _ (fun t hf => ?_) cover
  have hf := (flush0_2 t).mp hf
  have h0 : ¬t.val % 2 = 0 := by omega
  have h1 : t.val % 2 = 1 := by omega
  have e : (dats m 0 c).flushed 2 t = (cfg0.win 2).cut (grid0.coords t) (outsAt0 m c t.val t.isLt).1 := by
    show (cfg0.win 2).cut (grid0.coords t) ((dats m 0 c).after 2 t) = _
    rw [after0_2]
  have ex : ((outsAt0 m c t.val t.isLt).1 : S1024x2048.Idx → EReal) = acc m c t.val t.isLt := by
    funext x
    unfold acc
    rw [outsAt0_B m c t h0 h1]
    dsimp only
    exact ((case_B ..).2 x).trans ((case_B ..).1 x).symm
  rw [e]
  funext x
  change S1024x2048.Idx at x
  refine (congrFun ex x).trans ?_
  rw [acc_eq m c t.val t.isLt x]
  show _ = result m c ((win0_2.rect t).idx x)
  have hi := idx2 t
  have e0 : (((win0_2.rect t).idx x) 0).val = (t.val / 2) * 1024 + (x 0).val := Kit.at_off hi.1 rfl
  have e1 : (((win0_2.rect t).idx x) 1).val = 0 * 2048 + (x 1).val := Kit.at_off hi.2 rfl
  unfold result
  rw [e0, e1, hf]
  rfl

open Cert.Reference14Ideal.Read in
/-- The reference's result, entry by entry. -/
theorem ref_at (x0 : FVec Ideal S4096x2048 .bf16) (x1 : FVec Ideal S4096x2048 .bf16) (y : S2048x2048.Idx) :
    ((val_main_v6 (F := Ideal) x0 x1 : FVec Ideal S2048x2048 .bf16) y : EReal) = (∑ q : Fin 4096, (x0 (ix2 q (y 0)) * x1 (ix2 q (y 1)) : EReal)) := by
  unfold val_main_v6 val_main_v5 val_main_v4 val_main_v0 val_main_v1
  pointwise
  exact Finset.sum_congr rfl fun q _ => mul_comm _ _

/-- The kernel's result in the reference's words. -/
theorem result_eq (y : S2048x2048.Idx) :
    result m c y = (∑ q : Fin 4096, ((arg0 m c) (ix2 q (y 0)) * (arg1 m c) (ix2 q (y 1)) : EReal)) := by
  unfold result base
  rw [zero_add]
  refine (sum_fin 4096 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference14Ideal Cert.Reference14Ideal.Gen.facts := fun m ρ _ =>
  (θ_run Cert.Reference14Ideal.defs _ _).mono (fun r h => ⟨fun c => (h c).2,
      sem_eq_zero_of_no_sems (by decide) r.2⟩)
    (Cert.Reference14Ideal.Value.run m ρ)

/-- The kernel and the reference compute the same product over the extended reals. -/
theorem algebraic : @Cert.algebraic_Kernel14Ideal_Reference14Ideal Cert.Kernel14Ideal.Gen.facts Cert.Reference14Ideal.Gen.facts := by
  intro m g m' g' _ hargs
  refine ⟨fun c => (dats m 0 c).arrAt 2 cfg0.N, (θ_run defs _ _).mono (fun _ k c => ⟨(k.1 c).1 2, k.2 c⟩)
    (θ_run_and (run_main m g) (unchanged m g)), ?_⟩
  refine (θ_run Cert.Reference14Ideal.defs _ _).mono (fun r h c => ?_) (Cert.Reference14Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference14Ideal.Read.val_main_v6_eq ..).trans ?_
  funext y
  exact (ref_at _ _ y).trans (result_eq m c y).symm

end Cert.Kernel14Ideal.Own
-- ==== Proof.ProdM.lean ====
module

public import proofs.«01_k».proof.Proof.Kit
public import proofs.«01_k».proof.Proof.Gen.Kernel15Ideal.Value
public import proofs.«01_k».proof.Proof.Gen.Reference15Ideal.Read
public import proofs.«01_k».proof.Proof.ProdSum

/-!
# The product of program 15

The product of a branch, forward (the calls `branch_a` and `branch_b`).
The kernel cuts the result into 4 by 2 blocks of 1024 by 1024, and the sum into 1 step. The reference is one product.
-/

@[expose] public section

noncomputable section

namespace Cert.Kernel15Ideal.Own

open Cert.Kernel15Ideal Cert.Kernel15Ideal.Gen Idealize.ShloMosaic Idealize.ShloMosaic.TcCoe Idealize.SL.Sem Cert.ProdSum

/-- Where window 0's block lies at a grid point. -/
theorem idx0 : ∀ t : Fin cfg0.N, win0_0.index t 0 = (t.val) / 2 ∧ win0_0.index t 1 = 0 :=
  (by decide +kernel : ∀ t : Fin grid0.N, _)

/-- Where window 1's block lies at a grid point. -/
theorem idx1 : ∀ t : Fin cfg0.N, win0_1.index t 0 = 0 ∧ win0_1.index t 1 = (t.val) % 2 :=
  (by decide +kernel : ∀ t : Fin grid0.N, _)

/-- Where window 2's block lies at a grid point. -/
theorem idx2 : ∀ t : Fin cfg0.N, win0_2.index t 0 = (t.val) / 2 ∧ win0_2.index t 1 = (t.val) % 2 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 1024]⟩ : Shape).Idx → EReal := m ((c : Thread nD τ).loc main_arg0)

/-- Window 0's block at a grid point. -/
def bk0 : FVec Ideal S1024x1024 .bf16 := iblk m c 0 t

theorem blk0 (x : S1024x1024.Idx) :
    bk0 m c t x = rd (arg0 m c) ((t.val) / 2 * 1024 + (x 0).val) (0 * 1024 + (x 1).val) :=
  rd_blk (arg0 m c) ((win0_0.rect t).idx x) (win0_0.index t) 1024 1024 rfl rfl (idx0 t) (by omega) (by omega)

/-- Argument 1 as a matrix. -/
abbrev arg1 : (⟨2, ![1024, 2048]⟩ : Shape).Idx → EReal := m ((c : Thread nD τ).loc main_arg1)

/-- Window 1's block at a grid point. -/
def bk1 : FVec Ideal S1024x1024 .bf16 := iblk m c 1 t

theorem blk1 (x : S1024x1024.Idx) :
    bk1 m c t x = rd (arg1 m c) (0 * 1024 + (x 0).val) ((t.val) % 2 * 1024 + (x 1).val) :=
  rd_blk (arg1 m c) ((win0_1.rect t).idx x) (win0_1.index t) 1024 1024 rfl rfl (idx1 t) (by omega) (by omega)

/-! ## The result -/

/-- Term `q` of the sum at row `i` and column `j`. -/
def term (i j q : ℕ) : EReal := rd (arg0 m c) (i) q * rd (arg1 m c) q (j)

/-- What the sum starts from. -/
def base (m : (ℓ : Loc nD τ sig) → Buf (Elt Ideal) ℓ) (c : Dev nD) (i j : ℕ) : EReal := 0

/-- The result of the kernel. -/
def result : S4096x2048.Idx → EReal := fun y => base m c (y 0).val (y 1).val + ∑ q ∈ Finset.range 1024, term m c (y 0).val (y 1).val q

/-- The part of the sum that a grid point adds. -/
theorem dot0 (x : S1024x1024.Idx) :
    ∑ q : Fin 1024, ((bk0 m c t (ix2 (x 0) q)) * (bk1 m c t (ix2 q (x 1))) : EReal)
      = ∑ q ∈ Finset.range 1024, term m c ((t.val) / 2 * 1024 + (x 0).val) ((t.val) % 2 * 1024 + (x 1).val) (0 + q) := by
  refine sum_fin 1024 (fun q => term m c ((t.val) / 2 * 1024 + (x 0).val) ((t.val) % 2 * 1024 + (x 1).val) (0 + q)) _ fun q => ?_
  rw [blk0 m c t _, blk1 m c t _]
  dsimp only
  unfold term
  have hq : q.val < 1024 := q.isLt
  refine congrArg₂ (· * ·) ?_ ?_ <;> refine congrArg₂ _ ?_ ?_
  all_goals first
    | (show _ + q.val = _; omega)
    | rfl

/-- What a grid point leaves, entry by entry. -/
theorem left (x0 : Vec Ideal S1024x1024 .bf16) (x1 : Vec Ideal S1024x1024 .bf16) (y : S1024x1024.Idx) :
    (out0_2 (F := Ideal) x0 x1 : S1024x1024.Idx → EReal) y = ∑ q : Fin 1024, ((x0 (ix2 (y 0) q)) * (x1 (ix2 q (y 1))) : EReal) := by
  unfold out0_2
  rw [View.canon_unit_zero hz]
  unfold k0_pay1
  simp only [View.ld_unit_zero (S := S1024x1024) hz, shapeCast_self]
  pointwise

/-- Every entry of the result is written by some grid point. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, ht⟩ : ∃ t : Fin cfg0.N, t.val = ((i 0).val / 1024 * 2 + (i 1).val / 1024) :=
    ⟨⟨_, (by omega : ((i 0).val / 1024 * 2 + (i 1).val / 1024) < 8)⟩, rfl⟩
  refine ⟨t, flush0_2 t, Kit.in_whole (b := main_v0) <|
    Kit.in_blk i (win0_2.index t) 1024 1024 rfl rfl rfl rfl (idx2 t) (by omega) (by omega)⟩

/-- The kernel's array after the run. -/
theorem out_eq : (dats m 0 c).arrAt 2 cfg0.N = result m c := by
  refine (dats m 0 c).arrAt_eq_of_cover 2 _ (fun t _ => ?_) cover
  rw [Value.flushed2]
  funext x
  change S1024x1024.Idx at x
  have hi := idx2 t
  refine (left (iblk m c 0 t) (iblk m c 1 t) x).trans ?_
  show _ = result m c ((win0_2.rect t).idx x)
  have e0 : (((win0_2.rect t).idx x) 0).val = (t.val) / 2 * 1024 + (x 0).val := Kit.at_off hi.1 rfl
  have e1 : (((win0_2.rect t).idx x) 1).val = (t.val) % 2 * 1024 + (x 1).val := Kit.at_off hi.2 rfl
  unfold result base
  rw [e0, e1]
  rw [zero_add]
  refine (dot0 m c t x).trans (Finset.sum_congr rfl fun q _ => ?_)
  rw [Nat.zero_add]

open Cert.Reference15Ideal.Read in
/-- The reference's result, entry by entry. -/
theorem ref_at (x0 : FVec Ideal S4096x1024 .bf16) (x1 : FVec Ideal S1024x2048 .bf16) (y : S4096x2048.Idx) :
    ((val_main_v2 (F := Ideal) x0 x1 : FVec Ideal S4096x2048 .f32) y : EReal) = (∑ q : Fin 1024, (x0 (ix2 (y 0) q) * x1 (ix2 q (y 1)) : EReal)) := by
  unfold val_main_v2 val_main_v1 val_main_v0
  pointwise

/-- The kernel's result in the reference's words. -/
theorem result_eq (y : S4096x2048.Idx) :
    result m c y = (∑ q : Fin 1024, ((arg0 m c) (ix2 (y 0) q) * (arg1 m c) (ix2 q (y 1)) : EReal)) := by
  unfold result base
  rw [zero_add]
  refine (sum_fin 1024 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference15Ideal Cert.Reference15Ideal.Gen.facts := fun m ρ _ =>
  (θ_run Cert.Reference15Ideal.defs _ _).mono (fun r h => ⟨fun c => (h c).2,
      sem_eq_zero_of_no_sems (by decide) r.2⟩)
    (Cert.Reference15Ideal.Value.run m ρ)

/-- The kernel and the reference compute the same product over the extended reals. -/
theorem algebraic : @Cert.algebraic_Kernel15Ideal_Reference15Ideal Cert.Kernel15Ideal.Gen.facts Cert.Reference15Ideal.Gen.facts := by
  intro m g m' g' _ hargs
  refine ⟨fun c => (dats m 0 c).arrAt 2 cfg0.N, Value.run_blocks m g, ?_⟩
  refine (θ_run Cert.Reference15Ideal.defs _ _).mono (fun r h c => ?_) (Cert.Reference15Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference15Ideal.Read.val_main_v2_eq ..).trans ?_
  funext y
  exact (ref_at _ _ y).trans (result_eq m c y).symm

end Cert.Kernel15Ideal.Own
-- ==== Proof.ProdN.lean ====
module

public import proofs.«01_k».proof.Proof.Kit
public import proofs.«01_k».proof.Proof.Gen.Kernel16Ideal.Value
public import proofs.«01_k».proof.Proof.Gen.Reference16Ideal.Read
public import proofs.«01_k».proof.Proof.ProdSum

/-!
# The product of program 16

The gradient of a branch through its product (the calls `d_ya` and `d_yb`).
The kernel cuts the result into 4 by 1 blocks of 1024 by 1024, and the sum into 1 step. The reference is one product.
-/

@[expose] public section

noncomputable section

namespace Cert.Kernel16Ideal.Own

open Cert.Kernel16Ideal Cert.Kernel16Ideal.Gen Idealize.ShloMosaic Idealize.ShloMosaic.TcCoe Idealize.SL.Sem Cert.ProdSum

/-- Where window 0's block lies at a grid point. -/
theorem idx0 : ∀ t : Fin cfg0.N, win0_0.index t 0 = (t.val) ∧ win0_0.index t 1 = 0 :=
  (by decide +kernel : ∀ t : Fin grid0.N, _)

/-- Where window 1's block lies at a grid point. -/
theorem idx1 : ∀ t : Fin cfg0.N, win0_1.index t 0 = 0 ∧ win0_1.index t 1 = 0 :=
  (by decide +kernel : ∀ t : Fin grid0.N, _)

/-- Where window 2's block lies at a grid point. -/
theorem idx2 : ∀ t : Fin cfg0.N, win0_2.index t 0 = (t.val) ∧ win0_2.index t 1 = 0 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 2048]⟩ : Shape).Idx → EReal := m ((c : Thread nD τ).loc main_arg0)

/-- Window 0's block at a grid point. -/
def bk0 : FVec Ideal S1024x2048 .bf16 := iblk m c 0 t

theorem blk0 (x : S1024x2048.Idx) :
    bk0 m c t x = rd (arg0 m c) ((t.val) * 1024 + (x 0).val) (0 * 2048 + (x 1).val) :=
  rd_blk (arg0 m c) ((win0_0.rect t).idx x) (win0_0.index t) 1024 2048 rfl rfl (idx0 t) (by omega) (by omega)

/-- Argument 1 as a matrix. -/
abbrev arg1 : (⟨2, ![1024, 2048]⟩ : Shape).Idx → EReal := m ((c : Thread nD τ).loc main_arg1)

/-- Window 1's block at a grid point. -/
def bk1 : FVec Ideal S1024x2048 .bf16 := iblk m c 1 t

theorem blk1 (x : S1024x2048.Idx) :
    bk1 m c t x = rd (arg1 m c) (0 * 1024 + (x 0).val) (0 * 2048 + (x 1).val) :=
  rd_blk (arg1 m c) ((win0_1.rect t).idx x) (win0_1.index t) 1024 2048 rfl rfl (idx1 t) (by omega) (by omega)

/-! ## The result -/

/-- Term `q` of the sum at row `i` and column `j`. -/
def term (i j q : ℕ) : EReal := rd (arg0 m c) (i) q * rd (arg1 m c) (j) q

/-- What the sum starts from. -/
def base (m : (ℓ : Loc nD τ sig) → Buf (Elt Ideal) ℓ) (c : Dev nD) (i j : ℕ) : EReal := 0

/-- The result of the kernel. -/
def result : S4096x1024.Idx → EReal := fun y => base m c (y 0).val (y 1).val + ∑ q ∈ Finset.range 2048, term m c (y 0).val (y 1).val q

/-- The part of the sum that a grid point adds. -/
theorem dot0 (x : S1024x1024.Idx) :
    ∑ q : Fin 2048, ((bk0 m c t (ix2 (x 0) q)) * (bk1 m c t (ix2 (x 1) q)) : EReal)
      = ∑ q ∈ Finset.range 2048, term m c ((t.val) * 1024 + (x 0).val) (0 * 1024 + (x 1).val) (0 + q) := by
  refine sum_fin 2048 (fun q => term m c ((t.val) * 1024 + (x 0).val) (0 * 1024 + (x 1).val) (0 + q)) _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

/-- What a grid point leaves, entry by entry. -/
theorem left (x0 : Vec Ideal S1024x2048 .bf16) (x1 : Vec Ideal S1024x2048 .bf16) (y : S1024x1024.Idx) :
    (out0_2 (F := Ideal) x0 x1 : S1024x1024.Idx → EReal) y = ∑ q : Fin 2048, ((x0 (ix2 (y 0) q)) * (x1 (ix2 (y 1) q)) : EReal) := by
  unfold out0_2
  rw [View.canon_unit_zero hz]
  unfold k0_pay1
  simp only [View.ld_unit_zero (S := S1024x2048) hz, shapeCast_self]
  pointwise

/-- Every entry of the result is written by some grid point. -/
theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, ht⟩ : ∃ t : Fin cfg0.N, t.val = ((i 0).val / 1024 * 1 + (i 1).val / 1024) :=
    ⟨⟨_, (by omega : ((i 0).val / 1024 * 1 + (i 1).val / 1024) < 4)⟩, rfl⟩
  refine ⟨t, flush0_2 t, Kit.in_whole (b := main_v0) <|
    Kit.in_blk i (win0_2.index t) 1024 1024 rfl rfl rfl rfl (idx2 t) (by omega) (by omega)⟩

/-- The kernel's array after the run. -/
theorem out_eq : (dats m 0 c).arrAt 2 cfg0.N = result m c := by
  refine (dats m 0 c).arrAt_eq_of_cover 2 _ (fun t _ => ?_) cover
  rw [Value.flushed2]
  funext x
  change S1024x1024.Idx at x
  have hi := idx2 t
  refine (left (iblk m c 0 t) (iblk m c 1 t) x).trans ?_
  show _ = result m c ((win0_2.rect t).idx x)
  have e0 : (((win0_2.rect t).idx x) 0).val = (t.val) * 1024 + (x 0).val := Kit.at_off hi.1 rfl
  have e1 : (((win0_2.rect t).idx x) 1).val = 0 * 1024 + (x 1).val := Kit.at_off hi.2 rfl
  unfold result base
  rw [e0, e1]
  rw [zero_add]
  refine (dot0 m c t x).trans (Finset.sum_congr rfl fun q _ => ?_)
  rw [Nat.zero_add q]

open Cert.Reference16Ideal.Read in
/-- The reference's result, entry by entry. -/
theorem ref_at (x0 : FVec Ideal S4096x2048 .bf16) (x1 : FVec Ideal S1024x2048 .bf16) (y : S4096x1024.Idx) :
    ((val_main_v4 (F := Ideal) x0 x1 : FVec Ideal S4096x1024 .f32) y : EReal) = (∑ q : Fin 2048, (x0 (ix2 (y 0) q) * x1 (ix2 (y 1) q) : EReal)) := by
  unfold val_main_v4 val_main_v1 val_main_v0
  pointwise

/-- The kernel's result in the reference's words. -/
theorem result_eq (y : S4096x1024.Idx) :
    result m c y = (∑ q : Fin 2048, ((arg0 m c) (ix2 (y 0) q) * (arg1 m c) (ix2 (y 1) q) : EReal)) := by
  unfold result base
  rw [zero_add]
  refine (sum_fin 2048 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference16Ideal Cert.Reference16Ideal.Gen.facts := fun m ρ _ =>
  (θ_run Cert.Reference16Ideal.defs _ _).mono (fun r h => ⟨fun c => (h c).2,
      sem_eq_zero_of_no_sems (by decide) r.2⟩)
    (Cert.Reference16Ideal.Value.run m ρ)

/-- The kernel and the reference compute the same product over the extended reals. -/
theorem algebraic : @Cert.algebraic_Kernel16Ideal_Reference16Ideal Cert.Kernel16Ideal.Gen.facts Cert.Reference16Ideal.Gen.facts := by
  intro m g m' g' _ hargs
  refine ⟨fun c => (dats m 0 c).arrAt 2 cfg0.N, Value.run_blocks m g, ?_⟩
  refine (θ_run Cert.Reference16Ideal.defs _ _).mono (fun r h c => ?_) (Cert.Reference16Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference16Ideal.Read.val_main_v4_eq ..).trans ?_
  funext y
  exact (ref_at _ _ y).trans (result_eq m c y).symm

end Cert.Kernel16Ideal.Own
-- ==== Proof.ProdO.lean ====
module

public import proofs.«01_k».proof.Proof.Kit
public import proofs.«01_k».proof.Proof.Gen.Kernel17Ideal.Frame
public import proofs.«01_k».proof.Proof.Gen.Reference17Ideal.Read
public import proofs.«01_k».proof.Proof.ProdSum

/-!
# The product of program 17

The gradient of a branch's weight (the calls `dw_a` and `dw_b`).
The kernel cuts the result into 1 by 2 blocks of 1024 by 1024, and the sum into 2 steps. The reference is one product.
-/

@[expose] public section

noncomputable section

namespace Cert.Kernel17Ideal.Own

open Cert.Kernel17Ideal Cert.Kernel17Ideal.Gen Idealize.ShloMosaic Idealize.ShloMosaic.TcCoe Idealize.SL.Sem Cert.ProdSum

/-- Where window 0's block lies at a grid point. -/
theorem idx0 : ∀ t : Fin cfg0.N, win0_0.index t 0 = t.val % 2 ∧ win0_0.index t 1 = (t.val / 2) / 2 :=
  (by decide +kernel : ∀ t : Fin grid0.N, _)

/-- Where window 1's block lies at a grid point. -/
theorem idx1 : ∀ t : Fin cfg0.N, win0_1.index t 0 = t.val % 2 ∧ win0_1.index t 1 = (t.val / 2) % 2 :=
  (by decide +kernel : ∀ t : Fin grid0.N, _)

/-- Where window 2's block lies at a grid point. -/
theorem idx2 : ∀ t : Fin cfg0.N, win0_2.index t 0 = (t.val / 2) / 2 ∧ win0_2.index t 1 = (t.val / 2) % 2 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 1024]⟩ : Shape).Idx → EReal := m ((c : Thread nD τ).loc main_arg0)

/-- Window 0's block at a grid point. -/
def bk0 : FVec Ideal S2048x1024 .bf16 := iblk m c 0 t

theorem blk0 (x : S2048x1024.Idx) :
    bk0 m c t x = rd (arg0 m c) (t.val % 2 * 2048 + (x 0).val) ((t.val / 2) / 2 * 1024 + (x 1).val) :=
  rd_blk (arg0 m c) ((win0_0.rect t).idx x) (win0_0.index t) 2048 1024 rfl rfl (idx0 t) (by omega) (by omega)

/-- Argument 1 as a matrix. -/
abbrev arg1 : (⟨2, ![4096, 2048]⟩ : Shape).Idx → EReal := m ((c : Thread nD τ).loc main_arg1)

/-- Window 1's block at a grid point. -/
def bk1 : FVec Ideal S2048x1024 .bf16 := iblk m c 1 t

theorem blk1 (x : S2048x1024.Idx) :
    bk1 m c t x = rd (arg1 m c) (t.val % 2 * 2048 + (x 0).val) ((t.val / 2) % 2 * 1024 + (x 1).val) :=
  rd_blk (arg1 m c) ((win0_1.rect t).idx x) (win0_1.index t) 2048 1024 rfl rfl (idx1 t) (by omega) (by omega)

/-! ## The result -/

/-- Term `q` of the sum at row `i` and column `j`. -/
def term (i j q : ℕ) : EReal := rd (arg0 m c) q (i) * rd (arg1 m c) q (j)

/-- What the sum starts from. -/
def base (m : (ℓ : Loc nD τ sig) → Buf (Elt Ideal) ℓ) (c : Dev nD) (i j : ℕ) : EReal := 0

/-- The result of the kernel. -/
def result : S1024x2048.Idx → EReal := fun y => base m c (y 0).val (y 1).val + ∑ q ∈ Finset.range 4096, term m c (y 0).val (y 1).val q

/-- The part of the sum that a grid point adds. -/
def part (x : S1024x1024.Idx) : EReal := ∑ q ∈ Finset.range 2048, term m c ((t.val / 2) / 2 * 1024 + (x 0).val) ((t.val / 2) % 2 * 1024 + (x 1).val) ((t.val % 2) * 2048 + q)

/-- It is the product of the two blocks. -/
theorem dot0 (x : S1024x1024.Idx) :
    ∑ q : Fin 2048, ((bk0 m c t (ix2 q (x 0))) * (bk1 m c t (ix2 q (x 1))) : EReal)
      = part m c t x := by
  refine sum_fin 2048 _ _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

section

variable (i : grid0.Coords) (arg3 arg4 : Memref sig .tc .vmem S2048x1024 .bf16) (arg5 : Memref sig .tc .vmem S1024x1024 .bf16) (arg6 : Memref sig .tc .vmem S1024x1024 .f32) (harg3 : arg3.IsWhole) (harg4 : arg4.IsWhole) (harg5 : arg5.IsWhole) (harg6 : arg6.IsWhole)

/-- What the accumulator holds after a grid point of case A, entry by entry. -/
theorem case_A (hc0 : cond0_0 i) (hc1 : ¬cond0_1 i) (x0 x1 : Vec Ideal S2048x1024 .bf16) (y : S1024x1024.Idx) :
    (sout0_A_0 (F := Ideal) c i arg3 harg3 arg4 harg4 arg5 harg5 arg6 harg6 hc0 hc1 x0 x1 : S1024x1024.Idx → EReal) y = ∑ q : Fin 2048, ((x0 (ix2 q (y 0))) * (x1 (ix2 q (y 1))) : EReal) := by
  unfold sout0_A_0
  rw [View.read_writes_eq_canon]
  swap
  · exact fun _ => scover0_A_0 ..
  unfold kernelRun0_A
  dsimp only
  sl_unfold_words
  first | rw [View.canon_cons_unit_zero (S := S1024x1024) hz] | rw [View.canon_unit_zero hz]
  try simp only [View.readCov_unit_zero (S := S1024x1024) _ hz]
  try unfold k0_pay3
  try unfold k0_pay2
  try unfold k0_pay1
  simp (discharger := assumption) only [View.readAt_eq_ld, Memref.IsWhole.read_unread, View.ld_unit_zero (S := S2048x1024) hz, View.ld_unit_zero (S := S1024x1024) hz, shapeCast_self]
  pointwise

/-- What a grid point of case B leaves, entry by entry. -/
theorem case_B (hc0 : ¬cond0_0 i) (hc1 : cond0_1 i) (x0 x1 : Vec Ideal S2048x1024 .bf16) (xs0 : Vec Ideal S1024x1024 .f32) :
    (∀ y : S1024x1024.Idx, (sout0_B_0 (F := Ideal) c i arg3 harg3 arg4 harg4 arg5 harg5 arg6 harg6 hc0 hc1 x0 x1 xs0 : S1024x1024.Idx → EReal) y = (xs0 y : EReal) + ∑ q : Fin 2048, ((x0 (ix2 q (y 0))) * (x1 (ix2 q (y 1))) : EReal))
    ∧ (∀ y : S1024x1024.Idx, (out0_B_2 (F := Ideal) c i arg3 harg3 arg4 harg4 arg5 harg5 arg6 harg6 hc0 hc1 x0 x1 xs0 : S1024x1024.Idx → EReal) y = (xs0 y : EReal) + ∑ q : Fin 2048, ((x0 (ix2 q (y 0))) * (x1 (ix2 q (y 1))) : EReal)) := by
  unfold sout0_B_0 out0_B_2
  refine ⟨fun y => ?_, fun y => ?_⟩
  all_goals
    rw [View.read_writes_eq_canon]
    swap
    · intro _
      first | exact scover0_B_0 .. | exact cover0_B_2 ..
    unfold kernelRun0_B
    dsimp only
    sl_unfold_words
    first | rw [View.canon_cons_unit_zero (S := S1024x1024) hz] | rw [View.canon_unit_zero hz]
    try simp only [View.readCov_unit_zero (S := S1024x1024) _ hz]
    try unfold k0_pay3
    try unfold k0_pay2
    try unfold k0_pay1
    simp (discharger := assumption) only [View.readAt_eq_ld, Memref.IsWhole.read_unread, View.ld_unit_zero (S := S2048x1024) hz, View.ld_unit_zero (S := S1024x1024) hz, shapeCast_self]
    pointwise

end

/-- The accumulator after grid point `n`. -/
def acc (n : ℕ) (h : n < cfg0.N) : S1024x1024.Idx → EReal := (outsAt0 m c n h).2

/-- The first term of the sum that step `k` adds, and how many it adds. -/
def lim : ℕ → ℕ := fun k => 2048 * k
def wid : ℕ → ℕ := fun _ => 2048

theorem step_A (x : S1024x1024.Idx) (h0 : t.val % 2 = 0) (h1 : ¬t.val % 2 = 1) :
    acc m c t.val t.isLt x = base m c ((t.val / 2) / 2 * 1024 + (x 0).val) ((t.val / 2) % 2 * 1024 + (x 1).val) + part m c t x := by
  unfold acc
  rw [outsAt0_A m c t h0 h1]
  dsimp only
  refine (case_A (y := x) ..).trans ?_
  refine Eq.trans (dot0 m c t x) ?_
  unfold base
  exact (zero_add _).symm

theorem step_B (x : S1024x1024.Idx) (h0 : ¬t.val % 2 = 0) (h1 : t.val % 2 = 1) :
    acc m c t.val t.isLt x = acc m c (t.val - 1) (Nat.lt_of_le_of_lt (Nat.sub_le _ _) t.isLt) x + part m c t x := by
  unfold acc
  rw [outsAt0_B m c t h0 h1]
  dsimp only
  refine ((case_B ..).1 x).trans ?_
  exact congrArg₂ (· + ·) rfl (dot0 m c t x)

/-- The accumulator after grid point `n`, entry by entry: the part of the sum up to that point's step. -/
theorem acc_eq : ∀ (n : ℕ) (h : n < cfg0.N) (x : S1024x1024.Idx),
    acc m c n h x = base m c ((n / 2) / 2 * 1024 + (x 0).val) ((n / 2) % 2 * 1024 + (x 1).val) + ∑ q ∈ Finset.range (lim (n % 2 + 1)), term m c ((n / 2) / 2 * 1024 + (x 0).val) ((n / 2) % 2 * 1024 + (x 1).val) q := by
  refine acc_run (K := 2) (acc m c) (fun r x => base m c ((r) / 2 * 1024 + (x 0).val) ((r) % 2 * 1024 + (x 1).val))
    (fun r x q => term m c ((r) / 2 * 1024 + (x 0).val) ((r) % 2 * 1024 + (x 1).val) q) lim wid rfl ?hl ?hK ?hd ?hA ?hB
  case hl =>
    intro k hk
    unfold lim wid; omega
  case hK => intro n; omega
  case hd => intro n hn; omega
  case hA =>
    intro n h x hn
    refine (step_A m c ⟨n, h⟩ x (by show n % 2 = 0; omega) (by show ¬n % 2 = 1; omega)).trans ?_
    dsimp only [part]
    rw [hn]
    simp only [Nat.zero_mul, Nat.zero_add, wid]
  case hB =>
    intro n h x hn
    refine (step_B m c ⟨n + 1, h⟩ x (by show ¬(n + 1) % 2 = 0; omega) (by show (n + 1) % 2 = 1; omega)).trans ?_
    dsimp only [lim, wid, part]
    refine congrArg₂ (· + ·) rfl (Finset.sum_congr rfl fun q _ => ?_)
    rw [Nat.mul_comm 2048]

/-- Every entry of the result is written by some grid point. -/
theorem cover (i : S1024x2048.Idx) : ∃ t : Fin cfg0.N, (cfg0.win 2).flush t = true ∧ i ∈ ((cfg0.win 2).blk t).view.set := by
  have h0 : (i 0).val < 1024 := (i 0).isLt
  have h1 : (i 1).val < 2048 := (i 1).isLt
  obtain ⟨t, ht⟩ : ∃ t : Fin cfg0.N, t.val = ((i 0).val / 1024 * 2 + (i 1).val / 1024) * 2 + 1 :=
    ⟨⟨_, (by omega : ((i 0).val / 1024 * 2 + (i 1).val / 1024) * 2 + 1 < 4)⟩, rfl⟩
  refine ⟨t, (flush0_2 t).mpr (by omega), Kit.in_whole (b := main_v0) <|
    Kit.in_blk i (win0_2.index t) 1024 1024 rfl rfl rfl rfl (idx2 t) (by omega) (by omega)⟩

/-- The kernel's array after the run. -/
theorem out_eq : (dats m 0 c).arrAt 2 cfg0.N = result m c := by
  refine (dats m 0 c).arrAt_eq_of_cover 2 _ (fun t hf => ?_) cover
  have hf := (flush0_2 t).mp hf
  have h0 : ¬t.val % 2 = 0 := by omega
  have h1 : t.val % 2 = 1 := by omega
  have e : (dats m 0 c).flushed 2 t = (cfg0.win 2).cut (grid0.coords t) (outsAt0 m c t.val t.isLt).1 := by
    show (cfg0.win 2).cut (grid0.coords t) ((dats m 0 c).after 2 t) = _
    rw [after0_2]
  have ex : ((outsAt0 m c t.val t.isLt).1 : S1024x1024.Idx → EReal) = acc m c t.val t.isLt := by
    funext x
    unfold acc
    rw [outsAt0_B m c t h0 h1]
    dsimp only
    exact ((case_B ..).2 x).trans ((case_B ..).1 x).symm
  rw [e]
  funext x
  change S1024x1024.Idx at x
  refine (congrFun ex x).trans ?_
  rw [acc_eq m c t.val t.isLt x]
  show _ = result m c ((win0_2.rect t).idx x)
  have hi := idx2 t
  have e0 : (((win0_2.rect t).idx x) 0).val = (t.val / 2) / 2 * 1024 + (x 0).val := Kit.at_off hi.1 rfl
  have e1 : (((win0_2.rect t).idx x) 1).val = (t.val / 2) % 2 * 1024 + (x 1).val := Kit.at_off hi.2 rfl
  unfold result
  rw [e0, e1, hf]
  rfl

open Cert.Reference17Ideal.Read in
/-- The reference's result, entry by entry. -/
theorem ref_at (x0 : FVec Ideal S4096x1024 .bf16) (x1 : FVec Ideal S4096x2048 .bf16) (y : S1024x2048.Idx) :
    ((val_main_v6 (F := Ideal) x0 x1 : FVec Ideal S1024x2048 .bf16) y : EReal) = (∑ q : Fin 4096, (x0 (ix2 q (y 0)) * x1 (ix2 q (y 1)) : EReal)) := by
  unfold val_main_v6 val_main_v5 val_main_v4 val_main_v0 val_main_v1
  pointwise
  exact Finset.sum_congr rfl fun q _ => mul_comm _ _

/-- The kernel's result in the reference's words. -/
theorem result_eq (y : S1024x2048.Idx) :
    result m c y = (∑ q : Fin 4096, ((arg0 m c) (ix2 q (y 0)) * (arg1 m c) (ix2 q (y 1)) : EReal)) := by
  unfold result base
  rw [zero_add]
  refine (sum_fin 4096 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference17Ideal Cert.Reference17Ideal.Gen.facts := fun m ρ _ =>
  (θ_run Cert.Reference17Ideal.defs _ _).mono (fun r h => ⟨fun c => (h c).2,
      sem_eq_zero_of_no_sems (by decide) r.2⟩)
    (Cert.Reference17Ideal.Value.run m ρ)

/-- The kernel and the reference compute the same product over the extended reals. -/
theorem algebraic : @Cert.algebraic_Kernel17Ideal_Reference17Ideal Cert.Kernel17Ideal.Gen.facts Cert.Reference17Ideal.Gen.facts := by
  intro m g m' g' _ hargs
  refine ⟨fun c => (dats m 0 c).arrAt 2 cfg0.N, (θ_run defs _ _).mono (fun _ k c => ⟨(k.1 c).1 2, k.2 c⟩)
    (θ_run_and (run_main m g) (unchanged m g)), ?_⟩
  refine (θ_run Cert.Reference17Ideal.defs _ _).mono (fun r h c => ?_) (Cert.Reference17Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference17Ideal.Read.val_main_v6_eq ..).trans ?_
  funext y
  exact (ref_at _ _ y).trans (result_eq m c y).symm

end Cert.Kernel17Ideal.Own
-- ==== Proof.ProdP.lean ====
module

public import proofs.«01_k».proof.Proof.Kit
public import proofs.«01_k».proof.Proof.Gen.Kernel18Ideal.Value
public import proofs.«01_k».proof.Proof.Gen.Reference18Ideal.Read
public import proofs.«01_k».proof.Proof.ProdSum

/-!
# The product of program 18

The product of the gates' columns of the mixer's input weight, forward (the call `proj_ba`).
The kernel cuts the result into 4 by 1 blocks of 1024 by 128, and the sum into 1 step. The reference is one product.
-/

@[expose] public section

noncomputable section

namespace Cert.Kernel18Ideal.Own

open Cert.Kernel18Ideal Cert.Kernel18Ideal.Gen Idealize.ShloMosaic Idealize.ShloMosaic.TcCoe Idealize.SL.Sem Cert.ProdSum

/-- Where window 0's block lies at a grid point. -/
theorem idx0 : ∀ t : Fin cfg0.N, win0_0.index t 0 = (t.val) ∧ win0_0.index t 1 = 0 :=
  (by decide +kernel : ∀ t : Fin grid0.N, _)

/-- Where window 1's block lies at a grid point. -/
theorem idx1 : ∀ t : Fin cfg0.N, win0_1.index t 0 = 0 ∧ win0_1.index t 1 = 0 :=
  (by decide +kernel : ∀ t : Fin grid0.N, _)

/-- Where window 2's block lies at a grid point. -/
theorem idx2 : ∀ t : Fin cfg0.N, win0_2.index t 0 = (t.val) ∧ win0_2.index t 1 = 0 :=
  (by decide +kernel : ∀ t : Fin grid0.N, _)

/-! ## The blocks of the arguments -/

variable (m : (ℓ : Loc nD τ sig) → Buf (Elt Ideal) ℓ) (c : Dev nD) (t : Fin cfg0.N)

/-- Argument 0 as a matrix. -/
abbrev arg0 : (⟨2, ![4096, 2048]⟩ : Shape).Idx → EReal := m ((c : Thread nD τ).loc main_arg0)

/-- Window 0's block at a grid point. -/
def bk0 : FVec Ideal S1024x2048 .bf16 := iblk m c 0 t

theorem blk0 (x : S1024x2048.Idx) :
    bk0 m c t x = rd (arg0 m c) ((t.val) * 1024 + (x 0).val) (0 * 2048 + (x 1).val) :=
  rd_blk (arg0 m c) ((win0_0.rect t).idx x) (win0_0.index t) 1024 2048 rfl rfl (idx0 t) (by omega) (by omega)

/-- Argument 1 as a matrix. -/
abbrev arg1 : (⟨2, ![128, 2048]⟩ : Shape).Idx → EReal := m ((c : Thread nD τ).loc main_arg1)

/-- Window 1's block at a grid point. -/
def bk1 : FVec Ideal S128x2048 .bf16 := iblk m c 1 t

theorem blk1 (x : S128x2048.Idx) :
    bk1 m c t x = rd (arg1 m c) (0 * 128 + (x 0).val) (0 * 2048 + (x 1).val) :=
  rd_blk (arg1 m c) ((win0_1.rect t).idx x) (win0_1.index t) 128 2048 rfl rfl (idx1 t) (by omega) (by omega)

/-! ## The result -/

/-- Term `q` of the sum at row `i` and column `j`. -/
def term (i j q : ℕ) : EReal := rd (arg0 m c) (i) q * rd (arg1 m c) (j) q

/-- What the sum starts from. -/
def base (m : (ℓ : Loc nD τ sig) → Buf (Elt Ideal) ℓ) (c : Dev nD) (i j : ℕ) : EReal := 0

/-- The result of the kernel. -/
def result : S4096x128.Idx → EReal := fun y => base m c (y 0).val (y 1).val + ∑ q ∈ Finset.range 2048, term m c (y 0).val (y 1).val q

/-- The part of the sum that a grid point adds. -/
theorem dot0 (x : S1024x128.Idx) :
    ∑ q : Fin 2048, ((bk0 m c t (ix2 (x 0) q)) * (bk1 m c t (ix2 (x 1) q)) : EReal)
      = ∑ q ∈ Finset.range 2048, term m c ((t.val) * 1024 + (x 0).val) (0 * 128 + (x 1).val) (0 + q) := by
  refine sum_fin 2048 (fun q => term m c ((t.val) * 1024 + (x 0).val) (0 * 128 + (x 1).val) (0 + q)) _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

/-- What a grid point leaves, entry by entry. -/
theorem left (x0 : Vec Ideal S1024x2048 .bf16) (x1 : Vec Ideal S128x2048 .bf16) (y : S1024x128.Idx) :
    (out0_2 (F := Ideal) x0 x1 : S1024x128.Idx → EReal) y = ∑ q : Fin 2048, ((x0 (ix2 (y 0) q)) * (x1 (ix2 (y 1) q)) : EReal) := by
  unfold out0_2
  rw [View.canon_unit_zero hz]
  unfold k0_pay1
  simp only [View.ld_unit_zero (S := S1024x2048) hz, View.ld_unit_zero (S := S128x2048) hz, shapeCast_self]
  pointwise

/-- Every entry of the result is written by some grid point. -/
theorem cover (i : S4096x128.Idx) : ∃ t : Fin cfg0.N, (cfg0.win 2).flush t = true ∧ i ∈ ((cfg0.win 2).blk t).view.set := by
  have h0 : (i 0).val < 4096 := (i 0).isLt
  have h1 : (i 1).val < 128 := (i 1).isLt
  obtain ⟨t, ht⟩ : ∃ t : Fin cfg0.N, t.val = ((i 0).val / 1024 * 1 + (i 1).val / 128) :=
    ⟨⟨_, (by omega : ((i 0).val / 1024 * 1 + (i 1).val / 128) < 4)⟩, rfl⟩
  refine ⟨t, flush0_2 t, Kit.in_whole (b := main_v0) <|
    Kit.in_blk i (win0_2.index t) 1024 128 rfl rfl rfl rfl (idx2 t) (by omega) (by omega)⟩

/-- The kernel's array after the run. -/
theorem out_eq : (dats m 0 c).arrAt 2 cfg0.N = result m c := by
  refine (dats m 0 c).arrAt_eq_of_cover 2 _ (fun t _ => ?_) cover
  rw [Value.flushed2]
  funext x
  change S1024x128.Idx at x
  have hi := idx2 t
  refine (left (iblk m c 0 t) (iblk m c 1 t) x).trans ?_
  show _ = result m c ((win0_2.rect t).idx x)
  have e0 : (((win0_2.rect t).idx x) 0).val = (t.val) * 1024 + (x 0).val := Kit.at_off hi.1 rfl
  have e1 : (((win0_2.rect t).idx x) 1).val = 0 * 128 + (x 1).val := Kit.at_off hi.2 rfl
  unfold result base
  rw [e0, e1]
  rw [zero_add]
  refine (dot0 m c t x).trans (Finset.sum_congr rfl fun q _ => ?_)
  rw [Nat.zero_add q]

open Cert.Reference18Ideal.Read in
/-- The reference's result, entry by entry. -/
theorem ref_at (x0 : FVec Ideal S4096x2048 .bf16) (x1 : FVec Ideal S128x2048 .bf16) (y : S4096x128.Idx) :
    ((val_main_v3 (F := Ideal) x0 x1 : FVec Ideal S4096x128 .f32) y : EReal) = (∑ q : Fin 2048, (x0 (ix2 (y 0) q) * x1 (ix2 (y 1) q) : EReal)) := by
  unfold val_main_v3 val_main_v2 val_main_v1 val_main_v0
  pointwise

/-- The kernel's result in the reference's words. -/
theorem result_eq (y : S4096x128.Idx) :
    result m c y = (∑ q : Fin 2048, ((arg0 m c) (ix2 (y 0) q) * (arg1 m c) (ix2 (y 1) q) : EReal)) := by
  unfold result base
  rw [zero_add]
  refine (sum_fin 2048 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference18Ideal Cert.Reference18Ideal.Gen.facts := fun m ρ _ =>
  (θ_run Cert.Reference18Ideal.defs _ _).mono (fun r h => ⟨fun c => (h c).2,
      sem_eq_zero_of_no_sems (by decide) r.2⟩)
    (Cert.Reference18Ideal.Value.run m ρ)

/-- The kernel and the reference compute the same product over the extended reals. -/
theorem algebraic : @Cert.algebraic_Kernel18Ideal_Reference18Ideal Cert.Kernel18Ideal.Gen.facts Cert.Reference18Ideal.Gen.facts := by
  intro m g m' g' _ hargs
  refine ⟨fun c => (dats m 0 c).arrAt 2 cfg0.N, Value.run_blocks m g, ?_⟩
  refine (θ_run Cert.Reference18Ideal.defs _ _).mono (fun r h c => ?_) (Cert.Reference18Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference18Ideal.Read.val_main_v3_eq ..).trans ?_
  funext y
  exact (ref_at _ _ y).trans (result_eq m c y).symm

end Cert.Kernel18Ideal.Own
-- ==== Proof.ProdQ.lean ====
module

public import proofs.«01_k».proof.Proof.Kit
public import proofs.«01_k».proof.Proof.Gen.Kernel19Ideal.Frame
public import proofs.«01_k».proof.Proof.Gen.Reference19Ideal.Read
public import proofs.«01_k».proof.Proof.ProdSum

/-!
# The product of program 19

The gradient of the gates' columns of the mixer's input weight (the call `dw_ba`).
The kernel cuts the result into 1 by 1 blocks of 128 by 2048, and the sum into 2 steps. The reference is one product.
-/

@[expose] public section

noncomputable section

namespace Cert.Kernel19Ideal.Own

open Cert.Kernel19Ideal Cert.Kernel19Ideal.Gen Idealize.ShloMosaic Idealize.ShloMosaic.TcCoe Idealize.SL.Sem Cert.ProdSum

/-- Where window 0's block lies at a grid point. -/
theorem idx0 : ∀ t : Fin cfg0.N, win0_0.index t 0 = t.val % 2 ∧ win0_0.index t 1 = (t.val / 2) :=
  (by decide +kernel : ∀ t : Fin grid0.N, _)

/-- Where window 1's block lies at a grid point. -/
theorem idx1 : ∀ t : Fin cfg0.N, win0_1.index t 0 = t.val % 2 ∧ win0_1.index t 1 = 0 :=
  (by decide +kernel : ∀ t : Fin grid0.N, _)

/-- Where window 2's block lies at a grid point. -/
theorem idx2 : ∀ t : Fin cfg0.N, win0_2.index t 0 = (t.val / 2) ∧ win0_2.index t 1 = 0 :=
  (by decide +kernel : ∀ t : Fin grid0.N, _)

/-! ## The blocks of the arguments -/

variable (m : (ℓ : Loc nD τ sig) → Buf (Elt Ideal) ℓ) (c : Dev nD) (t : Fin cfg0.N)

/-- Argument 1 as a matrix. -/
abbrev arg1 : (⟨2, ![4096, 128]⟩ : Shape).Idx → EReal := m ((c : Thread nD τ).loc main_arg1)

/-- Window 0's block at a grid point. -/
def bk0 : FVec Ideal S2048x128 .bf16 := iblk m c 0 t

theorem blk0 (x : S2048x128.Idx) :
    bk0 m c t x = rd (arg1 m c) (t.val % 2 * 2048 + (x 0).val) ((t.val / 2) * 128 + (x 1).val) :=
  rd_blk (arg1 m c) ((win0_0.rect t).idx x) (win0_0.index t) 2048 128 rfl rfl (idx0 t) (by omega) (by omega)

/-- Argument 0 as a matrix. -/
abbrev arg0 : (⟨2, ![4096, 2048]⟩ : Shape).Idx → EReal := m ((c : Thread nD τ).loc main_arg0)

/-- Window 1's block at a grid point. -/
def bk1 : FVec Ideal S2048x2048 .bf16 := iblk m c 1 t

theorem blk1 (x : S2048x2048.Idx) :
    bk1 m c t x = rd (arg0 m c) (t.val % 2 * 2048 + (x 0).val) (0 * 2048 + (x 1).val) :=
  rd_blk (arg0 m c) ((win0_1.rect t).idx x) (win0_1.index t) 2048 2048 rfl rfl (idx1 t) (by omega) (by omega)

/-! ## The result -/

/-- Term `q` of the sum at row `i` and column `j`. -/
def term (i j q : ℕ) : EReal := rd (arg1 m c) q (i) * rd (arg0 m c) q (j)

/-- What the sum starts from. -/
def base (m : (ℓ : Loc nD τ sig) → Buf (Elt Ideal) ℓ) (c : Dev nD) (i j : ℕ) : EReal := 0

/-- The result of the kernel. -/
def result : S128x2048.Idx → EReal := fun y => base m c (y 0).val (y 1).val + ∑ q ∈ Finset.range 4096, term m c (y 0).val (y 1).val q

/-- The part of the sum that a grid point adds. -/
def part (x : S128x2048.Idx) : EReal := ∑ q ∈ Finset.range 2048, term m c ((t.val / 2) * 128 + (x 0).val) (0 * 2048 + (x 1).val) ((t.val % 2) * 2048 + q)

/-- It is the product of the two blocks. -/
theorem dot0 (x : S128x2048.Idx) :
    ∑ q : Fin 2048, ((bk0 m c t (ix2 q (x 0))) * (bk1 m c t (ix2 q (x 1))) : EReal)
      = part m c t x := by
  refine sum_fin 2048 _ _ fun q => ?_
  rw [blk0 m c t _, blk1 m c t _]
  dsimp only
  unfold term
  have hq : q.val < 2048 := q.isLt
  refine congrArg₂ (· * ·) ?_ ?_ <;> refine congrArg₂ _ ?_ ?_
  all_goals first
    | (show _ + q.val = _; omega)
    | rfl

section

variable (i : grid0.Coords) (arg3 : Memref sig .tc .vmem S2048x128 .bf16) (arg4 : Memref sig .tc .vmem S2048x2048 .bf16) (arg5 : Memref sig .tc .vmem S128x2048 .bf16) (arg6 : Memref sig .tc .vmem S128x2048 .f32) (harg3 : arg3.IsWhole) (harg4 : arg4.IsWhole) (harg5 : arg5.IsWhole) (harg6 : arg6.IsWhole)

/-- What the accumulator holds after a grid point of case A, entry by entry. -/
theorem case_A (hc0 : cond0_0 i) (hc1 : ¬cond0_1 i) (x0 : Vec Ideal S2048x128 .bf16) (x1 : Vec Ideal S2048x2048 .bf16) (y : S128x2048.Idx) :
    (sout0_A_0 (F := Ideal) c i arg3 harg3 arg4 harg4 arg5 harg5 arg6 harg6 hc0 hc1 x0 x1 : S128x2048.Idx → EReal) y = ∑ q : Fin 2048, ((x0 (ix2 q (y 0))) * (x1 (ix2 q (y 1))) : EReal) := by
  unfold sout0_A_0
  rw [View.read_writes_eq_canon]
  swap
  · exact fun _ => scover0_A_0 ..
  unfold kernelRun0_A
  dsimp only
  sl_unfold_words
  first | rw [View.canon_cons_unit_zero (S := S128x2048) hz] | rw [View.canon_unit_zero hz]
  try simp only [View.readCov_unit_zero (S := S128x2048) _ hz]
  try unfold k0_pay3
  try unfold k0_pay2
  try unfold k0_pay1
  simp (discharger := assumption) only [View.readAt_eq_ld, Memref.IsWhole.read_unread, View.ld_unit_zero (S := S2048x128) hz, View.ld_unit_zero (S := S2048x2048) hz, View.ld_unit_zero (S := S128x2048) hz, shapeCast_self]
  pointwise

/-- What a grid point of case B leaves, entry by entry. -/
theorem case_B (hc0 : ¬cond0_0 i) (hc1 : cond0_1 i) (x0 : Vec Ideal S2048x128 .bf16) (x1 : Vec Ideal S2048x2048 .bf16) (xs0 : Vec Ideal S128x2048 .f32) :
    (∀ y : S128x2048.Idx, (sout0_B_0 (F := Ideal) c i arg3 harg3 arg4 harg4 arg5 harg5 arg6 harg6 hc0 hc1 x0 x1 xs0 : S128x2048.Idx → EReal) y = (xs0 y : EReal) + ∑ q : Fin 2048, ((x0 (ix2 q (y 0))) * (x1 (ix2 q (y 1))) : EReal))
    ∧ (∀ y : S128x2048.Idx, (out0_B_2 (F := Ideal) c i arg3 harg3 arg4 harg4 arg5 harg5 arg6 harg6 hc0 hc1 x0 x1 xs0 : S128x2048.Idx → EReal) y = (xs0 y : EReal) + ∑ q : Fin 2048, ((x0 (ix2 q (y 0))) * (x1 (ix2 q (y 1))) : EReal)) := by
  unfold sout0_B_0 out0_B_2
  refine ⟨fun y => ?_, fun y => ?_⟩
  all_goals
    rw [View.read_writes_eq_canon]
    swap
    · intro _
      first | exact scover0_B_0 .. | exact cover0_B_2 ..
    unfold kernelRun0_B
    dsimp only
    sl_unfold_words
    first | rw [View.canon_cons_unit_zero (S := S128x2048) hz] | rw [View.canon_unit_zero hz]
    try simp only [View.readCov_unit_zero (S := S128x2048) _ hz]
    try unfold k0_pay3
    try unfold k0_pay2
    try unfold k0_pay1
    simp (discharger := assumption) only [View.readAt_eq_ld, Memref.IsWhole.read_unread, View.ld_unit_zero (S := S2048x128) hz, View.ld_unit_zero (S := S2048x2048) hz, View.ld_unit_zero (S := S128x2048) hz, shapeCast_self]
    pointwise

end

/-- The accumulator after grid point `n`. -/
def acc (n : ℕ) (h : n < cfg0.N) : S128x2048.Idx → EReal := (outsAt0 m c n h).2

/-- The first term of the sum that step `k` adds, and how many it adds. -/
def lim : ℕ → ℕ := fun k => 2048 * k
def wid : ℕ → ℕ := fun _ => 2048

theorem step_A (x : S128x2048.Idx) (h0 : t.val % 2 = 0) (h1 : ¬t.val % 2 = 1) :
    acc m c t.val t.isLt x = base m c ((t.val / 2) * 128 + (x 0).val) (0 * 2048 + (x 1).val) + part m c t x := by
  unfold acc
  rw [outsAt0_A m c t h0 h1]
  dsimp only
  refine (case_A (y := x) ..).trans ?_
  refine Eq.trans (dot0 m c t x) ?_
  unfold base
  exact (zero_add _).symm

theorem step_B (x : S128x2048.Idx) (h0 : ¬t.val % 2 = 0) (h1 : t.val % 2 = 1) :
    acc m c t.val t.isLt x = acc m c (t.val - 1) (Nat.lt_of_le_of_lt (Nat.sub_le _ _) t.isLt) x + part m c t x := by
  unfold acc
  rw [outsAt0_B m c t h0 h1]
  dsimp only
  refine ((case_B ..).1 x).trans ?_
  exact congrArg₂ (· + ·) rfl (dot0 m c t x)

/-- The accumulator after grid point `n`, entry by entry: the part of the sum up to that point's step. -/
theorem acc_eq : ∀ (n : ℕ) (h : n < cfg0.N) (x : S128x2048.Idx),
    acc m c n h x = base m c ((n / 2) * 128 + (x 0).val) (0 * 2048 + (x 1).val) + ∑ q ∈ Finset.range (lim (n % 2 + 1)), term m c ((n / 2) * 128 + (x 0).val) (0 * 2048 + (x 1).val) q := by
  refine acc_run (K := 2) (acc m c) (fun r x => base m c ((r) * 128 + (x 0).val) (0 * 2048 + (x 1).val))
    (fun r x q => term m c ((r) * 128 + (x 0).val) (0 * 2048 + (x 1).val) q) lim wid rfl ?hl ?hK ?hd ?hA ?hB
  case hl =>
    intro k hk
    unfold lim wid; omega
  case hK => intro n; omega
  case hd => intro n hn; omega
  case hA =>
    intro n h x hn
    refine (step_A m c ⟨n, h⟩ x (by show n % 2 = 0; omega) (by show ¬n % 2 = 1; omega)).trans ?_
    dsimp only [part]
    rw [hn]
    simp only [Nat.zero_mul, Nat.zero_add, wid]
  case hB =>
    intro n h x hn
    refine (step_B m c ⟨n + 1, h⟩ x (by show ¬(n + 1) % 2 = 0; omega) (by show (n + 1) % 2 = 1; omega)).trans ?_
    dsimp only [lim, wid, part]
    refine congrArg₂ (· + ·) rfl (Finset.sum_congr rfl fun q _ => ?_)
    rw [Nat.mul_comm 2048]

/-- Every entry of the result is written by some grid point. -/
theorem cover (i : S128x2048.Idx) : ∃ t : Fin cfg0.N, (cfg0.win 2).flush t = true ∧ i ∈ ((cfg0.win 2).blk t).view.set := by
  have h0 : (i 0).val < 128 := (i 0).isLt
  have h1 : (i 1).val < 2048 := (i 1).isLt
  obtain ⟨t, ht⟩ : ∃ t : Fin cfg0.N, t.val = ((i 0).val / 128 * 1 + (i 1).val / 2048) * 2 + 1 :=
    ⟨⟨_, (by omega : ((i 0).val / 128 * 1 + (i 1).val / 2048) * 2 + 1 < 2)⟩, rfl⟩
  refine ⟨t, (flush0_2 t).mpr (by omega), Kit.in_whole (b := main_v0) <|
    Kit.in_blk i (win0_2.index t) 128 2048 rfl rfl rfl rfl (idx2 t) (by omega) (by omega)⟩

/-- The kernel's array after the run. -/
theorem out_eq : (dats m 0 c).arrAt 2 cfg0.N = result m c := by
  refine (dats m 0 c).arrAt_eq_of_cover 2 _ (fun t hf => ?_) cover
  have hf := (flush0_2 t).mp hf
  have h0 : ¬t.val % 2 = 0 := by omega
  have h1 : t.val % 2 = 1 := by omega
  have e : (dats m 0 c).flushed 2 t = (cfg0.win 2).cut (grid0.coords t) (outsAt0 m c t.val t.isLt).1 := by
    show (cfg0.win 2).cut (grid0.coords t) ((dats m 0 c).after 2 t) = _
    rw [after0_2]
  have ex : ((outsAt0 m c t.val t.isLt).1 : S128x2048.Idx → EReal) = acc m c t.val t.isLt := by
    funext x
    unfold acc
    rw [outsAt0_B m c t h0 h1]
    dsimp only
    exact ((case_B ..).2 x).trans ((case_B ..).1 x).symm
  rw [e]
  funext x
  change S128x2048.Idx at x
  refine (congrFun ex x).trans ?_
  rw [acc_eq m c t.val t.isLt x]
  show _ = result m c ((win0_2.rect t).idx x)
  have hi := idx2 t
  have e0 : (((win0_2.rect t).idx x) 0).val = (t.val / 2) * 128 + (x 0).val := Kit.at_off hi.1 rfl
  have e1 : (((win0_2.rect t).idx x) 1).val = 0 * 2048 + (x 1).val := Kit.at_off hi.2 rfl
  unfold result
  rw [e0, e1, hf]
  rfl

open Cert.Reference19Ideal.Read in
/-- The reference's result, entry by entry. -/
theorem ref_at (x0 : FVec Ideal S4096x2048 .bf16) (x1 : FVec Ideal S4096x128 .bf16) (y : S128x2048.Idx) :
    ((val_main_v7 (F := Ideal) x0 x1 : FVec Ideal S128x2048 .bf16) y : EReal) = (∑ q : Fin 4096, (x1 (ix2 q (y 0)) * x0 (ix2 q (y 1)) : EReal)) := by
  unfold val_main_v7 val_main_v6 val_main_v5 val_main_v4 val_main_v0 val_main_v1
  pointwise

/-- The kernel's result in the reference's words. -/
theorem result_eq (y : S128x2048.Idx) :
    result m c y = (∑ q : Fin 4096, ((arg1 m c) (ix2 q (y 0)) * (arg0 m c) (ix2 q (y 1)) : EReal)) := by
  unfold result base
  rw [zero_add]
  refine (sum_fin 4096 _ _ fun q => ?_).symm
  unfold term
  exact congrArg₂ (· * ·) (rd_of _ _ _ _ rfl rfl) (rd_of _ _ _ _ rfl rfl)

/-- The reference's frame: it terminates and leaves its arguments as they were. -/
theorem frame_reference : @Cert.quiescent_Reference19Ideal Cert.Reference19Ideal.Gen.facts := fun m ρ _ =>
  (θ_run Cert.Reference19Ideal.defs _ _).mono (fun r h => ⟨fun c => (h c).2,
      sem_eq_zero_of_no_sems (by decide) r.2⟩)
    (Cert.Reference19Ideal.Value.run m ρ)

/-- The kernel and the reference compute the same product over the extended reals. -/
theorem algebraic : @Cert.algebraic_Kernel19Ideal_Reference19Ideal Cert.Kernel19Ideal.Gen.facts Cert.Reference19Ideal.Gen.facts := by
  intro m g m' g' _ hargs
  refine ⟨fun c => (dats m 0 c).arrAt 2 cfg0.N, (θ_run defs _ _).mono (fun _ k c => ⟨(k.1 c).1 2, k.2 c⟩)
    (θ_run_and (run_main m g) (unchanged m g)), ?_⟩
  refine (θ_run Cert.Reference19Ideal.defs _ _).mono (fun r h c => ?_) (Cert.Reference19Ideal.Value.run m' g')
  obtain ⟨a0, a1⟩ := hargs c
  obtain ⟨h0, k0, k1⟩ := h c
  refine ⟨h0.trans ?_, k0, k1⟩
  refine Eq.trans ?_ (out_eq m c).symm
  rw [a0, a1]
  refine (Cert.Reference19Ideal.Read.val_main_v7_eq ..).trans ?_
  funext y
  exact (ref_at _ _ y).trans (result_eq m c y).symm

end Cert.Kernel19Ideal.Own
-- ==== Proof.AdamMath.lean ====
module

public import Idealize.ShloMosaic.Lib.IdealHost
public import Idealize.ShloMosaic.Lib.Pointwise

/-!
# One AdamW step on one number

The words of the optimiser's formulas, at one entry of an array: the gradient is the sum of the eight devices' parts, and
from it come the new first and second moments and the change of the weight.
-/

@[expose] public section

noncomputable section

namespace Cert.AdamMath

open Idealize.ShloMosaic

/-- The new first moment. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The change of the weight. -/
def delta (g w m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- The sum of eight parts, in the order in which the kernel adds them. -/
theorem sum_eight (p : Fin 8 → EReal) : p 0 + p 1 + p 2 + p 3 + p 4 + p 5 + p 6 + p 7 = ∑ k, p k := by
  rw [Fin.sum_univ_eight]

end Cert.AdamMath

end
-- ==== Proof.AdamSmall.lean ====
module

public import proofs.«01_k».proof.Proof.Kit
public import proofs.«01_k».proof.Proof.Gen.Kernel20Ideal.Value
public import proofs.«01_k».proof.Proof.Gen.Reference20Ideal.Read
public import proofs.«01_k».proof.Proof.AdamMath

/-!
# The optimiser of the weights that every device holds whole

The kernel cuts the packed arrays into eleven blocks of 208 rows. At each it adds the eight parts of the gradient one by
one and makes the AdamW step entry by entry. The reference sums the parts at once and steps the whole arrays.
-/

@[expose] public section

noncomputable section

namespace Cert.Kernel20Ideal.Own

open Cert.Kernel20Ideal Cert.Kernel20Ideal.Gen Idealize.ShloMosaic Idealize.ShloMosaic.TcCoe Idealize.SL.Sem Cert.AdamMath
open Idealize.ShloMosaic.Pipeline (Dat)

/-- The gradient at an entry: the sum of the eight parts. -/
def G {n : ℕ} (x0 : FVec Ideal ⟨3, ![8, n, 128]⟩ .f32) (y : (⟨2, ![n, 128]⟩ : Shape).Idx) : EReal :=
  ∑ k : Fin 8, x0 (ix3 k (y 0) (y 1))

/-! ## What a grid point computes -/

theorem part_at (x0 : Vec Ideal S8x208x128 .f32) (x1 x2 x3 : Vec Ideal S208x128 .f32) (y : S208x128.Idx) :
    (k0_pay5 (F := Ideal) x0 x1 x2 x3 : S208x128.Idx → EReal) y = G (n := 208) x0 y := by
  refine Eq.trans ?_ (sum_eight _)
  unfold k0_pay5 k0_pay3
  pointwise

theorem moment_at (x0 : Vec Ideal S8x208x128 .f32) (x1 x2 x3 : Vec Ideal S208x128 .f32) (y : S208x128.Idx) :
    (k0_pay6 (F := Ideal) x0 x1 x2 x3 : S208x128.Idx → EReal) y = newM (G (n := 208) x0 y) (x2 y) := by
  refine Eq.trans ?_ (congrArg (fun g => newM g (x2 y)) (part_at x0 x1 x2 x3 y))
  unfold k0_pay6 k0_pay4 k0_pay5 newM
  simp only [View.ld_unit_zero (S := S208x128) hz]
  pointwise

/-- The block of the gradient that a grid point leaves, entry by entry. -/
theorem left4 (x0 : Vec Ideal S8x208x128 .f32) (x1 x2 x3 : Vec Ideal S208x128 .f32) (y : S208x128.Idx) :
    (out0_4 (F := Ideal) x0 x1 x2 x3 : S208x128.Idx → EReal) y = G (n := 208) x0 y := by
  unfold out0_4
  rw [View.canon_unit_zero hz]
  exact part_at x0 x1 x2 x3 y

/-- The block of the change of the weight that a grid point leaves, entry by entry. -/
theorem left5 (x0 : Vec Ideal S8x208x128 .f32) (x1 x2 x3 : Vec Ideal S208x128 .f32) (y : S208x128.Idx) :
    (out0_5 (F := Ideal) x0 x1 x2 x3 : S208x128.Idx → EReal) y = delta (G (n := 208) x0 y) (x1 y) (x2 y) (x3 y) := by
  unfold out0_5
  rw [View.canon_unit_zero hz]
  refine Eq.trans ?_ (congrArg₂ (fun g m' => Ideal.ofBits .f32 0xBA83126F#32 * (Ideal.div (Ideal.div m' (Ideal.ofBits .f32 0x3F26BD02#32)) (Ideal.sqrt (Ideal.div (newV g (x3 y)) (Ideal.ofBits .f32 0x3C231ACC#32)) + Ideal.ofBits .f32 0x322BCC77#32) + Ideal.ofBits .f32 0x3C23D70A#32 * x1 y)) (part_at x0 x1 x2 x3 y) (moment_at x0 x1 x2 x3 y))
  generalize k0_pay5 x0 x1 x2 x3 = g
  generalize k0_pay6 x0 x1 x2 x3 = a
  unfold k0_pay2 k0_pay1 newV
  simp only [View.ld_unit_zero (S := S208x128) hz]
  pointwise

/-- The block of the first moment that a grid point leaves, entry by entry. -/
theorem left6 (x0 : Vec Ideal S8x208x128 .f32) (x1 x2 x3 : Vec Ideal S208x128 .f32) (y : S208x128.Idx) :
    (out0_6 (F := Ideal) x0 x1 x2 x3 : S208x128.Idx → EReal) y = newM (G (n := 208) x0 y) (x2 y) := by
  unfold out0_6
  rw [View.canon_unit_zero hz]
  exact moment_at x0 x1 x2 x3 y

/-- The block of the second moment that a grid point leaves, entry by entry. -/
theorem left7 (x0 : Vec Ideal S8x208x128 .f32) (x1 x2 x3 : Vec Ideal S208x128 .f32) (y : S208x128.Idx) :
    (out0_7 (F := Ideal) x0 x1 x2 x3 : S208x128.Idx → EReal) y = newV (G (n := 208) x0 y) (x3 y) := by
  unfold out0_7
  rw [View.canon_unit_zero hz]
  refine Eq.trans ?_ (congrArg (fun g => newV g (x3 y)) (part_at x0 x1 x2 x3 y))
  generalize k0_pay5 x0 x1 x2 x3 = g
  unfold k0_pay1 newV
  simp only [View.ld_unit_zero (S := S208x128) hz]
  pointwise

/-! ## The reference -/

/-- The reference's gradient, entry by entry. -/
theorem ref4 (x0 : FVec Ideal Cert.Reference20Ideal.S8x2288x128 .f32) (x1 x2 x3 : FVec Ideal Cert.Reference20Ideal.S2288x128 .f32) (y : S2288x128.Idx) :
    ((Host.reduceAdd x0 (constant Cert.Reference20Ideal.S_ .f32 0x00000000#32) Cert.Reference20Ideal.Gen.reducesTo_S8x2288x128_S2288x128_d0 Cert.Reference20Ideal.Gen.h_S_ : FVec Ideal S2288x128 .f32) y : EReal) = G (n := 2288) x0 y := by
  unfold G
  pointwise

open Cert.Reference20Ideal.Read in
/-- The reference's change of the weight, entry by entry. -/
theorem ref5 (x0 : FVec Ideal Cert.Reference20Ideal.S8x2288x128 .f32) (x1 x2 x3 : FVec Ideal Cert.Reference20Ideal.S2288x128 .f32) (y : S2288x128.Idx) :
    ((val_main_v24 (F := Ideal) x0 x1 x2 x3 : FVec Ideal S2288x128 .f32) y : EReal) = delta (G (n := 2288) x0 y) (x1 y) (x2 y) (x3 y) := by
  unfold val_main_v24 val_main_v22 val_main_v21 val_main_v20 val_main_cst_7 val_main_v19 val_main_v18 val_main_v17 val_main_cst_6 val_main_v16 val_main_v15 val_main_v14 val_main_cst_5 val_main_v11 val_main_v10 val_main_v8 val_main_v9 val_main_cst_3 val_main_v7 val_main_v6 val_main_cst_2 val_main_v13 val_main_v12 val_main_cst_4 val_main_v5 val_main_v4 val_main_v0 val_main_cst val_main_v3 val_main_cst_1 val_main_v2 val_main_v1 val_main_cst_0 val_main_v23 val_main_cst_8
    delta newM newV G
  pointwise

open Cert.Reference20Ideal.Read in
/-- The reference's first moment, entry by entry. -/
theorem ref6 (x0 : FVec Ideal Cert.Reference20Ideal.S8x2288x128 .f32) (x1 x2 x3 : FVec Ideal Cert.Reference20Ideal.S2288x128 .f32) (y : S2288x128.Idx) :
    ((val_main_v5 (F := Ideal) x0 x2 : FVec Ideal S2288x128 .f32) y : EReal) = newM (G (n := 2288) x0 y) (x2 y) := by
  unfold val_main_v5 val_main_v4 val_main_v0 val_main_cst val_main_v3 val_main_cst_1 val_main_v2 val_main_v1 val_main_cst_0
    newM G
  pointwise

open Cert.Reference20Ideal.Read in
/-- The reference's second moment, entry by entry. -/
theorem ref7 (x0 : FVec Ideal Cert.Reference20Ideal.S8x2288x128 .f32) (x1 x2 x3 : FVec Ideal Cert.Reference20Ideal.S2288x128 .f32) (y : S2288x128.Idx) :
    ((val_main_v11 (F := Ideal) x0 x3 : FVec Ideal S2288x128 .f32) y : EReal) = newV (G (n := 2288) x0 y) (x3 y) := by
  unfold val_main_v11 val_main_v10 val_main_v8 val_main_v0 val_main_cst val_main_v9 val_main_cst_3 val_main_v7 val_main_v6 val_main_cst_2
    newV G
  pointwise

/-! ## The arrays -/

variable (m : (ℓ : Loc nD τ sig) → Buf (Elt Ideal) ℓ)

/-- Where the blocks lie: block `t` of every array holds the rows from `208 * t`. -/
theorem idx_facts : ∀ t : Fin cfg0.N,
    (win0_0.index t 0 = 0 ∧ win0_0.index t 1 = t.val ∧ win0_0.index t 2 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, _)

/-- The parts of the gradient that a grid point reads. -/
theorem parts (c : Dev nD) (t : Fin cfg0.N) (x : S208x128.Idx) (y : S2288x128.Idx) (h0 : (y 0).val = t.val * 208 + (x 0).val)
    (h1 : (y 1).val = (x 1).val) :
    G (n := 208) (iblk m c 0 t) x = G (n := 2288) (m ((c : Thread nD τ).loc main_arg0)) y := by
  have hi := (idx_facts t).1
  refine Finset.sum_congr rfl fun k _ => ?_
  show m ((c : Thread nD τ).loc main_arg0) ((win0_0.rect t).idx (ix3 k (x 0) (x 1))) = _
  refine congrArg _ (funext fun a => Fin.ext ?_)
  match a with
  | ⟨0, _⟩ => show win0_0.index t 0 * 8 + 1 * k.val = k.val; rw [hi.1]; omega
  | ⟨1, _⟩ => show win0_0.index t 1 * 208 + 1 * (x 0).val = (y 0).val; rw [hi.2.1]; omega
  | ⟨2, _⟩ => show win0_0.index t 2 * 128 + 1 * (x 1).val = (y 1).val; rw [hi.2.2]; omega

/-- Argument 1's entry that a grid point reads. -/
theorem blk1 (c : Dev nD) (t : Fin cfg0.N) (x : S208x128.Idx) (y : S2288x128.Idx) (h0 : (y 0).val = t.val * 208 + (x 0).val)
    (h1 : (y 1).val = (x 1).val) : iblk m c 1 t x = m ((c : Thread nD τ).loc main_arg1) y := by
  exact congrArg (m _) (Kit.at_blk _ y (win0_1.index t) 208 128 rfl rfl ((idx_facts t).2.1) (by omega) (by omega))

/-- Argument 2's entry that a grid point reads. -/
theorem blk2 (c : Dev nD) (t : Fin cfg0.N) (x : S208x128.Idx) (y : S2288x128.Idx) (h0 : (y 0).val = t.val * 208 + (x 0).val)
    (h1 : (y 1).val = (x 1).val) : iblk m c 2 t x = m ((c : Thread nD τ).loc main_arg2) y := by
  exact congrArg (m _) (Kit.at_blk _ y (win0_2.index t) 208 128 rfl rfl ((idx_facts t).2.2.1) (by omega) (by omega))

/-- Argument 3's entry that a grid point reads. -/
theorem blk3 (c : Dev nD) (t : Fin cfg0.N) (x : S208x128.Idx) (y : S2288x128.Idx) (h0 : (y 0).val = t.val * 208 + (x 0).val)
    (h1 : (y 1).val = (x 1).val) : iblk m c 3 t x = m ((c : Thread nD τ).loc main_arg3) y := by
  exact congrArg (m _) (Kit.at_blk _ y (win0_3.index t) 208 128 rfl rfl ((idx_facts t).2.2.2.1) (by omega) (by omega))

/-- The array of the gradient after the run. -/
def res4 (c : Dev nD) : S2288x128.Idx → EReal := fun y => G (n := 2288) (m ((c : Thread nD τ).loc main_arg0)) y

theorem cover4 (i : S2288x128.Idx) : ∃ t : Fin cfg0.N, (cfg0.win 4).flush t = true ∧ i ∈ ((cfg0.win 4).blk t).view.set := by
  have h0 : (i 0).val < 2288 := (i 0).isLt
  have h1 : (i 1).val < 128 := (i 1).isLt
  obtain ⟨t, ht⟩ : ∃ t : Fin cfg0.N, t.val = (i 0).val / 208 := ⟨⟨_, (by omega : (i 0).val / 208 < 11)⟩, rfl⟩
  refine ⟨t, flush0_4 t, Kit.in_whole (b := main_v0_0) <|
    Kit.in_blk i (win0_4.index t) 208 128 rfl rfl rfl rfl ((idx_facts t).2.2.2.2.1) (by omega) (by omega)⟩

theorem out_eq4 (c : Dev nD) : (dats m 0 c).arrAt 4 cfg0.N = res4 m c := by
  refine (dats m 0 c).arrAt_eq_of_cover 4 _ (fun t _ => ?_) cover4
  rw [Value.flushed4]
  funext x
  change S208x128.Idx at x
  refine (left4 (iblk m c 0 t) (iblk m c 1 t) (iblk m c 2 t) (iblk m c 3 t) x).trans ?_
  have hi := (idx_facts t).2.2.2.2.1
  show _ = res4 m c ((win0_4.rect t).idx x)
  have e0 : (((win0_4.rect t).idx x) 0).val = t.val * 208 + (x 0).val := Kit.at_off hi.1 rfl
  have e1 : (((win0_4.rect t).idx x) 1).val = (x 1).val := (Kit.at_off (s := 128) hi.2 rfl).trans (by omega)
  unfold res4
  rw [parts m c t x _ e0 e1]

/-- The array of the change of the weight after the run. -/
def res5 (c : Dev nD) : S2288x128.Idx → EReal := fun y => delta (G (n := 2288) (m ((c : Thread nD τ).loc main_arg0)) y) ((m ((c : Thread nD τ).loc main_arg1)) y) ((m ((c : Thread nD τ).loc main_arg2)) y) ((m ((c : Thread nD τ).loc main_arg3)) y)

theorem cover5 (i : S2288x128.Idx) : ∃ t : Fin cfg0.N, (cfg0.win 5).flush t = true ∧ i ∈ ((cfg0.win 5).blk t).view.set := by
  have h0 : (i 0).val < 2288 := (i 0).isLt
  have h1 : (i 1).val < 128 := (i 1).isLt
  obtain ⟨t, ht⟩ : ∃ t : Fin cfg0.N, t.val = (i 0).val / 208 := ⟨⟨_, (by omega : (i 0).val / 208 < 11)⟩, rfl⟩
  refine ⟨t, flush0_5 t, Kit.in_whole (b := main_v0_1) <|
    Kit.in_blk i (win0_5.index t) 208 128 rfl rfl rfl rfl ((idx_facts t).2.2.2.2.2.1) (by omega) (by omega)⟩

theorem out_eq5 (c : Dev nD) : (dats m 0 c).arrAt 5 cfg0.N = res5 m c := by
  refine (dats m 0 c).arrAt_eq_of_cover 5 _ (fun t _ => ?_) cover5
  rw [Value.flushed5]
  funext x
  change S208x128.Idx at x
  refine (left5 (iblk m c 0 t) (iblk m c 1 t) (iblk m c 2 t) (iblk m c 3 t) x).trans ?_
  have hi := (idx_facts t).2.2.2.2.2.1
  show _ = res5 m c ((win0_5.rect t).idx x)
  have e0 : (((win0_5.rect t).idx x) 0).val = t.val * 208 + (x 0).val := Kit.at_off hi.1 rfl
  have e1 : (((win0_5.rect t).idx x) 1).val = (x 1).val := (Kit.at_off (s := 128) hi.2 rfl).trans (by omega)
  unfold res5
  rw [parts m c t x _ e0 e1, blk1 m c t x _ e0 e1, blk2 m c t x _ e0 e1, blk3 m c t x _ e0 e1]

/-- The array of the first moment after the run. -/
def res6 (c : Dev nD) : S2288x128.Idx → EReal := fun y => newM (G (n := 2288) (m ((c : Thread nD τ).loc main_arg0)) y) ((m ((c : Thread nD τ).loc main_arg2)) y)

theorem cover6 (i : S2288x128.Idx) : ∃ t : Fin cfg0.N, (cfg0.win 6).flush t = true ∧ i ∈ ((cfg0.win 6).blk t).view.set := by
  have h0 : (i 0).val < 2288 := (i 0).isLt
  have h1 : (i 1).val < 128 := (i 1).isLt
  obtain ⟨t, ht⟩ : ∃ t : Fin cfg0.N, t.val = (i 0).val / 208 := ⟨⟨_, (by omega : (i 0).val / 208 < 11)⟩, rfl⟩
  refine ⟨t, flush0_6 t, Kit.in_whole (b := main_v0_2) <|
    Kit.in_blk i (win0_6.index t) 208 128 rfl rfl rfl rfl ((idx_facts t).2.2.2.2.2.2.1) (by omega) (by omega)⟩

theorem out_eq6 (c : Dev nD) : (dats m 0 c).arrAt 6 cfg0.N = res6 m c := by
  refine (dats m 0 c).arrAt_eq_of_cover 6 _ (fun t _ => ?_) cover6
  rw [Value.flushed6]
  funext x
  change S208x128.Idx at x
  refine (left6 (iblk m c 0 t) (iblk m c 1 t) (iblk m c 2 t) (iblk m c 3 t) x).trans ?_
  have hi := (idx_facts t).2.2.2.2.2.2.1
  show _ = res6 m c ((win0_6.rect t).idx x)
  have e0 : (((win0_6.rect t).idx x) 0).val = t.val * 208 + (x 0).val := Kit.at_off hi.1 rfl
  have e1 : (((win0_6.rect t).idx x) 1).val = (x 1).val := (Kit.at_off (s := 128) hi.2 rfl).trans (by omega)
  unfold res6
  rw [parts m c t x _ e0 e1, blk2 m c t x _ e0 e1]

/-- The array of the second moment after the run. -/
def res7 (c : Dev nD) : S2288x128.Idx → EReal := fun y => newV (G (n := 2288) (m ((c : Thread nD τ).loc main_arg0)) y) ((m ((c : Thread nD τ).loc main_arg3)) y)

theorem cover7 (i : S2288x128.Idx) : ∃ t : Fin cfg0.N, (cfg0.win 7).flush t = true ∧ i ∈ ((cfg0.win 7).blk t).view.set := by
  have h0 : (i 0).val < 2288 := (i 0).isLt
  have h1 : (i 1).val < 128 := (i 1).isLt
  obtain ⟨t, ht⟩ : ∃ t : Fin cfg0.N, t.val = (i 0).val / 208 := ⟨⟨_, (by omega : (i 0).val / 208 < 11)⟩, rfl⟩
  refine ⟨t, flush0_7 t, Kit.in_whole (b := main_v0_3) <|
    Kit.in_blk i (win0_7.index t) 208 128 rfl rfl rfl rfl ((idx_facts t).2.2.2.2.2.2.2) (by omega) (by omega)⟩

theorem out_eq7 (c : Dev nD) : (dats m 0 c).arrAt 7 cfg0.N = res7 m c := by
  refine (dats m 0 c).arrAt_eq_of_cover 7 _ (fun t _ => ?_) cover7
  rw [Value.flushed7]
  funext x
  change S208x128.Idx at x
  refine (left7 (iblk m c 0 t) (iblk m c 1 t) (iblk m c 2 t) (iblk m c 3 t) x).trans ?_
  have hi := (idx_facts t).2.2.2.2.2.2.2
  show _ = res7 m c ((win0_7.rect t).idx x)
  have e0 : (((win0_7.rect t).idx x) 0).val = t.val * 208 + (x 0).val := Kit.at_off hi.1 rfl
  have e1 : (((win0_7.rect t).idx x) 1).val = (x 1).val := (Kit.at_off (s := 128) hi.2 rfl).trans (by omega)
  unfold res7
  rw [parts m c t x _ e0 e1, blk3 m c t x _ e0 e1]

/-- The reference's frame: it terminates and leaves its arguments as they were. -/
theorem frame_reference : @Cert.quiescent_Reference20Ideal Cert.Reference20Ideal.Gen.facts := fun m ρ _ =>
  (θ_run Cert.Reference20Ideal.defs _ _).mono (fun r h => ⟨fun c => (h c).2.2.2.2,
      sem_eq_zero_of_no_sems (by decide) r.2⟩)
    (Cert.Reference20Ideal.Value.run m ρ)

/-- The kernel and the reference compute the same four arrays over the extended reals. -/
theorem algebraic : @Cert.algebraic_Kernel20Ideal_Reference20Ideal Cert.Kernel20Ideal.Gen.facts Cert.Reference20Ideal.Gen.facts := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.Reference20Ideal.defs _ _).mono (fun r h c => ?_) (Cert.Reference20Ideal.Value.run m' g')
  obtain ⟨a0, a1, a2, a3⟩ := hargs c
  obtain ⟨h0, h1, h2, h3, k0, k1, k2, k3⟩ := h c
  refine ⟨h0.trans ?_, h1.trans ?_, h2.trans ?_, h3.trans ?_, k0, k1, k2, k3⟩
  · refine Eq.trans ?_ (out_eq4 m c).symm
    rw [a0]
    funext y
    exact ref4 _ (m ((c : Thread nD τ).loc main_arg1)) (m ((c : Thread nD τ).loc main_arg2)) (m ((c : Thread nD τ).loc main_arg3)) y
  · refine Eq.trans ?_ (out_eq5 m c).symm
    rw [a0, a1, a2, a3]
    refine (Cert.Reference20Ideal.Read.val_main_v24_eq ..).trans ?_
    funext y
    exact ref5 _ (m ((c : Thread nD τ).loc main_arg1)) (m ((c : Thread nD τ).loc main_arg2)) (m ((c : Thread nD τ).loc main_arg3)) y
  · refine Eq.trans ?_ (out_eq6 m c).symm
    rw [a0, a2]
    refine (Cert.Reference20Ideal.Read.val_main_v5_eq ..).trans ?_
    funext y
    exact ref6 _ (m ((c : Thread nD τ).loc main_arg1)) (m ((c : Thread nD τ).loc main_arg2)) (m ((c : Thread nD τ).loc main_arg3)) y
  · refine Eq.trans ?_ (out_eq7 m c).symm
    rw [a0, a3]
    refine (Cert.Reference20Ideal.Read.val_main_v11_eq ..).trans ?_
    funext y
    exact ref7 _ (m ((c : Thread nD τ).loc main_arg1)) (m ((c : Thread nD τ).loc main_arg2)) (m ((c : Thread nD τ).loc main_arg3)) y

end Cert.Kernel20Ideal.Own

end
-- ==== Proof.RmsMath.lean ====
module

public import Idealize.ShloMosaic.Lib.IdealHost
public import Idealize.ShloMosaic.Lib.Pointwise

/-!
# The derivative of a root-mean-square norm, on one row

A row of the input is a function `f` of the 2048 columns; `g` is the norm's weight and `d` the cotangent of the row.
-/

@[expose] public section

noncomputable section

namespace Cert.RmsMath

open Idealize.ShloMosaic

/-- A row. -/
abbrev Row := Fin 2048 → EReal

/-- The mean of the squares of a row, with the norm's small constant added. -/
def meanSq (f : Row) : EReal :=
  Ideal.div (∑ q, f q * f q) (Ideal.ofBits .f32 0x45000000#32) + Ideal.ofBits .f32 0x358637BD#32

/-- The factor by which the norm scales a row. -/
def scale (f : Row) : EReal := Ideal.rsqrt (meanSq f)

/-- What the scale's derivative adds to every entry of the row, before the entry's own factor. -/
def pull (f g d : Row) : EReal :=
  Ideal.div ((∑ q, f q * (d q * g q)) * (Ideal.ofBits .f32 0xBF000000#32 * Ideal.div (scale f) (meanSq f)))
    (Ideal.ofBits .f32 0x45000000#32)

/-- The gradient of an entry of the row. -/
def dx (f g d : Row) (j : Fin 2048) : EReal := d j * g j * scale f + f j * pull f g d + pull f g d * f j

/-- What the row adds to the gradient of the weight. -/
def dg (f d : Row) (j : Fin 2048) : EReal := f j * scale f * d j

end Cert.RmsMath

end
-- ==== Proof.NormBwd.lean ====
module

public import proofs.«01_k».proof.Proof.Kit
public import proofs.«01_k».proof.Proof.Gen.Kernel21Ideal.Value
public import proofs.«01_k».proof.Proof.Gen.Reference21Ideal.Read
public import proofs.«01_k».proof.Proof.RmsMath
public import proofs.«01_k».proof.Proof.ProdSum

/-!
# The backward pass of a norm

The kernel takes 256 rows at a grid point: it makes the gradient of each row, adds the residual's gradient, and adds the
rows' parts of the weight's gradient into one row that stays in place over all grid points. The reference takes all rows at once.
-/

@[expose] public section

noncomputable section

namespace Cert.Kernel21Ideal.Own

open Cert.Kernel21Ideal Cert.Kernel21Ideal.Gen Idealize.ShloMosaic Idealize.ShloMosaic.TcCoe Idealize.SL.Sem Cert.ProdSum
open Idealize.ShloMosaic.Pipeline (Dat)

/-- Row `i` of a matrix. -/
abbrev row {n : ℕ} (x : FVec Ideal ⟨2, ![n, 2048]⟩ .f32) (i : Fin n) : Cert.RmsMath.Row := fun q => x (ix2 i q)

/-! ## What a grid point computes -/

/-- A block of the input's gradient, with the residual's gradient added. -/
theorem pay_dx (x0 : Vec Ideal S256x2048 .f32) (x1 : Vec Ideal S1x2048 .f32) (x2 x3 : Vec Ideal S256x2048 .f32) (y : S256x2048.Idx) :
    (k0_pay6 (F := Ideal) x0 x1 x2 x3 : S256x2048.Idx → EReal) y
      = Cert.RmsMath.dx (row (n := 256) x0 (y 0)) (row (n := 1) x1 0) (row (n := 256) x2 (y 0)) (y 1) + x3 y := by
  have e : ix2 (y 0) (y 1) = y := funext fun a => by fin_cases a <;> rfl
  unfold k0_pay6 k0_pay4 k0_pay3 Cert.RmsMath.dx Cert.RmsMath.pull Cert.RmsMath.scale Cert.RmsMath.meanSq row
  pointwise
  simp only [Fin.sum_univ_one, e]

/-- What the 256 rows of a block add to the weight's gradient. -/
theorem pay_dg (x0 x2 : Vec Ideal S256x2048 .f32) (y : S1x2048.Idx) :
    (k0_pay5 (F := Ideal) x0 x2 : S1x2048.Idx → EReal) y
      = ∑ r : Fin 256, Cert.RmsMath.dg (row (n := 256) x0 r) (row (n := 256) x2 r) (y 1) := by
  unfold k0_pay5 k0_pay4 k0_pay3 Cert.RmsMath.dg Cert.RmsMath.scale Cert.RmsMath.meanSq
  pointwise

section

variable (c : Dev nD) (i : grid0.Coords) (arg2 : Memref sig .tc .vmem S256x2048 .f32) (arg3 : Memref sig .tc .vmem S1x2048 .f32) (arg4 arg5 arg6 : Memref sig .tc .vmem S256x2048 .f32) (arg7 : Memref sig .tc .vmem S256x2048 .bf16) (arg8 : Memref sig .tc .vmem S1x2048 .f32) (harg2 : arg2.IsWhole) (harg3 : arg3.IsWhole) (harg4 : arg4.IsWhole) (harg5 : arg5.IsWhole) (harg6 : arg6.IsWhole) (harg7 : arg7.IsWhole) (harg8 : arg8.IsWhole)

/-- What a grid point of case A leaves, entry by entry. -/
theorem case_A (hc0 : cond0_0 i) (hc1 : ¬cond0_1 i) (x0 : Vec Ideal S256x2048 .f32) (x1 : Vec Ideal S1x2048 .f32) (x2 x3 : Vec Ideal S256x2048 .f32) :
    (∀ y : S256x2048.Idx, (out0_A_4 (F := Ideal) c i arg2 harg2 arg3 harg3 arg4 harg4 arg5 harg5 arg6 harg6 arg7 harg7 arg8 harg8 hc0 hc1 x0 x1 x2 x3 : S256x2048.Idx → EReal) y = Cert.RmsMath.dx (row (n := 256) x0 (y 0)) (row (n := 1) x1 0) (row (n := 256) x2 (y 0)) (y 1) + (x3 y : EReal))
    ∧ (∀ y : S256x2048.Idx, (out0_A_5 (F := Ideal) c i arg2 harg2 arg3 harg3 arg4 harg4 arg5 harg5 arg6 harg6 arg7 harg7 arg8 harg8 hc0 hc1 x0 x1 x2 x3 : S256x2048.Idx → EReal) y = Cert.RmsMath.dx (row (n := 256) x0 (y 0)) (row (n := 1) x1 0) (row (n := 256) x2 (y 0)) (y 1) + (x3 y : EReal))
    ∧ (∀ y : S1x2048.Idx, (out0_A_6 (F := Ideal) c i arg2 harg2 arg3 harg3 arg4 harg4 arg5 harg5 arg6 harg6 arg7 harg7 arg8 harg8 hc0 hc1 x0 x1 x2 x3 : S1x2048.Idx → EReal) y = ∑ r : Fin 256, Cert.RmsMath.dg (row (n := 256) x0 r) (row (n := 256) x2 r) (y 1)) := by
  unfold out0_A_4 out0_A_5 out0_A_6
  refine ⟨fun y => ?_, fun y => ?_, fun y => ?_⟩
  all_goals
    rw [View.read_writes_eq_canon]
    swap
    · intro _
      first | exact cover0_A_4 .. | exact cover0_A_5 .. | exact cover0_A_6 ..
    unfold kernelRun0_A
    dsimp only
    sl_unfold_words
    first | rw [View.canon_cons_unit_zero (S := S256x2048) hz] | rw [View.canon_cons_unit_zero (S := S1x2048) hz] | rw [View.canon_unit_zero hz]
    try simp only [View.readCov_unit_zero (S := S256x2048) _ hz, View.readCov_unit_zero (S := S1x2048) _ hz]
    simp (discharger := assumption) only [View.readAt_eq_ld, Memref.IsWhole.read_unread, View.ld_unit_zero (S := S256x2048) hz, View.ld_unit_zero (S := S1x2048) hz]
  · exact pay_dx x0 x1 x2 x3 y
  · exact pay_dx x0 x1 x2 x3 y
  · exact pay_dg x0 x2 y

/-- What a grid point of case B leaves, entry by entry. -/
theorem case_B (hc0 : ¬cond0_0 i) (hc1 : cond0_1 i) (x0 : Vec Ideal S256x2048 .f32) (x1 : Vec Ideal S1x2048 .f32) (x2 x3 : Vec Ideal S256x2048 .f32) (xo6 : Vec Ideal S1x2048 .f32) :
    (∀ y : S256x2048.Idx, (out0_B_4 (F := Ideal) c i arg2 harg2 arg3 harg3 arg4 harg4 arg5 harg5 arg6 harg6 arg7 harg7 arg8 harg8 hc0 hc1 x0 x1 x2 x3 xo6 : S256x2048.Idx → EReal) y = Cert.RmsMath.dx (row (n := 256) x0 (y 0)) (row (n := 1) x1 0) (row (n := 256) x2 (y 0)) (y 1) + (x3 y : EReal))
    ∧ (∀ y : S256x2048.Idx, (out0_B_5 (F := Ideal) c i arg2 harg2 arg3 harg3 arg4 harg4 arg5 harg5 arg6 harg6 arg7 harg7 arg8 harg8 hc0 hc1 x0 x1 x2 x3 xo6 : S256x2048.Idx → EReal) y = Cert.RmsMath.dx (row (n := 256) x0 (y 0)) (row (n := 1) x1 0) (row (n := 256) x2 (y 0)) (y 1) + (x3 y : EReal))
    ∧ (∀ y : S1x2048.Idx, (out0_B_6 (F := Ideal) c i arg2 harg2 arg3 harg3 arg4 harg4 arg5 harg5 arg6 harg6 arg7 harg7 arg8 harg8 hc0 hc1 x0 x1 x2 x3 xo6 : S1x2048.Idx → EReal) y = (xo6 y : EReal) + ∑ r : Fin 256, Cert.RmsMath.dg (row (n := 256) x0 r) (row (n := 256) x2 r) (y 1)) := by
  unfold out0_B_4 out0_B_5 out0_B_6
  refine ⟨fun y => ?_, fun y => ?_, fun y => ?_⟩
  all_goals
    rw [View.read_writes_eq_canon]
    swap
    · intro _
      first | exact cover0_B_4 .. | exact cover0_B_5 .. | exact cover0_B_6 ..
    unfold kernelRun0_B
    dsimp only
    sl_unfold_words
    first | rw [View.canon_cons_unit_zero (S := S256x2048) hz] | rw [View.canon_cons_unit_zero (S := S1x2048) hz] | rw [View.canon_unit_zero hz]
    try simp only [View.readCov_unit_zero (S := S256x2048) _ hz, View.readCov_unit_zero (S := S1x2048) _ hz]
    simp (discharger := assumption) only [View.readAt_eq_ld, Memref.IsWhole.read_unread, View.ld_unit_zero (S := S256x2048) hz, View.ld_unit_zero (S := S1x2048) hz]
  · exact pay_dx x0 x1 x2 x3 y
  · exact pay_dx x0 x1 x2 x3 y
  · refine Eq.trans ?_ (congrArg (fun s => (xo6 y : EReal) + s) (pay_dg x0 x2 y))
    unfold k0_pay2
    simp only [shapeCast_self]
    rfl

end

/-! ## The arrays -/

variable (m : (ℓ : Loc nD τ sig) → Buf (Elt Ideal) ℓ)

theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

/-- Argument 0. -/
abbrev arg0 (c : Dev nD) : S4096x2048.Idx → EReal := m ((c : Thread nD τ).loc main_arg0)

/-- Window 0's block at a grid point. -/
def bk0 (c : Dev nD) (t : Fin cfg0.N) : FVec Ideal S256x2048 .f32 := iblk m c 0 t

theorem blk0 (c : Dev nD) (t : Fin cfg0.N) (x : S256x2048.Idx) :
    bk0 m c t x = rd (arg0 m c) (t.val * 256 + (x 0).val) (x 1).val :=
  rd_blk (arg0 m c) ((win0_0.rect t).idx x) (win0_0.index t) 256 2048 rfl rfl ((idx_facts t).1) (by omega) (by omega)

/-- Argument 1. -/
abbrev arg1 (c : Dev nD) : S1x2048.Idx → EReal := m ((c : Thread nD τ).loc main_arg1)

/-- Window 1's block at a grid point. -/
def bk1 (c : Dev nD) (t : Fin cfg0.N) : FVec Ideal S1x2048 .f32 := iblk m c 1 t

theorem blk1 (c : Dev nD) (t : Fin cfg0.N) : bk1 m c t = arg1 m c := by
  funext x
  exact congrArg (m ((c : Thread nD τ).loc main_arg1)) (Kit.at_blk _ x (win0_1.index t) 1 2048 rfl rfl ((idx_facts t).2.1) (by omega) (by omega))

/-- Argument 2. -/
abbrev arg2 (c : Dev nD) : S4096x2048.Idx → EReal := m ((c : Thread nD τ).loc main_arg2)

/-- Window 2's block at a grid point. -/
def bk2 (c : Dev nD) (t : Fin cfg0.N) : FVec Ideal S256x2048 .f32 := iblk m c 2 t

theorem blk2 (c : Dev nD) (t : Fin cfg0.N) (x : S256x2048.Idx) :
    bk2 m c t x = rd (arg2 m c) (t.val * 256 + (x 0).val) (x 1).val :=
  rd_blk (arg2 m c) ((win0_2.rect t).idx x) (win0_2.index t) 256 2048 rfl rfl ((idx_facts t).2.2.1) (by omega) (by omega)

/-- Argument 3. -/
abbrev arg3 (c : Dev nD) : S4096x2048.Idx → EReal := m ((c : Thread nD τ).loc main_arg3)

/-- Window 3's block at a grid point. -/
def bk3 (c : Dev nD) (t : Fin cfg0.N) : FVec Ideal S256x2048 .f32 := iblk m c 3 t

theorem blk3 (c : Dev nD) (t : Fin cfg0.N) (x : S256x2048.Idx) :
    bk3 m c t x = rd (arg3 m c) (t.val * 256 + (x 0).val) (x 1).val :=
  rd_blk (arg3 m c) ((win0_3.rect t).idx x) (win0_3.index t) 256 2048 rfl rfl ((idx_facts t).2.2.2.1) (by omega) (by omega)

/-- Row `i` of a matrix, by a natural number. -/
def rowN (A : S4096x2048.Idx → EReal) (i : ℕ) : Cert.RmsMath.Row := fun q => rd A i q.val

theorem rowN_of (A : S4096x2048.Idx → EReal) (r : Fin 4096) : row (n := 4096) A r = rowN A r.val :=
  funext fun q => rd_of A (ix2 r q) _ _ rfl rfl

theorem row_blk0 (c : Dev nD) (t : Fin cfg0.N) (r : Fin 256) : row (n := 256) (bk0 m c t) r = rowN (arg0 m c) (t.val * 256 + r.val) :=
  funext fun q => blk0 m c t (ix2 r q)

theorem row_blk2 (c : Dev nD) (t : Fin cfg0.N) (r : Fin 256) : row (n := 256) (bk2 m c t) r = rowN (arg2 m c) (t.val * 256 + r.val) :=
  funext fun q => blk2 m c t (ix2 r q)

/-- The gradient of the input, with the residual's gradient added. -/
def resX (c : Dev nD) : S4096x2048.Idx → EReal := fun y =>
  Cert.RmsMath.dx (rowN (arg0 m c) (y 0).val) (row (n := 1) (arg1 m c) 0) (rowN (arg2 m c) (y 0).val) (y 1) + rd (arg3 m c) (y 0).val (y 1).val

/-- What row `i` adds to the gradient of the weight. -/
def term (c : Dev nD) (j : Fin 2048) (i : ℕ) : EReal := Cert.RmsMath.dg (rowN (arg0 m c) i) (rowN (arg2 m c) i) j

/-- The gradient of the weight. -/
def resG (c : Dev nD) : S1x2048.Idx → EReal := fun y => ∑ i ∈ Finset.range 4096, term m c (y 1) i

theorem dot (c : Dev nD) (t : Fin cfg0.N) (j : Fin 2048) :
    ∑ r : Fin 256, Cert.RmsMath.dg (row (n := 256) (bk0 m c t) r) (row (n := 256) (bk2 m c t) r) j
      = ∑ i ∈ Finset.range 256, term m c j (t.val * 256 + i) :=
  sum_fin 256 (fun i => term m c j (t.val * 256 + i)) _ fun r => by rw [row_blk0, row_blk2]; rfl

theorem blockX (c : Dev nD) (t : Fin cfg0.N) (x : S256x2048.Idx) (y : S4096x2048.Idx) (h0 : (y 0).val = t.val * 256 + (x 0).val)
    (h1 : y 1 = x 1) :
    Cert.RmsMath.dx (row (n := 256) (bk0 m c t) (x 0)) (row (n := 1) (bk1 m c t) 0) (row (n := 256) (bk2 m c t) (x 0)) (x 1) + bk3 m c t x
      = resX m c y := by
  unfold resX
  rw [blk3 m c t x, h0, h1, blk1, row_blk0 m c t (x 0), row_blk2 m c t (x 0)]

/-- The accumulated row after grid point `n`. -/
def acc (c : Dev nD) (n : ℕ) (h : n < cfg0.N) : S1x2048.Idx → EReal := (outsAt0 m c n h).2.2

theorem step_A (c : Dev nD) (t : Fin cfg0.N) (x : S1x2048.Idx) (h0 : t.val % 16 = 0) (h1 : ¬1 ≤ t.val) :
    acc m c t.val t.isLt x = ∑ i ∈ Finset.range 256, term m c (x 1) (t.val * 256 + i) := by
  unfold acc
  rw [outsAt0_A m c t h0 h1]
  dsimp only
  refine ((case_A ..).2.2 x).trans ?_
  exact dot m c t (x 1)

theorem step_B (c : Dev nD) (t : Fin cfg0.N) (x : S1x2048.Idx) (h0 : ¬t.val % 16 = 0) (h1 : 1 ≤ t.val) :
    acc m c t.val t.isLt x = acc m c (t.val - 1) (Nat.lt_of_le_of_lt (Nat.sub_le _ _) t.isLt) x + ∑ i ∈ Finset.range 256, term m c (x 1) (t.val * 256 + i) := by
  unfold acc
  rw [outsAt0_B m c t h0 h1]
  dsimp only
  refine ((case_B ..).2.2 x).trans ?_
  exact congrArg₂ (· + ·) rfl (dot m c t (x 1))

/-- The accumulated row after grid point `n`: the parts of the rows so far. -/
theorem acc_eq (c : Dev nD) : ∀ (n : ℕ) (h : n < cfg0.N) (x : S1x2048.Idx),
    acc m c n h x = ∑ i ∈ Finset.range ((n + 1) * 256), term m c (x 1) i := by
  intro n
  induction n with
  | zero =>
    intro h x
    refine (step_A m c ⟨0, h⟩ x (by show 0 % 16 = 0; omega) (by show ¬1 ≤ 0; omega)).trans ?_
    simp only [Nat.zero_mul, Nat.zero_add, Nat.one_mul]
  | succ n ih =>
    intro h x
    have hN : n + 1 < 16 := h
    refine (step_B m c ⟨n + 1, h⟩ x (by show ¬(n + 1) % 16 = 0; omega) (by show 1 ≤ (n + 1); omega)).trans ?_
    rw [show (n + 1 + 1) * 256 = (n + 1) * 256 + 256 by omega, Finset.sum_range_add]
    exact congrArg₂ (· + ·) (ih (Nat.lt_of_succ_lt h) x) rfl

theorem cover4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  obtain ⟨t, ht⟩ : ∃ t : Fin cfg0.N, t.val = (i 0).val / 256 := ⟨⟨_, (by omega : (i 0).val / 256 < 16)⟩, rfl⟩
  refine ⟨t, flush0_4 t, Kit.in_whole (b := main_v0_0) <|
    Kit.in_blk i (win0_4.index t) 256 2048 rfl rfl rfl rfl ((idx_facts t).2.2.2.2.1) (by omega) (by omega)⟩

/-- The block that a grid point leaves in output 4. -/
theorem block4 (c : Dev nD) (t : Fin cfg0.N) (x : S256x2048.Idx) :
    ((outsAt0 m c t.val t.isLt).1 : S256x2048.Idx → EReal) x
      = Cert.RmsMath.dx (row (n := 256) (bk0 m c t) (x 0)) (row (n := 1) (bk1 m c t) 0) (row (n := 256) (bk2 m c t) (x 0)) (x 1) + bk3 m c t x := by
  have hN : t.val < 16 := t.isLt
  by_cases hh : t.val = 0
  · have h0 : t.val % 16 = 0 := (by omega); have h1 : ¬1 ≤ t.val := (by omega)
    rw [outsAt0_A m c t h0 h1]
    dsimp only
    exact (case_A ..).1 x
  · have h0 : ¬t.val % 16 = 0 := (by omega); have h1 : 1 ≤ t.val := (by omega)
    rw [outsAt0_B m c t h0 h1]
    dsimp only
    exact (case_B ..).1 x

/-- Output 4 after the run. -/
theorem out_eq4 (c : Dev nD) : (dats m 0 c).arrAt 4 cfg0.N = resX m c := by
  refine (dats m 0 c).arrAt_eq_of_cover 4 _ (fun t _ => ?_) cover4
  rw [Value.flushed4]
  funext x
  change S256x2048.Idx at x
  refine (block4 m c t x).trans ?_
  have hi := (idx_facts t).2.2.2.2.1
  refine blockX m c t x ((win0_4.rect t).idx x) ?_ (Fin.ext ?_)
  · show win0_4.index t 0 * 256 + 1 * (x 0).val = _; rw [hi.1]; omega
  · show win0_4.index t 1 * 2048 + 1 * (x 1).val = _; rw [hi.2]; omega

theorem cover5 (i : S4096x2048.Idx) : ∃ t : Fin cfg0.N, (cfg0.win 5).flush t = true ∧ i ∈ ((cfg0.win 5).blk t).view.set := by
  have h0 : (i 0).val < 4096 := (i 0).isLt
  have h1 : (i 1).val < 2048 := (i 1).isLt
  obtain ⟨t, ht⟩ : ∃ t : Fin cfg0.N, t.val = (i 0).val / 256 := ⟨⟨_, (by omega : (i 0).val / 256 < 16)⟩, rfl⟩
  refine ⟨t, flush0_5 t, Kit.in_whole (b := main_v0_1) <|
    Kit.in_blk i (win0_5.index t) 256 2048 rfl rfl rfl rfl ((idx_facts t).2.2.2.2.2.1) (by omega) (by omega)⟩

/-- The block that a grid point leaves in output 5. -/
theorem block5 (c : Dev nD) (t : Fin cfg0.N) (x : S256x2048.Idx) :
    ((outsAt0 m c t.val t.isLt).2.1 : S256x2048.Idx → EReal) x
      = Cert.RmsMath.dx (row (n := 256) (bk0 m c t) (x 0)) (row (n := 1) (bk1 m c t) 0) (row (n := 256) (bk2 m c t) (x 0)) (x 1) + bk3 m c t x := by
  have hN : t.val < 16 := t.isLt
  by_cases hh : t.val = 0
  · have h0 : t.val % 16 = 0 := (by omega); have h1 : ¬1 ≤ t.val := (by omega)
    rw [outsAt0_A m c t h0 h1]
    dsimp only
    exact (case_A ..).2.1 x
  · have h0 : ¬t.val % 16 = 0 := (by omega); have h1 : 1 ≤ t.val := (by omega)
    rw [outsAt0_B m c t h0 h1]
    dsimp only
    exact (case_B ..).2.1 x

/-- Output 5 after the run. -/
theorem out_eq5 (c : Dev nD) : (dats m 0 c).arrAt 5 cfg0.N = resX m c := by
  refine (dats m 0 c).arrAt_eq_of_cover 5 _ (fun t _ => ?_) cover5
  rw [Value.flushed5]
  funext x
  change S256x2048.Idx at x
  refine (block5 m c t x).trans ?_
  have hi := (idx_facts t).2.2.2.2.2.1
  refine blockX m c t x ((win0_5.rect t).idx x) ?_ (Fin.ext ?_)
  · show win0_5.index t 0 * 256 + 1 * (x 0).val = _; rw [hi.1]; omega
  · show win0_5.index t 1 * 2048 + 1 * (x 1).val = _; rw [hi.2]; omega

theorem cover6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  obtain ⟨t, ht⟩ : ∃ t : Fin cfg0.N, t.val = 15 := ⟨⟨15, (by omega : 15 < 16)⟩, rfl⟩
  refine ⟨t, (flush0_6 t).mpr (by omega), Kit.in_whole (b := main_v0_2) <|
    Kit.in_blk i (win0_6.index t) 1 2048 rfl rfl rfl rfl ((idx_facts t).2.2.2.2.2.2) (by omega) (by omega)⟩

/-- The gradient of the weight after the run. -/
theorem out_eq6 (c : Dev nD) : (dats m 0 c).arrAt 6 cfg0.N = resG m c := by
  refine (dats m 0 c).arrAt_eq_of_cover 6 _ (fun t hf => ?_) cover6
  have hf := (flush0_6 t).mp hf
  have hN : t.val < 16 := t.isLt
  rw [Value.flushed6]
  funext x
  change S1x2048.Idx at x
  show acc m c t.val t.isLt x = _
  rw [acc_eq m c t.val t.isLt x]
  show _ = resG m c ((win0_6.rect t).idx x)
  have hi := (idx_facts t).2.2.2.2.2.2
  have e1 : ((win0_6.rect t).idx x) 1 = x 1 := Fin.ext (by
    show win0_6.index t 1 * 2048 + 1 * (x 1).val = _; rw [hi.2]; omega)
  unfold resG
  rw [e1, show (t.val + 1) * 256 = 4096 by omega]

/-! ## The reference -/

open Cert.Reference21Ideal.Read in
/-- The reference's result 0, entry by entry. -/
theorem ref0 (x0 : FVec Ideal Cert.Reference21Ideal.S4096x2048 .f32) (x1 : FVec Ideal Cert.Reference21Ideal.S1x2048 .f32) (x2 : FVec Ideal Cert.Reference21Ideal.S4096x2048 .f32) (x3 : FVec Ideal Cert.Reference21Ideal.S4096x2048 .f32) (y : S4096x2048.Idx) :
    ((val_main_v34 (F := Ideal) x0 x1 x2 x3 : FVec Ideal S4096x2048 .f32) y : EReal) = Cert.RmsMath.dx (row (n := 4096) x0 (y 0)) (row (n := 1) x1 0) (row (n := 4096) x2 (y 0)) (y 1) + (x3 y : EReal) := by
  have e : ix2 (y 0) (y 1) = y := funext fun a => by fin_cases a <;> rfl
  unfold val_main_v34 val_main_v33 val_main_v32 val_main_v31 val_main_v30 val_main_v29 val_main_v28 val_main_cst_6 val_main_v27 val_main_v26 val_main_cst_5 val_main_v25 val_main_v10 val_main_v8 val_main_v9 val_main_cst_2 val_main_v22 val_main_v21 val_main_cst_4 val_main_v20 val_main_v24 val_main_v23 val_main_v7 val_main_v6 val_main_v5 val_main_cst_1 val_main_v4 val_main_v3 val_main_cst_0 val_main_v2 val_main_v1 val_main_cst val_main_v0 val_main_v19 val_main_v18
    Cert.RmsMath.dx Cert.RmsMath.pull Cert.RmsMath.scale Cert.RmsMath.meanSq row
  pointwise
  simp only [Fin.sum_univ_one, e]

open Cert.Reference21Ideal.Read in
/-- The reference's result 1, entry by entry. -/
theorem ref1 (x0 : FVec Ideal Cert.Reference21Ideal.S4096x2048 .f32) (x1 : FVec Ideal Cert.Reference21Ideal.S1x2048 .f32) (x2 : FVec Ideal Cert.Reference21Ideal.S4096x2048 .f32) (x3 : FVec Ideal Cert.Reference21Ideal.S4096x2048 .f32) (y : S4096x2048.Idx) :
    ((val_main_v36 (F := Ideal) x0 x1 x2 x3 : FVec Ideal S4096x2048 .bf16) y : EReal) = Cert.RmsMath.dx (row (n := 4096) x0 (y 0)) (row (n := 1) x1 0) (row (n := 4096) x2 (y 0)) (y 1) + (x3 y : EReal) := by
  have e : ix2 (y 0) (y 1) = y := funext fun a => by fin_cases a <;> rfl
  unfold val_main_v36 val_main_v35 val_main_v33 val_main_v32 val_main_v31 val_main_v30 val_main_v29 val_main_v28 val_main_cst_6 val_main_v27 val_main_v26 val_main_cst_5 val_main_v25 val_main_v10 val_main_v8 val_main_v9 val_main_cst_2 val_main_v22 val_main_v21 val_main_cst_4 val_main_v20 val_main_v24 val_main_v23 val_main_v7 val_main_v6 val_main_v5 val_main_cst_1 val_main_v4 val_main_v3 val_main_cst_0 val_main_v2 val_main_v1 val_main_cst val_main_v0 val_main_v19 val_main_v18
    Cert.RmsMath.dx Cert.RmsMath.pull Cert.RmsMath.scale Cert.RmsMath.meanSq row
  pointwise
  simp only [Fin.sum_univ_one, e]

open Cert.Reference21Ideal.Read in
/-- The reference's result 2, entry by entry. -/
theorem ref2 (x0 : FVec Ideal Cert.Reference21Ideal.S4096x2048 .f32) (x1 : FVec Ideal Cert.Reference21Ideal.S1x2048 .f32) (x2 : FVec Ideal Cert.Reference21Ideal.S4096x2048 .f32) (x3 : FVec Ideal Cert.Reference21Ideal.S4096x2048 .f32) (y : S1x2048.Idx) :
    ((val_main_v17 (F := Ideal) x0 x2 : FVec Ideal S1x2048 .f32) y : EReal) = ∑ r : Fin 4096, Cert.RmsMath.dg (row (n := 4096) x0 r) (row (n := 4096) x2 r) (y 1) := by
  unfold val_main_v17 val_main_v16 val_main_cst_3 val_main_v15 val_main_v12 val_main_v11 val_main_v7 val_main_v6 val_main_v5 val_main_cst_1 val_main_v4 val_main_v3 val_main_cst_0 val_main_v2 val_main_v1 val_main_cst val_main_v0
    Cert.RmsMath.dg Cert.RmsMath.scale Cert.RmsMath.meanSq row
  pointwise

/-- The reference's frame: it terminates and leaves its arguments as they were. -/
theorem frame_reference : @Cert.quiescent_Reference21Ideal Cert.Reference21Ideal.Gen.facts := fun m ρ _ =>
  (θ_run Cert.Reference21Ideal.defs _ _).mono (fun r h => ⟨fun c => (h c).2.2.2,
      sem_eq_zero_of_no_sems (by decide) r.2⟩)
    (Cert.Reference21Ideal.Value.run m ρ)

theorem resX_ref (c : Dev nD) (y : S4096x2048.Idx) :
    Cert.RmsMath.dx (row (n := 4096) (arg0 m c) (y 0)) (row (n := 1) (arg1 m c) 0) (row (n := 4096) (arg2 m c) (y 0)) (y 1) + arg3 m c y = resX m c y := by
  unfold resX
  rw [rowN_of (arg0 m c) (y 0), rowN_of (arg2 m c) (y 0), rd_of (arg3 m c) y _ _ rfl rfl]

theorem resG_ref (c : Dev nD) (y : S1x2048.Idx) :
    ∑ r : Fin 4096, Cert.RmsMath.dg (row (n := 4096) (arg0 m c) r) (row (n := 4096) (arg2 m c) r) (y 1) = resG m c y :=
  sum_fin 4096 (fun i => term m c (y 1) i) _ fun r => by rw [rowN_of (arg0 m c) r, rowN_of (arg2 m c) r]; rfl

/-- The kernel and the reference compute the same gradients over the extended reals. -/
theorem algebraic : @Cert.algebraic_Kernel21Ideal_Reference21Ideal Cert.Kernel21Ideal.Gen.facts Cert.Reference21Ideal.Gen.facts := by
  intro m g m' g' _ hargs
  refine ⟨fun c => (dats m 0 c).arrAt 4 cfg0.N, fun c => (dats m 0 c).arrAt 5 cfg0.N, fun c => (dats m 0 c).arrAt 6 cfg0.N,
    Value.run_blocks m g, ?_⟩
  refine (θ_run Cert.Reference21Ideal.defs _ _).mono (fun r h c => ?_) (Cert.Reference21Ideal.Value.run m' g')
  obtain ⟨a0, a1, a2, a3⟩ := hargs c
  obtain ⟨h0, h1, h2, k0, k1, k2, k3⟩ := h c
  refine ⟨h0.trans ?_, h1.trans ?_, h2.trans ?_, k0, k1, k2, k3⟩
  · refine Eq.trans ?_ (out_eq4 m c).symm
    rw [a0, a1, a2, a3]
    refine (Cert.Reference21Ideal.Read.val_main_v34_eq ..).trans ?_
    funext y
    exact (ref0 _ _ _ _ y).trans (resX_ref m c y)
  · refine Eq.trans ?_ (out_eq5 m c).symm
    rw [a0, a1, a2, a3]
    refine (Cert.Reference21Ideal.Read.val_main_v36_eq ..).trans ?_
    funext y
    exact (ref1 _ _ _ _ y).trans (resX_ref m c y)
  · refine Eq.trans ?_ (out_eq6 m c).symm
    rw [a0, a2]
    refine (Cert.Reference21Ideal.Read.val_main_v17_eq ..).trans ?_
    funext y
    exact (ref2 _ (arg1 m c) _ (arg3 m c) y).trans (resG_ref m c y)

end Cert.Kernel21Ideal.Own

end
-- ==== Proof.LossHead.lean ====
module

public import proofs.«01_k».proof.Proof.Kit
public import proofs.«01_k».proof.Proof.Gen.Kernel22Ideal.Value
public import proofs.«01_k».proof.Proof.Gen.Reference22Ideal.Read
public import proofs.«01_k».proof.Proof.RmsMath
public import proofs.«01_k».proof.Proof.ProdSum

/-!
# The loss head with its gradients

The loss is half the sum over the rows of the mean of the squares of the error, the normed row minus its target.
The kernel takes 256 rows at a grid point: it adds their part of the loss and of the weight's gradient to what it holds, and
makes the gradient of each row. The reference is the loss of all rows at once and its derivative.
-/

@[expose] public section

noncomputable section

namespace Cert.Kernel22Ideal.Own

open Cert.Kernel22Ideal Cert.Kernel22Ideal.Gen Idealize.ShloMosaic Idealize.ShloMosaic.TcCoe Idealize.SL.Sem Cert.ProdSum
open Idealize.ShloMosaic.Pipeline (Dat)

/-- Row `i` of a matrix. -/
abbrev row {n : ℕ} (x : FVec Ideal ⟨2, ![n, 2048]⟩ .f32) (i : Fin n) : Cert.RmsMath.Row := fun q => x (ix2 i q)

/-! ## The mathematics of a row -/

/-- One half. -/
def half : EReal := Ideal.ofBits .f32 0x3F000000#32

theorem half_eq : half = ((1 / 2 : ℝ) : EReal) := by
  unfold half
  simp [Ideal.ofBits, Ideal.ieee, -EReal.coe_mul]; norm_num

theorem half_nonneg : 0 ≤ half := by rw [half_eq]; exact EReal.coe_nonneg.mpr (by norm_num)

theorem half_ne_top : half ≠ ⊤ := by rw [half_eq]; exact EReal.coe_ne_top _

/-- Half of a sum is the sum of the halves. -/
theorem half_add (a b : EReal) : half * (a + b) = half * a + half * b :=
  EReal.left_distrib_of_nonneg_of_ne_top half_nonneg half_ne_top a b

/-- The error of a row: the normed row minus its target. -/
def err (f g t : Cert.RmsMath.Row) : Cert.RmsMath.Row := fun j => f j * Cert.RmsMath.scale f * g j - t j

/-- The mean of the squares of a row's error. -/
def meanErr (f g t : Cert.RmsMath.Row) : EReal := Ideal.div (∑ q, err f g t q * err f g t q) (Ideal.ofBits .f32 0x45000000#32)

/-- The gradient of the loss at the normed row. -/
def ct (f g t : Cert.RmsMath.Row) : Cert.RmsMath.Row := fun j => err f g t j * Ideal.ofBits .f32 0x3A000000#32

/-- The derivative of half the mean of squares: one half over 2048, times twice the error. -/
theorem ct_ref (e : EReal) :
    Ideal.div (Ideal.ofBits .f32 0x3F000000#32) (Ideal.ofBits .f32 0x45000000#32)
        * (Ideal.ofBits .f32 0x40000000#32 * e)
      = e * Ideal.ofBits .f32 0x3A000000#32 := by
  have h2 : Ideal.ofBits .f32 0x40000000#32 = ((2 : ℝ) : EReal) := by
    simp [Ideal.ofBits, Ideal.ieee, -EReal.coe_mul]; try norm_num
  have hw : Ideal.ofBits .f32 0x45000000#32 = ((2048 : ℝ) : EReal) := by
    simp [Ideal.ofBits, Ideal.ieee, -EReal.coe_mul]; try norm_num
  have hi : Ideal.ofBits .f32 0x3A000000#32 = ((1 / 2048 : ℝ) : EReal) := by
    simp [Ideal.ofBits, Ideal.ieee, -EReal.coe_mul]; try norm_num
  have h1 : Ideal.ofBits .f32 0x3F000000#32 = ((1 / 2 : ℝ) : EReal) := half_eq
  rw [h1, h2, hw, hi, Ideal.div_coe (by norm_num), ← mul_assoc, ← EReal.coe_mul, ← EReal.coe_mul,
    mul_comm e]
  congr 2
  norm_num

/-! ## What a grid point computes -/

/-- A block of the input's gradient. -/
theorem pay_dx (x0 : Vec Ideal S256x2048 .f32) (x1 : Vec Ideal S1x2048 .f32) (x2 : Vec Ideal S256x2048 .f32) (y : S256x2048.Idx) :
    (k0_pay1 (F := Ideal) x0 (k0_pay13 x0 x1 x2) (k0_pay14 x0 x1 x2) : S256x2048.Idx → EReal) y
      = Cert.RmsMath.dx (row (n := 256) x0 (y 0)) (row (n := 1) x1 0)
          (ct (row (n := 256) x0 (y 0)) (row (n := 1) x1 0) (row (n := 256) x2 (y 0))) (y 1) := by
  have e : ix2 (y 0) (y 1) = y := funext fun a => by fin_cases a <;> rfl
  unfold k0_pay1 k0_pay13 k0_pay14 k0_pay12 k0_pay10 k0_pay8 k0_pay7 k0_pay6 k0_pay5 ct err Cert.RmsMath.dx Cert.RmsMath.pull
    Cert.RmsMath.scale Cert.RmsMath.meanSq row
  pointwise
  simp only [Fin.sum_univ_one, e]

/-- What the 256 rows of a block add to the weight's gradient. -/
theorem pay_dg (x0 : Vec Ideal S256x2048 .f32) (x1 : Vec Ideal S1x2048 .f32) (x2 : Vec Ideal S256x2048 .f32) (y : S1x2048.Idx) :
    (k0_pay11 (F := Ideal) x0 x1 x2 : S1x2048.Idx → EReal) y
      = ∑ r : Fin 256, Cert.RmsMath.dg (row (n := 256) x0 r)
          (ct (row (n := 256) x0 r) (row (n := 1) x1 0) (row (n := 256) x2 r)) (y 1) := by
  unfold k0_pay11 k0_pay10 k0_pay8 k0_pay7 k0_pay6 k0_pay5 ct err Cert.RmsMath.dg Cert.RmsMath.scale Cert.RmsMath.meanSq row
  pointwise

/-- What the 256 rows of a block add to the loss. -/
theorem pay_loss (x0 : Vec Ideal S256x2048 .f32) (x1 : Vec Ideal S1x2048 .f32) (x2 : Vec Ideal S256x2048 .f32) (y : S1x1.Idx) :
    (k0_pay9 (F := Ideal) x0 x1 x2 : S1x1.Idx → EReal) y
      = half * ∑ r : Fin 256, meanErr (row (n := 256) x0 r) (row (n := 1) x1 0) (row (n := 256) x2 r) := by
  unfold k0_pay9 k0_pay8 k0_pay7 k0_pay6 k0_pay5 meanErr err half Cert.RmsMath.scale Cert.RmsMath.meanSq row
  pointwise

section

variable (c : Dev nD) (i : grid0.Coords) (arg2 : Memref sig .tc .vmem S256x2048 .f32) (arg3 : Memref sig .tc .vmem S1x2048 .f32) (arg4 : Memref sig .tc .vmem S256x2048 .f32) (arg5 : Memref sig .tc .vmem S1x1 .f32) (arg6 : Memref sig .tc .vmem S256x2048 .f32) (arg7 : Memref sig .tc .vmem S256x2048 .bf16) (arg8 : Memref sig .tc .vmem S1x2048 .f32) (harg2 : arg2.IsWhole) (harg3 : arg3.IsWhole) (harg4 : arg4.IsWhole) (harg5 : arg5.IsWhole) (harg6 : arg6.IsWhole) (harg7 : arg7.IsWhole) (harg8 : arg8.IsWhole)

/-- What a grid point of case A leaves, entry by entry. -/
theorem case_A (hc0 : cond0_0 i) (hc1 : ¬cond0_1 i) (hc2 : cond0_2 i) (hc3 : ¬cond0_3 i) (x0 : Vec Ideal S256x2048 .f32) (x1 : Vec Ideal S1x2048 .f32) (x2 : Vec Ideal S256x2048 .f32) :
    (∀ y : S256x2048.Idx, (out0_A_4 (F := Ideal) c i arg2 harg2 arg3 harg3 arg4 harg4 arg5 harg5 arg6 harg6 arg7 harg7 arg8 harg8 hc0 hc1 hc2 hc3 x0 x1 x2 : S256x2048.Idx → EReal) y = Cert.RmsMath.dx (row (n := 256) x0 (y 0)) (row (n := 1) x1 0) (ct (row (n := 256) x0 (y 0)) (row (n := 1) x1 0) (row (n := 256) x2 (y 0))) (y 1))
    ∧ (∀ y : S256x2048.Idx, (out0_A_5 (F := Ideal) c i arg2 harg2 arg3 harg3 arg4 harg4 arg5 harg5 arg6 harg6 arg7 harg7 arg8 harg8 hc0 hc1 hc2 hc3 x0 x1 x2 : S256x2048.Idx → EReal) y = Cert.RmsMath.dx (row (n := 256) x0 (y 0)) (row (n := 1) x1 0) (ct (row (n := 256) x0 (y 0)) (row (n := 1) x1 0) (row (n := 256) x2 (y 0))) (y 1))
    ∧ (∀ y : S1x2048.Idx, (out0_A_6 (F := Ideal) c i arg2 harg2 arg3 harg3 arg4 harg4 arg5 harg5 arg6 harg6 arg7 harg7 arg8 harg8 hc0 hc1 hc2 hc3 x0 x1 x2 : S1x2048.Idx → EReal) y = ∑ r : Fin 256, Cert.RmsMath.dg (row (n := 256) x0 r) (ct (row (n := 256) x0 r) (row (n := 1) x1 0) (row (n := 256) x2 r)) (y 1))
    ∧ (∀ y : S1x1.Idx, (out0_A_3 (F := Ideal) c i arg2 harg2 arg3 harg3 arg4 harg4 arg5 harg5 arg6 harg6 arg7 harg7 arg8 harg8 hc0 hc1 hc2 hc3 x0 x1 x2 : S1x1.Idx → EReal) y = half * ∑ r : Fin 256, meanErr (row (n := 256) x0 r) (row (n := 1) x1 0) (row (n := 256) x2 r)) := by
  unfold out0_A_4 out0_A_5 out0_A_6 out0_A_3
  refine ⟨fun y => ?_, fun y => ?_, fun y => ?_, fun y => ?_⟩
  all_goals
    rw [View.read_writes_eq_canon]
    swap
    · intro _
      first | exact cover0_A_4 .. | exact cover0_A_5 .. | exact cover0_A_6 .. | exact cover0_A_3 ..
    unfold kernelRun0_A
    dsimp only
    sl_unfold_words
    first | rw [View.canon_cons_unit_zero (S := S256x2048) hz] | rw [View.canon_cons_unit_zero (S := S1x2048) hz] | rw [View.canon_cons_unit_zero (S := S1x1) hz] | rw [View.canon_unit_zero hz]
    try simp only [View.readCov_unit_zero (S := S256x2048) _ hz, View.readCov_unit_zero (S := S1x2048) _ hz, View.readCov_unit_zero (S := S1x1) _ hz]
    simp (discharger := assumption) only [View.readAt_eq_ld, Memref.IsWhole.read_unread, View.ld_unit_zero (S := S256x2048) hz, View.ld_unit_zero (S := S1x2048) hz]
  · exact pay_dx x0 x1 x2 y
  · exact pay_dx x0 x1 x2 y
  · exact pay_dg x0 x1 x2 y
  · exact pay_loss x0 x1 x2 y

/-- What a grid point of case B leaves, entry by entry. -/
theorem case_B (hc0 : ¬cond0_0 i) (hc1 : cond0_1 i) (hc2 : ¬cond0_2 i) (hc3 : cond0_3 i) (x0 : Vec Ideal S256x2048 .f32) (x1 : Vec Ideal S1x2048 .f32) (x2 : Vec Ideal S256x2048 .f32) (xo3 : Vec Ideal S1x1 .f32) (xo6 : Vec Ideal S1x2048 .f32) :
    (∀ y : S256x2048.Idx, (out0_B_4 (F := Ideal) c i arg2 harg2 arg3 harg3 arg4 harg4 arg5 harg5 arg6 harg6 arg7 harg7 arg8 harg8 hc0 hc1 hc2 hc3 x0 x1 x2 xo3 xo6 : S256x2048.Idx → EReal) y = Cert.RmsMath.dx (row (n := 256) x0 (y 0)) (row (n := 1) x1 0) (ct (row (n := 256) x0 (y 0)) (row (n := 1) x1 0) (row (n := 256) x2 (y 0))) (y 1))
    ∧ (∀ y : S256x2048.Idx, (out0_B_5 (F := Ideal) c i arg2 harg2 arg3 harg3 arg4 harg4 arg5 harg5 arg6 harg6 arg7 harg7 arg8 harg8 hc0 hc1 hc2 hc3 x0 x1 x2 xo3 xo6 : S256x2048.Idx → EReal) y = Cert.RmsMath.dx (row (n := 256) x0 (y 0)) (row (n := 1) x1 0) (ct (row (n := 256) x0 (y 0)) (row (n := 1) x1 0) (row (n := 256) x2 (y 0))) (y 1))
    ∧ (∀ y : S1x2048.Idx, (out0_B_6 (F := Ideal) c i arg2 harg2 arg3 harg3 arg4 harg4 arg5 harg5 arg6 harg6 arg7 harg7 arg8 harg8 hc0 hc1 hc2 hc3 x0 x1 x2 xo3 xo6 : S1x2048.Idx → EReal) y = (xo6 y : EReal) + ∑ r : Fin 256, Cert.RmsMath.dg (row (n := 256) x0 r) (ct (row (n := 256) x0 r) (row (n := 1) x1 0) (row (n := 256) x2 r)) (y 1))
    ∧ (∀ y : S1x1.Idx, (out0_B_3 (F := Ideal) c i arg2 harg2 arg3 harg3 arg4 harg4 arg5 harg5 arg6 harg6 arg7 harg7 arg8 harg8 hc0 hc1 hc2 hc3 x0 x1 x2 xo3 xo6 : S1x1.Idx → EReal) y = (xo3 y : EReal) + half * ∑ r : Fin 256, meanErr (row (n := 256) x0 r) (row (n := 1) x1 0) (row (n := 256) x2 r)) := by
  unfold out0_B_4 out0_B_5 out0_B_6 out0_B_3
  refine ⟨fun y => ?_, fun y => ?_, fun y => ?_, fun y => ?_⟩
  all_goals
    rw [View.read_writes_eq_canon]
    swap
    · intro _
      first | exact cover0_B_4 .. | exact cover0_B_5 .. | exact cover0_B_6 .. | exact cover0_B_3 ..
    unfold kernelRun0_B
    dsimp only
    sl_unfold_words
    first | rw [View.canon_cons_unit_zero (S := S256x2048) hz] | rw [View.canon_cons_unit_zero (S := S1x2048) hz] | rw [View.canon_cons_unit_zero (S := S1x1) hz] | rw [View.canon_unit_zero hz]
    try simp only [View.readCov_unit_zero (S := S256x2048) _ hz, View.readCov_unit_zero (S := S1x2048) _ hz, View.readCov_unit_zero (S := S1x1) _ hz]
    simp (discharger := assumption) only [View.readAt_eq_ld, Memref.IsWhole.read_unread, View.ld_unit_zero (S := S256x2048) hz, View.ld_unit_zero (S := S1x2048) hz, View.ld_unit_zero (S := S1x1) hz]
  · exact pay_dx x0 x1 x2 y
  · exact pay_dx x0 x1 x2 y
  · refine Eq.trans ?_ (congrArg (fun s => (xo6 y : EReal) + s) (pay_dg x0 x1 x2 y))
    unfold k0_pay4
    simp only [shapeCast_self]
    rfl
  · refine Eq.trans ?_ (congrArg (fun s => (xo3 y : EReal) + s) (pay_loss x0 x1 x2 y))
    unfold k0_pay2
    simp only [shapeCast_self]
    rfl

end

/-! ## The arrays -/

variable (m : (ℓ : Loc nD τ sig) → Buf (Elt Ideal) ℓ)

theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

/-- Argument 0. -/
abbrev arg0 (c : Dev nD) : S4096x2048.Idx → EReal := m ((c : Thread nD τ).loc main_arg0)

/-- Window 0's block at a grid point. -/
def bk0 (c : Dev nD) (t : Fin cfg0.N) : FVec Ideal S256x2048 .f32 := iblk m c 0 t

theorem blk0 (c : Dev nD) (t : Fin cfg0.N) (x : S256x2048.Idx) :
    bk0 m c t x = rd (arg0 m c) (t.val * 256 + (x 0).val) (x 1).val :=
  rd_blk (arg0 m c) ((win0_0.rect t).idx x) (win0_0.index t) 256 2048 rfl rfl ((idx_facts t).1) (by omega) (by omega)

/-- Argument 1. -/
abbrev arg1 (c : Dev nD) : S1x2048.Idx → EReal := m ((c : Thread nD τ).loc main_arg1)

/-- Window 1's block at a grid point. -/
def bk1 (c : Dev nD) (t : Fin cfg0.N) : FVec Ideal S1x2048 .f32 := iblk m c 1 t

theorem blk1 (c : Dev nD) (t : Fin cfg0.N) : bk1 m c t = arg1 m c := by
  funext x
  exact congrArg (m ((c : Thread nD τ).loc main_arg1)) (Kit.at_blk _ x (win0_1.index t) 1 2048 rfl rfl ((idx_facts t).2.1) (by omega) (by omega))

/-- Argument 2. -/
abbrev arg2 (c : Dev nD) : S4096x2048.Idx → EReal := m ((c : Thread nD τ).loc main_arg2)

/-- Window 2's block at a grid point. -/
def bk2 (c : Dev nD) (t : Fin cfg0.N) : FVec Ideal S256x2048 .f32 := iblk m c 2 t

theorem blk2 (c : Dev nD) (t : Fin cfg0.N) (x : S256x2048.Idx) :
    bk2 m c t x = rd (arg2 m c) (t.val * 256 + (x 0).val) (x 1).val :=
  rd_blk (arg2 m c) ((win0_2.rect t).idx x) (win0_2.index t) 256 2048 rfl rfl ((idx_facts t).2.2.1) (by omega) (by omega)

/-- Row `i` of a matrix, by a natural number. -/
def rowN (A : S4096x2048.Idx → EReal) (i : ℕ) : Cert.RmsMath.Row := fun q => rd A i q.val

theorem rowN_of (A : S4096x2048.Idx → EReal) (r : Fin 4096) : row (n := 4096) A r = rowN A r.val :=
  funext fun q => rd_of A (ix2 r q) _ _ rfl rfl

theorem row_blk0 (c : Dev nD) (t : Fin cfg0.N) (r : Fin 256) : row (n := 256) (bk0 m c t) r = rowN (arg0 m c) (t.val * 256 + r.val) :=
  funext fun q => blk0 m c t (ix2 r q)

theorem row_blk2 (c : Dev nD) (t : Fin cfg0.N) (r : Fin 256) : row (n := 256) (bk2 m c t) r = rowN (arg2 m c) (t.val * 256 + r.val) :=
  funext fun q => blk2 m c t (ix2 r q)

/-- The gradient of the loss at the normed row `i`. -/
def ctN (c : Dev nD) (i : ℕ) : Cert.RmsMath.Row := ct (rowN (arg0 m c) i) (row (n := 1) (arg1 m c) 0) (rowN (arg2 m c) i)

/-- The gradient of the input. -/
def resX (c : Dev nD) : S4096x2048.Idx → EReal := fun y =>
  Cert.RmsMath.dx (rowN (arg0 m c) (y 0).val) (row (n := 1) (arg1 m c) 0) (ctN m c (y 0).val) (y 1)

/-- What row `i` adds to the gradient of the weight. -/
def term (c : Dev nD) (j : Fin 2048) (i : ℕ) : EReal := Cert.RmsMath.dg (rowN (arg0 m c) i) (ctN m c i) j

/-- The mean square of the error of row `i`. -/
def lossN (c : Dev nD) (i : ℕ) : EReal := meanErr (rowN (arg0 m c) i) (row (n := 1) (arg1 m c) 0) (rowN (arg2 m c) i)

/-- The gradient of the weight. -/
def resG (c : Dev nD) : S1x2048.Idx → EReal := fun y => ∑ i ∈ Finset.range 4096, term m c (y 1) i

/-- The loss. -/
def resL (c : Dev nD) : S1x1.Idx → EReal := fun _ => half * ∑ i ∈ Finset.range 4096, lossN m c i

theorem dotG (c : Dev nD) (t : Fin cfg0.N) (j : Fin 2048) :
    ∑ r : Fin 256, Cert.RmsMath.dg (row (n := 256) (bk0 m c t) r)
        (ct (row (n := 256) (bk0 m c t) r) (row (n := 1) (bk1 m c t) 0) (row (n := 256) (bk2 m c t) r)) j
      = ∑ i ∈ Finset.range 256, term m c j (t.val * 256 + i) :=
  sum_fin 256 (fun i => term m c j (t.val * 256 + i)) _ fun r => by rw [row_blk0, row_blk2, blk1]; rfl

theorem dotL (c : Dev nD) (t : Fin cfg0.N) :
    ∑ r : Fin 256, meanErr (row (n := 256) (bk0 m c t) r) (row (n := 1) (bk1 m c t) 0) (row (n := 256) (bk2 m c t) r)
      = ∑ i ∈ Finset.range 256, lossN m c (t.val * 256 + i) :=
  sum_fin 256 (fun i => lossN m c (t.val * 256 + i)) _ fun r => by rw [row_blk0, row_blk2, blk1]; rfl

theorem blockX (c : Dev nD) (t : Fin cfg0.N) (x : S256x2048.Idx) (y : S4096x2048.Idx) (h0 : (y 0).val = t.val * 256 + (x 0).val)
    (h1 : y 1 = x 1) :
    Cert.RmsMath.dx (row (n := 256) (bk0 m c t) (x 0)) (row (n := 1) (bk1 m c t) 0)
        (ct (row (n := 256) (bk0 m c t) (x 0)) (row (n := 1) (bk1 m c t) 0) (row (n := 256) (bk2 m c t) (x 0))) (x 1)
      = resX m c y := by
  unfold resX ctN
  rw [h0, h1, blk1, row_blk0 m c t (x 0), row_blk2 m c t (x 0)]

/-- The accumulated row of the weight's gradient after grid point `n`. -/
def accG (c : Dev nD) (n : ℕ) (h : n < cfg0.N) : S1x2048.Idx → EReal := (outsAt0 m c n h).2.2.2

/-- The accumulated loss after grid point `n`. -/
def accL (c : Dev nD) (n : ℕ) (h : n < cfg0.N) : S1x1.Idx → EReal := (outsAt0 m c n h).1

theorem stepG_A (c : Dev nD) (t : Fin cfg0.N) (x : S1x2048.Idx) (h0 : t.val % 16 = 0) (h1 : ¬1 ≤ t.val) (h2 : t.val % 16 = 0) (h3 : ¬1 ≤ t.val) :
    accG m c t.val t.isLt x = ∑ i ∈ Finset.range 256, term m c (x 1) (t.val * 256 + i) := by
  unfold accG
  rw [outsAt0_A m c t h0 h1 h2 h3]
  dsimp only
  refine ((case_A ..).2.2.1 x).trans ?_
  exact dotG m c t (x 1)

theorem stepL_A (c : Dev nD) (t : Fin cfg0.N) (x : S1x1.Idx) (h0 : t.val % 16 = 0) (h1 : ¬1 ≤ t.val) (h2 : t.val % 16 = 0) (h3 : ¬1 ≤ t.val) :
    accL m c t.val t.isLt x = half * ∑ i ∈ Finset.range 256, lossN m c (t.val * 256 + i) := by
  unfold accL
  rw [outsAt0_A m c t h0 h1 h2 h3]
  dsimp only
  refine ((case_A ..).2.2.2 x).trans ?_
  exact congrArg (fun s => half * s) (dotL m c t)

theorem stepG_B (c : Dev nD) (t : Fin cfg0.N) (x : S1x2048.Idx) (h0 : ¬t.val % 16 = 0) (h1 : 1 ≤ t.val) (h2 : ¬t.val % 16 = 0) (h3 : 1 ≤ t.val) :
    accG m c t.val t.isLt x = accG m c (t.val - 1) (Nat.lt_of_le_of_lt (Nat.sub_le _ _) t.isLt) x + ∑ i ∈ Finset.range 256, term m c (x 1) (t.val * 256 + i) := by
  unfold accG
  rw [outsAt0_B m c t h0 h1 h2 h3]
  dsimp only
  refine ((case_B ..).2.2.1 x).trans ?_
  exact congrArg₂ (· + ·) rfl (dotG m c t (x 1))

theorem stepL_B (c : Dev nD) (t : Fin cfg0.N) (x : S1x1.Idx) (h0 : ¬t.val % 16 = 0) (h1 : 1 ≤ t.val) (h2 : ¬t.val % 16 = 0) (h3 : 1 ≤ t.val) :
    accL m c t.val t.isLt x = accL m c (t.val - 1) (Nat.lt_of_le_of_lt (Nat.sub_le _ _) t.isLt) x + half * ∑ i ∈ Finset.range 256, lossN m c (t.val * 256 + i) := by
  unfold accL
  rw [outsAt0_B m c t h0 h1 h2 h3]
  dsimp only
  refine ((case_B ..).2.2.2 x).trans ?_
  exact congrArg₂ (· + ·) rfl (congrArg (fun s => half * s) (dotL m c t))

/-- The accumulated row after grid point `n`: the parts of the rows so far. -/
theorem accG_eq (c : Dev nD) : ∀ (n : ℕ) (h : n < cfg0.N) (x : S1x2048.Idx),
    accG m c n h x = ∑ i ∈ Finset.range ((n + 1) * 256), term m c (x 1) i := by
  intro n
  induction n with
  | zero =>
    intro h x
    refine (stepG_A m c ⟨0, h⟩ x (by show 0 % 16 = 0; omega) (by show ¬1 ≤ 0; omega) (by show 0 % 16 = 0; omega) (by show ¬1 ≤ 0; omega)).trans ?_
    simp only [Nat.zero_mul, Nat.zero_add, Nat.one_mul]
  | succ n ih =>
    intro h x
    have hN : n + 1 < 16 := h
    refine (stepG_B m c ⟨n + 1, h⟩ x (by show ¬(n + 1) % 16 = 0; omega) (by show 1 ≤ (n + 1); omega) (by show ¬(n + 1) % 16 = 0; omega) (by show 1 ≤ (n + 1); omega)).trans ?_
    rw [show (n + 1 + 1) * 256 = (n + 1) * 256 + 256 by omega, Finset.sum_range_add]
    exact congrArg₂ (· + ·) (ih (Nat.lt_of_succ_lt h) x) rfl

/-- The accumulated loss after grid point `n`: half the sum over the rows so far. -/
theorem accL_eq (c : Dev nD) : ∀ (n : ℕ) (h : n < cfg0.N) (x : S1x1.Idx),
    accL m c n h x = half * ∑ i ∈ Finset.range ((n + 1) * 256), lossN m c i := by
  intro n
  induction n with
  | zero =>
    intro h x
    refine (stepL_A m c ⟨0, h⟩ x (by show 0 % 16 = 0; omega) (by show ¬1 ≤ 0; omega) (by show 0 % 16 = 0; omega) (by show ¬1 ≤ 0; omega)).trans ?_
    simp only [Nat.zero_mul, Nat.zero_add, Nat.one_mul]
  | succ n ih =>
    intro h x
    have hN : n + 1 < 16 := h
    refine (stepL_B m c ⟨n + 1, h⟩ x (by show ¬(n + 1) % 16 = 0; omega) (by show 1 ≤ (n + 1); omega) (by show ¬(n + 1) % 16 = 0; omega) (by show 1 ≤ (n + 1); omega)).trans ?_
    rw [show (n + 1 + 1) * 256 = (n + 1) * 256 + 256 by omega, Finset.sum_range_add, half_add]
    exact congrArg₂ (· + ·) (ih (Nat.lt_of_succ_lt h) x) rfl

theorem cover4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  obtain ⟨t, ht⟩ : ∃ t : Fin cfg0.N, t.val = (i 0).val / 256 := ⟨⟨_, (by omega : (i 0).val / 256 < 16)⟩, rfl⟩
  refine ⟨t, flush0_4 t, Kit.in_whole (b := main_v0_1) <|
    Kit.in_blk i (win0_4.index t) 256 2048 rfl rfl rfl rfl ((idx_facts t).2.2.2.2.1) (by omega) (by omega)⟩

/-- The block that a grid point leaves in output 4. -/
theorem block4 (c : Dev nD) (t : Fin cfg0.N) (x : S256x2048.Idx) :
    ((outsAt0 m c t.val t.isLt).2.1 : S256x2048.Idx → EReal) x
      = Cert.RmsMath.dx (row (n := 256) (bk0 m c t) (x 0)) (row (n := 1) (bk1 m c t) 0)
        (ct (row (n := 256) (bk0 m c t) (x 0)) (row (n := 1) (bk1 m c t) 0) (row (n := 256) (bk2 m c t) (x 0))) (x 1) := by
  have hN : t.val < 16 := t.isLt
  by_cases hh : t.val = 0
  · have h0 : t.val % 16 = 0 := (by omega); have h1 : ¬1 ≤ t.val := (by omega); have h2 : t.val % 16 = 0 := (by omega); have h3 : ¬1 ≤ t.val := (by omega)
    rw [outsAt0_A m c t h0 h1 h2 h3]
    dsimp only
    exact (case_A ..).1 x
  · have h0 : ¬t.val % 16 = 0 := (by omega); have h1 : 1 ≤ t.val := (by omega); have h2 : ¬t.val % 16 = 0 := (by omega); have h3 : 1 ≤ t.val := (by omega)
    rw [outsAt0_B m c t h0 h1 h2 h3]
    dsimp only
    exact (case_B ..).1 x

/-- Output 4 after the run. -/
theorem out_eq4 (c : Dev nD) : (dats m 0 c).arrAt 4 cfg0.N = resX m c := by
  refine (dats m 0 c).arrAt_eq_of_cover 4 _ (fun t _ => ?_) cover4
  rw [Value.flushed4]
  funext x
  change S256x2048.Idx at x
  refine (block4 m c t x).trans ?_
  have hi := (idx_facts t).2.2.2.2.1
  refine blockX m c t x ((win0_4.rect t).idx x) ?_ (Fin.ext ?_)
  · show win0_4.index t 0 * 256 + 1 * (x 0).val = _; rw [hi.1]; omega
  · show win0_4.index t 1 * 2048 + 1 * (x 1).val = _; rw [hi.2]; omega

theorem cover5 (i : S4096x2048.Idx) : ∃ t : Fin cfg0.N, (cfg0.win 5).flush t = true ∧ i ∈ ((cfg0.win 5).blk t).view.set := by
  have h0 : (i 0).val < 4096 := (i 0).isLt
  have h1 : (i 1).val < 2048 := (i 1).isLt
  obtain ⟨t, ht⟩ : ∃ t : Fin cfg0.N, t.val = (i 0).val / 256 := ⟨⟨_, (by omega : (i 0).val / 256 < 16)⟩, rfl⟩
  refine ⟨t, flush0_5 t, Kit.in_whole (b := main_v0_2) <|
    Kit.in_blk i (win0_5.index t) 256 2048 rfl rfl rfl rfl ((idx_facts t).2.2.2.2.2.1) (by omega) (by omega)⟩

/-- The block that a grid point leaves in output 5. -/
theorem block5 (c : Dev nD) (t : Fin cfg0.N) (x : S256x2048.Idx) :
    ((outsAt0 m c t.val t.isLt).2.2.1 : S256x2048.Idx → EReal) x
      = Cert.RmsMath.dx (row (n := 256) (bk0 m c t) (x 0)) (row (n := 1) (bk1 m c t) 0)
        (ct (row (n := 256) (bk0 m c t) (x 0)) (row (n := 1) (bk1 m c t) 0) (row (n := 256) (bk2 m c t) (x 0))) (x 1) := by
  have hN : t.val < 16 := t.isLt
  by_cases hh : t.val = 0
  · have h0 : t.val % 16 = 0 := (by omega); have h1 : ¬1 ≤ t.val := (by omega); have h2 : t.val % 16 = 0 := (by omega); have h3 : ¬1 ≤ t.val := (by omega)
    rw [outsAt0_A m c t h0 h1 h2 h3]
    dsimp only
    exact (case_A ..).2.1 x
  · have h0 : ¬t.val % 16 = 0 := (by omega); have h1 : 1 ≤ t.val := (by omega); have h2 : ¬t.val % 16 = 0 := (by omega); have h3 : 1 ≤ t.val := (by omega)
    rw [outsAt0_B m c t h0 h1 h2 h3]
    dsimp only
    exact (case_B ..).2.1 x

/-- Output 5 after the run. -/
theorem out_eq5 (c : Dev nD) : (dats m 0 c).arrAt 5 cfg0.N = resX m c := by
  refine (dats m 0 c).arrAt_eq_of_cover 5 _ (fun t _ => ?_) cover5
  rw [Value.flushed5]
  funext x
  change S256x2048.Idx at x
  refine (block5 m c t x).trans ?_
  have hi := (idx_facts t).2.2.2.2.2.1
  refine blockX m c t x ((win0_5.rect t).idx x) ?_ (Fin.ext ?_)
  · show win0_5.index t 0 * 256 + 1 * (x 0).val = _; rw [hi.1]; omega
  · show win0_5.index t 1 * 2048 + 1 * (x 1).val = _; rw [hi.2]; omega

theorem cover6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  obtain ⟨t, ht⟩ : ∃ t : Fin cfg0.N, t.val = 15 := ⟨⟨15, (by omega : 15 < 16)⟩, rfl⟩
  refine ⟨t, (flush0_6 t).mpr (by omega), Kit.in_whole (b := main_v0_3) <|
    Kit.in_blk i (win0_6.index t) 1 2048 rfl rfl rfl rfl ((idx_facts t).2.2.2.2.2.2) (by omega) (by omega)⟩

theorem cover3 (i : S1x1.Idx) : ∃ t : Fin cfg0.N, (cfg0.win 3).flush t = true ∧ i ∈ ((cfg0.win 3).blk t).view.set := by
  have h0 : (i 0).val < 1 := (i 0).isLt
  have h1 : (i 1).val < 1 := (i 1).isLt
  obtain ⟨t, ht⟩ : ∃ t : Fin cfg0.N, t.val = 15 := ⟨⟨15, (by omega : 15 < 16)⟩, rfl⟩
  refine ⟨t, (flush0_3 t).mpr (by omega), Kit.in_whole (b := main_v0_0) <|
    Kit.in_blk i (win0_3.index t) 1 1 rfl rfl rfl rfl ((idx_facts t).2.2.2.1) (by omega) (by omega)⟩

/-- The gradient of the weight after the run. -/
theorem out_eq6 (c : Dev nD) : (dats m 0 c).arrAt 6 cfg0.N = resG m c := by
  refine (dats m 0 c).arrAt_eq_of_cover 6 _ (fun t hf => ?_) cover6
  have hf := (flush0_6 t).mp hf
  have hN : t.val < 16 := t.isLt
  rw [Value.flushed6]
  funext x
  change S1x2048.Idx at x
  show accG m c t.val t.isLt x = _
  rw [accG_eq m c t.val t.isLt x]
  show _ = resG m c ((win0_6.rect t).idx x)
  have hi := (idx_facts t).2.2.2.2.2.2
  have e1 : ((win0_6.rect t).idx x) 1 = x 1 := Fin.ext (by
    show win0_6.index t 1 * 2048 + 1 * (x 1).val = _; rw [hi.2]; omega)
  unfold resG
  rw [e1, show (t.val + 1) * 256 = 4096 by omega]

/-- The loss after the run. -/
theorem out_eq3 (c : Dev nD) : (dats m 0 c).arrAt 3 cfg0.N = resL m c := by
  refine (dats m 0 c).arrAt_eq_of_cover 3 _ (fun t hf => ?_) cover3
  have hf := (flush0_3 t).mp hf
  have hN : t.val < 16 := t.isLt
  rw [Value.flushed3]
  funext x
  change S1x1.Idx at x
  show accL m c t.val t.isLt x = _
  rw [accL_eq m c t.val t.isLt x, show (t.val + 1) * 256 = 4096 by omega]
  rfl

/-! ## The reference -/

open Cert.Reference22Ideal.Read in
/-- The reference's result 0, entry by entry. -/
theorem ref0 (x0 : FVec Ideal Cert.Reference22Ideal.S4096x2048 .f32) (x1 : FVec Ideal Cert.Reference22Ideal.S1x2048 .f32) (x2 : FVec Ideal Cert.Reference22Ideal.S4096x2048 .f32) (y : S1x1.Idx) :
    ((val_main_v49 (F := Ideal) x0 x1 x2 : FVec Ideal S1x1 .f32) y : EReal) = half * ∑ r : Fin 4096, meanErr (row (n := 4096) x0 r) (row (n := 1) x1 0) (row (n := 4096) x2 r) := by
  unfold val_main_v49 val_main_v23 val_main_cst_7 val_main_v22 val_main_cst_6 val_main_v21 val_main_v20 val_main_cst_5 val_main_v19 val_main_cst_4 val_main_v16 val_main_v15 val_main_v14 val_main_v13 val_main_v12 val_main_v11 val_main_v7 val_main_v6 val_main_v5 val_main_cst_1 val_main_v4 val_main_v3 val_main_cst_0 val_main_v2 val_main_v1 val_main_cst val_main_v0
    meanErr err half Cert.RmsMath.scale Cert.RmsMath.meanSq row
  pointwise

open Cert.Reference22Ideal.Read in
/-- The reference's result 1, entry by entry. -/
theorem ref1 (x0 : FVec Ideal Cert.Reference22Ideal.S4096x2048 .f32) (x1 : FVec Ideal Cert.Reference22Ideal.S1x2048 .f32) (x2 : FVec Ideal Cert.Reference22Ideal.S4096x2048 .f32) (y : S4096x2048.Idx) :
    ((val_main_v48 (F := Ideal) x0 x1 x2 : FVec Ideal S4096x2048 .f32) y : EReal) = Cert.RmsMath.dx (row (n := 4096) x0 (y 0)) (row (n := 1) x1 0) (ct (row (n := 4096) x0 (y 0)) (row (n := 1) x1 0) (row (n := 4096) x2 (y 0))) (y 1) := by
  have e : ix2 (y 0) (y 1) = y := funext fun a => by fin_cases a <;> rfl
  unfold val_main_v48 val_main_v47 val_main_v46 val_main_v45 val_main_v44 val_main_v43 val_main_cst_14 val_main_v42 val_main_v41 val_main_cst_13 val_main_v40 val_main_v39 val_main_v38 val_main_v37 val_main_v36 val_main_cst_12 val_main_v35 val_main_v34 val_main_v33 val_main_v29 val_main_v28 val_main_v27 val_main_v26 val_main_cst_10 val_main_v25 val_main_v24 val_main_cst_9 val_main_cst_8 val_main_v18 val_main_v17 val_main_cst_3 val_main_v15 val_main_v14 val_main_v13 val_main_v12 val_main_v11 val_main_v10 val_main_v9 val_main_cst_2 val_main_v8 val_main_v7 val_main_v6 val_main_v5 val_main_cst_1 val_main_v4 val_main_v3 val_main_cst_0 val_main_v2 val_main_v1 val_main_cst val_main_v0
    ct err Cert.RmsMath.dx Cert.RmsMath.pull Cert.RmsMath.scale Cert.RmsMath.meanSq row
  pointwise
  simp only [Fin.sum_univ_one, e, ct_ref]

open Cert.Reference22Ideal.Read in
/-- The reference's result 2, entry by entry. -/
theorem ref2 (x0 : FVec Ideal Cert.Reference22Ideal.S4096x2048 .f32) (x1 : FVec Ideal Cert.Reference22Ideal.S1x2048 .f32) (x2 : FVec Ideal Cert.Reference22Ideal.S4096x2048 .f32) (y : S4096x2048.Idx) :
    ((val_main_v50 (F := Ideal) x0 x1 x2 : FVec Ideal S4096x2048 .bf16) y : EReal) = Cert.RmsMath.dx (row (n := 4096) x0 (y 0)) (row (n := 1) x1 0) (ct (row (n := 4096) x0 (y 0)) (row (n := 1) x1 0) (row (n := 4096) x2 (y 0))) (y 1) := by
  have e : ix2 (y 0) (y 1) = y := funext fun a => by fin_cases a <;> rfl
  unfold val_main_v50 val_main_v48 val_main_v47 val_main_v46 val_main_v45 val_main_v44 val_main_v43 val_main_cst_14 val_main_v42 val_main_v41 val_main_cst_13 val_main_v40 val_main_v39 val_main_v38 val_main_v37 val_main_v36 val_main_cst_12 val_main_v35 val_main_v34 val_main_v33 val_main_v29 val_main_v28 val_main_v27 val_main_v26 val_main_cst_10 val_main_v25 val_main_v24 val_main_cst_9 val_main_cst_8 val_main_v18 val_main_v17 val_main_cst_3 val_main_v15 val_main_v14 val_main_v13 val_main_v12 val_main_v11 val_main_v10 val_main_v9 val_main_cst_2 val_main_v8 val_main_v7 val_main_v6 val_main_v5 val_main_cst_1 val_main_v4 val_main_v3 val_main_cst_0 val_main_v2 val_main_v1 val_main_cst val_main_v0
    ct err Cert.RmsMath.dx Cert.RmsMath.pull Cert.RmsMath.scale Cert.RmsMath.meanSq row
  pointwise
  simp only [Fin.sum_univ_one, e, ct_ref]

open Cert.Reference22Ideal.Read in
/-- The reference's result 3, entry by entry. -/
theorem ref3 (x0 : FVec Ideal Cert.Reference22Ideal.S4096x2048 .f32) (x1 : FVec Ideal Cert.Reference22Ideal.S1x2048 .f32) (x2 : FVec Ideal Cert.Reference22Ideal.S4096x2048 .f32) (y : S1x2048.Idx) :
    ((val_main_v32 (F := Ideal) x0 x1 x2 : FVec Ideal S1x2048 .f32) y : EReal) = ∑ r : Fin 4096, Cert.RmsMath.dg (row (n := 4096) x0 r) (ct (row (n := 4096) x0 r) (row (n := 1) x1 0) (row (n := 4096) x2 r)) (y 1) := by
  unfold val_main_v32 val_main_v31 val_main_cst_11 val_main_v30 val_main_v29 val_main_v28 val_main_v27 val_main_v26 val_main_cst_10 val_main_v25 val_main_v24 val_main_cst_9 val_main_cst_8 val_main_v18 val_main_v17 val_main_cst_3 val_main_v15 val_main_v14 val_main_v13 val_main_v12 val_main_v11 val_main_v7 val_main_v6 val_main_v5 val_main_cst_1 val_main_v4 val_main_v3 val_main_cst_0 val_main_v2 val_main_v1 val_main_cst val_main_v0
    ct err Cert.RmsMath.dg Cert.RmsMath.scale Cert.RmsMath.meanSq row
  pointwise
  simp only [ct_ref]

/-- The reference's frame: it terminates and leaves its arguments as they were. -/
theorem frame_reference : @Cert.quiescent_Reference22Ideal Cert.Reference22Ideal.Gen.facts := fun m ρ _ =>
  (θ_run Cert.Reference22Ideal.defs _ _).mono (fun r h => ⟨fun c => (h c).2.2.2.2,
      sem_eq_zero_of_no_sems (by decide) r.2⟩)
    (Cert.Reference22Ideal.Value.run m ρ)

theorem resX_ref (c : Dev nD) (y : S4096x2048.Idx) :
    Cert.RmsMath.dx (row (n := 4096) (arg0 m c) (y 0)) (row (n := 1) (arg1 m c) 0)
        (ct (row (n := 4096) (arg0 m c) (y 0)) (row (n := 1) (arg1 m c) 0) (row (n := 4096) (arg2 m c) (y 0))) (y 1) = resX m c y := by
  unfold resX ctN
  rw [rowN_of (arg0 m c) (y 0), rowN_of (arg2 m c) (y 0)]

theorem resG_ref (c : Dev nD) (y : S1x2048.Idx) :
    ∑ r : Fin 4096, Cert.RmsMath.dg (row (n := 4096) (arg0 m c) r)
        (ct (row (n := 4096) (arg0 m c) r) (row (n := 1) (arg1 m c) 0) (row (n := 4096) (arg2 m c) r)) (y 1) = resG m c y :=
  sum_fin 4096 (fun i => term m c (y 1) i) _ fun r => by rw [rowN_of (arg0 m c) r, rowN_of (arg2 m c) r]; rfl

theorem resL_ref (c : Dev nD) (y : S1x1.Idx) :
    half * ∑ r : Fin 4096, meanErr (row (n := 4096) (arg0 m c) r) (row (n := 1) (arg1 m c) 0) (row (n := 4096) (arg2 m c) r)
      = resL m c y :=
  congrArg (fun s => half * s) (sum_fin 4096 (fun i => lossN m c i) _ fun r => by
    rw [rowN_of (arg0 m c) r, rowN_of (arg2 m c) r]; rfl)

/-- The kernel and the reference compute the same loss and the same gradients over the extended reals. -/
theorem algebraic : @Cert.algebraic_Kernel22Ideal_Reference22Ideal Cert.Kernel22Ideal.Gen.facts Cert.Reference22Ideal.Gen.facts := by
  intro m g m' g' _ hargs
  refine ⟨fun c => (dats m 0 c).arrAt 3 cfg0.N, fun c => (dats m 0 c).arrAt 4 cfg0.N, fun c => (dats m 0 c).arrAt 5 cfg0.N,
    fun c => (dats m 0 c).arrAt 6 cfg0.N, Value.run_blocks m g, ?_⟩
  refine (θ_run Cert.Reference22Ideal.defs _ _).mono (fun r h c => ?_) (Cert.Reference22Ideal.Value.run m' g')
  obtain ⟨a0, a1, a2⟩ := hargs c
  obtain ⟨h0, h1, h2, h3, k0, k1, k2⟩ := h c
  refine ⟨h0.trans ?_, h1.trans ?_, h2.trans ?_, h3.trans ?_, k0, k1, k2⟩
  · refine Eq.trans ?_ (out_eq3 m c).symm
    rw [a0, a1, a2]
    refine (Cert.Reference22Ideal.Read.val_main_v49_eq _ _ _).trans ?_
    funext y
    exact (ref0 _ _ _ y).trans (resL_ref m c y)
  · refine Eq.trans ?_ (out_eq4 m c).symm
    refine (Cert.Reference22Ideal.Read.val_main_v48_eq m' c).trans ?_
    rw [a0, a1, a2]
    funext y
    exact (ref1 _ _ _ y).trans (resX_ref m c y)
  · refine Eq.trans ?_ (out_eq5 m c).symm
    refine (Cert.Reference22Ideal.Read.val_main_v50_eq m' c).trans ?_
    rw [a0, a1, a2]
    funext y
    exact (ref2 _ _ _ y).trans (resX_ref m c y)
  · refine Eq.trans ?_ (out_eq6 m c).symm
    rw [a0, a1, a2]
    refine (Cert.Reference22Ideal.Read.val_main_v32_eq _ _ _).trans ?_
    funext y
    exact (ref3 _ _ _ y).trans (resG_ref m c y)

end Cert.Kernel22Ideal.Own

end
-- ==== Proof.ShardMath.lean ====
module

public import proofs.«01_k».proof.Proof.AdamMath
public import Idealize.ShloMosaic.Lib.IdealHost
public import Idealize.ShloMosaic.Lib.Pointwise
public import Idealize.ShloMosaic.Lib.Pipeline.Value

/-!
# The parts of a gradient that the eight devices hand to one

The device with number `me` adds its own part and those of the others in the order `me`, `me xor 1`, …, `me xor 7`. Each
of the eight numbers comes up once, so the sum is that over all the devices.
-/

@[expose] public section

noncomputable section

namespace Cert.ShardMath

open Idealize.ShloMosaic

/-- A word below eight, changed in its last three bits, is below eight. -/
theorem xor_lt (w k : BitVec 32) (hw : w.toNat < 8) (hk : k.toNat < 8) : (w ^^^ k).toNat < 8 := by
  rw [BitVec.toNat_xor]
  exact Nat.xor_lt_two_pow (n := 3) hw hk

/-- A word that is not negative and less than eight, both as signed numbers, is a number below eight. -/
theorem below_eight (v : BitVec 32) (e : (BitVec.ofBool ((0#32).sle v)) &&& (BitVec.ofBool (v.slt 8#32)) = 1#1) :
    v.toNat < 8 := by
  have h1 : (0#32).sle v = true := by
    by_contra h
    rw [Bool.not_eq_true] at h
    rw [h] at e
    revert e
    cases v.slt 8#32 <;> decide
  have h2 : v.slt 8#32 = true := by
    by_contra h
    rw [Bool.not_eq_true] at h
    rw [h] at e
    revert e
    cases (0#32).sle v <;> decide
  simp only [BitVec.sle, BitVec.slt, decide_eq_true_eq] at h1 h2
  rw [show (0#32).toInt = 0 from by decide, BitVec.toInt_eq_toNat_cond] at h1
  rw [show (8#32).toInt = 8 from by decide, BitVec.toInt_eq_toNat_cond] at h2
  have := v.isLt
  split at h1 <;> omega

/-- The sum in the kernel's order is the sum over the devices, each device's part taken from where it lies. -/
theorem sum_parts (w : BitVec 32) (hw : w.toNat < 8) (a b : ℕ → EReal) :
    a (w ^^^ 0#32).toNat + b (w ^^^ 1#32).toNat + b (w ^^^ 2#32).toNat + b (w ^^^ 3#32).toNat + b (w ^^^ 4#32).toNat
        + b (w ^^^ 5#32).toNat + b (w ^^^ 6#32).toNat + b (w ^^^ 7#32).toNat
      = ∑ d : Fin 8, if d.val = w.toNat then a d.val else b d.val := by
  obtain ⟨n, hn, rfl⟩ : ∃ n : ℕ, n < 8 ∧ w = BitVec.ofNat 32 n := ⟨w.toNat, hw, by simp⟩
  rw [Fin.sum_univ_eight]
  interval_cases n <;> simp <;> abel

/-- The entry of an array with three axes at three natural numbers; zero outside the array. -/
def rd3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

/-- An entry of an array, by the values of its three coordinates. -/
theorem rd3_of {a b c : ℕ} (A : (⟨3, ![a, b, c]⟩ : Shape).Idx → EReal) (y : (⟨3, ![a, b, c]⟩ : Shape).Idx) (i j k : ℕ)
    (h0 : (y 0).val = i) (h1 : (y 1).val = j) (h2 : (y 2).val = k) : A y = rd3 A i j k := by
  subst h0; subst h1; subst h2
  have e : (y 0).val < a ∧ (y 1).val < b ∧ (y 2).val < c := ⟨(y 0).isLt, (y 1).isLt, (y 2).isLt⟩
  unfold rd3
  rw [dif_pos e]
  refine congrArg A (funext fun d => ?_)
  match d with
  | ⟨0, _⟩ => rfl
  | ⟨1, _⟩ => rfl
  | ⟨2, _⟩ => rfl

/-- An entry, written with the numbers of its coordinates. -/
theorem rd3_at {a b c : ℕ} (A : (⟨3, ![a, b, c]⟩ : Shape).Idx → EReal) (i : Fin a) (j : Fin b) (k : Fin c) :
    A (ix3 i j k) = rd3 A i.val j.val k.val := rd3_of A _ _ _ _ rfl rfl rfl

/-- An index of an array with three axes, by its coordinates. -/
theorem ix3_eta {a b c : ℕ} (y : (⟨3, ![a, b, c]⟩ : Shape).Idx) : y = ix3 (y 0) (y 1) (y 2) := by
  funext d
  match d with
  | ⟨0, _⟩ => rfl
  | ⟨1, _⟩ => rfl
  | ⟨2, _⟩ => rfl

/-- The gradient of one entry from the eight parts: device `w`'s own part and the others' as they landed. -/
def grad {R C : ℕ} (w : ℕ) (own land : (⟨3, ![8, R, C]⟩ : Shape).Idx → EReal) (i j : ℕ) : EReal :=
  ∑ d : Fin 8, if d.val = w then rd3 own d.val i j else rd3 land d.val i j

/-- The choice between a device's own part and what landed, by the device's number. -/
theorem pick (w : BitVec 32) (d : Fin 8) (a b : EReal) :
    Scalar.select (IntOp.cmpi .eq (BitVec.ofNat 32 d.val) w) a b = if d.val = w.toNat then a else b := by
  have e : (BitVec.ofNat 32 d.val).toNat = d.val := by
    rw [BitVec.toNat_ofNat]; exact Nat.mod_eq_of_lt (by omega)
  by_cases h : d.val = w.toNat
  · have hw : BitVec.ofNat 32 d.val = w := BitVec.eq_of_toNat_eq (e.trans h)
    rw [if_pos h, hw]
    simp [Scalar.select, IntOp.cmpi]
  · have hw : BitVec.ofNat 32 d.val ≠ w := fun c => h (by rw [← c, e])
    rw [if_neg h]
    simp [Scalar.select, IntOp.cmpi, beq_eq_false_iff_ne.mpr hw]

/-- The sum with the own part picked out of eight is the gradient. -/
theorem grad_pick {R C : ℕ} (w : BitVec 32) (own land : (⟨3, ![8, R, C]⟩ : Shape).Idx → EReal) (i : Fin R) (j : Fin C) :
    ∑ d : Fin 8, Scalar.select (IntOp.cmpi .eq (BitVec.ofNat 32 d.val) w) (own (ix3 d i j)) (land (ix3 d i j))
      = grad w.toNat own land i.val j.val := by
  unfold grad
  refine Finset.sum_congr rfl fun d _ => ?_
  rw [pick, rd3_at own d i j, rd3_at land d i j]

/-- An array of two halves: the first is new, the second is that of an earlier array. -/
theorem half {R C : ℕ} (A : (⟨3, ![2, R, C]⟩ : Shape).Idx → EReal) (y : (⟨3, ![2, R, C]⟩ : Shape).Idx) {a b : EReal} (e : a = b) :
    (if _ : (y 0).val < 1 then a else A (ix3 1 (y 1) (y 2))) = if (y 0).val = 0 then b else A y := by
  subst e
  have hy : (y 0).val < 2 := (y 0).isLt
  by_cases h : (y 0).val = 0
  · rw [if_pos h, dif_pos (by omega)]
  · rw [if_neg h, dif_neg (by omega)]
    refine congrArg A (funext fun d => ?_)
    match d with
    | ⟨0, _⟩ => exact Fin.ext (by show 1 = (y 0).val; omega)
    | ⟨1, _⟩ => rfl
    | ⟨2, _⟩ => rfl

/-- An array read at the block that an index map names, at an entry of the block. -/
theorem blk_val {n R C : ℕ} (A : (⟨3, ![n, R, C]⟩ : Shape).Idx → EReal) {bR bC : ℕ} (I : Fin 3 → ℕ) (y : (⟨3, ![n, R, C]⟩ : Shape).Idx)
    (p q : ℕ) {a r s : ℕ} (h0 : (y 0).val = I 0 * 1 + 1 * 0) (h1 : (y 1).val = I 1 * bR + 1 * p) (h2 : (y 2).val = I 2 * bC + 1 * q)
    (e0 : I 0 = a) (e1 : I 1 * bR + 1 * p = r) (e2 : I 2 * bC + 1 * q = s) : A y = rd3 A a r s :=
  rd3_of A y a r s (h0.trans (by omega)) (h1.trans e1) (h2.trans e2)

/-- An array of two halves: the first is given by a function, the second is that of an earlier array. -/
def half2 {R C : ℕ} (f : ℕ → ℕ → EReal) (A : (⟨3, ![2, R, C]⟩ : Shape).Idx → EReal) : (⟨3, ![2, R, C]⟩ : Shape).Idx → EReal :=
  fun y => if (y 0).val = 0 then f (y 1).val (y 2).val else A y

/-- Its first half. -/
theorem half2_pos {R C : ℕ} (f : ℕ → ℕ → EReal) (A : (⟨3, ![2, R, C]⟩ : Shape).Idx → EReal) (y : (⟨3, ![2, R, C]⟩ : Shape).Idx) {i j : ℕ}
    (h : (y 0).val = 0 ∧ (y 1).val = i ∧ (y 2).val = j) : half2 f A y = f i j := by
  unfold half2
  rw [if_pos h.1, h.2.1, h.2.2]

/-- Its second half. -/
theorem half2_neg {R C : ℕ} (f : ℕ → ℕ → EReal) (A : (⟨3, ![2, R, C]⟩ : Shape).Idx → EReal) (y : (⟨3, ![2, R, C]⟩ : Shape).Idx)
    (h : ¬ (y 0).val = 0) : A y = half2 f A y := (if_neg h).symm

/-- The two halves, put together. -/
theorem half2_eq {R C : ℕ} (f : ℕ → ℕ → EReal) (A : (⟨3, ![2, R, C]⟩ : Shape).Idx → EReal) (y : (⟨3, ![2, R, C]⟩ : Shape).Idx) {a : EReal}
    (e : a = f (y 1).val (y 2).val) : (if _ : (y 0).val < 1 then a else A (ix3 1 (y 1) (y 2))) = half2 f A y := half A y e

/-- An entry that is written where a condition holds, and was right before where it doesn't. -/
theorem settle {X R A : EReal} {P Q : Prop} [Decidable P] (h : X = if P then R else A) (hP : Q → P) (hA : ¬ Q → A = R) : X = R := by
  by_cases p : P
  · rw [h, if_pos p]
  · rw [h, if_neg p, hA fun q => p (hP q)]

/-- Layer 0's step on whole arrays: the change of the weight, and the two moments. -/
def stepW {R C : ℕ} (γ : ℕ → ℕ → EReal) (w m v : (⟨3, ![2, R, C]⟩ : Shape).Idx → EReal) (i j : ℕ) : EReal :=
  AdamMath.delta (γ i j) (rd3 w 0 i j) (rd3 m 0 i j) (rd3 v 0 i j)
def stepM {R C : ℕ} (γ : ℕ → ℕ → EReal) (m : (⟨3, ![2, R, C]⟩ : Shape).Idx → EReal) (i j : ℕ) : EReal := AdamMath.newM (γ i j) (rd3 m 0 i j)
def stepV {R C : ℕ} (γ : ℕ → ℕ → EReal) (v : (⟨3, ![2, R, C]⟩ : Shape).Idx → EReal) (i j : ℕ) : EReal := AdamMath.newV (γ i j) (rd3 v 0 i j)

end Cert.ShardMath

end
-- ==== Proof.ShardOut.lean ====
module

public import proofs.«01_k».proof.Proof.Kit
public import proofs.«01_k».proof.Proof.Gen.Kernel23Ideal.Frame
public import proofs.«01_k».proof.Proof.Gen.Reference23Ideal.Read
public import proofs.«01_k».proof.Proof.AdamMath
public import proofs.«01_k».proof.Proof.ShardMath
public import proofs.«01_k».proof.Proof.Gen.Pre_device23
public import proofs.«01_k».proof.Proof.Gen.Kernel23.Frame

/-!
# The optimiser of the output projection

The gradient is cut over the eight devices; the other devices' parts of this device's share have landed in an array of
eight. At each step the kernel adds the eight parts of a block one by one, its own first, and makes the AdamW step of layer
0; layer 1's half of the results stays as an earlier call left it. The reference takes the sum over the devices.
-/

@[expose] public section

noncomputable section

namespace Cert.Kernel23Ideal.Own

open Cert.Kernel23Ideal Cert.Kernel23Ideal.Gen Idealize.ShloMosaic Idealize.ShloMosaic.TcCoe Idealize.SL.Sem Cert.AdamMath Cert.ShardMath
open Idealize.ShloMosaic.Pipeline (Dat)

theorem hz : (![0, 0, 0] : Fin 3 → Nat) = fun _ => 0 := funext fun a => by fin_cases a <;> rfl

/-! ## The number of the device, and where the blocks lie -/

/-- The only index of the array that holds the number. -/
noncomputable def z : S1.Idx := fun a => ⟨0, by fin_cases a; decide⟩

/-- What the precondition says of the device's number: it is below eight. -/
theorem num_lt {F : FTy → Type} [FloatOps F] (a0 a1 : FVec F S8x256x2048 .bf16) (w : IVec S1 32) (a3 a4 a5 a6 a7 a8 a9 : FVec F S2x256x2048 .f32)
    (h : @Cert.Pre_device23.fn Cert.Pre_device23.Gen.facts F _ a0 a1 w a3 a4 a5 a6 a7 a8 a9 = fun _ => 1#1) : (w z).toNat < 8 := by
  have e := congrFun h z
  unfold Cert.Pre_device23.fn at e
  exact below_eight (w z) e

section

variable {F : FTy → Type} [FloatOps F] (m : (ℓ : Loc nD τ sig) → Buf (Elt F) ℓ)

/-- The device's number. -/
noncomputable def num (c : Dev nD) : BitVec 32 := (m ((c : Thread nD τ).loc main_arg2) : S1.Idx → BitVec 32) z

/-- The number as the index maps read it. -/
theorem tbl_num : (tbl m).at 0 (Rect.unit (s := S1) ![0] S1.size inb_S1_S1_0) numel1_S1 = num m 0 := by
  have e : tbl m 0 = m (((0 : Dev nD) : Thread nD τ).loc main_arg2) := V_main_arg2 m 0
  unfold num
  rw [← e]
  exact congrArg (tbl m 0) (funext fun a => by fin_cases a; exact Subsingleton.elim (α := Fin 1) _ _)

/-- A block of one device's part lies inside the array. -/
theorem fits (w k : BitVec 32) (hw : w.toNat < 8) (hk : k.toNat < 8) (i : grid0.Coords) :
    ∀ a : Fin 3, ((![(w ^^^ k).toNat, (BitVec.ofNat 32 (i 0).val).toNat, (0#32).toNat] : Fin 3 → ℕ) a + 1) * S1x256x2048.size a ≤ S8x256x2048.size a := by
  have h := xor_lt w k hw hk
  have hi : (i 0).val < 1 := (i 0).isLt
  have e : (BitVec.ofNat 32 (i 0).val).toNat = (i 0).val := by simp; omega
  intro a
  match a with
  | ⟨0, _⟩ => show ((w ^^^ k).toNat + 1) * 1 ≤ 8; omega
  | ⟨1, _⟩ => show ((BitVec.ofNat 32 (i 0).val).toNat + 1) * 256 ≤ 256; rw [e]; omega
  | ⟨2, _⟩ => show ((0#32).toNat + 1) * 2048 ≤ 2048; decide

/-- A block of one device's part is whole words. -/
theorem words (ix : Fin 3 → ℕ) (h : ∀ a : Fin 3, (ix a + 1) * S1x256x2048.size a ≤ S8x256x2048.size a) :
    (Rect.block (s := S8x256x2048) S1x256x2048.size ix h).WholeWords (EltTy.packing .bf16) :=
  Or.inl (Or.inr ⟨(by decide : 2 ≤ 3), rfl, Or.inl (by show 2 ∣ ix 1 * 256 ∧ 2 ∣ 256; omega)⟩)

/-- The kernel's blocks lie inside the arrays if the number is below eight. -/
theorem ok_of (h : (num m 0).toNat < 8) : Ok m := by
  have e := tbl_num m
  have key : ∀ k : BitVec 32, k.toNat < 8 → ∀ i : grid0.Coords, _ := fun k hk i =>
    fits ((tbl m).at 0 (Rect.unit (s := S1) ![0] S1.size inb_S1_S1_0) numel1_S1) k (by rw [e]; exact h) hk i
  exact ⟨fun i => ⟨key 0#32 (by decide) i, Or.inr (words _ _)⟩, fun i => ⟨key 1#32 (by decide) i, Or.inr (words _ _)⟩, fun i => ⟨key 2#32 (by decide) i, Or.inr (words _ _)⟩, fun i => ⟨key 3#32 (by decide) i, Or.inr (words _ _)⟩, fun i => ⟨key 4#32 (by decide) i, Or.inr (words _ _)⟩, fun i => ⟨key 5#32 (by decide) i, Or.inr (words _ _)⟩, fun i => ⟨key 6#32 (by decide) i, Or.inr (words _ _)⟩, fun i => ⟨key 7#32 (by decide) i, Or.inr (words _ _)⟩⟩

end

/-! ## What a grid point leaves -/

/-- The four blocks that the body leaves, entry by entry: the gradient, the change of the weight, the two moments. -/
theorem body {c : Dev nD} {i : grid0.Coords} {arg2 arg3 arg4 arg5 arg6 arg7 arg8 arg9 : Memref sig .tc .vmem S1x256x2048 .bf16} {arg10 arg11 arg12 arg17 arg18 arg19 arg20 : Memref sig .tc .vmem S1x256x2048 .f32}
    {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg17 : arg17.IsWhole} {harg18 : arg18.IsWhole} {harg19 : arg19.IsWhole} {harg20 : arg20.IsWhole}
    {x0 x1 x2 x3 x4 x5 x6 x7 : Vec Ideal S1x256x2048 .bf16} {x8 x9 x10 : Vec Ideal S1x256x2048 .f32} {xt0 : TbBuf0 (F := Ideal) c tbM0_0} {p : Fin 256} {q : Fin 2048} {R} (hR : R = kernelRun0_A (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 x0 x1 x2 x3 x4 x5 x6 x7 x8 x9 x10 xt0) :
    let g : EReal := x0 (ix3 0 p q) + x1 (ix3 0 p q) + x2 (ix3 0 p q) + x3 (ix3 0 p q) + x4 (ix3 0 p q) + x5 (ix3 0 p q) + x6 (ix3 0 p q) + x7 (ix3 0 p q)
    (VO0_11.read (Elt Ideal) (VO0_11.writes (Elt Ideal) VO0_11.junk R.1) : S1x256x2048.Idx → EReal) (ix3 0 p q) = g ∧
    (VO0_12.read (Elt Ideal) (VO0_12.writes (Elt Ideal) VO0_12.junk R.2.1) : S1x256x2048.Idx → EReal) (ix3 0 p q) = delta g (x8 (ix3 0 p q)) (x9 (ix3 0 p q)) (x10 (ix3 0 p q)) ∧
    (VO0_13.read (Elt Ideal) (VO0_13.writes (Elt Ideal) VO0_13.junk R.2.2.1) : S1x256x2048.Idx → EReal) (ix3 0 p q) = newM g (x9 (ix3 0 p q)) ∧
    (VO0_14.read (Elt Ideal) (VO0_14.writes (Elt Ideal) VO0_14.junk R.2.2.2.1) : S1x256x2048.Idx → EReal) (ix3 0 p q) = newV g (x10 (ix3 0 p q)) := by
  subst hR
  refine ⟨?_, ?_, ?_, ?_⟩
  all_goals
    rw [View.read_writes_eq_canon]
    swap
    · intro _
      first | exact cover0_A_11 .. | exact cover0_A_12 .. | exact cover0_A_13 .. | exact cover0_A_14 ..
    unfold kernelRun0_A
    dsimp only
    sl_unfold_words
    rw [View.canon_unit_zero hz]
    simp (discharger := assumption) only [View.readAt_eq_ld, Memref.IsWhole.read_unread, View.ld_unit_zero (S := S1x256x2048) hz]
  · unfold k0_pay6 k0_pay3
    pointwise
  · unfold k0_pay7 k0_pay4 k0_pay5 k0_pay3 delta newM newV
    pointwise
  · unfold k0_pay1 k0_pay4 k0_pay3 newM
    pointwise
  · unfold k0_pay2 k0_pay5 k0_pay3 newV
    pointwise

variable (m : (ℓ : Loc nD τ sig) → Buf (Elt Ideal) ℓ) (hO : Ok m) (c : Dev nD) (t : Fin (cfgM m hO).N) (p : Fin 256) (q : Fin 2048)

/-- The blocks that a grid point reads. -/
def bk0 : FVec Ideal S1x256x2048 .bf16 := iblk m hO c 0 t
def bk1 : FVec Ideal S1x256x2048 .bf16 := iblk m hO c 1 t
def bk2 : FVec Ideal S1x256x2048 .bf16 := iblk m hO c 2 t
def bk3 : FVec Ideal S1x256x2048 .bf16 := iblk m hO c 3 t
def bk4 : FVec Ideal S1x256x2048 .bf16 := iblk m hO c 4 t
def bk5 : FVec Ideal S1x256x2048 .bf16 := iblk m hO c 5 t
def bk6 : FVec Ideal S1x256x2048 .bf16 := iblk m hO c 6 t
def bk7 : FVec Ideal S1x256x2048 .bf16 := iblk m hO c 7 t
def bk8 : FVec Ideal S1x256x2048 .f32 := iblk m hO c 8 t
def bk9 : FVec Ideal S1x256x2048 .f32 := iblk m hO c 9 t
def bk10 : FVec Ideal S1x256x2048 .f32 := iblk m hO c 10 t

/-- The sum of the eight parts at an entry of a block. -/
def sum8 (y : S1x256x2048.Idx) : EReal := bk0 m hO c t y + bk1 m hO c t y + bk2 m hO c t y + bk3 m hO c t y + bk4 m hO c t y + bk5 m hO c t y + bk6 m hO c t y + bk7 m hO c t y

/-- The four blocks that a grid point leaves, entry by entry: the gradient, the change of the weight, the two moments. -/
theorem left : ((outsAt0 m hO c t).1 : S1x256x2048.Idx → EReal) (ix3 0 p q) = (sum8 m hO c t (ix3 0 p q)) ∧
    ((outsAt0 m hO c t).2.1 : S1x256x2048.Idx → EReal) (ix3 0 p q) = delta (sum8 m hO c t (ix3 0 p q)) (bk8 m hO c t (ix3 0 p q)) (bk9 m hO c t (ix3 0 p q)) (bk10 m hO c t (ix3 0 p q)) ∧
    ((outsAt0 m hO c t).2.2.1 : S1x256x2048.Idx → EReal) (ix3 0 p q) = newM (sum8 m hO c t (ix3 0 p q)) (bk9 m hO c t (ix3 0 p q)) ∧
    ((outsAt0 m hO c t).2.2.2 : S1x256x2048.Idx → EReal) (ix3 0 p q) = newV (sum8 m hO c t (ix3 0 p q)) (bk10 m hO c t (ix3 0 p q)) := by
  unfold outsAt0 out0_A_11 out0_A_12 out0_A_13 out0_A_14
  dsimp only
  exact body (p := p) (q := q) (x0 := bk0 m hO c t) (x1 := bk1 m hO c t) (x2 := bk2 m hO c t) (x3 := bk3 m hO c t) (x4 := bk4 m hO c t) (x5 := bk5 m hO c t) (x6 := bk6 m hO c t) (x7 := bk7 m hO c t) (x8 := bk8 m hO c t) (x9 := bk9 m hO c t) (x10 := bk10 m hO c t) rfl

/-! ## The blocks of the arguments -/

/-- The coordinate of a grid point. -/
theorem crd : ∀ t : Fin grid0.N, (BitVec.ofNat 32 (grid0.coords t 0).val).toNat = t.val := by decide +kernel

/-- The row of the array at a row of the block. -/
abbrev rw0 (t p : ℕ) : ℕ := t * 256 + p
/-- The column of the array at a column of the block. -/
abbrev cl0 (t q : ℕ) : ℕ := 0 * 2048 + q

theorem row_eq (t : Fin grid0.N) (p : ℕ) : (BitVec.ofNat 32 (grid0.coords t 0).val).toNat * 256 + 1 * p = rw0 t.val p := by rw [crd t]; unfold rw0; omega
theorem col_eq (t : Fin grid0.N) (q : ℕ) : (0#32).toNat * 2048 + 1 * q = cl0 t.val q := by unfold cl0; simp

/-- The arguments as arrays with three axes. -/
abbrev own : (⟨3, ![8, 256, 2048]⟩ : Shape).Idx → EReal := m ((c : Thread nD τ).loc main_arg0)
abbrev land : (⟨3, ![8, 256, 2048]⟩ : Shape).Idx → EReal := m ((c : Thread nD τ).loc main_arg1)
abbrev arg3 : (⟨3, ![2, 256, 2048]⟩ : Shape).Idx → EReal := m ((c : Thread nD τ).loc main_arg3)
abbrev arg4 : (⟨3, ![2, 256, 2048]⟩ : Shape).Idx → EReal := m ((c : Thread nD τ).loc main_arg4)
abbrev arg5 : (⟨3, ![2, 256, 2048]⟩ : Shape).Idx → EReal := m ((c : Thread nD τ).loc main_arg5)
abbrev arg6 : (⟨3, ![2, 256, 2048]⟩ : Shape).Idx → EReal := m ((c : Thread nD τ).loc main_arg6)
abbrev arg7 : (⟨3, ![2, 256, 2048]⟩ : Shape).Idx → EReal := m ((c : Thread nD τ).loc main_arg7)
abbrev arg8 : (⟨3, ![2, 256, 2048]⟩ : Shape).Idx → EReal := m ((c : Thread nD τ).loc main_arg8)
abbrev arg9 : (⟨3, ![2, 256, 2048]⟩ : Shape).Idx → EReal := m ((c : Thread nD τ).loc main_arg9)

/-- An entry of the block that an index map with these two last coordinates names. -/
theorem at_blk {n a : ℕ} (A : (⟨3, ![n, 256, 2048]⟩ : Shape).Idx → EReal) (b : ℕ) (y : (⟨3, ![n, 256, 2048]⟩ : Shape).Idx)
    (h0 : (y 0).val = b * 1 + 1 * 0) (e0 : b = a)
    (h1 : (y 1).val = (BitVec.ofNat 32 (grid0.coords t 0).val).toNat * 256 + 1 * p) (h2 : (y 2).val = (0#32).toNat * 2048 + 1 * q) : A y = rd3 A a (rw0 t.val p) (cl0 t.val q) :=
  blk_val A ![b, (BitVec.ofNat 32 (grid0.coords t 0).val).toNat, (0#32).toNat] y p.val q.val h0 h1 h2 e0 (row_eq t p.val) (col_eq t q.val)

theorem blk0 : bk0 m hO c t (ix3 0 p q) = rd3 (own m c) (num m 0 ^^^ 0#32).toNat (rw0 t.val p.val) (cl0 t.val q.val) :=
  (congrFun (V_main_arg0 m c) _).trans (at_blk m hO t p q (own m c) (num m 0 ^^^ 0#32).toNat _ (by rw [← tbl_num]; rfl) rfl rfl rfl)

/-- The other devices' parts of the gradient at a grid point, entry by entry. -/
theorem blks {L : BitVec 32 → EReal} (hL : L = fun k => rd3 (land m c) (num m 0 ^^^ k).toNat (rw0 t.val p.val) (cl0 t.val q.val)) :
    bk1 m hO c t (ix3 0 p q) = L 1#32 ∧
    bk2 m hO c t (ix3 0 p q) = L 2#32 ∧
    bk3 m hO c t (ix3 0 p q) = L 3#32 ∧
    bk4 m hO c t (ix3 0 p q) = L 4#32 ∧
    bk5 m hO c t (ix3 0 p q) = L 5#32 ∧
    bk6 m hO c t (ix3 0 p q) = L 6#32 ∧
    bk7 m hO c t (ix3 0 p q) = L 7#32 := by
  subst hL
  refine ⟨?_, ?_, ?_, ?_, ?_, ?_, ?_⟩ <;>
    exact (congrFun (V_main_arg1 m c) _).trans (at_blk m hO t p q (land m c) _ _ (by rw [← tbl_num]; rfl) rfl rfl rfl)

theorem blk8 : bk8 m hO c t (ix3 0 p q) = rd3 (arg3 m c) 0 (rw0 t.val p.val) (cl0 t.val q.val) :=
  (congrFun (V_main_arg3 m c) _).trans (at_blk m hO t p q (arg3 m c) (0#32).toNat _ rfl rfl rfl rfl)

theorem blk9 : bk9 m hO c t (ix3 0 p q) = rd3 (arg4 m c) 0 (rw0 t.val p.val) (cl0 t.val q.val) :=
  (congrFun (V_main_arg4 m c) _).trans (at_blk m hO t p q (arg4 m c) (0#32).toNat _ rfl rfl rfl rfl)

theorem blk10 : bk10 m hO c t (ix3 0 p q) = rd3 (arg5 m c) 0 (rw0 t.val p.val) (cl0 t.val q.val) :=
  (congrFun (V_main_arg5 m c) _).trans (at_blk m hO t p q (arg5 m c) (0#32).toNat _ rfl rfl rfl rfl)

/-- The gradient at an entry of the whole arrays. -/
def G (i j : ℕ) : EReal := grad (num m 0).toNat (own m c) (land m c) i j

/-- The sum of the eight parts of a block is the gradient where the block lies. -/
theorem sum8_eq (h : (num m 0).toNat < 8) : sum8 m hO c t (ix3 0 p q) = G m c (rw0 t.val p.val) (cl0 t.val q.val) := by
  unfold sum8 G grad
  obtain ⟨e1, e2, e3, e4, e5, e6, e7⟩ := blks m hO c t p q rfl
  rw [blk0 m hO c t p q, e1, e2, e3, e4, e5, e6, e7]
  exact sum_parts (num m 0) h (fun d => rd3 (own m c) d _ _) (fun d => rd3 (land m c) d _ _)

/-! ## The arrays after the run -/

/-- Where an entry of a result's block lies: in layer 0's half. -/
theorem at_rect (y : S2x256x2048.Idx) (hy : (((cfgM m hO).win 11).rect t).idx (ix3 0 p q) = y) :
    (y 0).val = 0 ∧ (y 1).val = rw0 t.val p.val ∧ (y 2).val = cl0 t.val q.val := by
  subst hy
  exact ⟨rfl, row_eq t p.val, col_eq t q.val⟩

/-- A block of a result whose entries are those of a function is the block of the array whose first half it gives. -/
theorem block_of (f : ℕ → ℕ → EReal) (A : S2x256x2048.Idx → EReal) (X : S1x256x2048.Idx → EReal)
    (h : ∀ (p : Fin 256) (q : Fin 2048), X (ix3 0 p q) = f (rw0 t.val p.val) (cl0 t.val q.val)) (x : S1x256x2048.Idx) :
    X x = half2 f A ((((cfgM m hO).win 11).rect t).idx x) := by
  obtain ⟨p, q, rfl⟩ : ∃ (p : Fin 256) (q : Fin 2048), x = (ix3 0 p q) :=
    ⟨x 1, x 2, (ShardMath.ix3_eta x).trans (congrArg (fun a : Fin 1 => ix3 a (x 1) (x 2)) (Subsingleton.elim (α := Fin 1) _ _))⟩
  exact (h p q).trans (half2_pos f A _ (at_rect m hO t p q _ rfl)).symm

/-- Every entry of layer 0's half lies in a block. -/
theorem mem_rect (i : S2x256x2048.Idx) (h0 : (i 0).val = 0) : ∃ t : Fin (cfgM m hO).N, i ∈ (((cfgM m hO).win 11).rect t).set := by
  have h1 : (i 1).val < 256 := (i 1).isLt
  have h2 : (i 2).val < 2048 := (i 2).isLt
  obtain ⟨t, ht⟩ : ∃ t : Fin (cfgM m hO).N, t.val = (i 1).val / 256 := ⟨⟨_, (by omega : (i 1).val / 256 < 1)⟩, rfl⟩
  refine ⟨t, Rect.mem_set_unit.mpr fun a => ?_⟩
  have e := crd t
  match a with
  | ⟨0, _⟩ => show 0 * 1 ≤ (i 0).val ∧ (i 0).val < 0 * 1 + 1; omega
  | ⟨1, _⟩ => show (BitVec.ofNat 32 (grid0.coords t 0).val).toNat * 256 ≤ (i 1).val ∧ (i 1).val < (BitVec.ofNat 32 (grid0.coords t 0).val).toNat * 256 + 256; rw [e]; omega
  | ⟨2, _⟩ => show (0#32).toNat * 2048 ≤ (i 2).val ∧ (i 2).val < (0#32).toNat * 2048 + 2048; simp; omega

/-- The array of the gradient: layer 0's half new, layer 1's as it was. -/
def res11 : S2x256x2048.Idx → EReal := half2 (G m c) (arg6 m c)

theorem out_eq11 (h : (num m 0).toNat < 8) : (dats m hO 0 c).arrAt 11 (cfgM m hO).N = res11 m c := by
  have old : V m c main_v0_0 = arg6 m c := by unfold_abbrev_sides; after_results; rfl
  refine funext fun i => settle ((dats m hO 0 c).arrAt_eq_piecewise 11 (res11 m c) (fun t _ => ?_) i)
    (fun h0 => (mem_rect m hO i h0).imp fun t ht => ⟨flush0_11 _ t,
      Eq.mpr (congrArg (fun s => i ∈ s) (View.set_slice_whole main_v0_0 (((cfgM m hO).win 11).rect t))) ht⟩)
    fun h0 => (congrFun (A_eq m hO c 11) i).trans ((congrFun old i).trans (half2_neg _ (arg6 m c) i h0))
  show ((cfgM m hO).win 11).cut (grid0.coords t) ((dats m hO 0 c).after 11 t) = _
  rw [after0_11]
  exact funext (block_of m hO t _ (arg6 m c) _ fun p q => (left m hO c t p q).1.trans (by rw [sum8_eq m hO c t p q h]))

/-- The array of the change of the weight: layer 0's half new, layer 1's as it was. -/
def res12 : S2x256x2048.Idx → EReal := half2 (stepW (G m c) (arg3 m c) (arg4 m c) (arg5 m c)) (arg7 m c)

theorem out_eq12 (h : (num m 0).toNat < 8) : (dats m hO 0 c).arrAt 12 (cfgM m hO).N = res12 m c := by
  have old : V m c main_v0_1 = arg7 m c := by unfold_abbrev_sides; after_results; rfl
  refine funext fun i => settle ((dats m hO 0 c).arrAt_eq_piecewise 12 (res12 m c) (fun t _ => ?_) i)
    (fun h0 => (mem_rect m hO i h0).imp fun t ht => ⟨flush0_12 _ t,
      Eq.mpr (congrArg (fun s => i ∈ s) (View.set_slice_whole main_v0_1 (((cfgM m hO).win 12).rect t))) ht⟩)
    fun h0 => (congrFun (A_eq m hO c 12) i).trans ((congrFun old i).trans (half2_neg _ (arg7 m c) i h0))
  show ((cfgM m hO).win 12).cut (grid0.coords t) ((dats m hO 0 c).after 12 t) = _
  rw [after0_12]
  exact funext (block_of m hO t _ (arg7 m c) _ fun p q => (left m hO c t p q).2.1.trans (by rw [sum8_eq m hO c t p q h, blk8 m hO c t p q, blk9 m hO c t p q, blk10 m hO c t p q]; rfl))

/-- The array of the first moment: layer 0's half new, layer 1's as it was. -/
def res13 : S2x256x2048.Idx → EReal := half2 (stepM (G m c) (arg4 m c)) (arg8 m c)

theorem out_eq13 (h : (num m 0).toNat < 8) : (dats m hO 0 c).arrAt 13 (cfgM m hO).N = res13 m c := by
  have old : V m c main_v0_2 = arg8 m c := by unfold_abbrev_sides; after_results; rfl
  refine funext fun i => settle ((dats m hO 0 c).arrAt_eq_piecewise 13 (res13 m c) (fun t _ => ?_) i)
    (fun h0 => (mem_rect m hO i h0).imp fun t ht => ⟨flush0_13 _ t,
      Eq.mpr (congrArg (fun s => i ∈ s) (View.set_slice_whole main_v0_2 (((cfgM m hO).win 13).rect t))) ht⟩)
    fun h0 => (congrFun (A_eq m hO c 13) i).trans ((congrFun old i).trans (half2_neg _ (arg8 m c) i h0))
  show ((cfgM m hO).win 13).cut (grid0.coords t) ((dats m hO 0 c).after 13 t) = _
  rw [after0_13]
  exact funext (block_of m hO t _ (arg8 m c) _ fun p q => (left m hO c t p q).2.2.1.trans (by rw [sum8_eq m hO c t p q h, blk9 m hO c t p q]; rfl))

/-- The array of the second moment: layer 0's half new, layer 1's as it was. -/
def res14 : S2x256x2048.Idx → EReal := half2 (stepV (G m c) (arg5 m c)) (arg9 m c)

theorem out_eq14 (h : (num m 0).toNat < 8) : (dats m hO 0 c).arrAt 14 (cfgM m hO).N = res14 m c := by
  have old : V m c main_v0_3 = arg9 m c := by unfold_abbrev_sides; after_results; rfl
  refine funext fun i => settle ((dats m hO 0 c).arrAt_eq_piecewise 14 (res14 m c) (fun t _ => ?_) i)
    (fun h0 => (mem_rect m hO i h0).imp fun t ht => ⟨flush0_14 _ t,
      Eq.mpr (congrArg (fun s => i ∈ s) (View.set_slice_whole main_v0_3 (((cfgM m hO).win 14).rect t))) ht⟩)
    fun h0 => (congrFun (A_eq m hO c 14) i).trans ((congrFun old i).trans (half2_neg _ (arg9 m c) i h0))
  show ((cfgM m hO).win 14).cut (grid0.coords t) ((dats m hO 0 c).after 14 t) = _
  rw [after0_14]
  exact funext (block_of m hO t _ (arg9 m c) _ fun p q => (left m hO c t p q).2.2.2.trans (by rw [sum8_eq m hO c t p q h, blk10 m hO c t p q]; rfl))

/-! ## The reference -/

section

open Cert.Reference23Ideal.Read

variable {x0 x1 : FVec Ideal Cert.Reference23Ideal.S8x256x2048 .bf16} {x2 : IVec Cert.Reference23Ideal.S1 32} {x3 x4 x5 x6 x7 x8 x9 : FVec Ideal Cert.Reference23Ideal.S2x256x2048 .f32}

/-- The reference's gradient, entry by entry. -/
theorem ref_grad (x0 x1 : FVec Ideal Cert.Reference23Ideal.S8x256x2048 .bf16) (x2 : IVec Cert.Reference23Ideal.S1 32) (i : Fin 256) (j : Fin 2048) :
    ((val_main_v7 (F := Ideal) x0 x1 x2 : FVec Ideal Cert.Reference23Ideal.S256x2048 .f32) (ix2 i j) : EReal) = grad (x2 (ix1 0)).toNat x0 x1 i.val j.val := by
  unfold val_main_v7 val_main_cst val_main_v6 val_main_v5 val_main_call0_v0 val_main_v4 val_main_v3 val_main_v2 val_main_v1 val_main_v0
  pointwise
  exact grad_pick (x2 (ix1 0)) x0 x1 i j

variable (γ : ℕ → ℕ → EReal) (hg : ∀ i j, ((val_main_v7 (F := Ideal) x0 x1 x2 : FVec Ideal Cert.Reference23Ideal.S256x2048 .f32) (ix2 i j) : EReal) = γ i.val j.val) (y : Cert.Reference23Ideal.S2x256x2048.Idx)
include hg

/-- The reference's gradient. -/
theorem ref11 : ((val_main_v42 (F := Ideal) x0 x1 x2 x6 : FVec Ideal Cert.Reference23Ideal.S2x256x2048 .f32) y : EReal) = half2 (γ) x6 y := by
  have e0 : ∀ A : Cert.Reference23Ideal.S2x256x2048.Idx → EReal, A (ix3 0 (y 1) (y 2)) = rd3 A 0 (y 1).val (y 2).val := fun A => rd3_at A 0 (y 1) (y 2)
  unfold val_main_v42 val_main_v41 val_main_v40 val_main_v39 val_main_v38
  generalize (val_main_v7 (F := Ideal) x0 x1 x2 : FVec Ideal Cert.Reference23Ideal.S256x2048 .f32) = g at hg ⊢
  have eg : (g (ix2 (y 1) (y 2)) : EReal) = γ (y 1).val (y 2).val := hg (y 1) (y 2)
  pointwise
  refine half2_eq _ x6 y ?_
  exact eg

/-- The reference's change of the weight. -/
theorem ref12 : ((val_main_v47 (F := Ideal) x0 x1 x2 x3 x4 x5 x7 : FVec Ideal Cert.Reference23Ideal.S2x256x2048 .f32) y : EReal) = half2 (stepW γ x3 x4 x5) x7 y := by
  have e0 : ∀ A : Cert.Reference23Ideal.S2x256x2048.Idx → EReal, A (ix3 0 (y 1) (y 2)) = rd3 A 0 (y 1).val (y 2).val := fun A => rd3_at A 0 (y 1) (y 2)
  unfold val_main_v47 val_main_v46 val_main_v45 val_main_v44 val_main_v43 val_main_v37 val_main_v36 val_main_cst_8 val_main_v35 val_main_v34 val_main_v33 val_main_cst_7 val_main_v32 val_main_v31 val_main_v30 val_main_v29 val_main_v28 val_main_cst_6 val_main_v27 val_main_v26 val_main_v25 val_main_cst_5 val_main_v24 val_main_v23 val_main_cst_4 val_main_v22 val_main_v21 val_main_v20 val_main_cst_3 val_main_v19 val_main_v18 val_main_v17 val_main_cst_2 val_main_v16 val_main_v15 val_main_v14 val_main_v13 val_main_v12 val_main_cst_1 val_main_v11 val_main_v10 val_main_cst_0 val_main_v9 val_main_v8
  generalize (val_main_v7 (F := Ideal) x0 x1 x2 : FVec Ideal Cert.Reference23Ideal.S256x2048 .f32) = g at hg ⊢
  have eg : (g (ix2 (y 1) (y 2)) : EReal) = γ (y 1).val (y 2).val := hg (y 1) (y 2)
  pointwise
  refine half2_eq _ x7 y ?_
  unfold stepW delta newM newV
  simp only [e0, eg]

/-- The reference's first moment. -/
theorem ref13 : ((val_main_v52 (F := Ideal) x0 x1 x2 x4 x8 : FVec Ideal Cert.Reference23Ideal.S2x256x2048 .f32) y : EReal) = half2 (stepM γ x4) x8 y := by
  have e0 : ∀ A : Cert.Reference23Ideal.S2x256x2048.Idx → EReal, A (ix3 0 (y 1) (y 2)) = rd3 A 0 (y 1).val (y 2).val := fun A => rd3_at A 0 (y 1) (y 2)
  unfold val_main_v52 val_main_v51 val_main_v50 val_main_v49 val_main_v48 val_main_v14 val_main_v13 val_main_v12 val_main_cst_1 val_main_v11 val_main_v10 val_main_cst_0 val_main_v9 val_main_v8
  generalize (val_main_v7 (F := Ideal) x0 x1 x2 : FVec Ideal Cert.Reference23Ideal.S256x2048 .f32) = g at hg ⊢
  have eg : (g (ix2 (y 1) (y 2)) : EReal) = γ (y 1).val (y 2).val := hg (y 1) (y 2)
  pointwise
  refine half2_eq _ x8 y ?_
  unfold stepM newM
  simp only [e0, eg]

/-- The reference's second moment. -/
theorem ref14 : ((val_main_v57 (F := Ideal) x0 x1 x2 x5 x9 : FVec Ideal Cert.Reference23Ideal.S2x256x2048 .f32) y : EReal) = half2 (stepV γ x5) x9 y := by
  have e0 : ∀ A : Cert.Reference23Ideal.S2x256x2048.Idx → EReal, A (ix3 0 (y 1) (y 2)) = rd3 A 0 (y 1).val (y 2).val := fun A => rd3_at A 0 (y 1) (y 2)
  unfold val_main_v57 val_main_v56 val_main_v55 val_main_v54 val_main_v53 val_main_v22 val_main_v21 val_main_v20 val_main_cst_3 val_main_v19 val_main_v18 val_main_v17 val_main_cst_2 val_main_v16 val_main_v15
  generalize (val_main_v7 (F := Ideal) x0 x1 x2 : FVec Ideal Cert.Reference23Ideal.S256x2048 .f32) = g at hg ⊢
  have eg : (g (ix2 (y 1) (y 2)) : EReal) = γ (y 1).val (y 2).val := hg (y 1) (y 2)
  pointwise
  refine half2_eq _ x9 y ?_
  unfold stepV newV
  simp only [e0, eg]

end

/-! ## The runs -/

/-- The kernel on words terminates, leaves its arguments as they were and every counter at zero. -/
theorem frame_words : @Cert.quiescent_Kernel23 Cert.Kernel23.Gen.facts Cert.Pre_device23.Gen.facts := fun m ρ h =>
by
  have hw : (num (F := Bits) m 0).toNat < 8 := num_lt (F := Bits) _ _ _ _ _ _ _ _ _ _ (h 0)
  have hO : Cert.Kernel23.Gen.Ok (F := Bits) m := ok_of (F := Bits) m hw
  exact Cert.Kernel23.Gen.frame (F := Bits) m ρ hO

/-- So does the kernel over the extended reals. -/
theorem frame_kernel : @Cert.quiescent_Kernel23Ideal Cert.Kernel23Ideal.Gen.facts Cert.Pre_device23.Gen.facts := fun m ρ h =>
  Gen.frame (F := Ideal) m ρ (ok_of m (num_lt _ _ _ _ _ _ _ _ _ _ (h 0)))

/-- The reference's frame: it terminates and leaves its arguments as they were. -/
theorem frame_reference : @Cert.quiescent_Reference23Ideal Cert.Reference23Ideal.Gen.facts := fun m ρ _ =>
  (θ_run Cert.Reference23Ideal.defs _ _).mono (fun r h => ⟨fun c => (h c).2.2.2.2,
      sem_eq_zero_of_no_sems (by decide) r.2⟩)
    (Cert.Reference23Ideal.Value.run m ρ)

/-- The same of arguments that meet the precondition. -/
theorem frame_reference_pre : @Cert.quiescent_Reference23Ideal_pre_device23 Cert.Reference23Ideal.Gen.facts Cert.Pre_device23.Gen.facts :=
  fun m ρ _ => frame_reference m ρ trivial

/-- The kernel and the reference compute the same four arrays over the extended reals. -/
theorem algebraic :
    @Cert.algebraic_Kernel23Ideal_Reference23Ideal Cert.Kernel23Ideal.Gen.facts Cert.Reference23Ideal.Gen.facts Cert.Pre_device23.Gen.facts := by
  intro m g m' g' hp hargs
  have hw : (num m 0).toNat < 8 := num_lt _ _ _ _ _ _ _ _ _ _ (hp 0)
  have hz : ∀ c : Dev nD, c = 0 := fun c => Subsingleton.elim (α := Fin 1) c 0
  refine ⟨res11 m, res12 m, res13 m, res14 m, (θ_run defs _ _).mono (fun _ k c => ?_)
    (θ_run_and (run_main m g (ok_of m hw)) (unchanged m g (ok_of m hw))), ?_⟩
  · have o := (k.1 c).1
    exact ⟨(o 11).trans (out_eq11 m _ c hw), (o 12).trans (out_eq12 m _ c hw), (o 13).trans (out_eq13 m _ c hw),
      (o 14).trans (out_eq14 m _ c hw), k.2 c⟩
  refine (θ_run Cert.Reference23Ideal.defs _ _).mono (fun r h c => ?_) (Cert.Reference23Ideal.Value.run m' g')
  obtain ⟨a0, a1, a2, a3, a4, a5, a6, a7, a8, a9⟩ := hargs c
  obtain ⟨h0, h1, h2, h3, k⟩ := h c
  have gr : ∀ i j, grad (m ((c : Thread nD τ).loc main_arg2) (ix1 0)).toNat (own m c) (land m c) i j = G m c i j := by
    intro i j
    rw [hz c, (funext fun a => Fin.ext (by fin_cases a; rfl) : (ix1 0 : (⟨1, ![1]⟩ : Shape).Idx) = z)]
    rfl
  have gq := fun i j => (ref_grad (m ((c : Thread nD τ).loc main_arg0)) (m ((c : Thread nD τ).loc main_arg1)) (m ((c : Thread nD τ).loc main_arg2)) i j).trans (gr i j)
  refine ⟨h0.trans ?_, h1.trans ?_, h2.trans ?_, h3.trans ?_, k⟩
  · rw [a0, a1, a2, a6]
    exact (Cert.Reference23Ideal.Read.val_main_v42_eq _ _ _ _).trans (funext fun y => ref11 _ gq y)
  · rw [a0, a1, a2, a3, a4, a5, a7]
    exact (Cert.Reference23Ideal.Read.val_main_v47_eq _ _ _ _ _ _ _).trans (funext fun y => ref12 _ gq y)
  · rw [a0, a1, a2, a4, a8]
    exact (Cert.Reference23Ideal.Read.val_main_v52_eq _ _ _ _ _).trans (funext fun y => ref13 _ gq y)
  · rw [a0, a1, a2, a5, a9]
    exact (Cert.Reference23Ideal.Read.val_main_v57_eq _ _ _ _ _).trans (funext fun y => ref14 _ gq y)

end Cert.Kernel23Ideal.Own
-- ==== Proof.ShardIn.lean ====
module

public import proofs.«01_k».proof.Proof.Kit
public import proofs.«01_k».proof.Proof.Gen.Kernel24Ideal.Frame
public import proofs.«01_k».proof.Proof.Gen.Reference24Ideal.Read
public import proofs.«01_k».proof.Proof.AdamMath
public import proofs.«01_k».proof.Proof.ShardMath
public import proofs.«01_k».proof.Proof.Gen.Pre_device24
public import proofs.«01_k».proof.Proof.Gen.Kernel24.Frame

/-!
# The optimiser of the input projection (seen with its two axes exchanged)

The gradient is cut over the eight devices; the other devices' parts of this device's share have landed in an array of
eight. At each step the kernel adds the eight parts of a block one by one, its own first, and makes the AdamW step of layer
0; layer 1's half of the results stays as an earlier call left it. The reference takes the sum over the devices.
-/

@[expose] public section

noncomputable section

namespace Cert.Kernel24Ideal.Own

open Cert.Kernel24Ideal Cert.Kernel24Ideal.Gen Idealize.ShloMosaic Idealize.ShloMosaic.TcCoe Idealize.SL.Sem Cert.AdamMath Cert.ShardMath
open Idealize.ShloMosaic.Pipeline (Dat)

theorem hz : (![0, 0, 0] : Fin 3 → Nat) = fun _ => 0 := funext fun a => by fin_cases a <;> rfl

/-! ## The number of the device, and where the blocks lie -/

/-- The only index of the array that holds the number. -/
noncomputable def z : S1.Idx := fun a => ⟨0, by fin_cases a; decide⟩

/-- What the precondition says of the device's number: it is below eight. -/
theorem num_lt {F : FTy → Type} [FloatOps F] (a0 a1 : FVec F S8x1282x2048 .bf16) (w : IVec S1 32) (a3 a4 a5 a6 a7 a8 a9 : FVec F S2x1282x2048 .f32)
    (h : @Cert.Pre_device24.fn Cert.Pre_device24.Gen.facts F _ a0 a1 w a3 a4 a5 a6 a7 a8 a9 = fun _ => 1#1) : (w z).toNat < 8 := by
  have e := congrFun h z
  unfold Cert.Pre_device24.fn at e
  exact below_eight (w z) e

section

variable {F : FTy → Type} [FloatOps F] (m : (ℓ : Loc nD τ sig) → Buf (Elt F) ℓ)

/-- The device's number. -/
noncomputable def num (c : Dev nD) : BitVec 32 := (m ((c : Thread nD τ).loc main_arg2) : S1.Idx → BitVec 32) z

/-- The number as the index maps read it. -/
theorem tbl_num : (tbl m).at 0 (Rect.unit (s := S1) ![0] S1.size inb_S1_S1_0) numel1_S1 = num m 0 := by
  have e : tbl m 0 = m (((0 : Dev nD) : Thread nD τ).loc main_arg2) := V_main_arg2 m 0
  unfold num
  rw [← e]
  exact congrArg (tbl m 0) (funext fun a => by fin_cases a; exact Subsingleton.elim (α := Fin 1) _ _)

/-- A block of one device's part lies inside the array. -/
theorem fits (w k : BitVec 32) (hw : w.toNat < 8) (hk : k.toNat < 8) (i : grid0.Coords) :
    ∀ a : Fin 3, ((![(w ^^^ k).toNat, (0#32).toNat, (BitVec.ofNat 32 (i 0).val).toNat] : Fin 3 → ℕ) a + 1) * S1x1282x256.size a ≤ S8x1282x2048.size a := by
  have h := xor_lt w k hw hk
  have hi : (i 0).val < 8 := (i 0).isLt
  have e : (BitVec.ofNat 32 (i 0).val).toNat = (i 0).val := by simp; omega
  intro a
  match a with
  | ⟨0, _⟩ => show ((w ^^^ k).toNat + 1) * 1 ≤ 8; omega
  | ⟨1, _⟩ => show ((0#32).toNat + 1) * 1282 ≤ 1282; decide
  | ⟨2, _⟩ => show ((BitVec.ofNat 32 (i 0).val).toNat + 1) * 256 ≤ 2048; rw [e]; omega

/-- A block of one device's part is whole words. -/
theorem words (ix : Fin 3 → ℕ) (h : ∀ a : Fin 3, (ix a + 1) * S1x1282x256.size a ≤ S8x1282x2048.size a) :
    (Rect.block (s := S8x1282x2048) S1x1282x256.size ix h).WholeWords (EltTy.packing .bf16) :=
  Or.inl (Or.inr ⟨(by decide : 2 ≤ 3), rfl, Or.inl (by show 2 ∣ ix 1 * 1282 ∧ 2 ∣ 1282; omega)⟩)

/-- The kernel's blocks lie inside the arrays if the number is below eight. -/
theorem ok_of (h : (num m 0).toNat < 8) : Ok m := by
  have e := tbl_num m
  have key : ∀ k : BitVec 32, k.toNat < 8 → ∀ i : grid0.Coords, _ := fun k hk i =>
    fits ((tbl m).at 0 (Rect.unit (s := S1) ![0] S1.size inb_S1_S1_0) numel1_S1) k (by rw [e]; exact h) hk i
  exact ⟨fun i => ⟨key 0#32 (by decide) i, Or.inr (words _ _)⟩, fun i => ⟨key 1#32 (by decide) i, Or.inr (words _ _)⟩, fun i => ⟨key 2#32 (by decide) i, Or.inr (words _ _)⟩, fun i => ⟨key 3#32 (by decide) i, Or.inr (words _ _)⟩, fun i => ⟨key 4#32 (by decide) i, Or.inr (words _ _)⟩, fun i => ⟨key 5#32 (by decide) i, Or.inr (words _ _)⟩, fun i => ⟨key 6#32 (by decide) i, Or.inr (words _ _)⟩, fun i => ⟨key 7#32 (by decide) i, Or.inr (words _ _)⟩⟩

end

/-! ## What a grid point leaves -/

/-- The four blocks that the body leaves, entry by entry: the gradient, the change of the weight, the two moments. -/
theorem body {c : Dev nD} {i : grid0.Coords} {arg2 arg3 arg4 arg5 arg6 arg7 arg8 arg9 : Memref sig .tc .vmem S1x1282x256 .bf16} {arg10 arg11 arg12 arg17 arg18 arg19 arg20 : Memref sig .tc .vmem S1x1282x256 .f32}
    {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg17 : arg17.IsWhole} {harg18 : arg18.IsWhole} {harg19 : arg19.IsWhole} {harg20 : arg20.IsWhole}
    {x0 x1 x2 x3 x4 x5 x6 x7 : Vec Ideal S1x1282x256 .bf16} {x8 x9 x10 : Vec Ideal S1x1282x256 .f32} {xt0 : TbBuf0 (F := Ideal) c tbM0_0} {p : Fin 1282} {q : Fin 256} {R} (hR : R = kernelRun0_A (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 x0 x1 x2 x3 x4 x5 x6 x7 x8 x9 x10 xt0) :
    let g : EReal := x0 (ix3 0 p q) + x1 (ix3 0 p q) + x2 (ix3 0 p q) + x3 (ix3 0 p q) + x4 (ix3 0 p q) + x5 (ix3 0 p q) + x6 (ix3 0 p q) + x7 (ix3 0 p q)
    (VO0_11.read (Elt Ideal) (VO0_11.writes (Elt Ideal) VO0_11.junk R.1) : S1x1282x256.Idx → EReal) (ix3 0 p q) = g ∧
    (VO0_12.read (Elt Ideal) (VO0_12.writes (Elt Ideal) VO0_12.junk R.2.1) : S1x1282x256.Idx → EReal) (ix3 0 p q) = delta g (x8 (ix3 0 p q)) (x9 (ix3 0 p q)) (x10 (ix3 0 p q)) ∧
    (VO0_13.read (Elt Ideal) (VO0_13.writes (Elt Ideal) VO0_13.junk R.2.2.1) : S1x1282x256.Idx → EReal) (ix3 0 p q) = newM g (x9 (ix3 0 p q)) ∧
    (VO0_14.read (Elt Ideal) (VO0_14.writes (Elt Ideal) VO0_14.junk R.2.2.2.1) : S1x1282x256.Idx → EReal) (ix3 0 p q) = newV g (x10 (ix3 0 p q)) := by
  subst hR
  refine ⟨?_, ?_, ?_, ?_⟩
  all_goals
    rw [View.read_writes_eq_canon]
    swap
    · intro _
      first | exact cover0_A_11 .. | exact cover0_A_12 .. | exact cover0_A_13 .. | exact cover0_A_14 ..
    unfold kernelRun0_A
    dsimp only
    sl_unfold_words
    rw [View.canon_unit_zero hz]
    simp (discharger := assumption) only [View.readAt_eq_ld, Memref.IsWhole.read_unread, View.ld_unit_zero (S := S1x1282x256) hz]
  · unfold k0_pay6 k0_pay3
    pointwise
  · unfold k0_pay7 k0_pay4 k0_pay5 k0_pay3 delta newM newV
    pointwise
  · unfold k0_pay1 k0_pay4 k0_pay3 newM
    pointwise
  · unfold k0_pay2 k0_pay5 k0_pay3 newV
    pointwise

variable (m : (ℓ : Loc nD τ sig) → Buf (Elt Ideal) ℓ) (hO : Ok m) (c : Dev nD) (t : Fin (cfgM m hO).N) (p : Fin 1282) (q : Fin 256)

/-- The blocks that a grid point reads. -/
def bk0 : FVec Ideal S1x1282x256 .bf16 := iblk m hO c 0 t
def bk1 : FVec Ideal S1x1282x256 .bf16 := iblk m hO c 1 t
def bk2 : FVec Ideal S1x1282x256 .bf16 := iblk m hO c 2 t
def bk3 : FVec Ideal S1x1282x256 .bf16 := iblk m hO c 3 t
def bk4 : FVec Ideal S1x1282x256 .bf16 := iblk m hO c 4 t
def bk5 : FVec Ideal S1x1282x256 .bf16 := iblk m hO c 5 t
def bk6 : FVec Ideal S1x1282x256 .bf16 := iblk m hO c 6 t
def bk7 : FVec Ideal S1x1282x256 .bf16 := iblk m hO c 7 t
def bk8 : FVec Ideal S1x1282x256 .f32 := iblk m hO c 8 t
def bk9 : FVec Ideal S1x1282x256 .f32 := iblk m hO c 9 t
def bk10 : FVec Ideal S1x1282x256 .f32 := iblk m hO c 10 t

/-- The sum of the eight parts at an entry of a block. -/
def sum8 (y : S1x1282x256.Idx) : EReal := bk0 m hO c t y + bk1 m hO c t y + bk2 m hO c t y + bk3 m hO c t y + bk4 m hO c t y + bk5 m hO c t y + bk6 m hO c t y + bk7 m hO c t y

/-- The four blocks that a grid point leaves, entry by entry: the gradient, the change of the weight, the two moments. -/
theorem left : ((outsAt0 m hO c t).1 : S1x1282x256.Idx → EReal) (ix3 0 p q) = (sum8 m hO c t (ix3 0 p q)) ∧
    ((outsAt0 m hO c t).2.1 : S1x1282x256.Idx → EReal) (ix3 0 p q) = delta (sum8 m hO c t (ix3 0 p q)) (bk8 m hO c t (ix3 0 p q)) (bk9 m hO c t (ix3 0 p q)) (bk10 m hO c t (ix3 0 p q)) ∧
    ((outsAt0 m hO c t).2.2.1 : S1x1282x256.Idx → EReal) (ix3 0 p q) = newM (sum8 m hO c t (ix3 0 p q)) (bk9 m hO c t (ix3 0 p q)) ∧
    ((outsAt0 m hO c t).2.2.2 : S1x1282x256.Idx → EReal) (ix3 0 p q) = newV (sum8 m hO c t (ix3 0 p q)) (bk10 m hO c t (ix3 0 p q)) := by
  unfold outsAt0 out0_A_11 out0_A_12 out0_A_13 out0_A_14
  dsimp only
  exact body (p := p) (q := q) (x0 := bk0 m hO c t) (x1 := bk1 m hO c t) (x2 := bk2 m hO c t) (x3 := bk3 m hO c t) (x4 := bk4 m hO c t) (x5 := bk5 m hO c t) (x6 := bk6 m hO c t) (x7 := bk7 m hO c t) (x8 := bk8 m hO c t) (x9 := bk9 m hO c t) (x10 := bk10 m hO c t) rfl

/-! ## The blocks of the arguments -/

/-- The coordinate of a grid point. -/
theorem crd : ∀ t : Fin grid0.N, (BitVec.ofNat 32 (grid0.coords t 0).val).toNat = t.val := by decide +kernel

/-- The row of the array at a row of the block. -/
abbrev rw0 (t p : ℕ) : ℕ := 0 * 1282 + p
/-- The column of the array at a column of the block. -/
abbrev cl0 (t q : ℕ) : ℕ := t * 256 + q

theorem row_eq (t : Fin grid0.N) (p : ℕ) : (0#32).toNat * 1282 + 1 * p = rw0 t.val p := by unfold rw0; simp
theorem col_eq (t : Fin grid0.N) (q : ℕ) : (BitVec.ofNat 32 (grid0.coords t 0).val).toNat * 256 + 1 * q = cl0 t.val q := by rw [crd t]; unfold cl0; omega

/-- The arguments as arrays with three axes. -/
abbrev own : (⟨3, ![8, 1282, 2048]⟩ : Shape).Idx → EReal := m ((c : Thread nD τ).loc main_arg0)
abbrev land : (⟨3, ![8, 1282, 2048]⟩ : Shape).Idx → EReal := m ((c : Thread nD τ).loc main_arg1)
abbrev arg3 : (⟨3, ![2, 1282, 2048]⟩ : Shape).Idx → EReal := m ((c : Thread nD τ).loc main_arg3)
abbrev arg4 : (⟨3, ![2, 1282, 2048]⟩ : Shape).Idx → EReal := m ((c : Thread nD τ).loc main_arg4)
abbrev arg5 : (⟨3, ![2, 1282, 2048]⟩ : Shape).Idx → EReal := m ((c : Thread nD τ).loc main_arg5)
abbrev arg6 : (⟨3, ![2, 1282, 2048]⟩ : Shape).Idx → EReal := m ((c : Thread nD τ).loc main_arg6)
abbrev arg7 : (⟨3, ![2, 1282, 2048]⟩ : Shape).Idx → EReal := m ((c : Thread nD τ).loc main_arg7)
abbrev arg8 : (⟨3, ![2, 1282, 2048]⟩ : Shape).Idx → EReal := m ((c : Thread nD τ).loc main_arg8)
abbrev arg9 : (⟨3, ![2, 1282, 2048]⟩ : Shape).Idx → EReal := m ((c : Thread nD τ).loc main_arg9)

/-- An entry of the block that an index map with these two last coordinates names. -/
theorem at_blk {n a : ℕ} (A : (⟨3, ![n, 1282, 2048]⟩ : Shape).Idx → EReal) (b : ℕ) (y : (⟨3, ![n, 1282, 2048]⟩ : Shape).Idx)
    (h0 : (y 0).val = b * 1 + 1 * 0) (e0 : b = a)
    (h1 : (y 1).val = (0#32).toNat * 1282 + 1 * p) (h2 : (y 2).val = (BitVec.ofNat 32 (grid0.coords t 0).val).toNat * 256 + 1 * q) : A y = rd3 A a (rw0 t.val p) (cl0 t.val q) :=
  blk_val A ![b, (0#32).toNat, (BitVec.ofNat 32 (grid0.coords t 0).val).toNat] y p.val q.val h0 h1 h2 e0 (row_eq t p.val) (col_eq t q.val)

theorem blk0 : bk0 m hO c t (ix3 0 p q) = rd3 (own m c) (num m 0 ^^^ 0#32).toNat (rw0 t.val p.val) (cl0 t.val q.val) :=
  (congrFun (V_main_arg0 m c) _).trans (at_blk m hO t p q (own m c) (num m 0 ^^^ 0#32).toNat _ (by rw [← tbl_num]; rfl) rfl rfl rfl)

/-- The other devices' parts of the gradient at a grid point, entry by entry. -/
theorem blks {L : BitVec 32 → EReal} (hL : L = fun k => rd3 (land m c) (num m 0 ^^^ k).toNat (rw0 t.val p.val) (cl0 t.val q.val)) :
    bk1 m hO c t (ix3 0 p q) = L 1#32 ∧
    bk2 m hO c t (ix3 0 p q) = L 2#32 ∧
    bk3 m hO c t (ix3 0 p q) = L 3#32 ∧
    bk4 m hO c t (ix3 0 p q) = L 4#32 ∧
    bk5 m hO c t (ix3 0 p q) = L 5#32 ∧
    bk6 m hO c t (ix3 0 p q) = L 6#32 ∧
    bk7 m hO c t (ix3 0 p q) = L 7#32 := by
  subst hL
  refine ⟨?_, ?_, ?_, ?_, ?_, ?_, ?_⟩ <;>
    exact (congrFun (V_main_arg1 m c) _).trans (at_blk m hO t p q (land m c) _ _ (by rw [← tbl_num]; rfl) rfl rfl rfl)

theorem blk8 : bk8 m hO c t (ix3 0 p q) = rd3 (arg3 m c) 0 (rw0 t.val p.val) (cl0 t.val q.val) :=
  (congrFun (V_main_arg3 m c) _).trans (at_blk m hO t p q (arg3 m c) (0#32).toNat _ rfl rfl rfl rfl)

theorem blk9 : bk9 m hO c t (ix3 0 p q) = rd3 (arg4 m c) 0 (rw0 t.val p.val) (cl0 t.val q.val) :=
  (congrFun (V_main_arg4 m c) _).trans (at_blk m hO t p q (arg4 m c) (0#32).toNat _ rfl rfl rfl rfl)

theorem blk10 : bk10 m hO c t (ix3 0 p q) = rd3 (arg5 m c) 0 (rw0 t.val p.val) (cl0 t.val q.val) :=
  (congrFun (V_main_arg5 m c) _).trans (at_blk m hO t p q (arg5 m c) (0#32).toNat _ rfl rfl rfl rfl)

/-- The gradient at an entry of the whole arrays. -/
def G (i j : ℕ) : EReal := grad (num m 0).toNat (own m c) (land m c) i j

/-- The sum of the eight parts of a block is the gradient where the block lies. -/
theorem sum8_eq (h : (num m 0).toNat < 8) : sum8 m hO c t (ix3 0 p q) = G m c (rw0 t.val p.val) (cl0 t.val q.val) := by
  unfold sum8 G grad
  obtain ⟨e1, e2, e3, e4, e5, e6, e7⟩ := blks m hO c t p q rfl
  rw [blk0 m hO c t p q, e1, e2, e3, e4, e5, e6, e7]
  exact sum_parts (num m 0) h (fun d => rd3 (own m c) d _ _) (fun d => rd3 (land m c) d _ _)

/-! ## The arrays after the run -/

/-- Where an entry of a result's block lies: in layer 0's half. -/
theorem at_rect (y : S2x1282x2048.Idx) (hy : (((cfgM m hO).win 11).rect t).idx (ix3 0 p q) = y) :
    (y 0).val = 0 ∧ (y 1).val = rw0 t.val p.val ∧ (y 2).val = cl0 t.val q.val := by
  subst hy
  exact ⟨rfl, row_eq t p.val, col_eq t q.val⟩

/-- A block of a result whose entries are those of a function is the block of the array whose first half it gives. -/
theorem block_of (f : ℕ → ℕ → EReal) (A : S2x1282x2048.Idx → EReal) (X : S1x1282x256.Idx → EReal)
    (h : ∀ (p : Fin 1282) (q : Fin 256), X (ix3 0 p q) = f (rw0 t.val p.val) (cl0 t.val q.val)) (x : S1x1282x256.Idx) :
    X x = half2 f A ((((cfgM m hO).win 11).rect t).idx x) := by
  obtain ⟨p, q, rfl⟩ : ∃ (p : Fin 1282) (q : Fin 256), x = (ix3 0 p q) :=
    ⟨x 1, x 2, (ShardMath.ix3_eta x).trans (congrArg (fun a : Fin 1 => ix3 a (x 1) (x 2)) (Subsingleton.elim (α := Fin 1) _ _))⟩
  exact (h p q).trans (half2_pos f A _ (at_rect m hO t p q _ rfl)).symm

/-- Every entry of layer 0's half lies in a block. -/
theorem mem_rect (i : S2x1282x2048.Idx) (h0 : (i 0).val = 0) : ∃ t : Fin (cfgM m hO).N, i ∈ (((cfgM m hO).win 11).rect t).set := by
  have h1 : (i 1).val < 1282 := (i 1).isLt
  have h2 : (i 2).val < 2048 := (i 2).isLt
  obtain ⟨t, ht⟩ : ∃ t : Fin (cfgM m hO).N, t.val = (i 2).val / 256 := ⟨⟨_, (by omega : (i 2).val / 256 < 8)⟩, rfl⟩
  refine ⟨t, Rect.mem_set_unit.mpr fun a => ?_⟩
  have e := crd t
  match a with
  | ⟨0, _⟩ => show 0 * 1 ≤ (i 0).val ∧ (i 0).val < 0 * 1 + 1; omega
  | ⟨1, _⟩ => show (0#32).toNat * 1282 ≤ (i 1).val ∧ (i 1).val < (0#32).toNat * 1282 + 1282; simp; omega
  | ⟨2, _⟩ => show (BitVec.ofNat 32 (grid0.coords t 0).val).toNat * 256 ≤ (i 2).val ∧ (i 2).val < (BitVec.ofNat 32 (grid0.coords t 0).val).toNat * 256 + 256; rw [e]; omega

/-- The array of the gradient: layer 0's half new, layer 1's as it was. -/
def res11 : S2x1282x2048.Idx → EReal := half2 (G m c) (arg6 m c)

theorem out_eq11 (h : (num m 0).toNat < 8) : (dats m hO 0 c).arrAt 11 (cfgM m hO).N = res11 m c := by
  have old : V m c main_v0_0 = arg6 m c := by unfold_abbrev_sides; after_results; rfl
  refine funext fun i => settle ((dats m hO 0 c).arrAt_eq_piecewise 11 (res11 m c) (fun t _ => ?_) i)
    (fun h0 => (mem_rect m hO i h0).imp fun t ht => ⟨flush0_11 _ t,
      Eq.mpr (congrArg (fun s => i ∈ s) (View.set_slice_whole main_v0_0 (((cfgM m hO).win 11).rect t))) ht⟩)
    fun h0 => (congrFun (A_eq m hO c 11) i).trans ((congrFun old i).trans (half2_neg _ (arg6 m c) i h0))
  show ((cfgM m hO).win 11).cut (grid0.coords t) ((dats m hO 0 c).after 11 t) = _
  rw [after0_11]
  exact funext (block_of m hO t _ (arg6 m c) _ fun p q => (left m hO c t p q).1.trans (by rw [sum8_eq m hO c t p q h]))

/-- The array of the change of the weight: layer 0's half new, layer 1's as it was. -/
def res12 : S2x1282x2048.Idx → EReal := half2 (stepW (G m c) (arg3 m c) (arg4 m c) (arg5 m c)) (arg7 m c)

theorem out_eq12 (h : (num m 0).toNat < 8) : (dats m hO 0 c).arrAt 12 (cfgM m hO).N = res12 m c := by
  have old : V m c main_v0_1 = arg7 m c := by unfold_abbrev_sides; after_results; rfl
  refine funext fun i => settle ((dats m hO 0 c).arrAt_eq_piecewise 12 (res12 m c) (fun t _ => ?_) i)
    (fun h0 => (mem_rect m hO i h0).imp fun t ht => ⟨flush0_12 _ t,
      Eq.mpr (congrArg (fun s => i ∈ s) (View.set_slice_whole main_v0_1 (((cfgM m hO).win 12).rect t))) ht⟩)
    fun h0 => (congrFun (A_eq m hO c 12) i).trans ((congrFun old i).trans (half2_neg _ (arg7 m c) i h0))
  show ((cfgM m hO).win 12).cut (grid0.coords t) ((dats m hO 0 c).after 12 t) = _
  rw [after0_12]
  exact funext (block_of m hO t _ (arg7 m c) _ fun p q => (left m hO c t p q).2.1.trans (by rw [sum8_eq m hO c t p q h, blk8 m hO c t p q, blk9 m hO c t p q, blk10 m hO c t p q]; rfl))

/-- The array of the first moment: layer 0's half new, layer 1's as it was. -/
def res13 : S2x1282x2048.Idx → EReal := half2 (stepM (G m c) (arg4 m c)) (arg8 m c)

theorem out_eq13 (h : (num m 0).toNat < 8) : (dats m hO 0 c).arrAt 13 (cfgM m hO).N = res13 m c := by
  have old : V m c main_v0_2 = arg8 m c := by unfold_abbrev_sides; after_results; rfl
  refine funext fun i => settle ((dats m hO 0 c).arrAt_eq_piecewise 13 (res13 m c) (fun t _ => ?_) i)
    (fun h0 => (mem_rect m hO i h0).imp fun t ht => ⟨flush0_13 _ t,
      Eq.mpr (congrArg (fun s => i ∈ s) (View.set_slice_whole main_v0_2 (((cfgM m hO).win 13).rect t))) ht⟩)
    fun h0 => (congrFun (A_eq m hO c 13) i).trans ((congrFun old i).trans (half2_neg _ (arg8 m c) i h0))
  show ((cfgM m hO).win 13).cut (grid0.coords t) ((dats m hO 0 c).after 13 t) = _
  rw [after0_13]
  exact funext (block_of m hO t _ (arg8 m c) _ fun p q => (left m hO c t p q).2.2.1.trans (by rw [sum8_eq m hO c t p q h, blk9 m hO c t p q]; rfl))

/-- The array of the second moment: layer 0's half new, layer 1's as it was. -/
def res14 : S2x1282x2048.Idx → EReal := half2 (stepV (G m c) (arg5 m c)) (arg9 m c)

theorem out_eq14 (h : (num m 0).toNat < 8) : (dats m hO 0 c).arrAt 14 (cfgM m hO).N = res14 m c := by
  have old : V m c main_v0_3 = arg9 m c := by unfold_abbrev_sides; after_results; rfl
  refine funext fun i => settle ((dats m hO 0 c).arrAt_eq_piecewise 14 (res14 m c) (fun t _ => ?_) i)
    (fun h0 => (mem_rect m hO i h0).imp fun t ht => ⟨flush0_14 _ t,
      Eq.mpr (congrArg (fun s => i ∈ s) (View.set_slice_whole main_v0_3 (((cfgM m hO).win 14).rect t))) ht⟩)
    fun h0 => (congrFun (A_eq m hO c 14) i).trans ((congrFun old i).trans (half2_neg _ (arg9 m c) i h0))
  show ((cfgM m hO).win 14).cut (grid0.coords t) ((dats m hO 0 c).after 14 t) = _
  rw [after0_14]
  exact funext (block_of m hO t _ (arg9 m c) _ fun p q => (left m hO c t p q).2.2.2.trans (by rw [sum8_eq m hO c t p q h, blk10 m hO c t p q]; rfl))

/-! ## The reference -/

section

open Cert.Reference24Ideal.Read

variable {x0 x1 : FVec Ideal Cert.Reference24Ideal.S8x1282x2048 .bf16} {x2 : IVec Cert.Reference24Ideal.S1 32} {x3 x4 x5 x6 x7 x8 x9 : FVec Ideal Cert.Reference24Ideal.S2x1282x2048 .f32}

/-- The reference's gradient, entry by entry. -/
theorem ref_grad (x0 x1 : FVec Ideal Cert.Reference24Ideal.S8x1282x2048 .bf16) (x2 : IVec Cert.Reference24Ideal.S1 32) (i : Fin 1282) (j : Fin 2048) :
    ((val_main_v7 (F := Ideal) x0 x1 x2 : FVec Ideal Cert.Reference24Ideal.S1282x2048 .f32) (ix2 i j) : EReal) = grad (x2 (ix1 0)).toNat x0 x1 i.val j.val := by
  unfold val_main_v7 val_main_cst val_main_v6 val_main_v5 val_main_call0_v0 val_main_v4 val_main_v3 val_main_v2 val_main_v1 val_main_v0
  pointwise
  exact grad_pick (x2 (ix1 0)) x0 x1 i j

variable (γ : ℕ → ℕ → EReal) (hg : ∀ i j, ((val_main_v7 (F := Ideal) x0 x1 x2 : FVec Ideal Cert.Reference24Ideal.S1282x2048 .f32) (ix2 i j) : EReal) = γ i.val j.val) (y : Cert.Reference24Ideal.S2x1282x2048.Idx)
include hg

/-- The reference's gradient. -/
theorem ref11 : ((val_main_v42 (F := Ideal) x0 x1 x2 x6 : FVec Ideal Cert.Reference24Ideal.S2x1282x2048 .f32) y : EReal) = half2 (γ) x6 y := by
  have e0 : ∀ A : Cert.Reference24Ideal.S2x1282x2048.Idx → EReal, A (ix3 0 (y 1) (y 2)) = rd3 A 0 (y 1).val (y 2).val := fun A => rd3_at A 0 (y 1) (y 2)
  unfold val_main_v42 val_main_v41 val_main_v40 val_main_v39 val_main_v38
  generalize (val_main_v7 (F := Ideal) x0 x1 x2 : FVec Ideal Cert.Reference24Ideal.S1282x2048 .f32) = g at hg ⊢
  have eg : (g (ix2 (y 1) (y 2)) : EReal) = γ (y 1).val (y 2).val := hg (y 1) (y 2)
  pointwise
  refine half2_eq _ x6 y ?_
  exact eg

/-- The reference's change of the weight. -/
theorem ref12 : ((val_main_v47 (F := Ideal) x0 x1 x2 x3 x4 x5 x7 : FVec Ideal Cert.Reference24Ideal.S2x1282x2048 .f32) y : EReal) = half2 (stepW γ x3 x4 x5) x7 y := by
  have e0 : ∀ A : Cert.Reference24Ideal.S2x1282x2048.Idx → EReal, A (ix3 0 (y 1) (y 2)) = rd3 A 0 (y 1).val (y 2).val := fun A => rd3_at A 0 (y 1) (y 2)
  unfold val_main_v47 val_main_v46 val_main_v45 val_main_v44 val_main_v43 val_main_v37 val_main_v36 val_main_cst_8 val_main_v35 val_main_v34 val_main_v33 val_main_cst_7 val_main_v32 val_main_v31 val_main_v30 val_main_v29 val_main_v28 val_main_cst_6 val_main_v27 val_main_v26 val_main_v25 val_main_cst_5 val_main_v24 val_main_v23 val_main_cst_4 val_main_v22 val_main_v21 val_main_v20 val_main_cst_3 val_main_v19 val_main_v18 val_main_v17 val_main_cst_2 val_main_v16 val_main_v15 val_main_v14 val_main_v13 val_main_v12 val_main_cst_1 val_main_v11 val_main_v10 val_main_cst_0 val_main_v9 val_main_v8
  generalize (val_main_v7 (F := Ideal) x0 x1 x2 : FVec Ideal Cert.Reference24Ideal.S1282x2048 .f32) = g at hg ⊢
  have eg : (g (ix2 (y 1) (y 2)) : EReal) = γ (y 1).val (y 2).val := hg (y 1) (y 2)
  pointwise
  refine half2_eq _ x7 y ?_
  unfold stepW delta newM newV
  simp only [e0, eg]

/-- The reference's first moment. -/
theorem ref13 : ((val_main_v52 (F := Ideal) x0 x1 x2 x4 x8 : FVec Ideal Cert.Reference24Ideal.S2x1282x2048 .f32) y : EReal) = half2 (stepM γ x4) x8 y := by
  have e0 : ∀ A : Cert.Reference24Ideal.S2x1282x2048.Idx → EReal, A (ix3 0 (y 1) (y 2)) = rd3 A 0 (y 1).val (y 2).val := fun A => rd3_at A 0 (y 1) (y 2)
  unfold val_main_v52 val_main_v51 val_main_v50 val_main_v49 val_main_v48 val_main_v14 val_main_v13 val_main_v12 val_main_cst_1 val_main_v11 val_main_v10 val_main_cst_0 val_main_v9 val_main_v8
  generalize (val_main_v7 (F := Ideal) x0 x1 x2 : FVec Ideal Cert.Reference24Ideal.S1282x2048 .f32) = g at hg ⊢
  have eg : (g (ix2 (y 1) (y 2)) : EReal) = γ (y 1).val (y 2).val := hg (y 1) (y 2)
  pointwise
  refine half2_eq _ x8 y ?_
  unfold stepM newM
  simp only [e0, eg]

/-- The reference's second moment. -/
theorem ref14 : ((val_main_v57 (F := Ideal) x0 x1 x2 x5 x9 : FVec Ideal Cert.Reference24Ideal.S2x1282x2048 .f32) y : EReal) = half2 (stepV γ x5) x9 y := by
  have e0 : ∀ A : Cert.Reference24Ideal.S2x1282x2048.Idx → EReal, A (ix3 0 (y 1) (y 2)) = rd3 A 0 (y 1).val (y 2).val := fun A => rd3_at A 0 (y 1) (y 2)
  unfold val_main_v57 val_main_v56 val_main_v55 val_main_v54 val_main_v53 val_main_v22 val_main_v21 val_main_v20 val_main_cst_3 val_main_v19 val_main_v18 val_main_v17 val_main_cst_2 val_main_v16 val_main_v15
  generalize (val_main_v7 (F := Ideal) x0 x1 x2 : FVec Ideal Cert.Reference24Ideal.S1282x2048 .f32) = g at hg ⊢
  have eg : (g (ix2 (y 1) (y 2)) : EReal) = γ (y 1).val (y 2).val := hg (y 1) (y 2)
  pointwise
  refine half2_eq _ x9 y ?_
  unfold stepV newV
  simp only [e0, eg]

end

/-! ## The runs -/

/-- The kernel on words terminates, leaves its arguments as they were and every counter at zero. -/
theorem frame_words : @Cert.quiescent_Kernel24 Cert.Kernel24.Gen.facts Cert.Pre_device24.Gen.facts := fun m ρ h =>
by
  have hw : (num (F := Bits) m 0).toNat < 8 := num_lt (F := Bits) _ _ _ _ _ _ _ _ _ _ (h 0)
  have hO : Cert.Kernel24.Gen.Ok (F := Bits) m := ok_of (F := Bits) m hw
  exact Cert.Kernel24.Gen.frame (F := Bits) m ρ hO

/-- So does the kernel over the extended reals. -/
theorem frame_kernel : @Cert.quiescent_Kernel24Ideal Cert.Kernel24Ideal.Gen.facts Cert.Pre_device24.Gen.facts := fun m ρ h =>
  Gen.frame (F := Ideal) m ρ (ok_of m (num_lt _ _ _ _ _ _ _ _ _ _ (h 0)))

/-- The reference's frame: it terminates and leaves its arguments as they were. -/
theorem frame_reference : @Cert.quiescent_Reference24Ideal Cert.Reference24Ideal.Gen.facts := fun m ρ _ =>
  (θ_run Cert.Reference24Ideal.defs _ _).mono (fun r h => ⟨fun c => (h c).2.2.2.2,
      sem_eq_zero_of_no_sems (by decide) r.2⟩)
    (Cert.Reference24Ideal.Value.run m ρ)

/-- The same of arguments that meet the precondition. -/
theorem frame_reference_pre : @Cert.quiescent_Reference24Ideal_pre_device24 Cert.Reference24Ideal.Gen.facts Cert.Pre_device24.Gen.facts :=
  fun m ρ _ => frame_reference m ρ trivial

/-- The kernel and the reference compute the same four arrays over the extended reals. -/
theorem algebraic :
    @Cert.algebraic_Kernel24Ideal_Reference24Ideal Cert.Kernel24Ideal.Gen.facts Cert.Reference24Ideal.Gen.facts Cert.Pre_device24.Gen.facts := by
  intro m g m' g' hp hargs
  have hw : (num m 0).toNat < 8 := num_lt _ _ _ _ _ _ _ _ _ _ (hp 0)
  have hz : ∀ c : Dev nD, c = 0 := fun c => Subsingleton.elim (α := Fin 1) c 0
  refine ⟨res11 m, res12 m, res13 m, res14 m, (θ_run defs _ _).mono (fun _ k c => ?_)
    (θ_run_and (run_main m g (ok_of m hw)) (unchanged m g (ok_of m hw))), ?_⟩
  · have o := (k.1 c).1
    exact ⟨(o 11).trans (out_eq11 m _ c hw), (o 12).trans (out_eq12 m _ c hw), (o 13).trans (out_eq13 m _ c hw),
      (o 14).trans (out_eq14 m _ c hw), k.2 c⟩
  refine (θ_run Cert.Reference24Ideal.defs _ _).mono (fun r h c => ?_) (Cert.Reference24Ideal.Value.run m' g')
  obtain ⟨a0, a1, a2, a3, a4, a5, a6, a7, a8, a9⟩ := hargs c
  obtain ⟨h0, h1, h2, h3, k⟩ := h c
  have gr : ∀ i j, grad (m ((c : Thread nD τ).loc main_arg2) (ix1 0)).toNat (own m c) (land m c) i j = G m c i j := by
    intro i j
    rw [hz c, (funext fun a => Fin.ext (by fin_cases a; rfl) : (ix1 0 : (⟨1, ![1]⟩ : Shape).Idx) = z)]
    rfl
  have gq := fun i j => (ref_grad (m ((c : Thread nD τ).loc main_arg0)) (m ((c : Thread nD τ).loc main_arg1)) (m ((c : Thread nD τ).loc main_arg2)) i j).trans (gr i j)
  refine ⟨h0.trans ?_, h1.trans ?_, h2.trans ?_, h3.trans ?_, k⟩
  · rw [a0, a1, a2, a6]
    exact (Cert.Reference24Ideal.Read.val_main_v42_eq _ _ _ _).trans (funext fun y => ref11 _ gq y)
  · rw [a0, a1, a2, a3, a4, a5, a7]
    exact (Cert.Reference24Ideal.Read.val_main_v47_eq _ _ _ _ _ _ _).trans (funext fun y => ref12 _ gq y)
  · rw [a0, a1, a2, a4, a8]
    exact (Cert.Reference24Ideal.Read.val_main_v52_eq _ _ _ _ _).trans (funext fun y => ref13 _ gq y)
  · rw [a0, a1, a2, a5, a9]
    exact (Cert.Reference24Ideal.Read.val_main_v57_eq _ _ _ _ _).trans (funext fun y => ref14 _ gq y)

end Cert.Kernel24Ideal.Own
-- ==== Proof.ShardBranch.lean ====
module

public import proofs.«01_k».proof.Proof.Kit
public import proofs.«01_k».proof.Proof.Gen.Kernel25Ideal.Frame
public import proofs.«01_k».proof.Proof.Gen.Reference25Ideal.Read
public import proofs.«01_k».proof.Proof.AdamMath
public import proofs.«01_k».proof.Proof.ShardMath
public import proofs.«01_k».proof.Proof.Gen.Pre_device25
public import proofs.«01_k».proof.Proof.Gen.Kernel25.Frame

/-!
# The optimiser of one of the two branch projections

The gradient is cut over the eight devices; the other devices' parts of this device's share have landed in an array of
eight. At each step the kernel adds the eight parts of a block one by one, its own first, and makes the AdamW step of layer
0; layer 1's half of the results stays as an earlier call left it. The reference takes the sum over the devices.
-/

@[expose] public section

noncomputable section

namespace Cert.Kernel25Ideal.Own

open Cert.Kernel25Ideal Cert.Kernel25Ideal.Gen Idealize.ShloMosaic Idealize.ShloMosaic.TcCoe Idealize.SL.Sem Cert.AdamMath Cert.ShardMath
open Idealize.ShloMosaic.Pipeline (Dat)

theorem hz : (![0, 0, 0] : Fin 3 → Nat) = fun _ => 0 := funext fun a => by fin_cases a <;> rfl

/-! ## The number of the device, and where the blocks lie -/

/-- The only index of the array that holds the number. -/
noncomputable def z : S1.Idx := fun a => ⟨0, by fin_cases a; decide⟩

/-- What the precondition says of the device's number: it is below eight. -/
theorem num_lt {F : FTy → Type} [FloatOps F] (a0 a1 : FVec F S8x1024x256 .bf16) (w : IVec S1 32) (a3 a4 a5 a6 a7 a8 a9 : FVec F S2x1024x256 .f32)
    (h : @Cert.Pre_device25.fn Cert.Pre_device25.Gen.facts F _ a0 a1 w a3 a4 a5 a6 a7 a8 a9 = fun _ => 1#1) : (w z).toNat < 8 := by
  have e := congrFun h z
  unfold Cert.Pre_device25.fn at e
  exact below_eight (w z) e

section

variable {F : FTy → Type} [FloatOps F] (m : (ℓ : Loc nD τ sig) → Buf (Elt F) ℓ)

/-- The device's number. -/
noncomputable def num (c : Dev nD) : BitVec 32 := (m ((c : Thread nD τ).loc main_arg2) : S1.Idx → BitVec 32) z

/-- The number as the index maps read it. -/
theorem tbl_num : (tbl m).at 0 (Rect.unit (s := S1) ![0] S1.size inb_S1_S1_0) numel1_S1 = num m 0 := by
  have e : tbl m 0 = m (((0 : Dev nD) : Thread nD τ).loc main_arg2) := V_main_arg2 m 0
  unfold num
  rw [← e]
  exact congrArg (tbl m 0) (funext fun a => by fin_cases a; exact Subsingleton.elim (α := Fin 1) _ _)

/-- A block of one device's part lies inside the array. -/
theorem fits (w k : BitVec 32) (hw : w.toNat < 8) (hk : k.toNat < 8) (i : grid0.Coords) :
    ∀ a : Fin 3, ((![(w ^^^ k).toNat, (BitVec.ofNat 32 (i 0).val).toNat, (0#32).toNat] : Fin 3 → ℕ) a + 1) * S1x256x256.size a ≤ S8x1024x256.size a := by
  have h := xor_lt w k hw hk
  have hi : (i 0).val < 4 := (i 0).isLt
  have e : (BitVec.ofNat 32 (i 0).val).toNat = (i 0).val := by simp; omega
  intro a
  match a with
  | ⟨0, _⟩ => show ((w ^^^ k).toNat + 1) * 1 ≤ 8; omega
  | ⟨1, _⟩ => show ((BitVec.ofNat 32 (i 0).val).toNat + 1) * 256 ≤ 1024; rw [e]; omega
  | ⟨2, _⟩ => show ((0#32).toNat + 1) * 256 ≤ 256; decide

/-- A block of one device's part is whole words. -/
theorem words (ix : Fin 3 → ℕ) (h : ∀ a : Fin 3, (ix a + 1) * S1x256x256.size a ≤ S8x1024x256.size a) :
    (Rect.block (s := S8x1024x256) S1x256x256.size ix h).WholeWords (EltTy.packing .bf16) :=
  Or.inl (Or.inr ⟨(by decide : 2 ≤ 3), rfl, Or.inl (by show 2 ∣ ix 1 * 256 ∧ 2 ∣ 256; omega)⟩)

/-- The kernel's blocks lie inside the arrays if the number is below eight. -/
theorem ok_of (h : (num m 0).toNat < 8) : Ok m := by
  have e := tbl_num m
  have key : ∀ k : BitVec 32, k.toNat < 8 → ∀ i : grid0.Coords, _ := fun k hk i =>
    fits ((tbl m).at 0 (Rect.unit (s := S1) ![0] S1.size inb_S1_S1_0) numel1_S1) k (by rw [e]; exact h) hk i
  exact ⟨fun i => ⟨key 0#32 (by decide) i, Or.inr (words _ _)⟩, fun i => ⟨key 1#32 (by decide) i, Or.inr (words _ _)⟩, fun i => ⟨key 2#32 (by decide) i, Or.inr (words _ _)⟩, fun i => ⟨key 3#32 (by decide) i, Or.inr (words _ _)⟩, fun i => ⟨key 4#32 (by decide) i, Or.inr (words _ _)⟩, fun i => ⟨key 5#32 (by decide) i, Or.inr (words _ _)⟩, fun i => ⟨key 6#32 (by decide) i, Or.inr (words _ _)⟩, fun i => ⟨key 7#32 (by decide) i, Or.inr (words _ _)⟩⟩

end

/-! ## What a grid point leaves -/

/-- The four blocks that the body leaves, entry by entry: the gradient, the change of the weight, the two moments. -/
theorem body {c : Dev nD} {i : grid0.Coords} {arg2 arg3 arg4 arg5 arg6 arg7 arg8 arg9 : Memref sig .tc .vmem S1x256x256 .bf16} {arg10 arg11 arg12 arg17 arg18 arg19 arg20 : Memref sig .tc .vmem S1x256x256 .f32}
    {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg17 : arg17.IsWhole} {harg18 : arg18.IsWhole} {harg19 : arg19.IsWhole} {harg20 : arg20.IsWhole}
    {x0 x1 x2 x3 x4 x5 x6 x7 : Vec Ideal S1x256x256 .bf16} {x8 x9 x10 : Vec Ideal S1x256x256 .f32} {xt0 : TbBuf0 (F := Ideal) c tbM0_0} {p : Fin 256} {q : Fin 256} {R} (hR : R = kernelRun0_A (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 x0 x1 x2 x3 x4 x5 x6 x7 x8 x9 x10 xt0) :
    let g : EReal := x0 (ix3 0 p q) + x1 (ix3 0 p q) + x2 (ix3 0 p q) + x3 (ix3 0 p q) + x4 (ix3 0 p q) + x5 (ix3 0 p q) + x6 (ix3 0 p q) + x7 (ix3 0 p q)
    (VO0_11.read (Elt Ideal) (VO0_11.writes (Elt Ideal) VO0_11.junk R.1) : S1x256x256.Idx → EReal) (ix3 0 p q) = g ∧
    (VO0_12.read (Elt Ideal) (VO0_12.writes (Elt Ideal) VO0_12.junk R.2.1) : S1x256x256.Idx → EReal) (ix3 0 p q) = delta g (x8 (ix3 0 p q)) (x9 (ix3 0 p q)) (x10 (ix3 0 p q)) ∧
    (VO0_13.read (Elt Ideal) (VO0_13.writes (Elt Ideal) VO0_13.junk R.2.2.1) : S1x256x256.Idx → EReal) (ix3 0 p q) = newM g (x9 (ix3 0 p q)) ∧
    (VO0_14.read (Elt Ideal) (VO0_14.writes (Elt Ideal) VO0_14.junk R.2.2.2.1) : S1x256x256.Idx → EReal) (ix3 0 p q) = newV g (x10 (ix3 0 p q)) := by
  subst hR
  refine ⟨?_, ?_, ?_, ?_⟩
  all_goals
    rw [View.read_writes_eq_canon]
    swap
    · intro _
      first | exact cover0_A_11 .. | exact cover0_A_12 .. | exact cover0_A_13 .. | exact cover0_A_14 ..
    unfold kernelRun0_A
    dsimp only
    sl_unfold_words
    rw [View.canon_unit_zero hz]
    simp (discharger := assumption) only [View.readAt_eq_ld, Memref.IsWhole.read_unread, View.ld_unit_zero (S := S1x256x256) hz]
  · unfold k0_pay6 k0_pay3
    pointwise
  · unfold k0_pay7 k0_pay4 k0_pay5 k0_pay3 delta newM newV
    pointwise
  · unfold k0_pay1 k0_pay4 k0_pay3 newM
    pointwise
  · unfold k0_pay2 k0_pay5 k0_pay3 newV
    pointwise

variable (m : (ℓ : Loc nD τ sig) → Buf (Elt Ideal) ℓ) (hO : Ok m) (c : Dev nD) (t : Fin (cfgM m hO).N) (p : Fin 256) (q : Fin 256)

/-- The blocks that a grid point reads. -/
def bk0 : FVec Ideal S1x256x256 .bf16 := iblk m hO c 0 t
def bk1 : FVec Ideal S1x256x256 .bf16 := iblk m hO c 1 t
def bk2 : FVec Ideal S1x256x256 .bf16 := iblk m hO c 2 t
def bk3 : FVec Ideal S1x256x256 .bf16 := iblk m hO c 3 t
def bk4 : FVec Ideal S1x256x256 .bf16 := iblk m hO c 4 t
def bk5 : FVec Ideal S1x256x256 .bf16 := iblk m hO c 5 t
def bk6 : FVec Ideal S1x256x256 .bf16 := iblk m hO c 6 t
def bk7 : FVec Ideal S1x256x256 .bf16 := iblk m hO c 7 t
def bk8 : FVec Ideal S1x256x256 .f32 := iblk m hO c 8 t
def bk9 : FVec Ideal S1x256x256 .f32 := iblk m hO c 9 t
def bk10 : FVec Ideal S1x256x256 .f32 := iblk m hO c 10 t

/-- The sum of the eight parts at an entry of a block. -/
def sum8 (y : S1x256x256.Idx) : EReal := bk0 m hO c t y + bk1 m hO c t y + bk2 m hO c t y + bk3 m hO c t y + bk4 m hO c t y + bk5 m hO c t y + bk6 m hO c t y + bk7 m hO c t y

/-- The four blocks that a grid point leaves, entry by entry: the gradient, the change of the weight, the two moments. -/
theorem left : ((outsAt0 m hO c t).1 : S1x256x256.Idx → EReal) (ix3 0 p q) = (sum8 m hO c t (ix3 0 p q)) ∧
    ((outsAt0 m hO c t).2.1 : S1x256x256.Idx → EReal) (ix3 0 p q) = delta (sum8 m hO c t (ix3 0 p q)) (bk8 m hO c t (ix3 0 p q)) (bk9 m hO c t (ix3 0 p q)) (bk10 m hO c t (ix3 0 p q)) ∧
    ((outsAt0 m hO c t).2.2.1 : S1x256x256.Idx → EReal) (ix3 0 p q) = newM (sum8 m hO c t (ix3 0 p q)) (bk9 m hO c t (ix3 0 p q)) ∧
    ((outsAt0 m hO c t).2.2.2 : S1x256x256.Idx → EReal) (ix3 0 p q) = newV (sum8 m hO c t (ix3 0 p q)) (bk10 m hO c t (ix3 0 p q)) := by
  unfold outsAt0 out0_A_11 out0_A_12 out0_A_13 out0_A_14
  dsimp only
  exact body (p := p) (q := q) (x0 := bk0 m hO c t) (x1 := bk1 m hO c t) (x2 := bk2 m hO c t) (x3 := bk3 m hO c t) (x4 := bk4 m hO c t) (x5 := bk5 m hO c t) (x6 := bk6 m hO c t) (x7 := bk7 m hO c t) (x8 := bk8 m hO c t) (x9 := bk9 m hO c t) (x10 := bk10 m hO c t) rfl

/-! ## The blocks of the arguments -/

/-- The coordinate of a grid point. -/
theorem crd : ∀ t : Fin grid0.N, (BitVec.ofNat 32 (grid0.coords t 0).val).toNat = t.val := by decide +kernel

/-- The row of the array at a row of the block. -/
abbrev rw0 (t p : ℕ) : ℕ := t * 256 + p
/-- The column of the array at a column of the block. -/
abbrev cl0 (t q : ℕ) : ℕ := 0 * 256 + q

theorem row_eq (t : Fin grid0.N) (p : ℕ) : (BitVec.ofNat 32 (grid0.coords t 0).val).toNat * 256 + 1 * p = rw0 t.val p := by rw [crd t]; unfold rw0; omega
theorem col_eq (t : Fin grid0.N) (q : ℕ) : (0#32).toNat * 256 + 1 * q = cl0 t.val q := by unfold cl0; simp

/-- The arguments as arrays with three axes. -/
abbrev own : (⟨3, ![8, 1024, 256]⟩ : Shape).Idx → EReal := m ((c : Thread nD τ).loc main_arg0)
abbrev land : (⟨3, ![8, 1024, 256]⟩ : Shape).Idx → EReal := m ((c : Thread nD τ).loc main_arg1)
abbrev arg3 : (⟨3, ![2, 1024, 256]⟩ : Shape).Idx → EReal := m ((c : Thread nD τ).loc main_arg3)
abbrev arg4 : (⟨3, ![2, 1024, 256]⟩ : Shape).Idx → EReal := m ((c : Thread nD τ).loc main_arg4)
abbrev arg5 : (⟨3, ![2, 1024, 256]⟩ : Shape).Idx → EReal := m ((c : Thread nD τ).loc main_arg5)
abbrev arg6 : (⟨3, ![2, 1024, 256]⟩ : Shape).Idx → EReal := m ((c : Thread nD τ).loc main_arg6)
abbrev arg7 : (⟨3, ![2, 1024, 256]⟩ : Shape).Idx → EReal := m ((c : Thread nD τ).loc main_arg7)
abbrev arg8 : (⟨3, ![2, 1024, 256]⟩ : Shape).Idx → EReal := m ((c : Thread nD τ).loc main_arg8)
abbrev arg9 : (⟨3, ![2, 1024, 256]⟩ : Shape).Idx → EReal := m ((c : Thread nD τ).loc main_arg9)

/-- An entry of the block that an index map with these two last coordinates names. -/
theorem at_blk {n a : ℕ} (A : (⟨3, ![n, 1024, 256]⟩ : Shape).Idx → EReal) (b : ℕ) (y : (⟨3, ![n, 1024, 256]⟩ : Shape).Idx)
    (h0 : (y 0).val = b * 1 + 1 * 0) (e0 : b = a)
    (h1 : (y 1).val = (BitVec.ofNat 32 (grid0.coords t 0).val).toNat * 256 + 1 * p) (h2 : (y 2).val = (0#32).toNat * 256 + 1 * q) : A y = rd3 A a (rw0 t.val p) (cl0 t.val q) :=
  blk_val A ![b, (BitVec.ofNat 32 (grid0.coords t 0).val).toNat, (0#32).toNat] y p.val q.val h0 h1 h2 e0 (row_eq t p.val) (col_eq t q.val)

theorem blk0 : bk0 m hO c t (ix3 0 p q) = rd3 (own m c) (num m 0 ^^^ 0#32).toNat (rw0 t.val p.val) (cl0 t.val q.val) :=
  (congrFun (V_main_arg0 m c) _).trans (at_blk m hO t p q (own m c) (num m 0 ^^^ 0#32).toNat _ (by rw [← tbl_num]; rfl) rfl rfl rfl)

/-- The other devices' parts of the gradient at a grid point, entry by entry. -/
theorem blks {L : BitVec 32 → EReal} (hL : L = fun k => rd3 (land m c) (num m 0 ^^^ k).toNat (rw0 t.val p.val) (cl0 t.val q.val)) :
    bk1 m hO c t (ix3 0 p q) = L 1#32 ∧
    bk2 m hO c t (ix3 0 p q) = L 2#32 ∧
    bk3 m hO c t (ix3 0 p q) = L 3#32 ∧
    bk4 m hO c t (ix3 0 p q) = L 4#32 ∧
    bk5 m hO c t (ix3 0 p q) = L 5#32 ∧
    bk6 m hO c t (ix3 0 p q) = L 6#32 ∧
    bk7 m hO c t (ix3 0 p q) = L 7#32 := by
  subst hL
  refine ⟨?_, ?_, ?_, ?_, ?_, ?_, ?_⟩ <;>
    exact (congrFun (V_main_arg1 m c) _).trans (at_blk m hO t p q (land m c) _ _ (by rw [← tbl_num]; rfl) rfl rfl rfl)

theorem blk8 : bk8 m hO c t (ix3 0 p q) = rd3 (arg3 m c) 0 (rw0 t.val p.val) (cl0 t.val q.val) :=
  (congrFun (V_main_arg3 m c) _).trans (at_blk m hO t p q (arg3 m c) (0#32).toNat _ rfl rfl rfl rfl)

theorem blk9 : bk9 m hO c t (ix3 0 p q) = rd3 (arg4 m c) 0 (rw0 t.val p.val) (cl0 t.val q.val) :=
  (congrFun (V_main_arg4 m c) _).trans (at_blk m hO t p q (arg4 m c) (0#32).toNat _ rfl rfl rfl rfl)

theorem blk10 : bk10 m hO c t (ix3 0 p q) = rd3 (arg5 m c) 0 (rw0 t.val p.val) (cl0 t.val q.val) :=
  (congrFun (V_main_arg5 m c) _).trans (at_blk m hO t p q (arg5 m c) (0#32).toNat _ rfl rfl rfl rfl)

/-- The gradient at an entry of the whole arrays. -/
def G (i j : ℕ) : EReal := grad (num m 0).toNat (own m c) (land m c) i j

/-- The sum of the eight parts of a block is the gradient where the block lies. -/
theorem sum8_eq (h : (num m 0).toNat < 8) : sum8 m hO c t (ix3 0 p q) = G m c (rw0 t.val p.val) (cl0 t.val q.val) := by
  unfold sum8 G grad
  obtain ⟨e1, e2, e3, e4, e5, e6, e7⟩ := blks m hO c t p q rfl
  rw [blk0 m hO c t p q, e1, e2, e3, e4, e5, e6, e7]
  exact sum_parts (num m 0) h (fun d => rd3 (own m c) d _ _) (fun d => rd3 (land m c) d _ _)

/-! ## The arrays after the run -/

/-- Where an entry of a result's block lies: in layer 0's half. -/
theorem at_rect (y : S2x1024x256.Idx) (hy : (((cfgM m hO).win 11).rect t).idx (ix3 0 p q) = y) :
    (y 0).val = 0 ∧ (y 1).val = rw0 t.val p.val ∧ (y 2).val = cl0 t.val q.val := by
  subst hy
  exact ⟨rfl, row_eq t p.val, col_eq t q.val⟩

/-- A block of a result whose entries are those of a function is the block of the array whose first half it gives. -/
theorem block_of (f : ℕ → ℕ → EReal) (A : S2x1024x256.Idx → EReal) (X : S1x256x256.Idx → EReal)
    (h : ∀ (p : Fin 256) (q : Fin 256), X (ix3 0 p q) = f (rw0 t.val p.val) (cl0 t.val q.val)) (x : S1x256x256.Idx) :
    X x = half2 f A ((((cfgM m hO).win 11).rect t).idx x) := by
  obtain ⟨p, q, rfl⟩ : ∃ (p : Fin 256) (q : Fin 256), x = (ix3 0 p q) :=
    ⟨x 1, x 2, (ShardMath.ix3_eta x).trans (congrArg (fun a : Fin 1 => ix3 a (x 1) (x 2)) (Subsingleton.elim (α := Fin 1) _ _))⟩
  exact (h p q).trans (half2_pos f A _ (at_rect m hO t p q _ rfl)).symm

/-- Every entry of layer 0's half lies in a block. -/
theorem mem_rect (i : S2x1024x256.Idx) (h0 : (i 0).val = 0) : ∃ t : Fin (cfgM m hO).N, i ∈ (((cfgM m hO).win 11).rect t).set := by
  have h1 : (i 1).val < 1024 := (i 1).isLt
  have h2 : (i 2).val < 256 := (i 2).isLt
  obtain ⟨t, ht⟩ : ∃ t : Fin (cfgM m hO).N, t.val = (i 1).val / 256 := ⟨⟨_, (by omega : (i 1).val / 256 < 4)⟩, rfl⟩
  refine ⟨t, Rect.mem_set_unit.mpr fun a => ?_⟩
  have e := crd t
  match a with
  | ⟨0, _⟩ => show 0 * 1 ≤ (i 0).val ∧ (i 0).val < 0 * 1 + 1; omega
  | ⟨1, _⟩ => show (BitVec.ofNat 32 (grid0.coords t 0).val).toNat * 256 ≤ (i 1).val ∧ (i 1).val < (BitVec.ofNat 32 (grid0.coords t 0).val).toNat * 256 + 256; rw [e]; omega
  | ⟨2, _⟩ => show (0#32).toNat * 256 ≤ (i 2).val ∧ (i 2).val < (0#32).toNat * 256 + 256; simp; omega

/-- The array of the gradient: layer 0's half new, layer 1's as it was. -/
def res11 : S2x1024x256.Idx → EReal := half2 (G m c) (arg6 m c)

theorem out_eq11 (h : (num m 0).toNat < 8) : (dats m hO 0 c).arrAt 11 (cfgM m hO).N = res11 m c := by
  have old : V m c main_v0_0 = arg6 m c := by unfold_abbrev_sides; after_results; rfl
  refine funext fun i => settle ((dats m hO 0 c).arrAt_eq_piecewise 11 (res11 m c) (fun t _ => ?_) i)
    (fun h0 => (mem_rect m hO i h0).imp fun t ht => ⟨flush0_11 _ t,
      Eq.mpr (congrArg (fun s => i ∈ s) (View.set_slice_whole main_v0_0 (((cfgM m hO).win 11).rect t))) ht⟩)
    fun h0 => (congrFun (A_eq m hO c 11) i).trans ((congrFun old i).trans (half2_neg _ (arg6 m c) i h0))
  show ((cfgM m hO).win 11).cut (grid0.coords t) ((dats m hO 0 c).after 11 t) = _
  rw [after0_11]
  exact funext (block_of m hO t _ (arg6 m c) _ fun p q => (left m hO c t p q).1.trans (by rw [sum8_eq m hO c t p q h]))

/-- The array of the change of the weight: layer 0's half new, layer 1's as it was. -/
def res12 : S2x1024x256.Idx → EReal := half2 (stepW (G m c) (arg3 m c) (arg4 m c) (arg5 m c)) (arg7 m c)

theorem out_eq12 (h : (num m 0).toNat < 8) : (dats m hO 0 c).arrAt 12 (cfgM m hO).N = res12 m c := by
  have old : V m c main_v0_1 = arg7 m c := by unfold_abbrev_sides; after_results; rfl
  refine funext fun i => settle ((dats m hO 0 c).arrAt_eq_piecewise 12 (res12 m c) (fun t _ => ?_) i)
    (fun h0 => (mem_rect m hO i h0).imp fun t ht => ⟨flush0_12 _ t,
      Eq.mpr (congrArg (fun s => i ∈ s) (View.set_slice_whole main_v0_1 (((cfgM m hO).win 12).rect t))) ht⟩)
    fun h0 => (congrFun (A_eq m hO c 12) i).trans ((congrFun old i).trans (half2_neg _ (arg7 m c) i h0))
  show ((cfgM m hO).win 12).cut (grid0.coords t) ((dats m hO 0 c).after 12 t) = _
  rw [after0_12]
  exact funext (block_of m hO t _ (arg7 m c) _ fun p q => (left m hO c t p q).2.1.trans (by rw [sum8_eq m hO c t p q h, blk8 m hO c t p q, blk9 m hO c t p q, blk10 m hO c t p q]; rfl))

/-- The array of the first moment: layer 0's half new, layer 1's as it was. -/
def res13 : S2x1024x256.Idx → EReal := half2 (stepM (G m c) (arg4 m c)) (arg8 m c)

theorem out_eq13 (h : (num m 0).toNat < 8) : (dats m hO 0 c).arrAt 13 (cfgM m hO).N = res13 m c := by
  have old : V m c main_v0_2 = arg8 m c := by unfold_abbrev_sides; after_results; rfl
  refine funext fun i => settle ((dats m hO 0 c).arrAt_eq_piecewise 13 (res13 m c) (fun t _ => ?_) i)
    (fun h0 => (mem_rect m hO i h0).imp fun t ht => ⟨flush0_13 _ t,
      Eq.mpr (congrArg (fun s => i ∈ s) (View.set_slice_whole main_v0_2 (((cfgM m hO).win 13).rect t))) ht⟩)
    fun h0 => (congrFun (A_eq m hO c 13) i).trans ((congrFun old i).trans (half2_neg _ (arg8 m c) i h0))
  show ((cfgM m hO).win 13).cut (grid0.coords t) ((dats m hO 0 c).after 13 t) = _
  rw [after0_13]
  exact funext (block_of m hO t _ (arg8 m c) _ fun p q => (left m hO c t p q).2.2.1.trans (by rw [sum8_eq m hO c t p q h, blk9 m hO c t p q]; rfl))

/-- The array of the second moment: layer 0's half new, layer 1's as it was. -/
def res14 : S2x1024x256.Idx → EReal := half2 (stepV (G m c) (arg5 m c)) (arg9 m c)

theorem out_eq14 (h : (num m 0).toNat < 8) : (dats m hO 0 c).arrAt 14 (cfgM m hO).N = res14 m c := by
  have old : V m c main_v0_3 = arg9 m c := by unfold_abbrev_sides; after_results; rfl
  refine funext fun i => settle ((dats m hO 0 c).arrAt_eq_piecewise 14 (res14 m c) (fun t _ => ?_) i)
    (fun h0 => (mem_rect m hO i h0).imp fun t ht => ⟨flush0_14 _ t,
      Eq.mpr (congrArg (fun s => i ∈ s) (View.set_slice_whole main_v0_3 (((cfgM m hO).win 14).rect t))) ht⟩)
    fun h0 => (congrFun (A_eq m hO c 14) i).trans ((congrFun old i).trans (half2_neg _ (arg9 m c) i h0))
  show ((cfgM m hO).win 14).cut (grid0.coords t) ((dats m hO 0 c).after 14 t) = _
  rw [after0_14]
  exact funext (block_of m hO t _ (arg9 m c) _ fun p q => (left m hO c t p q).2.2.2.trans (by rw [sum8_eq m hO c t p q h, blk10 m hO c t p q]; rfl))

/-! ## The reference -/

section

open Cert.Reference25Ideal.Read

variable {x0 x1 : FVec Ideal Cert.Reference25Ideal.S8x1024x256 .bf16} {x2 : IVec Cert.Reference25Ideal.S1 32} {x3 x4 x5 x6 x7 x8 x9 : FVec Ideal Cert.Reference25Ideal.S2x1024x256 .f32}

/-- The reference's gradient, entry by entry. -/
theorem ref_grad (x0 x1 : FVec Ideal Cert.Reference25Ideal.S8x1024x256 .bf16) (x2 : IVec Cert.Reference25Ideal.S1 32) (i : Fin 1024) (j : Fin 256) :
    ((val_main_v7 (F := Ideal) x0 x1 x2 : FVec Ideal Cert.Reference25Ideal.S1024x256 .f32) (ix2 i j) : EReal) = grad (x2 (ix1 0)).toNat x0 x1 i.val j.val := by
  unfold val_main_v7 val_main_cst val_main_v6 val_main_v5 val_main_call0_v0 val_main_v4 val_main_v3 val_main_v2 val_main_v1 val_main_v0
  pointwise
  exact grad_pick (x2 (ix1 0)) x0 x1 i j

variable (γ : ℕ → ℕ → EReal) (hg : ∀ i j, ((val_main_v7 (F := Ideal) x0 x1 x2 : FVec Ideal Cert.Reference25Ideal.S1024x256 .f32) (ix2 i j) : EReal) = γ i.val j.val) (y : Cert.Reference25Ideal.S2x1024x256.Idx)
include hg

/-- The reference's gradient. -/
theorem ref11 : ((val_main_v42 (F := Ideal) x0 x1 x2 x6 : FVec Ideal Cert.Reference25Ideal.S2x1024x256 .f32) y : EReal) = half2 (γ) x6 y := by
  have e0 : ∀ A : Cert.Reference25Ideal.S2x1024x256.Idx → EReal, A (ix3 0 (y 1) (y 2)) = rd3 A 0 (y 1).val (y 2).val := fun A => rd3_at A 0 (y 1) (y 2)
  unfold val_main_v42 val_main_v41 val_main_v40 val_main_v39 val_main_v38
  generalize (val_main_v7 (F := Ideal) x0 x1 x2 : FVec Ideal Cert.Reference25Ideal.S1024x256 .f32) = g at hg ⊢
  have eg : (g (ix2 (y 1) (y 2)) : EReal) = γ (y 1).val (y 2).val := hg (y 1) (y 2)
  pointwise
  refine half2_eq _ x6 y ?_
  exact eg

/-- The reference's change of the weight. -/
theorem ref12 : ((val_main_v47 (F := Ideal) x0 x1 x2 x3 x4 x5 x7 : FVec Ideal Cert.Reference25Ideal.S2x1024x256 .f32) y : EReal) = half2 (stepW γ x3 x4 x5) x7 y := by
  have e0 : ∀ A : Cert.Reference25Ideal.S2x1024x256.Idx → EReal, A (ix3 0 (y 1) (y 2)) = rd3 A 0 (y 1).val (y 2).val := fun A => rd3_at A 0 (y 1) (y 2)
  unfold val_main_v47 val_main_v46 val_main_v45 val_main_v44 val_main_v43 val_main_v37 val_main_v36 val_main_cst_8 val_main_v35 val_main_v34 val_main_v33 val_main_cst_7 val_main_v32 val_main_v31 val_main_v30 val_main_v29 val_main_v28 val_main_cst_6 val_main_v27 val_main_v26 val_main_v25 val_main_cst_5 val_main_v24 val_main_v23 val_main_cst_4 val_main_v22 val_main_v21 val_main_v20 val_main_cst_3 val_main_v19 val_main_v18 val_main_v17 val_main_cst_2 val_main_v16 val_main_v15 val_main_v14 val_main_v13 val_main_v12 val_main_cst_1 val_main_v11 val_main_v10 val_main_cst_0 val_main_v9 val_main_v8
  generalize (val_main_v7 (F := Ideal) x0 x1 x2 : FVec Ideal Cert.Reference25Ideal.S1024x256 .f32) = g at hg ⊢
  have eg : (g (ix2 (y 1) (y 2)) : EReal) = γ (y 1).val (y 2).val := hg (y 1) (y 2)
  pointwise
  refine half2_eq _ x7 y ?_
  unfold stepW delta newM newV
  simp only [e0, eg]

/-- The reference's first moment. -/
theorem ref13 : ((val_main_v52 (F := Ideal) x0 x1 x2 x4 x8 : FVec Ideal Cert.Reference25Ideal.S2x1024x256 .f32) y : EReal) = half2 (stepM γ x4) x8 y := by
  have e0 : ∀ A : Cert.Reference25Ideal.S2x1024x256.Idx → EReal, A (ix3 0 (y 1) (y 2)) = rd3 A 0 (y 1).val (y 2).val := fun A => rd3_at A 0 (y 1) (y 2)
  unfold val_main_v52 val_main_v51 val_main_v50 val_main_v49 val_main_v48 val_main_v14 val_main_v13 val_main_v12 val_main_cst_1 val_main_v11 val_main_v10 val_main_cst_0 val_main_v9 val_main_v8
  generalize (val_main_v7 (F := Ideal) x0 x1 x2 : FVec Ideal Cert.Reference25Ideal.S1024x256 .f32) = g at hg ⊢
  have eg : (g (ix2 (y 1) (y 2)) : EReal) = γ (y 1).val (y 2).val := hg (y 1) (y 2)
  pointwise
  refine half2_eq _ x8 y ?_
  unfold stepM newM
  simp only [e0, eg]

/-- The reference's second moment. -/
theorem ref14 : ((val_main_v57 (F := Ideal) x0 x1 x2 x5 x9 : FVec Ideal Cert.Reference25Ideal.S2x1024x256 .f32) y : EReal) = half2 (stepV γ x5) x9 y := by
  have e0 : ∀ A : Cert.Reference25Ideal.S2x1024x256.Idx → EReal, A (ix3 0 (y 1) (y 2)) = rd3 A 0 (y 1).val (y 2).val := fun A => rd3_at A 0 (y 1) (y 2)
  unfold val_main_v57 val_main_v56 val_main_v55 val_main_v54 val_main_v53 val_main_v22 val_main_v21 val_main_v20 val_main_cst_3 val_main_v19 val_main_v18 val_main_v17 val_main_cst_2 val_main_v16 val_main_v15
  generalize (val_main_v7 (F := Ideal) x0 x1 x2 : FVec Ideal Cert.Reference25Ideal.S1024x256 .f32) = g at hg ⊢
  have eg : (g (ix2 (y 1) (y 2)) : EReal) = γ (y 1).val (y 2).val := hg (y 1) (y 2)
  pointwise
  refine half2_eq _ x9 y ?_
  unfold stepV newV
  simp only [e0, eg]

end

/-! ## The runs -/

/-- The kernel on words terminates, leaves its arguments as they were and every counter at zero. -/
theorem frame_words : @Cert.quiescent_Kernel25 Cert.Kernel25.Gen.facts Cert.Pre_device25.Gen.facts := fun m ρ h =>
by
  have hw : (num (F := Bits) m 0).toNat < 8 := num_lt (F := Bits) _ _ _ _ _ _ _ _ _ _ (h 0)
  have hO : Cert.Kernel25.Gen.Ok (F := Bits) m := ok_of (F := Bits) m hw
  exact Cert.Kernel25.Gen.frame (F := Bits) m ρ hO

/-- So does the kernel over the extended reals. -/
theorem frame_kernel : @Cert.quiescent_Kernel25Ideal Cert.Kernel25Ideal.Gen.facts Cert.Pre_device25.Gen.facts := fun m ρ h =>
  Gen.frame (F := Ideal) m ρ (ok_of m (num_lt _ _ _ _ _ _ _ _ _ _ (h 0)))

/-- The reference's frame: it terminates and leaves its arguments as they were. -/
theorem frame_reference : @Cert.quiescent_Reference25Ideal Cert.Reference25Ideal.Gen.facts := fun m ρ _ =>
  (θ_run Cert.Reference25Ideal.defs _ _).mono (fun r h => ⟨fun c => (h c).2.2.2.2,
      sem_eq_zero_of_no_sems (by decide) r.2⟩)
    (Cert.Reference25Ideal.Value.run m ρ)

/-- The same of arguments that meet the precondition. -/
theorem frame_reference_pre : @Cert.quiescent_Reference25Ideal_pre_device25 Cert.Reference25Ideal.Gen.facts Cert.Pre_device25.Gen.facts :=
  fun m ρ _ => frame_reference m ρ trivial

/-- The kernel and the reference compute the same four arrays over the extended reals. -/
theorem algebraic :
    @Cert.algebraic_Kernel25Ideal_Reference25Ideal Cert.Kernel25Ideal.Gen.facts Cert.Reference25Ideal.Gen.facts Cert.Pre_device25.Gen.facts := by
  intro m g m' g' hp hargs
  have hw : (num m 0).toNat < 8 := num_lt _ _ _ _ _ _ _ _ _ _ (hp 0)
  have hz : ∀ c : Dev nD, c = 0 := fun c => Subsingleton.elim (α := Fin 1) c 0
  refine ⟨res11 m, res12 m, res13 m, res14 m, (θ_run defs _ _).mono (fun _ k c => ?_)
    (θ_run_and (run_main m g (ok_of m hw)) (unchanged m g (ok_of m hw))), ?_⟩
  · have o := (k.1 c).1
    exact ⟨(o 11).trans (out_eq11 m _ c hw), (o 12).trans (out_eq12 m _ c hw), (o 13).trans (out_eq13 m _ c hw),
      (o 14).trans (out_eq14 m _ c hw), k.2 c⟩
  refine (θ_run Cert.Reference25Ideal.defs _ _).mono (fun r h c => ?_) (Cert.Reference25Ideal.Value.run m' g')
  obtain ⟨a0, a1, a2, a3, a4, a5, a6, a7, a8, a9⟩ := hargs c
  obtain ⟨h0, h1, h2, h3, k⟩ := h c
  have gr : ∀ i j, grad (m ((c : Thread nD τ).loc main_arg2) (ix1 0)).toNat (own m c) (land m c) i j = G m c i j := by
    intro i j
    rw [hz c, (funext fun a => Fin.ext (by fin_cases a; rfl) : (ix1 0 : (⟨1, ![1]⟩ : Shape).Idx) = z)]
    rfl
  have gq := fun i j => (ref_grad (m ((c : Thread nD τ).loc main_arg0)) (m ((c : Thread nD τ).loc main_arg1)) (m ((c : Thread nD τ).loc main_arg2)) i j).trans (gr i j)
  refine ⟨h0.trans ?_, h1.trans ?_, h2.trans ?_, h3.trans ?_, k⟩
  · rw [a0, a1, a2, a6]
    exact (Cert.Reference25Ideal.Read.val_main_v42_eq _ _ _ _).trans (funext fun y => ref11 _ gq y)
  · rw [a0, a1, a2, a3, a4, a5, a7]
    exact (Cert.Reference25Ideal.Read.val_main_v47_eq _ _ _ _ _ _ _).trans (funext fun y => ref12 _ gq y)
  · rw [a0, a1, a2, a4, a8]
    exact (Cert.Reference25Ideal.Read.val_main_v52_eq _ _ _ _ _).trans (funext fun y => ref13 _ gq y)
  · rw [a0, a1, a2, a5, a9]
    exact (Cert.Reference25Ideal.Read.val_main_v57_eq _ _ _ _ _).trans (funext fun y => ref14 _ gq y)

end Cert.Kernel25Ideal.Own
-- ==== Proof.ShardFfn.lean ====
module

public import proofs.«01_k».proof.Proof.Kit
public import proofs.«01_k».proof.Proof.Gen.Kernel26Ideal.Frame
public import proofs.«01_k».proof.Proof.Gen.Reference26Ideal.Read
public import proofs.«01_k».proof.Proof.AdamMath
public import proofs.«01_k».proof.Proof.ShardMath
public import proofs.«01_k».proof.Proof.Gen.Pre_device26
public import proofs.«01_k».proof.Proof.Gen.Kernel26.Frame

/-!
# The optimiser of one of the three feed-forward matrices

The gradient is cut over the eight devices; the other devices' parts of this device's share have landed in an array of
eight. At each step the kernel adds the eight parts of a block one by one, its own first, and makes the AdamW step of layer
0; layer 1's half of the results stays as an earlier call left it. The reference takes the sum over the devices.
-/

@[expose] public section

noncomputable section

namespace Cert.Kernel26Ideal.Own

open Cert.Kernel26Ideal Cert.Kernel26Ideal.Gen Idealize.ShloMosaic Idealize.ShloMosaic.TcCoe Idealize.SL.Sem Cert.AdamMath Cert.ShardMath
open Idealize.ShloMosaic.Pipeline (Dat)

theorem hz : (![0, 0, 0] : Fin 3 → Nat) = fun _ => 0 := funext fun a => by fin_cases a <;> rfl

/-! ## The number of the device, and where the blocks lie -/

/-- The only index of the array that holds the number. -/
noncomputable def z : S1.Idx := fun a => ⟨0, by fin_cases a; decide⟩

/-- What the precondition says of the device's number: it is below eight. -/
theorem num_lt {F : FTy → Type} [FloatOps F] (a0 a1 : FVec F S8x704x2048 .bf16) (w : IVec S1 32) (a3 a4 a5 a6 a7 a8 a9 : FVec F S2x704x2048 .f32)
    (h : @Cert.Pre_device26.fn Cert.Pre_device26.Gen.facts F _ a0 a1 w a3 a4 a5 a6 a7 a8 a9 = fun _ => 1#1) : (w z).toNat < 8 := by
  have e := congrFun h z
  unfold Cert.Pre_device26.fn at e
  exact below_eight (w z) e

section

variable {F : FTy → Type} [FloatOps F] (m : (ℓ : Loc nD τ sig) → Buf (Elt F) ℓ)

/-- The device's number. -/
noncomputable def num (c : Dev nD) : BitVec 32 := (m ((c : Thread nD τ).loc main_arg2) : S1.Idx → BitVec 32) z

/-- The number as the index maps read it. -/
theorem tbl_num : (tbl m).at 0 (Rect.unit (s := S1) ![0] S1.size inb_S1_S1_0) numel1_S1 = num m 0 := by
  have e : tbl m 0 = m (((0 : Dev nD) : Thread nD τ).loc main_arg2) := V_main_arg2 m 0
  unfold num
  rw [← e]
  exact congrArg (tbl m 0) (funext fun a => by fin_cases a; exact Subsingleton.elim (α := Fin 1) _ _)

/-- A block of one device's part lies inside the array. -/
theorem fits (w k : BitVec 32) (hw : w.toNat < 8) (hk : k.toNat < 8) (i : grid0.Coords) :
    ∀ a : Fin 3, ((![(w ^^^ k).toNat, (BitVec.ofNat 32 (i 0).val).toNat, (0#32).toNat] : Fin 3 → ℕ) a + 1) * S1x176x2048.size a ≤ S8x704x2048.size a := by
  have h := xor_lt w k hw hk
  have hi : (i 0).val < 4 := (i 0).isLt
  have e : (BitVec.ofNat 32 (i 0).val).toNat = (i 0).val := by simp; omega
  intro a
  match a with
  | ⟨0, _⟩ => show ((w ^^^ k).toNat + 1) * 1 ≤ 8; omega
  | ⟨1, _⟩ => show ((BitVec.ofNat 32 (i 0).val).toNat + 1) * 176 ≤ 704; rw [e]; omega
  | ⟨2, _⟩ => show ((0#32).toNat + 1) * 2048 ≤ 2048; decide

/-- A block of one device's part is whole words. -/
theorem words (ix : Fin 3 → ℕ) (h : ∀ a : Fin 3, (ix a + 1) * S1x176x2048.size a ≤ S8x704x2048.size a) :
    (Rect.block (s := S8x704x2048) S1x176x2048.size ix h).WholeWords (EltTy.packing .bf16) :=
  Or.inl (Or.inr ⟨(by decide : 2 ≤ 3), rfl, Or.inl (by show 2 ∣ ix 1 * 176 ∧ 2 ∣ 176; omega)⟩)

/-- The kernel's blocks lie inside the arrays if the number is below eight. -/
theorem ok_of (h : (num m 0).toNat < 8) : Ok m := by
  have e := tbl_num m
  have key : ∀ k : BitVec 32, k.toNat < 8 → ∀ i : grid0.Coords, _ := fun k hk i =>
    fits ((tbl m).at 0 (Rect.unit (s := S1) ![0] S1.size inb_S1_S1_0) numel1_S1) k (by rw [e]; exact h) hk i
  exact ⟨fun i => ⟨key 0#32 (by decide) i, Or.inr (words _ _)⟩, fun i => ⟨key 1#32 (by decide) i, Or.inr (words _ _)⟩, fun i => ⟨key 2#32 (by decide) i, Or.inr (words _ _)⟩, fun i => ⟨key 3#32 (by decide) i, Or.inr (words _ _)⟩, fun i => ⟨key 4#32 (by decide) i, Or.inr (words _ _)⟩, fun i => ⟨key 5#32 (by decide) i, Or.inr (words _ _)⟩, fun i => ⟨key 6#32 (by decide) i, Or.inr (words _ _)⟩, fun i => ⟨key 7#32 (by decide) i, Or.inr (words _ _)⟩⟩

end

/-! ## What a grid point leaves -/

/-- The four blocks that the body leaves, entry by entry: the gradient, the change of the weight, the two moments. -/
theorem body {c : Dev nD} {i : grid0.Coords} {arg2 arg3 arg4 arg5 arg6 arg7 arg8 arg9 : Memref sig .tc .vmem S1x176x2048 .bf16} {arg10 arg11 arg12 arg17 arg18 arg19 arg20 : Memref sig .tc .vmem S1x176x2048 .f32}
    {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg17 : arg17.IsWhole} {harg18 : arg18.IsWhole} {harg19 : arg19.IsWhole} {harg20 : arg20.IsWhole}
    {x0 x1 x2 x3 x4 x5 x6 x7 : Vec Ideal S1x176x2048 .bf16} {x8 x9 x10 : Vec Ideal S1x176x2048 .f32} {xt0 : TbBuf0 (F := Ideal) c tbM0_0} {p : Fin 176} {q : Fin 2048} {R} (hR : R = kernelRun0_A (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 x0 x1 x2 x3 x4 x5 x6 x7 x8 x9 x10 xt0) :
    let g : EReal := x0 (ix3 0 p q) + x1 (ix3 0 p q) + x2 (ix3 0 p q) + x3 (ix3 0 p q) + x4 (ix3 0 p q) + x5 (ix3 0 p q) + x6 (ix3 0 p q) + x7 (ix3 0 p q)
    (VO0_11.read (Elt Ideal) (VO0_11.writes (Elt Ideal) VO0_11.junk R.1) : S1x176x2048.Idx → EReal) (ix3 0 p q) = g ∧
    (VO0_12.read (Elt Ideal) (VO0_12.writes (Elt Ideal) VO0_12.junk R.2.1) : S1x176x2048.Idx → EReal) (ix3 0 p q) = delta g (x8 (ix3 0 p q)) (x9 (ix3 0 p q)) (x10 (ix3 0 p q)) ∧
    (VO0_13.read (Elt Ideal) (VO0_13.writes (Elt Ideal) VO0_13.junk R.2.2.1) : S1x176x2048.Idx → EReal) (ix3 0 p q) = newM g (x9 (ix3 0 p q)) ∧
    (VO0_14.read (Elt Ideal) (VO0_14.writes (Elt Ideal) VO0_14.junk R.2.2.2.1) : S1x176x2048.Idx → EReal) (ix3 0 p q) = newV g (x10 (ix3 0 p q)) := by
  subst hR
  refine ⟨?_, ?_, ?_, ?_⟩
  all_goals
    rw [View.read_writes_eq_canon]
    swap
    · intro _
      first | exact cover0_A_11 .. | exact cover0_A_12 .. | exact cover0_A_13 .. | exact cover0_A_14 ..
    unfold kernelRun0_A
    dsimp only
    sl_unfold_words
    rw [View.canon_unit_zero hz]
    simp (discharger := assumption) only [View.readAt_eq_ld, Memref.IsWhole.read_unread, View.ld_unit_zero (S := S1x176x2048) hz]
  · unfold k0_pay6 k0_pay3
    pointwise
  · unfold k0_pay7 k0_pay4 k0_pay5 k0_pay3 delta newM newV
    pointwise
  · unfold k0_pay1 k0_pay4 k0_pay3 newM
    pointwise
  · unfold k0_pay2 k0_pay5 k0_pay3 newV
    pointwise

variable (m : (ℓ : Loc nD τ sig) → Buf (Elt Ideal) ℓ) (hO : Ok m) (c : Dev nD) (t : Fin (cfgM m hO).N) (p : Fin 176) (q : Fin 2048)

/-- The blocks that a grid point reads. -/
def bk0 : FVec Ideal S1x176x2048 .bf16 := iblk m hO c 0 t
def bk1 : FVec Ideal S1x176x2048 .bf16 := iblk m hO c 1 t
def bk2 : FVec Ideal S1x176x2048 .bf16 := iblk m hO c 2 t
def bk3 : FVec Ideal S1x176x2048 .bf16 := iblk m hO c 3 t
def bk4 : FVec Ideal S1x176x2048 .bf16 := iblk m hO c 4 t
def bk5 : FVec Ideal S1x176x2048 .bf16 := iblk m hO c 5 t
def bk6 : FVec Ideal S1x176x2048 .bf16 := iblk m hO c 6 t
def bk7 : FVec Ideal S1x176x2048 .bf16 := iblk m hO c 7 t
def bk8 : FVec Ideal S1x176x2048 .f32 := iblk m hO c 8 t
def bk9 : FVec Ideal S1x176x2048 .f32 := iblk m hO c 9 t
def bk10 : FVec Ideal S1x176x2048 .f32 := iblk m hO c 10 t

/-- The sum of the eight parts at an entry of a block. -/
def sum8 (y : S1x176x2048.Idx) : EReal := bk0 m hO c t y + bk1 m hO c t y + bk2 m hO c t y + bk3 m hO c t y + bk4 m hO c t y + bk5 m hO c t y + bk6 m hO c t y + bk7 m hO c t y

/-- The four blocks that a grid point leaves, entry by entry: the gradient, the change of the weight, the two moments. -/
theorem left : ((outsAt0 m hO c t).1 : S1x176x2048.Idx → EReal) (ix3 0 p q) = (sum8 m hO c t (ix3 0 p q)) ∧
    ((outsAt0 m hO c t).2.1 : S1x176x2048.Idx → EReal) (ix3 0 p q) = delta (sum8 m hO c t (ix3 0 p q)) (bk8 m hO c t (ix3 0 p q)) (bk9 m hO c t (ix3 0 p q)) (bk10 m hO c t (ix3 0 p q)) ∧
    ((outsAt0 m hO c t).2.2.1 : S1x176x2048.Idx → EReal) (ix3 0 p q) = newM (sum8 m hO c t (ix3 0 p q)) (bk9 m hO c t (ix3 0 p q)) ∧
    ((outsAt0 m hO c t).2.2.2 : S1x176x2048.Idx → EReal) (ix3 0 p q) = newV (sum8 m hO c t (ix3 0 p q)) (bk10 m hO c t (ix3 0 p q)) := by
  unfold outsAt0 out0_A_11 out0_A_12 out0_A_13 out0_A_14
  dsimp only
  exact body (p := p) (q := q) (x0 := bk0 m hO c t) (x1 := bk1 m hO c t) (x2 := bk2 m hO c t) (x3 := bk3 m hO c t) (x4 := bk4 m hO c t) (x5 := bk5 m hO c t) (x6 := bk6 m hO c t) (x7 := bk7 m hO c t) (x8 := bk8 m hO c t) (x9 := bk9 m hO c t) (x10 := bk10 m hO c t) rfl

/-! ## The blocks of the arguments -/

/-- The coordinate of a grid point. -/
theorem crd : ∀ t : Fin grid0.N, (BitVec.ofNat 32 (grid0.coords t 0).val).toNat = t.val := by decide +kernel

/-- The row of the array at a row of the block. -/
abbrev rw0 (t p : ℕ) : ℕ := t * 176 + p
/-- The column of the array at a column of the block. -/
abbrev cl0 (t q : ℕ) : ℕ := 0 * 2048 + q

theorem row_eq (t : Fin grid0.N) (p : ℕ) : (BitVec.ofNat 32 (grid0.coords t 0).val).toNat * 176 + 1 * p = rw0 t.val p := by rw [crd t]; unfold rw0; omega
theorem col_eq (t : Fin grid0.N) (q : ℕ) : (0#32).toNat * 2048 + 1 * q = cl0 t.val q := by unfold cl0; simp

/-- The arguments as arrays with three axes. -/
abbrev own : (⟨3, ![8, 704, 2048]⟩ : Shape).Idx → EReal := m ((c : Thread nD τ).loc main_arg0)
abbrev land : (⟨3, ![8, 704, 2048]⟩ : Shape).Idx → EReal := m ((c : Thread nD τ).loc main_arg1)
abbrev arg3 : (⟨3, ![2, 704, 2048]⟩ : Shape).Idx → EReal := m ((c : Thread nD τ).loc main_arg3)
abbrev arg4 : (⟨3, ![2, 704, 2048]⟩ : Shape).Idx → EReal := m ((c : Thread nD τ).loc main_arg4)
abbrev arg5 : (⟨3, ![2, 704, 2048]⟩ : Shape).Idx → EReal := m ((c : Thread nD τ).loc main_arg5)
abbrev arg6 : (⟨3, ![2, 704, 2048]⟩ : Shape).Idx → EReal := m ((c : Thread nD τ).loc main_arg6)
abbrev arg7 : (⟨3, ![2, 704, 2048]⟩ : Shape).Idx → EReal := m ((c : Thread nD τ).loc main_arg7)
abbrev arg8 : (⟨3, ![2, 704, 2048]⟩ : Shape).Idx → EReal := m ((c : Thread nD τ).loc main_arg8)
abbrev arg9 : (⟨3, ![2, 704, 2048]⟩ : Shape).Idx → EReal := m ((c : Thread nD τ).loc main_arg9)

/-- An entry of the block that an index map with these two last coordinates names. -/
theorem at_blk {n a : ℕ} (A : (⟨3, ![n, 704, 2048]⟩ : Shape).Idx → EReal) (b : ℕ) (y : (⟨3, ![n, 704, 2048]⟩ : Shape).Idx)
    (h0 : (y 0).val = b * 1 + 1 * 0) (e0 : b = a)
    (h1 : (y 1).val = (BitVec.ofNat 32 (grid0.coords t 0).val).toNat * 176 + 1 * p) (h2 : (y 2).val = (0#32).toNat * 2048 + 1 * q) : A y = rd3 A a (rw0 t.val p) (cl0 t.val q) :=
  blk_val A ![b, (BitVec.ofNat 32 (grid0.coords t 0).val).toNat, (0#32).toNat] y p.val q.val h0 h1 h2 e0 (row_eq t p.val) (col_eq t q.val)

theorem blk0 : bk0 m hO c t (ix3 0 p q) = rd3 (own m c) (num m 0 ^^^ 0#32).toNat (rw0 t.val p.val) (cl0 t.val q.val) :=
  (congrFun (V_main_arg0 m c) _).trans (at_blk m hO t p q (own m c) (num m 0 ^^^ 0#32).toNat _ (by rw [← tbl_num]; rfl) rfl rfl rfl)

/-- The other devices' parts of the gradient at a grid point, entry by entry. -/
theorem blks {L : BitVec 32 → EReal} (hL : L = fun k => rd3 (land m c) (num m 0 ^^^ k).toNat (rw0 t.val p.val) (cl0 t.val q.val)) :
    bk1 m hO c t (ix3 0 p q) = L 1#32 ∧
    bk2 m hO c t (ix3 0 p q) = L 2#32 ∧
    bk3 m hO c t (ix3 0 p q) = L 3#32 ∧
    bk4 m hO c t (ix3 0 p q) = L 4#32 ∧
    bk5 m hO c t (ix3 0 p q) = L 5#32 ∧
    bk6 m hO c t (ix3 0 p q) = L 6#32 ∧
    bk7 m hO c t (ix3 0 p q) = L 7#32 := by
  subst hL
  refine ⟨?_, ?_, ?_, ?_, ?_, ?_, ?_⟩ <;>
    exact (congrFun (V_main_arg1 m c) _).trans (at_blk m hO t p q (land m c) _ _ (by rw [← tbl_num]; rfl) rfl rfl rfl)

theorem blk8 : bk8 m hO c t (ix3 0 p q) = rd3 (arg3 m c) 0 (rw0 t.val p.val) (cl0 t.val q.val) :=
  (congrFun (V_main_arg3 m c) _).trans (at_blk m hO t p q (arg3 m c) (0#32).toNat _ rfl rfl rfl rfl)

theorem blk9 : bk9 m hO c t (ix3 0 p q) = rd3 (arg4 m c) 0 (rw0 t.val p.val) (cl0 t.val q.val) :=
  (congrFun (V_main_arg4 m c) _).trans (at_blk m hO t p q (arg4 m c) (0#32).toNat _ rfl rfl rfl rfl)

theorem blk10 : bk10 m hO c t (ix3 0 p q) = rd3 (arg5 m c) 0 (rw0 t.val p.val) (cl0 t.val q.val) :=
  (congrFun (V_main_arg5 m c) _).trans (at_blk m hO t p q (arg5 m c) (0#32).toNat _ rfl rfl rfl rfl)

/-- The gradient at an entry of the whole arrays. -/
def G (i j : ℕ) : EReal := grad (num m 0).toNat (own m c) (land m c) i j

/-- The sum of the eight parts of a block is the gradient where the block lies. -/
theorem sum8_eq (h : (num m 0).toNat < 8) : sum8 m hO c t (ix3 0 p q) = G m c (rw0 t.val p.val) (cl0 t.val q.val) := by
  unfold sum8 G grad
  obtain ⟨e1, e2, e3, e4, e5, e6, e7⟩ := blks m hO c t p q rfl
  rw [blk0 m hO c t p q, e1, e2, e3, e4, e5, e6, e7]
  exact sum_parts (num m 0) h (fun d => rd3 (own m c) d _ _) (fun d => rd3 (land m c) d _ _)

/-! ## The arrays after the run -/

/-- Where an entry of a result's block lies: in layer 0's half. -/
theorem at_rect (y : S2x704x2048.Idx) (hy : (((cfgM m hO).win 11).rect t).idx (ix3 0 p q) = y) :
    (y 0).val = 0 ∧ (y 1).val = rw0 t.val p.val ∧ (y 2).val = cl0 t.val q.val := by
  subst hy
  exact ⟨rfl, row_eq t p.val, col_eq t q.val⟩

/-- A block of a result whose entries are those of a function is the block of the array whose first half it gives. -/
theorem block_of (f : ℕ → ℕ → EReal) (A : S2x704x2048.Idx → EReal) (X : S1x176x2048.Idx → EReal)
    (h : ∀ (p : Fin 176) (q : Fin 2048), X (ix3 0 p q) = f (rw0 t.val p.val) (cl0 t.val q.val)) (x : S1x176x2048.Idx) :
    X x = half2 f A ((((cfgM m hO).win 11).rect t).idx x) := by
  obtain ⟨p, q, rfl⟩ : ∃ (p : Fin 176) (q : Fin 2048), x = (ix3 0 p q) :=
    ⟨x 1, x 2, (ShardMath.ix3_eta x).trans (congrArg (fun a : Fin 1 => ix3 a (x 1) (x 2)) (Subsingleton.elim (α := Fin 1) _ _))⟩
  exact (h p q).trans (half2_pos f A _ (at_rect m hO t p q _ rfl)).symm

/-- Every entry of layer 0's half lies in a block. -/
theorem mem_rect (i : S2x704x2048.Idx) (h0 : (i 0).val = 0) : ∃ t : Fin (cfgM m hO).N, i ∈ (((cfgM m hO).win 11).rect t).set := by
  have h1 : (i 1).val < 704 := (i 1).isLt
  have h2 : (i 2).val < 2048 := (i 2).isLt
  obtain ⟨t, ht⟩ : ∃ t : Fin (cfgM m hO).N, t.val = (i 1).val / 176 := ⟨⟨_, (by omega : (i 1).val / 176 < 4)⟩, rfl⟩
  refine ⟨t, Rect.mem_set_unit.mpr fun a => ?_⟩
  have e := crd t
  match a with
  | ⟨0, _⟩ => show 0 * 1 ≤ (i 0).val ∧ (i 0).val < 0 * 1 + 1; omega
  | ⟨1, _⟩ => show (BitVec.ofNat 32 (grid0.coords t 0).val).toNat * 176 ≤ (i 1).val ∧ (i 1).val < (BitVec.ofNat 32 (grid0.coords t 0).val).toNat * 176 + 176; rw [e]; omega
  | ⟨2, _⟩ => show (0#32).toNat * 2048 ≤ (i 2).val ∧ (i 2).val < (0#32).toNat * 2048 + 2048; simp; omega

/-- The array of the gradient: layer 0's half new, layer 1's as it was. -/
def res11 : S2x704x2048.Idx → EReal := half2 (G m c) (arg6 m c)

theorem out_eq11 (h : (num m 0).toNat < 8) : (dats m hO 0 c).arrAt 11 (cfgM m hO).N = res11 m c := by
  have old : V m c main_v0_0 = arg6 m c := by unfold_abbrev_sides; after_results; rfl
  refine funext fun i => settle ((dats m hO 0 c).arrAt_eq_piecewise 11 (res11 m c) (fun t _ => ?_) i)
    (fun h0 => (mem_rect m hO i h0).imp fun t ht => ⟨flush0_11 _ t,
      Eq.mpr (congrArg (fun s => i ∈ s) (View.set_slice_whole main_v0_0 (((cfgM m hO).win 11).rect t))) ht⟩)
    fun h0 => (congrFun (A_eq m hO c 11) i).trans ((congrFun old i).trans (half2_neg _ (arg6 m c) i h0))
  show ((cfgM m hO).win 11).cut (grid0.coords t) ((dats m hO 0 c).after 11 t) = _
  rw [after0_11]
  exact funext (block_of m hO t _ (arg6 m c) _ fun p q => (left m hO c t p q).1.trans (by rw [sum8_eq m hO c t p q h]))

/-- The array of the change of the weight: layer 0's half new, layer 1's as it was. -/
def res12 : S2x704x2048.Idx → EReal := half2 (stepW (G m c) (arg3 m c) (arg4 m c) (arg5 m c)) (arg7 m c)

theorem out_eq12 (h : (num m 0).toNat < 8) : (dats m hO 0 c).arrAt 12 (cfgM m hO).N = res12 m c := by
  have old : V m c main_v0_1 = arg7 m c := by unfold_abbrev_sides; after_results; rfl
  refine funext fun i => settle ((dats m hO 0 c).arrAt_eq_piecewise 12 (res12 m c) (fun t _ => ?_) i)
    (fun h0 => (mem_rect m hO i h0).imp fun t ht => ⟨flush0_12 _ t,
      Eq.mpr (congrArg (fun s => i ∈ s) (View.set_slice_whole main_v0_1 (((cfgM m hO).win 12).rect t))) ht⟩)
    fun h0 => (congrFun (A_eq m hO c 12) i).trans ((congrFun old i).trans (half2_neg _ (arg7 m c) i h0))
  show ((cfgM m hO).win 12).cut (grid0.coords t) ((dats m hO 0 c).after 12 t) = _
  rw [after0_12]
  exact funext (block_of m hO t _ (arg7 m c) _ fun p q => (left m hO c t p q).2.1.trans (by rw [sum8_eq m hO c t p q h, blk8 m hO c t p q, blk9 m hO c t p q, blk10 m hO c t p q]; rfl))

/-- The array of the first moment: layer 0's half new, layer 1's as it was. -/
def res13 : S2x704x2048.Idx → EReal := half2 (stepM (G m c) (arg4 m c)) (arg8 m c)

theorem out_eq13 (h : (num m 0).toNat < 8) : (dats m hO 0 c).arrAt 13 (cfgM m hO).N = res13 m c := by
  have old : V m c main_v0_2 = arg8 m c := by unfold_abbrev_sides; after_results; rfl
  refine funext fun i => settle ((dats m hO 0 c).arrAt_eq_piecewise 13 (res13 m c) (fun t _ => ?_) i)
    (fun h0 => (mem_rect m hO i h0).imp fun t ht => ⟨flush0_13 _ t,
      Eq.mpr (congrArg (fun s => i ∈ s) (View.set_slice_whole main_v0_2 (((cfgM m hO).win 13).rect t))) ht⟩)
    fun h0 => (congrFun (A_eq m hO c 13) i).trans ((congrFun old i).trans (half2_neg _ (arg8 m c) i h0))
  show ((cfgM m hO).win 13).cut (grid0.coords t) ((dats m hO 0 c).after 13 t) = _
  rw [after0_13]
  exact funext (block_of m hO t _ (arg8 m c) _ fun p q => (left m hO c t p q).2.2.1.trans (by rw [sum8_eq m hO c t p q h, blk9 m hO c t p q]; rfl))

/-- The array of the second moment: layer 0's half new, layer 1's as it was. -/
def res14 : S2x704x2048.Idx → EReal := half2 (stepV (G m c) (arg5 m c)) (arg9 m c)

theorem out_eq14 (h : (num m 0).toNat < 8) : (dats m hO 0 c).arrAt 14 (cfgM m hO).N = res14 m c := by
  have old : V m c main_v0_3 = arg9 m c := by unfold_abbrev_sides; after_results; rfl
  refine funext fun i => settle ((dats m hO 0 c).arrAt_eq_piecewise 14 (res14 m c) (fun t _ => ?_) i)
    (fun h0 => (mem_rect m hO i h0).imp fun t ht => ⟨flush0_14 _ t,
      Eq.mpr (congrArg (fun s => i ∈ s) (View.set_slice_whole main_v0_3 (((cfgM m hO).win 14).rect t))) ht⟩)
    fun h0 => (congrFun (A_eq m hO c 14) i).trans ((congrFun old i).trans (half2_neg _ (arg9 m c) i h0))
  show ((cfgM m hO).win 14).cut (grid0.coords t) ((dats m hO 0 c).after 14 t) = _
  rw [after0_14]
  exact funext (block_of m hO t _ (arg9 m c) _ fun p q => (left m hO c t p q).2.2.2.trans (by rw [sum8_eq m hO c t p q h, blk10 m hO c t p q]; rfl))

/-! ## The reference -/

section

open Cert.Reference26Ideal.Read

variable {x0 x1 : FVec Ideal Cert.Reference26Ideal.S8x704x2048 .bf16} {x2 : IVec Cert.Reference26Ideal.S1 32} {x3 x4 x5 x6 x7 x8 x9 : FVec Ideal Cert.Reference26Ideal.S2x704x2048 .f32}

/-- The reference's gradient, entry by entry. -/
theorem ref_grad (x0 x1 : FVec Ideal Cert.Reference26Ideal.S8x704x2048 .bf16) (x2 : IVec Cert.Reference26Ideal.S1 32) (i : Fin 704) (j : Fin 2048) :
    ((val_main_v7 (F := Ideal) x0 x1 x2 : FVec Ideal Cert.Reference26Ideal.S704x2048 .f32) (ix2 i j) : EReal) = grad (x2 (ix1 0)).toNat x0 x1 i.val j.val := by
  unfold val_main_v7 val_main_cst val_main_v6 val_main_v5 val_main_call0_v0 val_main_v4 val_main_v3 val_main_v2 val_main_v1 val_main_v0
  pointwise
  exact grad_pick (x2 (ix1 0)) x0 x1 i j

variable (γ : ℕ → ℕ → EReal) (hg : ∀ i j, ((val_main_v7 (F := Ideal) x0 x1 x2 : FVec Ideal Cert.Reference26Ideal.S704x2048 .f32) (ix2 i j) : EReal) = γ i.val j.val) (y : Cert.Reference26Ideal.S2x704x2048.Idx)
include hg

/-- The reference's gradient. -/
theorem ref11 : ((val_main_v42 (F := Ideal) x0 x1 x2 x6 : FVec Ideal Cert.Reference26Ideal.S2x704x2048 .f32) y : EReal) = half2 (γ) x6 y := by
  have e0 : ∀ A : Cert.Reference26Ideal.S2x704x2048.Idx → EReal, A (ix3 0 (y 1) (y 2)) = rd3 A 0 (y 1).val (y 2).val := fun A => rd3_at A 0 (y 1) (y 2)
  unfold val_main_v42 val_main_v41 val_main_v40 val_main_v39 val_main_v38
  generalize (val_main_v7 (F := Ideal) x0 x1 x2 : FVec Ideal Cert.Reference26Ideal.S704x2048 .f32) = g at hg ⊢
  have eg : (g (ix2 (y 1) (y 2)) : EReal) = γ (y 1).val (y 2).val := hg (y 1) (y 2)
  pointwise
  refine half2_eq _ x6 y ?_
  exact eg

/-- The reference's change of the weight. -/
theorem ref12 : ((val_main_v47 (F := Ideal) x0 x1 x2 x3 x4 x5 x7 : FVec Ideal Cert.Reference26Ideal.S2x704x2048 .f32) y : EReal) = half2 (stepW γ x3 x4 x5) x7 y := by
  have e0 : ∀ A : Cert.Reference26Ideal.S2x704x2048.Idx → EReal, A (ix3 0 (y 1) (y 2)) = rd3 A 0 (y 1).val (y 2).val := fun A => rd3_at A 0 (y 1) (y 2)
  unfold val_main_v47 val_main_v46 val_main_v45 val_main_v44 val_main_v43 val_main_v37 val_main_v36 val_main_cst_8 val_main_v35 val_main_v34 val_main_v33 val_main_cst_7 val_main_v32 val_main_v31 val_main_v30 val_main_v29 val_main_v28 val_main_cst_6 val_main_v27 val_main_v26 val_main_v25 val_main_cst_5 val_main_v24 val_main_v23 val_main_cst_4 val_main_v22 val_main_v21 val_main_v20 val_main_cst_3 val_main_v19 val_main_v18 val_main_v17 val_main_cst_2 val_main_v16 val_main_v15 val_main_v14 val_main_v13 val_main_v12 val_main_cst_1 val_main_v11 val_main_v10 val_main_cst_0 val_main_v9 val_main_v8
  generalize (val_main_v7 (F := Ideal) x0 x1 x2 : FVec Ideal Cert.Reference26Ideal.S704x2048 .f32) = g at hg ⊢
  have eg : (g (ix2 (y 1) (y 2)) : EReal) = γ (y 1).val (y 2).val := hg (y 1) (y 2)
  pointwise
  refine half2_eq _ x7 y ?_
  unfold stepW delta newM newV
  simp only [e0, eg]

/-- The reference's first moment. -/
theorem ref13 : ((val_main_v52 (F := Ideal) x0 x1 x2 x4 x8 : FVec Ideal Cert.Reference26Ideal.S2x704x2048 .f32) y : EReal) = half2 (stepM γ x4) x8 y := by
  have e0 : ∀ A : Cert.Reference26Ideal.S2x704x2048.Idx → EReal, A (ix3 0 (y 1) (y 2)) = rd3 A 0 (y 1).val (y 2).val := fun A => rd3_at A 0 (y 1) (y 2)
  unfold val_main_v52 val_main_v51 val_main_v50 val_main_v49 val_main_v48 val_main_v14 val_main_v13 val_main_v12 val_main_cst_1 val_main_v11 val_main_v10 val_main_cst_0 val_main_v9 val_main_v8
  generalize (val_main_v7 (F := Ideal) x0 x1 x2 : FVec Ideal Cert.Reference26Ideal.S704x2048 .f32) = g at hg ⊢
  have eg : (g (ix2 (y 1) (y 2)) : EReal) = γ (y 1).val (y 2).val := hg (y 1) (y 2)
  pointwise
  refine half2_eq _ x8 y ?_
  unfold stepM newM
  simp only [e0, eg]

/-- The reference's second moment. -/
theorem ref14 : ((val_main_v57 (F := Ideal) x0 x1 x2 x5 x9 : FVec Ideal Cert.Reference26Ideal.S2x704x2048 .f32) y : EReal) = half2 (stepV γ x5) x9 y := by
  have e0 : ∀ A : Cert.Reference26Ideal.S2x704x2048.Idx → EReal, A (ix3 0 (y 1) (y 2)) = rd3 A 0 (y 1).val (y 2).val := fun A => rd3_at A 0 (y 1) (y 2)
  unfold val_main_v57 val_main_v56 val_main_v55 val_main_v54 val_main_v53 val_main_v22 val_main_v21 val_main_v20 val_main_cst_3 val_main_v19 val_main_v18 val_main_v17 val_main_cst_2 val_main_v16 val_main_v15
  generalize (val_main_v7 (F := Ideal) x0 x1 x2 : FVec Ideal Cert.Reference26Ideal.S704x2048 .f32) = g at hg ⊢
  have eg : (g (ix2 (y 1) (y 2)) : EReal) = γ (y 1).val (y 2).val := hg (y 1) (y 2)
  pointwise
  refine half2_eq _ x9 y ?_
  unfold stepV newV
  simp only [e0, eg]

end

/-! ## The runs -/

/-- The kernel on words terminates, leaves its arguments as they were and every counter at zero. -/
theorem frame_words : @Cert.quiescent_Kernel26 Cert.Kernel26.Gen.facts Cert.Pre_device26.Gen.facts := fun m ρ h =>
by
  have hw : (num (F := Bits) m 0).toNat < 8 := num_lt (F := Bits) _ _ _ _ _ _ _ _ _ _ (h 0)
  have hO : Cert.Kernel26.Gen.Ok (F := Bits) m := ok_of (F := Bits) m hw
  exact Cert.Kernel26.Gen.frame (F := Bits) m ρ hO

/-- So does the kernel over the extended reals. -/
theorem frame_kernel : @Cert.quiescent_Kernel26Ideal Cert.Kernel26Ideal.Gen.facts Cert.Pre_device26.Gen.facts := fun m ρ h =>
  Gen.frame (F := Ideal) m ρ (ok_of m (num_lt _ _ _ _ _ _ _ _ _ _ (h 0)))

/-- The reference's frame: it terminates and leaves its arguments as they were. -/
theorem frame_reference : @Cert.quiescent_Reference26Ideal Cert.Reference26Ideal.Gen.facts := fun m ρ _ =>
  (θ_run Cert.Reference26Ideal.defs _ _).mono (fun r h => ⟨fun c => (h c).2.2.2.2,
      sem_eq_zero_of_no_sems (by decide) r.2⟩)
    (Cert.Reference26Ideal.Value.run m ρ)

/-- The same of arguments that meet the precondition. -/
theorem frame_reference_pre : @Cert.quiescent_Reference26Ideal_pre_device26 Cert.Reference26Ideal.Gen.facts Cert.Pre_device26.Gen.facts :=
  fun m ρ _ => frame_reference m ρ trivial

/-- The kernel and the reference compute the same four arrays over the extended reals. -/
theorem algebraic :
    @Cert.algebraic_Kernel26Ideal_Reference26Ideal Cert.Kernel26Ideal.Gen.facts Cert.Reference26Ideal.Gen.facts Cert.Pre_device26.Gen.facts := by
  intro m g m' g' hp hargs
  have hw : (num m 0).toNat < 8 := num_lt _ _ _ _ _ _ _ _ _ _ (hp 0)
  have hz : ∀ c : Dev nD, c = 0 := fun c => Subsingleton.elim (α := Fin 1) c 0
  refine ⟨res11 m, res12 m, res13 m, res14 m, (θ_run defs _ _).mono (fun _ k c => ?_)
    (θ_run_and (run_main m g (ok_of m hw)) (unchanged m g (ok_of m hw))), ?_⟩
  · have o := (k.1 c).1
    exact ⟨(o 11).trans (out_eq11 m _ c hw), (o 12).trans (out_eq12 m _ c hw), (o 13).trans (out_eq13 m _ c hw),
      (o 14).trans (out_eq14 m _ c hw), k.2 c⟩
  refine (θ_run Cert.Reference26Ideal.defs _ _).mono (fun r h c => ?_) (Cert.Reference26Ideal.Value.run m' g')
  obtain ⟨a0, a1, a2, a3, a4, a5, a6, a7, a8, a9⟩ := hargs c
  obtain ⟨h0, h1, h2, h3, k⟩ := h c
  have gr : ∀ i j, grad (m ((c : Thread nD τ).loc main_arg2) (ix1 0)).toNat (own m c) (land m c) i j = G m c i j := by
    intro i j
    rw [hz c, (funext fun a => Fin.ext (by fin_cases a; rfl) : (ix1 0 : (⟨1, ![1]⟩ : Shape).Idx) = z)]
    rfl
  have gq := fun i j => (ref_grad (m ((c : Thread nD τ).loc main_arg0)) (m ((c : Thread nD τ).loc main_arg1)) (m ((c : Thread nD τ).loc main_arg2)) i j).trans (gr i j)
  refine ⟨h0.trans ?_, h1.trans ?_, h2.trans ?_, h3.trans ?_, k⟩
  · rw [a0, a1, a2, a6]
    exact (Cert.Reference26Ideal.Read.val_main_v42_eq _ _ _ _).trans (funext fun y => ref11 _ gq y)
  · rw [a0, a1, a2, a3, a4, a5, a7]
    exact (Cert.Reference26Ideal.Read.val_main_v47_eq _ _ _ _ _ _ _).trans (funext fun y => ref12 _ gq y)
  · rw [a0, a1, a2, a4, a8]
    exact (Cert.Reference26Ideal.Read.val_main_v52_eq _ _ _ _ _).trans (funext fun y => ref13 _ gq y)
  · rw [a0, a1, a2, a5, a9]
    exact (Cert.Reference26Ideal.Read.val_main_v57_eq _ _ _ _ _).trans (funext fun y => ref14 _ gq y)

end Cert.Kernel26Ideal.Own
-- ==== Proof.ShardDnConv.lean ====
module

public import proofs.«01_k».proof.Proof.Kit
public import proofs.«01_k».proof.Proof.Gen.Kernel27Ideal.Frame
public import proofs.«01_k».proof.Proof.Gen.Reference27Ideal.Read
public import proofs.«01_k».proof.Proof.AdamMath
public import proofs.«01_k».proof.Proof.ShardMath
public import proofs.«01_k».proof.Proof.Gen.Pre_device27
public import proofs.«01_k».proof.Proof.Gen.Kernel27.Frame

/-!
# The optimiser of the short convolution

The gradient is cut over the eight devices; the other devices' parts of this device's share have landed in an array of
eight. At each step the kernel adds the eight parts of a block one by one, its own first, and makes the AdamW step of layer
0; layer 1's half of the results stays as an earlier call left it. The reference takes the sum over the devices.
-/

@[expose] public section

noncomputable section

namespace Cert.Kernel27Ideal.Own

open Cert.Kernel27Ideal Cert.Kernel27Ideal.Gen Idealize.ShloMosaic Idealize.ShloMosaic.TcCoe Idealize.SL.Sem Cert.AdamMath Cert.ShardMath
open Idealize.ShloMosaic.Pipeline (Dat)

theorem hz : (![0, 0, 0] : Fin 3 → Nat) = fun _ => 0 := funext fun a => by fin_cases a <;> rfl

/-! ## The number of the device, and where the blocks lie -/

/-- The only index of the array that holds the number. -/
noncomputable def z : S1.Idx := fun a => ⟨0, by fin_cases a; decide⟩

/-- What the precondition says of the device's number: it is below eight. -/
theorem num_lt {F : FTy → Type} [FloatOps F] (a0 a1 : FVec F S8x4x384 .f32) (w : IVec S1 32) (a3 a4 a5 a6 a7 a8 a9 : FVec F S2x4x384 .f32)
    (h : @Cert.Pre_device27.fn Cert.Pre_device27.Gen.facts F _ a0 a1 w a3 a4 a5 a6 a7 a8 a9 = fun _ => 1#1) : (w z).toNat < 8 := by
  have e := congrFun h z
  unfold Cert.Pre_device27.fn at e
  exact below_eight (w z) e

section

variable {F : FTy → Type} [FloatOps F] (m : (ℓ : Loc nD τ sig) → Buf (Elt F) ℓ)

/-- The device's number. -/
noncomputable def num (c : Dev nD) : BitVec 32 := (m ((c : Thread nD τ).loc main_arg2) : S1.Idx → BitVec 32) z

/-- The number as the index maps read it. -/
theorem tbl_num : (tbl m).at 0 (Rect.unit (s := S1) ![0] S1.size inb_S1_S1_0) numel1_S1 = num m 0 := by
  have e : tbl m 0 = m (((0 : Dev nD) : Thread nD τ).loc main_arg2) := V_main_arg2 m 0
  unfold num
  rw [← e]
  exact congrArg (tbl m 0) (funext fun a => by fin_cases a; exact Subsingleton.elim (α := Fin 1) _ _)

/-- A block of one device's part lies inside the array. -/
theorem fits (w k : BitVec 32) (hw : w.toNat < 8) (hk : k.toNat < 8) (i : grid0.Coords) :
    ∀ a : Fin 3, ((![(w ^^^ k).toNat, (0#32).toNat, (BitVec.ofNat 32 (i 0).val).toNat] : Fin 3 → ℕ) a + 1) * S1x4x128.size a ≤ S8x4x384.size a := by
  have h := xor_lt w k hw hk
  have hi : (i 0).val < 3 := (i 0).isLt
  have e : (BitVec.ofNat 32 (i 0).val).toNat = (i 0).val := by simp; omega
  intro a
  match a with
  | ⟨0, _⟩ => show ((w ^^^ k).toNat + 1) * 1 ≤ 8; omega
  | ⟨1, _⟩ => show ((0#32).toNat + 1) * 4 ≤ 4; decide
  | ⟨2, _⟩ => show ((BitVec.ofNat 32 (i 0).val).toNat + 1) * 128 ≤ 384; rw [e]; omega

/-- The kernel's blocks lie inside the arrays if the number is below eight. -/
theorem ok_of (h : (num m 0).toNat < 8) : Ok m := by
  have e := tbl_num m
  have key : ∀ k : BitVec 32, k.toNat < 8 → ∀ i : grid0.Coords, _ := fun k hk i =>
    fits ((tbl m).at 0 (Rect.unit (s := S1) ![0] S1.size inb_S1_S1_0) numel1_S1) k (by rw [e]; exact h) hk i
  exact ⟨fun i => ⟨key 0#32 (by decide) i, Or.inl rfl⟩, fun i => ⟨key 1#32 (by decide) i, Or.inl rfl⟩, fun i => ⟨key 2#32 (by decide) i, Or.inl rfl⟩, fun i => ⟨key 3#32 (by decide) i, Or.inl rfl⟩, fun i => ⟨key 4#32 (by decide) i, Or.inl rfl⟩, fun i => ⟨key 5#32 (by decide) i, Or.inl rfl⟩, fun i => ⟨key 6#32 (by decide) i, Or.inl rfl⟩, fun i => ⟨key 7#32 (by decide) i, Or.inl rfl⟩⟩

end

/-! ## What a grid point leaves -/

/-- The four blocks that the body leaves, entry by entry: the gradient, the change of the weight, the two moments. -/
theorem body {c : Dev nD} {i : grid0.Coords} {arg2 arg3 arg4 arg5 arg6 arg7 arg8 arg9 arg10 arg11 arg12 arg17 arg18 arg19 arg20 : Memref sig .tc .vmem S1x4x128 .f32}
    {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg17 : arg17.IsWhole} {harg18 : arg18.IsWhole} {harg19 : arg19.IsWhole} {harg20 : arg20.IsWhole}
    {x0 x1 x2 x3 x4 x5 x6 x7 x8 x9 x10 : Vec Ideal S1x4x128 .f32} {xt0 : TbBuf0 (F := Ideal) c tbM0_0} {p : Fin 4} {q : Fin 128} {R} (hR : R = kernelRun0_A (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 x0 x1 x2 x3 x4 x5 x6 x7 x8 x9 x10 xt0) :
    let g : EReal := x0 (ix3 0 p q) + x1 (ix3 0 p q) + x2 (ix3 0 p q) + x3 (ix3 0 p q) + x4 (ix3 0 p q) + x5 (ix3 0 p q) + x6 (ix3 0 p q) + x7 (ix3 0 p q)
    (VO0_11.read (Elt Ideal) (VO0_11.writes (Elt Ideal) VO0_11.junk R.1) : S1x4x128.Idx → EReal) (ix3 0 p q) = g ∧
    (VO0_12.read (Elt Ideal) (VO0_12.writes (Elt Ideal) VO0_12.junk R.2.1) : S1x4x128.Idx → EReal) (ix3 0 p q) = delta g (x8 (ix3 0 p q)) (x9 (ix3 0 p q)) (x10 (ix3 0 p q)) ∧
    (VO0_13.read (Elt Ideal) (VO0_13.writes (Elt Ideal) VO0_13.junk R.2.2.1) : S1x4x128.Idx → EReal) (ix3 0 p q) = newM g (x9 (ix3 0 p q)) ∧
    (VO0_14.read (Elt Ideal) (VO0_14.writes (Elt Ideal) VO0_14.junk R.2.2.2.1) : S1x4x128.Idx → EReal) (ix3 0 p q) = newV g (x10 (ix3 0 p q)) := by
  subst hR
  refine ⟨?_, ?_, ?_, ?_⟩
  all_goals
    rw [View.read_writes_eq_canon]
    swap
    · intro _
      first | exact cover0_A_11 .. | exact cover0_A_12 .. | exact cover0_A_13 .. | exact cover0_A_14 ..
    unfold kernelRun0_A
    dsimp only
    sl_unfold_words
    rw [View.canon_unit_zero hz]
    simp (discharger := assumption) only [View.readAt_eq_ld, Memref.IsWhole.read_unread, View.ld_unit_zero (S := S1x4x128) hz]
  · unfold k0_pay5 k0_pay2
    pointwise
  · unfold k0_pay6 k0_pay4 k0_pay3 k0_pay2 delta newM newV
    pointwise
  · unfold k0_pay7 k0_pay3 k0_pay2 newM
    pointwise
  · unfold k0_pay1 k0_pay4 k0_pay2 newV
    pointwise

variable (m : (ℓ : Loc nD τ sig) → Buf (Elt Ideal) ℓ) (hO : Ok m) (c : Dev nD) (t : Fin (cfgM m hO).N) (p : Fin 4) (q : Fin 128)

/-- The blocks that a grid point reads. -/
def bk0 : FVec Ideal S1x4x128 .f32 := iblk m hO c 0 t
def bk1 : FVec Ideal S1x4x128 .f32 := iblk m hO c 1 t
def bk2 : FVec Ideal S1x4x128 .f32 := iblk m hO c 2 t
def bk3 : FVec Ideal S1x4x128 .f32 := iblk m hO c 3 t
def bk4 : FVec Ideal S1x4x128 .f32 := iblk m hO c 4 t
def bk5 : FVec Ideal S1x4x128 .f32 := iblk m hO c 5 t
def bk6 : FVec Ideal S1x4x128 .f32 := iblk m hO c 6 t
def bk7 : FVec Ideal S1x4x128 .f32 := iblk m hO c 7 t
def bk8 : FVec Ideal S1x4x128 .f32 := iblk m hO c 8 t
def bk9 : FVec Ideal S1x4x128 .f32 := iblk m hO c 9 t
def bk10 : FVec Ideal S1x4x128 .f32 := iblk m hO c 10 t

/-- The sum of the eight parts at an entry of a block. -/
def sum8 (y : S1x4x128.Idx) : EReal := bk0 m hO c t y + bk1 m hO c t y + bk2 m hO c t y + bk3 m hO c t y + bk4 m hO c t y + bk5 m hO c t y + bk6 m hO c t y + bk7 m hO c t y

/-- The four blocks that a grid point leaves, entry by entry: the gradient, the change of the weight, the two moments. -/
theorem left : ((outsAt0 m hO c t).1 : S1x4x128.Idx → EReal) (ix3 0 p q) = (sum8 m hO c t (ix3 0 p q)) ∧
    ((outsAt0 m hO c t).2.1 : S1x4x128.Idx → EReal) (ix3 0 p q) = delta (sum8 m hO c t (ix3 0 p q)) (bk8 m hO c t (ix3 0 p q)) (bk9 m hO c t (ix3 0 p q)) (bk10 m hO c t (ix3 0 p q)) ∧
    ((outsAt0 m hO c t).2.2.1 : S1x4x128.Idx → EReal) (ix3 0 p q) = newM (sum8 m hO c t (ix3 0 p q)) (bk9 m hO c t (ix3 0 p q)) ∧
    ((outsAt0 m hO c t).2.2.2 : S1x4x128.Idx → EReal) (ix3 0 p q) = newV (sum8 m hO c t (ix3 0 p q)) (bk10 m hO c t (ix3 0 p q)) := by
  unfold outsAt0 out0_A_11 out0_A_12 out0_A_13 out0_A_14
  dsimp only
  exact body (p := p) (q := q) (x0 := bk0 m hO c t) (x1 := bk1 m hO c t) (x2 := bk2 m hO c t) (x3 := bk3 m hO c t) (x4 := bk4 m hO c t) (x5 := bk5 m hO c t) (x6 := bk6 m hO c t) (x7 := bk7 m hO c t) (x8 := bk8 m hO c t) (x9 := bk9 m hO c t) (x10 := bk10 m hO c t) rfl

/-! ## The blocks of the arguments -/

/-- The coordinate of a grid point. -/
theorem crd : ∀ t : Fin grid0.N, (BitVec.ofNat 32 (grid0.coords t 0).val).toNat = t.val := by decide +kernel

/-- The row of the array at a row of the block. -/
abbrev rw0 (t p : ℕ) : ℕ := 0 * 4 + p
/-- The column of the array at a column of the block. -/
abbrev cl0 (t q : ℕ) : ℕ := t * 128 + q

theorem row_eq (t : Fin grid0.N) (p : ℕ) : (0#32).toNat * 4 + 1 * p = rw0 t.val p := by unfold rw0; simp
theorem col_eq (t : Fin grid0.N) (q : ℕ) : (BitVec.ofNat 32 (grid0.coords t 0).val).toNat * 128 + 1 * q = cl0 t.val q := by rw [crd t]; unfold cl0; omega

/-- The arguments as arrays with three axes. -/
abbrev own : (⟨3, ![8, 4, 384]⟩ : Shape).Idx → EReal := m ((c : Thread nD τ).loc main_arg0)
abbrev land : (⟨3, ![8, 4, 384]⟩ : Shape).Idx → EReal := m ((c : Thread nD τ).loc main_arg1)
abbrev arg3 : (⟨3, ![2, 4, 384]⟩ : Shape).Idx → EReal := m ((c : Thread nD τ).loc main_arg3)
abbrev arg4 : (⟨3, ![2, 4, 384]⟩ : Shape).Idx → EReal := m ((c : Thread nD τ).loc main_arg4)
abbrev arg5 : (⟨3, ![2, 4, 384]⟩ : Shape).Idx → EReal := m ((c : Thread nD τ).loc main_arg5)
abbrev arg6 : (⟨3, ![2, 4, 384]⟩ : Shape).Idx → EReal := m ((c : Thread nD τ).loc main_arg6)
abbrev arg7 : (⟨3, ![2, 4, 384]⟩ : Shape).Idx → EReal := m ((c : Thread nD τ).loc main_arg7)
abbrev arg8 : (⟨3, ![2, 4, 384]⟩ : Shape).Idx → EReal := m ((c : Thread nD τ).loc main_arg8)
abbrev arg9 : (⟨3, ![2, 4, 384]⟩ : Shape).Idx → EReal := m ((c : Thread nD τ).loc main_arg9)

/-- An entry of the block that an index map with these two last coordinates names. -/
theorem at_blk {n a : ℕ} (A : (⟨3, ![n, 4, 384]⟩ : Shape).Idx → EReal) (b : ℕ) (y : (⟨3, ![n, 4, 384]⟩ : Shape).Idx)
    (h0 : (y 0).val = b * 1 + 1 * 0) (e0 : b = a)
    (h1 : (y 1).val = (0#32).toNat * 4 + 1 * p) (h2 : (y 2).val = (BitVec.ofNat 32 (grid0.coords t 0).val).toNat * 128 + 1 * q) : A y = rd3 A a (rw0 t.val p) (cl0 t.val q) :=
  blk_val A ![b, (0#32).toNat, (BitVec.ofNat 32 (grid0.coords t 0).val).toNat] y p.val q.val h0 h1 h2 e0 (row_eq t p.val) (col_eq t q.val)

theorem blk0 : bk0 m hO c t (ix3 0 p q) = rd3 (own m c) (num m 0 ^^^ 0#32).toNat (rw0 t.val p.val) (cl0 t.val q.val) :=
  (congrFun (V_main_arg0 m c) _).trans (at_blk m hO t p q (own m c) (num m 0 ^^^ 0#32).toNat _ (by rw [← tbl_num]; rfl) rfl rfl rfl)

/-- The other devices' parts of the gradient at a grid point, entry by entry. -/
theorem blks {L : BitVec 32 → EReal} (hL : L = fun k => rd3 (land m c) (num m 0 ^^^ k).toNat (rw0 t.val p.val) (cl0 t.val q.val)) :
    bk1 m hO c t (ix3 0 p q) = L 1#32 ∧
    bk2 m hO c t (ix3 0 p q) = L 2#32 ∧
    bk3 m hO c t (ix3 0 p q) = L 3#32 ∧
    bk4 m hO c t (ix3 0 p q) = L 4#32 ∧
    bk5 m hO c t (ix3 0 p q) = L 5#32 ∧
    bk6 m hO c t (ix3 0 p q) = L 6#32 ∧
    bk7 m hO c t (ix3 0 p q) = L 7#32 := by
  subst hL
  refine ⟨?_, ?_, ?_, ?_, ?_, ?_, ?_⟩ <;>
    exact (congrFun (V_main_arg1 m c) _).trans (at_blk m hO t p q (land m c) _ _ (by rw [← tbl_num]; rfl) rfl rfl rfl)

theorem blk8 : bk8 m hO c t (ix3 0 p q) = rd3 (arg3 m c) 0 (rw0 t.val p.val) (cl0 t.val q.val) :=
  (congrFun (V_main_arg3 m c) _).trans (at_blk m hO t p q (arg3 m c) (0#32).toNat _ rfl rfl rfl rfl)

theorem blk9 : bk9 m hO c t (ix3 0 p q) = rd3 (arg4 m c) 0 (rw0 t.val p.val) (cl0 t.val q.val) :=
  (congrFun (V_main_arg4 m c) _).trans (at_blk m hO t p q (arg4 m c) (0#32).toNat _ rfl rfl rfl rfl)

theorem blk10 : bk10 m hO c t (ix3 0 p q) = rd3 (arg5 m c) 0 (rw0 t.val p.val) (cl0 t.val q.val) :=
  (congrFun (V_main_arg5 m c) _).trans (at_blk m hO t p q (arg5 m c) (0#32).toNat _ rfl rfl rfl rfl)

/-- The gradient at an entry of the whole arrays. -/
def G (i j : ℕ) : EReal := grad (num m 0).toNat (own m c) (land m c) i j

/-- The sum of the eight parts of a block is the gradient where the block lies. -/
theorem sum8_eq (h : (num m 0).toNat < 8) : sum8 m hO c t (ix3 0 p q) = G m c (rw0 t.val p.val) (cl0 t.val q.val) := by
  unfold sum8 G grad
  obtain ⟨e1, e2, e3, e4, e5, e6, e7⟩ := blks m hO c t p q rfl
  rw [blk0 m hO c t p q, e1, e2, e3, e4, e5, e6, e7]
  exact sum_parts (num m 0) h (fun d => rd3 (own m c) d _ _) (fun d => rd3 (land m c) d _ _)

/-! ## The arrays after the run -/

/-- Where an entry of a result's block lies: in layer 0's half. -/
theorem at_rect (y : S2x4x384.Idx) (hy : (((cfgM m hO).win 11).rect t).idx (ix3 0 p q) = y) :
    (y 0).val = 0 ∧ (y 1).val = rw0 t.val p.val ∧ (y 2).val = cl0 t.val q.val := by
  subst hy
  exact ⟨rfl, row_eq t p.val, col_eq t q.val⟩

/-- A block of a result whose entries are those of a function is the block of the array whose first half it gives. -/
theorem block_of (f : ℕ → ℕ → EReal) (A : S2x4x384.Idx → EReal) (X : S1x4x128.Idx → EReal)
    (h : ∀ (p : Fin 4) (q : Fin 128), X (ix3 0 p q) = f (rw0 t.val p.val) (cl0 t.val q.val)) (x : S1x4x128.Idx) :
    X x = half2 f A ((((cfgM m hO).win 11).rect t).idx x) := by
  obtain ⟨p, q, rfl⟩ : ∃ (p : Fin 4) (q : Fin 128), x = (ix3 0 p q) :=
    ⟨x 1, x 2, (ShardMath.ix3_eta x).trans (congrArg (fun a : Fin 1 => ix3 a (x 1) (x 2)) (Subsingleton.elim (α := Fin 1) _ _))⟩
  exact (h p q).trans (half2_pos f A _ (at_rect m hO t p q _ rfl)).symm

/-- Every entry of layer 0's half lies in a block. -/
theorem mem_rect (i : S2x4x384.Idx) (h0 : (i 0).val = 0) : ∃ t : Fin (cfgM m hO).N, i ∈ (((cfgM m hO).win 11).rect t).set := by
  have h1 : (i 1).val < 4 := (i 1).isLt
  have h2 : (i 2).val < 384 := (i 2).isLt
  obtain ⟨t, ht⟩ : ∃ t : Fin (cfgM m hO).N, t.val = (i 2).val / 128 := ⟨⟨_, (by omega : (i 2).val / 128 < 3)⟩, rfl⟩
  refine ⟨t, Rect.mem_set_unit.mpr fun a => ?_⟩
  have e := crd t
  match a with
  | ⟨0, _⟩ => show 0 * 1 ≤ (i 0).val ∧ (i 0).val < 0 * 1 + 1; omega
  | ⟨1, _⟩ => show (0#32).toNat * 4 ≤ (i 1).val ∧ (i 1).val < (0#32).toNat * 4 + 4; simp; omega
  | ⟨2, _⟩ => show (BitVec.ofNat 32 (grid0.coords t 0).val).toNat * 128 ≤ (i 2).val ∧ (i 2).val < (BitVec.ofNat 32 (grid0.coords t 0).val).toNat * 128 + 128; rw [e]; omega

/-- The array of the gradient: layer 0's half new, layer 1's as it was. -/
def res11 : S2x4x384.Idx → EReal := half2 (G m c) (arg6 m c)

theorem out_eq11 (h : (num m 0).toNat < 8) : (dats m hO 0 c).arrAt 11 (cfgM m hO).N = res11 m c := by
  have old : V m c main_v0_0 = arg6 m c := by unfold_abbrev_sides; after_results; rfl
  refine funext fun i => settle ((dats m hO 0 c).arrAt_eq_piecewise 11 (res11 m c) (fun t _ => ?_) i)
    (fun h0 => (mem_rect m hO i h0).imp fun t ht => ⟨flush0_11 _ t,
      Eq.mpr (congrArg (fun s => i ∈ s) (View.set_slice_whole main_v0_0 (((cfgM m hO).win 11).rect t))) ht⟩)
    fun h0 => (congrFun (A_eq m hO c 11) i).trans ((congrFun old i).trans (half2_neg _ (arg6 m c) i h0))
  show ((cfgM m hO).win 11).cut (grid0.coords t) ((dats m hO 0 c).after 11 t) = _
  rw [after0_11]
  exact funext (block_of m hO t _ (arg6 m c) _ fun p q => (left m hO c t p q).1.trans (by rw [sum8_eq m hO c t p q h]))

/-- The array of the change of the weight: layer 0's half new, layer 1's as it was. -/
def res12 : S2x4x384.Idx → EReal := half2 (stepW (G m c) (arg3 m c) (arg4 m c) (arg5 m c)) (arg7 m c)

theorem out_eq12 (h : (num m 0).toNat < 8) : (dats m hO 0 c).arrAt 12 (cfgM m hO).N = res12 m c := by
  have old : V m c main_v0_1 = arg7 m c := by unfold_abbrev_sides; after_results; rfl
  refine funext fun i => settle ((dats m hO 0 c).arrAt_eq_piecewise 12 (res12 m c) (fun t _ => ?_) i)
    (fun h0 => (mem_rect m hO i h0).imp fun t ht => ⟨flush0_12 _ t,
      Eq.mpr (congrArg (fun s => i ∈ s) (View.set_slice_whole main_v0_1 (((cfgM m hO).win 12).rect t))) ht⟩)
    fun h0 => (congrFun (A_eq m hO c 12) i).trans ((congrFun old i).trans (half2_neg _ (arg7 m c) i h0))
  show ((cfgM m hO).win 12).cut (grid0.coords t) ((dats m hO 0 c).after 12 t) = _
  rw [after0_12]
  exact funext (block_of m hO t _ (arg7 m c) _ fun p q => (left m hO c t p q).2.1.trans (by rw [sum8_eq m hO c t p q h, blk8 m hO c t p q, blk9 m hO c t p q, blk10 m hO c t p q]; rfl))

/-- The array of the first moment: layer 0's half new, layer 1's as it was. -/
def res13 : S2x4x384.Idx → EReal := half2 (stepM (G m c) (arg4 m c)) (arg8 m c)

theorem out_eq13 (h : (num m 0).toNat < 8) : (dats m hO 0 c).arrAt 13 (cfgM m hO).N = res13 m c := by
  have old : V m c main_v0_2 = arg8 m c := by unfold_abbrev_sides; after_results; rfl
  refine funext fun i => settle ((dats m hO 0 c).arrAt_eq_piecewise 13 (res13 m c) (fun t _ => ?_) i)
    (fun h0 => (mem_rect m hO i h0).imp fun t ht => ⟨flush0_13 _ t,
      Eq.mpr (congrArg (fun s => i ∈ s) (View.set_slice_whole main_v0_2 (((cfgM m hO).win 13).rect t))) ht⟩)
    fun h0 => (congrFun (A_eq m hO c 13) i).trans ((congrFun old i).trans (half2_neg _ (arg8 m c) i h0))
  show ((cfgM m hO).win 13).cut (grid0.coords t) ((dats m hO 0 c).after 13 t) = _
  rw [after0_13]
  exact funext (block_of m hO t _ (arg8 m c) _ fun p q => (left m hO c t p q).2.2.1.trans (by rw [sum8_eq m hO c t p q h, blk9 m hO c t p q]; rfl))

/-- The array of the second moment: layer 0's half new, layer 1's as it was. -/
def res14 : S2x4x384.Idx → EReal := half2 (stepV (G m c) (arg5 m c)) (arg9 m c)

theorem out_eq14 (h : (num m 0).toNat < 8) : (dats m hO 0 c).arrAt 14 (cfgM m hO).N = res14 m c := by
  have old : V m c main_v0_3 = arg9 m c := by unfold_abbrev_sides; after_results; rfl
  refine funext fun i => settle ((dats m hO 0 c).arrAt_eq_piecewise 14 (res14 m c) (fun t _ => ?_) i)
    (fun h0 => (mem_rect m hO i h0).imp fun t ht => ⟨flush0_14 _ t,
      Eq.mpr (congrArg (fun s => i ∈ s) (View.set_slice_whole main_v0_3 (((cfgM m hO).win 14).rect t))) ht⟩)
    fun h0 => (congrFun (A_eq m hO c 14) i).trans ((congrFun old i).trans (half2_neg _ (arg9 m c) i h0))
  show ((cfgM m hO).win 14).cut (grid0.coords t) ((dats m hO 0 c).after 14 t) = _
  rw [after0_14]
  exact funext (block_of m hO t _ (arg9 m c) _ fun p q => (left m hO c t p q).2.2.2.trans (by rw [sum8_eq m hO c t p q h, blk10 m hO c t p q]; rfl))

/-! ## The reference -/

section

open Cert.Reference27Ideal.Read

variable {x0 x1 : FVec Ideal Cert.Reference27Ideal.S8x4x384 .f32} {x2 : IVec Cert.Reference27Ideal.S1 32} {x3 x4 x5 x6 x7 x8 x9 : FVec Ideal Cert.Reference27Ideal.S2x4x384 .f32}

/-- The reference's gradient, entry by entry. -/
theorem ref_grad (x0 x1 : FVec Ideal Cert.Reference27Ideal.S8x4x384 .f32) (x2 : IVec Cert.Reference27Ideal.S1 32) (i : Fin 4) (j : Fin 384) :
    ((val_main_v6 (F := Ideal) x0 x1 x2 : FVec Ideal Cert.Reference27Ideal.S4x384 .f32) (ix2 i j) : EReal) = grad (x2 (ix1 0)).toNat x0 x1 i.val j.val := by
  unfold val_main_v6 val_main_cst val_main_v5 val_main_call0_v0 val_main_v4 val_main_v3 val_main_v2 val_main_v1 val_main_v0
  pointwise
  exact grad_pick (x2 (ix1 0)) x0 x1 i j

variable (γ : ℕ → ℕ → EReal) (hg : ∀ i j, ((val_main_v6 (F := Ideal) x0 x1 x2 : FVec Ideal Cert.Reference27Ideal.S4x384 .f32) (ix2 i j) : EReal) = γ i.val j.val) (y : Cert.Reference27Ideal.S2x4x384.Idx)
include hg

/-- The reference's gradient. -/
theorem ref11 : ((val_main_v41 (F := Ideal) x0 x1 x2 x6 : FVec Ideal Cert.Reference27Ideal.S2x4x384 .f32) y : EReal) = half2 (γ) x6 y := by
  have e0 : ∀ A : Cert.Reference27Ideal.S2x4x384.Idx → EReal, A (ix3 0 (y 1) (y 2)) = rd3 A 0 (y 1).val (y 2).val := fun A => rd3_at A 0 (y 1) (y 2)
  unfold val_main_v41 val_main_v40 val_main_v39 val_main_v38 val_main_v37
  generalize (val_main_v6 (F := Ideal) x0 x1 x2 : FVec Ideal Cert.Reference27Ideal.S4x384 .f32) = g at hg ⊢
  have eg : (g (ix2 (y 1) (y 2)) : EReal) = γ (y 1).val (y 2).val := hg (y 1) (y 2)
  pointwise
  refine half2_eq _ x6 y ?_
  exact eg

/-- The reference's change of the weight. -/
theorem ref12 : ((val_main_v46 (F := Ideal) x0 x1 x2 x3 x4 x5 x7 : FVec Ideal Cert.Reference27Ideal.S2x4x384 .f32) y : EReal) = half2 (stepW γ x3 x4 x5) x7 y := by
  have e0 : ∀ A : Cert.Reference27Ideal.S2x4x384.Idx → EReal, A (ix3 0 (y 1) (y 2)) = rd3 A 0 (y 1).val (y 2).val := fun A => rd3_at A 0 (y 1) (y 2)
  unfold val_main_v46 val_main_v45 val_main_v44 val_main_v43 val_main_v42 val_main_v36 val_main_v35 val_main_cst_8 val_main_v34 val_main_v33 val_main_v32 val_main_cst_7 val_main_v31 val_main_v30 val_main_v29 val_main_v28 val_main_v27 val_main_cst_6 val_main_v26 val_main_v25 val_main_v24 val_main_cst_5 val_main_v23 val_main_v22 val_main_cst_4 val_main_v21 val_main_v20 val_main_v19 val_main_cst_3 val_main_v18 val_main_v17 val_main_v16 val_main_cst_2 val_main_v15 val_main_v14 val_main_v13 val_main_v12 val_main_v11 val_main_cst_1 val_main_v10 val_main_v9 val_main_cst_0 val_main_v8 val_main_v7
  generalize (val_main_v6 (F := Ideal) x0 x1 x2 : FVec Ideal Cert.Reference27Ideal.S4x384 .f32) = g at hg ⊢
  have eg : (g (ix2 (y 1) (y 2)) : EReal) = γ (y 1).val (y 2).val := hg (y 1) (y 2)
  pointwise
  refine half2_eq _ x7 y ?_
  unfold stepW delta newM newV
  simp only [e0, eg]

/-- The reference's first moment. -/
theorem ref13 : ((val_main_v51 (F := Ideal) x0 x1 x2 x4 x8 : FVec Ideal Cert.Reference27Ideal.S2x4x384 .f32) y : EReal) = half2 (stepM γ x4) x8 y := by
  have e0 : ∀ A : Cert.Reference27Ideal.S2x4x384.Idx → EReal, A (ix3 0 (y 1) (y 2)) = rd3 A 0 (y 1).val (y 2).val := fun A => rd3_at A 0 (y 1) (y 2)
  unfold val_main_v51 val_main_v50 val_main_v49 val_main_v48 val_main_v47 val_main_v13 val_main_v12 val_main_v11 val_main_cst_1 val_main_v10 val_main_v9 val_main_cst_0 val_main_v8 val_main_v7
  generalize (val_main_v6 (F := Ideal) x0 x1 x2 : FVec Ideal Cert.Reference27Ideal.S4x384 .f32) = g at hg ⊢
  have eg : (g (ix2 (y 1) (y 2)) : EReal) = γ (y 1).val (y 2).val := hg (y 1) (y 2)
  pointwise
  refine half2_eq _ x8 y ?_
  unfold stepM newM
  simp only [e0, eg]

/-- The reference's second moment. -/
theorem ref14 : ((val_main_v56 (F := Ideal) x0 x1 x2 x5 x9 : FVec Ideal Cert.Reference27Ideal.S2x4x384 .f32) y : EReal) = half2 (stepV γ x5) x9 y := by
  have e0 : ∀ A : Cert.Reference27Ideal.S2x4x384.Idx → EReal, A (ix3 0 (y 1) (y 2)) = rd3 A 0 (y 1).val (y 2).val := fun A => rd3_at A 0 (y 1) (y 2)
  unfold val_main_v56 val_main_v55 val_main_v54 val_main_v53 val_main_v52 val_main_v21 val_main_v20 val_main_v19 val_main_cst_3 val_main_v18 val_main_v17 val_main_v16 val_main_cst_2 val_main_v15 val_main_v14
  generalize (val_main_v6 (F := Ideal) x0 x1 x2 : FVec Ideal Cert.Reference27Ideal.S4x384 .f32) = g at hg ⊢
  have eg : (g (ix2 (y 1) (y 2)) : EReal) = γ (y 1).val (y 2).val := hg (y 1) (y 2)
  pointwise
  refine half2_eq _ x9 y ?_
  unfold stepV newV
  simp only [e0, eg]

end

/-! ## The runs -/

/-- The kernel on words terminates, leaves its arguments as they were and every counter at zero. -/
theorem frame_words : @Cert.quiescent_Kernel27 Cert.Kernel27.Gen.facts Cert.Pre_device27.Gen.facts := fun m ρ h =>
by
  have hw : (num (F := Bits) m 0).toNat < 8 := num_lt (F := Bits) _ _ _ _ _ _ _ _ _ _ (h 0)
  have hO : Cert.Kernel27.Gen.Ok (F := Bits) m := ok_of (F := Bits) m hw
  exact Cert.Kernel27.Gen.frame (F := Bits) m ρ hO

/-- So does the kernel over the extended reals. -/
theorem frame_kernel : @Cert.quiescent_Kernel27Ideal Cert.Kernel27Ideal.Gen.facts Cert.Pre_device27.Gen.facts := fun m ρ h =>
  Gen.frame (F := Ideal) m ρ (ok_of m (num_lt _ _ _ _ _ _ _ _ _ _ (h 0)))

/-- The reference's frame: it terminates and leaves its arguments as they were. -/
theorem frame_reference : @Cert.quiescent_Reference27Ideal Cert.Reference27Ideal.Gen.facts := fun m ρ _ =>
  (θ_run Cert.Reference27Ideal.defs _ _).mono (fun r h => ⟨fun c => (h c).2.2.2.2,
      sem_eq_zero_of_no_sems (by decide) r.2⟩)
    (Cert.Reference27Ideal.Value.run m ρ)

/-- The same of arguments that meet the precondition. -/
theorem frame_reference_pre : @Cert.quiescent_Reference27Ideal_pre_device27 Cert.Reference27Ideal.Gen.facts Cert.Pre_device27.Gen.facts :=
  fun m ρ _ => frame_reference m ρ trivial

/-- The kernel and the reference compute the same four arrays over the extended reals. -/
theorem algebraic :
    @Cert.algebraic_Kernel27Ideal_Reference27Ideal Cert.Kernel27Ideal.Gen.facts Cert.Reference27Ideal.Gen.facts Cert.Pre_device27.Gen.facts := by
  intro m g m' g' hp hargs
  have hw : (num m 0).toNat < 8 := num_lt _ _ _ _ _ _ _ _ _ _ (hp 0)
  have hz : ∀ c : Dev nD, c = 0 := fun c => Subsingleton.elim (α := Fin 1) c 0
  refine ⟨res11 m, res12 m, res13 m, res14 m, (θ_run defs _ _).mono (fun _ k c => ?_)
    (θ_run_and (run_main m g (ok_of m hw)) (unchanged m g (ok_of m hw))), ?_⟩
  · have o := (k.1 c).1
    exact ⟨(o 11).trans (out_eq11 m _ c hw), (o 12).trans (out_eq12 m _ c hw), (o 13).trans (out_eq13 m _ c hw),
      (o 14).trans (out_eq14 m _ c hw), k.2 c⟩
  refine (θ_run Cert.Reference27Ideal.defs _ _).mono (fun r h c => ?_) (Cert.Reference27Ideal.Value.run m' g')
  obtain ⟨a0, a1, a2, a3, a4, a5, a6, a7, a8, a9⟩ := hargs c
  obtain ⟨h0, h1, h2, h3, k⟩ := h c
  have gr : ∀ i j, grad (m ((c : Thread nD τ).loc main_arg2) (ix1 0)).toNat (own m c) (land m c) i j = G m c i j := by
    intro i j
    rw [hz c, (funext fun a => Fin.ext (by fin_cases a; rfl) : (ix1 0 : (⟨1, ![1]⟩ : Shape).Idx) = z)]
    rfl
  have gq := fun i j => (ref_grad (m ((c : Thread nD τ).loc main_arg0)) (m ((c : Thread nD τ).loc main_arg1)) (m ((c : Thread nD τ).loc main_arg2)) i j).trans (gr i j)
  refine ⟨h0.trans ?_, h1.trans ?_, h2.trans ?_, h3.trans ?_, k⟩
  · rw [a0, a1, a2, a6]
    exact (Cert.Reference27Ideal.Read.val_main_v41_eq _ _ _ _).trans (funext fun y => ref11 _ gq y)
  · rw [a0, a1, a2, a3, a4, a5, a7]
    exact (Cert.Reference27Ideal.Read.val_main_v46_eq _ _ _ _ _ _ _).trans (funext fun y => ref12 _ gq y)
  · rw [a0, a1, a2, a4, a8]
    exact (Cert.Reference27Ideal.Read.val_main_v51_eq _ _ _ _ _).trans (funext fun y => ref13 _ gq y)
  · rw [a0, a1, a2, a5, a9]
    exact (Cert.Reference27Ideal.Read.val_main_v56_eq _ _ _ _ _).trans (funext fun y => ref14 _ gq y)

end Cert.Kernel27Ideal.Own
-- ==== Proof.ShardFfnConv.lean ====
module

public import proofs.«01_k».proof.Proof.Kit
public import proofs.«01_k».proof.Proof.Gen.Kernel28Ideal.Frame
public import proofs.«01_k».proof.Proof.Gen.Reference28Ideal.Read
public import proofs.«01_k».proof.Proof.AdamMath
public import proofs.«01_k».proof.Proof.ShardMath
public import proofs.«01_k».proof.Proof.Gen.Pre_device28
public import proofs.«01_k».proof.Proof.Gen.Kernel28.Frame

/-!
# The optimiser of the feed-forward convolution

The gradient is cut over the eight devices; the other devices' parts of this device's share have landed in an array of
eight. At each step the kernel adds the eight parts of a block one by one, its own first, and makes the AdamW step of layer
0; layer 1's half of the results stays as an earlier call left it. The reference takes the sum over the devices.
-/

@[expose] public section

noncomputable section

namespace Cert.Kernel28Ideal.Own

open Cert.Kernel28Ideal Cert.Kernel28Ideal.Gen Idealize.ShloMosaic Idealize.ShloMosaic.TcCoe Idealize.SL.Sem Cert.AdamMath Cert.ShardMath
open Idealize.ShloMosaic.Pipeline (Dat)

theorem hz : (![0, 0, 0] : Fin 3 → Nat) = fun _ => 0 := funext fun a => by fin_cases a <;> rfl

/-! ## The number of the device, and where the blocks lie -/

/-- The only index of the array that holds the number. -/
noncomputable def z : S1.Idx := fun a => ⟨0, by fin_cases a; decide⟩

/-- What the precondition says of the device's number: it is below eight. -/
theorem num_lt {F : FTy → Type} [FloatOps F] (a0 a1 : FVec F S8x3x704 .f32) (w : IVec S1 32) (a3 a4 a5 a6 a7 a8 a9 : FVec F S2x3x704 .f32)
    (h : @Cert.Pre_device28.fn Cert.Pre_device28.Gen.facts F _ a0 a1 w a3 a4 a5 a6 a7 a8 a9 = fun _ => 1#1) : (w z).toNat < 8 := by
  have e := congrFun h z
  unfold Cert.Pre_device28.fn at e
  exact below_eight (w z) e

section

variable {F : FTy → Type} [FloatOps F] (m : (ℓ : Loc nD τ sig) → Buf (Elt F) ℓ)

/-- The device's number. -/
noncomputable def num (c : Dev nD) : BitVec 32 := (m ((c : Thread nD τ).loc main_arg2) : S1.Idx → BitVec 32) z

/-- The number as the index maps read it. -/
theorem tbl_num : (tbl m).at 0 (Rect.unit (s := S1) ![0] S1.size inb_S1_S1_0) numel1_S1 = num m 0 := by
  have e : tbl m 0 = m (((0 : Dev nD) : Thread nD τ).loc main_arg2) := V_main_arg2 m 0
  unfold num
  rw [← e]
  exact congrArg (tbl m 0) (funext fun a => by fin_cases a; exact Subsingleton.elim (α := Fin 1) _ _)

/-- A block of one device's part lies inside the array. -/
theorem fits (w k : BitVec 32) (hw : w.toNat < 8) (hk : k.toNat < 8) (i : grid0.Coords) :
    ∀ a : Fin 3, ((![(w ^^^ k).toNat, (BitVec.ofNat 32 (i 0).val).toNat, (0#32).toNat] : Fin 3 → ℕ) a + 1) * S1x3x704.size a ≤ S8x3x704.size a := by
  have h := xor_lt w k hw hk
  have hi : (i 0).val < 1 := (i 0).isLt
  have e : (BitVec.ofNat 32 (i 0).val).toNat = (i 0).val := by simp; omega
  intro a
  match a with
  | ⟨0, _⟩ => show ((w ^^^ k).toNat + 1) * 1 ≤ 8; omega
  | ⟨1, _⟩ => show ((BitVec.ofNat 32 (i 0).val).toNat + 1) * 3 ≤ 3; rw [e]; omega
  | ⟨2, _⟩ => show ((0#32).toNat + 1) * 704 ≤ 704; decide

/-- The kernel's blocks lie inside the arrays if the number is below eight. -/
theorem ok_of (h : (num m 0).toNat < 8) : Ok m := by
  have e := tbl_num m
  have key : ∀ k : BitVec 32, k.toNat < 8 → ∀ i : grid0.Coords, _ := fun k hk i =>
    fits ((tbl m).at 0 (Rect.unit (s := S1) ![0] S1.size inb_S1_S1_0) numel1_S1) k (by rw [e]; exact h) hk i
  exact ⟨fun i => ⟨key 0#32 (by decide) i, Or.inl rfl⟩, fun i => ⟨key 1#32 (by decide) i, Or.inl rfl⟩, fun i => ⟨key 2#32 (by decide) i, Or.inl rfl⟩, fun i => ⟨key 3#32 (by decide) i, Or.inl rfl⟩, fun i => ⟨key 4#32 (by decide) i, Or.inl rfl⟩, fun i => ⟨key 5#32 (by decide) i, Or.inl rfl⟩, fun i => ⟨key 6#32 (by decide) i, Or.inl rfl⟩, fun i => ⟨key 7#32 (by decide) i, Or.inl rfl⟩⟩

end

/-! ## What a grid point leaves -/

/-- The four blocks that the body leaves, entry by entry: the gradient, the change of the weight, the two moments. -/
theorem body {c : Dev nD} {i : grid0.Coords} {arg2 arg3 arg4 arg5 arg6 arg7 arg8 arg9 arg10 arg11 arg12 arg17 arg18 arg19 arg20 : Memref sig .tc .vmem S1x3x704 .f32}
    {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg17 : arg17.IsWhole} {harg18 : arg18.IsWhole} {harg19 : arg19.IsWhole} {harg20 : arg20.IsWhole}
    {x0 x1 x2 x3 x4 x5 x6 x7 x8 x9 x10 : Vec Ideal S1x3x704 .f32} {xt0 : TbBuf0 (F := Ideal) c tbM0_0} {p : Fin 3} {q : Fin 704} {R} (hR : R = kernelRun0_A (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 x0 x1 x2 x3 x4 x5 x6 x7 x8 x9 x10 xt0) :
    let g : EReal := x0 (ix3 0 p q) + x1 (ix3 0 p q) + x2 (ix3 0 p q) + x3 (ix3 0 p q) + x4 (ix3 0 p q) + x5 (ix3 0 p q) + x6 (ix3 0 p q) + x7 (ix3 0 p q)
    (VO0_11.read (Elt Ideal) (VO0_11.writes (Elt Ideal) VO0_11.junk R.1) : S1x3x704.Idx → EReal) (ix3 0 p q) = g ∧
    (VO0_12.read (Elt Ideal) (VO0_12.writes (Elt Ideal) VO0_12.junk R.2.1) : S1x3x704.Idx → EReal) (ix3 0 p q) = delta g (x8 (ix3 0 p q)) (x9 (ix3 0 p q)) (x10 (ix3 0 p q)) ∧
    (VO0_13.read (Elt Ideal) (VO0_13.writes (Elt Ideal) VO0_13.junk R.2.2.1) : S1x3x704.Idx → EReal) (ix3 0 p q) = newM g (x9 (ix3 0 p q)) ∧
    (VO0_14.read (Elt Ideal) (VO0_14.writes (Elt Ideal) VO0_14.junk R.2.2.2.1) : S1x3x704.Idx → EReal) (ix3 0 p q) = newV g (x10 (ix3 0 p q)) := by
  subst hR
  refine ⟨?_, ?_, ?_, ?_⟩
  all_goals
    rw [View.read_writes_eq_canon]
    swap
    · intro _
      first | exact cover0_A_11 .. | exact cover0_A_12 .. | exact cover0_A_13 .. | exact cover0_A_14 ..
    unfold kernelRun0_A
    dsimp only
    sl_unfold_words
    rw [View.canon_unit_zero hz]
    simp (discharger := assumption) only [View.readAt_eq_ld, Memref.IsWhole.read_unread, View.ld_unit_zero (S := S1x3x704) hz]
  · unfold k0_pay5 k0_pay2
    pointwise
  · unfold k0_pay6 k0_pay4 k0_pay3 k0_pay2 delta newM newV
    pointwise
  · unfold k0_pay7 k0_pay3 k0_pay2 newM
    pointwise
  · unfold k0_pay1 k0_pay4 k0_pay2 newV
    pointwise

variable (m : (ℓ : Loc nD τ sig) → Buf (Elt Ideal) ℓ) (hO : Ok m) (c : Dev nD) (t : Fin (cfgM m hO).N) (p : Fin 3) (q : Fin 704)

/-- The blocks that a grid point reads. -/
def bk0 : FVec Ideal S1x3x704 .f32 := iblk m hO c 0 t
def bk1 : FVec Ideal S1x3x704 .f32 := iblk m hO c 1 t
def bk2 : FVec Ideal S1x3x704 .f32 := iblk m hO c 2 t
def bk3 : FVec Ideal S1x3x704 .f32 := iblk m hO c 3 t
def bk4 : FVec Ideal S1x3x704 .f32 := iblk m hO c 4 t
def bk5 : FVec Ideal S1x3x704 .f32 := iblk m hO c 5 t
def bk6 : FVec Ideal S1x3x704 .f32 := iblk m hO c 6 t
def bk7 : FVec Ideal S1x3x704 .f32 := iblk m hO c 7 t
def bk8 : FVec Ideal S1x3x704 .f32 := iblk m hO c 8 t
def bk9 : FVec Ideal S1x3x704 .f32 := iblk m hO c 9 t
def bk10 : FVec Ideal S1x3x704 .f32 := iblk m hO c 10 t

/-- The sum of the eight parts at an entry of a block. -/
def sum8 (y : S1x3x704.Idx) : EReal := bk0 m hO c t y + bk1 m hO c t y + bk2 m hO c t y + bk3 m hO c t y + bk4 m hO c t y + bk5 m hO c t y + bk6 m hO c t y + bk7 m hO c t y

/-- The four blocks that a grid point leaves, entry by entry: the gradient, the change of the weight, the two moments. -/
theorem left : ((outsAt0 m hO c t).1 : S1x3x704.Idx → EReal) (ix3 0 p q) = (sum8 m hO c t (ix3 0 p q)) ∧
    ((outsAt0 m hO c t).2.1 : S1x3x704.Idx → EReal) (ix3 0 p q) = delta (sum8 m hO c t (ix3 0 p q)) (bk8 m hO c t (ix3 0 p q)) (bk9 m hO c t (ix3 0 p q)) (bk10 m hO c t (ix3 0 p q)) ∧
    ((outsAt0 m hO c t).2.2.1 : S1x3x704.Idx → EReal) (ix3 0 p q) = newM (sum8 m hO c t (ix3 0 p q)) (bk9 m hO c t (ix3 0 p q)) ∧
    ((outsAt0 m hO c t).2.2.2 : S1x3x704.Idx → EReal) (ix3 0 p q) = newV (sum8 m hO c t (ix3 0 p q)) (bk10 m hO c t (ix3 0 p q)) := by
  unfold outsAt0 out0_A_11 out0_A_12 out0_A_13 out0_A_14
  dsimp only
  exact body (p := p) (q := q) (x0 := bk0 m hO c t) (x1 := bk1 m hO c t) (x2 := bk2 m hO c t) (x3 := bk3 m hO c t) (x4 := bk4 m hO c t) (x5 := bk5 m hO c t) (x6 := bk6 m hO c t) (x7 := bk7 m hO c t) (x8 := bk8 m hO c t) (x9 := bk9 m hO c t) (x10 := bk10 m hO c t) rfl

/-! ## The blocks of the arguments -/

/-- The coordinate of a grid point. -/
theorem crd : ∀ t : Fin grid0.N, (BitVec.ofNat 32 (grid0.coords t 0).val).toNat = t.val := by decide +kernel

/-- The row of the array at a row of the block. -/
abbrev rw0 (t p : ℕ) : ℕ := t * 3 + p
/-- The column of the array at a column of the block. -/
abbrev cl0 (t q : ℕ) : ℕ := 0 * 704 + q

theorem row_eq (t : Fin grid0.N) (p : ℕ) : (BitVec.ofNat 32 (grid0.coords t 0).val).toNat * 3 + 1 * p = rw0 t.val p := by rw [crd t]; unfold rw0; omega
theorem col_eq (t : Fin grid0.N) (q : ℕ) : (0#32).toNat * 704 + 1 * q = cl0 t.val q := by unfold cl0; simp

/-- The arguments as arrays with three axes. -/
abbrev own : (⟨3, ![8, 3, 704]⟩ : Shape).Idx → EReal := m ((c : Thread nD τ).loc main_arg0)
abbrev land : (⟨3, ![8, 3, 704]⟩ : Shape).Idx → EReal := m ((c : Thread nD τ).loc main_arg1)
abbrev arg3 : (⟨3, ![2, 3, 704]⟩ : Shape).Idx → EReal := m ((c : Thread nD τ).loc main_arg3)
abbrev arg4 : (⟨3, ![2, 3, 704]⟩ : Shape).Idx → EReal := m ((c : Thread nD τ).loc main_arg4)
abbrev arg5 : (⟨3, ![2, 3, 704]⟩ : Shape).Idx → EReal := m ((c : Thread nD τ).loc main_arg5)
abbrev arg6 : (⟨3, ![2, 3, 704]⟩ : Shape).Idx → EReal := m ((c : Thread nD τ).loc main_arg6)
abbrev arg7 : (⟨3, ![2, 3, 704]⟩ : Shape).Idx → EReal := m ((c : Thread nD τ).loc main_arg7)
abbrev arg8 : (⟨3, ![2, 3, 704]⟩ : Shape).Idx → EReal := m ((c : Thread nD τ).loc main_arg8)
abbrev arg9 : (⟨3, ![2, 3, 704]⟩ : Shape).Idx → EReal := m ((c : Thread nD τ).loc main_arg9)

/-- An entry of the block that an index map with these two last coordinates names. -/
theorem at_blk {n a : ℕ} (A : (⟨3, ![n, 3, 704]⟩ : Shape).Idx → EReal) (b : ℕ) (y : (⟨3, ![n, 3, 704]⟩ : Shape).Idx)
    (h0 : (y 0).val = b * 1 + 1 * 0) (e0 : b = a)
    (h1 : (y 1).val = (BitVec.ofNat 32 (grid0.coords t 0).val).toNat * 3 + 1 * p) (h2 : (y 2).val = (0#32).toNat * 704 + 1 * q) : A y = rd3 A a (rw0 t.val p) (cl0 t.val q) :=
  blk_val A ![b, (BitVec.ofNat 32 (grid0.coords t 0).val).toNat, (0#32).toNat] y p.val q.val h0 h1 h2 e0 (row_eq t p.val) (col_eq t q.val)

theorem blk0 : bk0 m hO c t (ix3 0 p q) = rd3 (own m c) (num m 0 ^^^ 0#32).toNat (rw0 t.val p.val) (cl0 t.val q.val) :=
  (congrFun (V_main_arg0 m c) _).trans (at_blk m hO t p q (own m c) (num m 0 ^^^ 0#32).toNat _ (by rw [← tbl_num]; rfl) rfl rfl rfl)

/-- The other devices' parts of the gradient at a grid point, entry by entry. -/
theorem blks {L : BitVec 32 → EReal} (hL : L = fun k => rd3 (land m c) (num m 0 ^^^ k).toNat (rw0 t.val p.val) (cl0 t.val q.val)) :
    bk1 m hO c t (ix3 0 p q) = L 1#32 ∧
    bk2 m hO c t (ix3 0 p q) = L 2#32 ∧
    bk3 m hO c t (ix3 0 p q) = L 3#32 ∧
    bk4 m hO c t (ix3 0 p q) = L 4#32 ∧
    bk5 m hO c t (ix3 0 p q) = L 5#32 ∧
    bk6 m hO c t (ix3 0 p q) = L 6#32 ∧
    bk7 m hO c t (ix3 0 p q) = L 7#32 := by
  subst hL
  refine ⟨?_, ?_, ?_, ?_, ?_, ?_, ?_⟩ <;>
    exact (congrFun (V_main_arg1 m c) _).trans (at_blk m hO t p q (land m c) _ _ (by rw [← tbl_num]; rfl) rfl rfl rfl)

theorem blk8 : bk8 m hO c t (ix3 0 p q) = rd3 (arg3 m c) 0 (rw0 t.val p.val) (cl0 t.val q.val) :=
  (congrFun (V_main_arg3 m c) _).trans (at_blk m hO t p q (arg3 m c) (0#32).toNat _ rfl rfl rfl rfl)

theorem blk9 : bk9 m hO c t (ix3 0 p q) = rd3 (arg4 m c) 0 (rw0 t.val p.val) (cl0 t.val q.val) :=
  (congrFun (V_main_arg4 m c) _).trans (at_blk m hO t p q (arg4 m c) (0#32).toNat _ rfl rfl rfl rfl)

theorem blk10 : bk10 m hO c t (ix3 0 p q) = rd3 (arg5 m c) 0 (rw0 t.val p.val) (cl0 t.val q.val) :=
  (congrFun (V_main_arg5 m c) _).trans (at_blk m hO t p q (arg5 m c) (0#32).toNat _ rfl rfl rfl rfl)

/-- The gradient at an entry of the whole arrays. -/
def G (i j : ℕ) : EReal := grad (num m 0).toNat (own m c) (land m c) i j

/-- The sum of the eight parts of a block is the gradient where the block lies. -/
theorem sum8_eq (h : (num m 0).toNat < 8) : sum8 m hO c t (ix3 0 p q) = G m c (rw0 t.val p.val) (cl0 t.val q.val) := by
  unfold sum8 G grad
  obtain ⟨e1, e2, e3, e4, e5, e6, e7⟩ := blks m hO c t p q rfl
  rw [blk0 m hO c t p q, e1, e2, e3, e4, e5, e6, e7]
  exact sum_parts (num m 0) h (fun d => rd3 (own m c) d _ _) (fun d => rd3 (land m c) d _ _)

/-! ## The arrays after the run -/

/-- Where an entry of a result's block lies: in layer 0's half. -/
theorem at_rect (y : S2x3x704.Idx) (hy : (((cfgM m hO).win 11).rect t).idx (ix3 0 p q) = y) :
    (y 0).val = 0 ∧ (y 1).val = rw0 t.val p.val ∧ (y 2).val = cl0 t.val q.val := by
  subst hy
  exact ⟨rfl, row_eq t p.val, col_eq t q.val⟩

/-- A block of a result whose entries are those of a function is the block of the array whose first half it gives. -/
theorem block_of (f : ℕ → ℕ → EReal) (A : S2x3x704.Idx → EReal) (X : S1x3x704.Idx → EReal)
    (h : ∀ (p : Fin 3) (q : Fin 704), X (ix3 0 p q) = f (rw0 t.val p.val) (cl0 t.val q.val)) (x : S1x3x704.Idx) :
    X x = half2 f A ((((cfgM m hO).win 11).rect t).idx x) := by
  obtain ⟨p, q, rfl⟩ : ∃ (p : Fin 3) (q : Fin 704), x = (ix3 0 p q) :=
    ⟨x 1, x 2, (ShardMath.ix3_eta x).trans (congrArg (fun a : Fin 1 => ix3 a (x 1) (x 2)) (Subsingleton.elim (α := Fin 1) _ _))⟩
  exact (h p q).trans (half2_pos f A _ (at_rect m hO t p q _ rfl)).symm

/-- Every entry of layer 0's half lies in a block. -/
theorem mem_rect (i : S2x3x704.Idx) (h0 : (i 0).val = 0) : ∃ t : Fin (cfgM m hO).N, i ∈ (((cfgM m hO).win 11).rect t).set := by
  have h1 : (i 1).val < 3 := (i 1).isLt
  have h2 : (i 2).val < 704 := (i 2).isLt
  obtain ⟨t, ht⟩ : ∃ t : Fin (cfgM m hO).N, t.val = (i 1).val / 3 := ⟨⟨_, (by omega : (i 1).val / 3 < 1)⟩, rfl⟩
  refine ⟨t, Rect.mem_set_unit.mpr fun a => ?_⟩
  have e := crd t
  match a with
  | ⟨0, _⟩ => show 0 * 1 ≤ (i 0).val ∧ (i 0).val < 0 * 1 + 1; omega
  | ⟨1, _⟩ => show (BitVec.ofNat 32 (grid0.coords t 0).val).toNat * 3 ≤ (i 1).val ∧ (i 1).val < (BitVec.ofNat 32 (grid0.coords t 0).val).toNat * 3 + 3; rw [e]; omega
  | ⟨2, _⟩ => show (0#32).toNat * 704 ≤ (i 2).val ∧ (i 2).val < (0#32).toNat * 704 + 704; simp; omega

/-- The array of the gradient: layer 0's half new, layer 1's as it was. -/
def res11 : S2x3x704.Idx → EReal := half2 (G m c) (arg6 m c)

theorem out_eq11 (h : (num m 0).toNat < 8) : (dats m hO 0 c).arrAt 11 (cfgM m hO).N = res11 m c := by
  have old : V m c main_v0_0 = arg6 m c := by unfold_abbrev_sides; after_results; rfl
  refine funext fun i => settle ((dats m hO 0 c).arrAt_eq_piecewise 11 (res11 m c) (fun t _ => ?_) i)
    (fun h0 => (mem_rect m hO i h0).imp fun t ht => ⟨flush0_11 _ t,
      Eq.mpr (congrArg (fun s => i ∈ s) (View.set_slice_whole main_v0_0 (((cfgM m hO).win 11).rect t))) ht⟩)
    fun h0 => (congrFun (A_eq m hO c 11) i).trans ((congrFun old i).trans (half2_neg _ (arg6 m c) i h0))
  show ((cfgM m hO).win 11).cut (grid0.coords t) ((dats m hO 0 c).after 11 t) = _
  rw [after0_11]
  exact funext (block_of m hO t _ (arg6 m c) _ fun p q => (left m hO c t p q).1.trans (by rw [sum8_eq m hO c t p q h]))

/-- The array of the change of the weight: layer 0's half new, layer 1's as it was. -/
def res12 : S2x3x704.Idx → EReal := half2 (stepW (G m c) (arg3 m c) (arg4 m c) (arg5 m c)) (arg7 m c)

theorem out_eq12 (h : (num m 0).toNat < 8) : (dats m hO 0 c).arrAt 12 (cfgM m hO).N = res12 m c := by
  have old : V m c main_v0_1 = arg7 m c := by unfold_abbrev_sides; after_results; rfl
  refine funext fun i => settle ((dats m hO 0 c).arrAt_eq_piecewise 12 (res12 m c) (fun t _ => ?_) i)
    (fun h0 => (mem_rect m hO i h0).imp fun t ht => ⟨flush0_12 _ t,
      Eq.mpr (congrArg (fun s => i ∈ s) (View.set_slice_whole main_v0_1 (((cfgM m hO).win 12).rect t))) ht⟩)
    fun h0 => (congrFun (A_eq m hO c 12) i).trans ((congrFun old i).trans (half2_neg _ (arg7 m c) i h0))
  show ((cfgM m hO).win 12).cut (grid0.coords t) ((dats m hO 0 c).after 12 t) = _
  rw [after0_12]
  exact funext (block_of m hO t _ (arg7 m c) _ fun p q => (left m hO c t p q).2.1.trans (by rw [sum8_eq m hO c t p q h, blk8 m hO c t p q, blk9 m hO c t p q, blk10 m hO c t p q]; rfl))

/-- The array of the first moment: layer 0's half new, layer 1's as it was. -/
def res13 : S2x3x704.Idx → EReal := half2 (stepM (G m c) (arg4 m c)) (arg8 m c)

theorem out_eq13 (h : (num m 0).toNat < 8) : (dats m hO 0 c).arrAt 13 (cfgM m hO).N = res13 m c := by
  have old : V m c main_v0_2 = arg8 m c := by unfold_abbrev_sides; after_results; rfl
  refine funext fun i => settle ((dats m hO 0 c).arrAt_eq_piecewise 13 (res13 m c) (fun t _ => ?_) i)
    (fun h0 => (mem_rect m hO i h0).imp fun t ht => ⟨flush0_13 _ t,
      Eq.mpr (congrArg (fun s => i ∈ s) (View.set_slice_whole main_v0_2 (((cfgM m hO).win 13).rect t))) ht⟩)
    fun h0 => (congrFun (A_eq m hO c 13) i).trans ((congrFun old i).trans (half2_neg _ (arg8 m c) i h0))
  show ((cfgM m hO).win 13).cut (grid0.coords t) ((dats m hO 0 c).after 13 t) = _
  rw [after0_13]
  exact funext (block_of m hO t _ (arg8 m c) _ fun p q => (left m hO c t p q).2.2.1.trans (by rw [sum8_eq m hO c t p q h, blk9 m hO c t p q]; rfl))

/-- The array of the second moment: layer 0's half new, layer 1's as it was. -/
def res14 : S2x3x704.Idx → EReal := half2 (stepV (G m c) (arg5 m c)) (arg9 m c)

theorem out_eq14 (h : (num m 0).toNat < 8) : (dats m hO 0 c).arrAt 14 (cfgM m hO).N = res14 m c := by
  have old : V m c main_v0_3 = arg9 m c := by unfold_abbrev_sides; after_results; rfl
  refine funext fun i => settle ((dats m hO 0 c).arrAt_eq_piecewise 14 (res14 m c) (fun t _ => ?_) i)
    (fun h0 => (mem_rect m hO i h0).imp fun t ht => ⟨flush0_14 _ t,
      Eq.mpr (congrArg (fun s => i ∈ s) (View.set_slice_whole main_v0_3 (((cfgM m hO).win 14).rect t))) ht⟩)
    fun h0 => (congrFun (A_eq m hO c 14) i).trans ((congrFun old i).trans (half2_neg _ (arg9 m c) i h0))
  show ((cfgM m hO).win 14).cut (grid0.coords t) ((dats m hO 0 c).after 14 t) = _
  rw [after0_14]
  exact funext (block_of m hO t _ (arg9 m c) _ fun p q => (left m hO c t p q).2.2.2.trans (by rw [sum8_eq m hO c t p q h, blk10 m hO c t p q]; rfl))

/-! ## The reference -/

section

open Cert.Reference28Ideal.Read

variable {x0 x1 : FVec Ideal Cert.Reference28Ideal.S8x3x704 .f32} {x2 : IVec Cert.Reference28Ideal.S1 32} {x3 x4 x5 x6 x7 x8 x9 : FVec Ideal Cert.Reference28Ideal.S2x3x704 .f32}

/-- The reference's gradient, entry by entry. -/
theorem ref_grad (x0 x1 : FVec Ideal Cert.Reference28Ideal.S8x3x704 .f32) (x2 : IVec Cert.Reference28Ideal.S1 32) (i : Fin 3) (j : Fin 704) :
    ((val_main_v6 (F := Ideal) x0 x1 x2 : FVec Ideal Cert.Reference28Ideal.S3x704 .f32) (ix2 i j) : EReal) = grad (x2 (ix1 0)).toNat x0 x1 i.val j.val := by
  unfold val_main_v6 val_main_cst val_main_v5 val_main_call0_v0 val_main_v4 val_main_v3 val_main_v2 val_main_v1 val_main_v0
  pointwise
  exact grad_pick (x2 (ix1 0)) x0 x1 i j

variable (γ : ℕ → ℕ → EReal) (hg : ∀ i j, ((val_main_v6 (F := Ideal) x0 x1 x2 : FVec Ideal Cert.Reference28Ideal.S3x704 .f32) (ix2 i j) : EReal) = γ i.val j.val) (y : Cert.Reference28Ideal.S2x3x704.Idx)
include hg

/-- The reference's gradient. -/
theorem ref11 : ((val_main_v41 (F := Ideal) x0 x1 x2 x6 : FVec Ideal Cert.Reference28Ideal.S2x3x704 .f32) y : EReal) = half2 (γ) x6 y := by
  have e0 : ∀ A : Cert.Reference28Ideal.S2x3x704.Idx → EReal, A (ix3 0 (y 1) (y 2)) = rd3 A 0 (y 1).val (y 2).val := fun A => rd3_at A 0 (y 1) (y 2)
  unfold val_main_v41 val_main_v40 val_main_v39 val_main_v38 val_main_v37
  generalize (val_main_v6 (F := Ideal) x0 x1 x2 : FVec Ideal Cert.Reference28Ideal.S3x704 .f32) = g at hg ⊢
  have eg : (g (ix2 (y 1) (y 2)) : EReal) = γ (y 1).val (y 2).val := hg (y 1) (y 2)
  pointwise
  refine half2_eq _ x6 y ?_
  exact eg

/-- The reference's change of the weight. -/
theorem ref12 : ((val_main_v46 (F := Ideal) x0 x1 x2 x3 x4 x5 x7 : FVec Ideal Cert.Reference28Ideal.S2x3x704 .f32) y : EReal) = half2 (stepW γ x3 x4 x5) x7 y := by
  have e0 : ∀ A : Cert.Reference28Ideal.S2x3x704.Idx → EReal, A (ix3 0 (y 1) (y 2)) = rd3 A 0 (y 1).val (y 2).val := fun A => rd3_at A 0 (y 1) (y 2)
  unfold val_main_v46 val_main_v45 val_main_v44 val_main_v43 val_main_v42 val_main_v36 val_main_v35 val_main_cst_8 val_main_v34 val_main_v33 val_main_v32 val_main_cst_7 val_main_v31 val_main_v30 val_main_v29 val_main_v28 val_main_v27 val_main_cst_6 val_main_v26 val_main_v25 val_main_v24 val_main_cst_5 val_main_v23 val_main_v22 val_main_cst_4 val_main_v21 val_main_v20 val_main_v19 val_main_cst_3 val_main_v18 val_main_v17 val_main_v16 val_main_cst_2 val_main_v15 val_main_v14 val_main_v13 val_main_v12 val_main_v11 val_main_cst_1 val_main_v10 val_main_v9 val_main_cst_0 val_main_v8 val_main_v7
  generalize (val_main_v6 (F := Ideal) x0 x1 x2 : FVec Ideal Cert.Reference28Ideal.S3x704 .f32) = g at hg ⊢
  have eg : (g (ix2 (y 1) (y 2)) : EReal) = γ (y 1).val (y 2).val := hg (y 1) (y 2)
  pointwise
  refine half2_eq _ x7 y ?_
  unfold stepW delta newM newV
  simp only [e0, eg]

/-- The reference's first moment. -/
theorem ref13 : ((val_main_v51 (F := Ideal) x0 x1 x2 x4 x8 : FVec Ideal Cert.Reference28Ideal.S2x3x704 .f32) y : EReal) = half2 (stepM γ x4) x8 y := by
  have e0 : ∀ A : Cert.Reference28Ideal.S2x3x704.Idx → EReal, A (ix3 0 (y 1) (y 2)) = rd3 A 0 (y 1).val (y 2).val := fun A => rd3_at A 0 (y 1) (y 2)
  unfold val_main_v51 val_main_v50 val_main_v49 val_main_v48 val_main_v47 val_main_v13 val_main_v12 val_main_v11 val_main_cst_1 val_main_v10 val_main_v9 val_main_cst_0 val_main_v8 val_main_v7
  generalize (val_main_v6 (F := Ideal) x0 x1 x2 : FVec Ideal Cert.Reference28Ideal.S3x704 .f32) = g at hg ⊢
  have eg : (g (ix2 (y 1) (y 2)) : EReal) = γ (y 1).val (y 2).val := hg (y 1) (y 2)
  pointwise
  refine half2_eq _ x8 y ?_
  unfold stepM newM
  simp only [e0, eg]

/-- The reference's second moment. -/
theorem ref14 : ((val_main_v56 (F := Ideal) x0 x1 x2 x5 x9 : FVec Ideal Cert.Reference28Ideal.S2x3x704 .f32) y : EReal) = half2 (stepV γ x5) x9 y := by
  have e0 : ∀ A : Cert.Reference28Ideal.S2x3x704.Idx → EReal, A (ix3 0 (y 1) (y 2)) = rd3 A 0 (y 1).val (y 2).val := fun A => rd3_at A 0 (y 1) (y 2)
  unfold val_main_v56 val_main_v55 val_main_v54 val_main_v53 val_main_v52 val_main_v21 val_main_v20 val_main_v19 val_main_cst_3 val_main_v18 val_main_v17 val_main_v16 val_main_cst_2 val_main_v15 val_main_v14
  generalize (val_main_v6 (F := Ideal) x0 x1 x2 : FVec Ideal Cert.Reference28Ideal.S3x704 .f32) = g at hg ⊢
  have eg : (g (ix2 (y 1) (y 2)) : EReal) = γ (y 1).val (y 2).val := hg (y 1) (y 2)
  pointwise
  refine half2_eq _ x9 y ?_
  unfold stepV newV
  simp only [e0, eg]

end

/-! ## The runs -/

/-- The kernel on words terminates, leaves its arguments as they were and every counter at zero. -/
theorem frame_words : @Cert.quiescent_Kernel28 Cert.Kernel28.Gen.facts Cert.Pre_device28.Gen.facts := fun m ρ h =>
by
  have hw : (num (F := Bits) m 0).toNat < 8 := num_lt (F := Bits) _ _ _ _ _ _ _ _ _ _ (h 0)
  have hO : Cert.Kernel28.Gen.Ok (F := Bits) m := ok_of (F := Bits) m hw
  exact Cert.Kernel28.Gen.frame (F := Bits) m ρ hO

/-- So does the kernel over the extended reals. -/
theorem frame_kernel : @Cert.quiescent_Kernel28Ideal Cert.Kernel28Ideal.Gen.facts Cert.Pre_device28.Gen.facts := fun m ρ h =>
  Gen.frame (F := Ideal) m ρ (ok_of m (num_lt _ _ _ _ _ _ _ _ _ _ (h 0)))

/-- The reference's frame: it terminates and leaves its arguments as they were. -/
theorem frame_reference : @Cert.quiescent_Reference28Ideal Cert.Reference28Ideal.Gen.facts := fun m ρ _ =>
  (θ_run Cert.Reference28Ideal.defs _ _).mono (fun r h => ⟨fun c => (h c).2.2.2.2,
      sem_eq_zero_of_no_sems (by decide) r.2⟩)
    (Cert.Reference28Ideal.Value.run m ρ)

/-- The same of arguments that meet the precondition. -/
theorem frame_reference_pre : @Cert.quiescent_Reference28Ideal_pre_device28 Cert.Reference28Ideal.Gen.facts Cert.Pre_device28.Gen.facts :=
  fun m ρ _ => frame_reference m ρ trivial

/-- The kernel and the reference compute the same four arrays over the extended reals. -/
theorem algebraic :
    @Cert.algebraic_Kernel28Ideal_Reference28Ideal Cert.Kernel28Ideal.Gen.facts Cert.Reference28Ideal.Gen.facts Cert.Pre_device28.Gen.facts := by
  intro m g m' g' hp hargs
  have hw : (num m 0).toNat < 8 := num_lt _ _ _ _ _ _ _ _ _ _ (hp 0)
  have hz : ∀ c : Dev nD, c = 0 := fun c => Subsingleton.elim (α := Fin 1) c 0
  refine ⟨res11 m, res12 m, res13 m, res14 m, (θ_run defs _ _).mono (fun _ k c => ?_)
    (θ_run_and (run_main m g (ok_of m hw)) (unchanged m g (ok_of m hw))), ?_⟩
  · have o := (k.1 c).1
    exact ⟨(o 11).trans (out_eq11 m _ c hw), (o 12).trans (out_eq12 m _ c hw), (o 13).trans (out_eq13 m _ c hw),
      (o 14).trans (out_eq14 m _ c hw), k.2 c⟩
  refine (θ_run Cert.Reference28Ideal.defs _ _).mono (fun r h c => ?_) (Cert.Reference28Ideal.Value.run m' g')
  obtain ⟨a0, a1, a2, a3, a4, a5, a6, a7, a8, a9⟩ := hargs c
  obtain ⟨h0, h1, h2, h3, k⟩ := h c
  have gr : ∀ i j, grad (m ((c : Thread nD τ).loc main_arg2) (ix1 0)).toNat (own m c) (land m c) i j = G m c i j := by
    intro i j
    rw [hz c, (funext fun a => Fin.ext (by fin_cases a; rfl) : (ix1 0 : (⟨1, ![1]⟩ : Shape).Idx) = z)]
    rfl
  have gq := fun i j => (ref_grad (m ((c : Thread nD τ).loc main_arg0)) (m ((c : Thread nD τ).loc main_arg1)) (m ((c : Thread nD τ).loc main_arg2)) i j).trans (gr i j)
  refine ⟨h0.trans ?_, h1.trans ?_, h2.trans ?_, h3.trans ?_, k⟩
  · rw [a0, a1, a2, a6]
    exact (Cert.Reference28Ideal.Read.val_main_v41_eq _ _ _ _).trans (funext fun y => ref11 _ gq y)
  · rw [a0, a1, a2, a3, a4, a5, a7]
    exact (Cert.Reference28Ideal.Read.val_main_v46_eq _ _ _ _ _ _ _).trans (funext fun y => ref12 _ gq y)
  · rw [a0, a1, a2, a4, a8]
    exact (Cert.Reference28Ideal.Read.val_main_v51_eq _ _ _ _ _).trans (funext fun y => ref13 _ gq y)
  · rw [a0, a1, a2, a5, a9]
    exact (Cert.Reference28Ideal.Read.val_main_v56_eq _ _ _ _ _).trans (funext fun y => ref14 _ gq y)

end Cert.Kernel28Ideal.Own
-- ==== Proof.NormFwd.lean ====
module

public import proofs.«01_k».proof.Proof.Kit
public import proofs.«01_k».proof.Proof.Gen.Kernel29Ideal.Value
public import proofs.«01_k».proof.Proof.Gen.Reference29Ideal.Read

/-!
# A norm, forward

The kernel takes 256 rows at a grid point, the reference all rows at once.
-/

@[expose] public section

noncomputable section

namespace Cert.Kernel29Ideal.Own

open Cert.Kernel29Ideal Cert.Kernel29Ideal.Gen Idealize.ShloMosaic Idealize.ShloMosaic.TcCoe Idealize.SL.Sem
open Cert.Reference29Ideal.Read

/-- One element of the result, from its row, its place in the row and the weight there. -/
def nrm (r : Fin 2048 → EReal) (q : Fin 2048) (w : EReal) : EReal :=
  r q * Ideal.rsqrt (Ideal.div (∑ k, r k * r k) (Ideal.ofBits .f32 0x45000000#32) + Ideal.ofBits .f32 0x358637BD#32) * w

/-- What a grid point stores, entry by entry. -/
theorem pay (x0 : Vec Ideal S256x2048 .f32) (x1 : Vec Ideal S1x2048 .f32) (y : S256x2048.Idx) :
    (k0_pay1 (F := Ideal) x0 x1 : S256x2048.Idx → EReal) y = nrm (fun q => x0 (ix2 (y 0) q)) (y 1) (x1 (ix2 0 (y 1))) := by
  unfold k0_pay1 nrm
  pointwise

theorem out (x0 : Vec Ideal S256x2048 .f32) (x1 : Vec Ideal S1x2048 .f32) (y : S256x2048.Idx) :
    (out0_2 (F := Ideal) x0 x1 : S256x2048.Idx → EReal) y = nrm (fun q => x0 (ix2 (y 0) q)) (y 1) (x1 (ix2 0 (y 1))) := by
  unfold out0_2
  rw [View.canon_unit_zero hz, View.ld_unit_zero (S := S256x2048) hz, View.ld_unit_zero (S := S1x2048) hz]
  exact pay x0 x1 y

/-- The reference's result, entry by entry. -/
theorem ref (x0 : Vec Ideal S4096x2048 .f32) (x1 : Vec Ideal S1x2048 .f32) (y : S4096x2048.Idx) :
    (val_main_v12 (F := Ideal) x0 x1 : S4096x2048.Idx → EReal) y = nrm (fun q => x0 (ix2 (y 0) q)) (y 1) (x1 (ix2 0 (y 1))) := by
  rw [← val_main_v12_eq]
  unfold nrm
  pointwise

variable (m : (ℓ : Loc nD τ sig) → Buf (Elt Ideal) ℓ)

theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := (by decide +kernel : ∀ t : Fin grid0.N, _)

/-- The array after the run is the reference's result. -/
theorem out_eq (c : Dev nD) : (dats m 0 c).arrAt 2 cfg0.N
    = val_main_v12 (F := Ideal) (m ((c : Thread nD τ).loc main_arg0)) (m ((c : Thread nD τ).loc main_arg1)) := by
  refine (dats m 0 c).arrAt_eq_of_cover 2 _ (fun t _ => ?_) (fun i => ?_)
  · rw [Value.flushed2]
    funext x
    show (out0_2 (F := Ideal) _ _ : S256x2048.Idx → EReal) x = val_main_v12 (F := Ideal) _ _ ((win0_2.rect t).idx x)
    refine (out _ _ x).trans (Eq.trans ?_ (ref _ _ _).symm)
    have h0 : (((win0_2.rect t).idx x) 0).val = t.val * 256 + (x 0).val := Kit.at_off (idx_facts t).2.2.1 rfl
    have h1 : ((win0_2.rect t).idx x) 1 = x 1 := Fin.ext ((Kit.at_off (idx_facts t).2.2.2 rfl).trans (by omega))
    generalize (win0_2.rect t).idx x = i at h0 h1
    rw [h1]
    refine congrArg₂ (fun r w => nrm r (x 1) w) (funext fun q => ?_) ?_
    · exact congrArg (m ((c : Thread nD τ).loc main_arg0)) (Kit.at_blk _ (ix2 (i 0) q) (win0_0.index t) 256 2048
        (r := (x 0).val) (q := q.val) rfl rfl ((idx_facts t).1) h0.symm (by show 0 * 2048 + q.val = q.val; omega))
    · exact congrArg (m ((c : Thread nD τ).loc main_arg1)) (Kit.at_blk _ (ix2 0 (x 1)) (win0_1.index t) 1 2048
        (r := 0) (q := (x 1).val) rfl rfl ((idx_facts t).2.1) rfl (by show 0 * 2048 + (x 1).val = (x 1).val; omega))
  · have h0 : (i 0).val < 4096 := (i 0).isLt
    have h1 : (i 1).val < 2048 := (i 1).isLt
    have hN : cfg0.N = 16 := N_0
    obtain ⟨t, ht⟩ : ∃ t : Fin cfg0.N, t.val = (i 0).val / 256 := ⟨⟨(i 0).val / 256, by omega⟩, rfl⟩
    exact ⟨t, flush0_2 t, Kit.in_whole (b := main_v0) <|
      Kit.in_blk i (win0_2.index t) 256 2048 rfl rfl rfl rfl ((idx_facts t).2.2) (by omega) (by omega)⟩

/-- The reference's frame: it terminates and leaves its arguments as they were. -/
theorem frame_reference : @Cert.quiescent_Reference29Ideal Cert.Reference29Ideal.Gen.facts := fun m ρ _ =>
  (θ_run Cert.Reference29Ideal.defs _ _).mono (fun r h => ⟨fun c => (h c).2, sem_eq_zero_of_no_sems (by decide) r.2⟩)
    (Cert.Reference29Ideal.Value.run m ρ)

/-- The kernel and the reference compute the same norm over the extended reals. -/
theorem algebraic : @Cert.algebraic_Kernel29Ideal_Reference29Ideal Cert.Kernel29Ideal.Gen.facts Cert.Reference29Ideal.Gen.facts := by
  intro m g m' g' _ hargs
  refine ⟨_, Value.run_blocks m g, (θ_run Cert.Reference29Ideal.defs _ _).mono (fun r h c => ⟨(h c).1.trans ?_, (h c).2⟩)
    (Cert.Reference29Ideal.Value.run m' g')⟩
  obtain ⟨a0, a1⟩ := hargs c
  rw [a0, a1]
  exact (val_main_v12_eq _ _).trans (out_eq m c).symm

end Cert.Kernel29Ideal.Own
-- ==== Proof.MergeFwd.lean ====
module

public import proofs.«01_k».proof.Proof.Kit
public import proofs.«01_k».proof.Proof.Gen.Kernel30Ideal.Value
public import proofs.«01_k».proof.Proof.Gen.Reference30Ideal.Read

/-!
# The gated merge, forward

The kernel reads the two gates as column blocks of one array; the reference slices them out of it.
-/

@[expose] public section

noncomputable section

namespace Cert.Kernel30Ideal.Own

open Cert.Kernel30Ideal Cert.Kernel30Ideal.Gen Idealize.ShloMosaic Idealize.ShloMosaic.TcCoe Idealize.SL.Sem
open Cert.Reference30Ideal.Read

/-- The host's logistic function, as it is written out, is the logistic function. -/
theorem sig_eq (x : EReal) : Ideal.div (Ideal.ofBits .f32 0x3F800000#32) (Ideal.ofBits .f32 0x3F800000#32 + Ideal.exp (-x)) = Ideal.logistic x := by
  rw [Ideal.ofBits_one_f32]; rfl

/-- The reference's result is the kernel's function of the arguments. -/
theorem ref_eq (x0 : Vec Ideal S4096x6144 .f32) (x1 x2 : Vec Ideal S4096x2048 .f32) :
    val_main_v17 (F := Ideal) x0 x1 x2 = Value.G4 (F := Ideal) x0 x0 x1 x2 := by
  funext i
  have e0 : idx_main_v0 i = Value.inIdx4_0 i := funext fun d => Fin.ext (match d with | ⟨0, _⟩ => rfl | ⟨1, _⟩ => Nat.add_comm _ _)
  have e1 : idx_main_v1 i = Value.inIdx4_1 i := funext fun d => Fin.ext (match d with | ⟨0, _⟩ => rfl | ⟨1, _⟩ => Nat.add_comm _ _)
  simp only [val_main_v0_apply, val_main_v1_apply, val_main_v2_apply, val_main_v3_apply, val_main_cst_apply, val_main_v4_apply, val_main_v5_apply, val_main_cst_0_apply, val_main_v6_apply, val_main_v7_apply, val_main_v8_apply, val_main_v9_apply, val_main_v10_apply, val_main_cst_1_apply, val_main_v11_apply, val_main_v12_apply, val_main_cst_2_apply, val_main_v13_apply, val_main_v14_apply, val_main_v15_apply, val_main_v16_apply, val_main_v17_apply, e0, e1]
  exact congrArg₂ (fun a b : EReal => a * x1 i + b * x2 i) (sig_eq _) (sig_eq _)

/-- The reference's frame: it terminates and leaves its arguments as they were. -/
theorem frame_reference : @Cert.quiescent_Reference30Ideal Cert.Reference30Ideal.Gen.facts := fun m ρ _ =>
  (θ_run Cert.Reference30Ideal.defs _ _).mono (fun r h => ⟨fun c => (h c).2, sem_eq_zero_of_no_sems (by decide) r.2⟩)
    (Cert.Reference30Ideal.Value.run m ρ)

/-- The kernel and the reference compute the same merge over the extended reals. -/
theorem algebraic : @Cert.algebraic_Kernel30Ideal_Reference30Ideal Cert.Kernel30Ideal.Gen.facts Cert.Reference30Ideal.Gen.facts := by
  intro m g m' g' _ hargs
  refine ⟨_, Value.run m g, (θ_run Cert.Reference30Ideal.defs _ _).mono (fun r h c => ⟨(h c).1.trans ?_, (h c).2⟩)
    (Cert.Reference30Ideal.Value.run m' g')⟩
  obtain ⟨a0, a1, a2⟩ := hargs c
  rw [a0, a1, a2]
  exact (val_main_v17_eq _ _ _).trans (ref_eq _ _ _)

end Cert.Kernel30Ideal.Own
-- ==== Proof.FfnAct.lean ====
module

public import proofs.«01_k».proof.Proof.Kit
public import proofs.«01_k».proof.Proof.ProdSum
public import proofs.«01_k».proof.Proof.Gen.Kernel31Ideal.Value
public import proofs.«01_k».proof.Proof.Gen.Reference31Ideal.Read

/-!
# The FFN's convolution and gate, forward (the call `ffn_act_fwd`)

An entry of the result is a gate of the last three rows' entries, through `x * logistic x`, times the entry of the other
factor (`act`). A block takes the two rows before it from the block before; the first block has zeros there.
-/

@[expose] public section

noncomputable section

namespace Cert.Kernel31Ideal.Own

open Cert.Kernel31Ideal Cert.Kernel31Ideal.Gen Idealize.ShloMosaic Idealize.ShloMosaic.TcCoe Idealize.SL.Sem Cert.ProdSum
open Cert.Reference31Ideal.Read

/-- The gated product of three entries with their weights and bias, and one entry of the other factor. -/
def act (a0 a1 a2 w0 w1 w2 b u : EReal) : EReal :=
  (w0 * a0 + w1 * a1 + w2 * a2 + b) * Ideal.logistic (w0 * a0 + w1 * a1 + w2 * a2 + b) * u

/-- The entry two rows before row `n`, with zeros before the first row. -/
def before (A : S4096x5632.Idx → EReal) (n k : ℕ) : EReal := if 2 ≤ n then rd A (n - 2) k else 0

/-- An entry of the result, from the arguments. -/
def res (A U : S4096x5632.Idx → EReal) (W : S8x5632.Idx → EReal) (B : S1x5632.Idx → EReal) (n k : ℕ) : EReal :=
  act (before A n k) (before A (1 + n) k) (rd A n k) (rd W 0 k) (rd W 1 k) (rd W 2 k) (rd B 0 k) (rd U n k)

/-- The reference's result, entry by entry. -/
theorem ref (x0 x1 : Vec Ideal S4096x5632 .f32) (x2 : Vec Ideal S8x5632 .f32) (x3 : Vec Ideal S1x5632 .f32) (r : Fin 4096) (q : Fin 5632) :
    (val_main_v25 (F := Ideal) x0 x1 x2 x3 : S4096x5632.Idx → EReal) (ix2 r q) = res x0 x1 x2 x3 r.val q.val := by
  rw [← val_main_v25_eq]
  pointwise
  have P : ∀ (n : ℕ) (h : n < 4098) (g : 2 ≤ n ∧ n - 2 < 4096 → n - 2 < 4096), n < 4098 →
      (if h : 2 ≤ n ∧ n - 2 < 4096 then x0 (ix2 ⟨n - 2, g h⟩ q) else (FloatOps.sitofp FTy.f32 0#32 : Ideal .f32) : EReal) = before x0 n q.val := by
    intro n _ g h
    unfold before
    by_cases e : 2 ≤ n
    · rw [dif_pos ⟨e, by omega⟩, if_pos e]
      exact rd_of _ _ _ _ rfl rfl
    · rw [dif_neg (by omega), if_neg e]
      show (((0#32 : BitVec 32).toInt : ℝ) : EReal) = 0
      simp
  unfold res act
  simp only [mul_comm (rd x2 _ _)]
  rw [← P r.val (by omega) (fun h => h.2) (by omega), ← P (1 + r.val) (by omega) (fun h => h.2) (by omega),
    ← rd_of x0 (ix2 r q) r.val q.val rfl rfl, ← rd_of x1 (ix2 r q) r.val q.val rfl rfl, ← rd_of x2 (ix2 0 q) 0 q.val rfl rfl,
    ← rd_of x2 (ix2 1 q) 1 q.val rfl rfl, ← rd_of x2 (ix2 2 q) 2 q.val rfl rfl, ← rd_of x3 (ix2 0 q) 0 q.val rfl rfl]
  rfl

theorem idx_facts : ∀ t : Fin cfg0.N,
    (win0_0.index t 0 = t.val % 16 * 32 - 1 ∧ win0_0.index t 1 = t.val / 16) ∧ (win0_1.index t 0 = t.val % 16 ∧ win0_1.index t 1 = t.val / 16)
    ∧ (win0_2.index t 0 = t.val % 16 ∧ win0_2.index t 1 = t.val / 16) ∧ (win0_3.index t 0 = 0 ∧ win0_3.index t 1 = t.val / 16)
    ∧ (win0_4.index t 0 = 0 ∧ win0_4.index t 1 = t.val / 16) ∧ (win0_5.index t 0 = t.val % 16 ∧ win0_5.index t 1 = t.val / 16)
    ∧ Scalar.cmpi .sgt (BitVec.ofNat 32 (grid0.coords t 1).val) 0#32 = (if t.val % 16 = 0 then 0#1 else 1#1) := (by decide +kernel : ∀ t : Fin grid0.N, _)

variable (m : (ℓ : Loc nD τ sig) → Buf (Elt Ideal) ℓ) (c : Dev nD) (t : Fin cfg0.N)

/-- What a grid point stores, entry by entry. -/
theorem pay (r : Fin 256) (q : Fin 512) :
    (k0_pay1 (F := Ideal) (grid0.coords t) (iblk m c 0 t) (iblk m c 1 t) (iblk m c 2 t) (iblk m c 3 t) (iblk m c 4 t) : S256x512.Idx → EReal) (ix2 r q)
      = res (m ((c : Thread nD τ).loc main_arg0)) (m ((c : Thread nD τ).loc main_arg1)) (m ((c : Thread nD τ).loc main_arg2))
        (m ((c : Thread nD τ).loc main_arg3)) (t.val % 16 * 256 + r.val) (t.val / 16 * 512 + q.val) := by
  obtain ⟨i0, i1, i2, i3, i4, -, iw⟩ := idx_facts t
  have b0 : ∀ p : Fin 8, (iblk m c 0 t : S8x512.Idx → EReal) (ix2 p q) = rd (a := 4096) (b := 5632) (m ((c : Thread nD τ).loc main_arg0)) ((t.val % 16 * 32 - 1) * 8 + p.val) (t.val / 16 * 512 + q.val) :=
    fun p => rd_blk _ ((win0_0.rect t).idx (ix2 p q)) (win0_0.index t) 8 512 rfl rfl i0 rfl rfl
  have b1 : ∀ p : Fin 256, (iblk m c 1 t : S256x512.Idx → EReal) (ix2 p q) = rd (a := 4096) (b := 5632) (m ((c : Thread nD τ).loc main_arg0)) (t.val % 16 * 256 + p.val) (t.val / 16 * 512 + q.val) :=
    fun p => rd_blk _ ((win0_1.rect t).idx (ix2 p q)) (win0_1.index t) 256 512 rfl rfl i1 rfl rfl
  have b2 : (iblk m c 2 t : S256x512.Idx → EReal) (ix2 r q) = rd (a := 4096) (b := 5632) (m ((c : Thread nD τ).loc main_arg1)) (t.val % 16 * 256 + r.val) (t.val / 16 * 512 + q.val) :=
    rd_blk _ ((win0_2.rect t).idx (ix2 r q)) (win0_2.index t) 256 512 rfl rfl i2 rfl rfl
  have b3 : ∀ p : Fin 8, (iblk m c 3 t : S8x512.Idx → EReal) (ix2 p q) = rd (a := 8) (b := 5632) (m ((c : Thread nD τ).loc main_arg2)) p.val (t.val / 16 * 512 + q.val) :=
    fun p => rd_blk _ ((win0_3.rect t).idx (ix2 p q)) (win0_3.index t) 8 512 (r := p.val) rfl rfl i3 (by omega) rfl
  have b4 : (iblk m c 4 t : S1x512.Idx → EReal) (ix2 0 q) = rd (a := 1) (b := 5632) (m ((c : Thread nD τ).loc main_arg3)) 0 (t.val / 16 * 512 + q.val) :=
    rd_blk _ ((win0_4.rect t).idx (ix2 0 q)) (win0_4.index t) 1 512 rfl rfl i4 rfl rfl
  generalize (iblk m c 0 t : S8x512.Idx → EReal) = x0 at b0
  generalize (iblk m c 1 t : S256x512.Idx → EReal) = x1 at b1
  generalize (iblk m c 2 t : S256x512.Idx → EReal) = x2 at b2
  generalize (iblk m c 3 t : S8x512.Idx → EReal) = x3 at b3
  generalize (iblk m c 4 t : S1x512.Idx → EReal) = x4 at b4
  unfold k0_pay1
  pointwise
  rw [iw]
  have P : ∀ (n : ℕ) (g : n < 8 → n < 8) (g' : ¬ n < 8 → n - 8 < 256), 6 ≤ n → n < 264 →
      (if h : n < 8 then Scalar.select (if t.val % 16 = 0 then 0#1 else 1#1) (x0 (ix2 ⟨n, g h⟩ q)) 0 else x1 (ix2 ⟨n - 8, g' h⟩ q) : EReal)
        = before (m ((c : Thread nD τ).loc main_arg0)) (t.val % 16 * 256 + n - 6) (t.val / 16 * 512 + q.val) := by
    intro n _ _ h6 h
    unfold before
    by_cases e : n < 8
    · rw [dif_pos e]
      by_cases z : t.val % 16 = 0
      · rw [if_pos z, if_neg (by omega)]
        rfl
      · rw [if_neg z, if_pos (by omega)]
        exact (b0 ⟨n, e⟩).trans (congrArg (fun k => rd (a := 4096) (b := 5632) (m ((c : Thread nD τ).loc main_arg0)) k _) (by show (_ - 1) * 8 + n = _; omega))
    · rw [dif_neg e, if_pos (by omega)]
      exact (b1 ⟨n - 8, by omega⟩).trans (congrArg (fun k => rd (a := 4096) (b := 5632) (m ((c : Thread nD τ).loc main_arg0)) k _) (by show _ + (n - 8) = _; omega))
  rw [P (6 + r.val) (fun h => h) (fun h => by omega) (by omega) (by omega), P (7 + r.val) (fun h => h) (fun h => by omega) (by omega) (by omega), b1, b2, b3, b3, b3, b4,
    show t.val % 16 * 256 + (6 + r.val) - 6 = t.val % 16 * 256 + r.val by omega, show t.val % 16 * 256 + (7 + r.val) - 6 = 1 + (t.val % 16 * 256 + r.val) by omega]
  rfl

theorem out (i : grid0.Coords) (x0 : Vec Ideal S8x512 .f32) (x1 x2 : Vec Ideal S256x512 .f32) (x3 : Vec Ideal S8x512 .f32) (x4 : Vec Ideal S1x512 .f32) :
    (out0_5 (F := Ideal) i x0 x1 x2 x3 x4 : S256x512.Idx → EReal) = k0_pay1 (F := Ideal) i x0 x1 x2 x3 x4 := by
  unfold out0_5
  rw [View.canon_unit_zero hz]
  repeat rw [View.ld_unit_zero hz]

/-- The array after the run is the reference's result. -/
theorem out_eq : (dats m 0 c).arrAt 5 cfg0.N = val_main_v25 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_cover 5 _ (fun t _ => ?_) (fun i => ?_)
  · rw [Value.flushed5]
    funext x
    show (out0_5 (F := Ideal) (grid0.coords t) _ _ _ _ _ : S256x512.Idx → EReal) x = val_main_v25 (F := Ideal) _ _ _ _ ((win0_5.rect t).idx x)
    have h0 : (((win0_5.rect t).idx x) 0).val = t.val % 16 * 256 + (x 0).val := Kit.at_off (idx_facts t).2.2.2.2.2.1.1 rfl
    have h1 : (((win0_5.rect t).idx x) 1).val = t.val / 16 * 512 + (x 1).val := Kit.at_off (idx_facts t).2.2.2.2.2.1.2 rfl
    generalize (win0_5.rect t).idx x = i at h0 h1
    rw [out]
    refine (congrArg _ (eq_ix2 x)).trans ((pay m c t (x 0) (x 1)).trans ?_)
    rw [← h0, ← h1]
    exact ((congrArg _ (eq_ix2 i)).trans (ref _ _ _ _ (i 0) (i 1))).symm
  · have h0 : (i 0).val < 4096 := (i 0).isLt
    have h1 : (i 1).val < 5632 := (i 1).isLt
    obtain ⟨t, ht⟩ : ∃ t : Fin cfg0.N, t.val = (i 1).val / 512 * 16 + (i 0).val / 256 := ⟨⟨_, (by omega : (i 1).val / 512 * 16 + (i 0).val / 256 < 176)⟩, rfl⟩
    exact ⟨t, flush0_5 t, Kit.in_whole (b := main_v0) <|
      Kit.in_blk i (win0_5.index t) 256 512 rfl rfl rfl rfl ((idx_facts t).2.2.2.2.2.1) (by omega) (by omega)⟩

/-- The reference's frame: it terminates and leaves its arguments as they were. -/
theorem frame_reference : @Cert.quiescent_Reference31Ideal Cert.Reference31Ideal.Gen.facts := fun m ρ _ =>
  (θ_run Cert.Reference31Ideal.defs _ _).mono (fun r h => ⟨fun c => (h c).2, sem_eq_zero_of_no_sems (by decide) r.2⟩)
    (Cert.Reference31Ideal.Value.run m ρ)

/-- The kernel and the reference compute the same gated product over the extended reals. -/
theorem algebraic : @Cert.algebraic_Kernel31Ideal_Reference31Ideal Cert.Kernel31Ideal.Gen.facts Cert.Reference31Ideal.Gen.facts := by
  intro m g m' g' _ hargs
  refine ⟨_, Value.run_blocks m g, (θ_run Cert.Reference31Ideal.defs _ _).mono (fun r h c => ⟨(h c).1.trans ?_, (h c).2⟩)
    (Cert.Reference31Ideal.Value.run m' g')⟩
  obtain ⟨a0, a1, a2, a3⟩ := hargs c
  rw [a0, a1, a2, a3]
  exact (val_main_v25_eq _ _ _ _).trans (out_eq m c).symm

end Cert.Kernel31Ideal.Own

end
-- ==== Proof.lean ====
/- The certificate's claims put together: for each call of the training step, the frames of the kernel (machine words and
   extended reals) and of the reference, and the equality of their results over the extended reals. Each is proved in the
   module of its call under Proof/. -/
module

public import proofs.«01_k».proof.Defs
public import proofs.«01_k».proof.Proof.Gen.Kernel.Frame
public import proofs.«01_k».proof.Proof.Scan
public import proofs.«01_k».proof.Proof.Gen.Kernel2.Frame
public import proofs.«01_k».proof.Proof.Merge
public import proofs.«01_k».proof.Proof.Gen.Kernel3.Frame
public import proofs.«01_k».proof.Proof.ProdA
public import proofs.«01_k».proof.Proof.Gen.Kernel4.Frame
public import proofs.«01_k».proof.Proof.ProdB
public import proofs.«01_k».proof.Proof.Gen.Kernel5.Frame
public import proofs.«01_k».proof.Proof.ProdC
public import proofs.«01_k».proof.Proof.Gen.Kernel6.Frame
public import proofs.«01_k».proof.Proof.ProdD
public import proofs.«01_k».proof.Proof.Gen.Kernel7.Frame
public import proofs.«01_k».proof.Proof.ProdE
public import proofs.«01_k».proof.Proof.Gen.Kernel8.Frame
public import proofs.«01_k».proof.Proof.ProdF
public import proofs.«01_k».proof.Proof.Gen.Kernel9.Frame
public import proofs.«01_k».proof.Proof.ProdG
public import proofs.«01_k».proof.Proof.Gen.Kernel10.Frame
public import proofs.«01_k».proof.Proof.ProdH
public import proofs.«01_k».proof.Proof.Gen.Kernel11.Frame
public import proofs.«01_k».proof.Proof.ProdI
public import proofs.«01_k».proof.Proof.Gen.Kernel12.Frame
public import proofs.«01_k».proof.Proof.ProdJ
public import proofs.«01_k».proof.Proof.Gen.Kernel13.Frame
public import proofs.«01_k».proof.Proof.ProdK
public import proofs.«01_k».proof.Proof.Gen.Kernel14.Frame
public import proofs.«01_k».proof.Proof.ProdL
public import proofs.«01_k».proof.Proof.Gen.Kernel15.Frame
public import proofs.«01_k».proof.Proof.ProdM
public import proofs.«01_k».proof.Proof.Gen.Kernel16.Frame
public import proofs.«01_k».proof.Proof.ProdN
public import proofs.«01_k».proof.Proof.Gen.Kernel17.Frame
public import proofs.«01_k».proof.Proof.ProdO
public import proofs.«01_k».proof.Proof.Gen.Kernel18.Frame
public import proofs.«01_k».proof.Proof.ProdP
public import proofs.«01_k».proof.Proof.Gen.Kernel19.Frame
public import proofs.«01_k».proof.Proof.ProdQ
public import proofs.«01_k».proof.Proof.Gen.Kernel20.Frame
public import proofs.«01_k».proof.Proof.AdamSmall
public import proofs.«01_k».proof.Proof.Gen.Kernel21.Frame
public import proofs.«01_k».proof.Proof.NormBwd
public import proofs.«01_k».proof.Proof.Gen.Kernel22.Frame
public import proofs.«01_k».proof.Proof.LossHead
public import proofs.«01_k».proof.Proof.Gen.Kernel23.Frame
public import proofs.«01_k».proof.Proof.ShardOut
public import proofs.«01_k».proof.Proof.Gen.Pre_device23
public import proofs.«01_k».proof.Proof.Gen.Kernel24.Frame
public import proofs.«01_k».proof.Proof.ShardIn
public import proofs.«01_k».proof.Proof.Gen.Pre_device24
public import proofs.«01_k».proof.Proof.Gen.Kernel25.Frame
public import proofs.«01_k».proof.Proof.ShardBranch
public import proofs.«01_k».proof.Proof.Gen.Pre_device25
public import proofs.«01_k».proof.Proof.Gen.Kernel26.Frame
public import proofs.«01_k».proof.Proof.ShardFfn
public import proofs.«01_k».proof.Proof.Gen.Pre_device26
public import proofs.«01_k».proof.Proof.Gen.Kernel27.Frame
public import proofs.«01_k».proof.Proof.ShardDnConv
public import proofs.«01_k».proof.Proof.Gen.Pre_device27
public import proofs.«01_k».proof.Proof.Gen.Kernel28.Frame
public import proofs.«01_k».proof.Proof.ShardFfnConv
public import proofs.«01_k».proof.Proof.Gen.Pre_device28
public import proofs.«01_k».proof.Proof.Gen.Kernel29.Frame
public import proofs.«01_k».proof.Proof.NormFwd
public import proofs.«01_k».proof.Proof.Gen.Kernel30.Frame
public import proofs.«01_k».proof.Proof.MergeFwd
public import proofs.«01_k».proof.Proof.Gen.Kernel31.Frame
public import proofs.«01_k».proof.Proof.FfnAct

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Kernel22.Gen.facts, Kernel22Ideal.Gen.facts, Reference22Ideal.Gen.facts, Kernel23.Gen.facts, Kernel23Ideal.Gen.facts, Reference23Ideal.Gen.facts, Kernel24.Gen.facts, Kernel24Ideal.Gen.facts, Reference24Ideal.Gen.facts, Kernel25.Gen.facts, Kernel25Ideal.Gen.facts, Reference25Ideal.Gen.facts, Kernel26.Gen.facts, Kernel26Ideal.Gen.facts, Reference26Ideal.Gen.facts, Kernel27.Gen.facts, Kernel27Ideal.Gen.facts, Reference27Ideal.Gen.facts, Kernel28.Gen.facts, Kernel28Ideal.Gen.facts, Reference28Ideal.Gen.facts, Kernel29.Gen.facts, Kernel29Ideal.Gen.facts, Reference29Ideal.Gen.facts, Kernel30.Gen.facts, Kernel30Ideal.Gen.facts, Reference30Ideal.Gen.facts, Kernel31.Gen.facts, Kernel31Ideal.Gen.facts, Reference31Ideal.Gen.facts, Cert.Pre_device23.Gen.facts, Cert.Pre_device24.Gen.facts, Cert.Pre_device25.Gen.facts, Cert.Pre_device26.Gen.facts, Cert.Pre_device27.Gen.facts, Cert.Pre_device28.Gen.facts,
  fun m ρ _ => Cert.Kernel.Gen.frame m ρ,
  fun m ρ _ => Cert.KernelIdeal.Gen.frame m ρ,
  Cert.KernelIdeal.Own.frame_reference,
  fun m ρ _ => Kernel2.Gen.frame m ρ,
  fun m ρ _ => Kernel2Ideal.Gen.frame m ρ,
  Kernel2Ideal.Own.frame_reference,
  fun m ρ _ => Kernel3.Gen.frame m ρ,
  fun m ρ _ => Kernel3Ideal.Gen.frame m ρ,
  Kernel3Ideal.Own.frame_reference,
  fun m ρ _ => Kernel4.Gen.frame m ρ,
  fun m ρ _ => Kernel4Ideal.Gen.frame m ρ,
  Kernel4Ideal.Own.frame_reference,
  fun m ρ _ => Kernel5.Gen.frame m ρ,
  fun m ρ _ => Kernel5Ideal.Gen.frame m ρ,
  Kernel5Ideal.Own.frame_reference,
  fun m ρ _ => Kernel6.Gen.frame m ρ,
  fun m ρ _ => Kernel6Ideal.Gen.frame m ρ,
  Kernel6Ideal.Own.frame_reference,
  fun m ρ _ => Kernel7.Gen.frame m ρ,
  fun m ρ _ => Kernel7Ideal.Gen.frame m ρ,
  Kernel7Ideal.Own.frame_reference,
  fun m ρ _ => Kernel8.Gen.frame m ρ,
  fun m ρ _ => Kernel8Ideal.Gen.frame m ρ,
  Kernel8Ideal.Own.frame_reference,
  fun m ρ _ => Kernel9.Gen.frame m ρ,
  fun m ρ _ => Kernel9Ideal.Gen.frame m ρ,
  Kernel9Ideal.Own.frame_reference,
  fun m ρ _ => Kernel10.Gen.frame m ρ,
  fun m ρ _ => Kernel10Ideal.Gen.frame m ρ,
  Kernel10Ideal.Own.frame_reference,
  fun m ρ _ => Kernel11.Gen.frame m ρ,
  fun m ρ _ => Kernel11Ideal.Gen.frame m ρ,
  Kernel11Ideal.Own.frame_reference,
  fun m ρ _ => Kernel12.Gen.frame m ρ,
  fun m ρ _ => Kernel12Ideal.Gen.frame m ρ,
  Kernel12Ideal.Own.frame_reference,
  fun m ρ _ => Kernel13.Gen.frame m ρ,
  fun m ρ _ => Kernel13Ideal.Gen.frame m ρ,
  Kernel13Ideal.Own.frame_reference,
  fun m ρ _ => Kernel14.Gen.frame m ρ,
  fun m ρ _ => Kernel14Ideal.Gen.frame m ρ,
  Kernel14Ideal.Own.frame_reference,
  fun m ρ _ => Kernel15.Gen.frame m ρ,
  fun m ρ _ => Kernel15Ideal.Gen.frame m ρ,
  Kernel15Ideal.Own.frame_reference,
  fun m ρ _ => Kernel16.Gen.frame m ρ,
  fun m ρ _ => Kernel16Ideal.Gen.frame m ρ,
  Kernel16Ideal.Own.frame_reference,
  fun m ρ _ => Kernel17.Gen.frame m ρ,
  fun m ρ _ => Kernel17Ideal.Gen.frame m ρ,
  Kernel17Ideal.Own.frame_reference,
  fun m ρ _ => Kernel18.Gen.frame m ρ,
  fun m ρ _ => Kernel18Ideal.Gen.frame m ρ,
  Kernel18Ideal.Own.frame_reference,
  fun m ρ _ => Kernel19.Gen.frame m ρ,
  fun m ρ _ => Kernel19Ideal.Gen.frame m ρ,
  Kernel19Ideal.Own.frame_reference,
  fun m ρ _ => Kernel20.Gen.frame m ρ,
  fun m ρ _ => Kernel20Ideal.Gen.frame m ρ,
  Kernel20Ideal.Own.frame_reference,
  fun m ρ _ => Kernel21.Gen.frame m ρ,
  fun m ρ _ => Kernel21Ideal.Gen.frame m ρ,
  Kernel21Ideal.Own.frame_reference,
  fun m ρ _ => Kernel22.Gen.frame m ρ,
  fun m ρ _ => Kernel22Ideal.Gen.frame m ρ,
  Kernel22Ideal.Own.frame_reference,
  Kernel23Ideal.Own.frame_words,
  Kernel23Ideal.Own.frame_kernel,
  Kernel23Ideal.Own.frame_reference,
  fun m ρ _ => Kernel23Ideal.Own.frame_reference m ρ trivial,
  Kernel24Ideal.Own.frame_words,
  Kernel24Ideal.Own.frame_kernel,
  Kernel24Ideal.Own.frame_reference,
  fun m ρ _ => Kernel24Ideal.Own.frame_reference m ρ trivial,
  Kernel25Ideal.Own.frame_words,
  Kernel25Ideal.Own.frame_kernel,
  Kernel25Ideal.Own.frame_reference,
  fun m ρ _ => Kernel25Ideal.Own.frame_reference m ρ trivial,
  Kernel26Ideal.Own.frame_words,
  Kernel26Ideal.Own.frame_kernel,
  Kernel26Ideal.Own.frame_reference,
  fun m ρ _ => Kernel26Ideal.Own.frame_reference m ρ trivial,
  Kernel27Ideal.Own.frame_words,
  Kernel27Ideal.Own.frame_kernel,
  Kernel27Ideal.Own.frame_reference,
  fun m ρ _ => Kernel27Ideal.Own.frame_reference m ρ trivial,
  Kernel28Ideal.Own.frame_words,
  Kernel28Ideal.Own.frame_kernel,
  Kernel28Ideal.Own.frame_reference,
  fun m ρ _ => Kernel28Ideal.Own.frame_reference m ρ trivial,
  fun m ρ _ => Kernel29.Gen.frame m ρ,
  fun m ρ _ => Kernel29Ideal.Gen.frame m ρ,
  Kernel29Ideal.Own.frame_reference,
  fun m ρ _ => Kernel30.Gen.frame m ρ,
  fun m ρ _ => Kernel30Ideal.Gen.frame m ρ,
  Kernel30Ideal.Own.frame_reference,
  fun m ρ _ => Kernel31.Gen.frame m ρ,
  fun m ρ _ => Kernel31Ideal.Gen.frame m ρ,
  Kernel31Ideal.Own.frame_reference,
  trivial,
  Cert.KernelIdeal.Own.algebraic,
  trivial,
  Kernel2Ideal.Own.algebraic,
  trivial,
  Kernel3Ideal.Own.algebraic,
  trivial,
  Kernel4Ideal.Own.algebraic,
  trivial,
  Kernel5Ideal.Own.algebraic,
  trivial,
  Kernel6Ideal.Own.algebraic,
  trivial,
  Kernel7Ideal.Own.algebraic,
  trivial,
  Kernel8Ideal.Own.algebraic,
  trivial,
  Kernel9Ideal.Own.algebraic,
  trivial,
  Kernel10Ideal.Own.algebraic,
  trivial,
  Kernel11Ideal.Own.algebraic,
  trivial,
  Kernel12Ideal.Own.algebraic,
  trivial,
  Kernel13Ideal.Own.algebraic,
  trivial,
  Kernel14Ideal.Own.algebraic,
  trivial,
  Kernel15Ideal.Own.algebraic,
  trivial,
  Kernel16Ideal.Own.algebraic,
  trivial,
  Kernel17Ideal.Own.algebraic,
  trivial,
  Kernel18Ideal.Own.algebraic,
  trivial,
  Kernel19Ideal.Own.algebraic,
  trivial,
  Kernel20Ideal.Own.algebraic,
  trivial,
  Kernel21Ideal.Own.algebraic,
  trivial,
  Kernel22Ideal.Own.algebraic,
  trivial,
  Kernel23Ideal.Own.algebraic,
  trivial,
  Kernel24Ideal.Own.algebraic,
  trivial,
  Kernel25Ideal.Own.algebraic,
  trivial,
  Kernel26Ideal.Own.algebraic,
  trivial,
  Kernel27Ideal.Own.algebraic,
  trivial,
  Kernel28Ideal.Own.algebraic,
  trivial,
  Kernel29Ideal.Own.algebraic,
  trivial,
  Kernel30Ideal.Own.algebraic,
  trivial,
  Kernel31Ideal.Own.algebraic⟩

end Cert.Proof

end
